-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_sink [hPre_finite_sink : Cert.Pre_finite_sink.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_sink.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_sink [hPre_finite_sink : Cert.Pre_finite_sink.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_sink.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rows [hPre_finite_rows : Cert.Pre_finite_rows.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rows [hPre_finite_rows : Cert.Pre_finite_rows.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rows.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_sink [hKernel3Ideal : Cert.Kernel3Ideal.Facts] [hPre_finite_sink : Cert.Pre_finite_sink.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_sink m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_sink [hReference3Ideal : Cert.Reference3Ideal.Facts] [hPre_finite_sink : Cert.Pre_finite_sink.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_sink m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_rows [hKernel6Ideal : Cert.Kernel6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rows m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_rows [hReference6Ideal : Cert.Reference6Ideal.Facts] [hPre_finite_rows : Cert.Pre_finite_rows.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rows m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "attn_scale" .f32 0x3E38AA3B#32 (((Real.log 2)⁻¹ * 8⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_v98) = v2 c
          ∧ r.2.mem ((c.tc : Thread Cert.Reference2Ideal.nD Cert.Reference2Ideal.τ).loc Cert.Reference2Ideal.main_v100) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "mask" .f32 0xF149F2CA#32 ⊥
  ∧ IdealRules.named_const.Statement Cert.Kernel3Ideal.κ "log2e" .f32 0x3FB8AA3B#32 (((Real.log 2)⁻¹ : ℝ) : EReal)

def algebraic_Kernel3Ideal_Reference3Ideal_pre_finite_sink [hKernel3Ideal : Cert.Kernel3Ideal.Facts] [hReference3Ideal : Cert.Reference3Ideal.Facts] [hPre_finite_sink : Cert.Pre_finite_sink.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_sink m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "attn_scale" .f32 0x3E38AA3B#32 (((Real.log 2)⁻¹ * 8⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "attn_scale" .f32 0x3E38AA3B#32 (((Real.log 2)⁻¹ * 8⁻¹ : ℝ) : EReal)

def algebraic_Kernel6Ideal_Reference6Ideal_pre_finite_rows [hKernel6Ideal : Cert.Kernel6Ideal.Facts] [hReference6Ideal : Cert.Reference6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rows m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_1)) (v2 : (c : Dev Cert.Kernel6Ideal.nD) → Buf (Elt Ideal) ((c.tc : Thread Cert.Kernel6Ideal.nD Cert.Kernel6Ideal.τ).loc Cert.Kernel6Ideal.main_v36_2)) (v3 : (c : Dev Cert.Kernel6Ideal.nD) → Buf (Elt Ideal) ((c.tc : Thread Cert.Kernel6Ideal.nD Cert.Kernel6Ideal.τ).loc Cert.Kernel6Ideal.main_v36_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_1) = v1 c
          ∧ r.2.mem ((c.tc : Thread Cert.Kernel6Ideal.nD Cert.Kernel6Ideal.τ).loc Cert.Kernel6Ideal.main_v36_2) = v2 c
          ∧ r.2.mem ((c.tc : Thread Cert.Kernel6Ideal.nD Cert.Kernel6Ideal.τ).loc Cert.Kernel6Ideal.main_v36_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v122) = v0 c
          ∧ r.2.mem ((c.tc : Thread Cert.Reference6Ideal.nD Cert.Reference6Ideal.τ).loc Cert.Reference6Ideal.main_v124) = v1 c
          ∧ r.2.mem ((c.tc : Thread Cert.Reference6Ideal.nD Cert.Reference6Ideal.τ).loc Cert.Reference6Ideal.main_v126) = v2 c
          ∧ r.2.mem ((c.tc : Thread Cert.Reference6Ideal.nD Cert.Reference6Ideal.τ).loc Cert.Reference6Ideal.main_v128) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.named_const.Statement Cert.Kernel7Ideal.κ "attn_scale" .f32 0x3E38AA3B#32 (((Real.log 2)⁻¹ * 8⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v49) = v1 c
          ∧ r.2.mem ((c.tc : Thread Cert.Reference7Ideal.nD Cert.Reference7Ideal.τ).loc Cert.Reference7Ideal.main_v51) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v30_0)) (v1 : (c : Dev Cert.Kernel8Ideal.nD) → Buf (Elt Ideal) ((c.tc : Thread Cert.Kernel8Ideal.nD Cert.Kernel8Ideal.τ).loc Cert.Kernel8Ideal.main_v30_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30_0) = v0 c
          ∧ r.2.mem ((c.tc : Thread Cert.Kernel8Ideal.nD Cert.Kernel8Ideal.τ).loc Cert.Kernel8Ideal.main_v30_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_sink : Cert.Pre_finite_sink.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_sink (hKernel3Ideal := hKernel3Ideal) (hPre_finite_sink := hPre_finite_sink)
    ∧ quiescent_Reference3Ideal (hReference3Ideal := hReference3Ideal)
    ∧ quiescent_Reference3Ideal_pre_finite_sink (hReference3Ideal := hReference3Ideal) (hPre_finite_sink := hPre_finite_sink)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_rows (hKernel6Ideal := hKernel6Ideal) (hPre_finite_rows := hPre_finite_rows)
    ∧ quiescent_Reference6Ideal (hReference6Ideal := hReference6Ideal)
    ∧ quiescent_Reference6Ideal_pre_finite_rows (hReference6Ideal := hReference6Ideal) (hPre_finite_rows := hPre_finite_rows)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_sink (hKernel3Ideal := hKernel3Ideal) (hReference3Ideal := hReference3Ideal) (hPre_finite_sink := hPre_finite_sink)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_rows (hKernel6Ideal := hKernel6Ideal) (hReference6Ideal := hReference6Ideal) (hPre_finite_rows := hPre_finite_rows)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S16x16x2048x64 : Shape := ⟨4, ![16, 16, 2048, 64]⟩
abbrev S16x4x2048x64 : Shape := ⟨4, ![16, 4, 2048, 64]⟩
abbrev S16x4x256x64 : Shape := ⟨4, ![16, 4, 256, 64]⟩
abbrev S_ : Shape := ⟨0, ![]⟩

class Facts : Prop where
  bcast_S_S16x16x2048x64 : S_.BroadcastsInDim S16x16x2048x64 (![] : Fin 0 → Fin S16x16x2048x64.rank)
  reducesTo_S16x16x2048x64_S_d0_1_2_3 : S16x16x2048x64.ReducesTo [0, 1, 2, 3] S_
  h_S_ : 0 < S_.numel
  bcast_S_S16x4x2048x64 : S_.BroadcastsInDim S16x4x2048x64 (![] : Fin 0 → Fin S16x4x2048x64.rank)
  reducesTo_S16x4x2048x64_S_d0_1_2_3 : S16x4x2048x64.ReducesTo [0, 1, 2, 3] S_
  bcast_S_S16x4x256x64 : S_.BroadcastsInDim S16x4x256x64 (![] : Fin 0 → Fin S16x4x256x64.rank)
  reducesTo_S16x4x256x64_S_d0_1_2_3 : S16x4x256x64.ReducesTo [0, 1, 2, 3] S_

variable [Facts]

def fn_part1 {F : FTy → Type} [FloatOps F] (main_v13 : IVec S_ 1) (main_v16 : IVec S16x4x256x64 1) : IVec S_ 1 :=
  let main_c_5 : IVec S_ 1 := constantI S_ 1 1#1
  let main_v17 : IVec S_ 1 := (fun x v => Host.reduce IntOp.andi x v reducesTo_S16x4x256x64_S_d0_1_2_3 h_S_) main_v16 main_c_5
  let main_v18 : IVec S_ 1 := andi main_v13 main_v17
  main_v18

def fn {F : FTy → Type} [FloatOps F] (main_arg0 : FVec F S16x16x2048x64 .bf16) (main_arg1 : FVec F S16x16x2048x64 .bf16) (main_arg2 : FVec F S16x4x2048x64 .bf16) (main_arg3 : FVec F S16x4x2048x64 .bf16) (main_arg4 : FVec F S16x4x256x64 .bf16) (main_arg5 : FVec F S16x4x256x64 .bf16) : IVec S_ 1 :=
  let main_v0 : FVec F S16x16x2048x64 .bf16 := Host.absf main_arg0
  let main_cst : FVec F S_ .bf16 := constant S_ .bf16 0x7F80#16
  let main_v1 : FVec F S16x16x2048x64 .bf16 := broadcastInDim S16x16x2048x64 ![] bcast_S_S16x16x2048x64 main_cst
  let main_v2 : IVec S16x16x2048x64 1 := cmpf .olt main_v0 main_v1
  let main_c : IVec S_ 1 := constantI S_ 1 1#1
  let main_v3 : IVec S_ 1 := (fun x v => Host.reduce IntOp.andi x v reducesTo_S16x16x2048x64_S_d0_1_2_3 h_S_) main_v2 main_c
  let main_v4 : FVec F S16x16x2048x64 .bf16 := Host.absf main_arg1
  let main_cst_0 : FVec F S_ .bf16 := constant S_ .bf16 0x7F80#16
  let main_v5 : FVec F S16x16x2048x64 .bf16 := broadcastInDim S16x16x2048x64 ![] bcast_S_S16x16x2048x64 main_cst_0
  let main_v6 : IVec S16x16x2048x64 1 := cmpf .olt main_v4 main_v5
  let main_c_1 : IVec S_ 1 := constantI S_ 1 1#1
  let main_v7 : IVec S_ 1 := (fun x v => Host.reduce IntOp.andi x v reducesTo_S16x16x2048x64_S_d0_1_2_3 h_S_) main_v6 main_c_1
  let main_v8 : IVec S_ 1 := andi main_v3 main_v7
  let main_v9 : FVec F S16x4x2048x64 .bf16 := Host.absf main_arg2
  let main_cst_2 : FVec F S_ .bf16 := constant S_ .bf16 0x7F80#16
  let main_v10 : FVec F S16x4x2048x64 .bf16 := broadcastInDim S16x4x2048x64 ![] bcast_S_S16x4x2048x64 main_cst_2
  let main_v11 : IVec S16x4x2048x64 1 := cmpf .olt main_v9 main_v10
  let main_c_3 : IVec S_ 1 := constantI S_ 1 1#1
  let main_v12 : IVec S_ 1 := (fun x v => Host.reduce IntOp.andi x v reducesTo_S16x4x2048x64_S_d0_1_2_3 h_S_) main_v11 main_c_3
  let main_v13 : IVec S_ 1 := andi main_v8 main_v12
  let main_v14 : FVec F S16x4x256x64 .bf16 := Host.absf main_arg4
  let main_cst_4 : FVec F S_ .bf16 := constant S_ .bf16 0x7F80#16
  let main_v15 : FVec F S16x4x256x64 .bf16 := broadcastInDim S16x4x256x64 ![] bcast_S_S16x4x256x64 main_cst_4
  let main_v16 : IVec S16x4x256x64 1 := cmpf .olt main_v14 main_v15
  fn_part1 (F := F) main_v13 main_v16
-- ==== Pre_finite_rows.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S1x64 : Shape := ⟨2, ![1, 64]⟩
abbrev S_ : Shape := ⟨0, ![]⟩

class Facts : Prop where
  bcast_S_S576x1x1024 : S_.BroadcastsInDim S576x1x1024 (![] : Fin 0 → Fin S576x1x1024.rank)
  reducesTo_S576x1x1024_S_d0_1_2 : S576x1x1024.ReducesTo [0, 1, 2] S_
  h_S_ : 0 < S_.numel
  bcast_S_S4x1x1024 : S_.BroadcastsInDim S4x1x1024 (![] : Fin 0 → Fin S4x1x1024.rank)
  reducesTo_S4x1x1024_S_d0_1_2 : S4x1x1024.ReducesTo [0, 1, 2] S_
  bcast_S_S4x1024x1536 : S_.BroadcastsInDim S4x1024x1536 (![] : Fin 0 → Fin S4x1024x1536.rank)
  reducesTo_S4x1024x1536_S_d0_1_2 : S4x1024x1536.ReducesTo [0, 1, 2] S_

variable [Facts]

def fn {F : FTy → Type} [FloatOps F] (main_arg0 : FVec F S16x2048x1024 .f32) (main_arg1 : FVec F S576x1x1024 .f32) (main_arg2 : FVec F S4x1x1024 .f32) (main_arg3 : FVec F S4x1024x1536 .f32) (main_arg4 : FVec F S1x64 .f32) (main_arg5 : FVec F S1x64 .f32) : IVec S_ 1 :=
  let main_v0 : FVec F S576x1x1024 .f32 := Host.absf main_arg1
  let main_cst : FVec F S_ .f32 := constant S_ .f32 0x7F800000#32
  let main_v1 : FVec F S576x1x1024 .f32 := broadcastInDim S576x1x1024 ![] bcast_S_S576x1x1024 main_cst
  let main_v2 : IVec S576x1x1024 1 := cmpf .olt main_v0 main_v1
  let main_c : IVec S_ 1 := constantI S_ 1 1#1
  let main_v3 : IVec S_ 1 := (fun x v => Host.reduce IntOp.andi x v reducesTo_S576x1x1024_S_d0_1_2 h_S_) main_v2 main_c
  let main_v4 : FVec F S4x1x1024 .f32 := Host.absf main_arg2
  let main_cst_0 : FVec F S_ .f32 := constant S_ .f32 0x7F800000#32
  let main_v5 : FVec F S4x1x1024 .f32 := broadcastInDim S4x1x1024 ![] bcast_S_S4x1x1024 main_cst_0
  let main_v6 : IVec S4x1x1024 1 := cmpf .olt main_v4 main_v5
  let main_c_1 : IVec S_ 1 := constantI S_ 1 1#1
  let main_v7 : IVec S_ 1 := (fun x v => Host.reduce IntOp.andi x v reducesTo_S4x1x1024_S_d0_1_2 h_S_) main_v6 main_c_1
  let main_v8 : IVec S_ 1 := andi main_v3 main_v7
  let main_v9 : FVec F S4x1024x1536 .f32 := Host.absf main_arg3
  let main_cst_2 : FVec F S_ .f32 := constant S_ .f32 0x7F800000#32
  let main_v10 : FVec F S4x1024x1536 .f32 := broadcastInDim S4x1024x1536 ![] bcast_S_S4x1024x1536 main_cst_2
  let main_v11 : IVec S4x1024x1536 1 := cmpf .olt main_v9 main_v10
  let main_c_3 : IVec S_ 1 := constantI S_ 1 1#1
  let main_v12 : IVec S_ 1 := (fun x v => Host.reduce IntOp.andi x v reducesTo_S4x1024x1536_S_d0_1_2 h_S_) main_v11 main_c_3
  let main_v13 : IVec S_ 1 := andi main_v8 main_v12
  main_v13
-- ==== Pre_finite_sink.lean ====
abbrev S16x16x2048x64 : Shape := ⟨4, ![16, 16, 2048, 64]⟩
abbrev S16x4x2048x64 : Shape := ⟨4, ![16, 4, 2048, 64]⟩
abbrev S16x4x256x64 : Shape := ⟨4, ![16, 4, 256, 64]⟩
abbrev S16 : Shape := ⟨1, ![16]⟩
abbrev S_ : Shape := ⟨0, ![]⟩

class Facts : Prop where
  bcast_S_S16x16x2048x64 : S_.BroadcastsInDim S16x16x2048x64 (![] : Fin 0 → Fin S16x16x2048x64.rank)
  reducesTo_S16x16x2048x64_S_d0_1_2_3 : S16x16x2048x64.ReducesTo [0, 1, 2, 3] S_
  h_S_ : 0 < S_.numel
  bcast_S_S16x4x2048x64 : S_.BroadcastsInDim S16x4x2048x64 (![] : Fin 0 → Fin S16x4x2048x64.rank)
  reducesTo_S16x4x2048x64_S_d0_1_2_3 : S16x4x2048x64.ReducesTo [0, 1, 2, 3] S_
  bcast_S_S16x4x256x64 : S_.BroadcastsInDim S16x4x256x64 (![] : Fin 0 → Fin S16x4x256x64.rank)
  reducesTo_S16x4x256x64_S_d0_1_2_3 : S16x4x256x64.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S16x4x256x64 1) : IVec S_ 1 :=
  let main_c_5 : IVec S_ 1 := constantI S_ 1 1#1
  let main_v17 : IVec S_ 1 := (fun x v => Host.reduce IntOp.andi x v reducesTo_S16x4x256x64_S_d0_1_2_3 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S16x16x2048x64 .bf16) (main_arg1 : FVec F S16x16x2048x64 .bf16) (main_arg2 : FVec F S16x4x2048x64 .bf16) (main_arg3 : FVec F S16x4x2048x64 .bf16) (main_arg4 : FVec F S16x4x256x64 .bf16) (main_arg5 : FVec F S16x4x256x64 .bf16) (main_arg6 : FVec F S16 .f32) : IVec S_ 1 :=
  let main_v0 : FVec F S16x16x2048x64 .bf16 := Host.absf main_arg0
  let main_cst : FVec F S_ .bf16 := constant S_ .bf16 0x7F80#16
  let main_v1 : FVec F S16x16x2048x64 .bf16 := broadcastInDim S16x16x2048x64 ![] bcast_S_S16x16x2048x64 main_cst
  let main_v2 : IVec S16x16x2048x64 1 := cmpf .olt main_v0 main_v1
  let main_c : IVec S_ 1 := constantI S_ 1 1#1
  let main_v3 : IVec S_ 1 := (fun x v => Host.reduce IntOp.andi x v reducesTo_S16x16x2048x64_S_d0_1_2_3 h_S_) main_v2 main_c
  let main_v4 : FVec F S16x16x2048x64 .bf16 := Host.absf main_arg1
  let main_cst_0 : FVec F S_ .bf16 := constant S_ .bf16 0x7F80#16
  let main_v5 : FVec F S16x16x2048x64 .bf16 := broadcastInDim S16x16x2048x64 ![] bcast_S_S16x16x2048x64 main_cst_0
  let main_v6 : IVec S16x16x2048x64 1 := cmpf .olt main_v4 main_v5
  let main_c_1 : IVec S_ 1 := constantI S_ 1 1#1
  let main_v7 : IVec S_ 1 := (fun x v => Host.reduce IntOp.andi x v reducesTo_S16x16x2048x64_S_d0_1_2_3 h_S_) main_v6 main_c_1
  let main_v8 : IVec S_ 1 := andi main_v3 main_v7
  let main_v9 : FVec F S16x4x2048x64 .bf16 := Host.absf main_arg2
  let main_cst_2 : FVec F S_ .bf16 := constant S_ .bf16 0x7F80#16
  let main_v10 : FVec F S16x4x2048x64 .bf16 := broadcastInDim S16x4x2048x64 ![] bcast_S_S16x4x2048x64 main_cst_2
  let main_v11 : IVec S16x4x2048x64 1 := cmpf .olt main_v9 main_v10
  let main_c_3 : IVec S_ 1 := constantI S_ 1 1#1
  let main_v12 : IVec S_ 1 := (fun x v => Host.reduce IntOp.andi x v reducesTo_S16x4x2048x64_S_d0_1_2_3 h_S_) main_v11 main_c_3
  let main_v13 : IVec S_ 1 := andi main_v8 main_v12
  let main_v14 : FVec F S16x4x256x64 .bf16 := Host.absf main_arg4
  let main_cst_4 : FVec F S_ .bf16 := constant S_ .bf16 0x7F80#16
  let main_v15 : FVec F S16x4x256x64 .bf16 := broadcastInDim S16x4x256x64 ![] bcast_S_S16x4x256x64 main_cst_4
  let main_v16 : IVec S16x4x256x64 1 := cmpf .olt main_v14 main_v15
  fn_part1 (F := F) main_arg6 main_v13 main_v16
-- ==== Kernel.lean ====
abbrev S16x16x2048x64 : Shape := ⟨4, ![16, 16, 2048, 64]⟩
abbrev S16x4x2048x64 : Shape := ⟨4, ![16, 4, 2048, 64]⟩
abbrev S16x4x256x64 : Shape := ⟨4, ![16, 4, 256, 64]⟩
abbrev S_ : Shape := ⟨0, ![]⟩
abbrev S16x4x2048x256 : Shape := ⟨4, ![16, 4, 2048, 256]⟩
abbrev S16x4x256x256 : Shape := ⟨4, ![16, 4, 256, 256]⟩
abbrev S16x2048x1024 : Shape := ⟨3, ![16, 2048, 1024]⟩
abbrev S1x16x256x64 : Shape := ⟨4, ![1, 16, 256, 64]⟩
abbrev S1x4x2048x64 : Shape := ⟨4, ![1, 4, 2048, 64]⟩
abbrev S1x4x2048x256 : Shape := ⟨4, ![1, 4, 2048, 256]⟩
abbrev S1x4x256x64 : Shape := ⟨4, ![1, 4, 256, 64]⟩
abbrev S1x4x256x256 : Shape := ⟨4, ![1, 4, 256, 256]⟩
abbrev S1x256x1024 : Shape := ⟨3, ![1, 256, 1024]⟩
abbrev S4x256x64 : Shape := ⟨3, ![4, 256, 64]⟩
abbrev S1024x64 : Shape := ⟨2, ![1024, 64]⟩
abbrev S1x1x256x64 : Shape := ⟨4, ![1, 1, 256, 64]⟩
abbrev S256x64 : Shape := ⟨2, ![256, 64]⟩
abbrev S1024x256 : Shape := ⟨2, ![1024, 256]⟩
abbrev S1x1x256x256 : Shape := ⟨4, ![1, 1, 256, 256]⟩
abbrev S256x256 : Shape := ⟨2, ![256, 256]⟩
abbrev S1x1x512x64 : Shape := ⟨4, ![1, 1, 512, 64]⟩
abbrev S512x64 : Shape := ⟨2, ![512, 64]⟩
abbrev S1024x512 : Shape := ⟨2, ![1024, 512]⟩
abbrev S1x1x512x256 : Shape := ⟨4, ![1, 1, 512, 256]⟩
abbrev S512x256 : Shape := ⟨2, ![512, 256]⟩
abbrev S1024 : Shape := ⟨1, ![1024]⟩
abbrev S1024x1 : Shape := ⟨2, ![1024, 1]⟩
abbrev S1x128 : Shape := ⟨2, ![1, 128]⟩
abbrev S256x128 : Shape := ⟨2, ![256, 128]⟩
abbrev S256x1024 : Shape := ⟨2, ![256, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16x16x2048x64, .bf16⟩
  | .hbm, ⟨1, _⟩ => ⟨S16x16x2048x64, .bf16⟩
  | .hbm, ⟨2, _⟩ => ⟨S16x4x2048x64, .bf16⟩
  | .hbm, ⟨3, _⟩ => ⟨S16x4x2048x64, .bf16⟩
  | .hbm, ⟨4, _⟩ => ⟨S16x4x256x64, .bf16⟩
  | .hbm, ⟨5, _⟩ => ⟨S16x4x256x64, .bf16⟩
  | .hbm, ⟨6, _⟩ => ⟨S_, .bf16⟩
  | .hbm, ⟨7, _⟩ => ⟨S16x4x2048x64, .bf16⟩
  | .hbm, ⟨8, _⟩ => ⟨S16x4x2048x256, .bf16⟩
  | .hbm, ⟨9, _⟩ => ⟨S_, .bf16⟩
  | .hbm, ⟨10, _⟩ => ⟨S16x4x256x64, .bf16⟩
  | .hbm, ⟨11, _⟩ => ⟨S16x4x256x256, .bf16⟩
  | .hbm, ⟨12, _⟩ => ⟨S16x2048x1024, .bf16⟩
  | .local _ .vmem, ⟨0, _⟩ => ⟨S1x16x256x64, .bf16⟩
  | .local _ .vmem, ⟨1, _⟩ => ⟨S1x16x256x64, .bf16⟩
  | .local _ .vmem, ⟨2, _⟩ => ⟨S1x16x256x64, .bf16⟩
  | .local _ .vmem, ⟨3, _⟩ => ⟨S1x16x256x64, .bf16⟩
  | .local _ .vmem, ⟨4, _⟩ => ⟨S1x4x2048x64, .bf16⟩
  | .local _ .vmem, ⟨5, _⟩ => ⟨S1x4x2048x64, .bf16⟩
  | .local _ .vmem, ⟨6, _⟩ => ⟨S1x4x2048x256, .bf16⟩
  | .local _ .vmem, ⟨7, _⟩ => ⟨S1x4x2048x256, .bf16⟩
  | .local _ .vmem, ⟨8, _⟩ => ⟨S1x4x256x64, .bf16⟩
  | .local _ .vmem, ⟨9, _⟩ => ⟨S1x4x256x64, .bf16⟩
  | .local _ .vmem, ⟨10, _⟩ => ⟨S1x4x256x256, .bf16⟩
  | .local _ .vmem, ⟨11, _⟩ => ⟨S1x4x256x256, .bf16⟩
  | .local _ .vmem, ⟨12, _⟩ => ⟨S1x256x1024, .bf16⟩
  | .local _ .vmem, ⟨13, _⟩ => ⟨S1x256x1024, .bf16⟩
  | _, _ => ⟨S16x16x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x16x2048x64 : Shape := ⟨4, ![16, 16, 2048, 64]⟩
abbrev S16x4x2048x64 : Shape := ⟨4, ![16, 4, 2048, 64]⟩
abbrev S16x4x256x64 : Shape := ⟨4, ![16, 4, 256, 64]⟩
abbrev S_ : Shape := ⟨0, ![]⟩
abbrev S16x4x4x2048x64 : Shape := ⟨5, ![16, 4, 4, 2048, 64]⟩
abbrev S16x4x4x2048x2048 : Shape := ⟨5, ![16, 4, 4, 2048, 2048]⟩
abbrev S16x4x4x2048x256 : Shape := ⟨5, ![16, 4, 4, 2048, 256]⟩
abbrev S16x4x4x2048x2304 : Shape := ⟨5, ![16, 4, 4, 2048, 2304]⟩
abbrev S16x4x4x2048 : Shape := ⟨4, ![16, 4, 4, 2048]⟩
abbrev S16x4x4x2048x1 : Shape := ⟨5, ![16, 4, 4, 2048, 1]⟩
abbrev S16x4x64x4x2048 : Shape := ⟨5, ![16, 4, 64, 4, 2048]⟩
abbrev S16x2048x4x4x64 : Shape := ⟨5, ![16, 2048, 4, 4, 64]⟩
abbrev S16x2048x1024 : Shape := ⟨3, ![16, 2048, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x16x2048x64, .bf16⟩
  | .hbm, ⟨1, _⟩ => ⟨S16x16x2048x64, .bf16⟩
  | .hbm, ⟨2, _⟩ => ⟨S16x4x2048x64, .bf16⟩
  | .hbm, ⟨3, _⟩ => ⟨S16x4x2048x64, .bf16⟩
  | .hbm, ⟨4, _⟩ => ⟨S16x4x256x64, .bf16⟩
  | .hbm, ⟨5, _⟩ => ⟨S16x4x256x64, .bf16⟩
  | .hbm, ⟨6, _⟩ => ⟨S16x16x2048x64, .f32⟩
  | .hbm, ⟨7, _⟩ => ⟨S16x16x2048x64, .f32⟩
  | .hbm, ⟨8, _⟩ => ⟨S16x4x2048x64, .f32⟩
  | .hbm, ⟨9, _⟩ => ⟨S16x4x2048x64, .f32⟩
  | .hbm, ⟨10, _⟩ => ⟨S16x4x256x64, .f32⟩
  | .hbm, ⟨11, _⟩ => ⟨S16x4x256x64, .f32⟩
  | .hbm, ⟨12, _⟩ => ⟨S_, .f32⟩
  | .hbm, ⟨13, _⟩ => ⟨S_, .f32⟩
  | .hbm, ⟨14, _⟩ => ⟨S16x4x4x2048x64, .f32⟩
  | .hbm, ⟨15, _⟩ => ⟨S16x4x4x2048x64, .f32⟩
  | .hbm, ⟨16, _⟩ => ⟨S16x4x4x2048x2048, .f32⟩
  | .hbm, ⟨17, _⟩ => ⟨S16x4x4x2048x2048, .f32⟩
  | .hbm, ⟨18, _⟩ => ⟨S16x4x4x2048x2048, .f32⟩
  | .hbm, ⟨19, _⟩ => ⟨S16x4x4x2048x256, .f32⟩
  | .hbm, ⟨20, _⟩ => ⟨S16x4x4x2048x256, .f32⟩
  | .hbm, ⟨21, _⟩ => ⟨S16x4x4x2048x256, .f32⟩
  | .hbm, ⟨22, _⟩ => ⟨S16x4x4x2048x2304, .f32⟩
  | .hbm, ⟨23, _⟩ => ⟨S_, .f32⟩
  | .hbm, ⟨24, _⟩ => ⟨S16x4x4x2048, .f32⟩
  | .hbm, ⟨25, _⟩ => ⟨S_, .f32⟩
  | .hbm, ⟨26, _⟩ => ⟨S16x4x4x2048, .f32⟩
  | .hbm, ⟨27, _⟩ => ⟨S16x4x4x2048, .f32⟩
  | .hbm, ⟨28, _⟩ => ⟨S16x4x4x2048x1, .f32⟩
  | .hbm, ⟨29, _⟩ => ⟨S16x4x4x2048x2304, .f32⟩
  | .hbm, ⟨30, _⟩ => ⟨S16x4x4x2048x2304, .f32⟩
  | .hbm, ⟨31, _⟩ => ⟨S16x4x4x2048x2304, .f32⟩
  | .hbm, ⟨32, _⟩ => ⟨S_, .f32⟩
  | .hbm, ⟨33, _⟩ => ⟨S16x4x4x2048, .f32⟩
  | .hbm, ⟨34, _⟩ => ⟨S16x4x4x2048x1, .f32⟩
  | .hbm, ⟨35, _⟩ => ⟨S16x4x4x2048x2304, .f32⟩
  | .hbm, ⟨36, _⟩ => ⟨S16x4x4x2048x2304, .f32⟩
  | .hbm, ⟨37, _⟩ => ⟨S16x4x4x2048x2048, .f32⟩
  | .hbm, ⟨38, _⟩ => ⟨S16x4x64x4x2048, .f32⟩
  | .hbm, ⟨39, _⟩ => ⟨S16x2048x4x4x64, .f32⟩
  | .hbm, ⟨40, _⟩ => ⟨S16x4x4x2048x256, .f32⟩
  | .hbm, ⟨41, _⟩ => ⟨S16x4x64x4x2048, .f32⟩
  | .hbm, ⟨42, _⟩ => ⟨S16x2048x4x4x64, .f32⟩
  | .hbm, ⟨43, _⟩ => ⟨S16x2048x4x4x64, .f32⟩
  | .hbm, ⟨44, _⟩ => ⟨S16x2048x1024, .f32⟩
  | .hbm, ⟨45, _⟩ => ⟨S16x2048x1024, .bf16⟩
  | _, _ => ⟨S16x16x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel2.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S2048 : Shape := ⟨1, ![2048]⟩
abbrev S128 : Shape := ⟨1, ![128]⟩
abbrev S1x1024x1536 : Shape := ⟨3, ![1, 1024, 1536]⟩
abbrev S1024x1536 : Shape := ⟨2, ![1024, 1536]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S1x128 : Shape := ⟨2, ![1, 128]⟩
abbrev S16x16x2048x64 : Shape := ⟨4, ![16, 16, 2048, 64]⟩
abbrev S16x4x2048x64 : Shape := ⟨4, ![16, 4, 2048, 64]⟩
abbrev S16x4x2048x256 : Shape := ⟨4, ![16, 4, 2048, 256]⟩
abbrev S1x512x1024 : Shape := ⟨3, ![1, 512, 1024]⟩
abbrev S1x1x1024 : Shape := ⟨3, ![1, 1, 1024]⟩
abbrev S512x128 : Shape := ⟨2, ![512, 128]⟩
abbrev S1x16x512x64 : Shape := ⟨4, ![1, 16, 512, 64]⟩
abbrev S1x4x512x64 : Shape := ⟨4, ![1, 4, 512, 64]⟩
abbrev S1x4x512x256 : Shape := ⟨4, ![1, 4, 512, 256]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x1536 : Shape := ⟨2, ![512, 1536]⟩
abbrev S512x64 : Shape := ⟨2, ![512, 64]⟩
abbrev S1x1x512x64 : Shape := ⟨4, ![1, 1, 512, 64]⟩
abbrev S512x256 : Shape := ⟨2, ![512, 256]⟩
abbrev S1x1x512x256 : Shape := ⟨4, ![1, 1, 512, 256]⟩

abbrev nBuf : Space → Nat
  | .hbm => 39
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S576x1x1024, .f32⟩
  | .hbm, ⟨2, _⟩ => ⟨S4x1x1024, .f32⟩
  | .hbm, ⟨3, _⟩ => ⟨S4x1024x1536, .f32⟩
  | .hbm, ⟨4, _⟩ => ⟨S2048, .f32⟩
  | .hbm, ⟨5, _⟩ => ⟨S2048, .f32⟩
  | .hbm, ⟨6, _⟩ => ⟨S128, .f32⟩
  | .hbm, ⟨7, _⟩ => ⟨S1x1024x1536, .f32⟩
  | .hbm, ⟨8, _⟩ => ⟨S1024x1536, .f32⟩
  | .hbm, ⟨9, _⟩ => ⟨S1024x1536, .bf16⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x64, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S1x128, .f32⟩
  | .hbm, ⟨33, _⟩ => ⟨S2048x128, .f32⟩
  | .hbm, ⟨34, _⟩ => ⟨S2048x128, .f32⟩
  | .hbm, ⟨35, _⟩ => ⟨S16x16x2048x64, .bf16⟩
  | .hbm, ⟨36, _⟩ => ⟨S16x16x2048x64, .bf16⟩
  | .hbm, ⟨37, _⟩ => ⟨S16x4x2048x64, .bf16⟩
  | .hbm, ⟨38, _⟩ => ⟨S16x4x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x16x512x64, .bf16⟩
  | .local _ .vmem, ⟨13, _⟩ => ⟨S1x16x512x64, .bf16⟩
  | .local _ .vmem, ⟨14, _⟩ => ⟨S1x16x512x64, .bf16⟩
  | .local _ .vmem, ⟨15, _⟩ => ⟨S1x16x512x64, .bf16⟩
  | .local _ .vmem, ⟨16, _⟩ => ⟨S1x4x512x64, .bf16⟩
  | .local _ .vmem, ⟨17, _⟩ => ⟨S1x4x512x64, .bf16⟩
  | .local _ .vmem, ⟨18, _⟩ => ⟨S1x4x512x256, .bf16⟩
  | .local _ .vmem, ⟨19, _⟩ => ⟨S1x4x512x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.muli v0 c6_i32
  let c0_i32_0 : BitVec 32 := 0#32
  let v2 : BitVec 32 := Scalar.addi v1 c0_i32_0
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.muli v0 c6_i32
  let c1_i32 : BitVec 32 := 1#32
  let v2 : BitVec 32 := Scalar.addi v1 c1_i32
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x16x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2Ideal.lean ====
variable {F : FTy → Type} [FloatOps F] [Named F]
def κ : String → Option EReal := fun
  | "attn_scale" => some (((Real.log 2)⁻¹ * 8⁻¹ : ℝ) : EReal)
  | _ => none
-- ==== Reference2Ideal.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S2048 : Shape := ⟨1, ![2048]⟩
abbrev S4x24x6x1024 : Shape := ⟨4, ![4, 24, 6, 1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024 : Shape := ⟨2, ![1, 1024]⟩
abbrev S1x1024x1536 : Shape := ⟨3, ![1, 1024, 1536]⟩
abbrev S1024x1536 : Shape := ⟨2, ![1024, 1536]⟩
abbrev S16x2048x1536 : Shape := ⟨3, ![16, 2048, 1536]⟩
abbrev S16x2048x256 : Shape := ⟨3, ![16, 2048, 256]⟩
abbrev S16x2048x16x64 : Shape := ⟨4, ![16, 2048, 16, 64]⟩
abbrev S16x2048x4x64 : Shape := ⟨4, ![16, 2048, 4, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S16x2048x16x16 : Shape := ⟨4, ![16, 2048, 16, 16]⟩
abbrev S1x2048x1x64 : Shape := ⟨4, ![1, 2048, 1, 64]⟩
abbrev S16x2048x4x16 : Shape := ⟨4, ![16, 2048, 4, 16]⟩
abbrev S16x2048x4x256 : Shape := ⟨4, ![16, 2048, 4, 256]⟩
abbrev S16x16x2048x64 : Shape := ⟨4, ![16, 16, 2048, 64]⟩
abbrev S16x4x2048x64 : Shape := ⟨4, ![16, 4, 2048, 64]⟩
abbrev S16x4x2048x256 : Shape := ⟨4, ![16, 4, 2048, 256]⟩

abbrev nBuf : Space → Nat
  | .hbm => 116
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S576x1x1024, .f32⟩
  | .hbm, ⟨2, _⟩ => ⟨S4x1x1024, .f32⟩
  | .hbm, ⟨3, _⟩ => ⟨S4x1024x1536, .f32⟩
  | .hbm, ⟨4, _⟩ => ⟨S2048, .f32⟩
  | .hbm, ⟨5, _⟩ => ⟨S2048, .f32⟩
  | .hbm, ⟨6, _⟩ => ⟨S4x24x6x1024, .f32⟩
  | .hbm, ⟨7, _⟩ => ⟨S1x16x6x1024, .f32⟩
  | .hbm, ⟨8, _⟩ => ⟨S16x6x1024, .f32⟩
  | .hbm, ⟨9, _⟩ => ⟨S16x1x1024, .f32⟩
  | .hbm, ⟨10, _⟩ => ⟨S16x1024, .f32⟩
  | .hbm, ⟨11, _⟩ => ⟨S16x1x1024, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S1x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S1x1024x1536, .f32⟩
  | .hbm, ⟨41, _⟩ => ⟨S1024x1536, .f32⟩
  | .hbm, ⟨42, _⟩ => ⟨S16x2048x1536, .f32⟩
  | .hbm, ⟨43, _⟩ => ⟨S16x2048x1024, .f32⟩
  | .hbm, ⟨44, _⟩ => ⟨S16x2048x256, .f32⟩
  | .hbm, ⟨45, _⟩ => ⟨S16x2048x256, .f32⟩
  | .hbm, ⟨46, _⟩ => ⟨S16x2048x16x64, .f32⟩
  | .hbm, ⟨47, _⟩ => ⟨S_, .f32⟩
  | .hbm, ⟨48, _⟩ => ⟨S16x2048x16x64, .f32⟩
  | .hbm, ⟨49, _⟩ => ⟨S16x2048x16x64, .f32⟩
  | .hbm, ⟨50, _⟩ => ⟨S_, .f32⟩
  | .hbm, ⟨51, _⟩ => ⟨S_, .f32⟩
  | .hbm, ⟨52, _⟩ => ⟨S16x2048x16x64, .f32⟩
  | .hbm, ⟨53, _⟩ => ⟨S16x2048x16x64, .f32⟩
  | .hbm, ⟨54, _⟩ => ⟨S16x2048x4x64, .f32⟩
  | .hbm, ⟨55, _⟩ => ⟨S16x2048x4x64, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S2048x1, .f32⟩
  | .hbm, ⟨65, _⟩ => ⟨S1x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x1, .f32⟩
  | .hbm, ⟨70, _⟩ => ⟨S1x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x64, .f32⟩
  | .hbm, ⟨75, _⟩ => ⟨S2048x64, .f32⟩
  | .hbm, ⟨76, _⟩ => ⟨S2048x64, .f32⟩
  | .hbm, ⟨77, _⟩ => ⟨S_, .f32⟩
  | .hbm, ⟨78, _⟩ => ⟨S16x2048x4x64, .f32⟩
  | .hbm, ⟨79, _⟩ => ⟨S16x2048x16x16, .f32⟩
  | .hbm, ⟨80, _⟩ => ⟨S16x2048x16x16, .f32⟩
  | .hbm, ⟨81, _⟩ => ⟨S16x2048x16x16, .f32⟩
  | .hbm, ⟨82, _⟩ => ⟨S16x2048x16x16, .f32⟩
  | .hbm, ⟨83, _⟩ => ⟨S16x2048x16x16, .f32⟩
  | .hbm, ⟨84, _⟩ => ⟨S16x2048x16x16, .f32⟩
  | .hbm, ⟨85, _⟩ => ⟨S16x2048x16x64, .f32⟩
  | .hbm, ⟨86, _⟩ => ⟨S1x2048x1x64, .f32⟩
  | .hbm, ⟨87, _⟩ => ⟨S16x2048x16x64, .f32⟩
  | .hbm, ⟨88, _⟩ => ⟨S16x2048x16x64, .f32⟩
  | .hbm, ⟨89, _⟩ => ⟨S1x2048x1x64, .f32⟩
  | .hbm, ⟨90, _⟩ => ⟨S16x2048x16x64, .f32⟩
  | .hbm, ⟨91, _⟩ => ⟨S16x2048x16x64, .f32⟩
  | .hbm, ⟨92, _⟩ => ⟨S16x2048x16x64, .f32⟩
  | .hbm, ⟨93, _⟩ => ⟨S16x2048x4x16, .f32⟩
  | .hbm, ⟨94, _⟩ => ⟨S16x2048x4x16, .f32⟩
  | .hbm, ⟨95, _⟩ => ⟨S16x2048x4x16, .f32⟩
  | .hbm, ⟨96, _⟩ => ⟨S16x2048x4x16, .f32⟩
  | .hbm, ⟨97, _⟩ => ⟨S16x2048x4x16, .f32⟩
  | .hbm, ⟨98, _⟩ => ⟨S16x2048x4x16, .f32⟩
  | .hbm, ⟨99, _⟩ => ⟨S16x2048x4x64, .f32⟩
  | .hbm, ⟨100, _⟩ => ⟨S1x2048x1x64, .f32⟩
  | .hbm, ⟨101, _⟩ => ⟨S16x2048x4x64, .f32⟩
  | .hbm, ⟨102, _⟩ => ⟨S16x2048x4x64, .f32⟩
  | .hbm, ⟨103, _⟩ => ⟨S1x2048x1x64, .f32⟩
  | .hbm, ⟨104, _⟩ => ⟨S16x2048x4x64, .f32⟩
  | .hbm, ⟨105, _⟩ => ⟨S16x2048x4x64, .f32⟩
  | .hbm, ⟨106, _⟩ => ⟨S16x2048x4x64, .f32⟩
  | .hbm, ⟨107, _⟩ => ⟨S16x2048x4x256, .f32⟩
  | .hbm, ⟨108, _⟩ => ⟨S16x16x2048x64, .f32⟩
  | .hbm, ⟨109, _⟩ => ⟨S16x16x2048x64, .bf16⟩
  | .hbm, ⟨110, _⟩ => ⟨S16x16x2048x64, .f32⟩
  | .hbm, ⟨111, _⟩ => ⟨S16x16x2048x64, .bf16⟩
  | .hbm, ⟨112, _⟩ => ⟨S16x4x2048x64, .f32⟩
  | .hbm, ⟨113, _⟩ => ⟨S16x4x2048x64, .bf16⟩
  | .hbm, ⟨114, _⟩ => ⟨S16x4x2048x256, .f32⟩
  | .hbm, ⟨115, _⟩ => ⟨S16x4x2048x256, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩

abbrev nD : Nat := 1
abbrev τ : Topo := Topo.v7x

variable {F : FTy → Type} [FloatOps F]
-- ==== Kernel3.lean ====
abbrev S16x16x2048x64 : Shape := ⟨4, ![16, 16, 2048, 64]⟩
abbrev S16x4x2048x64 : Shape := ⟨4, ![16, 4, 2048, 64]⟩
abbrev S16x4x256x64 : Shape := ⟨4, ![16, 4, 256, 64]⟩
abbrev S16 : Shape := ⟨1, ![16]⟩
abbrev S_ : Shape := ⟨0, ![]⟩
abbrev S16x4x2048x256 : Shape := ⟨4, ![16, 4, 2048, 256]⟩
abbrev S16x4x256x256 : Shape := ⟨4, ![16, 4, 256, 256]⟩
abbrev S16x2048x1024 : Shape := ⟨3, ![16, 2048, 1024]⟩
abbrev S1x16x128x64 : Shape := ⟨4, ![1, 16, 128, 64]⟩
abbrev S1x4x2048x64 : Shape := ⟨4, ![1, 4, 2048, 64]⟩
abbrev S1x4x2048x256 : Shape := ⟨4, ![1, 4, 2048, 256]⟩
abbrev S1x4x256x64 : Shape := ⟨4, ![1, 4, 256, 64]⟩
abbrev S1x4x256x256 : Shape := ⟨4, ![1, 4, 256, 256]⟩
abbrev S1x128x1024 : Shape := ⟨3, ![1, 128, 1024]⟩
abbrev S512x384 : Shape := ⟨2, ![512, 384]⟩
abbrev S1x4x128x64 : Shape := ⟨4, ![1, 4, 128, 64]⟩
abbrev S4x128x64 : Shape := ⟨3, ![4, 128, 64]⟩
abbrev S512x64 : Shape := ⟨2, ![512, 64]⟩
abbrev S1x1x256x64 : Shape := ⟨4, ![1, 1, 256, 64]⟩
abbrev S256x64 : Shape := ⟨2, ![256, 64]⟩
abbrev S512x256 : Shape := ⟨2, ![512, 256]⟩
abbrev S1x1x256x256 : Shape := ⟨4, ![1, 1, 256, 256]⟩
abbrev S256x256 : Shape := ⟨2, ![256, 256]⟩
abbrev S1x1x384x64 : Shape := ⟨4, ![1, 1, 384, 64]⟩
abbrev S384x64 : Shape := ⟨2, ![384, 64]⟩
abbrev S1x1x384x256 : Shape := ⟨4, ![1, 1, 384, 256]⟩
abbrev S384x256 : Shape := ⟨2, ![384, 256]⟩
abbrev S512 : Shape := ⟨1, ![512]⟩
abbrev S512x1 : Shape := ⟨2, ![512, 1]⟩
abbrev S1x128 : Shape := ⟨2, ![1, 128]⟩
abbrev S128x128 : Shape := ⟨2, ![128, 128]⟩
abbrev S1 : Shape := ⟨1, ![1]⟩
abbrev S128x1 : Shape := ⟨2, ![128, 1]⟩
abbrev S128x1024 : Shape := ⟨2, ![128, 1024]⟩

abbrev nBuf : Space → Nat
  | .hbm => 14
  | .vmem => 14
  | .smem => 1
  | _ => 0

abbrev bufTy : (tb : Table) → Fin (tcTables nBuf tb) → BufTy
  | .hbm, ⟨0, _⟩ => ⟨S16x16x2048x64, .bf16⟩
  | .hbm, ⟨1, _⟩ => ⟨S16x16x2048x64, .bf16⟩
  | .hbm, ⟨2, _⟩ => ⟨S16x4x2048x64, .bf16⟩
  | .hbm, ⟨3, _⟩ => ⟨S16x4x2048x64, .bf16⟩
  | .hbm, ⟨4, _⟩ => ⟨S16x4x256x64, .bf16⟩
  | .hbm, ⟨5, _⟩ => ⟨S16x4x256x64, .bf16⟩
  | .hbm, ⟨6, _⟩ => ⟨S16, .f32⟩
  | .hbm, ⟨7, _⟩ => ⟨S_, .bf16⟩
  | .hbm, ⟨8, _⟩ => ⟨S16x4x2048x64, .bf16⟩
  | .hbm, ⟨9, _⟩ => ⟨S16x4x2048x256, .bf16⟩
  | .hbm, ⟨10, _⟩ => ⟨S_, .bf16⟩
  | .hbm, ⟨11, _⟩ => ⟨S16x4x256x64, .bf16⟩
  | .hbm, ⟨12, _⟩ => ⟨S16x4x256x256, .bf16⟩
  | .hbm, ⟨13, _⟩ => ⟨S16x2048x1024, .bf16⟩
  | .local _ .vmem, ⟨0, _⟩ => ⟨S1x16x128x64, .bf16⟩
  | .local _ .vmem, ⟨1, _⟩ => ⟨S1x16x128x64, .bf16⟩
  | .local _ .vmem, ⟨2, _⟩ => ⟨S1x16x128x64, .bf16⟩
  | .local _ .vmem, ⟨3, _⟩ => ⟨S1x16x128x64, .bf16⟩
  | .local _ .vmem, ⟨4, _⟩ => ⟨S1x4x2048x64, .bf16⟩
  | .local _ .vmem, ⟨5, _⟩ => ⟨S1x4x2048x64, .bf16⟩
  | .local _ .vmem, ⟨6, _⟩ => ⟨S1x4x2048x256, .bf16⟩
  | .local _ .vmem, ⟨7, _⟩ => ⟨S1x4x2048x256, .bf16⟩
  | .local _ .vmem, ⟨8, _⟩ => ⟨S1x4x256x64, .bf16⟩
  | .local _ .vmem, ⟨9, _⟩ => ⟨S1x4x256x64, .bf16⟩
  | .local _ .vmem, ⟨10, _⟩ => ⟨S1x4x256x256, .bf16⟩
  | .local _ .vmem, ⟨11, _⟩ => ⟨S1x4x256x256, .bf16⟩
  | .local _ .vmem, ⟨12, _⟩ => ⟨S1x128x1024, .bf16⟩
  | .local _ .vmem, ⟨13, _⟩ => ⟨S1x128x1024, .bf16⟩
  | .local _ .smem, ⟨0, _⟩ => ⟨S16, .f32⟩
  | _, _ => ⟨S16x16x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  v3
def k0_off1 (i : grid0.Coords) : Fin 4 → Nat :=
  let c0_18 : Index := 0#32
  let c0_19 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v29 : Index := Scalar.indexCast v4
  let c0_20 : Index := 0#32
  ![0, 0, v29.toNat, 0]
def k0_off2 (i : grid0.Coords) : Fin 4 → Nat :=
  let c0_23 : Index := 0#32
  let c0_24 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v35 : Index := Scalar.indexCast v4
  let c0_25 : Index := 0#32
  ![0, 0, v35.toNat, 0]
def k0_off3 (i : grid0.Coords) : Fin 4 → Nat :=
  let c0_51 : Index := 0#32
  let c1_52 : Index := 1#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v154 : Index := Scalar.indexCast v4
  let c0_53 : Index := 0#32
  ![0, 1, v154.toNat, 0]
def k0_off4 (i : grid0.Coords) : Fin 4 → Nat :=
  let c0_56 : Index := 0#32
  let c1_57 : Index := 1#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v160 : Index := Scalar.indexCast v4
  let c0_58 : Index := 0#32
  ![0, 1, v160.toNat, 0]
def k0_off5 (i : grid0.Coords) : Fin 4 → Nat :=
  let c0_85 : Index := 0#32
  let c2_86 : Index := 2#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v279 : Index := Scalar.indexCast v4
  let c0_87 : Index := 0#32
  ![0, 2, v279.toNat, 0]
def k0_off6 (i : grid0.Coords) : Fin 4 → Nat :=
  let c0_90 : Index := 0#32
  let c2_91 : Index := 2#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v285 : Index := Scalar.indexCast v4
  let c0_92 : Index := 0#32
  ![0, 2, v285.toNat, 0]
def k0_off7 (i : grid0.Coords) : Fin 4 → Nat :=
  let c0_119 : Index := 0#32
  let c3_120 : Index := 3#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v404 : Index := Scalar.indexCast v4
  let c0_121 : Index := 0#32
  ![0, 3, v404.toNat, 0]
def k0_off8 (i : grid0.Coords) : Fin 4 → Nat :=
  let c0_124 : Index := 0#32
  let c3_125 : Index := 3#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v410 : Index := Scalar.indexCast v4
  let c0_126 : Index := 0#32
  ![0, 3, v410.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel3Ideal.lean ====
variable {F : FTy → Type} [FloatOps F] [Named F]
def κ : String → Option EReal := fun
  | "log2e" => some (((Real.log 2)⁻¹ : ℝ) : EReal)
  | "mask" => some ⊥
  | _ => none
-- ==== Reference3Ideal.lean ====
abbrev S16x16x2048x64 : Shape := ⟨4, ![16, 16, 2048, 64]⟩
abbrev S16x4x2048x64 : Shape := ⟨4, ![16, 4, 2048, 64]⟩
abbrev S16x4x256x64 : Shape := ⟨4, ![16, 4, 256, 64]⟩
abbrev S16 : Shape := ⟨1, ![16]⟩
abbrev S_ : Shape := ⟨0, ![]⟩
abbrev S16x4x4x2048x64 : Shape := ⟨5, ![16, 4, 4, 2048, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x4x2048x2048 : Shape := ⟨5, ![16, 4, 4, 2048, 2048]⟩
abbrev S16x4x4x2048x256 : Shape := ⟨5, ![16, 4, 4, 2048, 256]⟩
abbrev S1x4x4x1x1 : Shape := ⟨5, ![1, 4, 4, 1, 1]⟩
abbrev S16x4x4x2048x1 : Shape := ⟨5, ![16, 4, 4, 2048, 1]⟩
abbrev S16x4x4x2048x2305 : Shape := ⟨5, ![16, 4, 4, 2048, 2305]⟩
abbrev S16x4x4x2048 : Shape := ⟨4, ![16, 4, 4, 2048]⟩
abbrev S16x4x64x4x2048 : Shape := ⟨5, ![16, 4, 64, 4, 2048]⟩
abbrev S16x2048x4x4x64 : Shape := ⟨5, ![16, 2048, 4, 4, 64]⟩
abbrev S16x2048x1024 : Shape := ⟨3, ![16, 2048, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16x16x2048x64, .bf16⟩
  | .hbm, ⟨1, _⟩ => ⟨S16x16x2048x64, .bf16⟩
  | .hbm, ⟨2, _⟩ => ⟨S16x4x2048x64, .bf16⟩
  | .hbm, ⟨3, _⟩ => ⟨S16x4x2048x64, .bf16⟩
  | .hbm, ⟨4, _⟩ => ⟨S16x4x256x64, .bf16⟩
  | .hbm, ⟨5, _⟩ => ⟨S16x4x256x64, .bf16⟩
  | .hbm, ⟨6, _⟩ => ⟨S16, .f32⟩
  | .hbm, ⟨7, _⟩ => ⟨S16x16x2048x64, .f32⟩
  | .hbm, ⟨8, _⟩ => ⟨S16x16x2048x64, .f32⟩
  | .hbm, ⟨9, _⟩ => ⟨S16x4x2048x64, .f32⟩
  | .hbm, ⟨10, _⟩ => ⟨S16x4x2048x64, .f32⟩
  | .hbm, ⟨11, _⟩ => ⟨S16x4x256x64, .f32⟩
  | .hbm, ⟨12, _⟩ => ⟨S16x4x256x64, .f32⟩
  | .hbm, ⟨13, _⟩ => ⟨S_, .f32⟩
  | .hbm, ⟨14, _⟩ => ⟨S_, .f32⟩
  | .hbm, ⟨15, _⟩ => ⟨S16x4x4x2048x64, .f32⟩
  | .hbm, ⟨16, _⟩ => ⟨S16x4x4x2048x64, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S16x4x4x2048x2048, .f32⟩
  | .hbm, ⟨28, _⟩ => ⟨S16x4x4x2048x2048, .f32⟩
  | .hbm, ⟨29, _⟩ => ⟨S16x4x4x2048x2048, .f32⟩
  | .hbm, ⟨30, _⟩ => ⟨S_, .f32⟩
  | .hbm, ⟨31, _⟩ => ⟨S_, .f32⟩
  | .hbm, ⟨32, _⟩ => ⟨S16x4x4x2048x2048, .i1⟩
  | .hbm, ⟨33, _⟩ => ⟨S16x4x4x2048x2048, .f32⟩
  | .hbm, ⟨34, _⟩ => ⟨S16x4x4x2048x2048, .f32⟩
  | .hbm, ⟨35, _⟩ => ⟨S16x4x4x2048x256, .f32⟩
  | .hbm, ⟨36, _⟩ => ⟨S16x4x4x2048x256, .f32⟩
  | .hbm, ⟨37, _⟩ => ⟨S16x4x4x2048x256, .f32⟩
  | .hbm, ⟨38, _⟩ => ⟨S1x4x4x1x1, .f32⟩
  | .hbm, ⟨39, _⟩ => ⟨S16x4x4x2048x1, .f32⟩
  | .hbm, ⟨40, _⟩ => ⟨S16x4x4x2048x2305, .f32⟩
  | .hbm, ⟨41, _⟩ => ⟨S_, .f32⟩
  | .hbm, ⟨42, _⟩ => ⟨S16x4x4x2048, .f32⟩
  | .hbm, ⟨43, _⟩ => ⟨S_, .f32⟩
  | .hbm, ⟨44, _⟩ => ⟨S16x4x4x2048, .f32⟩
  | .hbm, ⟨45, _⟩ => ⟨S16x4x4x2048, .f32⟩
  | .hbm, ⟨46, _⟩ => ⟨S16x4x4x2048x1, .f32⟩
  | .hbm, ⟨47, _⟩ => ⟨S16x4x4x2048x2305, .f32⟩
  | .hbm, ⟨48, _⟩ => ⟨S16x4x4x2048x2305, .f32⟩
  | .hbm, ⟨49, _⟩ => ⟨S16x4x4x2048x2305, .f32⟩
  | .hbm, ⟨50, _⟩ => ⟨S_, .f32⟩
  | .hbm, ⟨51, _⟩ => ⟨S16x4x4x2048, .f32⟩
  | .hbm, ⟨52, _⟩ => ⟨S16x4x4x2048x1, .f32⟩
  | .hbm, ⟨53, _⟩ => ⟨S16x4x4x2048x2305, .f32⟩
  | .hbm, ⟨54, _⟩ => ⟨S16x4x4x2048x2305, .f32⟩
  | .hbm, ⟨55, _⟩ => ⟨S16x4x4x2048x2048, .f32⟩
  | .hbm, ⟨56, _⟩ => ⟨S16x4x64x4x2048, .f32⟩
  | .hbm, ⟨57, _⟩ => ⟨S16x2048x4x4x64, .f32⟩
  | .hbm, ⟨58, _⟩ => ⟨S16x4x4x2048x256, .f32⟩
  | .hbm, ⟨59, _⟩ => ⟨S16x4x64x4x2048, .f32⟩
  | .hbm, ⟨60, _⟩ => ⟨S16x2048x4x4x64, .f32⟩
  | .hbm, ⟨61, _⟩ => ⟨S16x2048x4x4x64, .f32⟩
  | .hbm, ⟨62, _⟩ => ⟨S16x2048x1024, .f32⟩
  | .hbm, ⟨63, _⟩ => ⟨S16x2048x1024, .bf16⟩
  | _, _ => ⟨S16x16x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel4.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1024 : Shape := ⟨3, ![4, 1024, 1024]⟩
abbrev S4x1024x4 : Shape := ⟨3, ![4, 1024, 4]⟩
abbrev S4x4 : Shape := ⟨2, ![4, 4]⟩
abbrev S4x1024x32 : Shape := ⟨3, ![4, 1024, 32]⟩
abbrev S4x32 : Shape := ⟨2, ![4, 32]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x32 : Shape := ⟨3, ![1, 1024, 32]⟩
abbrev S1024x32 : Shape := ⟨2, ![1024, 32]⟩
abbrev S1x32 : Shape := ⟨2, ![1, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1024x256 : Shape := ⟨2, ![1024, 256]⟩
abbrev S1x1024x1024 : Shape := ⟨3, ![1, 1024, 1024]⟩
abbrev S1024x1024 : Shape := ⟨2, ![1024, 1024]⟩
abbrev S2x32768 : Shape := ⟨2, ![2, 32768]⟩
abbrev S32768x128 : Shape := ⟨2, ![32768, 128]⟩
abbrev S32x32x1 : Shape := ⟨3, ![32, 32, 1]⟩
abbrev S1x1x1024 : Shape := ⟨3, ![1, 1, 1024]⟩
abbrev S2x1024 : Shape := ⟨2, ![2, 1024]⟩
abbrev S1x32x1 : Shape := ⟨3, ![1, 32, 1]⟩
abbrev S1x1024 : Shape := ⟨2, ![1, 1024]⟩
abbrev S1024 : Shape := ⟨1, ![1024]⟩
abbrev S1024x1 : Shape := ⟨2, ![1024, 1]⟩
abbrev S128x1024 : Shape := ⟨2, ![128, 1024]⟩
abbrev S4x1024 : Shape := ⟨2, ![4, 1024]⟩
abbrev S8x1024 : Shape := ⟨2, ![8, 1024]⟩
abbrev S126x1024 : Shape := ⟨2, ![126, 1024]⟩
abbrev S32x1024 : Shape := ⟨2, ![32, 1024]⟩
abbrev S32x1 : Shape := ⟨2, ![32, 1]⟩

abbrev nBuf : Space → Nat
  | .hbm => 52
  | .vmem => 25
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S576x1x1024, .f32⟩
  | .hbm, ⟨3, _⟩ => ⟨S4x1x1024, .f32⟩
  | .hbm, ⟨4, _⟩ => ⟨S4x1024x1024, .f32⟩
  | .hbm, ⟨5, _⟩ => ⟨S4x1024x4, .f32⟩
  | .hbm, ⟨6, _⟩ => ⟨S4x4, .f32⟩
  | .hbm, ⟨7, _⟩ => ⟨S4x1024x32, .f32⟩
  | .hbm, ⟨8, _⟩ => ⟨S4x32, .f32⟩
  | .hbm, ⟨9, _⟩ => ⟨S1x1024x4, .f32⟩
  | .hbm, ⟨10, _⟩ => ⟨S1024x4, .f32⟩
  | .hbm, ⟨11, _⟩ => ⟨S1x4, .f32⟩
  | .hbm, ⟨12, _⟩ => ⟨S4, .f32⟩
  | .hbm, ⟨13, _⟩ => ⟨S1x1024x32, .f32⟩
  | .hbm, ⟨14, _⟩ => ⟨S1024x32, .f32⟩
  | .hbm, ⟨15, _⟩ => ⟨S1x32, .f32⟩
  | .hbm, ⟨16, _⟩ => ⟨S32, .f32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S1024x128, .bf16⟩
  | .hbm, ⟨40, _⟩ => ⟨S1024x128, .f32⟩
  | .hbm, ⟨41, _⟩ => ⟨S1024x128, .f32⟩
  | .hbm, ⟨42, _⟩ => ⟨S1024x128, .bf16⟩
  | .hbm, ⟨43, _⟩ => ⟨S1024x256, .bf16⟩
  | .hbm, ⟨44, _⟩ => ⟨S1x1024x1024, .f32⟩
  | .hbm, ⟨45, _⟩ => ⟨S1024x1024, .f32⟩
  | .hbm, ⟨46, _⟩ => ⟨S1024x1024, .bf16⟩
  | .hbm, ⟨47, _⟩ => ⟨S16x2048x1024, .f32⟩
  | .hbm, ⟨48, _⟩ => ⟨S16x2048x1024, .bf16⟩
  | .hbm, ⟨49, _⟩ => ⟨S2x32768, .i32⟩
  | .hbm, ⟨50, _⟩ => ⟨S32768x128, .f32⟩
  | .hbm, ⟨51, _⟩ => ⟨S32x32x1, .i32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x256, .bf16⟩
  | .local _ .vmem, ⟨13, _⟩ => ⟨S1024x128, .bf16⟩
  | .local _ .vmem, ⟨14, _⟩ => ⟨S1x128, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .bf16⟩
  | .local _ .vmem, ⟨18, _⟩ => ⟨S1x1024x1024, .bf16⟩
  | .local _ .vmem, ⟨19, _⟩ => ⟨S2x1024, .i32⟩
  | .local _ .vmem, ⟨20, _⟩ => ⟨S2x1024, .i32⟩
  | .local _ .vmem, ⟨21, _⟩ => ⟨S1024x128, .f32⟩
  | .local _ .vmem, ⟨22, _⟩ => ⟨S1024x128, .f32⟩
  | .local _ .vmem, ⟨23, _⟩ => ⟨S1x32x1, .i32⟩
  | .local _ .vmem, ⟨24, _⟩ => ⟨S1x32x1, .i32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev main_v30_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.muli v0 c6_i32
  let c2_i32 : BitVec 32 := 2#32
  let v2 : BitVec 32 := Scalar.addi v1 c2_i32
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.muli v0 c6_i32
  let c3_i32 : BitVec 32 := 3#32
  let v2 : BitVec 32 := Scalar.addi v1 c3_i32
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.muli v0 c6_i32
  let c4_i32 : BitVec 32 := 4#32
  let v2 : BitVec 32 := Scalar.addi v1 c4_i32
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x1 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1024 : Shape := ⟨3, ![4, 1024, 1024]⟩
abbrev S4x1024x4 : Shape := ⟨3, ![4, 1024, 4]⟩
abbrev S4x4 : Shape := ⟨2, ![4, 4]⟩
abbrev S4x1024x32 : Shape := ⟨3, ![4, 1024, 32]⟩
abbrev S4x32 : Shape := ⟨2, ![4, 32]⟩
abbrev S4x24x6x1024 : Shape := ⟨4, ![4, 24, 6, 1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S1x1024x1024 : Shape := ⟨3, ![1, 1024, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S576x1x1024, .f32⟩
  | .hbm, ⟨3, _⟩ => ⟨S4x1x1024, .f32⟩
  | .hbm, ⟨4, _⟩ => ⟨S4x1024x1024, .f32⟩
  | .hbm, ⟨5, _⟩ => ⟨S4x1024x4, .f32⟩
  | .hbm, ⟨6, _⟩ => ⟨S4x4, .f32⟩
  | .hbm, ⟨7, _⟩ => ⟨S4x1024x32, .f32⟩
  | .hbm, ⟨8, _⟩ => ⟨S4x32, .f32⟩
  | .hbm, ⟨9, _⟩ => ⟨S4x24x6x1024, .f32⟩
  | .hbm, ⟨10, _⟩ => ⟨S1x16x6x1024, .f32⟩
  | .hbm, ⟨11, _⟩ => ⟨S16x6x1024, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x1x1024, .f32⟩
  | .hbm, ⟨16, _⟩ => ⟨S16x1024, .f32⟩
  | .hbm, ⟨17, _⟩ => ⟨S16x1x1024, .f32⟩
  | .hbm, ⟨18, _⟩ => ⟨S16x1x1024, .f32⟩
  | .hbm, ⟨19, _⟩ => ⟨S16x1024, .f32⟩
  | .hbm, ⟨20, _⟩ => ⟨S16x1x1024, .f32⟩
  | .hbm, ⟨21, _⟩ => ⟨S16x2048x1024, .f32⟩
  | .hbm, ⟨22, _⟩ => ⟨S1x1024x1024, .f32⟩
  | .hbm, ⟨23, _⟩ => ⟨S1024x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S1x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x1x1024, .f32⟩
  | .hbm, ⟨48, _⟩ => ⟨S16x1x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel5.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S1x1024x1536 : Shape := ⟨3, ![1, 1024, 1536]⟩
abbrev S1024x1536 : Shape := ⟨2, ![1024, 1536]⟩
abbrev S16x16x2048x64 : Shape := ⟨4, ![16, 16, 2048, 64]⟩
abbrev S16x4x2048x64 : Shape := ⟨4, ![16, 4, 2048, 64]⟩
abbrev S16x4x2048x256 : Shape := ⟨4, ![16, 4, 2048, 256]⟩
abbrev S1x512x1024 : Shape := ⟨3, ![1, 512, 1024]⟩
abbrev S1x1x1024 : Shape := ⟨3, ![1, 1, 1024]⟩
abbrev S1x16x512x64 : Shape := ⟨4, ![1, 16, 512, 64]⟩
abbrev S1x4x512x64 : Shape := ⟨4, ![1, 4, 512, 64]⟩
abbrev S1x4x512x256 : Shape := ⟨4, ![1, 4, 512, 256]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S512x64 : Shape := ⟨2, ![512, 64]⟩
abbrev S1x1x512x64 : Shape := ⟨4, ![1, 1, 512, 64]⟩
abbrev S1x128 : Shape := ⟨2, ![1, 128]⟩
abbrev S512x256 : Shape := ⟨2, ![512, 256]⟩
abbrev S1x1x512x256 : Shape := ⟨4, ![1, 1, 512, 256]⟩

abbrev nBuf : Space → Nat
  | .hbm => 10
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S576x1x1024, .f32⟩
  | .hbm, ⟨2, _⟩ => ⟨S4x1x1024, .f32⟩
  | .hbm, ⟨3, _⟩ => ⟨S4x1024x1536, .f32⟩
  | .hbm, ⟨4, _⟩ => ⟨S1x1024x1536, .f32⟩
  | .hbm, ⟨5, _⟩ => ⟨S1024x1536, .f32⟩
  | .hbm, ⟨6, _⟩ => ⟨S1024x1536, .bf16⟩
  | .hbm, ⟨7, _⟩ => ⟨S16x16x2048x64, .bf16⟩
  | .hbm, ⟨8, _⟩ => ⟨S16x4x2048x64, .bf16⟩
  | .hbm, ⟨9, _⟩ => ⟨S16x4x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x4x512x64, .bf16⟩
  | .local _ .vmem, ⟨11, _⟩ => ⟨S1x4x512x64, .bf16⟩
  | .local _ .vmem, ⟨12, _⟩ => ⟨S1x4x512x256, .bf16⟩
  | .local _ .vmem, ⟨13, _⟩ => ⟨S1x4x512x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c6_i32 : BitVec 32 := 6#32
  let v1 : BitVec 32 := Scalar.muli v0 c6_i32
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c6_i32 : BitVec 32 := 6#32
  let v1 : BitVec 32 := Scalar.muli v0 c6_i32
  let c1_i32 : BitVec 32 := 1#32
  let v2 : BitVec 32 := Scalar.addi v1 c1_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel5Ideal.lean ====
variable {F : FTy → Type} [FloatOps F] [Named F]
def κ : String → Option EReal := fun
  | "attn_scale" => some (((Real.log 2)⁻¹ * 8⁻¹ : ℝ) : EReal)
  | _ => none
-- ==== Reference5Ideal.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S4x24x6x1024 : Shape := ⟨4, ![4, 24, 6, 1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024 : Shape := ⟨2, ![1, 1024]⟩
abbrev S1x1024x1536 : Shape := ⟨3, ![1, 1024, 1536]⟩
abbrev S1024x1536 : Shape := ⟨2, ![1024, 1536]⟩
abbrev S16x2048x1536 : Shape := ⟨3, ![16, 2048, 1536]⟩
abbrev S16x2048x256 : Shape := ⟨3, ![16, 2048, 256]⟩
abbrev S16x2048x16x64 : Shape := ⟨4, ![16, 2048, 16, 64]⟩
abbrev S16x2048x4x64 : Shape := ⟨4, ![16, 2048, 4, 64]⟩
abbrev S16x2048x4x256 : Shape := ⟨4, ![16, 2048, 4, 256]⟩
abbrev S16x16x2048x64 : Shape := ⟨4, ![16, 16, 2048, 64]⟩
abbrev S16x4x2048x64 : Shape := ⟨4, ![16, 4, 2048, 64]⟩
abbrev S16x4x2048x256 : Shape := ⟨4, ![16, 4, 2048, 256]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S576x1x1024, .f32⟩
  | .hbm, ⟨2, _⟩ => ⟨S4x1x1024, .f32⟩
  | .hbm, ⟨3, _⟩ => ⟨S4x1024x1536, .f32⟩
  | .hbm, ⟨4, _⟩ => ⟨S4x24x6x1024, .f32⟩
  | .hbm, ⟨5, _⟩ => ⟨S1x16x6x1024, .f32⟩
  | .hbm, ⟨6, _⟩ => ⟨S16x6x1024, .f32⟩
  | .hbm, ⟨7, _⟩ => ⟨S16x1x1024, .f32⟩
  | .hbm, ⟨8, _⟩ => ⟨S16x1024, .f32⟩
  | .hbm, ⟨9, _⟩ => ⟨S16x1x1024, .f32⟩
  | .hbm, ⟨10, _⟩ => ⟨S16x1x1024, .f32⟩
  | .hbm, ⟨11, _⟩ => ⟨S16x1024, .f32⟩
  | .hbm, ⟨12, _⟩ => ⟨S16x1x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S1x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S1x1024x1536, .f32⟩
  | .hbm, ⟨39, _⟩ => ⟨S1024x1536, .f32⟩
  | .hbm, ⟨40, _⟩ => ⟨S16x2048x1536, .f32⟩
  | .hbm, ⟨41, _⟩ => ⟨S16x2048x1024, .f32⟩
  | .hbm, ⟨42, _⟩ => ⟨S16x2048x256, .f32⟩
  | .hbm, ⟨43, _⟩ => ⟨S16x2048x256, .f32⟩
  | .hbm, ⟨44, _⟩ => ⟨S16x2048x16x64, .f32⟩
  | .hbm, ⟨45, _⟩ => ⟨S_, .f32⟩
  | .hbm, ⟨46, _⟩ => ⟨S16x2048x16x64, .f32⟩
  | .hbm, ⟨47, _⟩ => ⟨S16x2048x16x64, .f32⟩
  | .hbm, ⟨48, _⟩ => ⟨S_, .f32⟩
  | .hbm, ⟨49, _⟩ => ⟨S_, .f32⟩
  | .hbm, ⟨50, _⟩ => ⟨S16x2048x16x64, .f32⟩
  | .hbm, ⟨51, _⟩ => ⟨S16x2048x16x64, .f32⟩
  | .hbm, ⟨52, _⟩ => ⟨S16x2048x4x64, .f32⟩
  | .hbm, ⟨53, _⟩ => ⟨S16x2048x4x64, .f32⟩
  | .hbm, ⟨54, _⟩ => ⟨S_, .f32⟩
  | .hbm, ⟨55, _⟩ => ⟨S16x2048x4x64, .f32⟩
  | .hbm, ⟨56, _⟩ => ⟨S16x2048x4x256, .f32⟩
  | .hbm, ⟨57, _⟩ => ⟨S16x16x2048x64, .f32⟩
  | .hbm, ⟨58, _⟩ => ⟨S16x16x2048x64, .bf16⟩
  | .hbm, ⟨59, _⟩ => ⟨S16x4x2048x64, .f32⟩
  | .hbm, ⟨60, _⟩ => ⟨S16x4x2048x64, .bf16⟩
  | .hbm, ⟨61, _⟩ => ⟨S16x4x2048x256, .f32⟩
  | .hbm, ⟨62, _⟩ => ⟨S16x4x2048x256, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel6.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S1x64 : Shape := ⟨2, ![1, 64]⟩
abbrev S128x128 : Shape := ⟨2, ![128, 128]⟩
abbrev S2048 : Shape := ⟨1, ![2048]⟩
abbrev S128 : Shape := ⟨1, ![128]⟩
abbrev S64 : Shape := ⟨1, ![64]⟩
abbrev S2x64 : Shape := ⟨2, ![2, 64]⟩
abbrev S1x128 : Shape := ⟨2, ![1, 128]⟩
abbrev S1x1024x1536 : Shape := ⟨3, ![1, 1024, 1536]⟩
abbrev S1024x1536 : Shape := ⟨2, ![1024, 1536]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S16x16x2048x64 : Shape := ⟨4, ![16, 16, 2048, 64]⟩
abbrev S16x4x2048x64 : Shape := ⟨4, ![16, 4, 2048, 64]⟩
abbrev S16x4x2048x256 : Shape := ⟨4, ![16, 4, 2048, 256]⟩
abbrev S1x512x1024 : Shape := ⟨3, ![1, 512, 1024]⟩
abbrev S1x1x1024 : Shape := ⟨3, ![1, 1, 1024]⟩
abbrev S512x128 : Shape := ⟨2, ![512, 128]⟩
abbrev S1x16x512x64 : Shape := ⟨4, ![1, 16, 512, 64]⟩
abbrev S1x4x512x64 : Shape := ⟨4, ![1, 4, 512, 64]⟩
abbrev S1x4x512x256 : Shape := ⟨4, ![1, 4, 512, 256]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x1536 : Shape := ⟨2, ![512, 1536]⟩
abbrev S512x64 : Shape := ⟨2, ![512, 64]⟩
abbrev S1x1x512x64 : Shape := ⟨4, ![1, 1, 512, 64]⟩
abbrev S512x256 : Shape := ⟨2, ![512, 256]⟩
abbrev S1x1x512x256 : Shape := ⟨4, ![1, 1, 512, 256]⟩

abbrev nBuf : Space → Nat
  | .hbm => 52
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S576x1x1024, .f32⟩
  | .hbm, ⟨2, _⟩ => ⟨S4x1x1024, .f32⟩
  | .hbm, ⟨3, _⟩ => ⟨S4x1024x1536, .f32⟩
  | .hbm, ⟨4, _⟩ => ⟨S1x64, .f32⟩
  | .hbm, ⟨5, _⟩ => ⟨S1x64, .f32⟩
  | .hbm, ⟨6, _⟩ => ⟨S128x128, .bf16⟩
  | .hbm, ⟨7, _⟩ => ⟨S2048, .f32⟩
  | .hbm, ⟨8, _⟩ => ⟨S2048, .f32⟩
  | .hbm, ⟨9, _⟩ => ⟨S128, .f32⟩
  | .hbm, ⟨10, _⟩ => ⟨S64, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x1024x1536, .f32⟩
  | .hbm, ⟨21, _⟩ => ⟨S1024x1536, .f32⟩
  | .hbm, ⟨22, _⟩ => ⟨S1024x1536, .bf16⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x64, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S16x16x2048x64, .bf16⟩
  | .hbm, ⟨49, _⟩ => ⟨S16x16x2048x64, .bf16⟩
  | .hbm, ⟨50, _⟩ => ⟨S16x4x2048x64, .bf16⟩
  | .hbm, ⟨51, _⟩ => ⟨S16x4x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S1x16x512x64, .bf16⟩
  | .local _ .vmem, ⟨16, _⟩ => ⟨S1x16x512x64, .bf16⟩
  | .local _ .vmem, ⟨17, _⟩ => ⟨S1x16x512x64, .bf16⟩
  | .local _ .vmem, ⟨18, _⟩ => ⟨S1x16x512x64, .bf16⟩
  | .local _ .vmem, ⟨19, _⟩ => ⟨S1x4x512x64, .bf16⟩
  | .local _ .vmem, ⟨20, _⟩ => ⟨S1x4x512x64, .bf16⟩
  | .local _ .vmem, ⟨21, _⟩ => ⟨S1x4x512x256, .bf16⟩
  | .local _ .vmem, ⟨22, _⟩ => ⟨S1x4x512x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v36_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c6_i32 : BitVec 32 := 6#32
  let v1 : BitVec 32 := Scalar.muli v0 c6_i32
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c6_i32 : BitVec 32 := 6#32
  let v1 : BitVec 32 := Scalar.muli v0 c6_i32
  let c1_i32 : BitVec 32 := 1#32
  let v2 : BitVec 32 := Scalar.addi v1 c1_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel6Ideal.lean ====
variable {F : FTy → Type} [FloatOps F] [Named F]
def κ : String → Option EReal := fun
  | "attn_scale" => some (((Real.log 2)⁻¹ * 8⁻¹ : ℝ) : EReal)
  | _ => none
-- ==== Reference6Ideal.lean ====
abbrev S16x2048x1024 : Shape := ⟨3, ![16, 2048, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S1x64 : Shape := ⟨2, ![1, 64]⟩
abbrev S2048 : Shape := ⟨1, ![2048]⟩
abbrev S4x24x6x1024 : Shape := ⟨4, ![4, 24, 6, 1024]⟩
abbrev S1x16x6x1024 : Shape := ⟨4, ![1, 16, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024 : Shape := ⟨2, ![1, 1024]⟩
abbrev S1x1024x1536 : Shape := ⟨3, ![1, 1024, 1536]⟩
abbrev S1024x1536 : Shape := ⟨2, ![1024, 1536]⟩
abbrev S16x2048x1536 : Shape := ⟨3, ![16, 2048, 1536]⟩
abbrev S16x2048x256 : Shape := ⟨3, ![16, 2048, 256]⟩
abbrev S16x2048x16x64 : Shape := ⟨4, ![16, 2048, 16, 64]⟩
abbrev S64 : Shape := ⟨1, ![64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S16x2048x16x16 : Shape := ⟨4, ![16, 2048, 16, 16]⟩
abbrev S1x2048x1x64 : Shape := ⟨4, ![1, 2048, 1, 64]⟩
abbrev S16x2048x4x16 : Shape := ⟨4, ![16, 2048, 4, 16]⟩
abbrev S16x2048x4x256 : Shape := ⟨4, ![16, 2048, 4, 256]⟩
abbrev S16x16x2048x64 : Shape := ⟨4, ![16, 16, 2048, 64]⟩
abbrev S16x4x2048x64 : Shape := ⟨4, ![16, 4, 2048, 64]⟩
abbrev S16x4x2048x256 : Shape := ⟨4, ![16, 4, 2048, 256]⟩

abbrev nBuf : Space → Nat
  | .hbm => 152
  | .vmem => 0
  | .smem => 0
  | _ => 0

abbrev hbmTy0_0 (i : Nat) : BufTy := match i % 128 with
  | 0 => ⟨S16x2048x1024, .f32⟩
  | 1 => ⟨S576x1x1024, .f32⟩
  | 2 => ⟨S4x1x1024, .f32⟩
  | 3 => ⟨S4x1024x1536, .f32⟩
  | 4 => ⟨S1x64, .f32⟩
  | 5 => ⟨S1x64, .f32⟩
  | 6 => ⟨S2048, .f32⟩
  | 7 => ⟨S2048, .f32⟩
  | 8 => ⟨S4x24x6x1024, .f32⟩
  | 9 => ⟨S1x16x6x1024, .f32⟩
  | 10 => ⟨S16x6x1024, .f32⟩
  | 11 => ⟨S16x1x1024, .f32⟩
  | 12 => ⟨S16x1024, .f32⟩
  | 13 => ⟨S16x1x1024, .f32⟩
  | 14 => ⟨S16x1x1024, .f32⟩
  | 15 => ⟨S16x1024, .f32⟩
  | 16 => ⟨S16x1x1024, .f32⟩
  | 17 => ⟨S16x2048x1024, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S_, .f32⟩
  | 25 => ⟨S16x2048x1, .f32⟩
  | 26 => ⟨S16x2048x1, .f32⟩
  | 27 => ⟨S16x2048x1, .f32⟩
  | 28 => ⟨S16x2048x1024, .f32⟩
  | 29 => ⟨S16x2048x1024, .f32⟩
  | 30 => ⟨S1x1x1024, .f32⟩
  | 31 => ⟨S1x1024, .f32⟩
  | 32 => ⟨S1x1x1024, .f32⟩
  | 33 => ⟨S16x2048x1024, .f32⟩
  | 34 => ⟨S16x2048x1024, .f32⟩
  | 35 => ⟨S_, .f32⟩
  | 36 => ⟨S16x1x1024, .f32⟩
  | 37 => ⟨S16x1x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S1x1024x1536, .f32⟩
  | 43 => ⟨S1024x1536, .f32⟩
  | 44 => ⟨S16x2048x1536, .f32⟩
  | 45 => ⟨S16x2048x1024, .f32⟩
  | 46 => ⟨S16x2048x256, .f32⟩
  | 47 => ⟨S16x2048x256, .f32⟩
  | 48 => ⟨S16x2048x16x64, .f32⟩
  | 49 => ⟨S64, .f32⟩
  | 50 => ⟨S16x2048x16x64, .f32⟩
  | 51 => ⟨S_, .f32⟩
  | 52 => ⟨S16x2048x16, .f32⟩
  | 53 => ⟨S16x2048x16x1, .f32⟩
  | 54 => ⟨S_, .f32⟩
  | 55 => ⟨S16x2048x16x1, .f32⟩
  | 56 => ⟨S16x2048x16x1, .f32⟩
  | 57 => ⟨S_, .f32⟩
  | 58 => ⟨S16x2048x16x1, .f32⟩
  | 59 => ⟨S16x2048x16x1, .f32⟩
  | 60 => ⟨S16x2048x16x1, .f32⟩
  | 61 => ⟨S16x2048x16x64, .f32⟩
  | 62 => ⟨S16x2048x16x64, .f32⟩
  | 63 => ⟨S1x1x1x64, .f32⟩
  | 64 => ⟨S16x2048x16x64, .f32⟩
  | 65 => ⟨S16x2048x16x64, .f32⟩
  | 66 => ⟨S_, .f32⟩
  | 67 => ⟨S16x2048x16x64, .f32⟩
  | 68 => ⟨S16x2048x16x64, .f32⟩
  | 69 => ⟨S_, .f32⟩
  | 70 => ⟨S_, .f32⟩
  | 71 => ⟨S16x2048x16x64, .f32⟩
  | 72 => ⟨S16x2048x16x64, .f32⟩
  | 73 => ⟨S16x2048x4x64, .f32⟩
  | 74 => ⟨S64, .f32⟩
  | 75 => ⟨S16x2048x4x64, .f32⟩
  | 76 => ⟨S_, .f32⟩
  | 77 => ⟨S16x2048x4, .f32⟩
  | 78 => ⟨S16x2048x4x1, .f32⟩
  | 79 => ⟨S_, .f32⟩
  | 80 => ⟨S16x2048x4x1, .f32⟩
  | 81 => ⟨S16x2048x4x1, .f32⟩
  | 82 => ⟨S_, .f32⟩
  | 83 => ⟨S16x2048x4x1, .f32⟩
  | 84 => ⟨S16x2048x4x1, .f32⟩
  | 85 => ⟨S16x2048x4x1, .f32⟩
  | 86 => ⟨S16x2048x4x64, .f32⟩
  | 87 => ⟨S16x2048x4x64, .f32⟩
  | 88 => ⟨S1x1x1x64, .f32⟩
  | 89 => ⟨S16x2048x4x64, .f32⟩
  | 90 => ⟨S16x2048x4x64, .f32⟩
  | 91 => ⟨S16x2048x4x64, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S2048x1, .f32⟩
  | 101 => ⟨S1x16, .f32⟩
  | 102 => ⟨S2048x16, .f32⟩
  | 103 => ⟨S2048x16, .f32⟩
  | 104 => ⟨S2048x16, .f32⟩
  | 105 => ⟨S2048x1, .f32⟩
  | 106 => ⟨S1x16, .f32⟩
  | 107 => ⟨S2048x16, .f32⟩
  | 108 => ⟨S2048x16, .f32⟩
  | 109 => ⟨S2048x16, .f32⟩
  | 110 => ⟨S2048x64, .f32⟩
  | 111 => ⟨S2048x64, .f32⟩
  | 112 => ⟨S2048x64, .f32⟩
  | 113 => ⟨S_, .f32⟩
  | 114 => ⟨S16x2048x4x64, .f32⟩
  | 115 => ⟨S16x2048x16x16, .f32⟩
  | 116 => ⟨S16x2048x16x16, .f32⟩
  | 117 => ⟨S16x2048x16x16, .f32⟩
  | 118 => ⟨S16x2048x16x16, .f32⟩
  | 119 => ⟨S16x2048x16x16, .f32⟩
  | 120 => ⟨S16x2048x16x16, .f32⟩
  | 121 => ⟨S16x2048x16x64, .f32⟩
  | 122 => ⟨S1x2048x1x64, .f32⟩
  | 123 => ⟨S16x2048x16x64, .f32⟩
  | 124 => ⟨S16x2048x16x64, .f32⟩
  | 125 => ⟨S1x2048x1x64, .f32⟩
  | 126 => ⟨S16x2048x16x64, .f32⟩
  | 127 => ⟨S16x2048x16x64, .f32⟩
  | _ => ⟨S16x2048x1024, .f32⟩

abbrev hbmTy0_1 (i : Nat) : BufTy := match i % 128 with
  | 0 => ⟨S16x2048x16x64, .f32⟩
  | 1 => ⟨S16x2048x4x16, .f32⟩
  | 2 => ⟨S16x2048x4x16, .f32⟩
  | 3 => ⟨S16x2048x4x16, .f32⟩
  | 4 => ⟨S16x2048x4x16, .f32⟩
  | 5 => ⟨S16x2048x4x16, .f32⟩
  | 6 => ⟨S16x2048x4x16, .f32⟩
  | 7 => ⟨S16x2048x4x64, .f32⟩
  | 8 => ⟨S1x2048x1x64, .f32⟩
  | 9 => ⟨S16x2048x4x64, .f32⟩
  | 10 => ⟨S16x2048x4x64, .f32⟩
  | 11 => ⟨S1x2048x1x64, .f32⟩
  | 12 => ⟨S16x2048x4x64, .f32⟩
  | 13 => ⟨S16x2048x4x64, .f32⟩
  | 14 => ⟨S16x2048x4x64, .f32⟩
  | 15 => ⟨S16x2048x4x256, .f32⟩
  | 16 => ⟨S16x16x2048x64, .f32⟩
  | 17 => ⟨S16x16x2048x64, .bf16⟩
  | 18 => ⟨S16x16x2048x64, .f32⟩
  | 19 => ⟨S16x16x2048x64, .bf16⟩
  | 20 => ⟨S16x4x2048x64, .f32⟩
  | 21 => ⟨S16x4x2048x64, .bf16⟩
  | 22 => ⟨S16x4x2048x256, .f32⟩
  | 23 => ⟨S16x4x2048x256, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩

abbrev nD : Nat := 1
abbrev τ : Topo := Topo.v7x

variable {F : FTy → Type} [FloatOps F]
-- ==== Kernel7.lean ====
abbrev S16x256x1024 : Shape := ⟨3, ![16, 256, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S1x1024x1536 : Shape := ⟨3, ![1, 1024, 1536]⟩
abbrev S1024x1536 : Shape := ⟨2, ![1024, 1536]⟩
abbrev S16x16x256x64 : Shape := ⟨4, ![16, 16, 256, 64]⟩
abbrev S16x4x256x64 : Shape := ⟨4, ![16, 4, 256, 64]⟩
abbrev S16x4x256x256 : Shape := ⟨4, ![16, 4, 256, 256]⟩
abbrev S1x256x1024 : Shape := ⟨3, ![1, 256, 1024]⟩
abbrev S1x1x1024 : Shape := ⟨3, ![1, 1, 1024]⟩
abbrev S1x16x256x64 : Shape := ⟨4, ![1, 16, 256, 64]⟩
abbrev S1x4x256x64 : Shape := ⟨4, ![1, 4, 256, 64]⟩
abbrev S1x4x256x256 : Shape := ⟨4, ![1, 4, 256, 256]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S256x64 : Shape := ⟨2, ![256, 64]⟩
abbrev S1x1x256x64 : Shape := ⟨4, ![1, 1, 256, 64]⟩
abbrev S1x128 : Shape := ⟨2, ![1, 128]⟩
abbrev S256x256 : Shape := ⟨2, ![256, 256]⟩
abbrev S1x1x256x256 : Shape := ⟨4, ![1, 1, 256, 256]⟩

abbrev nBuf : Space → Nat
  | .hbm => 10
  | .vmem => 12
  | .smem => 0
  | _ => 0

abbrev bufTy : (tb : Table) → Fin (tcTables nBuf tb) → BufTy
  | .hbm, ⟨0, _⟩ => ⟨S16x256x1024, .f32⟩
  | .hbm, ⟨1, _⟩ => ⟨S576x1x1024, .f32⟩
  | .hbm, ⟨2, _⟩ => ⟨S4x1x1024, .f32⟩
  | .hbm, ⟨3, _⟩ => ⟨S4x1024x1536, .f32⟩
  | .hbm, ⟨4, _⟩ => ⟨S1x1024x1536, .f32⟩
  | .hbm, ⟨5, _⟩ => ⟨S1024x1536, .f32⟩
  | .hbm, ⟨6, _⟩ => ⟨S1024x1536, .bf16⟩
  | .hbm, ⟨7, _⟩ => ⟨S16x16x256x64, .bf16⟩
  | .hbm, ⟨8, _⟩ => ⟨S16x4x256x64, .bf16⟩
  | .hbm, ⟨9, _⟩ => ⟨S16x4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x1536, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x4x256x64, .bf16⟩
  | .local _ .vmem, ⟨9, _⟩ => ⟨S1x4x256x64, .bf16⟩
  | .local _ .vmem, ⟨10, _⟩ => ⟨S1x4x256x256, .bf16⟩
  | .local _ .vmem, ⟨11, _⟩ => ⟨S1x4x256x256, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c96_i32 : BitVec 32 := 96#32
  let c0_i32 : BitVec 32 := 0#32
  let c0_i32_0 : BitVec 32 := 0#32
  let c0_i32_1 : BitVec 32 := 0#32
  ![c96_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c97_i32 : BitVec 32 := 97#32
  let c0_i32 : BitVec 32 := 0#32
  let c0_i32_0 : BitVec 32 := 0#32
  let c0_i32_1 : BitVec 32 := 0#32
  ![c97_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "attn_scale" => some (((Real.log 2)⁻¹ * 8⁻¹ : ℝ) : EReal)
  | _ => none
-- ==== Reference7Ideal.lean ====
abbrev S16x256x1024 : Shape := ⟨3, ![16, 256, 1024]⟩
abbrev S576x1x1024 : Shape := ⟨3, ![576, 1, 1024]⟩
abbrev S4x1x1024 : Shape := ⟨3, ![4, 1, 1024]⟩
abbrev S4x1024x1536 : Shape := ⟨3, ![4, 1024, 1536]⟩
abbrev S4x24x6x1024 : Shape := ⟨4, ![4, 24, 6, 1024]⟩
abbrev S1x1x6x1024 : Shape := ⟨4, ![1, 1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024x1536 : Shape := ⟨3, ![1, 1024, 1536]⟩
abbrev S1024x1536 : Shape := ⟨2, ![1024, 1536]⟩
abbrev S16x256x1536 : Shape := ⟨3, ![16, 256, 1536]⟩
abbrev S16x256x256 : Shape := ⟨3, ![16, 256, 256]⟩
abbrev S16x256x16x64 : Shape := ⟨4, ![16, 256, 16, 64]⟩
abbrev S16x256x4x64 : Shape := ⟨4, ![16, 256, 4, 64]⟩
abbrev S16x256x4x256 : Shape := ⟨4, ![16, 256, 4, 256]⟩
abbrev S16x16x256x64 : Shape := ⟨4, ![16, 16, 256, 64]⟩
abbrev S16x4x256x64 : Shape := ⟨4, ![16, 4, 256, 64]⟩
abbrev S16x4x256x256 : Shape := ⟨4, ![16, 4, 256, 256]⟩

abbrev nBuf : Space → Nat
  | .hbm => 63
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S576x1x1024, .f32⟩
  | .hbm, ⟨2, _⟩ => ⟨S4x1x1024, .f32⟩
  | .hbm, ⟨3, _⟩ => ⟨S4x1024x1536, .f32⟩
  | .hbm, ⟨4, _⟩ => ⟨S4x24x6x1024, .f32⟩
  | .hbm, ⟨5, _⟩ => ⟨S1x1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S16x256x1024, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S1x1x1024, .f32⟩
  | .hbm, ⟨25, _⟩ => ⟨S1x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S1x1x1024, .f32⟩
  | .hbm, ⟨36, _⟩ => ⟨S16x256x1024, .f32⟩
  | .hbm, ⟨37, _⟩ => ⟨S16x256x1024, .f32⟩
  | .hbm, ⟨38, _⟩ => ⟨S1x1024x1536, .f32⟩
  | .hbm, ⟨39, _⟩ => ⟨S1024x1536, .f32⟩
  | .hbm, ⟨40, _⟩ => ⟨S16x256x1536, .f32⟩
  | .hbm, ⟨41, _⟩ => ⟨S16x256x1024, .f32⟩
  | .hbm, ⟨42, _⟩ => ⟨S16x256x256, .f32⟩
  | .hbm, ⟨43, _⟩ => ⟨S16x256x256, .f32⟩
  | .hbm, ⟨44, _⟩ => ⟨S16x256x16x64, .f32⟩
  | .hbm, ⟨45, _⟩ => ⟨S_, .f32⟩
  | .hbm, ⟨46, _⟩ => ⟨S16x256x16x64, .f32⟩
  | .hbm, ⟨47, _⟩ => ⟨S16x256x16x64, .f32⟩
  | .hbm, ⟨48, _⟩ => ⟨S_, .f32⟩
  | .hbm, ⟨49, _⟩ => ⟨S_, .f32⟩
  | .hbm, ⟨50, _⟩ => ⟨S16x256x16x64, .f32⟩
  | .hbm, ⟨51, _⟩ => ⟨S16x256x16x64, .f32⟩
  | .hbm, ⟨52, _⟩ => ⟨S16x256x4x64, .f32⟩
  | .hbm, ⟨53, _⟩ => ⟨S16x256x4x64, .f32⟩
  | .hbm, ⟨54, _⟩ => ⟨S_, .f32⟩
  | .hbm, ⟨55, _⟩ => ⟨S16x256x4x64, .f32⟩
  | .hbm, ⟨56, _⟩ => ⟨S16x256x4x256, .f32⟩
  | .hbm, ⟨57, _⟩ => ⟨S16x16x256x64, .f32⟩
  | .hbm, ⟨58, _⟩ => ⟨S16x16x256x64, .bf16⟩
  | .hbm, ⟨59, _⟩ => ⟨S16x4x256x64, .f32⟩
  | .hbm, ⟨60, _⟩ => ⟨S16x4x256x64, .bf16⟩
  | .hbm, ⟨61, _⟩ => ⟨S16x4x256x256, .f32⟩
  | .hbm, ⟨62, _⟩ => ⟨S16x4x256x256, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel8.lean ====
abbrev S1x4096x1024 : Shape := ⟨3, ![1, 4096, 1024]⟩
abbrev S576x1x1024 : Shape := ⟨3, ![576, 1, 1024]⟩
abbrev S4x1x1024 : Shape := ⟨3, ![4, 1, 1024]⟩
abbrev S4x1024x1024 : Shape := ⟨3, ![4, 1024, 1024]⟩
abbrev S4x1024x4 : Shape := ⟨3, ![4, 1024, 4]⟩
abbrev S4x4 : Shape := ⟨2, ![4, 4]⟩
abbrev S4x1024x32 : Shape := ⟨3, ![4, 1024, 32]⟩
abbrev S4x32 : Shape := ⟨2, ![4, 32]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x32 : Shape := ⟨3, ![1, 1024, 32]⟩
abbrev S1024x32 : Shape := ⟨2, ![1024, 32]⟩
abbrev S1x32 : Shape := ⟨2, ![1, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1024x256 : Shape := ⟨2, ![1024, 256]⟩
abbrev S1x1024x1024 : Shape := ⟨3, ![1, 1024, 1024]⟩
abbrev S1024x1024 : Shape := ⟨2, ![1024, 1024]⟩
abbrev S2x4096 : Shape := ⟨2, ![2, 4096]⟩
abbrev S4096x128 : Shape := ⟨2, ![4096, 128]⟩
abbrev S4x32x1 : Shape := ⟨3, ![4, 32, 1]⟩
abbrev S1x1x1024 : Shape := ⟨3, ![1, 1, 1024]⟩
abbrev S2x1024 : Shape := ⟨2, ![2, 1024]⟩
abbrev S1x32x1 : Shape := ⟨3, ![1, 32, 1]⟩
abbrev S1x1024 : Shape := ⟨2, ![1, 1024]⟩
abbrev S1024 : Shape := ⟨1, ![1024]⟩
abbrev S1024x1 : Shape := ⟨2, ![1024, 1]⟩
abbrev S128x1024 : Shape := ⟨2, ![128, 1024]⟩
abbrev S4x1024 : Shape := ⟨2, ![4, 1024]⟩
abbrev S8x1024 : Shape := ⟨2, ![8, 1024]⟩
abbrev S126x1024 : Shape := ⟨2, ![126, 1024]⟩
abbrev S32x1024 : Shape := ⟨2, ![32, 1024]⟩
abbrev S32x1 : Shape := ⟨2, ![32, 1]⟩

abbrev nBuf : Space → Nat
  | .hbm => 52
  | .vmem => 22
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .f32⟩
  | .hbm, ⟨2, _⟩ => ⟨S576x1x1024, .f32⟩
  | .hbm, ⟨3, _⟩ => ⟨S4x1x1024, .f32⟩
  | .hbm, ⟨4, _⟩ => ⟨S4x1024x1024, .f32⟩
  | .hbm, ⟨5, _⟩ => ⟨S4x1024x4, .f32⟩
  | .hbm, ⟨6, _⟩ => ⟨S4x4, .f32⟩
  | .hbm, ⟨7, _⟩ => ⟨S4x1024x32, .f32⟩
  | .hbm, ⟨8, _⟩ => ⟨S4x32, .f32⟩
  | .hbm, ⟨9, _⟩ => ⟨S1x1024x4, .f32⟩
  | .hbm, ⟨10, _⟩ => ⟨S1024x4, .f32⟩
  | .hbm, ⟨11, _⟩ => ⟨S1x4, .f32⟩
  | .hbm, ⟨12, _⟩ => ⟨S4, .f32⟩
  | .hbm, ⟨13, _⟩ => ⟨S1x1024x32, .f32⟩
  | .hbm, ⟨14, _⟩ => ⟨S1024x32, .f32⟩
  | .hbm, ⟨15, _⟩ => ⟨S1x32, .f32⟩
  | .hbm, ⟨16, _⟩ => ⟨S32, .f32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S1024x128, .bf16⟩
  | .hbm, ⟨40, _⟩ => ⟨S1024x128, .f32⟩
  | .hbm, ⟨41, _⟩ => ⟨S1024x128, .f32⟩
  | .hbm, ⟨42, _⟩ => ⟨S1024x128, .bf16⟩
  | .hbm, ⟨43, _⟩ => ⟨S1024x256, .bf16⟩
  | .hbm, ⟨44, _⟩ => ⟨S1x1024x1024, .f32⟩
  | .hbm, ⟨45, _⟩ => ⟨S1024x1024, .f32⟩
  | .hbm, ⟨46, _⟩ => ⟨S1024x1024, .bf16⟩
  | .hbm, ⟨47, _⟩ => ⟨S1x4096x1024, .f32⟩
  | .hbm, ⟨48, _⟩ => ⟨S1x4096x1024, .bf16⟩
  | .hbm, ⟨49, _⟩ => ⟨S2x4096, .i32⟩
  | .hbm, ⟨50, _⟩ => ⟨S4096x128, .f32⟩
  | .hbm, ⟨51, _⟩ => ⟨S4x32x1, .i32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x256, .bf16⟩
  | .local _ .vmem, ⟨10, _⟩ => ⟨S1024x128, .bf16⟩
  | .local _ .vmem, ⟨11, _⟩ => ⟨S1x128, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S2x1024, .i32⟩
  | .local _ .vmem, ⟨17, _⟩ => ⟨S2x1024, .i32⟩
  | .local _ .vmem, ⟨18, _⟩ => ⟨S1024x128, .f32⟩
  | .local _ .vmem, ⟨19, _⟩ => ⟨S1024x128, .f32⟩
  | .local _ .vmem, ⟨20, _⟩ => ⟨S1x32x1, .i32⟩
  | .local _ .vmem, ⟨21, _⟩ => ⟨S1x32x1, .i32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev main_v30_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c98_i32 : BitVec 32 := 98#32
  let c0_i32 : BitVec 32 := 0#32
  let c0_i32_0 : BitVec 32 := 0#32
  let c0_i32_1 : BitVec 32 := 0#32
  ![c98_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c99_i32 : BitVec 32 := 99#32
  let c0_i32 : BitVec 32 := 0#32
  let c0_i32_0 : BitVec 32 := 0#32
  let c0_i32_1 : BitVec 32 := 0#32
  ![c99_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c100_i32 : BitVec 32 := 100#32
  let c0_i32 : BitVec 32 := 0#32
  let c0_i32_0 : BitVec 32 := 0#32
  let c0_i32_1 : BitVec 32 := 0#32
  ![c100_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x1 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference8Ideal.lean ====
abbrev S1x4096x1024 : Shape := ⟨3, ![1, 4096, 1024]⟩
abbrev S576x1x1024 : Shape := ⟨3, ![576, 1, 1024]⟩
abbrev S4x1x1024 : Shape := ⟨3, ![4, 1, 1024]⟩
abbrev S4x1024x1024 : Shape := ⟨3, ![4, 1024, 1024]⟩
abbrev S4x1024x4 : Shape := ⟨3, ![4, 1024, 4]⟩
abbrev S4x4 : Shape := ⟨2, ![4, 4]⟩
abbrev S4x1024x32 : Shape := ⟨3, ![4, 1024, 32]⟩
abbrev S4x32 : Shape := ⟨2, ![4, 32]⟩
abbrev S4x24x6x1024 : Shape := ⟨4, ![4, 24, 6, 1024]⟩
abbrev S1x1x6x1024 : Shape := ⟨4, ![1, 1, 6, 1024]⟩
abbrev S6x1024 : Shape := ⟨2, ![6, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .f32⟩
  | .hbm, ⟨2, _⟩ => ⟨S576x1x1024, .f32⟩
  | .hbm, ⟨3, _⟩ => ⟨S4x1x1024, .f32⟩
  | .hbm, ⟨4, _⟩ => ⟨S4x1024x1024, .f32⟩
  | .hbm, ⟨5, _⟩ => ⟨S4x1024x4, .f32⟩
  | .hbm, ⟨6, _⟩ => ⟨S4x4, .f32⟩
  | .hbm, ⟨7, _⟩ => ⟨S4x1024x32, .f32⟩
  | .hbm, ⟨8, _⟩ => ⟨S4x32, .f32⟩
  | .hbm, ⟨9, _⟩ => ⟨S4x24x6x1024, .f32⟩
  | .hbm, ⟨10, _⟩ => ⟨S1x1x6x1024, .f32⟩
  | .hbm, ⟨11, _⟩ => ⟨S6x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x4096x1024, .f32⟩
  | .hbm, ⟨19, _⟩ => ⟨S1x1024x1024, .f32⟩
  | .hbm, ⟨20, _⟩ => ⟨S1024x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S1x4096x1, .f32⟩
  | .hbm, ⟨37, _⟩ => ⟨S1x4096x1024, .f32⟩
  | .hbm, ⟨38, _⟩ => ⟨S1x4096x1024, .f32⟩
  | .hbm, ⟨39, _⟩ => ⟨S1x1x1024, .f32⟩
  | .hbm, ⟨40, _⟩ => ⟨S1x1024, .f32⟩
  | .hbm, ⟨41, _⟩ => ⟨S1x1x1024, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1x1x1024, .f32⟩
  | .hbm, ⟨48, _⟩ => ⟨S1x4096x1024, .f32⟩
  | .hbm, ⟨49, _⟩ => ⟨S1x4096x1024, .f32⟩
  | .hbm, ⟨50, _⟩ => ⟨S1x1x1024, .f32⟩
  | .hbm, ⟨51, _⟩ => ⟨S1x4096x1024, .f32⟩
  | .hbm, ⟨52, _⟩ => ⟨S1x4096x1024, .f32⟩
  | .hbm, ⟨53, _⟩ => ⟨S1x4096x1024, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.Blocks.lean ====
/-
  What the region's blocks hold: point `t` of the grid works on batch `t / 8` and queries `256 * (t % 8)` to that plus 255;
  the values' arrays that it stages are the host's rows `value, ones, ones, value`.
-/
module

public import proofs.«01_k».proof.Proof.Gen.KernelIdeal.Value
public import Idealize.ShloMosaic.Lib.Pointwise
public import Idealize.ShloMosaic.Lib.StableHlo.Run

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The batch of a grid point. -/
def batch (t : Fin cfg0.N) : Fin 16 := ⟨t.val / 8, by have h : t.val < 128 := t.isLt; omega⟩
/-- The block of queries of a grid point. -/
def qblk (t : Fin cfg0.N) : Fin 8 := ⟨t.val % 8, by omega⟩

/-- Query `i` of a point's block, in the sequence. -/
def query (t : Fin cfg0.N) (i : Fin 256) : Fin 2048 := ⟨256 * (qblk t).val + i.val, by have := (qblk t).isLt; omega⟩

theorem idx0 : ∀ t : Fin cfg0.N, win0_0.index t (0 : Fin 4) = t.val / 8 ∧ win0_0.index t (1 : Fin 4) = 0 ∧ win0_0.index t (2 : Fin 4) = t.val % 8 ∧ win0_0.index t (3 : Fin 4) = 0 :=
  (by decide +kernel : ∀ t : Fin grid0.N, _)
theorem idx1 : ∀ t : Fin cfg0.N, win0_1.index t (0 : Fin 4) = t.val / 8 ∧ win0_1.index t (1 : Fin 4) = 0 ∧ win0_1.index t (2 : Fin 4) = t.val % 8 ∧ win0_1.index t (3 : Fin 4) = 0 :=
  (by decide +kernel : ∀ t : Fin grid0.N, _)
theorem idx2 : ∀ t : Fin cfg0.N, win0_2.index t (0 : Fin 4) = t.val / 8 ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val / 8 ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 4) = t.val / 8 ∧ win0_4.index t (1 : Fin 4) = 0 ∧ win0_4.index t (2 : Fin 4) = 0 ∧ win0_4.index t (3 : Fin 4) = 0 :=
  (by decide +kernel : ∀ t : Fin grid0.N, _)
theorem idx5 : ∀ t : Fin cfg0.N, win0_5.index t (0 : Fin 4) = t.val / 8 ∧ win0_5.index t (1 : Fin 4) = 0 ∧ win0_5.index t (2 : Fin 4) = 0 ∧ win0_5.index t (3 : Fin 4) = 0 :=
  (by decide +kernel : ∀ t : Fin grid0.N, _)
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)

/-- A block of queries (for the context) holds the point's batch and queries. -/
theorem blk0 (c : Dev nD) (t : Fin cfg0.N) (h : Fin 16) (i : Fin 256) (d : Fin 64) :
    (iblk m c 0 t : Vec F S1x16x256x64 .bf16) (ix4 0 h i d) = m ((c : Thread nD τ).loc main_arg0) (ix4 (batch t) h (query t i) d) := by
  obtain ⟨e0, e1, e2, e3⟩ := idx0 t
  rw [← V_main_arg0 m c]
  show V m c main_arg0 (((cfg0.win 0).blk t).view.emb (ix4 0 h i d)) = _
  congr 1
  funext a; apply Fin.ext
  match a with
  | ⟨0, _⟩ => show win0_0.index t (0 : Fin 4) * 1 + 1 * 0 = t.val / 8; omega
  | ⟨1, _⟩ => show win0_0.index t (1 : Fin 4) * 16 + 1 * h.val = h.val; omega
  | ⟨2, _⟩ => show win0_0.index t (2 : Fin 4) * 256 + 1 * i.val = 256 * (t.val % 8) + i.val; omega
  | ⟨3, _⟩ => show win0_0.index t (3 : Fin 4) * 64 + 1 * d.val = d.val; omega

/-- A block of queries (for the sequence) likewise. -/
theorem blk1 (c : Dev nD) (t : Fin cfg0.N) (h : Fin 16) (i : Fin 256) (d : Fin 64) :
    (iblk m c 1 t : Vec F S1x16x256x64 .bf16) (ix4 0 h i d) = m ((c : Thread nD τ).loc main_arg1) (ix4 (batch t) h (query t i) d) := by
  obtain ⟨e0, e1, e2, e3⟩ := idx1 t
  rw [← V_main_arg1 m c]
  show V m c main_arg1 (((cfg0.win 1).blk t).view.emb (ix4 0 h i d)) = _
  congr 1
  funext a; apply Fin.ext
  match a with
  | ⟨0, _⟩ => show win0_1.index t (0 : Fin 4) * 1 + 1 * 0 = t.val / 8; omega
  | ⟨1, _⟩ => show win0_1.index t (1 : Fin 4) * 16 + 1 * h.val = h.val; omega
  | ⟨2, _⟩ => show win0_1.index t (2 : Fin 4) * 256 + 1 * i.val = 256 * (t.val % 8) + i.val; omega
  | ⟨3, _⟩ => show win0_1.index t (3 : Fin 4) * 64 + 1 * d.val = d.val; omega

/-- The block of keys of the sequence holds the point's batch. -/
theorem blk2 (c : Dev nD) (t : Fin cfg0.N) (g : Fin 4) (j : Fin 2048) (d : Fin 64) :
    (iblk m c 2 t : Vec F S1x4x2048x64 .bf16) (ix4 0 g j d) = m ((c : Thread nD τ).loc main_arg2) (ix4 (batch t) g j d) := by
  obtain ⟨e0, e1, e2, e3⟩ := idx2 t
  rw [← V_main_arg2 m c]
  show V m c main_arg2 (((cfg0.win 2).blk t).view.emb (ix4 0 g j d)) = _
  congr 1
  funext a; apply Fin.ext
  match a with
  | ⟨0, _⟩ => show win0_2.index t (0 : Fin 4) * 1 + 1 * 0 = t.val / 8; omega
  | ⟨1, _⟩ => show win0_2.index t (1 : Fin 4) * 4 + 1 * g.val = g.val; omega
  | ⟨2, _⟩ => show win0_2.index t (2 : Fin 4) * 2048 + 1 * j.val = j.val; omega
  | ⟨3, _⟩ => show win0_2.index t (3 : Fin 4) * 64 + 1 * d.val = d.val; omega

/-- The block of keys of the context likewise. -/
theorem blk4 (c : Dev nD) (t : Fin cfg0.N) (g : Fin 4) (j : Fin 256) (d : Fin 64) :
    (iblk m c 4 t : Vec F S1x4x256x64 .bf16) (ix4 0 g j d) = m ((c : Thread nD τ).loc main_arg4) (ix4 (batch t) g j d) := by
  obtain ⟨e0, e1, e2, e3⟩ := idx4 t
  rw [← V_main_arg4 m c]
  show V m c main_arg4 (((cfg0.win 4).blk t).view.emb (ix4 0 g j d)) = _
  congr 1
  funext a; apply Fin.ext
  match a with
  | ⟨0, _⟩ => show win0_4.index t (0 : Fin 4) * 1 + 1 * 0 = t.val / 8; omega
  | ⟨1, _⟩ => show win0_4.index t (1 : Fin 4) * 4 + 1 * g.val = g.val; omega
  | ⟨2, _⟩ => show win0_4.index t (2 : Fin 4) * 256 + 1 * j.val = j.val; omega
  | ⟨3, _⟩ => show win0_4.index t (3 : Fin 4) * 64 + 1 * d.val = d.val; omega

/-- The host's rows `value, ones, ones, value`, of the sequence. -/
def aug (v : Vec F S16x4x2048x64 .bf16) : Vec F S16x4x2048x256 .bf16 :=
  concatenate S16x4x2048x256 3 [⟨S16x4x2048x64, v⟩, ⟨S16x4x2048x64, broadcastInDim S16x4x2048x64 ![] bcast_S_S16x4x2048x64 (constant S_ .bf16 0x3F80#16)⟩,
    ⟨S16x4x2048x64, broadcastInDim S16x4x2048x64 ![] bcast_S_S16x4x2048x64 (constant S_ .bf16 0x3F80#16)⟩, ⟨S16x4x2048x64, v⟩]
    concatenates_S16x4x2048x64_S16x4x2048x64_S16x4x2048x64_S16x4x2048x64_S16x4x2048x256_d3

/-- The host's rows `value, ones, ones, value`, of the context. -/
def augC (v : Vec F S16x4x256x64 .bf16) : Vec F S16x4x256x256 .bf16 :=
  concatenate S16x4x256x256 3 [⟨S16x4x256x64, v⟩, ⟨S16x4x256x64, broadcastInDim S16x4x256x64 ![] bcast_S_S16x4x256x64 (constant S_ .bf16 0x3F80#16)⟩,
    ⟨S16x4x256x64, broadcastInDim S16x4x256x64 ![] bcast_S_S16x4x256x64 (constant S_ .bf16 0x3F80#16)⟩, ⟨S16x4x256x64, v⟩]
    concatenates_S16x4x256x64_S16x4x256x64_S16x4x256x64_S16x4x256x64_S16x4x256x256_d3

open Idealize.ShloMosaic.StableHlo in
/-- The region finds the host's rows in the array of values. -/
theorem V_main_v1 (c : Dev nD) : V m c main_v1 = aug (m ((c : Thread nD τ).loc main_arg3)) := by
  unfold V hostOps0
  after_results_simp <;> rfl

open Idealize.ShloMosaic.StableHlo in
theorem V_main_v3 (c : Dev nD) : V m c main_v3 = augC (m ((c : Thread nD τ).loc main_arg5)) := by
  unfold V hostOps0
  after_results_simp <;> rfl

/-- The block of values of the sequence holds the point's batch of the host's rows. -/
theorem blk3 (c : Dev nD) (t : Fin cfg0.N) (g : Fin 4) (j : Fin 2048) (l : Fin 256) :
    (iblk m c 3 t : Vec F S1x4x2048x256 .bf16) (ix4 0 g j l) = aug (m ((c : Thread nD τ).loc main_arg3)) (ix4 (batch t) g j l) := by
  obtain ⟨e0, e1, e2, e3⟩ := idx3 t
  rw [← V_main_v1 m c]
  show V m c main_v1 (((cfg0.win 3).blk t).view.emb (ix4 0 g j l)) = _
  congr 1
  funext a; apply Fin.ext
  match a with
  | ⟨0, _⟩ => show win0_3.index t (0 : Fin 4) * 1 + 1 * 0 = t.val / 8; omega
  | ⟨1, _⟩ => show win0_3.index t (1 : Fin 4) * 4 + 1 * g.val = g.val; omega
  | ⟨2, _⟩ => show win0_3.index t (2 : Fin 4) * 2048 + 1 * j.val = j.val; omega
  | ⟨3, _⟩ => show win0_3.index t (3 : Fin 4) * 256 + 1 * l.val = l.val; omega

/-- The block of values of the context likewise. -/
theorem blk5 (c : Dev nD) (t : Fin cfg0.N) (g : Fin 4) (j : Fin 256) (l : Fin 256) :
    (iblk m c 5 t : Vec F S1x4x256x256 .bf16) (ix4 0 g j l) = augC (m ((c : Thread nD τ).loc main_arg5)) (ix4 (batch t) g j l) := by
  obtain ⟨e0, e1, e2, e3⟩ := idx5 t
  rw [← V_main_v3 m c]
  show V m c main_v3 (((cfg0.win 5).blk t).view.emb (ix4 0 g j l)) = _
  congr 1
  funext a; apply Fin.ext
  match a with
  | ⟨0, _⟩ => show win0_5.index t (0 : Fin 4) * 1 + 1 * 0 = t.val / 8; omega
  | ⟨1, _⟩ => show win0_5.index t (1 : Fin 4) * 4 + 1 * g.val = g.val; omega
  | ⟨2, _⟩ => show win0_5.index t (2 : Fin 4) * 256 + 1 * j.val = j.val; omega
  | ⟨3, _⟩ => show win0_5.index t (3 : Fin 4) * 256 + 1 * l.val = l.val; omega

/-- A point's block of the result array. -/
theorem emb6 (t : Fin cfg0.N) (i : Fin 256) (l : Fin 1024) : ((cfg0.win 6).blk t).view.emb (ix3 0 i l) = ix3 (batch t) (query t i) l := by
  obtain ⟨e0, e1, e2⟩ := idx6 t
  funext a; apply Fin.ext
  match a with
  | ⟨0, _⟩ => show win0_6.index t (0 : Fin 3) * 1 + 1 * 0 = t.val / 8; omega
  | ⟨1, _⟩ => show win0_6.index t (1 : Fin 3) * 256 + 1 * i.val = 256 * (t.val % 8) + i.val; omega
  | ⟨2, _⟩ => show win0_6.index t (2 : Fin 3) * 1024 + 1 * l.val = l.val; omega

/-- Every index of the result array is in some point's block. -/
theorem cover (i : S16x2048x1024.Idx) : ∃ t : Fin cfg0.N, (cfg0.win 6).flush t = true ∧ i ∈ ((cfg0.win 6).blk t).view.set := by
  obtain ⟨b, n, l, rfl⟩ : ∃ (b : Fin 16) (n : Fin 2048) (l : Fin 1024), i = ix3 b n l := ⟨i 0, i 1, i 2, eq_ix3 i⟩
  have hN : b.val * 8 + n.val / 256 < cfg0.N := show _ < 128 by omega
  refine ⟨⟨b.val * 8 + n.val / 256, hN⟩, flush0_6 _, ?_⟩
  have h := ((cfg0.win 6).blk ⟨b.val * 8 + n.val / 256, hN⟩).view.emb_mem_set (ix3 0 ⟨n.val % 256, by omega⟩ l)
  rw [emb6] at h
  have e1 : batch ⟨b.val * 8 + n.val / 256, hN⟩ = b := Fin.ext (by simp only [batch]; omega)
  have e2 : query ⟨b.val * 8 + n.val / 256, hN⟩ ⟨n.val % 256, by omega⟩ = n := Fin.ext (by simp only [query, qblk]; omega)
  rwa [e1, e2] at h

end Cert.KernelIdeal.Hand

end
-- ==== Proof.Head.lean ====
/-
  What the kernel computes from one block of arguments, spelled once for a key/value head: its four passes over the keys
  of the sequence and the pass over the context, and the two blocks of 128 lanes it makes of the result. The printed body
  is this, four times, side by side.
-/
module

public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.SL.Sem

variable {F : FTy → Type} [FloatOps F]

/-- Four query heads' rows, one under another. -/
def rows (q : Vec F S1x4x256x64 .bf16) : FVec F S1024x64 .bf16 :=
  shapeCast S1024x64 (shapeCast S4x256x64 q shapeCasts_S1x4x256x64_S4x256x64 : FVec F S4x256x64 .bf16) shapeCasts_S4x256x64_S1024x64

/-- The scores of the rows against 512 keys of the sequence. -/
def scores (R : FVec F S1024x64 .bf16) (k : Vec F S1x1x512x64 .bf16) : FVec F S1024x512 .f32 :=
  matmul dot_S1024x64_S512x64_S1024x512_1_1_0_0_n_n none R
    (shapeCast S512x64 k shapeCasts_S1x1x512x64_S512x64 : FVec F S512x64 .bf16) (constant S1024x512 .f32 0x00000000#32)

/-- The scores of the rows against the 256 keys of the context. -/
def scoresC (R : FVec F S1024x64 .bf16) (k : Vec F S1x1x256x64 .bf16) : FVec F S1024x256 .f32 :=
  matmul dot_S1024x64_S256x64_S1024x256_1_1_0_0_n_n none R
    (shapeCast S256x64 k shapeCasts_S1x1x256x64_S256x64 : FVec F S256x64 .bf16) (constant S1024x256 .f32 0x00000000#32)

/-- Each row's greatest score. -/
def top (s : FVec F S1024x512 .f32) : FVec F S1024x1 .f32 :=
  shapeCast S1024x1 (multiReduction .maximumf [1] S1024 s 0xFF800000#32 reduces_S1024x512_S1024 (.inl rfl) rfl) shapeCasts_S1024_S1024x1

/-- Each row's greatest score, of the context. -/
def topC (s : FVec F S1024x256 .f32) : FVec F S1024x1 .f32 :=
  shapeCast S1024x1 (multiReduction .maximumf [1] S1024 s 0xFF800000#32 reduces_S1024x256_S1024 (.inl rfl) rfl) shapeCasts_S1024_S1024x1

/-- The values of 512 keys weighed by two to the power of the scores less the row's shift. -/
def weighed (s : FVec F S1024x512 .f32) (μ : FVec F S1024x1 .f32) (v : Vec F S1x1x512x256 .bf16) : FVec F S1024x256 .f32 :=
  matmul dot_S1024x512_S512x256_S1024x256_1_0_0_1_n_n none
    (truncf .bf16 (exp2 (subf s (broadcastTo S1024x512 μ broadcasts_S1024x1_S1024x512))) bitsLt_bf16_f32)
    (shapeCast S512x256 v shapeCasts_S1x1x512x256_S512x256 : FVec F S512x256 .bf16) (constant S1024x256 .f32 0x00000000#32)

/-- The same for the context. -/
def weighedC (s : FVec F S1024x256 .f32) (μ : FVec F S1024x1 .f32) (v : Vec F S1x1x256x256 .bf16) : FVec F S1024x256 .f32 :=
  matmul dot_S1024x256_S256x256_S1024x256_1_0_0_1_n_n none
    (truncf .bf16 (exp2 (subf s (broadcastTo S1024x256 μ broadcasts_S1024x1_S1024x256))) bitsLt_bf16_f32)
    (shapeCast S256x256 v shapeCasts_S1x1x256x256_S256x256 : FVec F S256x256 .bf16) (constant S1024x256 .f32 0x00000000#32)

/-- What was summed at shift `μ`, brought to shift `ν`. -/
def reshift (μ ν : FVec F S1024x1 .f32) (acc : FVec F S1024x256 .f32) : FVec F S1024x256 .f32 :=
  mulf (broadcastTo S1024x256 (exp2 (subf μ ν)) broadcasts_S1024x1_S1024x256) acc

/-- The sums of one key/value head: from its blocks of queries (for the context, for the sequence), context keys and
    values, and the sequence's keys and values in four pieces. -/
def sums (qc qs : Vec F S1x4x256x64 .bf16) (kc : Vec F S1x1x256x64 .bf16) (vc : Vec F S1x1x256x256 .bf16)
    (k0 k1 k2 k3 : Vec F S1x1x512x64 .bf16) (v0 v1 v2 v3 : Vec F S1x1x512x256 .bf16) : FVec F S1024x256 .f32 :=
  let μ0 := top (scores (rows qs) k0)
  let μ1 := maximumf μ0 (top (scores (rows qs) k1))
  let μ2 := maximumf μ1 (top (scores (rows qs) k2))
  let μ3 := maximumf (maximumf μ2 (top (scores (rows qs) k3))) (topC (scoresC (rows qc) kc))
  let a0 := weighed (scores (rows qs) k0) μ0 v0
  let a1 := addf (reshift μ0 μ1 a0) (weighed (scores (rows qs) k1) μ1 v1)
  let a2 := addf (reshift μ1 μ2 a1) (weighed (scores (rows qs) k2) μ2 v2)
  addf (addf (reshift μ2 μ3 a2) (weighed (scores (rows qs) k3) μ3 v3)) (weighedC (scoresC (rows qc) kc) μ3 vc)

/-- The lanes below 64. -/
def lanesLow : IVec S256x128 1 :=
  broadcastTo S256x128 (shapeCast S1x128 (cmpi .slt (iota .tc S1x128 32 [1] iota_S1x128_d1_w32) (broadcast S1x128 64#32))
    shapeCasts_S1x128_S1x128 : IVec S1x128 1) broadcasts_S1x128_S256x128

/-- The first two query heads' 128 lanes. -/
def pair0 (a : FVec F S1024x256 .f32) : FVec F S256x128 .f32 :=
  select lanesLow
    (divf (extractStridedSlice S256x128 ![0, 0] a slices_S1024x256_o0_0_S256x128) (extractStridedSlice S256x128 ![0, 128] a slices_S1024x256_o0_128_S256x128))
    (divf (extractStridedSlice S256x128 ![256, 128] a slices_S1024x256_o256_128_S256x128) (extractStridedSlice S256x128 ![256, 0] a slices_S1024x256_o256_0_S256x128))

/-- The last two query heads' 128 lanes. -/
def pair1 (a : FVec F S1024x256 .f32) : FVec F S256x128 .f32 :=
  select lanesLow
    (divf (extractStridedSlice S256x128 ![512, 0] a slices_S1024x256_o512_0_S256x128) (extractStridedSlice S256x128 ![512, 128] a slices_S1024x256_o512_128_S256x128))
    (divf (extractStridedSlice S256x128 ![768, 128] a slices_S1024x256_o768_128_S256x128) (extractStridedSlice S256x128 ![768, 0] a slices_S1024x256_o768_0_S256x128))

/-- The four key/value heads' lanes, side by side. -/
def assemble (a b d e : FVec F S1024x256 .f32) : FVec F S1x256x1024 .bf16 :=
  shapeCast S1x256x1024 (truncf .bf16 (concatenate S256x1024 1 [⟨S256x128, pair0 a⟩, ⟨S256x128, pair1 a⟩, ⟨S256x128, pair0 b⟩, ⟨S256x128, pair1 b⟩, ⟨S256x128, pair0 d⟩, ⟨S256x128, pair1 d⟩, ⟨S256x128, pair0 e⟩, ⟨S256x128, pair1 e⟩]
    concatenates_S256x128_S256x128_S256x128_S256x128_S256x128_S256x128_S256x128_S256x128_S256x1024_d1) bitsLt_bf16_f32 : FVec F S256x1024 .bf16) shapeCasts_S256x1024_S1x256x1024

variable (x0 x1 : Vec F S1x16x256x64 .bf16) (x2 : Vec F S1x4x2048x64 .bf16) (x3 : Vec F S1x4x2048x256 .bf16)
  (x4 : Vec F S1x4x256x64 .bf16) (x5 : Vec F S1x4x256x256 .bf16)

/-- The sums of key/value head 0, from the staged blocks. -/
def sums0 : FVec F S1024x256 .f32 :=
  sums (View.ld x0 r0_0) (View.ld x1 r0_0) (View.ld x4 r0_1) (View.ld x5 r0_2)
    (View.ld x2 r0_3) (View.ld x2 r0_5) (View.ld x2 r0_7) (View.ld x2 r0_9)
    (View.ld x3 r0_4) (View.ld x3 r0_6) (View.ld x3 r0_8) (View.ld x3 r0_10)

/-- The sums of key/value head 1. -/
def sums1 : FVec F S1024x256 .f32 :=
  sums (View.ld x0 r0_11) (View.ld x1 r0_11) (View.ld x4 r0_12) (View.ld x5 r0_13)
    (View.ld x2 r0_14) (View.ld x2 r0_16) (View.ld x2 r0_18) (View.ld x2 r0_20)
    (View.ld x3 r0_15) (View.ld x3 r0_17) (View.ld x3 r0_19) (View.ld x3 r0_21)

/-- The sums of key/value head 2. -/
def sums2 : FVec F S1024x256 .f32 :=
  sums (View.ld x0 r0_22) (View.ld x1 r0_22) (View.ld x4 r0_23) (View.ld x5 r0_24)
    (View.ld x2 r0_25) (View.ld x2 r0_27) (View.ld x2 r0_29) (View.ld x2 r0_31)
    (View.ld x3 r0_26) (View.ld x3 r0_28) (View.ld x3 r0_30) (View.ld x3 r0_32)

/-- The sums of key/value head 3. -/
def sums3 : FVec F S1024x256 .f32 :=
  sums (View.ld x0 r0_33) (View.ld x1 r0_33) (View.ld x4 r0_34) (View.ld x5 r0_35)
    (View.ld x2 r0_36) (View.ld x2 r0_38) (View.ld x2 r0_40) (View.ld x2 r0_42)
    (View.ld x3 r0_37) (View.ld x3 r0_39) (View.ld x3 r0_41) (View.ld x3 r0_43)

/-- The body's stored block is the four heads' lanes, side by side. -/
theorem out_eq : out0_6 x0 x1 x2 x3 x4 x5
    = View.canon [⟨r0_44, assemble (sums0 x0 x1 x2 x3 x4 x5) (sums1 x0 x1 x2 x3 x4 x5) (sums2 x0 x1 x2 x3 x4 x5) (sums3 x0 x1 x2 x3 x4 x5)⟩] := by
  unfold_out out0_6
  rfl

end Cert.KernelIdeal.Hand

end
-- ==== Proof.Softmax.lean ====
/-
  The arithmetic of one row of attention over the extended reals: a softmax accumulated piece by piece with a running
  shift, divided once at the end, is the softmax. Scores are reals; the values weighed by it are any extended reals.
-/
module

public import Idealize.ShloMosaic.Lib.Pointwise

@[expose] public section

noncomputable section

namespace Cert.Attend

open Idealize.ShloMosaic

/-- A nonnegative real factor distributes over a sum of two extended reals, whatever they are. -/
theorem coe_mul_add {c : ℝ} (hc : 0 ≤ c) (a b : EReal) : (c : EReal) * (a + b) = (c : EReal) * a + (c : EReal) * b :=
  EReal.left_distrib_of_nonneg_of_ne_top (by exact_mod_cast hc) (EReal.coe_ne_top c) a b

/-- A nonnegative real factor distributes over a finite sum of extended reals. -/
theorem coe_mul_sum {ι : Type*} {c : ℝ} (hc : 0 ≤ c) (t : Finset ι) (f : ι → EReal) :
    (c : EReal) * ∑ j ∈ t, f j = ∑ j ∈ t, (c : EReal) * f j := by
  classical
  induction t using Finset.induction_on with
  | empty => simp
  | insert a t ha ih => rw [Finset.sum_insert ha, Finset.sum_insert ha, coe_mul_add hc, ih]

/-- The coercion of the reals into the extended reals goes through a finite sum. -/
theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- The sum of the values `v`, each weighed by two to the power of its score less the shift `μ`. -/
def wsum {ι : Type} [Fintype ι] (s : ι → ℝ) (μ : ℝ) (v : ι → EReal) : EReal :=
  ∑ j, (((2 : ℝ) ^ (s j - μ) : ℝ) : EReal) * v j

/-- Changing the shift from `μ` to `ν` multiplies the weighed sum by two to the power `μ - ν`. -/
theorem wsum_rescale {ι : Type} [Fintype ι] (s : ι → ℝ) (μ ν : ℝ) (v : ι → EReal) :
    (((2 : ℝ) ^ (μ - ν) : ℝ) : EReal) * wsum s μ v = wsum s ν v := by
  unfold wsum
  rw [coe_mul_sum (by positivity)]
  refine Finset.sum_congr rfl fun j _ => ?_
  rw [← mul_assoc, ← EReal.coe_mul, ← Real.rpow_add two_pos]
  congr 3; ring

/-- The total weight of two families of scores, without a shift. -/
def mass {ι κ : Type} [Fintype ι] [Fintype κ] (s : ι → ℝ) (t : κ → ℝ) : ℝ :=
  (∑ j, (2 : ℝ) ^ s j) + ∑ j, (2 : ℝ) ^ t j

theorem mass_pos {ι κ : Type} [Fintype ι] [Fintype κ] [Nonempty ι] (s : ι → ℝ) (t : κ → ℝ) : 0 < mass s t :=
  add_pos_of_pos_of_nonneg (Finset.sum_pos (fun j _ => by positivity) Finset.univ_nonempty)
    (Finset.sum_nonneg fun j _ => by positivity)

/-- Attention of one query to one value lane: the values `v` and `w`, weighed by the softmax (of base two) of the joined
    scores `s` and `t`. -/
def att {ι κ : Type} [Fintype ι] [Fintype κ] (s : ι → ℝ) (t : κ → ℝ) (v : ι → EReal) (w : κ → EReal) : EReal :=
  (∑ j, (((2 : ℝ) ^ s j / mass s t : ℝ) : EReal) * v j) + ∑ j, (((2 : ℝ) ^ t j / mass s t : ℝ) : EReal) * w j

variable {ι κ : Type} [Fintype ι] [Fintype κ] [Nonempty ι]

/-- What the kernel divides, at any shift: the weighed sums of values over the weighed sums of ones are the attention. -/
theorem div_wsum (s : ι → ℝ) (t : κ → ℝ) (μ : ℝ) (v : ι → EReal) (w : κ → EReal) :
    Ideal.div (wsum s μ v + wsum t μ w) (wsum s μ (fun _ => 1) + wsum t μ (fun _ => 1)) = att s t v w := by
  have hden : wsum s μ (fun _ => 1) + wsum t μ (fun _ => 1) = (((2 : ℝ) ^ (-μ) * mass s t : ℝ) : EReal) := by
    unfold wsum mass
    simp only [mul_one]
    rw [← coe_sum, ← coe_sum, ← EReal.coe_add, mul_add, Finset.mul_sum, Finset.mul_sum]
    have key : ∀ x : ℝ, (2 : ℝ) ^ (x - μ) = 2 ^ (-μ) * 2 ^ x := by
      intro x; rw [← Real.rpow_add two_pos]; congr 1; ring
    simp only [key]
  have hm := mass_pos s t
  have hp : (0 : ℝ) < 2 ^ (-μ) := by positivity
  rw [hden, Ideal.div_coe (mul_pos hp hm).ne', mul_comm]
  have hc : (0 : ℝ) ≤ 1 / (2 ^ (-μ) * mass s t) := by positivity
  rw [coe_mul_add hc]
  unfold wsum att
  rw [coe_mul_sum hc, coe_mul_sum hc]
  have key : ∀ x : ℝ, 1 / (2 ^ (-μ) * mass s t) * (2 : ℝ) ^ (x - μ) = 2 ^ x / mass s t := by
    intro x
    rw [sub_eq_add_neg, Real.rpow_add two_pos]
    field_simp
  congr 1 <;> refine Finset.sum_congr rfl fun j _ => ?_ <;> rw [← mul_assoc, ← EReal.coe_mul, key]

/-- Two to the power `x` is the exponential of `log 2` times `x`, at any shift `M`. -/
theorem exp_shift (x M : ℝ) : Real.exp (x * Real.log 2 - M) = Real.exp (-M) * 2 ^ x := by
  rw [Real.rpow_def_of_pos two_pos, ← Real.exp_add]; congr 1; ring

/-- What the reference sums, at any shift: with scores multiplied by `log 2`, exponentials over their total are the weights
    of the softmax of base two. -/
theorem div_exp (s : ι → ℝ) (t : κ → ℝ) (M : ℝ) (x : ℝ) :
    Ideal.div ((Real.exp (x * Real.log 2 - M) : ℝ) : EReal)
        (((∑ j, Real.exp (s j * Real.log 2 - M)) + ∑ j, Real.exp (t j * Real.log 2 - M) : ℝ) : EReal)
      = (((2 : ℝ) ^ x / mass s t : ℝ) : EReal) := by
  have hm := mass_pos s t
  have hp := Real.exp_pos (-M)
  have hden : (∑ j, Real.exp (s j * Real.log 2 - M)) + ∑ j, Real.exp (t j * Real.log 2 - M) = Real.exp (-M) * mass s t := by
    unfold mass
    rw [mul_add, Finset.mul_sum, Finset.mul_sum]
    congr 1 <;> exact Finset.sum_congr rfl fun j _ => exp_shift _ _
  rw [hden, Ideal.div_coe (mul_pos hp hm).ne', exp_shift, ← EReal.coe_mul]
  congr 1
  field_simp

/-- A product of two finite extended reals is finite. -/
theorem finite_mul {a b : EReal} (ha : ∃ x : ℝ, a = x) (hb : ∃ x : ℝ, b = x) : ∃ x : ℝ, a * b = x := by
  obtain ⟨x, rfl⟩ := ha; obtain ⟨y, rfl⟩ := hb
  exact ⟨x * y, (EReal.coe_mul x y).symm⟩

/-- A finite sum of finite extended reals is finite. -/
theorem finite_sum {α : Type} [Fintype α] {f : α → EReal} (h : ∀ k, ∃ x : ℝ, f k = x) : ∃ x : ℝ, ∑ k, f k = x := by
  choose g hg using h
  exact ⟨∑ k, g k, by rw [coe_sum]; exact Finset.sum_congr rfl fun k _ => hg k⟩

/-- Being a real, for an extended real: it is the coercion of its real part. -/
theorem coe_toReal_of {a : EReal} (h : ∃ x : ℝ, a = x) : ((a.toReal : ℝ) : EReal) = a := by
  obtain ⟨x, rfl⟩ := h; rfl

/-- The maximum of a nonempty family of reals, from a start that is not plus infinity, is a real. -/
theorem fold_max_real {α : Type} [Fintype α] [Nonempty α] {b : EReal} (hb : b < ⊤) {f : α → EReal}
    (h : ∀ k, ∃ x : ℝ, f k = x) : ∃ x : ℝ, Finset.univ.fold max b f = x := by
  have htop : Finset.univ.fold max b f < ⊤ := by
    rw [Finset.fold_max_lt]
    refine ⟨hb, fun k _ => ?_⟩
    obtain ⟨x, hx⟩ := h k; rw [hx]; exact EReal.coe_lt_top x
  have hbot : ⊥ < Finset.univ.fold max b f := by
    rw [Finset.lt_fold_max]
    obtain ⟨k⟩ := ‹Nonempty α›
    obtain ⟨x, hx⟩ := h k
    exact Or.inr ⟨k, Finset.mem_univ k, by rw [hx]; exact EReal.bot_lt_coe x⟩
  exact ⟨_, (EReal.coe_toReal htop.ne hbot.ne').symm⟩

/-- The greater of two reals is a real. -/
theorem max_real {a b : EReal} (ha : ∃ x : ℝ, a = x) (hb : ∃ x : ℝ, b = x) : ∃ x : ℝ, max a b = x := by
  rcases max_choice a b with h | h <;> rw [h] <;> assumption

end Cert.Attend

end
-- ==== Proof.HeadValue.lean ====
/-
  One key/value head's sums, read at an index: at every row there is a real shift at which each lane holds the sum, over
  the keys of the sequence and of the context, of the lane's values weighed by two to the power of score less shift —
  provided the scores are reals.
-/
module

public import proofs.«01_k».proof.Proof.Head
public import proofs.«01_k».proof.Proof.Softmax
public import Idealize.ShloMosaic.Lib.Pointwise

@[expose] public section

set_option maxRecDepth 16384

noncomputable section

namespace Cert.KernelIdeal.Hand

open Cert.KernelIdeal Cert.KernelIdeal.Gen Cert.Attend Idealize.ShloMosaic Idealize.SL.Sem

/-- The word that the maxima start from is minus infinity. -/
theorem ofBits_negInf : Ideal.ofBits .f32 0xFF800000#32 = ⊥ := by
  show Ideal.ieee 8 23 (0xFF800000#32) = ⊥
  unfold Ideal.ieee
  simp

/-- The row's greatest score is a real where its scores are. -/
theorem top_real (s : FVec Ideal S1024x512 .f32) (r : Fin 1024) (h : ∀ j : Fin 512, ∃ x : ℝ, s (ix2 r j) = x) :
    ∃ μ : ℝ, top s (ix2 r 0) = μ := by
  pointwise [top]
  exact fold_max_real (by rw [ofBits_negInf]; exact bot_lt_top) h

theorem topC_real (s : FVec Ideal S1024x256 .f32) (r : Fin 1024) (h : ∀ j : Fin 256, ∃ x : ℝ, s (ix2 r j) = x) :
    ∃ μ : ℝ, topC s (ix2 r 0) = μ := by
  pointwise [topC]
  exact fold_max_real (by rw [ofBits_negInf]; exact bot_lt_top) h

theorem maximumf_real (a b : FVec Ideal S1024x1 .f32) (i : S1024x1.Idx) (ha : ∃ x : ℝ, a i = x) (hb : ∃ x : ℝ, b i = x) :
    ∃ x : ℝ, maximumf a b i = x :=
  max_real ha hb

theorem exp2_sub (a b : ℝ) : FloatOps.exp2 (F := Ideal) (φ := .f32) ((a : EReal) - (b : EReal)) = (((2 : ℝ) ^ (a - b) : ℝ) : EReal) := by
  rw [← EReal.coe_sub]; rfl

/-- The weighed values of a piece of the sequence are its weighed sum. -/
theorem weighed_apply (s : FVec Ideal S1024x512 .f32) (M : FVec Ideal S1024x1 .f32) (v : Vec Ideal S1x1x512x256 .bf16)
    (r : Fin 1024) (x : Fin 256) (σ : Fin 512 → ℝ) (μ : ℝ) (hs : ∀ j, s (ix2 r j) = (σ j : EReal)) (hM : M (ix2 r 0) = (μ : EReal)) :
    weighed s M v (ix2 r x) = wsum σ μ fun j => v (ix4 0 0 j x) := by
  pointwise [weighed, wsum]
  simp only [hs, hM, exp2_sub]

/-- The weighed values of the context are its weighed sum. -/
theorem weighedC_apply (s : FVec Ideal S1024x256 .f32) (M : FVec Ideal S1024x1 .f32) (v : Vec Ideal S1x1x256x256 .bf16)
    (r : Fin 1024) (x : Fin 256) (σ : Fin 256 → ℝ) (μ : ℝ) (hs : ∀ j, s (ix2 r j) = (σ j : EReal)) (hM : M (ix2 r 0) = (μ : EReal)) :
    weighedC s M v (ix2 r x) = wsum σ μ fun j => v (ix4 0 0 j x) := by
  pointwise [weighedC, wsum]
  simp only [hs, hM, exp2_sub]

/-- What was summed at shift `μ` is brought to shift `ν` by two to the power `μ - ν`. -/
theorem reshift_apply (M N : FVec Ideal S1024x1 .f32) (acc : FVec Ideal S1024x256 .f32) (r : Fin 1024) (x : Fin 256) (μ ν : ℝ)
    (hM : M (ix2 r 0) = (μ : EReal)) (hN : N (ix2 r 0) = (ν : EReal)) :
    reshift M N acc (ix2 r x) = (((2 : ℝ) ^ (μ - ν) : ℝ) : EReal) * acc (ix2 r x) := by
  pointwise [reshift]
  simp only [hM, hN, exp2_sub]

/-- The score of row `256 * g + i` against key `j`. -/
theorem scores_apply (q : Vec Ideal S1x4x256x64 .bf16) (k : Vec Ideal S1x1x512x64 .bf16) (r : Fin 1024) (j : Fin 512) :
    scores (rows q) k (ix2 r j) = ∑ d : Fin 64, q (ix4 0 ⟨r.val / 256, by omega⟩ ⟨r.val % 256, by omega⟩ d) * k (ix4 0 0 j d) := by
  pointwise [scores, rows]

theorem scoresC_apply (q : Vec Ideal S1x4x256x64 .bf16) (k : Vec Ideal S1x1x256x64 .bf16) (r : Fin 1024) (j : Fin 256) :
    scoresC (rows q) k (ix2 r j) = ∑ d : Fin 64, q (ix4 0 ⟨r.val / 256, by omega⟩ ⟨r.val % 256, by omega⟩ d) * k (ix4 0 0 j d) := by
  pointwise [scoresC, rows]

/-- The sums of one key/value head at row `r`: one real shift serves all lanes. -/
theorem sums_apply (qc qs : Vec Ideal S1x4x256x64 .bf16) (kc : Vec Ideal S1x1x256x64 .bf16) (vc : Vec Ideal S1x1x256x256 .bf16)
    (k0 k1 k2 k3 : Vec Ideal S1x1x512x64 .bf16) (v0 v1 v2 v3 : Vec Ideal S1x1x512x256 .bf16) (r : Fin 1024)
    (σ0 σ1 σ2 σ3 : Fin 512 → ℝ) (τ : Fin 256 → ℝ)
    (h0 : ∀ j, scores (rows qs) k0 (ix2 r j) = (σ0 j : EReal)) (h1 : ∀ j, scores (rows qs) k1 (ix2 r j) = (σ1 j : EReal))
    (h2 : ∀ j, scores (rows qs) k2 (ix2 r j) = (σ2 j : EReal)) (h3 : ∀ j, scores (rows qs) k3 (ix2 r j) = (σ3 j : EReal))
    (hc : ∀ j, scoresC (rows qc) kc (ix2 r j) = (τ j : EReal)) :
    ∃ μ : ℝ, ∀ x : Fin 256, sums qc qs kc vc k0 k1 k2 k3 v0 v1 v2 v3 (ix2 r x)
      = (((wsum σ0 μ fun j => v0 (ix4 0 0 j x)) + wsum σ1 μ fun j => v1 (ix4 0 0 j x)) + (wsum σ2 μ fun j => v2 (ix4 0 0 j x))
          + wsum σ3 μ fun j => v3 (ix4 0 0 j x)) + wsum τ μ fun j => vc (ix4 0 0 j x) := by
  obtain ⟨μ0, e0⟩ := top_real _ r fun j => ⟨_, h0 j⟩
  obtain ⟨μ1, e1⟩ := maximumf_real _ _ _ ⟨_, e0⟩ (top_real _ r fun j => ⟨_, h1 j⟩)
  obtain ⟨μ2, e2⟩ := maximumf_real _ _ _ ⟨_, e1⟩ (top_real _ r fun j => ⟨_, h2 j⟩)
  obtain ⟨μ3, e3⟩ := maximumf_real _ _ _ (maximumf_real _ _ _ ⟨_, e2⟩ (top_real _ r fun j => ⟨_, h3 j⟩)) (topC_real _ r fun j => ⟨_, hc j⟩)
  refine ⟨μ3, fun x => ?_⟩
  have p : ∀ a : ℝ, (0 : ℝ) ≤ 2 ^ a := fun a => by positivity
  unfold sums
  simp only [addf_apply, Ideal.addf_def]
  rw [reshift_apply _ _ _ _ _ _ _ e2 e3, weighed_apply _ _ _ _ _ _ _ h3 e3, weighedC_apply _ _ _ _ _ _ _ hc e3]
  simp only [addf_apply, Ideal.addf_def]
  rw [reshift_apply _ _ _ _ _ _ _ e1 e2, weighed_apply _ _ _ _ _ _ _ h2 e2]
  simp only [addf_apply, Ideal.addf_def]
  rw [reshift_apply _ _ _ _ _ _ _ e0 e1, weighed_apply _ _ _ _ _ _ _ h1 e1, weighed_apply _ _ _ _ _ _ _ h0 e0]
  simp only [coe_mul_add (p _), wsum_rescale]

theorem select_low (l : Fin 128) (a b : EReal) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by
    decide +kernel
  rw [h l]
  by_cases hl : l.val < 64
  · rw [if_pos hl, if_pos hl]; rfl
  · rw [if_neg hl, if_neg hl]; rfl

/-- The first two query heads' lanes: a lane below 64 divides values by ones of row `i`, another divides the values (from
    lane 192 of the sums) by ones of row `256 + i`. -/
theorem pair0_apply (a : FVec Ideal S1024x256 .f32) (i : Fin 256) (l : Fin 128) :
    pair0 a (ix2 i l) = if l.val < 64 then Ideal.div (a (ix2 ⟨i.val, by omega⟩ ⟨l.val, by omega⟩)) (a (ix2 ⟨i.val, by omega⟩ ⟨128 + l.val, by omega⟩))
      else Ideal.div (a (ix2 ⟨256 + i.val, by omega⟩ ⟨128 + l.val, by omega⟩)) (a (ix2 ⟨256 + i.val, by omega⟩ ⟨l.val, by omega⟩)) := by
  pointwise [pair0, lanesLow]
  exact select_low l _ _

/-- The last two query heads' lanes, of rows `512 + i` and `768 + i`. -/
theorem pair1_apply (a : FVec Ideal S1024x256 .f32) (i : Fin 256) (l : Fin 128) :
    pair1 a (ix2 i l) = if l.val < 64 then Ideal.div (a (ix2 ⟨512 + i.val, by omega⟩ ⟨l.val, by omega⟩)) (a (ix2 ⟨512 + i.val, by omega⟩ ⟨128 + l.val, by omega⟩))
      else Ideal.div (a (ix2 ⟨768 + i.val, by omega⟩ ⟨128 + l.val, by omega⟩)) (a (ix2 ⟨768 + i.val, by omega⟩ ⟨l.val, by omega⟩)) := by
  pointwise [pair1, lanesLow]
  exact select_low l _ _

/-- The first of the value-sum lanes read for value lane `d` of an even query head is `d`, of an odd one `192 + d`. -/
def numLane (u : Fin 4) (d : Fin 64) : Fin 256 := if u.val % 2 = 0 then ⟨d.val, by omega⟩ else ⟨192 + d.val, by omega⟩

/-- The lane of ones that it is divided by. -/
def denLane (u : Fin 4) (d : Fin 64) : Fin 256 := if u.val % 2 = 0 then ⟨128 + d.val, by omega⟩ else ⟨64 + d.val, by omega⟩

/-- Lane `d` of query head `u` of a key/value head, at query `i`. -/
def lane (a : FVec Ideal S1024x256 .f32) (i : Fin 256) (u : Fin 4) (d : Fin 64) : EReal :=
  Ideal.div (a (ix2 ⟨256 * u.val + i.val, by omega⟩ (numLane u d))) (a (ix2 ⟨256 * u.val + i.val, by omega⟩ (denLane u d)))

theorem pair0_lane (a : FVec Ideal S1024x256 .f32) (i : Fin 256) (z : Fin 128) (u : Fin 2) (d : Fin 64)
    (hz : z.val = 64 * u.val + d.val) : pair0 a (ix2 i z) = lane a i ⟨u.val, by omega⟩ d := by
  rw [show z = ⟨64 * u.val + d.val, by omega⟩ from Fin.ext hz]
  rw [pair0_apply]
  obtain ⟨u, hu⟩ := u
  have hd := d.isLt
  interval_cases u
  · rw [if_pos (by simp only; omega)]; unfold lane numLane denLane; simp
  · rw [if_neg (by simp only; omega)]; unfold lane numLane denLane; simp [← add_assoc]

theorem pair1_lane (a : FVec Ideal S1024x256 .f32) (i : Fin 256) (z : Fin 128) (u : Fin 2) (d : Fin 64)
    (hz : z.val = 64 * u.val + d.val) : pair1 a (ix2 i z) = lane a i ⟨2 + u.val, by omega⟩ d := by
  rw [show z = ⟨64 * u.val + d.val, by omega⟩ from Fin.ext hz]
  rw [pair1_apply]
  obtain ⟨u, hu⟩ := u
  have hd := d.isLt
  interval_cases u
  · rw [if_pos (by simp only; omega)]; unfold lane numLane denLane; simp
  · rw [if_neg (by simp only; omega)]; unfold lane numLane denLane; simp [← add_assoc]

/-- The stored block at query `i`, lane `d` of query head `u` of key/value head `g`: the lane of that head's sums. -/
theorem assemble_apply (a : Fin 4 → FVec Ideal S1024x256 .f32) (i : Fin 256) (g u : Fin 4) (d : Fin 64) :
    assemble (a 0) (a 1) (a 2) (a 3) (ix3 0 i ⟨256 * g.val + 64 * u.val + d.val, by omega⟩) = lane (a g) i u d := by
  have hd := d.isLt
  obtain ⟨g, hg⟩ := g
  obtain ⟨u, hu⟩ := u
  pointwise [assemble]
  split_ifs <;> interval_cases g <;> interval_cases u <;>
    first
    | (exfalso; omega)
    | (refine (pair0_lane _ i _ ⟨0, by omega⟩ d ?_); (try simp only) <;> omega)
    | (refine (pair0_lane _ i _ ⟨1, by omega⟩ d ?_); (try simp only) <;> omega)
    | (refine (pair1_lane _ i _ ⟨0, by omega⟩ d ?_); (try simp only) <;> omega)
    | (refine (pair1_lane _ i _ ⟨1, by omega⟩ d ?_); (try simp only) <;> omega)

end Cert.KernelIdeal.Hand

end
-- ==== Proof.HeadLane.lean ====
/-
  One lane of the kernel's result, from a key/value head's loaded pieces: the attention (`Cert.Attend.att`) of the query to
  the value lane. The pieces are described by functions of coordinates: four query heads' rows, the 2048 keys and values
  (512 to a piece), the 256 keys and values of the context.
-/
module

public import proofs.«01_k».proof.Proof.HeadValue

@[expose] public section

set_option maxRecDepth 16384

noncomputable section

namespace Cert.KernelIdeal.Hand

open Cert.KernelIdeal Cert.KernelIdeal.Gen Cert.Attend Idealize.ShloMosaic Idealize.SL.Sem

/-- A weighed sum over 2048 keys, 512 at a time. -/
theorem wsum_four (s : Fin 2048 → ℝ) (μ : ℝ) (v : Fin 2048 → EReal) :
    wsum s μ v = (wsum (fun j : Fin 512 => s ⟨j.val, by omega⟩) μ (fun j => v ⟨j.val, by omega⟩)
        + wsum (fun j : Fin 512 => s ⟨512 + j.val, by omega⟩) μ (fun j => v ⟨512 + j.val, by omega⟩)
        + wsum (fun j : Fin 512 => s ⟨1024 + j.val, by omega⟩) μ (fun j => v ⟨1024 + j.val, by omega⟩))
        + wsum (fun j : Fin 512 => s ⟨1536 + j.val, by omega⟩) μ (fun j => v ⟨1536 + j.val, by omega⟩) := by
  unfold wsum
  rw [Fin.sum_univ_two_halves 1536 512 rfl, Fin.sum_univ_two_halves 1024 512 rfl, Fin.sum_univ_two_halves 512 512 rfl]

/-- The row of query `i` of query head `u`. -/
def rowOf (u : Fin 4) (i : Fin 256) : Fin 1024 := ⟨256 * u.val + i.val, by omega⟩

theorem rowOf_div (u : Fin 4) (i : Fin 256) (h) : (⟨(rowOf u i).val / 256, h⟩ : Fin 4) = u := Fin.ext (by simp only [rowOf]; omega)
theorem rowOf_mod (u : Fin 4) (i : Fin 256) (h) : (⟨(rowOf u i).val % 256, h⟩ : Fin 256) = i := Fin.ext (by simp only [rowOf]; omega)

section
variable (qc qs : Vec Ideal S1x4x256x64 .bf16) (kc : Vec Ideal S1x1x256x64 .bf16) (vc : Vec Ideal S1x1x256x256 .bf16)
  (k0 k1 k2 k3 : Vec Ideal S1x1x512x64 .bf16) (v0 v1 v2 v3 : Vec Ideal S1x1x512x256 .bf16)
  (Qc Qs : Fin 4 → Fin 256 → Fin 64 → EReal) (K : Fin 2048 → Fin 64 → EReal) (KC : Fin 256 → Fin 64 → EReal)
  (VV : Fin 2048 → Fin 64 → EReal) (VC : Fin 256 → Fin 64 → EReal)

theorem scores_of (q : Vec Ideal S1x4x256x64 .bf16) (k : Vec Ideal S1x1x512x64 .bf16) (Q : Fin 4 → Fin 256 → Fin 64 → EReal)
    (K : Fin 512 → Fin 64 → EReal) (hq : ∀ u i d, q (ix4 0 u i d) = Q u i d) (hk : ∀ j d, k (ix4 0 0 j d) = K j d)
    (u : Fin 4) (i : Fin 256) (hf : ∀ j, ∃ r : ℝ, ∑ d, Q u i d * K j d = r) (j : Fin 512) :
    scores (rows q) k (ix2 (rowOf u i) j) = ((∑ d, Q u i d * K j d).toReal : EReal) := by
  rw [scores_apply, coe_toReal_of (hf j)]
  simp only [rowOf_div, rowOf_mod, hq, hk]

theorem scoresC_of (q : Vec Ideal S1x4x256x64 .bf16) (k : Vec Ideal S1x1x256x64 .bf16) (Q : Fin 4 → Fin 256 → Fin 64 → EReal)
    (K : Fin 256 → Fin 64 → EReal) (hq : ∀ u i d, q (ix4 0 u i d) = Q u i d) (hk : ∀ j d, k (ix4 0 0 j d) = K j d)
    (u : Fin 4) (i : Fin 256) (hf : ∀ j, ∃ r : ℝ, ∑ d, Q u i d * K j d = r) (j : Fin 256) :
    scoresC (rows q) k (ix2 (rowOf u i) j) = ((∑ d, Q u i d * K j d).toReal : EReal) := by
  rw [scoresC_apply, coe_toReal_of (hf j)]
  simp only [rowOf_div, rowOf_mod, hq, hk]

/-- A lane of a head's result is the attention of its query to its value lane. -/
theorem head_lane
    (hqc : ∀ u i d, qc (ix4 0 u i d) = Qc u i d) (hqs : ∀ u i d, qs (ix4 0 u i d) = Qs u i d)
    (hkc : ∀ j d, kc (ix4 0 0 j d) = KC j d)
    (hvc : ∀ j u d, vc (ix4 0 0 j (numLane u d)) = VC j d) (hvc' : ∀ j u d, vc (ix4 0 0 j (denLane u d)) = (1 : EReal))
    (hk0 : ∀ (j : Fin 512) d, k0 (ix4 0 0 j d) = K ⟨j.val, by omega⟩ d) (hk1 : ∀ (j : Fin 512) d, k1 (ix4 0 0 j d) = K ⟨512 + j.val, by omega⟩ d)
    (hk2 : ∀ (j : Fin 512) d, k2 (ix4 0 0 j d) = K ⟨1024 + j.val, by omega⟩ d) (hk3 : ∀ (j : Fin 512) d, k3 (ix4 0 0 j d) = K ⟨1536 + j.val, by omega⟩ d)
    (hv0 : ∀ (j : Fin 512) u d, v0 (ix4 0 0 j (numLane u d)) = VV ⟨j.val, by omega⟩ d) (hv0' : ∀ (j : Fin 512) u d, v0 (ix4 0 0 j (denLane u d)) = (1 : EReal))
    (hv1 : ∀ (j : Fin 512) u d, v1 (ix4 0 0 j (numLane u d)) = VV ⟨512 + j.val, by omega⟩ d) (hv1' : ∀ (j : Fin 512) u d, v1 (ix4 0 0 j (denLane u d)) = (1 : EReal))
    (hv2 : ∀ (j : Fin 512) u d, v2 (ix4 0 0 j (numLane u d)) = VV ⟨1024 + j.val, by omega⟩ d) (hv2' : ∀ (j : Fin 512) u d, v2 (ix4 0 0 j (denLane u d)) = (1 : EReal))
    (hv3 : ∀ (j : Fin 512) u d, v3 (ix4 0 0 j (numLane u d)) = VV ⟨1536 + j.val, by omega⟩ d) (hv3' : ∀ (j : Fin 512) u d, v3 (ix4 0 0 j (denLane u d)) = (1 : EReal))
    (i : Fin 256) (u : Fin 4) (d : Fin 64)
    (hf : ∀ j, ∃ r : ℝ, ∑ d, Qs u i d * K j d = r) (hfc : ∀ j, ∃ r : ℝ, ∑ d, Qc u i d * KC j d = r) :
    lane (sums qc qs kc vc k0 k1 k2 k3 v0 v1 v2 v3) i u d
      = att (fun j => (∑ d, Qs u i d * K j d).toReal) (fun j => (∑ d, Qc u i d * KC j d).toReal) (fun j => VV j d) (fun j => VC j d) := by
  obtain ⟨μ, h⟩ := sums_apply qc qs kc vc k0 k1 k2 k3 v0 v1 v2 v3 (rowOf u i) _ _ _ _ _
    (scores_of qs k0 Qs _ hqs hk0 u i fun j => hf _) (scores_of qs k1 Qs _ hqs hk1 u i fun j => hf _)
    (scores_of qs k2 Qs _ hqs hk2 u i fun j => hf _) (scores_of qs k3 Qs _ hqs hk3 u i fun j => hf _)
    (scoresC_of qc kc Qc _ hqc hkc u i hfc)
  rw [← div_wsum _ _ μ, wsum_four, wsum_four]
  show Ideal.div (sums qc qs kc vc k0 k1 k2 k3 v0 v1 v2 v3 (ix2 (rowOf u i) (numLane u d))) (sums qc qs kc vc k0 k1 k2 k3 v0 v1 v2 v3 (ix2 (rowOf u i) (denLane u d))) = _
  rw [h, h]
  simp only [hv0, hv1, hv2, hv3, hv0', hv1', hv2', hv3', hvc, hvc']
end

end Cert.KernelIdeal.Hand

end
-- ==== Proof.Final.lean ====
/-
  The kernel's result array: at batch `b`, query `n`, lane `256 g + 64 u + d` it is the attention of query head `4 g + u` to
  lane `d` of the values of key/value head `g` — where queries and keys are reals.
-/
module

public import proofs.«01_k».proof.Proof.Blocks
public import proofs.«01_k».proof.Proof.HeadLane

@[expose] public section

set_option maxRecDepth 16384

noncomputable section

namespace Cert.KernelIdeal.Hand

open Cert.KernelIdeal Cert.KernelIdeal.Gen Cert.Attend Idealize.ShloMosaic Idealize.ShloMosaic.TcCoe Idealize.SL.Sem

/-! ## The host's rows of values -/

theorem aug_num (v : Vec Ideal S16x4x2048x64 .bf16) (b : Fin 16) (g : Fin 4) (j : Fin 2048) (u : Fin 4) (d : Fin 64) :
    aug v (ix4 b g j (numLane u d)) = v (ix4 b g j d) := by
  unfold numLane
  split_ifs <;> pointwise [aug] <;> (split_ifs <;> first | (exfalso; omega) | (congr 1; congr 1; apply Fin.ext; simp only; omega) | rfl)

theorem aug_den (v : Vec Ideal S16x4x2048x64 .bf16) (b : Fin 16) (g : Fin 4) (j : Fin 2048) (u : Fin 4) (d : Fin 64) :
    aug v (ix4 b g j (denLane u d)) = (1 : EReal) := by
  unfold denLane
  split_ifs <;> pointwise [aug] <;> (split_ifs <;> first | (exfalso; omega) | exact ofBits_one_bf16 | rfl)

theorem augC_num (v : Vec Ideal S16x4x256x64 .bf16) (b : Fin 16) (g : Fin 4) (j : Fin 256) (u : Fin 4) (d : Fin 64) :
    augC v (ix4 b g j (numLane u d)) = v (ix4 b g j d) := by
  unfold numLane
  split_ifs <;> pointwise [augC] <;> (split_ifs <;> first | (exfalso; omega) | (congr 1; congr 1; apply Fin.ext; simp only; omega) | rfl)

theorem augC_den (v : Vec Ideal S16x4x256x64 .bf16) (b : Fin 16) (g : Fin 4) (j : Fin 256) (u : Fin 4) (d : Fin 64) :
    augC v (ix4 b g j (denLane u d)) = (1 : EReal) := by
  unfold denLane
  split_ifs <;> pointwise [augC] <;> (split_ifs <;> first | (exfalso; omega) | exact ofBits_one_bf16 | rfl)

/-! ## A point's block -/

section
variable (m : (ℓ : Loc nD τ sig) → Buf (Elt Ideal) ℓ) (c : Dev nD)

/-- Attention of query head `4 g + u` of batch `b` at query `n`, to lane `d`: over the sequence's scores and the context's,
    in base two. -/
def attAt (qp qr : Vec Ideal S16x16x2048x64 .bf16) (k v : Vec Ideal S16x4x2048x64 .bf16) (kc vc : Vec Ideal S16x4x256x64 .bf16)
    (b : Fin 16) (g u : Fin 4) (n : Fin 2048) (d : Fin 64) : EReal :=
  att (fun j : Fin 2048 => (∑ d : Fin 64, qr (ix4 b ⟨g.val * 4 + u.val, by omega⟩ n d) * k (ix4 b g j d) : EReal).toReal)
    (fun j : Fin 256 => (∑ d : Fin 64, qp (ix4 b ⟨g.val * 4 + u.val, by omega⟩ n d) * kc (ix4 b g j d) : EReal).toReal)
    (fun j => v (ix4 b g j d)) (fun j => vc (ix4 b g j d))

/-- The result array: the attention, lanes by key/value head, query head and lane. -/
def G (qp qr : Vec Ideal S16x16x2048x64 .bf16) (k v : Vec Ideal S16x4x2048x64 .bf16) (kc vc : Vec Ideal S16x4x256x64 .bf16) :
    Vec Ideal S16x2048x1024 .bf16 := fun i =>
  attAt qp qr k v kc vc (i 0) ⟨(i 2).val / 256, by have : (i 2).val < 1024 := (i 2).isLt; omega⟩ ⟨(i 2).val / 64 % 4, by omega⟩ (i 1) ⟨(i 2).val % 64, by omega⟩

theorem G_apply (qp qr : Vec Ideal S16x16x2048x64 .bf16) (k v : Vec Ideal S16x4x2048x64 .bf16) (kc vc : Vec Ideal S16x4x256x64 .bf16)
    (b : Fin 16) (n : Fin 2048) (g u : Fin 4) (d : Fin 64) :
    G qp qr k v kc vc (ix3 b n ⟨256 * g.val + 64 * u.val + d.val, by omega⟩) = attAt qp qr k v kc vc b g u n d := by
  have e1 : (⟨(256 * g.val + 64 * u.val + d.val) / 256, by omega⟩ : Fin 4) = g := Fin.ext (by simp only; omega)
  have e2 : (⟨(256 * g.val + 64 * u.val + d.val) / 64 % 4, by omega⟩ : Fin 4) = u := Fin.ext (by simp only; omega)
  have e3 : (⟨(256 * g.val + 64 * u.val + d.val) % 64, by omega⟩ : Fin 64) = d := Fin.ext (by simp only; omega)
  show attAt qp qr k v kc vc b ⟨(256 * g.val + 64 * u.val + d.val) / 256, _⟩ ⟨(256 * g.val + 64 * u.val + d.val) / 64 % 4, _⟩ n ⟨(256 * g.val + 64 * u.val + d.val) % 64, _⟩ = _
  rw [e1, e2, e3]

/-- Queries and keys are reals. -/
def Real4 (qp qr : Vec Ideal S16x16x2048x64 .bf16) (k : Vec Ideal S16x4x2048x64 .bf16) (kc : Vec Ideal S16x4x256x64 .bf16) : Prop :=
  (∀ i, ∃ r : ℝ, (qp i : EReal) = r) ∧ (∀ i, ∃ r : ℝ, (qr i : EReal) = r) ∧ (∀ i, ∃ r : ℝ, (k i : EReal) = r) ∧ (∀ i, ∃ r : ℝ, (kc i : EReal) = r)

/-- The sums of the four key/value heads of a point's block. -/
def sumsAt (t : Fin cfg0.N) : Fin 4 → FVec Ideal S1024x256 .f32
  | 0 => sums0 (iblk m c 0 t) (iblk m c 1 t) (iblk m c 2 t) (iblk m c 3 t) (iblk m c 4 t) (iblk m c 5 t)
  | 1 => sums1 (iblk m c 0 t) (iblk m c 1 t) (iblk m c 2 t) (iblk m c 3 t) (iblk m c 4 t) (iblk m c 5 t)
  | 2 => sums2 (iblk m c 0 t) (iblk m c 1 t) (iblk m c 2 t) (iblk m c 3 t) (iblk m c 4 t) (iblk m c 5 t)
  | 3 => sums3 (iblk m c 0 t) (iblk m c 1 t) (iblk m c 2 t) (iblk m c 3 t) (iblk m c 4 t) (iblk m c 5 t)

/-- A loaded piece of queries, read in its block. -/
theorem ld_q (x : Vec Ideal S1x16x256x64 .bf16) (o : ℕ) (hi : ∀ a, (![0, o, 0, 0] : Fin 4 → Nat) a + S1x4x256x64.size a ≤ S1x16x256x64.size a) (u : Fin 4) (i : Fin 256) (d : Fin 64) (h : o + u.val < 16) :
    View.ld x (Rect.unit (s := S1x16x256x64) ![0, o, 0, 0] S1x4x256x64.size hi) (ix4 0 u i d) = x (ix4 0 ⟨o + u.val, h⟩ i d) := by
  pointwise

theorem ld_k (x : Vec Ideal S1x4x2048x64 .bf16) (g o : ℕ) (hi : ∀ a, (![0, g, o, 0] : Fin 4 → Nat) a + S1x1x512x64.size a ≤ S1x4x2048x64.size a) (j : Fin 512) (d : Fin 64) (hg : g < 4) (h : o + j.val < 2048) :
    View.ld x (Rect.unit (s := S1x4x2048x64) ![0, g, o, 0] S1x1x512x64.size hi) (ix4 0 0 j d) = x (ix4 0 ⟨g, hg⟩ ⟨o + j.val, h⟩ d) := by
  pointwise

theorem ld_v (x : Vec Ideal S1x4x2048x256 .bf16) (g o : ℕ) (hi : ∀ a, (![0, g, o, 0] : Fin 4 → Nat) a + S1x1x512x256.size a ≤ S1x4x2048x256.size a) (j : Fin 512) (d : Fin 256) (hg : g < 4) (h : o + j.val < 2048) :
    View.ld x (Rect.unit (s := S1x4x2048x256) ![0, g, o, 0] S1x1x512x256.size hi) (ix4 0 0 j d) = x (ix4 0 ⟨g, hg⟩ ⟨o + j.val, h⟩ d) := by
  pointwise

theorem ld_kc (x : Vec Ideal S1x4x256x64 .bf16) (g : ℕ) (hi : ∀ a, (![0, g, 0, 0] : Fin 4 → Nat) a + S1x1x256x64.size a ≤ S1x4x256x64.size a) (j : Fin 256) (d : Fin 64) (hg : g < 4) :
    View.ld x (Rect.unit (s := S1x4x256x64) ![0, g, 0, 0] S1x1x256x64.size hi) (ix4 0 0 j d) = x (ix4 0 ⟨g, hg⟩ j d) := by
  pointwise

theorem ld_vc (x : Vec Ideal S1x4x256x256 .bf16) (g : ℕ) (hi : ∀ a, (![0, g, 0, 0] : Fin 4 → Nat) a + S1x1x256x256.size a ≤ S1x4x256x256.size a) (j : Fin 256) (d : Fin 256) (hg : g < 4) :
    View.ld x (Rect.unit (s := S1x4x256x256) ![0, g, 0, 0] S1x1x256x256.size hi) (ix4 0 0 j d) = x (ix4 0 ⟨g, hg⟩ j d) := by
  pointwise

/-- Where queries and keys are reals, a lane of a head's sums at a point is the attention it stands for. -/
theorem head_att (t : Fin cfg0.N) (g : Fin 4)
    (hR : Real4 (m ((c : Thread nD τ).loc main_arg0)) (m ((c : Thread nD τ).loc main_arg1)) (m ((c : Thread nD τ).loc main_arg2)) (m ((c : Thread nD τ).loc main_arg4)))
    (hq : ∀ a, (![0, g.val * 4, 0, 0] : Fin 4 → Nat) a + S1x4x256x64.size a ≤ S1x16x256x64.size a)
    (hkc : ∀ a, (![0, g.val, 0, 0] : Fin 4 → Nat) a + S1x1x256x64.size a ≤ S1x4x256x64.size a)
    (hvc : ∀ a, (![0, g.val, 0, 0] : Fin 4 → Nat) a + S1x1x256x256.size a ≤ S1x4x256x256.size a)
    (hk0 : ∀ a, (![0, g.val, 0, 0] : Fin 4 → Nat) a + S1x1x512x64.size a ≤ S1x4x2048x64.size a)
    (hk1 : ∀ a, (![0, g.val, 512, 0] : Fin 4 → Nat) a + S1x1x512x64.size a ≤ S1x4x2048x64.size a)
    (hk2 : ∀ a, (![0, g.val, 1024, 0] : Fin 4 → Nat) a + S1x1x512x64.size a ≤ S1x4x2048x64.size a)
    (hk3 : ∀ a, (![0, g.val, 1536, 0] : Fin 4 → Nat) a + S1x1x512x64.size a ≤ S1x4x2048x64.size a)
    (hv0 : ∀ a, (![0, g.val, 0, 0] : Fin 4 → Nat) a + S1x1x512x256.size a ≤ S1x4x2048x256.size a)
    (hv1 : ∀ a, (![0, g.val, 512, 0] : Fin 4 → Nat) a + S1x1x512x256.size a ≤ S1x4x2048x256.size a)
    (hv2 : ∀ a, (![0, g.val, 1024, 0] : Fin 4 → Nat) a + S1x1x512x256.size a ≤ S1x4x2048x256.size a)
    (hv3 : ∀ a, (![0, g.val, 1536, 0] : Fin 4 → Nat) a + S1x1x512x256.size a ≤ S1x4x2048x256.size a)
    (i : Fin 256) (u : Fin 4) (d : Fin 64) :
    lane (sums (View.ld (iblk m c 0 t) (Rect.unit (s := S1x16x256x64) ![0, g.val * 4, 0, 0] S1x4x256x64.size hq))
        (View.ld (iblk m c 1 t) (Rect.unit (s := S1x16x256x64) ![0, g.val * 4, 0, 0] S1x4x256x64.size hq))
        (View.ld (iblk m c 4 t) (Rect.unit (s := S1x4x256x64) ![0, g.val, 0, 0] S1x1x256x64.size hkc))
        (View.ld (iblk m c 5 t) (Rect.unit (s := S1x4x256x256) ![0, g.val, 0, 0] S1x1x256x256.size hvc))
        (View.ld (iblk m c 2 t) (Rect.unit (s := S1x4x2048x64) ![0, g.val, 0, 0] S1x1x512x64.size hk0))
        (View.ld (iblk m c 2 t) (Rect.unit (s := S1x4x2048x64) ![0, g.val, 512, 0] S1x1x512x64.size hk1))
        (View.ld (iblk m c 2 t) (Rect.unit (s := S1x4x2048x64) ![0, g.val, 1024, 0] S1x1x512x64.size hk2))
        (View.ld (iblk m c 2 t) (Rect.unit (s := S1x4x2048x64) ![0, g.val, 1536, 0] S1x1x512x64.size hk3))
        (View.ld (iblk m c 3 t) (Rect.unit (s := S1x4x2048x256) ![0, g.val, 0, 0] S1x1x512x256.size hv0))
        (View.ld (iblk m c 3 t) (Rect.unit (s := S1x4x2048x256) ![0, g.val, 512, 0] S1x1x512x256.size hv1))
        (View.ld (iblk m c 3 t) (Rect.unit (s := S1x4x2048x256) ![0, g.val, 1024, 0] S1x1x512x256.size hv2))
        (View.ld (iblk m c 3 t) (Rect.unit (s := S1x4x2048x256) ![0, g.val, 1536, 0] S1x1x512x256.size hv3))) i u d
      = attAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (batch t) g u (query t i) d := by
  obtain ⟨h0, h1, h2, h4⟩ := hR
  have hz : ∀ j : Fin 512, (⟨0 + j.val, by omega⟩ : Fin 2048) = ⟨j.val, by omega⟩ := fun j => Fin.ext (Nat.zero_add _)
  have hv : ∀ (o : ℕ) (h) (j : Fin 512) (u : Fin 4) (d : Fin 64) (hj : o + j.val < 2048),
      View.ld (iblk m c 3 t) (Rect.unit (s := S1x4x2048x256) ![0, g.val, o, 0] S1x1x512x256.size h) (ix4 0 0 j (numLane u d))
        = m ((c : Thread nD τ).loc main_arg3) (ix4 (batch t) g ⟨o + j.val, hj⟩ d) := fun o h j u d hj =>
    (ld_v _ _ o h j _ g.isLt hj).trans ((blk3 m c t g _ _).trans (aug_num _ _ _ _ _ _))
  have hv' : ∀ (o : ℕ) (h) (j : Fin 512) (u : Fin 4) (d : Fin 64) (hj : o + j.val < 2048),
      View.ld (iblk m c 3 t) (Rect.unit (s := S1x4x2048x256) ![0, g.val, o, 0] S1x1x512x256.size h) (ix4 0 0 j (denLane u d)) = (1 : EReal) := fun o h j u d hj =>
    (ld_v _ _ o h j _ g.isLt hj).trans ((blk3 m c t g _ _).trans (aug_den _ _ _ _ _ _))
  have hk : ∀ (o : ℕ) (h) (j : Fin 512) (d : Fin 64) (hj : o + j.val < 2048),
      View.ld (iblk m c 2 t) (Rect.unit (s := S1x4x2048x64) ![0, g.val, o, 0] S1x1x512x64.size h) (ix4 0 0 j d)
        = m ((c : Thread nD τ).loc main_arg2) (ix4 (batch t) g ⟨o + j.val, hj⟩ d) := fun o h j d hj =>
    (ld_k _ _ o h j d g.isLt hj).trans (blk2 m c t g _ d)
  refine head_lane _ _ _ _ _ _ _ _ _ _ _ _
    (fun u i d => m ((c : Thread nD τ).loc main_arg0) (ix4 (batch t) ⟨g.val * 4 + u.val, by omega⟩ (query t i) d))
    (fun u i d => m ((c : Thread nD τ).loc main_arg1) (ix4 (batch t) ⟨g.val * 4 + u.val, by omega⟩ (query t i) d))
    (fun j d => m ((c : Thread nD τ).loc main_arg2) (ix4 (batch t) g j d))
    (fun j d => m ((c : Thread nD τ).loc main_arg4) (ix4 (batch t) g j d))
    (fun j d => m ((c : Thread nD τ).loc main_arg3) (ix4 (batch t) g j d))
    (fun j d => m ((c : Thread nD τ).loc main_arg5) (ix4 (batch t) g j d))
    (fun u i d => (ld_q _ _ hq u i d (by omega)).trans (blk0 m c t _ i d))
    (fun u i d => (ld_q _ _ hq u i d (by omega)).trans (blk1 m c t _ i d))
    (fun j d => (ld_kc _ _ hkc j d g.isLt).trans (blk4 m c t g j d))
    (fun j u d => (ld_vc _ _ hvc j _ g.isLt).trans ((blk5 m c t g j _).trans (augC_num _ _ _ _ _ _)))
    (fun j u d => (ld_vc _ _ hvc j _ g.isLt).trans ((blk5 m c t g j _).trans (augC_den _ _ _ _ _ _)))
    (fun j d => (hk 0 hk0 j d (by omega)).trans (by rw [hz])) (fun j d => hk 512 hk1 j d _) (fun j d => hk 1024 hk2 j d _) (fun j d => hk 1536 hk3 j d _)
    (fun j u d => (hv 0 hv0 j u d (by omega)).trans (by rw [hz])) (fun j u d => hv' 0 hv0 j u d (by omega))
    (fun j u d => hv 512 hv1 j u d _) (fun j u d => hv' 512 hv1 j u d (by omega))
    (fun j u d => hv 1024 hv2 j u d _) (fun j u d => hv' 1024 hv2 j u d (by omega))
    (fun j u d => hv 1536 hv3 j u d _) (fun j u d => hv' 1536 hv3 j u d (by omega))
    i u d (fun j => finite_sum fun d => finite_mul (h1 _) (h2 _)) (fun j => finite_sum fun d => finite_mul (h0 _) (h4 _))

theorem sumsAt_lane (t : Fin cfg0.N)
    (hR : Real4 (m ((c : Thread nD τ).loc main_arg0)) (m ((c : Thread nD τ).loc main_arg1)) (m ((c : Thread nD τ).loc main_arg2)) (m ((c : Thread nD τ).loc main_arg4)))
    (g : Fin 4) (i : Fin 256) (u : Fin 4) (d : Fin 64) :
    lane (sumsAt m c t g) i u d
      = attAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (batch t) g u (query t i) d := by
  match g with
  | 0 => exact head_att m c t 0 hR _ _ _ _ _ _ _ _ _ _ _ i u d
  | 1 => exact head_att m c t 1 hR _ _ _ _ _ _ _ _ _ _ _ i u d
  | 2 => exact head_att m c t 2 hR _ _ _ _ _ _ _ _ _ _ _ i u d
  | 3 => exact head_att m c t 3 hR _ _ _ _ _ _ _ _ _ _ _ i u d

/-! ## The result array -/

theorem zeros3 : (![0, 0, 0] : Fin 3 → ℕ) = fun _ => 0 := funext fun a => by fin_cases a <;> rfl

/-- What a point writes back is its block of `G` of the arguments. -/
theorem flushed_eq (hR : Real4 (m ((c : Thread nD τ).loc main_arg0)) (m ((c : Thread nD τ).loc main_arg1)) (m ((c : Thread nD τ).loc main_arg2)) (m ((c : Thread nD τ).loc main_arg4)))
    (t : Fin cfg0.N) : (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed6, out_eq, View.canon_unit_zero zeros3]
  funext y
  obtain ⟨z, i, l, rfl⟩ : ∃ (z : Fin 1) (i : Fin 256) (l : Fin 1024), y = ix3 z i l := ⟨y 0, y 1, y 2, eq_ix3 y⟩
  obtain rfl : z = 0 := Subsingleton.elim _ _
  obtain ⟨g, u, d, rfl⟩ : ∃ (g u : Fin 4) (d : Fin 64), l = ⟨256 * g.val + 64 * u.val + d.val, by omega⟩ :=
    ⟨⟨l.val / 256, by omega⟩, ⟨l.val / 64 % 4, by omega⟩, ⟨l.val % 64, by omega⟩, Fin.ext (by simp only; omega)⟩
  show assemble (sumsAt m c t 0) (sumsAt m c t 1) (sumsAt m c t 2) (sumsAt m c t 3) (ix3 0 i ⟨256 * g.val + 64 * u.val + d.val, _⟩)
    = G _ _ _ _ _ _ (((cfg0.win 6).blk t).view.emb (ix3 0 i ⟨256 * g.val + 64 * u.val + d.val, _⟩))
  rw [emb6, assemble_apply (sumsAt m c t), sumsAt_lane m c t hR, G_apply]

/-- The result array after the run. -/
theorem final (hR : Real4 (m ((c : Thread nD τ).loc main_arg0)) (m ((c : Thread nD τ).loc main_arg1)) (m ((c : Thread nD τ).loc main_arg2)) (m ((c : Thread nD τ).loc main_arg4))) :
    (dats m 0 c).arrAt 6 cfg0.N = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c hR t) cover
end

end Cert.KernelIdeal.Hand

end
-- ==== Proof.RefRead.lean ====
/-
  The reference's result, read at an index: the attention (`Cert.Attend.att`) of that query to that value lane.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Hand

open Cert.ReferenceIdeal Cert.ReferenceIdeal.Gen Cert.Attend Idealize.ShloMosaic Idealize.ShloMosaic.TcCoe Idealize.SL.Sem

section
variable {F : FTy → Type} [FloatOps F]

/-- The scores of every query against every key of the sequence, times `log 2`. -/
def lat (q : Vec F S16x16x2048x64 .bf16) (k : Vec F S16x4x2048x64 .bf16) : FVec F S16x4x4x2048x2048 .f32 :=
  mulf (Host.dotGeneral dot_S16x4x4x2048x64_S16x4x2048x64_S16x4x4x2048x2048_4_3_23_2_01_01 none
      (shapeCast S16x4x4x2048x64 (extf .f32 q bitsLt_bf16_f32 : FVec F S16x16x2048x64 .f32) shapeCasts_S16x16x2048x64_S16x4x4x2048x64 : FVec F S16x4x4x2048x64 .f32)
      (extf .f32 k bitsLt_bf16_f32))
    (broadcastInDim S16x4x4x2048x2048 ![] bcast_S_S16x4x4x2048x2048 (Host.log (constant S_ .f32 0x40000000#32)))

/-- The same against the context's keys. -/
def ctx (q : Vec F S16x16x2048x64 .bf16) (k : Vec F S16x4x256x64 .bf16) : FVec F S16x4x4x2048x256 .f32 :=
  mulf (Host.dotGeneral dot_S16x4x4x2048x64_S16x4x256x64_S16x4x4x2048x256_4_3_23_2_01_01 none
      (shapeCast S16x4x4x2048x64 (extf .f32 q bitsLt_bf16_f32 : FVec F S16x16x2048x64 .f32) shapeCasts_S16x16x2048x64_S16x4x4x2048x64 : FVec F S16x4x4x2048x64 .f32)
      (extf .f32 k bitsLt_bf16_f32))
    (broadcastInDim S16x4x4x2048x256 ![] bcast_S_S16x4x4x2048x256 (Host.log (constant S_ .f32 0x40000000#32)))

/-- The joined scores. -/
def joined (a : FVec F S16x4x4x2048x2048 .f32) (b : FVec F S16x4x4x2048x256 .f32) : FVec F S16x4x4x2048x2304 .f32 :=
  concatenate S16x4x4x2048x2304 4 [⟨S16x4x4x2048x2048, a⟩, ⟨S16x4x4x2048x256, b⟩] concatenates_S16x4x4x2048x2048_S16x4x4x2048x256_S16x4x4x2048x2304_d4

/-- Each query's greatest score. -/
def greatest (s : FVec F S16x4x4x2048x2304 .f32) : FVec F S16x4x4x2048 .f32 :=
  Host.reduce FloatOps.maximumf s (constant S_ .f32 0xFF800000#32) reducesTo_S16x4x4x2048x2304_S16x4x4x2048_d4 h_S_

/-- The greater of minus infinity and a vector. -/
def notBelow (x : FVec F S16x4x4x2048 .f32) : FVec F S16x4x4x2048 .f32 :=
  maximumf (broadcastInDim S16x4x4x2048 ![] bcast_S_S16x4x4x2048 (constant S_ .f32 0xFF800000#32)) x

/-- Each query's shift: its greatest score. -/
def shift (s : FVec F S16x4x4x2048x2304 .f32) : FVec F S16x4x4x2048 .f32 := notBelow (greatest s)

/-- One number per query, along the keys. -/
def along (x : FVec F S16x4x4x2048 .f32) : FVec F S16x4x4x2048x2304 .f32 :=
  broadcastInDim S16x4x4x2048x2304 ![0, 1, 2, 3, 4] bcast_S16x4x4x2048x1_S16x4x4x2048x2304_0_1_2_3_4
    (broadcastInDim S16x4x4x2048x1 ![0, 1, 2, 3] bcast_S16x4x4x2048_S16x4x4x2048x1_0_1_2_3 x)

/-- The exponentials of the shifted scores. -/
def expo (s : FVec F S16x4x4x2048x2304 .f32) : FVec F S16x4x4x2048x2304 .f32 := Host.exp (subf s (along (shift s)))

/-- The exponentials over their total. -/
def probs (e : FVec F S16x4x4x2048x2304 .f32) : FVec F S16x4x4x2048x2304 .f32 :=
  Host.divf e (along (Host.reduceAdd e (constant S_ .f32 0x00000000#32) reducesTo_S16x4x4x2048x2304_S16x4x4x2048_d4 h_S_))

/-- The values weighed by the probabilities. -/
def outp (p : FVec F S16x4x4x2048x2304 .f32) (v : Vec F S16x4x2048x64 .bf16) (vc : Vec F S16x4x256x64 .bf16) : Vec F S16x2048x1024 .bf16 :=
  truncf .bf16 (shapeCast S16x2048x1024 (addf
    (transpose S16x2048x4x4x64 [0, 4, 1, 3, 2] (Host.dotGeneral dot_S16x4x2048x64_S16x4x4x2048x2048_S16x4x64x4x2048_2_4_3_23_01_01 none
      (extf .f32 v bitsLt_bf16_f32) (extractStridedSlice S16x4x4x2048x2048 ![0, 0, 0, 0, 0] p slices_S16x4x4x2048x2304_S16x4x4x2048x2048_0_0_0_0_0)) transposes_S16x4x64x4x2048_S16x2048x4x4x64_0_4_1_3_2)
    (transpose S16x2048x4x4x64 [0, 4, 1, 3, 2] (Host.dotGeneral dot_S16x4x256x64_S16x4x4x2048x256_S16x4x64x4x2048_2_4_3_23_01_01 none
      (extf .f32 vc bitsLt_bf16_f32) (extractStridedSlice S16x4x4x2048x256 ![0, 0, 0, 0, 2048] p slices_S16x4x4x2048x2304_S16x4x4x2048x256_0_0_0_0_2048)) transposes_S16x4x64x4x2048_S16x2048x4x4x64_0_4_1_3_2)
    : FVec F S16x2048x4x4x64 .f32) shapeCasts_S16x2048x4x4x64_S16x2048x1024 : FVec F S16x2048x1024 .f32) bitsLt_bf16_f32

/-- The reference is these steps, one after another. -/
theorem res_eq (m : (ℓ : Loc nD τ sig) → Buf (Elt F) ℓ) (c : Dev nD) :
    Value.res_out0 m c = outp (probs (expo (joined (lat (m ((c : Thread nD τ).loc main_arg1)) (m ((c : Thread nD τ).loc main_arg2)))
      (ctx (m ((c : Thread nD τ).loc main_arg0)) (m ((c : Thread nD τ).loc main_arg4))))))
      (m ((c : Thread nD τ).loc main_arg3)) (m ((c : Thread nD τ).loc main_arg5)) := by
  unfold Value.res_out0 Value.res_main_v35
  rfl
end

theorem ofBits_negInf : Ideal.ofBits .f32 0xFF800000#32 = ⊥ := by
  show Ideal.ieee 8 23 (0xFF800000#32) = ⊥
  unfold Ideal.ieee
  simp

theorem ofBits_two : Ideal.ofBits .f32 0x40000000#32 = ((2 : ℝ) : EReal) := by
  show Ideal.ieee 8 23 (0x40000000#32) = _
  unfold Ideal.ieee
  simp
  rw [← EReal.coe_mul]
  norm_num

/-- The logarithm of the constant two. -/
theorem log_two : Ideal.log (Ideal.ofBits .f32 0x40000000#32) = ((Real.log 2 : ℝ) : EReal) := by
  rw [ofBits_two]
  show (if (2 : ℝ) ≤ 0 then (⊥ : EReal) else ((Real.log 2 : ℝ) : EReal)) = _
  rw [if_neg (by norm_num)]

theorem lat_apply (q : Vec Ideal S16x16x2048x64 .bf16) (k : Vec Ideal S16x4x2048x64 .bf16) (b : Fin 16) (g u : Fin 4) (n j : Fin 2048) :
    lat q k (ix5 b g u n j) = (∑ d : Fin 64, q (ix4 b ⟨g.val * 4 + u.val, by omega⟩ n d) * k (ix4 b g j d)) * ((Real.log 2 : ℝ) : EReal) := by
  pointwise [lat]
  rw [log_two]

theorem ctx_apply (q : Vec Ideal S16x16x2048x64 .bf16) (k : Vec Ideal S16x4x256x64 .bf16) (b : Fin 16) (g u : Fin 4) (n : Fin 2048) (j : Fin 256) :
    ctx q k (ix5 b g u n j) = (∑ d : Fin 64, q (ix4 b ⟨g.val * 4 + u.val, by omega⟩ n d) * k (ix4 b g j d)) * ((Real.log 2 : ℝ) : EReal) := by
  pointwise [ctx]
  rw [log_two]

/-- A reduction by maximum over the last of five axes, of reals, gives reals. -/
theorem reduceMax_real {n0 n1 n2 n3 n4 : ℕ} (hn : 0 < n4) {u : Shape} {φ : FTy}
    (h : (⟨5, ![n0, n1, n2, n3, n4]⟩ : Shape).ReducesTo [4] ⟨4, ![n0, n1, n2, n3]⟩) (hu : 0 < u.numel)
    (x : (⟨5, ![n0, n1, n2, n3, n4]⟩ : Shape).Idx → Ideal φ) (init : u.Idx → Ideal φ) (hi : ∀ i, (init i : EReal) < ⊤)
    (hx : ∀ i, ∃ r : ℝ, (x i : EReal) = r) (j : (⟨4, ![n0, n1, n2, n3]⟩ : Shape).Idx) :
    ∃ r : ℝ, Host.reduce (FloatOps.maximumf (F := Ideal) (φ := φ)) x init h hu j = (r : EReal) := by
  haveI : Nonempty (Fin n4) := ⟨⟨0, hn⟩⟩
  rw [Host.reduce_eq_fold, h.fold_fiber_r5_a4]
  exact fold_max_real (hi _) fun k => hx _

theorem greatest_real (s : FVec Ideal S16x4x4x2048x2304 .f32) (hs : ∀ i, ∃ r : ℝ, s i = r) (j : S16x4x4x2048.Idx) :
    ∃ M : ℝ, greatest s j = M :=
  reduceMax_real (n0 := 16) (n1 := 4) (n2 := 4) (n3 := 2048) (n4 := 2304) (φ := .f32) (by omega)
    reducesTo_S16x4x4x2048x2304_S16x4x4x2048_d4 h_S_ s (constant S_ .f32 0xFF800000#32)
    (fun i => lt_of_eq_of_lt ofBits_negInf bot_lt_top) hs j

theorem notBelow_apply (x : FVec Ideal S16x4x4x2048 .f32) (j : S16x4x4x2048.Idx) : notBelow x j = x j := by
  show max (Ideal.ofBits .f32 0xFF800000#32) (x j) = _
  rw [ofBits_negInf]
  exact max_eq_right bot_le

theorem shift_real (s : FVec Ideal S16x4x4x2048x2304 .f32) (hs : ∀ i, ∃ r : ℝ, s i = r) (j : S16x4x4x2048.Idx) :
    ∃ M : ℝ, shift s j = M := by
  obtain ⟨M, hM⟩ := greatest_real s hs j
  exact ⟨M, (notBelow_apply _ j).trans hM⟩

theorem expo_apply (s : FVec Ideal S16x4x4x2048x2304 .f32) (b : Fin 16) (g u : Fin 4) (n : Fin 2048) (j : Fin 2304) :
    expo s (ix5 b g u n j) = Ideal.exp (s (ix5 b g u n j) - shift s (ix4 b g u n)) := by
  pointwise [expo, along]

theorem probs_apply (e : FVec Ideal S16x4x4x2048x2304 .f32) (b : Fin 16) (g u : Fin 4) (n : Fin 2048) (j : Fin 2304) :
    probs e (ix5 b g u n j) = Ideal.div (e (ix5 b g u n j)) (∑ x, e (ix5 b g u n x)) := by
  pointwise [probs, along]

theorem joined_low (a : FVec Ideal S16x4x4x2048x2048 .f32) (a' : FVec Ideal S16x4x4x2048x256 .f32) (b : Fin 16) (g u : Fin 4) (n : Fin 2048) (j : Fin 2048) :
    joined a a' (ix5 b g u n ⟨j.val, by omega⟩) = a (ix5 b g u n j) := by
  pointwise [joined]

theorem joined_high (a : FVec Ideal S16x4x4x2048x2048 .f32) (a' : FVec Ideal S16x4x4x2048x256 .f32) (b : Fin 16) (g u : Fin 4) (n : Fin 2048) (j : Fin 256) :
    joined a a' (ix5 b g u n ⟨2048 + j.val, by omega⟩) = a' (ix5 b g u n j) := by
  pointwise [joined]

theorem outp_apply (p : FVec Ideal S16x4x4x2048x2304 .f32) (v : Vec Ideal S16x4x2048x64 .bf16) (vc : Vec Ideal S16x4x256x64 .bf16) (b : Fin 16) (g u : Fin 4) (n : Fin 2048) (d : Fin 64) :
    outp p v vc (ix3 b n ⟨256 * g.val + 64 * u.val + d.val, by omega⟩)
      = ((∑ x : Fin 2048, v (ix4 b g x d) * p (ix5 b g u n ⟨x.val, by omega⟩)) + ∑ x : Fin 256, vc (ix4 b g x d) * p (ix5 b g u n ⟨2048 + x.val, by omega⟩) : EReal) := by
  pointwise [outp]

/-- The reference's steps at one query and one value lane, where the scores are reals: the attention. -/
theorem ref_apply (qp qr : Vec Ideal S16x16x2048x64 .bf16) (k v : Vec Ideal S16x4x2048x64 .bf16) (kc vc : Vec Ideal S16x4x256x64 .bf16)
    (hl : ∀ (b : Fin 16) (g u : Fin 4) (n j : Fin 2048), ∃ r : ℝ, ∑ d : Fin 64, qr (ix4 b ⟨g.val * 4 + u.val, by omega⟩ n d) * k (ix4 b g j d) = (r : EReal))
    (hc : ∀ (b : Fin 16) (g u : Fin 4) (n : Fin 2048) (j : Fin 256), ∃ r : ℝ, ∑ d : Fin 64, qp (ix4 b ⟨g.val * 4 + u.val, by omega⟩ n d) * kc (ix4 b g j d) = (r : EReal))
    (b : Fin 16) (g u : Fin 4) (n : Fin 2048) (d : Fin 64) :
    outp (probs (expo (joined (lat qr k) (ctx qp kc)))) v vc (ix3 b n ⟨256 * g.val + 64 * u.val + d.val, by omega⟩)
      = att (fun j : Fin 2048 => (∑ d : Fin 64, qr (ix4 b ⟨g.val * 4 + u.val, by omega⟩ n d) * k (ix4 b g j d) : EReal).toReal)
          (fun j : Fin 256 => (∑ d : Fin 64, qp (ix4 b ⟨g.val * 4 + u.val, by omega⟩ n d) * kc (ix4 b g j d) : EReal).toReal)
          (fun j => v (ix4 b g j d)) (fun j => vc (ix4 b g j d)) := by
  choose σ hσ using hl
  choose τ hτ using hc
  have jl : ∀ (b : Fin 16) (g u : Fin 4) (n j : Fin 2048), joined (lat qr k) (ctx qp kc) (ix5 b g u n ⟨j.val, by omega⟩) = ((σ b g u n j * Real.log 2 : ℝ) : EReal) := by
    intro b g u n j
    rw [joined_low, lat_apply, hσ, EReal.coe_mul]
  have jh : ∀ (b : Fin 16) (g u : Fin 4) (n : Fin 2048) (j : Fin 256), joined (lat qr k) (ctx qp kc) (ix5 b g u n ⟨2048 + j.val, by omega⟩) = ((τ b g u n j * Real.log 2 : ℝ) : EReal) := by
    intro b g u n j
    rw [joined_high, ctx_apply, hτ, EReal.coe_mul]
  have hreal : ∀ i, ∃ r : ℝ, joined (lat qr k) (ctx qp kc) i = r := by
    intro i
    obtain ⟨b, g, u, n, j, rfl⟩ : ∃ (b : Fin 16) (g u : Fin 4) (n : Fin 2048) (j : Fin 2304), i = ix5 b g u n j := ⟨i 0, i 1, i 2, i 3, i 4, eq_ix5 i⟩
    by_cases h : j.val < 2048
    · exact ⟨_, jl b g u n ⟨j.val, h⟩⟩
    · have := jh b g u n ⟨j.val - 2048, by omega⟩
      rw [show (⟨2048 + (j.val - 2048), by omega⟩ : Fin 2304) = j from Fin.ext (by simp only; omega)] at this
      exact ⟨_, this⟩
  obtain ⟨M, hM⟩ := shift_real _ hreal (ix4 b g u n)
  have el : ∀ j : Fin 2048, expo (joined (lat qr k) (ctx qp kc)) (ix5 b g u n ⟨j.val, by omega⟩) = ((Real.exp (σ b g u n j * Real.log 2 - M) : ℝ) : EReal) := by
    intro j
    rw [expo_apply, jl, hM, ← EReal.coe_sub]; rfl
  have eh : ∀ j : Fin 256, expo (joined (lat qr k) (ctx qp kc)) (ix5 b g u n ⟨2048 + j.val, by omega⟩) = ((Real.exp (τ b g u n j * Real.log 2 - M) : ℝ) : EReal) := by
    intro j
    rw [expo_apply, jh, hM, ← EReal.coe_sub]; rfl
  have den : ∑ x : Fin 2304, expo (joined (lat qr k) (ctx qp kc)) (ix5 b g u n x)
      = (((∑ j, Real.exp (σ b g u n j * Real.log 2 - M)) + ∑ j, Real.exp (τ b g u n j * Real.log 2 - M) : ℝ) : EReal) := by
    rw [Fin.sum_univ_two_halves 2048 256 rfl, EReal.coe_add, coe_sum, coe_sum]
    simp only [el, eh]
  rw [outp_apply]
  simp only [probs_apply, el, eh, den, div_exp]
  unfold att
  simp only [hσ, hτ, EReal.toReal_coe]
  exact congrArg₂ (· + ·) (Finset.sum_congr rfl fun j _ => mul_comm _ _) (Finset.sum_congr rfl fun j _ => mul_comm _ _)

end Cert.ReferenceIdeal.Hand
end
-- ==== Proof.Equation.lean ====
/-
  The two programs' results are one array: where queries and keys are reals, the reference's result is the kernel's `G`.
-/
module

public import proofs.«01_k».proof.Proof.Final
public import proofs.«01_k».proof.Proof.RefRead

@[expose] public section

set_option maxRecDepth 16384

noncomputable section

namespace Cert.Attend

open Idealize.ShloMosaic Idealize.SL.Sem
open Cert.ReferenceIdeal.Hand Cert.KernelIdeal.Hand Cert.KernelIdeal

/-- The reference's attention is the kernel's result array. -/
theorem ref_eq_G (qp qr : Vec Ideal S16x16x2048x64 .bf16) (k v : Vec Ideal S16x4x2048x64 .bf16) (kc vc : Vec Ideal S16x4x256x64 .bf16)
    (hR : Real4 qp qr k kc) : outp (probs (expo (joined (lat qr k) (ctx qp kc)))) v vc = G qp qr k v kc vc := by
  obtain ⟨h0, h1, h2, h4⟩ := hR
  funext y
  obtain ⟨b, n, l, rfl⟩ : ∃ (b : Fin 16) (n : Fin 2048) (l : Fin 1024), y = ix3 b n l := ⟨y 0, y 1, y 2, eq_ix3 y⟩
  obtain ⟨g, u, d, rfl⟩ : ∃ (g u : Fin 4) (d : Fin 64), l = ⟨256 * g.val + 64 * u.val + d.val, by omega⟩ :=
    ⟨⟨l.val / 256, by omega⟩, ⟨l.val / 64 % 4, by omega⟩, ⟨l.val % 64, by omega⟩, Fin.ext (by simp only; omega)⟩
  rw [G_apply]
  exact ref_apply qp qr k v kc vc (fun b g u n j => finite_sum fun d => finite_mul (h1 _) (h2 _))
    (fun b g u n j => finite_sum fun d => finite_mul (h0 _) (h4 _)) b g u n d

end Cert.Attend

end
-- ==== Proof.Finite.lean ====
/-
  What the precondition gives: where it holds, every query and every key, of the sequence and of the context, is a real number.
-/
module

public import proofs.«01_k».proof.Proof.Gen.Pre_finite
public import Idealize.ShloMosaic.Lib.ReduceAll
public import Idealize.ShloMosaic.Lib.Pointwise

@[expose] public section

set_option maxRecDepth 16384

noncomputable section

namespace Cert.Attend

open Idealize.ShloMosaic Idealize.SL.Sem

theorem ofBits_inf : Ideal.ofBits .bf16 0x7F80#16 = ⊤ := by
  show Ideal.ieee 8 7 (0x7F80#16) = ⊤
  unfold Ideal.ieee
  simp

/-- An extended real whose absolute value lies below infinity is a real. -/
theorem real_of_abs_lt {a : EReal} (h : max a (-a) < ⊤) : ∃ r : ℝ, a = r := by
  induction a using EReal.rec with
  | bot => simp at h
  | coe r => exact ⟨r, rfl⟩
  | top => simp at h

/-- Where the conjunction over an array of `|x| < ∞` is true, the array's elements are reals. -/
theorem real_of_all {s t u : Shape} [Subsingleton t.Idx] {axes : List (Fin s.rank)} (x : FVec Ideal s .bf16) (b : FVec Ideal s .bf16) (init : u.Idx → BitVec 1)
    (h : s.ReducesTo axes t) (hu : 0 < u.numel) (j : t.Idx) (hb : ∀ i, b i = Ideal.ofBits .bf16 0x7F80#16)
    (e : Host.reduce IntOp.andi (cmpf .olt (Host.absf x) b) init h hu j = 1#1) (i : s.Idx) : ∃ r : ℝ, (x i : EReal) = r := by
  have h1 := Host.reduce_andi_all _ _ _ _ j e i
  have h2 : Ideal.cmp .olt (max (x i) (-(x i)) : EReal) (b i) = 1#1 := h1
  rw [hb, ofBits_inf] at h2
  refine real_of_abs_lt ?_
  by_contra hn
  simp [Ideal.cmp, hn] at h2

theorem and_one {a b : BitVec 1} (h : IntOp.andi a b = 1#1) : a = 1#1 ∧ b = 1#1 := by
  revert a b; decide

instance : Subsingleton (Cert.Pre_finite.S_).Idx := ⟨fun a b => funext fun i => i.elim0⟩

open Cert.Pre_finite in
/-- Where the precondition holds, queries and keys are reals. -/
theorem real_of_finite (qp qr : FVec Ideal S16x16x2048x64 .bf16) (k v : FVec Ideal S16x4x2048x64 .bf16) (kc vc : FVec Ideal S16x4x256x64 .bf16)
    (h : Cert.Pre_finite.fn (F := Ideal) qp qr k v kc vc = fun _ => 1#1) :
    (∀ i, ∃ r : ℝ, (qp i : EReal) = r) ∧ (∀ i, ∃ r : ℝ, (qr i : EReal) = r) ∧ (∀ i, ∃ r : ℝ, (k i : EReal) = r) ∧ (∀ i, ∃ r : ℝ, (kc i : EReal) = r) := by
  have h0 := congrFun h (fun i => i.elim0)
  obtain ⟨h1, hkc⟩ := and_one h0
  obtain ⟨h2, hk⟩ := and_one h1
  obtain ⟨hqp, hqr⟩ := and_one h2
  exact ⟨real_of_all qp _ _ _ _ _ (fun _ => rfl) hqp, real_of_all qr _ _ _ _ _ (fun _ => rfl) hqr,
    real_of_all k _ _ _ _ _ (fun _ => rfl) hk, real_of_all kc _ _ _ _ _ (fun _ => rfl) hkc⟩

end Cert.Attend

end
-- ==== Proof.WinBlocks.lean ====
/-
  What the window attention's blocks hold: point `t` of the grid works on batch `t / 16` and queries `128 * (t % 16)` to that
  plus 127; the values' arrays that it stages are the host's rows `value, ones, ones, value`; the sinks are one block.
-/
module

public import proofs.«01_k».proof.Proof.Gen.Kernel3Ideal.Value
public import Idealize.ShloMosaic.Lib.Pointwise
public import Idealize.ShloMosaic.Lib.StableHlo.Run

@[expose] public section

set_option maxRecDepth 16384

noncomputable section

namespace Cert.Kernel3Ideal.Hand

open Cert.Kernel3Ideal Cert.Kernel3Ideal.Gen Idealize.ShloMosaic Idealize.ShloMosaic.TcCoe Idealize.SL.Sem

variable {F : FTy → Type} [FloatOps F] [Named F]
variable (m : (ℓ : Loc nD τ sig) → Buf (Elt F) ℓ)

/-- The batch of a grid point. -/
def batch (t : Fin cfg0.N) : Fin 16 := ⟨t.val / 16, by have h : t.val < 256 := t.isLt; omega⟩
/-- The block of queries of a grid point. -/
def qblk (t : Fin cfg0.N) : Fin 16 := ⟨t.val % 16, by omega⟩

/-- Query `i` of a point's block, in the sequence. -/
def query (t : Fin cfg0.N) (i : Fin 128) : Fin 2048 := ⟨128 * (qblk t).val + i.val, by have := (qblk t).isLt; omega⟩

theorem idx0 : ∀ t : Fin cfg0.N, win0_0.index t (0 : Fin 4) = t.val / 16 ∧ win0_0.index t (1 : Fin 4) = 0 ∧ win0_0.index t (2 : Fin 4) = t.val % 16 ∧ win0_0.index t (3 : Fin 4) = 0 :=
  (by decide +kernel : ∀ t : Fin grid0.N, _)
theorem idx1 : ∀ t : Fin cfg0.N, win0_1.index t (0 : Fin 4) = t.val / 16 ∧ win0_1.index t (1 : Fin 4) = 0 ∧ win0_1.index t (2 : Fin 4) = t.val % 16 ∧ win0_1.index t (3 : Fin 4) = 0 :=
  (by decide +kernel : ∀ t : Fin grid0.N, _)
theorem idx2 : ∀ t : Fin cfg0.N, win0_2.index t (0 : Fin 4) = t.val / 16 ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val / 16 ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 4) = t.val / 16 ∧ win0_4.index t (1 : Fin 4) = 0 ∧ win0_4.index t (2 : Fin 4) = 0 ∧ win0_4.index t (3 : Fin 4) = 0 :=
  (by decide +kernel : ∀ t : Fin grid0.N, _)
theorem idx5 : ∀ t : Fin cfg0.N, win0_5.index t (0 : Fin 4) = t.val / 16 ∧ win0_5.index t (1 : Fin 4) = 0 ∧ win0_5.index t (2 : Fin 4) = 0 ∧ win0_5.index t (3 : Fin 4) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 3) = t.val / 16 ∧ win0_7.index t (1 : Fin 3) = t.val % 16 ∧ win0_7.index t (2 : Fin 3) = 0 :=
  (by decide +kernel : ∀ t : Fin grid0.N, _)

/-- A block of queries (for the context) holds the point's batch and queries. -/
theorem blk0 (c : Dev nD) (t : Fin cfg0.N) (h : Fin 16) (i : Fin 128) (d : Fin 64) :
    (iblk m c 0 t : Vec F S1x16x128x64 .bf16) (ix4 0 h i d) = m ((c : Thread nD τ).loc main_arg0) (ix4 (batch t) h (query t i) d) := by
  obtain ⟨e0, e1, e2, e3⟩ := idx0 t
  rw [← V_main_arg0 m c]
  show V m c main_arg0 (((cfg0.win 0).blk t).view.emb (ix4 0 h i d)) = _
  congr 1
  funext a; apply Fin.ext
  match a with
  | ⟨0, _⟩ => show win0_0.index t (0 : Fin 4) * 1 + 1 * 0 = t.val / 16; omega
  | ⟨1, _⟩ => show win0_0.index t (1 : Fin 4) * 16 + 1 * h.val = h.val; omega
  | ⟨2, _⟩ => show win0_0.index t (2 : Fin 4) * 128 + 1 * i.val = 128 * (t.val % 16) + i.val; omega
  | ⟨3, _⟩ => show win0_0.index t (3 : Fin 4) * 64 + 1 * d.val = d.val; omega

/-- A block of queries (for the sequence) likewise. -/
theorem blk1 (c : Dev nD) (t : Fin cfg0.N) (h : Fin 16) (i : Fin 128) (d : Fin 64) :
    (iblk m c 1 t : Vec F S1x16x128x64 .bf16) (ix4 0 h i d) = m ((c : Thread nD τ).loc main_arg1) (ix4 (batch t) h (query t i) d) := by
  obtain ⟨e0, e1, e2, e3⟩ := idx1 t
  rw [← V_main_arg1 m c]
  show V m c main_arg1 (((cfg0.win 1).blk t).view.emb (ix4 0 h i d)) = _
  congr 1
  funext a; apply Fin.ext
  match a with
  | ⟨0, _⟩ => show win0_1.index t (0 : Fin 4) * 1 + 1 * 0 = t.val / 16; omega
  | ⟨1, _⟩ => show win0_1.index t (1 : Fin 4) * 16 + 1 * h.val = h.val; omega
  | ⟨2, _⟩ => show win0_1.index t (2 : Fin 4) * 128 + 1 * i.val = 128 * (t.val % 16) + i.val; omega
  | ⟨3, _⟩ => show win0_1.index t (3 : Fin 4) * 64 + 1 * d.val = d.val; omega

/-- The block of keys of the sequence holds the point's batch. -/
theorem blk2 (c : Dev nD) (t : Fin cfg0.N) (g : Fin 4) (j : Fin 2048) (d : Fin 64) :
    (iblk m c 2 t : Vec F S1x4x2048x64 .bf16) (ix4 0 g j d) = m ((c : Thread nD τ).loc main_arg2) (ix4 (batch t) g j d) := by
  obtain ⟨e0, e1, e2, e3⟩ := idx2 t
  rw [← V_main_arg2 m c]
  show V m c main_arg2 (((cfg0.win 2).blk t).view.emb (ix4 0 g j d)) = _
  congr 1
  funext a; apply Fin.ext
  match a with
  | ⟨0, _⟩ => show win0_2.index t (0 : Fin 4) * 1 + 1 * 0 = t.val / 16; omega
  | ⟨1, _⟩ => show win0_2.index t (1 : Fin 4) * 4 + 1 * g.val = g.val; omega
  | ⟨2, _⟩ => show win0_2.index t (2 : Fin 4) * 2048 + 1 * j.val = j.val; omega
  | ⟨3, _⟩ => show win0_2.index t (3 : Fin 4) * 64 + 1 * d.val = d.val; omega

/-- The block of keys of the context likewise. -/
theorem blk4 (c : Dev nD) (t : Fin cfg0.N) (g : Fin 4) (j : Fin 256) (d : Fin 64) :
    (iblk m c 4 t : Vec F S1x4x256x64 .bf16) (ix4 0 g j d) = m ((c : Thread nD τ).loc main_arg4) (ix4 (batch t) g j d) := by
  obtain ⟨e0, e1, e2, e3⟩ := idx4 t
  rw [← V_main_arg4 m c]
  show V m c main_arg4 (((cfg0.win 4).blk t).view.emb (ix4 0 g j d)) = _
  congr 1
  funext a; apply Fin.ext
  match a with
  | ⟨0, _⟩ => show win0_4.index t (0 : Fin 4) * 1 + 1 * 0 = t.val / 16; omega
  | ⟨1, _⟩ => show win0_4.index t (1 : Fin 4) * 4 + 1 * g.val = g.val; omega
  | ⟨2, _⟩ => show win0_4.index t (2 : Fin 4) * 256 + 1 * j.val = j.val; omega
  | ⟨3, _⟩ => show win0_4.index t (3 : Fin 4) * 64 + 1 * d.val = d.val; omega

/-- The host's rows `value, ones, ones, value`, of the sequence. -/
def aug (v : Vec F S16x4x2048x64 .bf16) : Vec F S16x4x2048x256 .bf16 :=
  concatenate S16x4x2048x256 3 [⟨S16x4x2048x64, v⟩, ⟨S16x4x2048x64, broadcastInDim S16x4x2048x64 ![] bcast_S_S16x4x2048x64 (constant S_ .bf16 0x3F80#16)⟩,
    ⟨S16x4x2048x64, broadcastInDim S16x4x2048x64 ![] bcast_S_S16x4x2048x64 (constant S_ .bf16 0x3F80#16)⟩, ⟨S16x4x2048x64, v⟩]
    concatenates_S16x4x2048x64_S16x4x2048x64_S16x4x2048x64_S16x4x2048x64_S16x4x2048x256_d3

/-- The host's rows `value, ones, ones, value`, of the context. -/
def augC (v : Vec F S16x4x256x64 .bf16) : Vec F S16x4x256x256 .bf16 :=
  concatenate S16x4x256x256 3 [⟨S16x4x256x64, v⟩, ⟨S16x4x256x64, broadcastInDim S16x4x256x64 ![] bcast_S_S16x4x256x64 (constant S_ .bf16 0x3F80#16)⟩,
    ⟨S16x4x256x64, broadcastInDim S16x4x256x64 ![] bcast_S_S16x4x256x64 (constant S_ .bf16 0x3F80#16)⟩, ⟨S16x4x256x64, v⟩]
    concatenates_S16x4x256x64_S16x4x256x64_S16x4x256x64_S16x4x256x64_S16x4x256x256_d3

open Idealize.ShloMosaic.StableHlo in
/-- The region finds the host's rows in the array of values. -/
theorem V_main_v1 (c : Dev nD) : V m c main_v1 = aug (m ((c : Thread nD τ).loc main_arg3)) := by
  unfold V hostOps0
  after_results_simp <;> rfl

open Idealize.ShloMosaic.StableHlo in
theorem V_main_v3 (c : Dev nD) : V m c main_v3 = augC (m ((c : Thread nD τ).loc main_arg5)) := by
  unfold V hostOps0
  after_results_simp <;> rfl

/-- The block of values of the sequence holds the point's batch of the host's rows. -/
theorem blk3 (c : Dev nD) (t : Fin cfg0.N) (g : Fin 4) (j : Fin 2048) (l : Fin 256) :
    (iblk m c 3 t : Vec F S1x4x2048x256 .bf16) (ix4 0 g j l) = aug (m ((c : Thread nD τ).loc main_arg3)) (ix4 (batch t) g j l) := by
  obtain ⟨e0, e1, e2, e3⟩ := idx3 t
  rw [← V_main_v1 m c]
  show V m c main_v1 (((cfg0.win 3).blk t).view.emb (ix4 0 g j l)) = _
  congr 1
  funext a; apply Fin.ext
  match a with
  | ⟨0, _⟩ => show win0_3.index t (0 : Fin 4) * 1 + 1 * 0 = t.val / 16; omega
  | ⟨1, _⟩ => show win0_3.index t (1 : Fin 4) * 4 + 1 * g.val = g.val; omega
  | ⟨2, _⟩ => show win0_3.index t (2 : Fin 4) * 2048 + 1 * j.val = j.val; omega
  | ⟨3, _⟩ => show win0_3.index t (3 : Fin 4) * 256 + 1 * l.val = l.val; omega

/-- The block of values of the context likewise. -/
theorem blk5 (c : Dev nD) (t : Fin cfg0.N) (g : Fin 4) (j : Fin 256) (l : Fin 256) :
    (iblk m c 5 t : Vec F S1x4x256x256 .bf16) (ix4 0 g j l) = augC (m ((c : Thread nD τ).loc main_arg5)) (ix4 (batch t) g j l) := by
  obtain ⟨e0, e1, e2, e3⟩ := idx5 t
  rw [← V_main_v3 m c]
  show V m c main_v3 (((cfg0.win 5).blk t).view.emb (ix4 0 g j l)) = _
  congr 1
  funext a; apply Fin.ext
  match a with
  | ⟨0, _⟩ => show win0_5.index t (0 : Fin 4) * 1 + 1 * 0 = t.val / 16; omega
  | ⟨1, _⟩ => show win0_5.index t (1 : Fin 4) * 4 + 1 * g.val = g.val; omega
  | ⟨2, _⟩ => show win0_5.index t (2 : Fin 4) * 256 + 1 * j.val = j.val; omega
  | ⟨3, _⟩ => show win0_5.index t (3 : Fin 4) * 256 + 1 * l.val = l.val; omega

/-- The block of sinks is all of them. -/
theorem blk6 (c : Dev nD) (t : Fin cfg0.N) (h : Fin 16) :
    (iblk m c 6 t : Vec F S16 .f32) (ix1 h) = m ((c : Thread nD τ).loc main_arg6) (ix1 h) := by
  have e0 := idx6 t
  rw [← V_main_arg6 m c]
  show V m c main_arg6 (((cfg0.win 6).blk t).view.emb (ix1 h)) = _
  congr 1
  funext a; apply Fin.ext
  match a with
  | ⟨0, _⟩ => show win0_6.index t (0 : Fin 1) * 16 + 1 * h.val = h.val; omega

/-- The grid's second coordinate is the block of queries. -/
theorem coord1 : ∀ t : Fin cfg0.N, ((grid0.coords t) 1).val = t.val % 16 := (by decide +kernel : ∀ t : Fin grid0.N, _)

/-- A point's block of the result array. -/
theorem emb7 (t : Fin cfg0.N) (i : Fin 128) (l : Fin 1024) : ((cfg0.win 7).blk t).view.emb (ix3 0 i l) = ix3 (batch t) (query t i) l := by
  obtain ⟨e0, e1, e2⟩ := idx7 t
  funext a; apply Fin.ext
  match a with
  | ⟨0, _⟩ => show win0_7.index t (0 : Fin 3) * 1 + 1 * 0 = t.val / 16; omega
  | ⟨1, _⟩ => show win0_7.index t (1 : Fin 3) * 128 + 1 * i.val = 128 * (t.val % 16) + i.val; omega
  | ⟨2, _⟩ => show win0_7.index t (2 : Fin 3) * 1024 + 1 * l.val = l.val; omega

/-- Every index of the result array is in some point's block. -/
theorem cover (i : S16x2048x1024.Idx) : ∃ t : Fin cfg0.N, (cfg0.win 7).flush t = true ∧ i ∈ ((cfg0.win 7).blk t).view.set := by
  obtain ⟨b, n, l, rfl⟩ : ∃ (b : Fin 16) (n : Fin 2048) (l : Fin 1024), i = ix3 b n l := ⟨i 0, i 1, i 2, eq_ix3 i⟩
  have hN : b.val * 16 + n.val / 128 < cfg0.N := show _ < 256 by omega
  refine ⟨⟨b.val * 16 + n.val / 128, hN⟩, flush0_7 _, ?_⟩
  have h := ((cfg0.win 7).blk ⟨b.val * 16 + n.val / 128, hN⟩).view.emb_mem_set (ix3 0 ⟨n.val % 128, by omega⟩ l)
  rw [emb7] at h
  have e1 : batch ⟨b.val * 16 + n.val / 128, hN⟩ = b := Fin.ext (by simp only [batch]; omega)
  have e2 : query ⟨b.val * 16 + n.val / 128, hN⟩ ⟨n.val % 128, by omega⟩ = n := Fin.ext (by simp only [query, qblk]; omega)
  rwa [e1, e2] at h

end Cert.Kernel3Ideal.Hand

end
-- ==== Proof.WinHead.lean ====
/-
  What the window attention computes from one block of arguments, spelled once for a key/value head: the scores of its
  queries against a band of the sequence's keys and against the context's keys, the sums at the greatest score, and the two
  blocks of 128 lanes it makes of them with the sinks. The printed body is this, four times, side by side.
-/
module

public import proofs.«01_k».proof.Proof.Gen.Kernel3Ideal.Value

@[expose] public section

set_option maxRecDepth 16384

noncomputable section

namespace Cert.Kernel3Ideal.Hand

open Cert.Kernel3Ideal Cert.Kernel3Ideal.Gen Idealize.ShloMosaic Idealize.SL.Sem

variable {F : FTy → Type} [FloatOps F] [Named F]

/-- Four query heads' rows, one under another. -/
def rows (q : Vec F S1x4x128x64 .bf16) : FVec F S512x64 .bf16 :=
  shapeCast S512x64 (shapeCast S4x128x64 q shapeCasts_S1x4x128x64_S4x128x64 : FVec F S4x128x64 .bf16) shapeCasts_S4x128x64_S512x64

/-- Where a row's query and a loaded key lie at most 128 apart. -/
def band (i : grid0.Coords) : IVec S512x384 1 := k0_pay2 i

/-- The scores of the rows against 384 keys of the sequence; outside the band, the mask. -/
def scores (B : IVec S512x384 1) (R : FVec F S512x64 .bf16) (k : Vec F S1x1x384x64 .bf16) : FVec F S512x384 .f32 :=
  select B (matmul dot_S512x64_S384x64_S512x384_1_1_0_0_n_n none R
    (shapeCast S384x64 k shapeCasts_S1x1x384x64_S384x64 : FVec F S384x64 .bf16) (constant S512x384 .f32 0x00000000#32))
    (broadcast S512x384 (Named.named κ "mask" 0xF149F2CA#32 : F .f32))

/-- The scores of the rows against the 256 keys of the context. -/
def scoresC (R : FVec F S512x64 .bf16) (k : Vec F S1x1x256x64 .bf16) : FVec F S512x256 .f32 :=
  matmul dot_S512x64_S256x64_S512x256_1_1_0_0_n_n none R
    (shapeCast S256x64 k shapeCasts_S1x1x256x64_S256x64 : FVec F S256x64 .bf16) (constant S512x256 .f32 0x00000000#32)

/-- Each row's greatest score. -/
def shift (s : FVec F S512x384 .f32) (t : FVec F S512x256 .f32) : FVec F S512x1 .f32 :=
  maximumf (shapeCast S512x1 (multiReduction .maximumf [1] S512 s 0xFF800000#32 reduces_S512x384_S512 (.inl rfl) rfl) shapeCasts_S512_S512x1)
    (shapeCast S512x1 (multiReduction .maximumf [1] S512 t 0xFF800000#32 reduces_S512x256_S512 (.inl rfl) rfl) shapeCasts_S512_S512x1)

/-- The values of the band's keys and of the context's, weighed by two to the power of the scores less the row's shift. -/
def sums (s : FVec F S512x384 .f32) (t : FVec F S512x256 .f32) (μ : FVec F S512x1 .f32) (v : Vec F S1x1x384x256 .bf16)
    (w : Vec F S1x1x256x256 .bf16) : FVec F S512x256 .f32 :=
  addf
    (matmul dot_S512x384_S384x256_S512x256_1_0_0_1_n_n none
      (truncf .bf16 (exp2 (subf s (broadcastTo S512x384 μ broadcasts_S512x1_S512x384))) bitsLt_bf16_f32)
      (shapeCast S384x256 v shapeCasts_S1x1x384x256_S384x256 : FVec F S384x256 .bf16) (constant S512x256 .f32 0x00000000#32))
    (matmul dot_S512x256_S256x256_S512x256_1_0_0_1_n_n none
      (truncf .bf16 (exp2 (subf t (broadcastTo S512x256 μ broadcasts_S512x1_S512x256))) bitsLt_bf16_f32)
      (shapeCast S256x256 w shapeCasts_S1x1x256x256_S256x256 : FVec F S256x256 .bf16) (constant S512x256 .f32 0x00000000#32))

/-- The lanes below 64. -/
def lanesLow : IVec S128x128 1 :=
  broadcastTo S128x128 (shapeCast S1x128 (cmpi .slt (iota .tc S1x128 32 [1] iota_S1x128_d1_w32) (broadcast S1x128 64#32))
    shapeCasts_S1x128_S1x128 : IVec S1x128 1) broadcasts_S1x128_S128x128

/-- A sink, in base two. -/
def sink2 (z : Elt F .f32) : F .f32 := Scalar.mulf z (Named.named κ "log2e" 0x3FB8AA3B#32 : F .f32)

/-- The shift with the sink taken in. -/
def shift2 (μ : FVec F S128x1 .f32) (z : Elt F .f32) : FVec F S128x1 .f32 := maximumf μ (broadcast S128x1 (sink2 z))

/-- Values over ones, both brought to the shift with the sink, and the sink's weight added to the ones. -/
def quot (μ : FVec F S128x1 .f32) (num den : FVec F S128x128 .f32) (z : Elt F .f32) : FVec F S128x128 .f32 :=
  divf (mulf num (broadcastTo S128x128 (exp2 (subf μ (shift2 μ z))) broadcasts_S128x1_S128x128))
    (addf (mulf den (broadcastTo S128x128 (exp2 (subf μ (shift2 μ z))) broadcasts_S128x1_S128x128))
      (broadcastTo S128x128 (exp2 (subf (broadcast S128x1 (sink2 z)) (shift2 μ z))) broadcasts_S128x1_S128x128))

/-- The first two query heads' 128 lanes. -/
def pair0 (μ : FVec F S512x1 .f32) (a : FVec F S512x256 .f32) (z0 z1 : Elt F .f32) : FVec F S128x128 .f32 :=
  select lanesLow
    (quot (extractStridedSlice S128x1 ![0, 0] μ slices_S512x1_o0_0_S128x1) (extractStridedSlice S128x128 ![0, 0] a slices_S512x256_o0_0_S128x128)
      (extractStridedSlice S128x128 ![0, 128] a slices_S512x256_o0_128_S128x128) z0)
    (quot (extractStridedSlice S128x1 ![128, 0] μ slices_S512x1_o128_0_S128x1) (extractStridedSlice S128x128 ![128, 128] a slices_S512x256_o128_128_S128x128)
      (extractStridedSlice S128x128 ![128, 0] a slices_S512x256_o128_0_S128x128) z1)

/-- The last two query heads' 128 lanes. -/
def pair1 (μ : FVec F S512x1 .f32) (a : FVec F S512x256 .f32) (z0 z1 : Elt F .f32) : FVec F S128x128 .f32 :=
  select lanesLow
    (quot (extractStridedSlice S128x1 ![256, 0] μ slices_S512x1_o256_0_S128x1) (extractStridedSlice S128x128 ![256, 0] a slices_S512x256_o256_0_S128x128)
      (extractStridedSlice S128x128 ![256, 128] a slices_S512x256_o256_128_S128x128) z0)
    (quot (extractStridedSlice S128x1 ![384, 0] μ slices_S512x1_o384_0_S128x1) (extractStridedSlice S128x128 ![384, 128] a slices_S512x256_o384_128_S128x128)
      (extractStridedSlice S128x128 ![384, 0] a slices_S512x256_o384_0_S128x128) z1)

/-- Eight blocks of 128 lanes, side by side. -/
def assemble (a0 a1 b0 b1 d0 d1 e0 e1 : FVec F S128x128 .f32) : FVec F S1x128x1024 .bf16 :=
  shapeCast S1x128x1024 (truncf .bf16 (concatenate S128x1024 1 [⟨S128x128, a0⟩, ⟨S128x128, a1⟩, ⟨S128x128, b0⟩, ⟨S128x128, b1⟩, ⟨S128x128, d0⟩, ⟨S128x128, d1⟩, ⟨S128x128, e0⟩, ⟨S128x128, e1⟩]
    concatenates_S128x128_S128x128_S128x128_S128x128_S128x128_S128x128_S128x128_S128x128_S128x1024_d1) bitsLt_bf16_f32 : FVec F S128x1024 .bf16) shapeCasts_S128x1024_S1x128x1024

/-- A sink, where the kernel reads it. -/
def sinkAt (x : Vec F S16 .f32) (n : ℕ) (h : ∀ a, (![n] : Fin 1 → Nat) a + S1.size a ≤ S16.size a) : Elt F .f32 :=
  View.ld x (Rect.unit (s := S16) ![n] S1.size h) (Shape.Idx.first (numel1_S1.symm ▸ Nat.one_pos))

/-- A key/value head's two blocks of lanes, from its loaded pieces. -/
def headPairs (B : IVec S512x384 1) (qc qs : Vec F S1x4x128x64 .bf16) (kc : Vec F S1x1x256x64 .bf16) (vc : Vec F S1x1x256x256 .bf16)
    (k : Vec F S1x1x384x64 .bf16) (v : Vec F S1x1x384x256 .bf16) (z : Fin 4 → Elt F .f32) : Fin 2 → FVec F S128x128 .f32
  | 0 => pair0 (shift (scores B (rows qs) k) (scoresC (rows qc) kc))
      (sums (scores B (rows qs) k) (scoresC (rows qc) kc) (shift (scores B (rows qs) k) (scoresC (rows qc) kc)) v vc) (z 0) (z 1)
  | 1 => pair1 (shift (scores B (rows qs) k) (scoresC (rows qc) kc))
      (sums (scores B (rows qs) k) (scoresC (rows qc) kc) (shift (scores B (rows qs) k) (scoresC (rows qc) kc)) v vc) (z 2) (z 3)

/-- Key/value head 0's two blocks of lanes, from the staged blocks. -/
def head0 (i : grid0.Coords) (x0 x1 : Vec F S1x16x128x64 .bf16) (x2 : Vec F S1x4x2048x64 .bf16) (x3 : Vec F S1x4x2048x256 .bf16)
    (x4 : Vec F S1x4x256x64 .bf16) (x5 : Vec F S1x4x256x256 .bf16) (x6 : Vec F S16 .f32) : Fin 2 → FVec F S128x128 .f32 :=
  headPairs (band i) (View.ld x0 (Rect.unit (s := S1x16x128x64) ![0, 0, 0, 0] S1x4x128x64.size inb_S1x16x128x64_S1x4x128x64_0_0_0_0))
    (View.ld x1 (Rect.unit (s := S1x16x128x64) ![0, 0, 0, 0] S1x4x128x64.size inb_S1x16x128x64_S1x4x128x64_0_0_0_0))
    (View.ld x4 (Rect.unit (s := S1x4x256x64) ![0, 0, 0, 0] S1x1x256x64.size inb_S1x4x256x64_S1x1x256x64_0_0_0_0))
    (View.ld x5 (Rect.unit (s := S1x4x256x256) ![0, 0, 0, 0] S1x1x256x256.size inb_S1x4x256x256_S1x1x256x256_0_0_0_0))
    (View.ld x2 (Rect.unit (s := S1x4x2048x64) (k0_off1 i) S1x1x384x64.size (k0_off1_inb i)))
    (View.ld x3 (Rect.unit (s := S1x4x2048x256) (k0_off2 i) S1x1x384x256.size (k0_off2_inb i)))
    ![sinkAt x6 0 inb_S16_S1_0, sinkAt x6 1 inb_S16_S1_1, sinkAt x6 2 inb_S16_S1_2, sinkAt x6 3 inb_S16_S1_3]

/-- Key/value head 1's two blocks of lanes, from the staged blocks. -/
def head1 (i : grid0.Coords) (x0 x1 : Vec F S1x16x128x64 .bf16) (x2 : Vec F S1x4x2048x64 .bf16) (x3 : Vec F S1x4x2048x256 .bf16)
    (x4 : Vec F S1x4x256x64 .bf16) (x5 : Vec F S1x4x256x256 .bf16) (x6 : Vec F S16 .f32) : Fin 2 → FVec F S128x128 .f32 :=
  headPairs (band i) (View.ld x0 (Rect.unit (s := S1x16x128x64) ![0, 4, 0, 0] S1x4x128x64.size inb_S1x16x128x64_S1x4x128x64_0_4_0_0))
    (View.ld x1 (Rect.unit (s := S1x16x128x64) ![0, 4, 0, 0] S1x4x128x64.size inb_S1x16x128x64_S1x4x128x64_0_4_0_0))
    (View.ld x4 (Rect.unit (s := S1x4x256x64) ![0, 1, 0, 0] S1x1x256x64.size inb_S1x4x256x64_S1x1x256x64_0_1_0_0))
    (View.ld x5 (Rect.unit (s := S1x4x256x256) ![0, 1, 0, 0] S1x1x256x256.size inb_S1x4x256x256_S1x1x256x256_0_1_0_0))
    (View.ld x2 (Rect.unit (s := S1x4x2048x64) (k0_off3 i) S1x1x384x64.size (k0_off3_inb i)))
    (View.ld x3 (Rect.unit (s := S1x4x2048x256) (k0_off4 i) S1x1x384x256.size (k0_off4_inb i)))
    ![sinkAt x6 4 inb_S16_S1_4, sinkAt x6 5 inb_S16_S1_5, sinkAt x6 6 inb_S16_S1_6, sinkAt x6 7 inb_S16_S1_7]

/-- Key/value head 2's two blocks of lanes, from the staged blocks. -/
def head2 (i : grid0.Coords) (x0 x1 : Vec F S1x16x128x64 .bf16) (x2 : Vec F S1x4x2048x64 .bf16) (x3 : Vec F S1x4x2048x256 .bf16)
    (x4 : Vec F S1x4x256x64 .bf16) (x5 : Vec F S1x4x256x256 .bf16) (x6 : Vec F S16 .f32) : Fin 2 → FVec F S128x128 .f32 :=
  headPairs (band i) (View.ld x0 (Rect.unit (s := S1x16x128x64) ![0, 8, 0, 0] S1x4x128x64.size inb_S1x16x128x64_S1x4x128x64_0_8_0_0))
    (View.ld x1 (Rect.unit (s := S1x16x128x64) ![0, 8, 0, 0] S1x4x128x64.size inb_S1x16x128x64_S1x4x128x64_0_8_0_0))
    (View.ld x4 (Rect.unit (s := S1x4x256x64) ![0, 2, 0, 0] S1x1x256x64.size inb_S1x4x256x64_S1x1x256x64_0_2_0_0))
    (View.ld x5 (Rect.unit (s := S1x4x256x256) ![0, 2, 0, 0] S1x1x256x256.size inb_S1x4x256x256_S1x1x256x256_0_2_0_0))
    (View.ld x2 (Rect.unit (s := S1x4x2048x64) (k0_off5 i) S1x1x384x64.size (k0_off5_inb i)))
    (View.ld x3 (Rect.unit (s := S1x4x2048x256) (k0_off6 i) S1x1x384x256.size (k0_off6_inb i)))
    ![sinkAt x6 8 inb_S16_S1_8, sinkAt x6 9 inb_S16_S1_9, sinkAt x6 10 inb_S16_S1_10, sinkAt x6 11 inb_S16_S1_11]

/-- Key/value head 3's two blocks of lanes, from the staged blocks. -/
def head3 (i : grid0.Coords) (x0 x1 : Vec F S1x16x128x64 .bf16) (x2 : Vec F S1x4x2048x64 .bf16) (x3 : Vec F S1x4x2048x256 .bf16)
    (x4 : Vec F S1x4x256x64 .bf16) (x5 : Vec F S1x4x256x256 .bf16) (x6 : Vec F S16 .f32) : Fin 2 → FVec F S128x128 .f32 :=
  headPairs (band i) (View.ld x0 (Rect.unit (s := S1x16x128x64) ![0, 12, 0, 0] S1x4x128x64.size inb_S1x16x128x64_S1x4x128x64_0_12_0_0))
    (View.ld x1 (Rect.unit (s := S1x16x128x64) ![0, 12, 0, 0] S1x4x128x64.size inb_S1x16x128x64_S1x4x128x64_0_12_0_0))
    (View.ld x4 (Rect.unit (s := S1x4x256x64) ![0, 3, 0, 0] S1x1x256x64.size inb_S1x4x256x64_S1x1x256x64_0_3_0_0))
    (View.ld x5 (Rect.unit (s := S1x4x256x256) ![0, 3, 0, 0] S1x1x256x256.size inb_S1x4x256x256_S1x1x256x256_0_3_0_0))
    (View.ld x2 (Rect.unit (s := S1x4x2048x64) (k0_off7 i) S1x1x384x64.size (k0_off7_inb i)))
    (View.ld x3 (Rect.unit (s := S1x4x2048x256) (k0_off8 i) S1x1x384x256.size (k0_off8_inb i)))
    ![sinkAt x6 12 inb_S16_S1_12, sinkAt x6 13 inb_S16_S1_13, sinkAt x6 14 inb_S16_S1_14, sinkAt x6 15 inb_S16_S1_15]

/-- The four key/value heads' lanes, side by side. -/
def block (i : grid0.Coords) (x0 x1 : Vec F S1x16x128x64 .bf16) (x2 : Vec F S1x4x2048x64 .bf16) (x3 : Vec F S1x4x2048x256 .bf16)
    (x4 : Vec F S1x4x256x64 .bf16) (x5 : Vec F S1x4x256x256 .bf16) (x6 : Vec F S16 .f32) : FVec F S1x128x1024 .bf16 :=
  assemble (head0 i x0 x1 x2 x3 x4 x5 x6 0) (head0 i x0 x1 x2 x3 x4 x5 x6 1) (head1 i x0 x1 x2 x3 x4 x5 x6 0) (head1 i x0 x1 x2 x3 x4 x5 x6 1) (head2 i x0 x1 x2 x3 x4 x5 x6 0) (head2 i x0 x1 x2 x3 x4 x5 x6 1) (head3 i x0 x1 x2 x3 x4 x5 x6 0) (head3 i x0 x1 x2 x3 x4 x5 x6 1)

/-- The body stores one piece: that block, of what its arguments' buffers hold. -/
theorem pieces_eq (c : Dev nD) (i : grid0.Coords) (arg2 : Memref sig .tc .vmem S1x16x128x64 .bf16) (harg2 : arg2.IsWhole) (arg3 : Memref sig .tc .vmem S1x16x128x64 .bf16) (harg3 : arg3.IsWhole) (arg4 : Memref sig .tc .vmem S1x4x2048x64 .bf16) (harg4 : arg4.IsWhole) (arg5 : Memref sig .tc .vmem S1x4x2048x256 .bf16) (harg5 : arg5.IsWhole) (arg6 : Memref sig .tc .vmem S1x4x256x64 .bf16) (harg6 : arg6.IsWhole) (arg7 : Memref sig .tc .vmem S1x4x256x256 .bf16) (harg7 : arg7.IsWhole) (arg8 : Memref sig .tc .smem S16 .f32) (harg8 : arg8.IsWhole) (arg9 : Memref sig .tc .vmem S1x128x1024 .bf16) (harg9 : arg9.IsWhole)
    (x0 : Vec F S1x16x128x64 .bf16) (x1 : Vec F S1x16x128x64 .bf16) (x2 : Vec F S1x4x2048x64 .bf16) (x3 : Vec F S1x4x2048x256 .bf16) (x4 : Vec F S1x4x256x64 .bf16) (x5 : Vec F S1x4x256x256 .bf16) (x6 : Vec F S16 .f32) :
    (kernelRun0_A c i arg2 harg2 arg3 harg3 arg4 harg4 arg5 harg5 arg6 harg6 arg7 harg7 arg8 harg8 arg9 harg9 x0 x1 x2 x3 x4 x5 x6).1
      = [⟨Rect.unit ![0, 0, 0] ![1, 128, 1024] inb_S1x128x1024_S1x128x1024_0_0_0, block i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))⟩] := by
  rfl

theorem zeros3 : (![0, 0, 0] : Fin 3 → ℕ) = fun _ => 0 := funext fun a => by fin_cases a <;> rfl

/-- What the body leaves in the result's block. -/
theorem out_eq (c : Dev nD) (i : grid0.Coords) (arg2 : Memref sig .tc .vmem S1x16x128x64 .bf16) (harg2 : arg2.IsWhole) (arg3 : Memref sig .tc .vmem S1x16x128x64 .bf16) (harg3 : arg3.IsWhole) (arg4 : Memref sig .tc .vmem S1x4x2048x64 .bf16) (harg4 : arg4.IsWhole) (arg5 : Memref sig .tc .vmem S1x4x2048x256 .bf16) (harg5 : arg5.IsWhole) (arg6 : Memref sig .tc .vmem S1x4x256x64 .bf16) (harg6 : arg6.IsWhole) (arg7 : Memref sig .tc .vmem S1x4x256x256 .bf16) (harg7 : arg7.IsWhole) (arg8 : Memref sig .tc .smem S16 .f32) (harg8 : arg8.IsWhole) (arg9 : Memref sig .tc .vmem S1x128x1024 .bf16) (harg9 : arg9.IsWhole)
    (x0 : Vec F S1x16x128x64 .bf16) (x1 : Vec F S1x16x128x64 .bf16) (x2 : Vec F S1x4x2048x64 .bf16) (x3 : Vec F S1x4x2048x256 .bf16) (x4 : Vec F S1x4x256x64 .bf16) (x5 : Vec F S1x4x256x256 .bf16) (x6 : Vec F S16 .f32) :
    out0_A_7 c i arg2 harg2 arg3 harg3 arg4 harg4 arg5 harg5 arg6 harg6 arg7 harg7 arg8 harg8 arg9 harg9 x0 x1 x2 x3 x4 x5 x6 = block i x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6), pieces_eq]
  simp only [Memref.IsWhole.read_unread]
  exact View.canon_unit_zero zeros3 _ _

end Cert.Kernel3Ideal.Hand

end
-- ==== Proof.Band.lean ====
/-
  The arithmetic of one row of attention within a band, with a sink, over the extended reals: weights that are nonnegative
  reals (zero outside the band), a further weight that no value bears (the sink's), and the two ways of dividing by their
  total that the kernel and the reference take.
-/
module

public import proofs.«01_k».proof.Proof.Softmax

@[expose] public section

noncomputable section

namespace Cert.Attend

open Idealize.ShloMosaic

/-- Two positions lie at most 128 apart. -/
def near (n j : ℕ) : Prop := n ≤ j + 128 ∧ j ≤ n + 128

instance (n j : ℕ) : Decidable (near n j) := inferInstanceAs (Decidable (_ ∧ _))

/-- The weight of a score: two to its power within the band, nothing outside. -/
def bandw (P : Prop) [Decidable P] (x : ℝ) : ℝ := if P then (2 : ℝ) ^ x else 0

theorem bandw_nonneg (P : Prop) [Decidable P] (x : ℝ) : 0 ≤ bandw P x := by
  unfold bandw; split_ifs <;> positivity

/-- The total weight: of the two families, and the sink's. -/
def total {ι κ : Type} [Fintype ι] [Fintype κ] (a : ι → ℝ) (b : κ → ℝ) (z : ℝ) : ℝ := (∑ j, a j) + (∑ j, b j) + z

/-- Attention with given weights `a` and `b` of the values `v` and `w`, and a weight `z` of no value. -/
def attW {ι κ : Type} [Fintype ι] [Fintype κ] (a : ι → ℝ) (b : κ → ℝ) (z : ℝ) (v : ι → EReal) (w : κ → EReal) : EReal :=
  (∑ j, ((a j / total a b z : ℝ) : EReal) * v j) + ∑ j, ((b j / total a b z : ℝ) : EReal) * w j

theorem total_pos {ι κ : Type} [Fintype ι] [Fintype κ] {a : ι → ℝ} {b : κ → ℝ} {z : ℝ} (ha : ∀ j, 0 ≤ a j) (hb : ∀ j, 0 ≤ b j) (hz : 0 < z) :
    0 < total a b z :=
  add_pos_of_nonneg_of_pos (add_nonneg (Finset.sum_nonneg fun j _ => ha j) (Finset.sum_nonneg fun j _ => hb j)) hz

/-- A common real factor `c` of the weights comes out of the sum of weighed values. -/
theorem sum_factor {ι : Type} [Fintype ι] (c : ℝ) (hc : 0 ≤ c) (a : ι → ℝ) (v : ι → EReal) :
    ∑ j, ((c * a j : ℝ) : EReal) * v j = (c : EReal) * ∑ j, ((a j : ℝ) : EReal) * v j := by
  rw [coe_mul_sum hc]
  exact Finset.sum_congr rfl fun j _ => by rw [EReal.coe_mul, mul_assoc]

/-- What the kernel divides: weighed values by weights, both summed at shift `μ`, brought to shift `ν`, and the sink's
    weight at that shift added to the weights. -/
theorem div_attW {ι κ : Type} [Fintype ι] [Fintype κ] (a : ι → ℝ) (b : κ → ℝ) (ζ μ ν : ℝ) (v : ι → EReal) (w : κ → EReal)
    (ha : ∀ j, 0 ≤ a j) (hb : ∀ j, 0 ≤ b j) :
    Ideal.div
      (((∑ j, (((2 : ℝ) ^ (-μ) * a j : ℝ) : EReal) * v j) + ∑ j, (((2 : ℝ) ^ (-μ) * b j : ℝ) : EReal) * w j) * (((2 : ℝ) ^ (μ - ν) : ℝ) : EReal))
      (((∑ j, (((2 : ℝ) ^ (-μ) * a j : ℝ) : EReal) * 1) + ∑ j, (((2 : ℝ) ^ (-μ) * b j : ℝ) : EReal) * 1) * (((2 : ℝ) ^ (μ - ν) : ℝ) : EReal)
        + (((2 : ℝ) ^ (ζ - ν) : ℝ) : EReal))
      = attW a b ((2 : ℝ) ^ ζ) v w := by
  have hT : 0 < total a b ((2 : ℝ) ^ ζ) := total_pos ha hb (by positivity)
  have hp : (0 : ℝ) < 2 ^ (-ν) := by positivity
  have hm : (0 : ℝ) ≤ 2 ^ (-μ) := by positivity
  have hk : (2 : ℝ) ^ (-μ) * 2 ^ (μ - ν) = 2 ^ (-ν) := by rw [← Real.rpow_add two_pos]; congr 1; ring
  have hz : (2 : ℝ) ^ (ζ - ν) = 2 ^ (-ν) * 2 ^ ζ := by rw [← Real.rpow_add two_pos]; congr 1; ring
  have hden : (((∑ j, (((2 : ℝ) ^ (-μ) * a j : ℝ) : EReal) * 1) + ∑ j, (((2 : ℝ) ^ (-μ) * b j : ℝ) : EReal) * 1) * (((2 : ℝ) ^ (μ - ν) : ℝ) : EReal)
        + (((2 : ℝ) ^ (ζ - ν) : ℝ) : EReal)) = (((2 : ℝ) ^ (-ν) * total a b ((2 : ℝ) ^ ζ) : ℝ) : EReal) := by
    simp only [mul_one]
    rw [← coe_sum, ← coe_sum, ← EReal.coe_add, ← EReal.coe_mul, ← EReal.coe_add, ← Finset.mul_sum, ← Finset.mul_sum, hz, ← hk]
    unfold total
    congr 1; ring
  rw [hden, Ideal.div_coe (mul_pos hp hT).ne', sum_factor _ hm, sum_factor _ hm, ← coe_mul_add hm]
  have hr : (0 : ℝ) ≤ 1 / total a b ((2 : ℝ) ^ ζ) := by positivity
  have e : ∀ X : EReal, (((2 : ℝ) ^ (-μ) : ℝ) : EReal) * X * (((2 : ℝ) ^ (μ - ν) : ℝ) : EReal) * ((1 / (2 ^ (-ν) * total a b ((2 : ℝ) ^ ζ)) : ℝ) : EReal)
      = ((1 / total a b ((2 : ℝ) ^ ζ) : ℝ) : EReal) * X := by
    intro X
    rw [mul_comm _ X, mul_assoc, mul_assoc, ← EReal.coe_mul, ← EReal.coe_mul, mul_comm X]
    congr 2
    rw [← mul_assoc, hk]
    field_simp
  rw [e, coe_mul_add hr, ← sum_factor _ hr, ← sum_factor _ hr]
  unfold attW
  congr 1 <;> refine Finset.sum_congr rfl fun j _ => ?_ <;> congr 2 <;> ring

/-- What the reference divides, at any shift: a weight over the total, both with the factor `e ^ -M`. -/
theorem div_total {ι κ : Type} [Fintype ι] [Fintype κ] (a : ι → ℝ) (b : κ → ℝ) (z M x : ℝ) (ha : ∀ j, 0 ≤ a j) (hb : ∀ j, 0 ≤ b j) (hz : 0 < z) :
    Ideal.div ((Real.exp (-M) * x : ℝ) : EReal)
      (((∑ j, ((Real.exp (-M) * a j : ℝ) : EReal)) + ∑ j, ((Real.exp (-M) * b j : ℝ) : EReal)) + ((Real.exp (-M) * z : ℝ) : EReal))
      = ((x / total a b z : ℝ) : EReal) := by
  have hT := total_pos ha hb hz
  have hp := Real.exp_pos (-M)
  rw [← coe_sum, ← coe_sum, ← EReal.coe_add, ← EReal.coe_add, ← Finset.mul_sum, ← Finset.mul_sum, ← mul_add, ← mul_add,
    show ((∑ j, a j) + ∑ j, b j) + z = total a b z from rfl, Ideal.div_coe (mul_pos hp hT).ne', ← EReal.coe_mul]
  congr 1
  field_simp

/-- A sum over 2048 positions of which all but 384 from `st` on contribute nothing. -/
theorem sum_window (st : ℕ) (hst : st + 384 ≤ 2048) (f : Fin 2048 → EReal) (h0 : ∀ J : Fin 2048, J.val < st ∨ st + 384 ≤ J.val → f J = 0) :
    ∑ j : Fin 384, f ⟨st + j.val, by omega⟩ = ∑ J : Fin 2048, f J := by
  refine Finset.sum_of_injOn (fun j : Fin 384 => (⟨st + j.val, by omega⟩ : Fin 2048)) ?_ (fun _ _ => Finset.mem_coe.mpr (Finset.mem_univ _)) ?_ (fun _ _ => rfl)
  · intro a _ b _ h
    have := congrArg Fin.val h
    exact Fin.ext (by simp only at this; omega)
  · intro J _ hJ
    refine h0 J ?_
    by_contra hn
    exact hJ ⟨⟨J.val - st, by omega⟩, Finset.mem_coe.mpr (Finset.mem_univ _), Fin.ext (by show st + (J.val - st) = J.val; omega)⟩

/-- The maximum of a family without plus infinity, from a start below it, is below plus infinity. -/
theorem fold_max_lt {α : Type} [Fintype α] {b : EReal} (hb : b < ⊤) {f : α → EReal} (h : ∀ k, f k < ⊤) :
    Finset.univ.fold max b f < ⊤ := by
  rw [Finset.fold_max_lt]; exact ⟨hb, fun k _ => h k⟩

/-- If one of the family is a real, its maximum is a real. -/
theorem fold_max_real_of {α : Type} [Fintype α] {b : EReal} (hb : b < ⊤) {f : α → EReal} (h : ∀ k, f k < ⊤) (k : α)
    (hk : ∃ x : ℝ, f k = x) : ∃ x : ℝ, Finset.univ.fold max b f = x := by
  have htop := fold_max_lt hb h
  have hbot : ⊥ < Finset.univ.fold max b f := by
    rw [Finset.lt_fold_max]
    obtain ⟨x, hx⟩ := hk
    exact Or.inr ⟨k, Finset.mem_univ k, by rw [hx]; exact EReal.bot_lt_coe x⟩
  exact ⟨_, (EReal.coe_toReal htop.ne hbot.ne').symm⟩

/-- The greater of an extended real below plus infinity and a real is a real. -/
theorem max_real_of {a b : EReal} (ha : a < ⊤) (hb : ∃ x : ℝ, b = x) : ∃ x : ℝ, max a b = x := by
  obtain ⟨x, rfl⟩ := hb
  have htop : max a (x : EReal) < ⊤ := max_lt ha (EReal.coe_lt_top x)
  have hbot : ⊥ < max a (x : EReal) := lt_max_of_lt_right (EReal.bot_lt_coe x)
  exact ⟨_, (EReal.coe_toReal htop.ne hbot.ne').symm⟩

/-- A score within the band, minus infinity outside. -/
def masked (P : Prop) [Decidable P] (x : ℝ) : EReal := if P then (x : EReal) else ⊥

theorem masked_lt (P : Prop) [Decidable P] (x : ℝ) : masked P x < ⊤ := by
  unfold masked; split_ifs
  · exact EReal.coe_lt_top x
  · exact bot_lt_top

/-- Two to the power of a masked score less a shift. -/
theorem exp2_masked (P : Prop) [Decidable P] (x μ : ℝ) :
    Ideal.exp2 (masked P x - (μ : EReal)) = (((2 : ℝ) ^ (-μ) * bandw P x : ℝ) : EReal) := by
  unfold masked bandw
  split_ifs
  · rw [← EReal.coe_sub]
    show (((2 : ℝ) ^ (x - μ) : ℝ) : EReal) = _
    rw [← Real.rpow_add two_pos]; congr 2; ring
  · rw [EReal.bot_sub, Ideal.exp2_bot, mul_zero, EReal.coe_zero]

/-- The exponential of a masked score, in units of `log 2`, less a shift. -/
theorem exp_masked (P : Prop) [Decidable P] (x M : ℝ) :
    Ideal.exp (masked P (x * Real.log 2) - (M : EReal)) = ((Real.exp (-M) * bandw P x : ℝ) : EReal) := by
  unfold masked bandw
  split_ifs
  · rw [← EReal.coe_sub]
    show ((Real.exp (x * Real.log 2 - M) : ℝ) : EReal) = _
    rw [exp_shift]
  · rw [EReal.bot_sub, mul_zero, EReal.coe_zero]
    rfl

end Cert.Attend

end
-- ==== Proof.WinBand.lean ====
/-
  Where the band lies: the bits that both programs compute from positions say that a query and a key lie at most 128 apart.
-/
module

public import proofs.«01_k».proof.Proof.WinHead
public import proofs.«01_k».proof.Proof.Band
public import Idealize.ShloMosaic.Lib.Pointwise

@[expose] public section

set_option maxRecDepth 16384

noncomputable section

namespace Cert.Attend

open Idealize.ShloMosaic Idealize.SL.Sem

theorem abs_up : ∀ d : Fin 2048, IntOp.cmpi CmpIPredicate.sle (IntOp.absi (BitVec.ofNat 32 d.val)) 128#32 = if d.val ≤ 128 then 1#1 else 0#1 := by
  decide +kernel

theorem abs_down : ∀ d : Fin 2048, IntOp.cmpi CmpIPredicate.sle (IntOp.absi (-BitVec.ofNat 32 d.val)) 128#32 = if d.val ≤ 128 then 1#1 else 0#1 := by
  decide +kernel

/-- The absolute value of the difference of two positions, compared with 128. -/
theorem near_bit (a b : ℕ) (ha : a < 2048) (hb : b < 2048) :
    IntOp.cmpi CmpIPredicate.sle (IntOp.absi (BitVec.ofNat 32 a - BitVec.ofNat 32 b)) 128#32 = if near b a then 1#1 else 0#1 := by
  rcases Nat.le_total b a with h | h
  · rw [show BitVec.ofNat 32 a - BitVec.ofNat 32 b = BitVec.ofNat 32 (a - b) from by
      apply BitVec.eq_of_toNat_eq; simp only [BitVec.toNat_sub, BitVec.toNat_ofNat]; omega]
    refine (abs_up ⟨a - b, by omega⟩).trans ?_
    simp only [near]; congr 1; exact propext ⟨fun _ => by omega, fun _ => by omega⟩
  · rw [show BitVec.ofNat 32 a - BitVec.ofNat 32 b = -BitVec.ofNat 32 (b - a) from by
      apply BitVec.eq_of_toNat_eq; simp only [BitVec.toNat_sub, BitVec.toNat_neg, BitVec.toNat_ofNat]; omega]
    refine (abs_down ⟨b - a, by omega⟩).trans ?_
    simp only [near]; congr 1; exact propext ⟨fun _ => by omega, fun _ => by omega⟩

end Cert.Attend

namespace Cert.Kernel3Ideal.Hand

open Cert.Kernel3Ideal Cert.Kernel3Ideal.Gen Cert.Attend Idealize.ShloMosaic Idealize.SL.Sem

/-- The first key that block `a` of queries loads. -/
def start (a : ℕ) : ℕ := min 1664 (128 * a - 128)

theorem start_le (a : ℕ) : start a + 384 ≤ 2048 := by unfold start; omega

/-- The keys within 128 of a query of block `a` are among the 384 loaded. -/
theorem near_start (a i J : ℕ) (hi : i < 128) (hJ : J < 2048) (h : near (128 * a + i) J) : start a ≤ J ∧ J < start a + 384 := by
  unfold start
  obtain ⟨h1, h2⟩ := h
  omega

/-- The word that the kernel computes for the first key. -/
def startW (a : BitVec 32) : BitVec 32 := Scalar.minsi 1664#32 (Scalar.maxsi 0#32 (Scalar.subi (Scalar.muli a 128#32) 128#32))

theorem startW_eq {a : ℕ} (h : a < 16) : startW (BitVec.ofNat 32 a) = BitVec.ofNat 32 (start a) :=
  (by decide +kernel : ∀ a : Fin 16, startW (BitVec.ofNat 32 a.val) = BitVec.ofNat 32 (start a.val)) ⟨a, h⟩

theorem startW_toNat {a : ℕ} (h : a < 16) : (startW (BitVec.ofNat 32 a)).toNat = start a :=
  (by decide +kernel : ∀ a : Fin 16, (startW (BitVec.ofNat 32 a.val)).toNat = start a.val) ⟨a, h⟩

theorem low7 : ∀ r : Fin 512, IntOp.andi (BitVec.ofNat 32 r.val) 127#32 = BitVec.ofNat 32 (r.val % 128) := by decide +kernel

theorem mul128 {a : ℕ} (h : a < 16) : Scalar.muli (BitVec.ofNat 32 a) 128#32 = BitVec.ofNat 32 (128 * a) :=
  (by decide +kernel : ∀ a : Fin 16, Scalar.muli (BitVec.ofNat 32 a.val) 128#32 = BitVec.ofNat 32 (128 * a.val)) ⟨a, h⟩

/-- The band's bit at row `r` and loaded key `j`: its query and that key lie at most 128 apart. -/
theorem band_apply (p : grid0.Coords) (r : Fin 512) (j : Fin 384) :
    band p (ix2 r j) = if near (128 * (p 1).val + r.val % 128) (start (p 1).val + j.val) then 1#1 else 0#1 := by
  have e : band p (ix2 r j) = IntOp.cmpi CmpIPredicate.sle (IntOp.absi
      ((startW (BitVec.ofNat 32 (p 1).val) + BitVec.ofNat 32 j.val)
        - (Scalar.muli (BitVec.ofNat 32 (p 1).val) 128#32 + IntOp.andi (BitVec.ofNat 32 r.val) 127#32))) 128#32 := by
    unfold band k0_pay2
    pointwise
    rfl
  have h1 : (p 1).val < 16 := (p 1).isLt
  rw [e, startW_eq h1, low7, mul128 h1, ← BitVec.ofNat_add, ← BitVec.ofNat_add]
  exact near_bit _ _ (by have := start_le (p 1).val; omega) (by omega)

/-- The corner of the keys that a head loads. -/
theorem off1_eq (p : grid0.Coords) : k0_off1 p = ![0, 0, start (p 1).val, 0] := by
  show (![0, 0, (startW (BitVec.ofNat 32 (p 1).val)).toNat, 0] : Fin 4 → ℕ) = _
  rw [startW_toNat (show (p 1).val < 16 from (p 1).isLt)]
theorem off2_eq (p : grid0.Coords) : k0_off2 p = ![0, 0, start (p 1).val, 0] := by
  show (![0, 0, (startW (BitVec.ofNat 32 (p 1).val)).toNat, 0] : Fin 4 → ℕ) = _
  rw [startW_toNat (show (p 1).val < 16 from (p 1).isLt)]
theorem off3_eq (p : grid0.Coords) : k0_off3 p = ![0, 1, start (p 1).val, 0] := by
  show (![0, 1, (startW (BitVec.ofNat 32 (p 1).val)).toNat, 0] : Fin 4 → ℕ) = _
  rw [startW_toNat (show (p 1).val < 16 from (p 1).isLt)]
theorem off4_eq (p : grid0.Coords) : k0_off4 p = ![0, 1, start (p 1).val, 0] := by
  show (![0, 1, (startW (BitVec.ofNat 32 (p 1).val)).toNat, 0] : Fin 4 → ℕ) = _
  rw [startW_toNat (show (p 1).val < 16 from (p 1).isLt)]
theorem off5_eq (p : grid0.Coords) : k0_off5 p = ![0, 2, start (p 1).val, 0] := by
  show (![0, 2, (startW (BitVec.ofNat 32 (p 1).val)).toNat, 0] : Fin 4 → ℕ) = _
  rw [startW_toNat (show (p 1).val < 16 from (p 1).isLt)]
theorem off6_eq (p : grid0.Coords) : k0_off6 p = ![0, 2, start (p 1).val, 0] := by
  show (![0, 2, (startW (BitVec.ofNat 32 (p 1).val)).toNat, 0] : Fin 4 → ℕ) = _
  rw [startW_toNat (show (p 1).val < 16 from (p 1).isLt)]
theorem off7_eq (p : grid0.Coords) : k0_off7 p = ![0, 3, start (p 1).val, 0] := by
  show (![0, 3, (startW (BitVec.ofNat 32 (p 1).val)).toNat, 0] : Fin 4 → ℕ) = _
  rw [startW_toNat (show (p 1).val < 16 from (p 1).isLt)]
theorem off8_eq (p : grid0.Coords) : k0_off8 p = ![0, 3, start (p 1).val, 0] := by
  show (![0, 3, (startW (BitVec.ofNat 32 (p 1).val)).toNat, 0] : Fin 4 → ℕ) = _
  rw [startW_toNat (show (p 1).val < 16 from (p 1).isLt)]

end Cert.Kernel3Ideal.Hand

end
-- ==== Proof.WinValue.lean ====
/-
  The window attention's steps read at an index: the masked scores, the row's shift, the sums at it, and each of the lanes
  that are divided.
-/
module

public import proofs.«01_k».proof.Proof.WinBand

@[expose] public section

set_option maxRecDepth 16384

noncomputable section

namespace Cert.Kernel3Ideal.Hand

open Cert.Kernel3Ideal Cert.Kernel3Ideal.Gen Cert.Attend Idealize.ShloMosaic Idealize.SL.Sem

theorem ofBits_negInf : Ideal.ofBits .f32 0xFF800000#32 = ⊥ := by
  show Ideal.ieee 8 23 (0xFF800000#32) = ⊥
  unfold Ideal.ieee
  simp

/-- The mask is minus infinity. -/
theorem mask_eq : (Named.named (F := Ideal) κ "mask" 0xF149F2CA#32 : Ideal .f32) = (⊥ : EReal) :=
  IdealRules.named_const.ideal_named_scalar _ _ _ _ rfl

/-- The factor of the sinks is one over the logarithm of two. -/
theorem log2e_eq : (Named.named (F := Ideal) κ "log2e" 0x3FB8AA3B#32 : Ideal .f32) = (((Real.log 2)⁻¹ : ℝ) : EReal) :=
  IdealRules.named_const.ideal_named_scalar _ _ _ _ rfl

/-- The score of row `128 * u + i` against loaded key `j`, masked by the band's bit. -/
theorem scores_apply (B : IVec S512x384 1) (q : Vec Ideal S1x4x128x64 .bf16) (k : Vec Ideal S1x1x384x64 .bf16) (r : Fin 512) (j : Fin 384) :
    scores B (rows q) k (ix2 r j) = (Scalar.select (B (ix2 r j))
      (∑ d : Fin 64, q (ix4 0 ⟨r.val / 128, by omega⟩ ⟨r.val % 128, by omega⟩ d) * k (ix4 0 0 j d) : EReal) ⊥ : EReal) := by
  rw [← mask_eq]
  pointwise [scores, rows]

theorem scoresC_apply (q : Vec Ideal S1x4x128x64 .bf16) (k : Vec Ideal S1x1x256x64 .bf16) (r : Fin 512) (j : Fin 256) :
    scoresC (rows q) k (ix2 r j) = ∑ d : Fin 64, q (ix4 0 ⟨r.val / 128, by omega⟩ ⟨r.val % 128, by omega⟩ d) * k (ix4 0 0 j d) := by
  pointwise [scoresC, rows]

/-- A row's shift is a real where its scores of the context are and the others are not plus infinity. -/
theorem shift_real (s : FVec Ideal S512x384 .f32) (t : FVec Ideal S512x256 .f32) (r : Fin 512)
    (hs : ∀ j : Fin 384, (s (ix2 r j) : EReal) < ⊤) (ht : ∀ j : Fin 256, ∃ x : ℝ, t (ix2 r j) = x) :
    ∃ μ : ℝ, shift s t (ix2 r 0) = μ := by
  unfold shift
  refine max_real_of ?_ ?_
  · pointwise
    exact fold_max_lt (by rw [ofBits_negInf]; exact bot_lt_top) hs
  · pointwise
    exact fold_max_real (by rw [ofBits_negInf]; exact bot_lt_top) ht

/-- The sums at a row whose shift is `μ`. -/
theorem sums_apply (s : FVec Ideal S512x384 .f32) (t : FVec Ideal S512x256 .f32) (M : FVec Ideal S512x1 .f32) (v : Vec Ideal S1x1x384x256 .bf16)
    (w : Vec Ideal S1x1x256x256 .bf16) (r : Fin 512) (x : Fin 256) (μ : ℝ) (hM : M (ix2 r 0) = (μ : EReal)) :
    sums s t M v w (ix2 r x) = ((∑ j : Fin 384, Ideal.exp2 ((s (ix2 r j) : EReal) - (μ : EReal)) * v (ix4 0 0 j x))
      + ∑ j : Fin 256, Ideal.exp2 ((t (ix2 r j) : EReal) - (μ : EReal)) * w (ix4 0 0 j x) : EReal) := by
  pointwise [sums]
  rw [hM]
  rfl

/-- One lane: values `n` over weights `d`, at the shift `m`, with a sink `z`. -/
def sunk (m n d z : EReal) : EReal :=
  Ideal.div (n * Ideal.exp2 (m - max m (z * (((Real.log 2)⁻¹ : ℝ) : EReal))))
    (d * Ideal.exp2 (m - max m (z * (((Real.log 2)⁻¹ : ℝ) : EReal))) + Ideal.exp2 (z * (((Real.log 2)⁻¹ : ℝ) : EReal) - max m (z * (((Real.log 2)⁻¹ : ℝ) : EReal))))

theorem quot_apply (M : FVec Ideal S128x1 .f32) (num den : FVec Ideal S128x128 .f32) (z : Elt Ideal .f32) (i l : Fin 128) :
    quot M num den z (ix2 i l) = sunk (M (ix2 i 0)) (num (ix2 i l)) (den (ix2 i l)) z := by
  unfold sunk
  rw [← log2e_eq]
  pointwise [quot, shift2, sink2]
  rfl

theorem select_low (l : Fin 128) (a b : EReal) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by
    decide +kernel
  rw [h l]
  by_cases hl : l.val < 64
  · rw [if_pos hl, if_pos hl]; rfl
  · rw [if_neg hl, if_neg hl]; rfl

/-- The lane of the sums read for value lane `d` of an even query head is `d`, of an odd one `192 + d`. -/
def numLane (u : Fin 4) (d : Fin 64) : Fin 256 := if u.val % 2 = 0 then ⟨d.val, by omega⟩ else ⟨192 + d.val, by omega⟩

/-- The lane of ones that it is divided by. -/
def denLane (u : Fin 4) (d : Fin 64) : Fin 256 := if u.val % 2 = 0 then ⟨128 + d.val, by omega⟩ else ⟨64 + d.val, by omega⟩

/-- The row of query `i` of query head `u`. -/
def rowOf (u : Fin 4) (i : Fin 128) : Fin 512 := ⟨128 * u.val + i.val, by omega⟩

/-- Lane `d` of query head `u` of a key/value head, at query `i`. -/
def lane (M : FVec Ideal S512x1 .f32) (a : FVec Ideal S512x256 .f32) (z : EReal) (i : Fin 128) (u : Fin 4) (d : Fin 64) : EReal :=
  sunk (M (ix2 (rowOf u i) 0)) (a (ix2 (rowOf u i) (numLane u d))) (a (ix2 (rowOf u i) (denLane u d))) z

theorem pair0_apply (M : FVec Ideal S512x1 .f32) (a : FVec Ideal S512x256 .f32) (z0 z1 : Elt Ideal .f32) (i l : Fin 128) :
    pair0 M a z0 z1 (ix2 i l) = if l.val < 64 then sunk (M (ix2 ⟨i.val, by omega⟩ 0)) (a (ix2 ⟨i.val, by omega⟩ ⟨l.val, by omega⟩)) (a (ix2 ⟨i.val, by omega⟩ ⟨128 + l.val, by omega⟩)) z0
      else sunk (M (ix2 ⟨128 + i.val, by omega⟩ 0)) (a (ix2 ⟨128 + i.val, by omega⟩ ⟨128 + l.val, by omega⟩)) (a (ix2 ⟨128 + i.val, by omega⟩ ⟨l.val, by omega⟩)) z1 := by
  pointwise [pair0, lanesLow]
  simp only [quot_apply]
  pointwise
  exact select_low l _ _

theorem pair1_apply (M : FVec Ideal S512x1 .f32) (a : FVec Ideal S512x256 .f32) (z0 z1 : Elt Ideal .f32) (i l : Fin 128) :
    pair1 M a z0 z1 (ix2 i l) = if l.val < 64 then sunk (M (ix2 ⟨256 + i.val, by omega⟩ 0)) (a (ix2 ⟨256 + i.val, by omega⟩ ⟨l.val, by omega⟩)) (a (ix2 ⟨256 + i.val, by omega⟩ ⟨128 + l.val, by omega⟩)) z0
      else sunk (M (ix2 ⟨384 + i.val, by omega⟩ 0)) (a (ix2 ⟨384 + i.val, by omega⟩ ⟨128 + l.val, by omega⟩)) (a (ix2 ⟨384 + i.val, by omega⟩ ⟨l.val, by omega⟩)) z1 := by
  pointwise [pair1, lanesLow]
  simp only [quot_apply]
  pointwise
  exact select_low l _ _

theorem pair0_lane (M : FVec Ideal S512x1 .f32) (a : FVec Ideal S512x256 .f32) (z : Fin 4 → Elt Ideal .f32) (i l : Fin 128) (u : Fin 4) (hu : u.val < 2) (d : Fin 64)
    (hl : l.val = 64 * u.val + d.val) : pair0 M a (z 0) (z 1) (ix2 i l) = lane M a (z u) i u d := by
  rw [show l = ⟨64 * u.val + d.val, by omega⟩ from Fin.ext hl]
  rw [pair0_apply]
  obtain ⟨u, hu'⟩ := u
  have hd := d.isLt
  simp only at hu
  interval_cases u
  · rw [if_pos (by simp only; omega)]; unfold lane numLane denLane rowOf; simp
  · rw [if_neg (by simp only; omega)]; unfold lane numLane denLane rowOf; simp [← add_assoc]

theorem pair1_lane (M : FVec Ideal S512x1 .f32) (a : FVec Ideal S512x256 .f32) (z : Fin 4 → Elt Ideal .f32) (i l : Fin 128) (u : Fin 4) (hu : 2 ≤ u.val) (d : Fin 64)
    (hl : l.val = 64 * (u.val - 2) + d.val) : pair1 M a (z 2) (z 3) (ix2 i l) = lane M a (z u) i u d := by
  rw [show l = ⟨64 * (u.val - 2) + d.val, by omega⟩ from Fin.ext hl]
  rw [pair1_apply]
  obtain ⟨u, hu'⟩ := u
  have hd := d.isLt
  simp only at hu
  interval_cases u
  · rw [if_pos (by simp only; omega)]; unfold lane numLane denLane rowOf; simp
  · rw [if_neg (by simp only; omega)]; unfold lane numLane denLane rowOf; simp [← add_assoc]

/-- The block of 128 lanes and the lane in it, of query head `u`. -/
def pairOf (u : Fin 4) : Fin 2 := ⟨u.val / 2, by omega⟩
def laneOf (u : Fin 4) (d : Fin 64) : Fin 128 := ⟨64 * (u.val % 2) + d.val, by omega⟩

theorem same_lane (h : Fin 4 → Fin 2 → FVec Ideal S128x128 .f32) (i : Fin 128) {g g' : Fin 4} {p p' : Fin 2} {l l' : Fin 128} (hg : g = g') (hp : p = p')
    (hl : l = l') : h g p (ix2 i l) = h g' p' (ix2 i l') := by
  subst hg hp hl; rfl

/-- The stored block at query `i`, lane `d` of query head `u` of key/value head `g`: the lane of that head's blocks. -/
theorem assemble_apply (h : Fin 4 → Fin 2 → FVec Ideal S128x128 .f32) (i : Fin 128) (g u : Fin 4) (d : Fin 64) :
    assemble (h 0 0) (h 0 1) (h 1 0) (h 1 1) (h 2 0) (h 2 1) (h 3 0) (h 3 1) (ix3 0 i ⟨256 * g.val + 64 * u.val + d.val, by omega⟩)
      = h g (pairOf u) (ix2 i (laneOf u d)) := by
  have hd := d.isLt
  obtain ⟨g, hg⟩ := g
  obtain ⟨u, hu⟩ := u
  pointwise [assemble]
  split_ifs <;> interval_cases g <;> interval_cases u <;>
    first
    | (exfalso; omega)
    | (refine same_lane h i rfl (by simp [pairOf]) (Fin.ext ?_); unfold laneOf; dsimp only; try omega)

/-- A key/value head's blocks, lane by lane. -/
theorem headPairs_lane (B : IVec S512x384 1) (qc qs : Vec Ideal S1x4x128x64 .bf16) (kc : Vec Ideal S1x1x256x64 .bf16) (vc : Vec Ideal S1x1x256x256 .bf16)
    (k : Vec Ideal S1x1x384x64 .bf16) (v : Vec Ideal S1x1x384x256 .bf16) (z : Fin 4 → Elt Ideal .f32) (i : Fin 128) (u : Fin 4) (d : Fin 64) :
    headPairs B qc qs kc vc k v z (pairOf u) (ix2 i (laneOf u d))
      = lane (shift (scores B (rows qs) k) (scoresC (rows qc) kc))
          (sums (scores B (rows qs) k) (scoresC (rows qc) kc) (shift (scores B (rows qs) k) (scoresC (rows qc) kc)) v vc) (z u) i u d := by
  by_cases hu : u.val < 2
  · rw [show pairOf u = 0 from Fin.ext (by simp only [pairOf]; show u.val / 2 = 0; omega)]
    exact pair0_lane _ _ z i _ u hu d (by simp only [laneOf]; omega)
  · rw [show pairOf u = 1 from Fin.ext (by simp only [pairOf]; show u.val / 2 = 1; omega)]
    exact pair1_lane _ _ z i _ u (by omega) d (by simp only [laneOf]; omega)

end Cert.Kernel3Ideal.Hand

end
-- ==== Proof.WinLane.lean ====
/-
  One lane of the window attention's result, from a key/value head's loaded pieces: the attention with weights
  (`Cert.Attend.attW`) of the query to the value lane. The pieces are described by functions of coordinates: four query
  heads' rows, the 384 keys and values loaded from `st` on of 2048, the 256 keys and values of the context, the sinks.
-/
module

public import proofs.«01_k».proof.Proof.WinValue

@[expose] public section

set_option maxRecDepth 16384

noncomputable section

namespace Cert.Kernel3Ideal.Hand

open Cert.Kernel3Ideal Cert.Kernel3Ideal.Gen Cert.Attend Idealize.ShloMosaic Idealize.SL.Sem

theorem rowOf_div (u : Fin 4) (i : Fin 128) (h) : (⟨(rowOf u i).val / 128, h⟩ : Fin 4) = u := Fin.ext (by simp only [rowOf]; omega)
theorem rowOf_mod (u : Fin 4) (i : Fin 128) (h) : (⟨(rowOf u i).val % 128, h⟩ : Fin 128) = i := Fin.ext (by simp only [rowOf]; omega)
theorem rowOf_mod' (u : Fin 4) (i : Fin 128) : (rowOf u i).val % 128 = i.val := by simp only [rowOf]; omega

/-- The exponential of a real score, less a shift. -/
theorem exp2_real (x μ : ℝ) : Ideal.exp2 ((x : EReal) - (μ : EReal)) = (((2 : ℝ) ^ (-μ) * (2 : ℝ) ^ x : ℝ) : EReal) := by
  rw [← EReal.coe_sub]
  show (((2 : ℝ) ^ (x - μ) : ℝ) : EReal) = _
  rw [← Real.rpow_add two_pos]; congr 2; ring

theorem exp2_diff (x y : ℝ) : Ideal.exp2 ((x : EReal) - (y : EReal)) = (((2 : ℝ) ^ (x - y) : ℝ) : EReal) := by
  rw [← EReal.coe_sub]; rfl

/-- A sink in base two weighs what its exponential does. -/
theorem two_pow_sink (z : ℝ) : (2 : ℝ) ^ (z * (Real.log 2)⁻¹) = Real.exp z := by
  have h : Real.log 2 ≠ 0 := (Real.log_pos one_lt_two).ne'
  rw [Real.rpow_def_of_pos two_pos]; congr 1; field_simp

/-- A lane with a real shift and a real sink: there is a common shift. -/
theorem sunk_real (μ z : ℝ) (n d : EReal) : ∃ ν : ℝ, sunk μ n d z
    = Ideal.div (n * (((2 : ℝ) ^ (μ - ν) : ℝ) : EReal)) (d * (((2 : ℝ) ^ (μ - ν) : ℝ) : EReal) + (((2 : ℝ) ^ (z * (Real.log 2)⁻¹ - ν) : ℝ) : EReal)) := by
  have hz : (z : EReal) * (((Real.log 2)⁻¹ : ℝ) : EReal) = ((z * (Real.log 2)⁻¹ : ℝ) : EReal) := (EReal.coe_mul _ _).symm
  obtain ⟨ν, hν⟩ := max_real (a := (μ : EReal)) (b := ((z * (Real.log 2)⁻¹ : ℝ) : EReal)) ⟨_, rfl⟩ ⟨_, rfl⟩
  refine ⟨ν, ?_⟩
  unfold sunk
  rw [hz, hν, exp2_diff, exp2_diff]

/-- The selection of a score by the band's bit is the masked score. -/
theorem select_masked (P : Prop) [Decidable P] (x : EReal) (h : ∃ r : ℝ, x = r) :
    (Scalar.select (if P then 1#1 else 0#1 : BitVec 1) x ⊥ : EReal) = masked P x.toReal := by
  unfold masked
  split_ifs
  · exact (coe_toReal_of h).symm
  · rfl

/-- A lane of a head's result is the attention of its query to its value lane. -/
theorem head_lane (B : IVec S512x384 1) (qc qs : Vec Ideal S1x4x128x64 .bf16) (kc : Vec Ideal S1x1x256x64 .bf16) (vc : Vec Ideal S1x1x256x256 .bf16)
    (k : Vec Ideal S1x1x384x64 .bf16) (v : Vec Ideal S1x1x384x256 .bf16) (z : Fin 4 → Elt Ideal .f32)
    (Qc Qs : Fin 4 → Fin 128 → Fin 64 → EReal) (K : Fin 2048 → Fin 64 → EReal) (KC : Fin 256 → Fin 64 → EReal)
    (VV : Fin 2048 → Fin 64 → EReal) (VC : Fin 256 → Fin 64 → EReal) (Z : Fin 4 → ℝ) (st N : ℕ) (hst : st + 384 ≤ 2048)
    (hN : ∀ (i : Fin 128) (J : Fin 2048), near (N + i.val) J.val → st ≤ J.val ∧ J.val < st + 384)
    (hB : ∀ r j, B (ix2 r j) = if near (N + r.val % 128) (st + j.val) then 1#1 else 0#1)
    (hqc : ∀ u i d, qc (ix4 0 u i d) = Qc u i d) (hqs : ∀ u i d, qs (ix4 0 u i d) = Qs u i d)
    (hkc : ∀ j d, kc (ix4 0 0 j d) = KC j d)
    (hvc : ∀ j u d, vc (ix4 0 0 j (numLane u d)) = VC j d) (hvc' : ∀ j u d, vc (ix4 0 0 j (denLane u d)) = (1 : EReal))
    (hk : ∀ (j : Fin 384) d, k (ix4 0 0 j d) = K ⟨st + j.val, by omega⟩ d)
    (hv : ∀ (j : Fin 384) u d, v (ix4 0 0 j (numLane u d)) = VV ⟨st + j.val, by omega⟩ d) (hv' : ∀ (j : Fin 384) u d, v (ix4 0 0 j (denLane u d)) = (1 : EReal))
    (hz : ∀ u, z u = ((Z u : ℝ) : EReal))
    (i : Fin 128) (u : Fin 4) (d : Fin 64)
    (hf : ∀ j, ∃ r : ℝ, ∑ d, Qs u i d * K j d = r) (hfc : ∀ j, ∃ r : ℝ, ∑ d, Qc u i d * KC j d = r) :
    headPairs B qc qs kc vc k v z (pairOf u) (ix2 i (laneOf u d))
      = attW (fun J : Fin 2048 => bandw (near (N + i.val) J.val) (∑ d, Qs u i d * K J d : EReal).toReal)
          (fun j : Fin 256 => (2 : ℝ) ^ (∑ d, Qc u i d * KC j d : EReal).toReal) (Real.exp (Z u)) (fun J => VV J d) (fun j => VC j d) := by
  rw [headPairs_lane, hz]
  have es : ∀ j : Fin 384, scores B (rows qs) k (ix2 (rowOf u i) j)
      = masked (near (N + i.val) (st + j.val)) (∑ d, Qs u i d * K ⟨st + j.val, by omega⟩ d : EReal).toReal := by
    intro j
    rw [scores_apply, hB, ← select_masked _ _ (hf _)]
    simp only [rowOf_div, rowOf_mod, rowOf_mod', hqs, hk]
  have et : ∀ j : Fin 256, scoresC (rows qc) kc (ix2 (rowOf u i) j) = ((∑ d, Qc u i d * KC j d : EReal).toReal : EReal) := by
    intro j
    rw [scoresC_apply, coe_toReal_of (hfc j)]
    simp only [rowOf_div, rowOf_mod, hqc, hkc]
  obtain ⟨μ, hμ⟩ := shift_real (scores B (rows qs) k) (scoresC (rows qc) kc) (rowOf u i)
    (fun j => lt_of_eq_of_lt (es j) (masked_lt _ _)) (fun j => ⟨_, et j⟩)
  unfold lane
  rw [hμ, sums_apply _ _ _ _ _ _ _ μ hμ, sums_apply _ _ _ _ _ _ _ μ hμ]
  obtain ⟨ν, hν⟩ := sunk_real μ (Z u)
    ((∑ j : Fin 384, Ideal.exp2 ((scores B (rows qs) k (ix2 (rowOf u i) j) : EReal) - (μ : EReal)) * v (ix4 0 0 j (numLane u d)))
      + ∑ j : Fin 256, Ideal.exp2 ((scoresC (rows qc) kc (ix2 (rowOf u i) j) : EReal) - (μ : EReal)) * vc (ix4 0 0 j (numLane u d)) : EReal)
    ((∑ j : Fin 384, Ideal.exp2 ((scores B (rows qs) k (ix2 (rowOf u i) j) : EReal) - (μ : EReal)) * v (ix4 0 0 j (denLane u d)))
      + ∑ j : Fin 256, Ideal.exp2 ((scoresC (rows qc) kc (ix2 (rowOf u i) j) : EReal) - (μ : EReal)) * vc (ix4 0 0 j (denLane u d)) : EReal)
  refine hν.trans ?_
  simp only [es, et, exp2_masked, exp2_real, hv, hv', hvc, hvc']
  have out : ∀ (X : Fin 2048 → EReal), ∑ j : Fin 384, (((2 : ℝ) ^ (-μ) * bandw (near (N + i.val) (st + j.val)) (∑ d, Qs u i d * K ⟨st + j.val, by omega⟩ d : EReal).toReal : ℝ) : EReal) * X ⟨st + j.val, by omega⟩
      = ∑ J : Fin 2048, (((2 : ℝ) ^ (-μ) * bandw (near (N + i.val) J.val) (∑ d, Qs u i d * K J d : EReal).toReal : ℝ) : EReal) * X J := by
    intro X
    refine sum_window st hst (fun J : Fin 2048 => (((2 : ℝ) ^ (-μ) * bandw (near (N + i.val) J.val) (∑ d, Qs u i d * K J d : EReal).toReal : ℝ) : EReal) * X J) fun J hJ => ?_
    have hn : ¬ near (N + i.val) J.val := fun h => by have := hN i J h; omega
    show (((2 : ℝ) ^ (-μ) * bandw (near (N + i.val) J.val) _ : ℝ) : EReal) * X J = 0
    unfold bandw
    rw [if_neg hn, mul_zero, EReal.coe_zero, zero_mul]
  rw [out (fun J => VV J d), out (fun _ => 1), ← two_pow_sink]
  exact div_attW _ _ _ _ _ _ _ (fun _ => bandw_nonneg _ _) (fun _ => (Real.rpow_pos_of_pos two_pos _).le)

end Cert.Kernel3Ideal.Hand

end
-- ==== Proof.WinFinal.lean ====
/-
  The window attention's result array: at batch `b`, query `n`, lane `256 g + 64 u + d` it is the attention, within the band
  and with its sink, of query head `4 g + u` to lane `d` of the values of key/value head `g` — where queries, keys and sinks
  are reals.
-/
module

public import proofs.«01_k».proof.Proof.WinBlocks
public import proofs.«01_k».proof.Proof.WinLane

@[expose] public section

set_option maxRecDepth 16384

noncomputable section

namespace Cert.Kernel3Ideal.Hand

open Cert.Kernel3Ideal Cert.Kernel3Ideal.Gen Cert.Attend Idealize.ShloMosaic Idealize.ShloMosaic.TcCoe Idealize.SL.Sem

/-! ## The host's rows of values -/

theorem aug_num (v : Vec Ideal S16x4x2048x64 .bf16) (b : Fin 16) (g : Fin 4) (j : Fin 2048) (u : Fin 4) (d : Fin 64) :
    aug v (ix4 b g j (numLane u d)) = v (ix4 b g j d) := by
  unfold numLane
  split_ifs <;> pointwise [aug] <;> (split_ifs <;> first | (exfalso; omega) | (congr 1; congr 1; apply Fin.ext; simp only; omega) | rfl)

theorem aug_den (v : Vec Ideal S16x4x2048x64 .bf16) (b : Fin 16) (g : Fin 4) (j : Fin 2048) (u : Fin 4) (d : Fin 64) :
    aug v (ix4 b g j (denLane u d)) = (1 : EReal) := by
  unfold denLane
  split_ifs <;> pointwise [aug] <;> (split_ifs <;> first | (exfalso; omega) | exact ofBits_one_bf16 | rfl)

theorem augC_num (v : Vec Ideal S16x4x256x64 .bf16) (b : Fin 16) (g : Fin 4) (j : Fin 256) (u : Fin 4) (d : Fin 64) :
    augC v (ix4 b g j (numLane u d)) = v (ix4 b g j d) := by
  unfold numLane
  split_ifs <;> pointwise [augC] <;> (split_ifs <;> first | (exfalso; omega) | (congr 1; congr 1; apply Fin.ext; simp only; omega) | rfl)

theorem augC_den (v : Vec Ideal S16x4x256x64 .bf16) (b : Fin 16) (g : Fin 4) (j : Fin 256) (u : Fin 4) (d : Fin 64) :
    augC v (ix4 b g j (denLane u d)) = (1 : EReal) := by
  unfold denLane
  split_ifs <;> pointwise [augC] <;> (split_ifs <;> first | (exfalso; omega) | exact ofBits_one_bf16 | rfl)

/-! ## The array that the run is to leave -/

/-- Attention of query head `4 g + u` of batch `b` at query `n`, to lane `d`: over the sequence's scores within 128 positions
    and the context's, in base two, with the head's sink. -/
def winAt (qp qr : Vec Ideal S16x16x2048x64 .bf16) (k v : Vec Ideal S16x4x2048x64 .bf16) (kc vc : Vec Ideal S16x4x256x64 .bf16) (z : Vec Ideal S16 .f32)
    (b : Fin 16) (g u : Fin 4) (n : Fin 2048) (d : Fin 64) : EReal :=
  attW (fun j : Fin 2048 => bandw (near n.val j.val) (∑ d : Fin 64, qr (ix4 b ⟨g.val * 4 + u.val, by omega⟩ n d) * k (ix4 b g j d) : EReal).toReal)
    (fun j : Fin 256 => (2 : ℝ) ^ (∑ d : Fin 64, qp (ix4 b ⟨g.val * 4 + u.val, by omega⟩ n d) * kc (ix4 b g j d) : EReal).toReal)
    (Real.exp (z (ix1 ⟨g.val * 4 + u.val, by omega⟩) : EReal).toReal)
    (fun j => v (ix4 b g j d)) (fun j => vc (ix4 b g j d))

/-- The result array: the attention, lanes by key/value head, query head and lane. -/
def W (qp qr : Vec Ideal S16x16x2048x64 .bf16) (k v : Vec Ideal S16x4x2048x64 .bf16) (kc vc : Vec Ideal S16x4x256x64 .bf16) (z : Vec Ideal S16 .f32) :
    Vec Ideal S16x2048x1024 .bf16 := fun i =>
  winAt qp qr k v kc vc z (i 0) ⟨(i 2).val / 256, by have : (i 2).val < 1024 := (i 2).isLt; omega⟩ ⟨(i 2).val / 64 % 4, by omega⟩ (i 1) ⟨(i 2).val % 64, by omega⟩

theorem W_apply (qp qr : Vec Ideal S16x16x2048x64 .bf16) (k v : Vec Ideal S16x4x2048x64 .bf16) (kc vc : Vec Ideal S16x4x256x64 .bf16) (z : Vec Ideal S16 .f32)
    (b : Fin 16) (n : Fin 2048) (g u : Fin 4) (d : Fin 64) :
    W qp qr k v kc vc z (ix3 b n ⟨256 * g.val + 64 * u.val + d.val, by omega⟩) = winAt qp qr k v kc vc z b g u n d := by
  have e1 : (⟨(256 * g.val + 64 * u.val + d.val) / 256, by omega⟩ : Fin 4) = g := Fin.ext (by simp only; omega)
  have e2 : (⟨(256 * g.val + 64 * u.val + d.val) / 64 % 4, by omega⟩ : Fin 4) = u := Fin.ext (by simp only; omega)
  have e3 : (⟨(256 * g.val + 64 * u.val + d.val) % 64, by omega⟩ : Fin 64) = d := Fin.ext (by simp only; omega)
  show winAt qp qr k v kc vc z b ⟨(256 * g.val + 64 * u.val + d.val) / 256, _⟩ ⟨(256 * g.val + 64 * u.val + d.val) / 64 % 4, _⟩ n ⟨(256 * g.val + 64 * u.val + d.val) % 64, _⟩ = _
  rw [e1, e2, e3]

/-- Queries, keys and sinks are reals. -/
def Real5 (qp qr : Vec Ideal S16x16x2048x64 .bf16) (k : Vec Ideal S16x4x2048x64 .bf16) (kc : Vec Ideal S16x4x256x64 .bf16) (z : Vec Ideal S16 .f32) : Prop :=
  (∀ i, ∃ r : ℝ, (qp i : EReal) = r) ∧ (∀ i, ∃ r : ℝ, (qr i : EReal) = r) ∧ (∀ i, ∃ r : ℝ, (k i : EReal) = r) ∧ (∀ i, ∃ r : ℝ, (kc i : EReal) = r)
    ∧ (∀ i, ∃ r : ℝ, (z i : EReal) = r)

/-! ## A point's block -/

/-- A loaded piece, read in its block. -/
theorem ld_q (x : Vec Ideal S1x16x128x64 .bf16) (o : ℕ) (hi : ∀ a, (![0, o, 0, 0] : Fin 4 → Nat) a + S1x4x128x64.size a ≤ S1x16x128x64.size a) (u : Fin 4) (i : Fin 128) (d : Fin 64) (h : o + u.val < 16) :
    View.ld x (Rect.unit (s := S1x16x128x64) ![0, o, 0, 0] S1x4x128x64.size hi) (ix4 0 u i d) = x (ix4 0 ⟨o + u.val, h⟩ i d) := by
  pointwise

theorem ld_k (x : Vec Ideal S1x4x2048x64 .bf16) (g o : ℕ) (hi : ∀ a, (![0, g, o, 0] : Fin 4 → Nat) a + S1x1x384x64.size a ≤ S1x4x2048x64.size a) (j : Fin 384) (d : Fin 64) (hg : g < 4) (h : o + j.val < 2048) :
    View.ld x (Rect.unit (s := S1x4x2048x64) ![0, g, o, 0] S1x1x384x64.size hi) (ix4 0 0 j d) = x (ix4 0 ⟨g, hg⟩ ⟨o + j.val, h⟩ d) := by
  pointwise

theorem ld_v (x : Vec Ideal S1x4x2048x256 .bf16) (g o : ℕ) (hi : ∀ a, (![0, g, o, 0] : Fin 4 → Nat) a + S1x1x384x256.size a ≤ S1x4x2048x256.size a) (j : Fin 384) (d : Fin 256) (hg : g < 4) (h : o + j.val < 2048) :
    View.ld x (Rect.unit (s := S1x4x2048x256) ![0, g, o, 0] S1x1x384x256.size hi) (ix4 0 0 j d) = x (ix4 0 ⟨g, hg⟩ ⟨o + j.val, h⟩ d) := by
  pointwise

theorem ld_kc (x : Vec Ideal S1x4x256x64 .bf16) (g : ℕ) (hi : ∀ a, (![0, g, 0, 0] : Fin 4 → Nat) a + S1x1x256x64.size a ≤ S1x4x256x64.size a) (j : Fin 256) (d : Fin 64) (hg : g < 4) :
    View.ld x (Rect.unit (s := S1x4x256x64) ![0, g, 0, 0] S1x1x256x64.size hi) (ix4 0 0 j d) = x (ix4 0 ⟨g, hg⟩ j d) := by
  pointwise

theorem ld_vc (x : Vec Ideal S1x4x256x256 .bf16) (g : ℕ) (hi : ∀ a, (![0, g, 0, 0] : Fin 4 → Nat) a + S1x1x256x256.size a ≤ S1x4x256x256.size a) (j : Fin 256) (d : Fin 256) (hg : g < 4) :
    View.ld x (Rect.unit (s := S1x4x256x256) ![0, g, 0, 0] S1x1x256x256.size hi) (ix4 0 0 j d) = x (ix4 0 ⟨g, hg⟩ j d) := by
  pointwise

/-- A sink, read in the block of sinks. -/
theorem sinkAt_eq (x : Vec Ideal S16 .f32) (n : ℕ) (h : ∀ a, (![n] : Fin 1 → Nat) a + S1.size a ≤ S16.size a) (hn : n < 16) :
    sinkAt x n h = x (ix1 ⟨n, hn⟩) := by
  unfold sinkAt
  show x _ = _
  congr 1
  funext a; apply Fin.ext
  match a with
  | ⟨0, _⟩ => rfl

section
variable (m : (ℓ : Loc nD τ sig) → Buf (Elt Ideal) ℓ) (c : Dev nD)

/-- The blocks of lanes of the four key/value heads of a point. -/
def headsAt (t : Fin cfg0.N) : Fin 4 → Fin 2 → FVec Ideal S128x128 .f32
  | 0 => head0 (grid0.coords t) (iblk m c 0 t) (iblk m c 1 t) (iblk m c 2 t) (iblk m c 3 t) (iblk m c 4 t) (iblk m c 5 t) (iblk m c 6 t)
  | 1 => head1 (grid0.coords t) (iblk m c 0 t) (iblk m c 1 t) (iblk m c 2 t) (iblk m c 3 t) (iblk m c 4 t) (iblk m c 5 t) (iblk m c 6 t)
  | 2 => head2 (grid0.coords t) (iblk m c 0 t) (iblk m c 1 t) (iblk m c 2 t) (iblk m c 3 t) (iblk m c 4 t) (iblk m c 5 t) (iblk m c 6 t)
  | 3 => head3 (grid0.coords t) (iblk m c 0 t) (iblk m c 1 t) (iblk m c 2 t) (iblk m c 3 t) (iblk m c 4 t) (iblk m c 5 t) (iblk m c 6 t)

/-- The result array of the arguments. -/
def result : Vec Ideal S16x2048x1024 .bf16 :=
  W (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The arguments are reals where they are to be. -/
def Reals : Prop :=
  Real5 (m ((c : Thread nD τ).loc main_arg0)) (m ((c : Thread nD τ).loc main_arg1)) (m ((c : Thread nD τ).loc main_arg2))
    (m ((c : Thread nD τ).loc main_arg4)) (m ((c : Thread nD τ).loc main_arg6))

/-- Where queries, keys and sinks are reals, a lane of a head's blocks at a point is the attention it stands for. -/
theorem head_att (t : Fin cfg0.N) (g : Fin 4) (hR : Reals m c) (ok ov : Fin 4 → ℕ)
    (eok : ok = ![0, g.val, start ((grid0.coords t) 1).val, 0]) (eov : ov = ![0, g.val, start ((grid0.coords t) 1).val, 0])
    (hq : ∀ a, (![0, g.val * 4, 0, 0] : Fin 4 → Nat) a + S1x4x128x64.size a ≤ S1x16x128x64.size a)
    (hkc : ∀ a, (![0, g.val, 0, 0] : Fin 4 → Nat) a + S1x1x256x64.size a ≤ S1x4x256x64.size a)
    (hvc : ∀ a, (![0, g.val, 0, 0] : Fin 4 → Nat) a + S1x1x256x256.size a ≤ S1x4x256x256.size a)
    (hk : ∀ a, ok a + S1x1x384x64.size a ≤ S1x4x2048x64.size a)
    (hv : ∀ a, ov a + S1x1x384x256.size a ≤ S1x4x2048x256.size a)
    (z : Fin 4 → Elt Ideal .f32) (hz : ∀ u : Fin 4, z u = m ((c : Thread nD τ).loc main_arg6) (ix1 ⟨g.val * 4 + u.val, by omega⟩))
    (i : Fin 128) (u : Fin 4) (d : Fin 64) :
    headPairs (band (grid0.coords t)) (View.ld (iblk m c 0 t) (Rect.unit (s := S1x16x128x64) ![0, g.val * 4, 0, 0] S1x4x128x64.size hq))
        (View.ld (iblk m c 1 t) (Rect.unit (s := S1x16x128x64) ![0, g.val * 4, 0, 0] S1x4x128x64.size hq))
        (View.ld (iblk m c 4 t) (Rect.unit (s := S1x4x256x64) ![0, g.val, 0, 0] S1x1x256x64.size hkc))
        (View.ld (iblk m c 5 t) (Rect.unit (s := S1x4x256x256) ![0, g.val, 0, 0] S1x1x256x256.size hvc))
        (View.ld (iblk m c 2 t) (Rect.unit (s := S1x4x2048x64) ok S1x1x384x64.size hk))
        (View.ld (iblk m c 3 t) (Rect.unit (s := S1x4x2048x256) ov S1x1x384x256.size hv)) z (pairOf u) (ix2 i (laneOf u d))
      = winAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (batch t) g u (query t i) d := by
  subst eok eov
  obtain ⟨h0, h1, h2, h4, h6⟩ := hR
  have hst := start_le ((grid0.coords t) 1).val
  have hc1 : ((grid0.coords t) 1).val = (qblk t).val := coord1 t
  exact head_lane _ _ _ _ _ _ _ z
    (fun u i d => m ((c : Thread nD τ).loc main_arg0) (ix4 (batch t) ⟨g.val * 4 + u.val, by omega⟩ (query t i) d))
    (fun u i d => m ((c : Thread nD τ).loc main_arg1) (ix4 (batch t) ⟨g.val * 4 + u.val, by omega⟩ (query t i) d))
    (fun j d => m ((c : Thread nD τ).loc main_arg2) (ix4 (batch t) g j d))
    (fun j d => m ((c : Thread nD τ).loc main_arg4) (ix4 (batch t) g j d))
    (fun j d => m ((c : Thread nD τ).loc main_arg3) (ix4 (batch t) g j d))
    (fun j d => m ((c : Thread nD τ).loc main_arg5) (ix4 (batch t) g j d))
    (fun u => (m ((c : Thread nD τ).loc main_arg6) (ix1 ⟨g.val * 4 + u.val, by omega⟩) : EReal).toReal)
    (start ((grid0.coords t) 1).val) (128 * (qblk t).val) hst
    (fun i J h => by rw [hc1]; exact near_start _ _ _ i.isLt J.isLt h)
    (fun r j => by rw [band_apply, hc1])
    (fun u i d => (ld_q _ _ hq u i d (by omega)).trans (blk0 m c t _ i d))
    (fun u i d => (ld_q _ _ hq u i d (by omega)).trans (blk1 m c t _ i d))
    (fun j d => (ld_kc _ _ hkc j d g.isLt).trans (blk4 m c t g j d))
    (fun j u d => (ld_vc _ _ hvc j _ g.isLt).trans ((blk5 m c t g j _).trans (augC_num _ _ _ _ _ _)))
    (fun j u d => (ld_vc _ _ hvc j _ g.isLt).trans ((blk5 m c t g j _).trans (augC_den _ _ _ _ _ _)))
    (fun j d => (ld_k _ _ _ hk j d g.isLt (by omega)).trans (blk2 m c t g _ d))
    (fun j u d => (ld_v _ _ _ hv j _ g.isLt (by omega)).trans ((blk3 m c t g _ _).trans (aug_num _ _ _ _ _ _)))
    (fun j u d => (ld_v _ _ _ hv j _ g.isLt (by omega)).trans ((blk3 m c t g _ _).trans (aug_den _ _ _ _ _ _)))
    (fun u => (hz u).trans (coe_toReal_of (h6 _)).symm)
    i u d (fun j => finite_sum fun d => finite_mul (h1 _) (h2 _)) (fun j => finite_sum fun d => finite_mul (h0 _) (h4 _))

theorem headsAt_lane (t : Fin cfg0.N) (hR : Reals m c) (g : Fin 4) (i : Fin 128) (u : Fin 4) (d : Fin 64) :
    headsAt m c t g (pairOf u) (ix2 i (laneOf u d))
      = winAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (batch t) g u (query t i) d := by
  match g with
  | 0 => exact head_att m c t 0 hR _ _ (off1_eq _) (off2_eq _) _ _ _ _ _ _ (fun u => by
      match u with
      | 0 => exact (sinkAt_eq _ 0 _ (by omega)).trans (blk6 m c t _)
      | 1 => exact (sinkAt_eq _ 1 _ (by omega)).trans (blk6 m c t _)
      | 2 => exact (sinkAt_eq _ 2 _ (by omega)).trans (blk6 m c t _)
      | 3 => exact (sinkAt_eq _ 3 _ (by omega)).trans (blk6 m c t _)) i u d
  | 1 => exact head_att m c t 1 hR _ _ (off3_eq _) (off4_eq _) _ _ _ _ _ _ (fun u => by
      match u with
      | 0 => exact (sinkAt_eq _ 4 _ (by omega)).trans (blk6 m c t _)
      | 1 => exact (sinkAt_eq _ 5 _ (by omega)).trans (blk6 m c t _)
      | 2 => exact (sinkAt_eq _ 6 _ (by omega)).trans (blk6 m c t _)
      | 3 => exact (sinkAt_eq _ 7 _ (by omega)).trans (blk6 m c t _)) i u d
  | 2 => exact head_att m c t 2 hR _ _ (off5_eq _) (off6_eq _) _ _ _ _ _ _ (fun u => by
      match u with
      | 0 => exact (sinkAt_eq _ 8 _ (by omega)).trans (blk6 m c t _)
      | 1 => exact (sinkAt_eq _ 9 _ (by omega)).trans (blk6 m c t _)
      | 2 => exact (sinkAt_eq _ 10 _ (by omega)).trans (blk6 m c t _)
      | 3 => exact (sinkAt_eq _ 11 _ (by omega)).trans (blk6 m c t _)) i u d
  | 3 => exact head_att m c t 3 hR _ _ (off7_eq _) (off8_eq _) _ _ _ _ _ _ (fun u => by
      match u with
      | 0 => exact (sinkAt_eq _ 12 _ (by omega)).trans (blk6 m c t _)
      | 1 => exact (sinkAt_eq _ 13 _ (by omega)).trans (blk6 m c t _)
      | 2 => exact (sinkAt_eq _ 14 _ (by omega)).trans (blk6 m c t _)
      | 3 => exact (sinkAt_eq _ 15 _ (by omega)).trans (blk6 m c t _)) i u d

/-! ## The result array -/

/-- What a point writes back is its block of the result of the arguments. -/
theorem flushed_eq (hR : Reals m c) (t : Fin cfg0.N) :
    (dats m 0 c).flushed 7 t = ((cfg0.win 7).blk t).view.read (Elt Ideal) (result m c) := by
  rw [Value.flushed7_A, out_eq]
  funext y
  obtain ⟨z, i, l, rfl⟩ : ∃ (z : Fin 1) (i : Fin 128) (l : Fin 1024), y = ix3 z i l := ⟨y 0, y 1, y 2, eq_ix3 y⟩
  obtain rfl : z = 0 := Subsingleton.elim _ _
  obtain ⟨g, u, d, rfl⟩ : ∃ (g u : Fin 4) (d : Fin 64), l = ⟨256 * g.val + 64 * u.val + d.val, by omega⟩ :=
    ⟨⟨l.val / 256, by omega⟩, ⟨l.val / 64 % 4, by omega⟩, ⟨l.val % 64, by omega⟩, Fin.ext (by simp only; omega)⟩
  show assemble (headsAt m c t 0 0) (headsAt m c t 0 1) (headsAt m c t 1 0) (headsAt m c t 1 1) (headsAt m c t 2 0) (headsAt m c t 2 1) (headsAt m c t 3 0) (headsAt m c t 3 1)
      (ix3 0 i ⟨256 * g.val + 64 * u.val + d.val, _⟩)
    = W _ _ _ _ _ _ _ (((cfg0.win 7).blk t).view.emb (ix3 0 i ⟨256 * g.val + 64 * u.val + d.val, _⟩))
  rw [emb7, assemble_apply (headsAt m c t), headsAt_lane m c t hR, W_apply]

/-- The result array after the run. -/
theorem final (hR : Reals m c) : (dats m 0 c).arrAt 7 cfg0.N = result m c :=
  (dats m 0 c).arrAt_eq_of_cover 7 _ (fun t _ => flushed_eq m c hR t) cover
end

end Cert.Kernel3Ideal.Hand

end
-- ==== Proof.WinRef.lean ====
/-
  The window attention's reference, read at an index: the attention with weights (`Cert.Attend.attW`) of that query to that
  value lane — the weights zero outside the band, and the sink's weight of no value.
-/
module

public import proofs.«01_k».proof.Proof.Gen.Reference3Ideal.Run
public import proofs.«01_k».proof.Proof.RefRead
public import proofs.«01_k».proof.Proof.WinBand
public import Idealize.ShloMosaic.Lib.Pointwise

@[expose] public section

set_option maxRecDepth 16384

noncomputable section

namespace Cert.Reference3Ideal.Hand

open Cert.Reference3Ideal Cert.Reference3Ideal.Gen Cert.Attend Idealize.ShloMosaic Idealize.ShloMosaic.TcCoe Idealize.SL.Sem

section
variable {F : FTy → Type} [FloatOps F]

/-- Where a query and a key lie at most 128 apart. -/
def mask : IVec S2048x2048 1 :=
  cmpi .sle (absi (subi
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))))
    (broadcastInDim S2048x2048 ![] bcast_S_S2048x2048 (constantI S_ 32 128#32))

/-- The scores of every query against every key of the sequence, times `log 2`. -/
def lat (q : Vec F S16x16x2048x64 .bf16) (k : Vec F S16x4x2048x64 .bf16) : FVec F S16x4x4x2048x2048 .f32 :=
  mulf (Host.dotGeneral dot_S16x4x4x2048x64_S16x4x2048x64_S16x4x4x2048x2048_4_3_23_2_01_01 none
      (shapeCast S16x4x4x2048x64 (extf .f32 q bitsLt_bf16_f32 : FVec F S16x16x2048x64 .f32) shapeCasts_S16x16x2048x64_S16x4x4x2048x64 : FVec F S16x4x4x2048x64 .f32)
      (extf .f32 k bitsLt_bf16_f32))
    (broadcastInDim S16x4x4x2048x2048 ![] bcast_S_S16x4x4x2048x2048 (Host.log (constant S_ .f32 0x40000000#32)))

/-- Minus infinity outside the band. -/
def within (s : FVec F S16x4x4x2048x2048 .f32) : FVec F S16x4x4x2048x2048 .f32 :=
  select (broadcastInDim S16x4x4x2048x2048 ![3, 4] bcast_S2048x2048_S16x4x4x2048x2048_3_4 mask) s
    (broadcastInDim S16x4x4x2048x2048 ![] bcast_S_S16x4x4x2048x2048 (constant S_ .f32 0xFF800000#32))

/-- The scores against the context's keys, times `log 2`. -/
def ctx (q : Vec F S16x16x2048x64 .bf16) (k : Vec F S16x4x256x64 .bf16) : FVec F S16x4x4x2048x256 .f32 :=
  mulf (Host.dotGeneral dot_S16x4x4x2048x64_S16x4x256x64_S16x4x4x2048x256_4_3_23_2_01_01 none
      (shapeCast S16x4x4x2048x64 (extf .f32 q bitsLt_bf16_f32 : FVec F S16x16x2048x64 .f32) shapeCasts_S16x16x2048x64_S16x4x4x2048x64 : FVec F S16x4x4x2048x64 .f32)
      (extf .f32 k bitsLt_bf16_f32))
    (broadcastInDim S16x4x4x2048x256 ![] bcast_S_S16x4x4x2048x256 (Host.log (constant S_ .f32 0x40000000#32)))

/-- Each head's sink, a column of its own. -/
def sinks (z : Vec F S16 .f32) : FVec F S16x4x4x2048x1 .f32 :=
  broadcastInDim S16x4x4x2048x1 ![0, 1, 2, 3, 4] bcast_S1x4x4x1x1_S16x4x4x2048x1_0_1_2_3_4
    (shapeCast S1x4x4x1x1 z shapeCasts_S16_S1x4x4x1x1 : FVec F S1x4x4x1x1 .f32)

/-- The joined scores. -/
def joined (a : FVec F S16x4x4x2048x2048 .f32) (b : FVec F S16x4x4x2048x256 .f32) (z : FVec F S16x4x4x2048x1 .f32) : FVec F S16x4x4x2048x2305 .f32 :=
  concatenate S16x4x4x2048x2305 4 [⟨S16x4x4x2048x2048, a⟩, ⟨S16x4x4x2048x256, b⟩, ⟨S16x4x4x2048x1, z⟩] concatenates_S16x4x4x2048x2048_S16x4x4x2048x256_S16x4x4x2048x1_S16x4x4x2048x2305_d4

/-- Each query's greatest score. -/
def greatest (s : FVec F S16x4x4x2048x2305 .f32) : FVec F S16x4x4x2048 .f32 :=
  Host.reduce FloatOps.maximumf s (constant S_ .f32 0xFF800000#32) reducesTo_S16x4x4x2048x2305_S16x4x4x2048_d4 h_S_

/-- The greater of minus infinity and a vector. -/
def notBelow (x : FVec F S16x4x4x2048 .f32) : FVec F S16x4x4x2048 .f32 :=
  maximumf (broadcastInDim S16x4x4x2048 ![] bcast_S_S16x4x4x2048 (constant S_ .f32 0xFF800000#32)) x

/-- Each query's shift: its greatest score. -/
def shift (s : FVec F S16x4x4x2048x2305 .f32) : FVec F S16x4x4x2048 .f32 := notBelow (greatest s)

/-- One number per query, along the keys. -/
def along (x : FVec F S16x4x4x2048 .f32) : FVec F S16x4x4x2048x2305 .f32 :=
  broadcastInDim S16x4x4x2048x2305 ![0, 1, 2, 3, 4] bcast_S16x4x4x2048x1_S16x4x4x2048x2305_0_1_2_3_4
    (broadcastInDim S16x4x4x2048x1 ![0, 1, 2, 3] bcast_S16x4x4x2048_S16x4x4x2048x1_0_1_2_3 x)

/-- The exponentials of the shifted scores. -/
def expo (s : FVec F S16x4x4x2048x2305 .f32) : FVec F S16x4x4x2048x2305 .f32 := Host.exp (subf s (along (shift s)))

/-- The exponentials over their total. -/
def probs (e : FVec F S16x4x4x2048x2305 .f32) : FVec F S16x4x4x2048x2305 .f32 :=
  Host.divf e (along (Host.reduceAdd e (constant S_ .f32 0x00000000#32) reducesTo_S16x4x4x2048x2305_S16x4x4x2048_d4 h_S_))

/-- The values weighed by the probabilities. -/
def outp (p : FVec F S16x4x4x2048x2305 .f32) (v : Vec F S16x4x2048x64 .bf16) (vc : Vec F S16x4x256x64 .bf16) : Vec F S16x2048x1024 .bf16 :=
  truncf .bf16 (shapeCast S16x2048x1024 (addf
    (transpose S16x2048x4x4x64 [0, 4, 1, 3, 2] (Host.dotGeneral dot_S16x4x2048x64_S16x4x4x2048x2048_S16x4x64x4x2048_2_4_3_23_01_01 none
      (extf .f32 v bitsLt_bf16_f32) (extractStridedSlice S16x4x4x2048x2048 ![0, 0, 0, 0, 0] p slices_S16x4x4x2048x2305_S16x4x4x2048x2048_0_0_0_0_0)) transposes_S16x4x64x4x2048_S16x2048x4x4x64_0_4_1_3_2)
    (transpose S16x2048x4x4x64 [0, 4, 1, 3, 2] (Host.dotGeneral dot_S16x4x256x64_S16x4x4x2048x256_S16x4x64x4x2048_2_4_3_23_01_01 none
      (extf .f32 vc bitsLt_bf16_f32) (extractStridedSlice S16x4x4x2048x256 ![0, 0, 0, 0, 2048] p slices_S16x4x4x2048x2305_S16x4x4x2048x256_0_0_0_0_2048)) transposes_S16x4x64x4x2048_S16x2048x4x4x64_0_4_1_3_2)
    : FVec F S16x2048x4x4x64 .f32) shapeCasts_S16x2048x4x4x64_S16x2048x1024 : FVec F S16x2048x1024 .f32) bitsLt_bf16_f32

/-- The reference is these steps, one after another. -/
theorem res_eq (m : (ℓ : Loc nD τ sig) → Buf (Elt F) ℓ) (c : Dev nD) :
    Value.res_out0 m c = outp (probs (expo (joined (within (lat (m ((c : Thread nD τ).loc main_arg1)) (m ((c : Thread nD τ).loc main_arg2))))
      (ctx (m ((c : Thread nD τ).loc main_arg0)) (m ((c : Thread nD τ).loc main_arg4))) (sinks (m ((c : Thread nD τ).loc main_arg6))))))
      (m ((c : Thread nD τ).loc main_arg3)) (m ((c : Thread nD τ).loc main_arg5)) := by
  unfold Value.res_out0 Value.res_main_v47
  rfl
end

open Cert.ReferenceIdeal.Hand (ofBits_negInf log_two)

/-- The mask at a query and a key. -/
theorem mask_apply (n j : Fin 2048) : mask (ix2 n j) = if near n.val j.val then 1#1 else 0#1 := by
  pointwise [mask]
  exact near_bit _ _ j.isLt n.isLt

theorem lat_apply (q : Vec Ideal S16x16x2048x64 .bf16) (k : Vec Ideal S16x4x2048x64 .bf16) (b : Fin 16) (g u : Fin 4) (n j : Fin 2048) :
    lat q k (ix5 b g u n j) = (∑ d : Fin 64, q (ix4 b ⟨g.val * 4 + u.val, by omega⟩ n d) * k (ix4 b g j d)) * ((Real.log 2 : ℝ) : EReal) := by
  pointwise [lat]
  rw [log_two]

theorem within_apply (s : FVec Ideal S16x4x4x2048x2048 .f32) (b : Fin 16) (g u : Fin 4) (n j : Fin 2048) :
    within s (ix5 b g u n j) = (if near n.val j.val then s (ix5 b g u n j) else ⊥ : EReal) := by
  pointwise [within]
  rw [mask_apply, ofBits_negInf]
  split_ifs <;> rfl

theorem ctx_apply (q : Vec Ideal S16x16x2048x64 .bf16) (k : Vec Ideal S16x4x256x64 .bf16) (b : Fin 16) (g u : Fin 4) (n : Fin 2048) (j : Fin 256) :
    ctx q k (ix5 b g u n j) = (∑ d : Fin 64, q (ix4 b ⟨g.val * 4 + u.val, by omega⟩ n d) * k (ix4 b g j d)) * ((Real.log 2 : ℝ) : EReal) := by
  pointwise [ctx]
  rw [log_two]

theorem sinks_apply (z : Vec Ideal S16 .f32) (b : Fin 16) (g u : Fin 4) (n : Fin 2048) :
    sinks z (ix5 b g u n 0) = z (ix1 ⟨g.val * 4 + u.val, by omega⟩) := by
  pointwise [sinks]

theorem notBelow_apply (x : FVec Ideal S16x4x4x2048 .f32) (j : S16x4x4x2048.Idx) : notBelow x j = x j := by
  show max (Ideal.ofBits .f32 0xFF800000#32) (x j) = _
  rw [ofBits_negInf]
  exact max_eq_right bot_le

/-- A reduction by maximum over the last of five axes, of a row without plus infinity that has a real, gives a real. -/
theorem reduceMax_real_of {n0 n1 n2 n3 n4 : ℕ} {u : Shape} {φ : FTy}
    (h : (⟨5, ![n0, n1, n2, n3, n4]⟩ : Shape).ReducesTo [4] ⟨4, ![n0, n1, n2, n3]⟩) (hu : 0 < u.numel)
    (x : (⟨5, ![n0, n1, n2, n3, n4]⟩ : Shape).Idx → Ideal φ) (init : u.Idx → Ideal φ) (hi : ∀ i, (init i : EReal) < ⊤)
    (hx : ∀ i, (x i : EReal) < ⊤) (a : Fin n0) (b : Fin n1) (c : Fin n2) (d : Fin n3) (e : Fin n4) (he : ∃ r : ℝ, (x (ix5 a b c d e) : EReal) = r) :
    ∃ r : ℝ, Host.reduce (FloatOps.maximumf (F := Ideal) (φ := φ)) x init h hu (ix4 a b c d) = (r : EReal) := by
  rw [Host.reduce_eq_fold, h.fold_fiber_r5_a4]
  exact fold_max_real_of (hi _) (fun k => hx _) e he

theorem shift_real (s : FVec Ideal S16x4x4x2048x2305 .f32) (hs : ∀ i, (s i : EReal) < ⊤) (b : Fin 16) (g u : Fin 4) (n : Fin 2048) (j : Fin 2305)
    (hj : ∃ r : ℝ, s (ix5 b g u n j) = r) : ∃ M : ℝ, shift s (ix4 b g u n) = M := by
  obtain ⟨M, hM⟩ := reduceMax_real_of (n0 := 16) (n1 := 4) (n2 := 4) (n3 := 2048) (n4 := 2305) (φ := .f32)
    reducesTo_S16x4x4x2048x2305_S16x4x4x2048_d4 h_S_ s (constant S_ .f32 0xFF800000#32)
    (fun i => lt_of_eq_of_lt ofBits_negInf bot_lt_top) hs b g u n j hj
  exact ⟨M, (notBelow_apply _ _).trans hM⟩

theorem expo_apply (s : FVec Ideal S16x4x4x2048x2305 .f32) (b : Fin 16) (g u : Fin 4) (n : Fin 2048) (j : Fin 2305) :
    expo s (ix5 b g u n j) = Ideal.exp (s (ix5 b g u n j) - shift s (ix4 b g u n)) := by
  pointwise [expo, along]

theorem probs_apply (e : FVec Ideal S16x4x4x2048x2305 .f32) (b : Fin 16) (g u : Fin 4) (n : Fin 2048) (j : Fin 2305) :
    probs e (ix5 b g u n j) = Ideal.div (e (ix5 b g u n j)) (∑ x, e (ix5 b g u n x)) := by
  pointwise [probs, along]

section
variable (a : FVec Ideal S16x4x4x2048x2048 .f32) (a' : FVec Ideal S16x4x4x2048x256 .f32) (z : FVec Ideal S16x4x4x2048x1 .f32) (b : Fin 16) (g u : Fin 4) (n : Fin 2048)

theorem joined_low (j : Fin 2048) : joined a a' z (ix5 b g u n ⟨j.val, by omega⟩) = a (ix5 b g u n j) := by
  pointwise [joined]

theorem joined_mid (j : Fin 256) : joined a a' z (ix5 b g u n ⟨2048 + j.val, by omega⟩) = a' (ix5 b g u n j) := by
  pointwise [joined]

theorem joined_last : joined a a' z (ix5 b g u n ⟨2304, by omega⟩) = z (ix5 b g u n 0) := by
  pointwise [joined]
end

theorem outp_apply (p : FVec Ideal S16x4x4x2048x2305 .f32) (v : Vec Ideal S16x4x2048x64 .bf16) (vc : Vec Ideal S16x4x256x64 .bf16) (b : Fin 16) (g u : Fin 4) (n : Fin 2048) (d : Fin 64) :
    outp p v vc (ix3 b n ⟨256 * g.val + 64 * u.val + d.val, by omega⟩)
      = ((∑ x : Fin 2048, v (ix4 b g x d) * p (ix5 b g u n ⟨x.val, by omega⟩)) + ∑ x : Fin 256, vc (ix4 b g x d) * p (ix5 b g u n ⟨2048 + x.val, by omega⟩) : EReal) := by
  pointwise [outp]

/-- The reference's steps at one query and one value lane, where the scores and the sinks are reals: the attention. -/
theorem ref_apply (qp qr : Vec Ideal S16x16x2048x64 .bf16) (k v : Vec Ideal S16x4x2048x64 .bf16) (kc vc : Vec Ideal S16x4x256x64 .bf16) (z : Vec Ideal S16 .f32)
    (hl : ∀ (b : Fin 16) (g u : Fin 4) (n j : Fin 2048), ∃ r : ℝ, ∑ d : Fin 64, qr (ix4 b ⟨g.val * 4 + u.val, by omega⟩ n d) * k (ix4 b g j d) = (r : EReal))
    (hc : ∀ (b : Fin 16) (g u : Fin 4) (n : Fin 2048) (j : Fin 256), ∃ r : ℝ, ∑ d : Fin 64, qp (ix4 b ⟨g.val * 4 + u.val, by omega⟩ n d) * kc (ix4 b g j d) = (r : EReal))
    (hz : ∀ h : Fin 16, ∃ r : ℝ, (z (ix1 h) : EReal) = r)
    (b : Fin 16) (g u : Fin 4) (n : Fin 2048) (d : Fin 64) :
    outp (probs (expo (joined (within (lat qr k)) (ctx qp kc) (sinks z)))) v vc (ix3 b n ⟨256 * g.val + 64 * u.val + d.val, by omega⟩)
      = attW (fun j : Fin 2048 => bandw (near n.val j.val) (∑ d : Fin 64, qr (ix4 b ⟨g.val * 4 + u.val, by omega⟩ n d) * k (ix4 b g j d) : EReal).toReal)
          (fun j : Fin 256 => (2 : ℝ) ^ (∑ d : Fin 64, qp (ix4 b ⟨g.val * 4 + u.val, by omega⟩ n d) * kc (ix4 b g j d) : EReal).toReal)
          (Real.exp (z (ix1 ⟨g.val * 4 + u.val, by omega⟩) : EReal).toReal)
          (fun j => v (ix4 b g j d)) (fun j => vc (ix4 b g j d)) := by
  choose σ hσ using hl
  choose τ hτ using hc
  choose ζ hζ using hz
  have jl : ∀ (b : Fin 16) (g u : Fin 4) (n j : Fin 2048), joined (within (lat qr k)) (ctx qp kc) (sinks z) (ix5 b g u n ⟨j.val, by omega⟩)
      = masked (near n.val j.val) (σ b g u n j * Real.log 2) := by
    intro b g u n j
    rw [joined_low, within_apply, lat_apply, hσ, ← EReal.coe_mul]
    rfl
  have jm : ∀ (b : Fin 16) (g u : Fin 4) (n : Fin 2048) (j : Fin 256), joined (within (lat qr k)) (ctx qp kc) (sinks z) (ix5 b g u n ⟨2048 + j.val, by omega⟩)
      = ((τ b g u n j * Real.log 2 : ℝ) : EReal) := by
    intro b g u n j
    rw [joined_mid, ctx_apply, hτ, EReal.coe_mul]
  have jz : ∀ (b : Fin 16) (g u : Fin 4) (n : Fin 2048), joined (within (lat qr k)) (ctx qp kc) (sinks z) (ix5 b g u n ⟨2304, by omega⟩)
      = ((ζ ⟨g.val * 4 + u.val, by omega⟩ : ℝ) : EReal) := by
    intro b g u n
    rw [joined_last, sinks_apply, hζ]
  have hlt : ∀ i, (joined (within (lat qr k)) (ctx qp kc) (sinks z) i : EReal) < ⊤ := by
    intro i
    obtain ⟨b, g, u, n, j, rfl⟩ : ∃ (b : Fin 16) (g u : Fin 4) (n : Fin 2048) (j : Fin 2305), i = ix5 b g u n j := ⟨i 0, i 1, i 2, i 3, i 4, eq_ix5 i⟩
    by_cases h : j.val < 2048
    · exact lt_of_eq_of_lt (jl b g u n ⟨j.val, h⟩) (masked_lt _ _)
    · by_cases h' : j.val < 2304
      · have := jm b g u n ⟨j.val - 2048, by omega⟩
        rw [show (⟨2048 + (j.val - 2048), by omega⟩ : Fin 2305) = j from Fin.ext (by simp only; omega)] at this
        exact lt_of_eq_of_lt this (EReal.coe_lt_top _)
      · have := jz b g u n
        rw [show (⟨2304, by omega⟩ : Fin 2305) = j from Fin.ext (by simp only; omega)] at this
        exact lt_of_eq_of_lt this (EReal.coe_lt_top _)
  obtain ⟨M, hM⟩ := shift_real _ hlt b g u n _ ⟨_, jz b g u n⟩
  have el : ∀ j : Fin 2048, expo (joined (within (lat qr k)) (ctx qp kc) (sinks z)) (ix5 b g u n ⟨j.val, by omega⟩)
      = ((Real.exp (-M) * bandw (near n.val j.val) (σ b g u n j) : ℝ) : EReal) := by
    intro j
    rw [expo_apply, jl, hM, exp_masked]
  have em : ∀ j : Fin 256, expo (joined (within (lat qr k)) (ctx qp kc) (sinks z)) (ix5 b g u n ⟨2048 + j.val, by omega⟩)
      = ((Real.exp (-M) * (2 : ℝ) ^ τ b g u n j : ℝ) : EReal) := by
    intro j
    rw [expo_apply, jm, hM, ← EReal.coe_sub, ← exp_shift]; rfl
  have ez : expo (joined (within (lat qr k)) (ctx qp kc) (sinks z)) (ix5 b g u n ⟨2304, by omega⟩)
      = ((Real.exp (-M) * Real.exp (ζ ⟨g.val * 4 + u.val, by omega⟩) : ℝ) : EReal) := by
    rw [expo_apply, jz, hM, ← EReal.coe_sub, ← Real.exp_add, neg_add_eq_sub]; rfl
  have den : ∑ x : Fin 2305, expo (joined (within (lat qr k)) (ctx qp kc) (sinks z)) (ix5 b g u n x)
      = ((∑ j : Fin 2048, ((Real.exp (-M) * bandw (near n.val j.val) (σ b g u n j) : ℝ) : EReal)) + ∑ j : Fin 256, ((Real.exp (-M) * (2 : ℝ) ^ τ b g u n j : ℝ) : EReal))
        + ((Real.exp (-M) * Real.exp (ζ ⟨g.val * 4 + u.val, by omega⟩) : ℝ) : EReal) := by
    rw [Fin.sum_univ_castSucc, Fin.sum_univ_two_halves 2048 256 rfl, ← ez]
    exact congrArg₂ (· + ·) (congrArg₂ (· + ·) (Finset.sum_congr rfl fun j _ => el j) (Finset.sum_congr rfl fun j _ => em j)) rfl
  rw [outp_apply]
  simp only [probs_apply, el, em, den]
  simp only [div_total _ _ _ _ _ (fun j => bandw_nonneg _ _) (fun j => (Real.rpow_pos_of_pos two_pos _).le) (Real.exp_pos _)]
  unfold attW
  simp only [hσ, hτ, hζ, EReal.toReal_coe]
  exact congrArg₂ (· + ·) (Finset.sum_congr rfl fun j _ => mul_comm _ _) (Finset.sum_congr rfl fun j _ => mul_comm _ _)

end Cert.Reference3Ideal.Hand
end
-- ==== Proof.WinEquation.lean ====
/-
  The window attention's two programs have one result array where queries, keys and sinks are reals; and its precondition says
  that they are.
-/
module

public import proofs.«01_k».proof.Proof.WinFinal
public import proofs.«01_k».proof.Proof.WinRef
public import proofs.«01_k».proof.Proof.Finite
public import proofs.«01_k».proof.Proof.Gen.Pre_finite_sink

@[expose] public section

set_option maxRecDepth 16384

noncomputable section

namespace Cert.Attend

open Idealize.ShloMosaic Idealize.SL.Sem

section
open Cert.Kernel3Ideal.Hand Cert.Kernel3Ideal
open Cert.Reference3Ideal.Hand (outp probs expo joined within lat ctx sinks ref_apply)

/-- The reference's window attention is the kernel's result array. -/
theorem win_eq_W (qp qr : Vec Ideal S16x16x2048x64 .bf16) (k v : Vec Ideal S16x4x2048x64 .bf16) (kc vc : Vec Ideal S16x4x256x64 .bf16)
    (z : Vec Ideal S16 .f32) (hR : Real5 qp qr k kc z) :
    outp (probs (expo (joined (within (lat qr k)) (ctx qp kc) (sinks z)))) v vc = W qp qr k v kc vc z := by
  obtain ⟨h0, h1, h2, h4, h6⟩ := hR
  funext y
  obtain ⟨b, n, l, rfl⟩ : ∃ (b : Fin 16) (n : Fin 2048) (l : Fin 1024), y = ix3 b n l := ⟨y 0, y 1, y 2, eq_ix3 y⟩
  obtain ⟨g, u, d, rfl⟩ : ∃ (g u : Fin 4) (d : Fin 64), l = ⟨256 * g.val + 64 * u.val + d.val, by omega⟩ :=
    ⟨⟨l.val / 256, by omega⟩, ⟨l.val / 64 % 4, by omega⟩, ⟨l.val % 64, by omega⟩, Fin.ext (by simp only; omega)⟩
  rw [W_apply]
  exact ref_apply qp qr k v kc vc z (fun b g u n j => finite_sum fun d => finite_mul (h1 _) (h2 _))
    (fun b g u n j => finite_sum fun d => finite_mul (h0 _) (h4 _)) (fun h => h6 _) b g u n d
end

theorem ofBits_inf_f32 : Ideal.ofBits .f32 0x7F800000#32 = ⊤ := by
  show Ideal.ieee 8 23 (0x7F800000#32) = ⊤
  unfold Ideal.ieee
  simp

/-- Where the conjunction over an array of `|x| < ∞` is true, the array's elements are reals; at 32 bits. -/
theorem real_of_all_f32 {s t u : Shape} [Subsingleton t.Idx] {axes : List (Fin s.rank)} (x : FVec Ideal s .f32) (b : FVec Ideal s .f32) (init : u.Idx → BitVec 1)
    (h : s.ReducesTo axes t) (hu : 0 < u.numel) (j : t.Idx) (hb : ∀ i, b i = Ideal.ofBits .f32 0x7F800000#32)
    (e : Host.reduce IntOp.andi (cmpf .olt (Host.absf x) b) init h hu j = 1#1) (i : s.Idx) : ∃ r : ℝ, (x i : EReal) = r := by
  have h1 := Host.reduce_andi_all _ _ _ _ j e i
  have h2 : Ideal.cmp .olt (max (x i) (-(x i)) : EReal) (b i) = 1#1 := h1
  rw [hb, ofBits_inf_f32] at h2
  refine real_of_abs_lt ?_
  by_contra hn
  simp [Ideal.cmp, hn] at h2

instance : Subsingleton (Cert.Pre_finite_sink.S_).Idx := ⟨fun a b => funext fun i => i.elim0⟩

open Cert.Pre_finite_sink in
/-- Where the window attention's precondition holds, queries, keys and sinks are reals. -/
theorem real_of_finite_sink (qp qr : FVec Ideal S16x16x2048x64 .bf16) (k v : FVec Ideal S16x4x2048x64 .bf16) (kc vc : FVec Ideal S16x4x256x64 .bf16)
    (z : FVec Ideal S16 .f32) (h : Cert.Pre_finite_sink.fn (F := Ideal) qp qr k v kc vc z = fun _ => 1#1) :
    (∀ i, ∃ r : ℝ, (qp i : EReal) = r) ∧ (∀ i, ∃ r : ℝ, (qr i : EReal) = r) ∧ (∀ i, ∃ r : ℝ, (k i : EReal) = r)
      ∧ (∀ i, ∃ r : ℝ, (kc i : EReal) = r) ∧ (∀ i, ∃ r : ℝ, (z i : EReal) = r) := by
  have h0 := congrFun h (fun i => i.elim0)
  obtain ⟨h1, hz⟩ := and_one h0
  obtain ⟨h2, hkc⟩ := and_one h1
  obtain ⟨h3, hk⟩ := and_one h2
  obtain ⟨hqp, hqr⟩ := and_one h3
  exact ⟨real_of_all qp _ _ _ _ _ (fun _ => rfl) hqp, real_of_all qr _ _ _ _ _ (fun _ => rfl) hqr,
    real_of_all k _ _ _ _ _ (fun _ => rfl) hk, real_of_all kc _ _ _ _ _ (fun _ => rfl) hkc,
    real_of_all_f32 z _ _ _ _ _ (fun _ => rfl) hz⟩

end Cert.Attend

end
-- ==== Proof.QkvBlock.lean ====
/-
  What the projection kernel computes at one point of its grid: the rows of a block, normalised, scaled and shifted, times the
  weights; then, column block by column block of 128 lanes, two heads' queries, keys or values at a time.
-/
module

public import proofs.«01_k».proof.Proof.Gen.Kernel2Ideal.Value
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem

section
variable {F : FTy → Type} [FloatOps F] [Named F]

/-- The kernel's factor on the queries. -/
def factor : F .f32 := Named.named κ "attn_scale" 0x3E38AA3B#32

/-- The column block of 128 lanes that begins at lane `o`. -/
def cols (o : Nat) (hs : S512x1536.Slices ![0, o] S512x128) (y : FVec F S512x1536 .f32) : FVec F S512x128 .f32 :=
  extractStridedSlice S512x128 ![0, o] y hs

/-- A column block times the factor. -/
def scaled (v : FVec F S512x128 .f32) : FVec F S512x128 .f32 := mulf v (broadcast S512x128 factor)

/-- A column block's rotary embedding, by the tables of cosines and signed sines. -/
def turned (v c s : FVec F S512x128 .f32) : FVec F S512x128 .f32 :=
  addf (mulf v (shapeCast S512x128 c shapeCasts_S512x128_S512x128))
    (mulf (select (broadcastTo S512x128 (shapeCast S1x128 k0_pay3 shapeCasts_S1x128_S1x128) broadcasts_S1x128_S512x128)
        (dynamicRotate 1 112#32 none v rotates_S512x128_d1) (dynamicRotate 1 16#32 none v rotates_S512x128_d1))
      (shapeCast S512x128 s shapeCasts_S512x128_S512x128))

/-- The first head of a column block, as a piece of an output block. -/
def fst (v : FVec F S512x128 .f32) : FVec F S1x1x512x64 .bf16 :=
  shapeCast S1x1x512x64 (truncf .bf16 (extractStridedSlice S512x64 ![0, 0] v slices_S512x128_o0_0_S512x64 : FVec F S512x64 .f32) bitsLt_bf16_f32 : FVec F S512x64 .bf16) shapeCasts_S512x64_S1x1x512x64

/-- The second head of a column block. -/
def snd (v : FVec F S512x128 .f32) : FVec F S1x1x512x64 .bf16 :=
  shapeCast S1x1x512x64 (truncf .bf16 (extractStridedSlice S512x64 ![0, 64] v slices_S512x128_o0_64_S512x64 : FVec F S512x64 .f32) bitsLt_bf16_f32 : FVec F S512x64 .bf16) shapeCasts_S512x64_S1x1x512x64

/-- A column block with ones in its high lanes. -/
def thenOnes (a : FVec F S512x128 .f32) : FVec F S512x128 .f32 :=
  select (broadcastTo S512x128 (shapeCast S1x128 k0_pay70 shapeCasts_S1x128_S1x128) broadcasts_S1x128_S512x128) a
    (broadcast S512x128 (Scalar.ofBits .f32 0x3F800000#32))

/-- A column block with ones in its low lanes. -/
def onesThen (b : FVec F S512x128 .f32) : FVec F S512x128 .f32 :=
  select (broadcastTo S512x128 (shapeCast S1x128 k0_pay70 shapeCasts_S1x128_S1x128) broadcasts_S1x128_S512x128)
    (broadcast S512x128 (Scalar.ofBits .f32 0x3F800000#32)) b

/-- Two column blocks side by side, as a piece of the values' output block. -/
def beside (p q : FVec F S512x128 .f32) : FVec F S1x1x512x256 .bf16 :=
  shapeCast S1x1x512x256 (truncf .bf16 (concatenate S512x256 1 [⟨S512x128, p⟩, ⟨S512x128, q⟩] concatenates_S512x128_S512x128_S512x256_d1 : FVec F S512x256 .f32) bitsLt_bf16_f32 : FVec F S512x256 .bf16) shapeCasts_S512x256_S1x1x512x256

/-- The lanes `a | 1 | 1 | b` of a head's values, `a` from the low and `b` from the high lanes of two column blocks. -/
def vrow (a b : FVec F S512x128 .f32) : FVec F S1x1x512x256 .bf16 := beside (thenOnes a) (onesThen b)

/-- A column block with its halves exchanged. -/
def swapped (v : FVec F S512x128 .f32) : FVec F S512x128 .f32 := dynamicRotate 1 64#32 none v rotates_S512x128_d1
end

/-- The factor on the queries, as an ideal number. -/
def fac : EReal := factor (F := Ideal)

/-- One row of the normalised, scaled and shifted input times one column of the weights. -/
def proj (x g sh sc w : Fin 1024 → EReal) : EReal :=
  ∑ k : Fin 1024, (x k * Ideal.rsqrt (Ideal.div (∑ l, x l * x l) (Ideal.ofBits .f32 0x44800000#32) + Ideal.ofBits .f32 0x358637BD#32) * g k
    * (Ideal.ofBits .f32 0x3F800000#32 + sc k) + sh k) * w k

theorem projected (v0 : Vec Ideal S1x512x1024 .f32) (v2 v4 v6 : Vec Ideal S1x1x1024 .f32) (v27 : Vec Ideal S1024x1536 .bf16) (i : Fin 512) (j : Fin 1536) :
    k0_pay2 v0 v2 v4 v6 v27 (ix2 i j) = proj (fun k => v0 (ix3 0 i k)) (fun k => v2 (ix3 0 0 k)) (fun k => v4 (ix3 0 0 k)) (fun k => v6 (ix3 0 0 k)) (fun k => v27 (ix2 k j)) := by
  pointwise [k0_pay2, proj]

theorem cols_apply (o : Nat) (hs : S512x1536.Slices ![0, o] S512x128) (y : FVec Ideal S512x1536 .f32) (i : Fin 512) (j : Fin 128) (h : o + j.val < 1536) :
    cols o hs y (ix2 i j) = y (ix2 i ⟨o + j.val, h⟩) := by
  pointwise [cols]

theorem scaled_apply (v : FVec Ideal S512x128 .f32) (i : Fin 512) (j : Fin 128) : scaled v (ix2 i j) = v (ix2 i j) * fac := by
  pointwise [scaled, fac]

theorem fst_apply (v : FVec Ideal S512x128 .f32) (i : Fin 512) (d : Fin 64) : fst v (ix4 0 0 i d) = v (ix2 i ⟨d.val, by omega⟩) := by
  pointwise [fst]

theorem snd_apply (v : FVec Ideal S512x128 .f32) (i : Fin 512) (d : Fin 64) : snd v (ix4 0 0 i d) = v (ix2 i ⟨64 + d.val, by omega⟩) := by
  pointwise [snd]

/-- The lanes whose partner lies 16 lanes up. -/
theorem mask_apply : ∀ j : Fin 128, k0_pay3 (ix2 0 j) = if j.val % 32 < 16 then 1#1 else 0#1 := by
  decide +kernel

/-- The first 64 lanes of a column block. -/
theorem low_apply : ∀ j : Fin 128, k0_pay70 (ix2 0 j) = if j.val < 64 then 1#1 else 0#1 := by
  decide +kernel

theorem turned_apply (v c s : FVec Ideal S512x128 .f32) (i : Fin 512) (j : Fin 128) :
    turned v c s (ix2 i j) = v (ix2 i j) * c (ix2 i j)
      + (if j.val % 32 < 16 then v (ix2 i ⟨(j.val + 16) % 128, by omega⟩) else v (ix2 i ⟨(j.val + 112) % 128, by omega⟩)) * s (ix2 i j) := by
  pointwise [turned]
  rw [mask_apply]
  by_cases h : j.val % 32 < 16
  · rw [if_pos h, if_pos h, show (⟨(j.val + 128 - 112) % 128, by omega⟩ : Fin 128) = ⟨(j.val + 16) % 128, by omega⟩ from Fin.ext (by simp only; omega)]
    rfl
  · rw [if_neg h, if_neg h, show (⟨(j.val + 128 - 16) % 128, by omega⟩ : Fin 128) = ⟨(j.val + 112) % 128, by omega⟩ from Fin.ext (by simp only; omega)]
    rfl

theorem swapped_apply (v : FVec Ideal S512x128 .f32) (i : Fin 512) (j : Fin 128) :
    swapped v (ix2 i j) = v (ix2 i ⟨(j.val + 64) % 128, by omega⟩) := by
  pointwise [swapped]
  exact congrArg v (congrArg (ix2 i) (Fin.ext (by simp only; omega)))

theorem thenOnes_apply (a : FVec Ideal S512x128 .f32) (i : Fin 512) (j : Fin 128) :
    thenOnes a (ix2 i j) = if j.val < 64 then a (ix2 i j) else 1 := by
  pointwise [thenOnes]
  rw [low_apply]
  split <;> rfl

theorem onesThen_apply (a : FVec Ideal S512x128 .f32) (i : Fin 512) (j : Fin 128) :
    onesThen a (ix2 i j) = if j.val < 64 then 1 else a (ix2 i j) := by
  pointwise [onesThen]
  rw [low_apply]
  split <;> rfl

theorem beside_left (p q : FVec Ideal S512x128 .f32) (i : Fin 512) (l : Fin 128) : beside p q (ix4 0 0 i ⟨l.val, by omega⟩) = p (ix2 i l) := by
  pointwise [beside]

theorem beside_right (p q : FVec Ideal S512x128 .f32) (i : Fin 512) (l : Fin 128) : beside p q (ix4 0 0 i ⟨128 + l.val, by omega⟩) = q (ix2 i l) := by
  pointwise [beside]

/-- A head's values, lane by lane. -/
theorem vrow_apply (a b : FVec Ideal S512x128 .f32) (i : Fin 512) (l : Fin 256) :
    vrow a b (ix4 0 0 i l) = if h : l.val < 64 then a (ix2 i ⟨l.val, by omega⟩) else if h' : l.val < 192 then 1 else b (ix2 i ⟨l.val - 128, by omega⟩) := by
  unfold vrow
  by_cases h : l.val < 128
  · have e := beside_left (thenOnes a) (onesThen b) i ⟨l.val, h⟩
    rw [show (⟨(⟨l.val, h⟩ : Fin 128).val, by omega⟩ : Fin 256) = l from rfl] at e
    rw [e, thenOnes_apply]
    by_cases h1 : l.val < 64
    · rw [if_pos h1, dif_pos h1]
    · rw [if_neg h1, dif_neg h1, dif_pos (by omega)]
  · have e := beside_right (thenOnes a) (onesThen b) i ⟨l.val - 128, by omega⟩
    rw [show (⟨128 + (⟨l.val - 128, by omega⟩ : Fin 128).val, by omega⟩ : Fin 256) = l from Fin.ext (by simp only; omega)] at e
    rw [e, onesThen_apply, dif_neg (by omega)]
    by_cases h1 : l.val < 192
    · rw [if_pos (by simp only; omega), dif_pos h1]
    · rw [if_neg (by simp only; omega), dif_neg h1]

/-! ## The output blocks -/

/-- The plain queries of a block, head by head. -/
def Qp (y : FVec Ideal S512x1536 .f32) : Vec Ideal S1x16x512x64 .bf16 :=
  fun z => y (ix2 (z 2) ⟨64 * (z 1).val + (z 3).val, by have h1 : (z 1).val < 16 := (z 1).isLt; have h3 : (z 3).val < 64 := (z 3).isLt; omega⟩) * fac

/-- Lane `j` of a column block, turned by the tables. -/
def turn (v c s : Fin 128 → EReal) (j : Fin 128) : EReal :=
  v j * c j + (if j.val % 32 < 16 then v ⟨(j.val + 16) % 128, by omega⟩ else v ⟨(j.val + 112) % 128, by omega⟩) * s j

/-- The rotated queries of a block, head by head. -/
def Qr (y : FVec Ideal S512x1536 .f32) (c s : FVec Ideal S512x128 .f32) : Vec Ideal S1x16x512x64 .bf16 :=
  fun z => turn (fun j => y (ix2 (z 2) ⟨128 * ((z 1).val / 2) + j.val, by have h1 : (z 1).val < 16 := (z 1).isLt; omega⟩) * fac)
    (fun j => c (ix2 (z 2) j)) (fun j => s (ix2 (z 2) j)) ⟨64 * ((z 1).val % 2) + (z 3).val, by have h3 : (z 3).val < 64 := (z 3).isLt; omega⟩

/-- The rotated keys of a block, head by head. -/
def Kr (y : FVec Ideal S512x1536 .f32) (c s : FVec Ideal S512x128 .f32) : Vec Ideal S1x4x512x64 .bf16 :=
  fun z => turn (fun j => y (ix2 (z 2) ⟨1024 + 128 * ((z 1).val / 2) + j.val, by have h1 : (z 1).val < 4 := (z 1).isLt; omega⟩))
    (fun j => c (ix2 (z 2) j)) (fun j => s (ix2 (z 2) j)) ⟨64 * ((z 1).val % 2) + (z 3).val, by have h3 : (z 3).val < 64 := (z 3).isLt; omega⟩

/-- Lane `l` of value head `h` from a row of projections: the head, two runs of ones, the head again. -/
def vlane (f : Fin 1536 → EReal) (h : Fin 4) (l : Fin 256) : EReal :=
  if l.val < 64 then f ⟨(1280 + 64 * h.val + l.val) % 1536, by omega⟩ else if l.val < 192 then 1 else f ⟨1280 + 64 * h.val + (l.val - 192), by omega⟩

/-- The values of a block, head by head, with the two runs of ones between. -/
def Va (y : FVec Ideal S512x1536 .f32) : Vec Ideal S1x4x512x256 .bf16 :=
  fun z => vlane (fun j => y (ix2 (z 2) j)) (z 1) (z 3)

theorem emb_q (h : Nat) (hh : h < 16) (hb : ∀ a, (![0, h, 0, 0] : Fin 4 → Nat) a + S1x1x512x64.size a ≤ S1x16x512x64.size a) (i : Fin 512) (d : Fin 64) :
    (Rect.unit (s := S1x16x512x64) ![0, h, 0, 0] S1x1x512x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_k (h : Nat) (hh : h < 4) (hb : ∀ a, (![0, h, 0, 0] : Fin 4 → Nat) a + S1x1x512x64.size a ≤ S1x4x512x64.size a) (i : Fin 512) (d : Fin 64) :
    (Rect.unit (s := S1x4x512x64) ![0, h, 0, 0] S1x1x512x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_v (h : Nat) (hh : h < 4) (hb : ∀ a, (![0, h, 0, 0] : Fin 4 → Nat) a + S1x1x512x256.size a ≤ S1x4x512x256.size a) (i : Fin 512) (d : Fin 256) :
    (Rect.unit (s := S1x4x512x256) ![0, h, 0, 0] S1x1x512x256.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

/-- A piece's index is a row and a lane. -/
theorem split64 (x : S1x1x512x64.Idx) : ∃ (i : Fin 512) (d : Fin 64), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

theorem split256 (x : S1x1x512x256.Idx) : ∃ (i : Fin 512) (d : Fin 256), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

/-- Two sums of natural numbers that are equal name one lane. -/
theorem lane {n : Nat} (f : Fin n → EReal) {a b : Nat} (h : a = b) (ha : a < n) (hb : b < n) : f ⟨a, ha⟩ = f ⟨b, hb⟩ := by
  subst h; rfl

section
variable (y : FVec Ideal S512x1536 .f32) (c s : FVec Ideal S512x128 .f32)

theorem piece_qp_fst (n h o : Nat) (e : h = 2 * n ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    fst (scaled (cols o hs y)) x = Qp y ((Rect.unit (s := S1x16x512x64) ![0, h, 0, 0] S1x1x512x64.size hb).emb x) := by
  obtain ⟨i, d, rfl⟩ := split64 x
  rw [emb_q h hh, fst_apply, scaled_apply, cols_apply _ _ _ _ _ (by first | omega | (simp only; omega))]
  exact congrArg (· * fac) (lane (fun j => y (ix2 i j)) (b := 64 * h + d.val) (by simp only; omega) _ _)

theorem piece_qp_snd (n h o : Nat) (e : h = 2 * n + 1 ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    snd (scaled (cols o hs y)) x = Qp y ((Rect.unit (s := S1x16x512x64) ![0, h, 0, 0] S1x1x512x64.size hb).emb x) := by
  obtain ⟨i, d, rfl⟩ := split64 x
  rw [emb_q h hh, snd_apply, scaled_apply, cols_apply _ _ _ _ _ (by first | omega | (simp only; omega))]
  exact congrArg (· * fac) (lane (fun j => y (ix2 i j)) (b := 64 * h + d.val) (by simp only; omega) _ _)

/-- A turned column block at a row and a lane. -/
theorem turned_turn (v c s : FVec Ideal S512x128 .f32) (i : Fin 512) (j : Fin 128) (w : Fin 128 → EReal) (hw : ∀ j, v (ix2 i j) = w j) (j' : Fin 128) (hj : j = j') :
    turned v c s (ix2 i j) = turn w (fun j => c (ix2 i j)) (fun j => s (ix2 i j)) j' := by
  subst hj
  rw [turned_apply]
  simp only [hw, turn]

theorem piece_qr_fst (n h o : Nat) (e : h = 2 * n ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    fst (turned (scaled (cols o hs y)) c s) x = Qr y c s ((Rect.unit (s := S1x16x512x64) ![0, h, 0, 0] S1x1x512x64.size hb).emb x) := by
  obtain ⟨i, d, rfl⟩ := split64 x
  rw [emb_q h hh, fst_apply]
  show _ = turn (fun j => y (ix2 i ⟨128 * (h / 2) + j.val, by omega⟩) * fac) (fun j => c (ix2 i j)) (fun j => s (ix2 i j)) ⟨64 * (h % 2) + d.val, by omega⟩
  refine turned_turn _ c s i _ _ (fun j => ?_) _ (Fin.ext ?_)
  · rw [scaled_apply, cols_apply _ _ _ _ _ (by first | omega | (simp only; omega))]
    exact congrArg (· * fac) (lane (fun j => y (ix2 i j)) (by show o + j.val = 128 * (h / 2) + j.val; omega) _ _)
  · show d.val = 64 * (h % 2) + d.val; omega

theorem piece_qr_snd (n h o : Nat) (e : h = 2 * n + 1 ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    snd (turned (scaled (cols o hs y)) c s) x = Qr y c s ((Rect.unit (s := S1x16x512x64) ![0, h, 0, 0] S1x1x512x64.size hb).emb x) := by
  obtain ⟨i, d, rfl⟩ := split64 x
  rw [emb_q h hh, snd_apply]
  show _ = turn (fun j => y (ix2 i ⟨128 * (h / 2) + j.val, by omega⟩) * fac) (fun j => c (ix2 i j)) (fun j => s (ix2 i j)) ⟨64 * (h % 2) + d.val, by omega⟩
  refine turned_turn _ c s i _ _ (fun j => ?_) _ (Fin.ext ?_)
  · rw [scaled_apply, cols_apply _ _ _ _ _ (by first | omega | (simp only; omega))]
    exact congrArg (· * fac) (lane (fun j => y (ix2 i j)) (by show o + j.val = 128 * (h / 2) + j.val; omega) _ _)
  · show 64 + d.val = 64 * (h % 2) + d.val; omega

theorem piece_kr_fst (n h o : Nat) (e : h = 2 * n ∧ o = 1024 + 128 * n) (hh : h < 4) (hs : S512x1536.Slices ![0, o] S512x128)
    (hb : ∀ a, (![0, h, 0, 0] : Fin 4 → Nat) a + S1x1x512x64.size a ≤ S1x4x512x64.size a) (x : S1x1x512x64.Idx) :
    fst (turned (cols o hs y) c s) x = Kr y c s ((Rect.unit (s := S1x4x512x64) ![0, h, 0, 0] S1x1x512x64.size hb).emb x) := by
  obtain ⟨i, d, rfl⟩ := split64 x
  rw [emb_k h hh, fst_apply]
  show _ = turn (fun j => y (ix2 i ⟨1024 + 128 * (h / 2) + j.val, by omega⟩)) (fun j => c (ix2 i j)) (fun j => s (ix2 i j)) ⟨64 * (h % 2) + d.val, by omega⟩
  refine turned_turn _ c s i _ _ (fun j => ?_) _ (Fin.ext ?_)
  · rw [cols_apply _ _ _ _ _ (by first | omega | (simp only; omega))]
    exact lane (fun j => y (ix2 i j)) (by show o + j.val = 1024 + 128 * (h / 2) + j.val; omega) _ _
  · show d.val = 64 * (h % 2) + d.val; omega

theorem piece_kr_snd (n h o : Nat) (e : h = 2 * n + 1 ∧ o = 1024 + 128 * n) (hh : h < 4) (hs : S512x1536.Slices ![0, o] S512x128)
    (hb : ∀ a, (![0, h, 0, 0] : Fin 4 → Nat) a + S1x1x512x64.size a ≤ S1x4x512x64.size a) (x : S1x1x512x64.Idx) :
    snd (turned (cols o hs y) c s) x = Kr y c s ((Rect.unit (s := S1x4x512x64) ![0, h, 0, 0] S1x1x512x64.size hb).emb x) := by
  obtain ⟨i, d, rfl⟩ := split64 x
  rw [emb_k h hh, snd_apply]
  show _ = turn (fun j => y (ix2 i ⟨1024 + 128 * (h / 2) + j.val, by omega⟩)) (fun j => c (ix2 i j)) (fun j => s (ix2 i j)) ⟨64 * (h % 2) + d.val, by omega⟩
  refine turned_turn _ c s i _ _ (fun j => ?_) _ (Fin.ext ?_)
  · rw [cols_apply _ _ _ _ _ (by first | omega | (simp only; omega))]
    exact lane (fun j => y (ix2 i j)) (by show o + j.val = 1024 + 128 * (h / 2) + j.val; omega) _ _
  · show 64 + d.val = 64 * (h % 2) + d.val; omega

theorem piece_va_fst (n h o : Nat) (e : h = 2 * n ∧ o = 1280 + 128 * n) (hh : h < 4) (hs : S512x1536.Slices ![0, o] S512x128)
    (hb : ∀ a, (![0, h, 0, 0] : Fin 4 → Nat) a + S1x1x512x256.size a ≤ S1x4x512x256.size a) (x : S1x1x512x256.Idx) :
    vrow (cols o hs y) (swapped (cols o hs y)) x = Va y ((Rect.unit (s := S1x4x512x256) ![0, h, 0, 0] S1x1x512x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, cols_apply _ _ _ _ _ (by first | omega | (simp only; omega))]
    exact lane (fun j => y (ix2 i j)) (by show o + l.val = (1280 + 64 * h + l.val) % 1536; omega) _ _
  · rw [dif_neg h1, if_neg h1]
    by_cases h2 : l.val < 192
    · rw [dif_pos h2, if_pos h2]
    · rw [dif_neg h2, if_neg h2, swapped_apply, cols_apply _ _ _ _ _ (by first | omega | (simp only; omega))]
      exact lane (fun j => y (ix2 i j)) (by show o + (l.val - 128 + 64) % 128 = 1280 + 64 * h + (l.val - 192); omega) _ _

theorem piece_va_snd (n h o : Nat) (e : h = 2 * n + 1 ∧ o = 1280 + 128 * n) (hh : h < 4) (hs : S512x1536.Slices ![0, o] S512x128)
    (hb : ∀ a, (![0, h, 0, 0] : Fin 4 → Nat) a + S1x1x512x256.size a ≤ S1x4x512x256.size a) (x : S1x1x512x256.Idx) :
    vrow (swapped (cols o hs y)) (cols o hs y) x = Va y ((Rect.unit (s := S1x4x512x256) ![0, h, 0, 0] S1x1x512x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, swapped_apply, cols_apply _ _ _ _ _ (by first | omega | (simp only; omega))]
    exact lane (fun j => y (ix2 i j)) (by show o + (l.val + 64) % 128 = (1280 + 64 * h + l.val) % 1536; omega) _ _
  · rw [dif_neg h1, if_neg h1]
    by_cases h2 : l.val < 192
    · rw [dif_pos h2, if_pos h2]
    · rw [dif_neg h2, if_neg h2, cols_apply _ _ _ _ _ (by first | omega | (simp only; omega))]
      exact lane (fun j => y (ix2 i j)) (by show o + (l.val - 128) = 1280 + 64 * h + (l.val - 192); omega) _ _
/-! Each output block is the list of its heads' pieces. -/

theorem canon_qp : View.canon [⟨r0_19, snd (scaled (cols 896 slices_S512x1536_o0_896_S512x128 y))⟩,
      ⟨r0_18, fst (scaled (cols 896 slices_S512x1536_o0_896_S512x128 y))⟩,
      ⟨r0_17, snd (scaled (cols 768 slices_S512x1536_o0_768_S512x128 y))⟩,
      ⟨r0_16, fst (scaled (cols 768 slices_S512x1536_o0_768_S512x128 y))⟩,
      ⟨r0_15, snd (scaled (cols 640 slices_S512x1536_o0_640_S512x128 y))⟩,
      ⟨r0_14, fst (scaled (cols 640 slices_S512x1536_o0_640_S512x128 y))⟩,
      ⟨r0_13, snd (scaled (cols 512 slices_S512x1536_o0_512_S512x128 y))⟩,
      ⟨r0_12, fst (scaled (cols 512 slices_S512x1536_o0_512_S512x128 y))⟩,
      ⟨r0_11, snd (scaled (cols 384 slices_S512x1536_o0_384_S512x128 y))⟩,
      ⟨r0_10, fst (scaled (cols 384 slices_S512x1536_o0_384_S512x128 y))⟩,
      ⟨r0_9, snd (scaled (cols 256 slices_S512x1536_o0_256_S512x128 y))⟩,
      ⟨r0_8, fst (scaled (cols 256 slices_S512x1536_o0_256_S512x128 y))⟩,
      ⟨r0_7, snd (scaled (cols 128 slices_S512x1536_o0_128_S512x128 y))⟩,
      ⟨r0_6, fst (scaled (cols 128 slices_S512x1536_o0_128_S512x128 y))⟩,
      ⟨r0_5, snd (scaled (cols 0 slices_S512x1536_o0_0_S512x128 y))⟩,
      ⟨r0_4, fst (scaled (cols 0 slices_S512x1536_o0_0_S512x128 y))⟩] = Qp y := by
  funext z
  refine View.canon_apply_of_pieces (Qp y) _ ?_ z (cover0_7 _ _ _ _ _ _ _ _ _ _ _ _ _ _ _ _ z)
  exact List.forall_mem_cons.2 ⟨piece_qp_snd y 7 15 896 (by omega) (by omega) _ (by decide), List.forall_mem_cons.2 ⟨piece_qp_fst y 7 14 896 (by omega) (by omega) _ (by decide), List.forall_mem_cons.2 ⟨piece_qp_snd y 6 13 768 (by omega) (by omega) _ (by decide), List.forall_mem_cons.2 ⟨piece_qp_fst y 6 12 768 (by omega) (by omega) _ (by decide), List.forall_mem_cons.2 ⟨piece_qp_snd y 5 11 640 (by omega) (by omega) _ (by decide), List.forall_mem_cons.2 ⟨piece_qp_fst y 5 10 640 (by omega) (by omega) _ (by decide), List.forall_mem_cons.2 ⟨piece_qp_snd y 4 9 512 (by omega) (by omega) _ (by decide), List.forall_mem_cons.2 ⟨piece_qp_fst y 4 8 512 (by omega) (by omega) _ (by decide), List.forall_mem_cons.2 ⟨piece_qp_snd y 3 7 384 (by omega) (by omega) _ (by decide), List.forall_mem_cons.2 ⟨piece_qp_fst y 3 6 384 (by omega) (by omega) _ (by decide), List.forall_mem_cons.2 ⟨piece_qp_snd y 2 5 256 (by omega) (by omega) _ (by decide), List.forall_mem_cons.2 ⟨piece_qp_fst y 2 4 256 (by omega) (by omega) _ (by decide), List.forall_mem_cons.2 ⟨piece_qp_snd y 1 3 128 (by omega) (by omega) _ (by decide), List.forall_mem_cons.2 ⟨piece_qp_fst y 1 2 128 (by omega) (by omega) _ (by decide), List.forall_mem_cons.2 ⟨piece_qp_snd y 0 1 0 (by omega) (by omega) _ (by decide), List.forall_mem_cons.2 ⟨piece_qp_fst y 0 0 0 (by omega) (by omega) _ (by decide), fun _ h => absurd h List.not_mem_nil⟩⟩⟩⟩⟩⟩⟩⟩⟩⟩⟩⟩⟩⟩⟩⟩

theorem canon_qr : View.canon [⟨r0_19, snd (turned (scaled (cols 896 slices_S512x1536_o0_896_S512x128 y)) c s)⟩,
      ⟨r0_18, fst (turned (scaled (cols 896 slices_S512x1536_o0_896_S512x128 y)) c s)⟩,
      ⟨r0_17, snd (turned (scaled (cols 768 slices_S512x1536_o0_768_S512x128 y)) c s)⟩,
      ⟨r0_16, fst (turned (scaled (cols 768 slices_S512x1536_o0_768_S512x128 y)) c s)⟩,
      ⟨r0_15, snd (turned (scaled (cols 640 slices_S512x1536_o0_640_S512x128 y)) c s)⟩,
      ⟨r0_14, fst (turned (scaled (cols 640 slices_S512x1536_o0_640_S512x128 y)) c s)⟩,
      ⟨r0_13, snd (turned (scaled (cols 512 slices_S512x1536_o0_512_S512x128 y)) c s)⟩,
      ⟨r0_12, fst (turned (scaled (cols 512 slices_S512x1536_o0_512_S512x128 y)) c s)⟩,
      ⟨r0_11, snd (turned (scaled (cols 384 slices_S512x1536_o0_384_S512x128 y)) c s)⟩,
      ⟨r0_10, fst (turned (scaled (cols 384 slices_S512x1536_o0_384_S512x128 y)) c s)⟩,
      ⟨r0_9, snd (turned (scaled (cols 256 slices_S512x1536_o0_256_S512x128 y)) c s)⟩,
      ⟨r0_8, fst (turned (scaled (cols 256 slices_S512x1536_o0_256_S512x128 y)) c s)⟩,
      ⟨r0_7, snd (turned (scaled (cols 128 slices_S512x1536_o0_128_S512x128 y)) c s)⟩,
      ⟨r0_6, fst (turned (scaled (cols 128 slices_S512x1536_o0_128_S512x128 y)) c s)⟩,
      ⟨r0_5, snd (turned (scaled (cols 0 slices_S512x1536_o0_0_S512x128 y)) c s)⟩,
      ⟨r0_4, fst (turned (scaled (cols 0 slices_S512x1536_o0_0_S512x128 y)) c s)⟩] = Qr y c s := by
  funext z
  refine View.canon_apply_of_pieces (Qr y c s) _ ?_ z (cover0_8 _ _ _ _ _ _ _ _ _ _ _ _ _ _ _ _ z)
  exact List.forall_mem_cons.2 ⟨piece_qr_snd y c s 7 15 896 (by omega) (by omega) _ (by decide), List.forall_mem_cons.2 ⟨piece_qr_fst y c s 7 14 896 (by omega) (by omega) _ (by decide), List.forall_mem_cons.2 ⟨piece_qr_snd y c s 6 13 768 (by omega) (by omega) _ (by decide), List.forall_mem_cons.2 ⟨piece_qr_fst y c s 6 12 768 (by omega) (by omega) _ (by decide), List.forall_mem_cons.2 ⟨piece_qr_snd y c s 5 11 640 (by omega) (by omega) _ (by decide), List.forall_mem_cons.2 ⟨piece_qr_fst y c s 5 10 640 (by omega) (by omega) _ (by decide), List.forall_mem_cons.2 ⟨piece_qr_snd y c s 4 9 512 (by omega) (by omega) _ (by decide), List.forall_mem_cons.2 ⟨piece_qr_fst y c s 4 8 512 (by omega) (by omega) _ (by decide), List.forall_mem_cons.2 ⟨piece_qr_snd y c s 3 7 384 (by omega) (by omega) _ (by decide), List.forall_mem_cons.2 ⟨piece_qr_fst y c s 3 6 384 (by omega) (by omega) _ (by decide), List.forall_mem_cons.2 ⟨piece_qr_snd y c s 2 5 256 (by omega) (by omega) _ (by decide), List.forall_mem_cons.2 ⟨piece_qr_fst y c s 2 4 256 (by omega) (by omega) _ (by decide), List.forall_mem_cons.2 ⟨piece_qr_snd y c s 1 3 128 (by omega) (by omega) _ (by decide), List.forall_mem_cons.2 ⟨piece_qr_fst y c s 1 2 128 (by omega) (by omega) _ (by decide), List.forall_mem_cons.2 ⟨piece_qr_snd y c s 0 1 0 (by omega) (by omega) _ (by decide), List.forall_mem_cons.2 ⟨piece_qr_fst y c s 0 0 0 (by omega) (by omega) _ (by decide), fun _ h => absurd h List.not_mem_nil⟩⟩⟩⟩⟩⟩⟩⟩⟩⟩⟩⟩⟩⟩⟩⟩

theorem canon_kr : View.canon [⟨r0_23, snd (turned (cols 1152 slices_S512x1536_o0_1152_S512x128 y) c s)⟩,
      ⟨r0_22, fst (turned (cols 1152 slices_S512x1536_o0_1152_S512x128 y) c s)⟩,
      ⟨r0_21, snd (turned (cols 1024 slices_S512x1536_o0_1024_S512x128 y) c s)⟩,
      ⟨r0_20, fst (turned (cols 1024 slices_S512x1536_o0_1024_S512x128 y) c s)⟩] = Kr y c s := by
  funext z
  refine View.canon_apply_of_pieces (Kr y c s) _ ?_ z (cover0_9 _ _ _ _ z)
  exact List.forall_mem_cons.2 ⟨piece_kr_snd y c s 1 3 1152 (by omega) (by omega) _ (by decide), List.forall_mem_cons.2 ⟨piece_kr_fst y c s 1 2 1152 (by omega) (by omega) _ (by decide), List.forall_mem_cons.2 ⟨piece_kr_snd y c s 0 1 1024 (by omega) (by omega) _ (by decide), List.forall_mem_cons.2 ⟨piece_kr_fst y c s 0 0 1024 (by omega) (by omega) _ (by decide), fun _ h => absurd h List.not_mem_nil⟩⟩⟩⟩

theorem canon_va : View.canon [⟨r0_27, vrow (swapped (cols 1408 slices_S512x1536_o0_1408_S512x128 y)) (cols 1408 slices_S512x1536_o0_1408_S512x128 y)⟩,
      ⟨r0_26, vrow (cols 1408 slices_S512x1536_o0_1408_S512x128 y) (swapped (cols 1408 slices_S512x1536_o0_1408_S512x128 y))⟩,
      ⟨r0_25, vrow (swapped (cols 1280 slices_S512x1536_o0_1280_S512x128 y)) (cols 1280 slices_S512x1536_o0_1280_S512x128 y)⟩,
      ⟨r0_24, vrow (cols 1280 slices_S512x1536_o0_1280_S512x128 y) (swapped (cols 1280 slices_S512x1536_o0_1280_S512x128 y))⟩] = Va y := by
  funext z
  refine View.canon_apply_of_pieces (Va y) _ ?_ z (cover0_10 _ _ _ _ z)
  exact List.forall_mem_cons.2 ⟨piece_va_snd y 1 3 1408 (by omega) (by omega) _ (by decide), List.forall_mem_cons.2 ⟨piece_va_fst y 1 2 1408 (by omega) (by omega) _ (by decide), List.forall_mem_cons.2 ⟨piece_va_snd y 0 1 1280 (by omega) (by omega) _ (by decide), List.forall_mem_cons.2 ⟨piece_va_fst y 0 0 1280 (by omega) (by omega) _ (by decide), fun _ h => absurd h List.not_mem_nil⟩⟩⟩⟩

end

/-- The projections of a block, from the blocks that the point reads. -/
theorem rows_apply (x0 : Vec Ideal S1x512x1024 .f32) (x1 x2 x3 : Vec Ideal S1x1x1024 .f32) (x4 : Vec Ideal S1024x1536 .bf16) (x5 x6 : Vec Ideal S512x128 .f32) (i : Fin 512) (j : Fin 1536) :
    k0_pay79 x0 x1 x2 x3 x4 x5 x6 (ix2 i j) = proj (fun k => x0 (ix3 0 i k)) (fun k => x1 (ix3 0 0 k)) (fun k => x2 (ix3 0 0 k)) (fun k => x3 (ix3 0 0 k)) (fun k => x4 (ix2 k j)) := by
  show k0_pay2 (View.ld x0 r0_0) (View.ld x1 r0_1) (View.ld x2 r0_1) (View.ld x3 r0_1) (View.ld x4 r0_2) (ix2 i j) = _
  rw [projected]
  have e0 : ∀ k, View.ld x0 r0_0 (ix3 0 i k) = x0 (ix3 0 i k) := fun k => by pointwise []
  have e1 : ∀ (x : Vec Ideal S1x1x1024 .f32) k, View.ld x r0_1 (ix3 0 0 k) = x (ix3 0 0 k) := fun x k => by pointwise []
  have e4 : ∀ k, View.ld x4 r0_2 (ix2 k j) = x4 (ix2 k j) := fun k => by pointwise []
  exact congr (congr (congr (congr (congrArg proj (funext e0)) (funext (e1 x1))) (funext (e1 x2))) (funext (e1 x3))) (funext e4)

theorem table (x : Vec Ideal S512x128 .f32) : View.ld x r0_3 = x := by
  funext z
  rw [eq_ix2 z]
  pointwise []

theorem out_qp (x0 : Vec Ideal S1x512x1024 .f32) (x1 x2 x3 : Vec Ideal S1x1x1024 .f32) (x4 : Vec Ideal S1024x1536 .bf16) (x5 x6 : Vec Ideal S512x128 .f32) : out0_7 x0 x1 x2 x3 x4 x5 x6 = Qp (k0_pay79 x0 x1 x2 x3 x4 x5 x6) :=
  canon_qp (k0_pay79 x0 x1 x2 x3 x4 x5 x6)

theorem out_qr (x0 : Vec Ideal S1x512x1024 .f32) (x1 x2 x3 : Vec Ideal S1x1x1024 .f32) (x4 : Vec Ideal S1024x1536 .bf16) (x5 x6 : Vec Ideal S512x128 .f32) : out0_8 x0 x1 x2 x3 x4 x5 x6 = Qr (k0_pay79 x0 x1 x2 x3 x4 x5 x6) x5 x6 :=
  (canon_qr (k0_pay79 x0 x1 x2 x3 x4 x5 x6) (View.ld x5 r0_3) (View.ld x6 r0_3)).trans (by rw [table, table])

theorem out_kr (x0 : Vec Ideal S1x512x1024 .f32) (x1 x2 x3 : Vec Ideal S1x1x1024 .f32) (x4 : Vec Ideal S1024x1536 .bf16) (x5 x6 : Vec Ideal S512x128 .f32) : out0_9 x0 x1 x2 x3 x4 x5 x6 = Kr (k0_pay79 x0 x1 x2 x3 x4 x5 x6) x5 x6 :=
  (canon_kr (k0_pay79 x0 x1 x2 x3 x4 x5 x6) (View.ld x5 r0_3) (View.ld x6 r0_3)).trans (by rw [table, table])

theorem out_va (x0 : Vec Ideal S1x512x1024 .f32) (x1 x2 x3 : Vec Ideal S1x1x1024 .f32) (x4 : Vec Ideal S1024x1536 .bf16) (x5 x6 : Vec Ideal S512x128 .f32) : out0_10 x0 x1 x2 x3 x4 x5 x6 = Va (k0_pay79 x0 x1 x2 x3 x4 x5 x6) :=
  canon_va (k0_pay79 x0 x1 x2 x3 x4 x5 x6)

end Cert.Kernel2Ideal.Hand

end
-- ==== Proof.QkvArrays.lean ====
/-
  The projection kernel's four result arrays: point `t` of the grid works on batch `t / 4` and rows `512 * (t % 4)` to that
  plus 511, so that each array is one function of the arguments, index by index.
-/
module

public import proofs.«01_k».proof.Proof.QkvBlock
public import Idealize.ShloMosaic.Lib.StableHlo.Run

@[expose] public section

set_option maxRecDepth 16384

noncomputable section

namespace Cert.Kernel2Ideal.Hand

open Cert.Kernel2Ideal Cert.Kernel2Ideal.Gen Idealize.ShloMosaic Idealize.ShloMosaic.TcCoe Idealize.SL.Sem

section
variable {F : FTy → Type} [FloatOps F] [Named F]

/-! ## The host's arrays -/

/-- The weights of the first layer. -/
def wts (w : Vec F S4x1024x1536 .f32) : Vec F S1024x1536 .bf16 :=
  truncf .bf16 (shapeCast S1024x1536 (extractStridedSlice S1x1024x1536 ![0, 0, 0] w slices_S4x1024x1536_S1x1024x1536_0_0_0) shapeCasts_S1x1024x1536_S1024x1536 : FVec F S1024x1536 .f32) bitsLt_bf16_f32

/-- The sixteen frequencies. -/
def freq : FVec F S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- A table of positions times the frequencies. -/
def waves (l : Fin 2048 → BitVec 32) : FVec F S2048x16 .f32 :=
  mulf (broadcastInDim S2048x16 ![0, 1] bcast_S2048x1_S2048x16_0_1 (broadcastInDim S2048x1 ![0] bcast_S2048_S2048x1_0 (fun i => FloatOps.ofBits .f32 (l (S2048.rowMajor i)))))
    (broadcastInDim S2048x16 ![0, 1] bcast_S1x16_S2048x16_0_1 (broadcastInDim S1x16 ![1] bcast_S16_S1x16_1 freq))

/-- The angles of the 64 lanes of a head: row angles twice, column angles twice. -/
def ang (l0 l1 : Fin 2048 → BitVec 32) : FVec F S2048x64 .f32 :=
  concatenate S2048x64 1 [⟨S2048x16, waves l0⟩, ⟨S2048x16, waves l0⟩, ⟨S2048x16, waves l1⟩, ⟨S2048x16, waves l1⟩] concatenates_S2048x16_S2048x16_S2048x16_S2048x16_S2048x64_d1

/-- The angles of two heads' lanes. -/
def angs (a : FVec F S2048x64 .f32) : FVec F S2048x128 .f32 :=
  concatenate S2048x128 1 [⟨S2048x64, a⟩, ⟨S2048x64, a⟩] concatenates_S2048x64_S2048x64_S2048x128_d1

/-- The table of cosines. -/
def cosT (a : FVec F S2048x64 .f32) : Vec F S2048x128 .f32 := Host.cos (angs a)

/-- The table of signed sines. -/
def sinT (a : FVec F S2048x64 .f32) : Vec F S2048x128 .f32 :=
  mulf (Host.sin (angs a)) (broadcastInDim S2048x128 ![0, 1] bcast_S1x128_S2048x128_0_1 (broadcastInDim S1x128 ![1] bcast_S128_S1x128_1 (fun i => FloatOps.ofBits .f32 (lit2 (S128.rowMajor i)))))

variable (m : (ℓ : Loc nD τ sig) → Buf (Elt F) ℓ)

open Idealize.ShloMosaic.StableHlo in
theorem V_main_v2 (c : Dev nD) : V m c main_v2 = wts (m ((c : Thread nD τ).loc main_arg3)) := by
  unfold V hostOps0
  after_results_simp <;> rfl

open Idealize.ShloMosaic.StableHlo in
theorem V_main_v21 (c : Dev nD) : V m c main_v21 = cosT (ang lit0 lit1) := by
  unfold V hostOps0
  after_results_simp <;> rfl

open Idealize.ShloMosaic.StableHlo in
theorem V_main_v25 (c : Dev nD) : V m c main_v25 = sinT (ang lit0 lit1) := by
  unfold V hostOps0
  after_results_simp <;> rfl

/-! ## The points' blocks -/

/-- The batch of a grid point. -/
def batch (t : Fin cfg0.N) : Fin 16 := ⟨t.val / 4, by have h : t.val < 64 := t.isLt; omega⟩
/-- Row `i` of a point's block, in the sequence. -/
def row (t : Fin cfg0.N) (i : Fin 512) : Fin 2048 := ⟨512 * (t.val % 4) + i.val, by omega⟩

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 6 * (t.val / 4) ∧ win0_2.index t (1 : Fin 3) = 0 ∧ win0_2.index t (2 : Fin 3) = 0 :=
  (by decide +kernel : ∀ t : Fin grid0.N, _)
theorem idx3 : ∀ t : Fin cfg0.N, win0_3.index t (0 : Fin 3) = 6 * (t.val / 4) + 1 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val % 4 ∧ win0_5.index t (1 : Fin 2) = 0 :=
  (by decide +kernel : ∀ t : Fin grid0.N, _)
theorem idx6 : ∀ t : Fin cfg0.N, win0_6.index t (0 : Fin 2) = t.val % 4 ∧ win0_6.index t (1 : Fin 2) = 0 :=
  (by decide +kernel : ∀ t : Fin grid0.N, _)
theorem idx7 : ∀ t : Fin cfg0.N, win0_7.index t (0 : Fin 4) = t.val / 4 ∧ win0_7.index t (1 : Fin 4) = 0 ∧ win0_7.index t (2 : Fin 4) = t.val % 4 ∧ win0_7.index t (3 : Fin 4) = 0 :=
  (by decide +kernel : ∀ t : Fin grid0.N, _)
theorem idx8 : ∀ t : Fin cfg0.N, win0_8.index t (0 : Fin 4) = t.val / 4 ∧ win0_8.index t (1 : Fin 4) = 0 ∧ win0_8.index t (2 : Fin 4) = t.val % 4 ∧ win0_8.index t (3 : Fin 4) = 0 :=
  (by decide +kernel : ∀ t : Fin grid0.N, _)
theorem idx9 : ∀ t : Fin cfg0.N, win0_9.index t (0 : Fin 4) = t.val / 4 ∧ win0_9.index t (1 : Fin 4) = 0 ∧ win0_9.index t (2 : Fin 4) = t.val % 4 ∧ win0_9.index t (3 : Fin 4) = 0 :=
  (by decide +kernel : ∀ t : Fin grid0.N, _)
theorem idx10 : ∀ t : Fin cfg0.N, win0_10.index t (0 : Fin 4) = t.val / 4 ∧ win0_10.index t (1 : Fin 4) = 0 ∧ win0_10.index t (2 : Fin 4) = t.val % 4 ∧ win0_10.index t (3 : Fin 4) = 0 :=
  (by decide +kernel : ∀ t : Fin grid0.N, _)

/-- The block of rows holds the point's batch and rows. -/
theorem blk0 (c : Dev nD) (t : Fin cfg0.N) (i : Fin 512) (k : Fin 1024) :
    (iblk m c 0 t : Vec F S1x512x1024 .f32) (ix3 0 i k) = m ((c : Thread nD τ).loc main_arg0) (ix3 (batch t) (row t i) k) := by
  obtain ⟨e0, e1, e2⟩ := idx0 t
  rw [← V_main_arg0 m c]
  show V m c main_arg0 (((cfg0.win 0).blk t).view.emb (ix3 0 i k)) = _
  congr 1
  funext a; apply Fin.ext
  match a with
  | ⟨0, _⟩ => show win0_0.index t (0 : Fin 3) * 1 + 1 * 0 = t.val / 4; omega
  | ⟨1, _⟩ => show win0_0.index t (1 : Fin 3) * 512 + 1 * i.val = 512 * (t.val % 4) + i.val; omega
  | ⟨2, _⟩ => show win0_0.index t (2 : Fin 3) * 1024 + 1 * k.val = k.val; omega

/-- The block of gains holds the first layer's. -/
theorem blk1 (c : Dev nD) (t : Fin cfg0.N) (k : Fin 1024) :
    (iblk m c 1 t : Vec F S1x1x1024 .f32) (ix3 0 0 k) = m ((c : Thread nD τ).loc main_arg2) (ix3 0 0 k) := by
  obtain ⟨e0, e1, e2⟩ := idx1 t
  rw [← V_main_arg2 m c]
  show V m c main_arg2 (((cfg0.win 1).blk t).view.emb (ix3 0 0 k)) = _
  congr 1
  funext a; apply Fin.ext
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 1024 + 1 * k.val = k.val; omega

/-- The row of shifts of a batch, of the first layer. -/
def shRow (b : Fin 16) : Fin 576 := ⟨6 * b.val, by omega⟩
/-- The row of scales of a batch, of the first layer. -/
def scRow (b : Fin 16) : Fin 576 := ⟨6 * b.val + 1, by omega⟩

theorem blk2 (c : Dev nD) (t : Fin cfg0.N) (k : Fin 1024) :
    (iblk m c 2 t : Vec F S1x1x1024 .f32) (ix3 0 0 k) = m ((c : Thread nD τ).loc main_arg1) (ix3 (shRow (batch t)) 0 k) := by
  obtain ⟨e0, e1, e2⟩ := idx2 t
  rw [← V_main_arg1 m c]
  show V m c main_arg1 (((cfg0.win 2).blk t).view.emb (ix3 0 0 k)) = _
  congr 1
  funext a; apply Fin.ext
  match a with
  | ⟨0, _⟩ => show win0_2.index t (0 : Fin 3) * 1 + 1 * 0 = 6 * (t.val / 4); omega
  | ⟨1, _⟩ => show win0_2.index t (1 : Fin 3) * 1 + 1 * 0 = 0; omega
  | ⟨2, _⟩ => show win0_2.index t (2 : Fin 3) * 1024 + 1 * k.val = k.val; omega

theorem blk3 (c : Dev nD) (t : Fin cfg0.N) (k : Fin 1024) :
    (iblk m c 3 t : Vec F S1x1x1024 .f32) (ix3 0 0 k) = m ((c : Thread nD τ).loc main_arg1) (ix3 (scRow (batch t)) 0 k) := by
  obtain ⟨e0, e1, e2⟩ := idx3 t
  rw [← V_main_arg1 m c]
  show V m c main_arg1 (((cfg0.win 3).blk t).view.emb (ix3 0 0 k)) = _
  congr 1
  funext a; apply Fin.ext
  match a with
  | ⟨0, _⟩ => show win0_3.index t (0 : Fin 3) * 1 + 1 * 0 = 6 * (t.val / 4) + 1; omega
  | ⟨1, _⟩ => show win0_3.index t (1 : Fin 3) * 1 + 1 * 0 = 0; omega
  | ⟨2, _⟩ => show win0_3.index t (2 : Fin 3) * 1024 + 1 * k.val = k.val; omega

/-- The block of weights is all of the first layer's. -/
theorem blk4 (c : Dev nD) (t : Fin cfg0.N) (k : Fin 1024) (j : Fin 1536) :
    (iblk m c 4 t : Vec F S1024x1536 .bf16) (ix2 k j) = wts (m ((c : Thread nD τ).loc main_arg3)) (ix2 k j) := by
  obtain ⟨e0, e1⟩ := idx4 t
  rw [← V_main_v2 m c]
  show V m c main_v2 (((cfg0.win 4).blk t).view.emb (ix2 k j)) = _
  congr 1
  funext a; apply Fin.ext
  match a with
  | ⟨0, _⟩ => show win0_4.index t (0 : Fin 2) * 1024 + 1 * k.val = k.val; omega
  | ⟨1, _⟩ => show win0_4.index t (1 : Fin 2) * 1536 + 1 * j.val = j.val; omega

/-- The blocks of the tables hold the point's rows. -/
theorem blk5 (c : Dev nD) (t : Fin cfg0.N) (i : Fin 512) (j : Fin 128) :
    (iblk m c 5 t : Vec F S512x128 .f32) (ix2 i j) = cosT (ang lit0 lit1) (ix2 (row t i) j) := by
  obtain ⟨e0, e1⟩ := idx5 t
  rw [← V_main_v21 m c]
  show V m c main_v21 (((cfg0.win 5).blk t).view.emb (ix2 i j)) = _
  congr 1
  funext a; apply Fin.ext
  match a with
  | ⟨0, _⟩ => show win0_5.index t (0 : Fin 2) * 512 + 1 * i.val = 512 * (t.val % 4) + i.val; omega
  | ⟨1, _⟩ => show win0_5.index t (1 : Fin 2) * 128 + 1 * j.val = j.val; omega

theorem blk6 (c : Dev nD) (t : Fin cfg0.N) (i : Fin 512) (j : Fin 128) :
    (iblk m c 6 t : Vec F S512x128 .f32) (ix2 i j) = sinT (ang lit0 lit1) (ix2 (row t i) j) := by
  obtain ⟨e0, e1⟩ := idx6 t
  rw [← V_main_v25 m c]
  show V m c main_v25 (((cfg0.win 6).blk t).view.emb (ix2 i j)) = _
  congr 1
  funext a; apply Fin.ext
  match a with
  | ⟨0, _⟩ => show win0_6.index t (0 : Fin 2) * 512 + 1 * i.val = 512 * (t.val % 4) + i.val; omega
  | ⟨1, _⟩ => show win0_6.index t (1 : Fin 2) * 128 + 1 * j.val = j.val; omega

/-- A point's block of result array 1, and that the blocks cover it. -/
theorem emb7 (t : Fin cfg0.N) (h : Fin 16) (i : Fin 512) (d : Fin 64) : ((cfg0.win 7).blk t).view.emb (ix4 0 h i d) = ix4 (batch t) h (row t i) d := by
  obtain ⟨e0, e1, e2, e3⟩ := idx7 t
  funext a; apply Fin.ext
  match a with
  | ⟨0, _⟩ => show win0_7.index t (0 : Fin 4) * 1 + 1 * 0 = t.val / 4; omega
  | ⟨1, _⟩ => show win0_7.index t (1 : Fin 4) * 16 + 1 * h.val = h.val; omega
  | ⟨2, _⟩ => show win0_7.index t (2 : Fin 4) * 512 + 1 * i.val = 512 * (t.val % 4) + i.val; omega
  | ⟨3, _⟩ => show win0_7.index t (3 : Fin 4) * 64 + 1 * d.val = d.val; omega

theorem covers7 (i : S16x16x2048x64.Idx) : ∃ t : Fin cfg0.N, (cfg0.win 7).flush t = true ∧ i ∈ ((cfg0.win 7).blk t).view.set := by
  obtain ⟨b, h, n, d, rfl⟩ : ∃ (b : Fin 16) (h : Fin 16) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_7 _, ?_⟩
  have hm := ((cfg0.win 7).blk ⟨b.val * 4 + n.val / 512, hN⟩).view.emb_mem_set (ix4 0 h ⟨n.val % 512, by omega⟩ d)
  rw [emb7] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 2, and that the blocks cover it. -/
theorem emb8 (t : Fin cfg0.N) (h : Fin 16) (i : Fin 512) (d : Fin 64) : ((cfg0.win 8).blk t).view.emb (ix4 0 h i d) = ix4 (batch t) h (row t i) d := by
  obtain ⟨e0, e1, e2, e3⟩ := idx8 t
  funext a; apply Fin.ext
  match a with
  | ⟨0, _⟩ => show win0_8.index t (0 : Fin 4) * 1 + 1 * 0 = t.val / 4; omega
  | ⟨1, _⟩ => show win0_8.index t (1 : Fin 4) * 16 + 1 * h.val = h.val; omega
  | ⟨2, _⟩ => show win0_8.index t (2 : Fin 4) * 512 + 1 * i.val = 512 * (t.val % 4) + i.val; omega
  | ⟨3, _⟩ => show win0_8.index t (3 : Fin 4) * 64 + 1 * d.val = d.val; omega

theorem covers8 (i : S16x16x2048x64.Idx) : ∃ t : Fin cfg0.N, (cfg0.win 8).flush t = true ∧ i ∈ ((cfg0.win 8).blk t).view.set := by
  obtain ⟨b, h, n, d, rfl⟩ : ∃ (b : Fin 16) (h : Fin 16) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_8 _, ?_⟩
  have hm := ((cfg0.win 8).blk ⟨b.val * 4 + n.val / 512, hN⟩).view.emb_mem_set (ix4 0 h ⟨n.val % 512, by omega⟩ d)
  rw [emb8] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 3, and that the blocks cover it. -/
theorem emb9 (t : Fin cfg0.N) (h : Fin 4) (i : Fin 512) (d : Fin 64) : ((cfg0.win 9).blk t).view.emb (ix4 0 h i d) = ix4 (batch t) h (row t i) d := by
  obtain ⟨e0, e1, e2, e3⟩ := idx9 t
  funext a; apply Fin.ext
  match a with
  | ⟨0, _⟩ => show win0_9.index t (0 : Fin 4) * 1 + 1 * 0 = t.val / 4; omega
  | ⟨1, _⟩ => show win0_9.index t (1 : Fin 4) * 4 + 1 * h.val = h.val; omega
  | ⟨2, _⟩ => show win0_9.index t (2 : Fin 4) * 512 + 1 * i.val = 512 * (t.val % 4) + i.val; omega
  | ⟨3, _⟩ => show win0_9.index t (3 : Fin 4) * 64 + 1 * d.val = d.val; omega

theorem covers9 (i : S16x4x2048x64.Idx) : ∃ t : Fin cfg0.N, (cfg0.win 9).flush t = true ∧ i ∈ ((cfg0.win 9).blk t).view.set := by
  obtain ⟨b, h, n, d, rfl⟩ : ∃ (b : Fin 16) (h : Fin 4) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_9 _, ?_⟩
  have hm := ((cfg0.win 9).blk ⟨b.val * 4 + n.val / 512, hN⟩).view.emb_mem_set (ix4 0 h ⟨n.val % 512, by omega⟩ d)
  rw [emb9] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 4, and that the blocks cover it. -/
theorem emb10 (t : Fin cfg0.N) (h : Fin 4) (i : Fin 512) (d : Fin 256) : ((cfg0.win 10).blk t).view.emb (ix4 0 h i d) = ix4 (batch t) h (row t i) d := by
  obtain ⟨e0, e1, e2, e3⟩ := idx10 t
  funext a; apply Fin.ext
  match a with
  | ⟨0, _⟩ => show win0_10.index t (0 : Fin 4) * 1 + 1 * 0 = t.val / 4; omega
  | ⟨1, _⟩ => show win0_10.index t (1 : Fin 4) * 4 + 1 * h.val = h.val; omega
  | ⟨2, _⟩ => show win0_10.index t (2 : Fin 4) * 512 + 1 * i.val = 512 * (t.val % 4) + i.val; omega
  | ⟨3, _⟩ => show win0_10.index t (3 : Fin 4) * 256 + 1 * d.val = d.val; omega

theorem covers10 (i : S16x4x2048x256.Idx) : ∃ t : Fin cfg0.N, (cfg0.win 10).flush t = true ∧ i ∈ ((cfg0.win 10).blk t).view.set := by
  obtain ⟨b, h, n, d, rfl⟩ : ∃ (b : Fin 16) (h : Fin 4) (n : Fin 2048) (d : Fin 256), i = ix4 b h n d := ⟨i 0, i 1, i 2, i 3, eq_ix4 i⟩
  have hN : b.val * 4 + n.val / 512 < cfg0.N := show _ < 64 by omega
  refine ⟨⟨b.val * 4 + n.val / 512, hN⟩, flush0_10 _, ?_⟩
  have hm := ((cfg0.win 10).blk ⟨b.val * 4 + n.val / 512, hN⟩).view.emb_mem_set (ix4 0 h ⟨n.val % 512, by omega⟩ d)
  rw [emb10] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

end

/-! ## The arrays -/

theorem wts_apply (w : Vec Ideal S4x1024x1536 .f32) (k : Fin 1024) (j : Fin 1536) : wts w (ix2 k j) = w (ix3 0 k j) := by
  pointwise [wts]

/-- The cosine and the signed sine of lane `j` at row `n`. -/
def cosAt (n : Fin 2048) (j : Fin 128) : EReal := cosT (F := Ideal) (ang lit0 lit1) (ix2 n j)
def sinAt (n : Fin 2048) (j : Fin 128) : EReal := sinT (F := Ideal) (ang lit0 lit1) (ix2 n j)

/-- Column `j` of the projection of row `n` of batch `b`. -/
def prj (x : Vec Ideal S16x2048x1024 .f32) (md : Vec Ideal S576x1x1024 .f32) (g : Vec Ideal S4x1x1024 .f32) (w : Vec Ideal S4x1024x1536 .f32)
    (b : Fin 16) (n : Fin 2048) (j : Fin 1536) : EReal :=
  proj (fun k => x (ix3 b n k)) (fun k => g (ix3 0 0 k)) (fun k => md (ix3 (shRow b) 0 k)) (fun k => md (ix3 (scRow b) 0 k)) (fun k => w (ix3 0 k j))

section
variable (x : Vec Ideal S16x2048x1024 .f32) (md : Vec Ideal S576x1x1024 .f32) (g : Vec Ideal S4x1x1024 .f32) (w : Vec Ideal S4x1024x1536 .f32)

/-- The plain queries. -/
def QP : Vec Ideal S16x16x2048x64 .bf16 :=
  fun z => prj x md g w (z 0) (z 2) ⟨64 * (z 1).val + (z 3).val, by have h1 : (z 1).val < 16 := (z 1).isLt; have h3 : (z 3).val < 64 := (z 3).isLt; omega⟩ * fac

/-- The rotated queries. -/
def QR : Vec Ideal S16x16x2048x64 .bf16 :=
  fun z => turn (fun j => prj x md g w (z 0) (z 2) ⟨128 * ((z 1).val / 2) + j.val, by have h1 : (z 1).val < 16 := (z 1).isLt; omega⟩ * fac)
    (cosAt (z 2)) (sinAt (z 2)) ⟨64 * ((z 1).val % 2) + (z 3).val, by have h3 : (z 3).val < 64 := (z 3).isLt; omega⟩

/-- The rotated keys. -/
def KR : Vec Ideal S16x4x2048x64 .bf16 :=
  fun z => turn (fun j => prj x md g w (z 0) (z 2) ⟨1024 + 128 * ((z 1).val / 2) + j.val, by have h1 : (z 1).val < 4 := (z 1).isLt; omega⟩)
    (cosAt (z 2)) (sinAt (z 2)) ⟨64 * ((z 1).val % 2) + (z 3).val, by have h3 : (z 3).val < 64 := (z 3).isLt; omega⟩

/-- The values, with the two runs of ones between. -/
def VA : Vec Ideal S16x4x2048x256 .bf16 :=
  fun z => vlane (fun j => prj x md g w (z 0) (z 2) j) (z 1) (z 3)
end

section
variable (m : (ℓ : Loc nD τ sig) → Buf (Elt Ideal) ℓ) (c : Dev nD)

/-- The projections of a point's block. -/
theorem rows_at (t : Fin cfg0.N) (i : Fin 512) (j : Fin 1536) :
    k0_pay79 (iblk m c 0 t) (iblk m c 1 t) (iblk m c 2 t) (iblk m c 3 t) (iblk m c 4 t) (iblk m c 5 t) (iblk m c 6 t) (ix2 i j)
      = prj (m ((c : Thread nD τ).loc main_arg0)) (m ((c : Thread nD τ).loc main_arg1)) (m ((c : Thread nD τ).loc main_arg2)) (m ((c : Thread nD τ).loc main_arg3)) (batch t) (row t i) j := by
  rw [rows_apply]
  exact congr (congr (congr (congr (congrArg proj (funext fun k => blk0 m c t i k)) (funext fun k => blk1 m c t k)) (funext fun k => blk2 m c t k)) (funext fun k => blk3 m c t k))
    (funext fun k => (blk4 m c t k j).trans (wts_apply _ k j))

theorem flushed_QP (t : Fin cfg0.N) : (dats m 0 c).flushed 7 t = ((cfg0.win 7).blk t).view.read (Elt Ideal) (QP (m ((c : Thread nD τ).loc main_arg0)) (m ((c : Thread nD τ).loc main_arg1)) (m ((c : Thread nD τ).loc main_arg2)) (m ((c : Thread nD τ).loc main_arg3))) := by
  rw [Value.flushed7, out_qp]
  funext y
  obtain ⟨b, h, i, d, rfl⟩ : ∃ (b : Fin 1) (h : Fin 16) (i : Fin 512) (d : Fin 64), y = ix4 b h i d := ⟨y 0, y 1, y 2, y 3, eq_ix4 y⟩
  obtain rfl : b = 0 := Subsingleton.elim _ _
  show Qp (k0_pay79 (iblk m c 0 t) (iblk m c 1 t) (iblk m c 2 t) (iblk m c 3 t) (iblk m c 4 t) (iblk m c 5 t) (iblk m c 6 t)) (ix4 0 h i d)
    = QP _ _ _ _ (((cfg0.win 7).blk t).view.emb (ix4 0 h i d))
  rw [emb7]
  show k0_pay79 (iblk m c 0 t) (iblk m c 1 t) (iblk m c 2 t) (iblk m c 3 t) (iblk m c 4 t) (iblk m c 5 t) (iblk m c 6 t) (ix2 i _) * fac = prj _ _ _ _ (batch t) (row t i) _ * fac
  rw [rows_at]
  rfl

/-- Result array 1 after the run. -/
theorem final_QP : (dats m 0 c).arrAt 7 cfg0.N = QP (m ((c : Thread nD τ).loc main_arg0)) (m ((c : Thread nD τ).loc main_arg1)) (m ((c : Thread nD τ).loc main_arg2)) (m ((c : Thread nD τ).loc main_arg3)) :=
  (dats m 0 c).arrAt_eq_of_cover 7 _ (fun t _ => flushed_QP m c t) covers7

theorem flushed_QR (t : Fin cfg0.N) : (dats m 0 c).flushed 8 t = ((cfg0.win 8).blk t).view.read (Elt Ideal) (QR (m ((c : Thread nD τ).loc main_arg0)) (m ((c : Thread nD τ).loc main_arg1)) (m ((c : Thread nD τ).loc main_arg2)) (m ((c : Thread nD τ).loc main_arg3))) := by
  rw [Value.flushed8, out_qr]
  funext y
  obtain ⟨b, h, i, d, rfl⟩ : ∃ (b : Fin 1) (h : Fin 16) (i : Fin 512) (d : Fin 64), y = ix4 b h i d := ⟨y 0, y 1, y 2, y 3, eq_ix4 y⟩
  obtain rfl : b = 0 := Subsingleton.elim _ _
  show Qr (k0_pay79 (iblk m c 0 t) (iblk m c 1 t) (iblk m c 2 t) (iblk m c 3 t) (iblk m c 4 t) (iblk m c 5 t) (iblk m c 6 t)) (iblk m c 5 t) (iblk m c 6 t) (ix4 0 h i d)
    = QR _ _ _ _ (((cfg0.win 8).blk t).view.emb (ix4 0 h i d))
  rw [emb8]
  show turn _ _ _ _ = turn _ _ _ _
  exact congr (congr (congr (congrArg turn (funext fun j => congrArg (· * fac) (rows_at m c t i _))) (funext fun j => blk5 m c t i j)) (funext fun j => blk6 m c t i j)) rfl

/-- Result array 2 after the run. -/
theorem final_QR : (dats m 0 c).arrAt 8 cfg0.N = QR (m ((c : Thread nD τ).loc main_arg0)) (m ((c : Thread nD τ).loc main_arg1)) (m ((c : Thread nD τ).loc main_arg2)) (m ((c : Thread nD τ).loc main_arg3)) :=
  (dats m 0 c).arrAt_eq_of_cover 8 _ (fun t _ => flushed_QR m c t) covers8

theorem flushed_KR (t : Fin cfg0.N) : (dats m 0 c).flushed 9 t = ((cfg0.win 9).blk t).view.read (Elt Ideal) (KR (m ((c : Thread nD τ).loc main_arg0)) (m ((c : Thread nD τ).loc main_arg1)) (m ((c : Thread nD τ).loc main_arg2)) (m ((c : Thread nD τ).loc main_arg3))) := by
  rw [Value.flushed9, out_kr]
  funext y
  obtain ⟨b, h, i, d, rfl⟩ : ∃ (b : Fin 1) (h : Fin 4) (i : Fin 512) (d : Fin 64), y = ix4 b h i d := ⟨y 0, y 1, y 2, y 3, eq_ix4 y⟩
  obtain rfl : b = 0 := Subsingleton.elim _ _
  show Kr (k0_pay79 (iblk m c 0 t) (iblk m c 1 t) (iblk m c 2 t) (iblk m c 3 t) (iblk m c 4 t) (iblk m c 5 t) (iblk m c 6 t)) (iblk m c 5 t) (iblk m c 6 t) (ix4 0 h i d)
    = KR _ _ _ _ (((cfg0.win 9).blk t).view.emb (ix4 0 h i d))
  rw [emb9]
  show turn _ _ _ _ = turn _ _ _ _
  exact congr (congr (congr (congrArg turn (funext fun j => rows_at m c t i _)) (funext fun j => blk5 m c t i j)) (funext fun j => blk6 m c t i j)) rfl

/-- Result array 3 after the run. -/
theorem final_KR : (dats m 0 c).arrAt 9 cfg0.N = KR (m ((c : Thread nD τ).loc main_arg0)) (m ((c : Thread nD τ).loc main_arg1)) (m ((c : Thread nD τ).loc main_arg2)) (m ((c : Thread nD τ).loc main_arg3)) :=
  (dats m 0 c).arrAt_eq_of_cover 9 _ (fun t _ => flushed_KR m c t) covers9

theorem flushed_VA (t : Fin cfg0.N) : (dats m 0 c).flushed 10 t = ((cfg0.win 10).blk t).view.read (Elt Ideal) (VA (m ((c : Thread nD τ).loc main_arg0)) (m ((c : Thread nD τ).loc main_arg1)) (m ((c : Thread nD τ).loc main_arg2)) (m ((c : Thread nD τ).loc main_arg3))) := by
  rw [Value.flushed10, out_va]
  funext y
  obtain ⟨b, h, i, d, rfl⟩ : ∃ (b : Fin 1) (h : Fin 4) (i : Fin 512) (d : Fin 256), y = ix4 b h i d := ⟨y 0, y 1, y 2, y 3, eq_ix4 y⟩
  obtain rfl : b = 0 := Subsingleton.elim _ _
  show Va (k0_pay79 (iblk m c 0 t) (iblk m c 1 t) (iblk m c 2 t) (iblk m c 3 t) (iblk m c 4 t) (iblk m c 5 t) (iblk m c 6 t)) (ix4 0 h i d)
    = VA _ _ _ _ (((cfg0.win 10).blk t).view.emb (ix4 0 h i d))
  rw [emb10]
  exact congrArg (fun f => vlane f h d) (funext fun j => rows_at m c t i j)

/-- Result array 4 after the run. -/
theorem final_VA : (dats m 0 c).arrAt 10 cfg0.N = VA (m ((c : Thread nD τ).loc main_arg0)) (m ((c : Thread nD τ).loc main_arg1)) (m ((c : Thread nD τ).loc main_arg2)) (m ((c : Thread nD τ).loc main_arg3)) :=
  (dats m 0 c).arrAt_eq_of_cover 10 _ (fun t _ => flushed_VA m c t) covers10

end

end Cert.Kernel2Ideal.Hand

end
-- ==== Proof.RefQkv.lean ====
/-
  The projection reference, step by step, and each of its results read at an index.
-/
module

public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen Idealize.ShloMosaic Idealize.ShloMosaic.TcCoe Idealize.SL.Sem

section
variable {F : FTy → Type} [FloatOps F]

/-- One over each row's root mean square. -/
def rms (x : FVec F S16x2048x1024 .f32) : FVec F S16x2048x1024 .f32 :=
  broadcastInDim S16x2048x1024 ![0, 1, 2] bcast_S16x2048x1_S16x2048x1024_0_1_2 (Host.rsqrt (addf
    (Host.divf (broadcastInDim S16x2048x1 ![0, 1] bcast_S16x2048_S16x2048x1_0_1 (Host.reduceAdd (mulf x x) (constant S_ .f32 0x00000000#32) reducesTo_S16x2048x1024_S16x2048_d2 h_S_))
      (broadcastInDim S16x2048x1 ![] bcast_S_S16x2048x1 (constant S_ .f32 0x44800000#32)))
    (broadcastInDim S16x2048x1 ![] bcast_S_S16x2048x1 (constant S_ .f32 0x358637BD#32))))

/-- The first layer's gains, along the rows. -/
def gains (g : FVec F S4x1x1024 .f32) : FVec F S16x2048x1024 .f32 :=
  broadcastInDim S16x2048x1024 ![0, 1, 2] bcast_S1x1x1024_S16x2048x1024_0_1_2 (broadcastInDim S1x1x1024 ![1, 2] bcast_S1x1024_S1x1x1024_1_2
    (shapeCast S1x1024 (extractStridedSlice S1x1x1024 ![0, 0, 0] g slices_S4x1x1024_S1x1x1024_0_0_0) shapeCasts_S1x1x1024_S1x1024))

/-- The first layer's six modulations of each batch. -/
def mods (md : FVec F S576x1x1024 .f32) : FVec F S16x6x1024 .f32 :=
  shapeCast S16x6x1024 (extractStridedSlice S1x16x6x1024 ![0, 0, 0, 0] (shapeCast S4x24x6x1024 md shapeCasts_S576x1x1024_S4x24x6x1024) slices_S4x24x6x1024_S1x16x6x1024_0_0_0_0) shapeCasts_S1x16x6x1024_S16x6x1024

/-- The first modulation: the shift. -/
def shifts (d : FVec F S16x6x1024 .f32) : FVec F S16x1x1024 .f32 :=
  broadcastInDim S16x1x1024 ![0, 2] bcast_S16x1024_S16x1x1024_0_2 (shapeCast S16x1024 (extractStridedSlice S16x1x1024 ![0, 0, 0] d slices_S16x6x1024_S16x1x1024_0_0_0) shapeCasts_S16x1x1024_S16x1024)

/-- The second: the scale. -/
def scales (d : FVec F S16x6x1024 .f32) : FVec F S16x1x1024 .f32 :=
  broadcastInDim S16x1x1024 ![0, 2] bcast_S16x1024_S16x1x1024_0_2 (shapeCast S16x1024 (extractStridedSlice S16x1x1024 ![0, 1, 0] d slices_S16x6x1024_S16x1x1024_0_1_0) shapeCasts_S16x1x1024_S16x1024)

/-- The normalised, scaled and shifted rows. -/
def normed (x : FVec F S16x2048x1024 .f32) (md : FVec F S576x1x1024 .f32) (g : FVec F S4x1x1024 .f32) : FVec F S16x2048x1024 .f32 :=
  addf (mulf (mulf (mulf x (rms x)) (gains g))
      (broadcastInDim S16x2048x1024 ![0, 1, 2] bcast_S16x1x1024_S16x2048x1024_0_1_2 (addf (broadcastInDim S16x1x1024 ![] bcast_S_S16x1x1024 (constant S_ .f32 0x3F800000#32)) (scales (mods md)))))
    (broadcastInDim S16x2048x1024 ![0, 1, 2] bcast_S16x1x1024_S16x2048x1024_0_1_2 (shifts (mods md)))

/-- Those rows times the first layer's weights. -/
def projected (h : FVec F S16x2048x1024 .f32) (w : FVec F S4x1024x1536 .f32) : FVec F S16x2048x1536 .f32 :=
  Host.dotGeneral dot_S16x2048x1024_S1024x1536_S16x2048x1536_2_0_01_1_n_n none h
    (shapeCast S1024x1536 (extractStridedSlice S1x1024x1536 ![0, 0, 0] w slices_S4x1024x1536_S1x1024x1536_0_0_0) shapeCasts_S1x1024x1536_S1024x1536)

/-- The queries: their columns, over eight and over the logarithm of two. -/
def queries (y : FVec F S16x2048x1536 .f32) : FVec F S16x2048x16x64 .f32 :=
  Host.divf (mulf (shapeCast S16x2048x16x64 (extractStridedSlice S16x2048x1024 ![0, 0, 0] y slices_S16x2048x1536_S16x2048x1024_0_0_0) shapeCasts_S16x2048x1024_S16x2048x16x64)
      (broadcastInDim S16x2048x16x64 ![] bcast_S_S16x2048x16x64 (constant S_ .f32 0x3E000000#32)))
    (broadcastInDim S16x2048x16x64 ![] bcast_S_S16x2048x16x64 (Host.log (constant S_ .f32 0x40000000#32)))

/-- The keys' columns. -/
def keys (y : FVec F S16x2048x1536 .f32) : FVec F S16x2048x4x64 .f32 :=
  shapeCast S16x2048x4x64 (extractStridedSlice S16x2048x256 ![0, 0, 1024] y slices_S16x2048x1536_S16x2048x256_0_0_1024) shapeCasts_S16x2048x256_S16x2048x4x64

/-- The values' columns. -/
def vals (y : FVec F S16x2048x1536 .f32) : FVec F S16x2048x4x64 .f32 :=
  shapeCast S16x2048x4x64 (extractStridedSlice S16x2048x256 ![0, 0, 1280] y slices_S16x2048x1536_S16x2048x256_0_0_1280) shapeCasts_S16x2048x256_S16x2048x4x64

/-- The sixteen frequencies. -/
def freq : FVec F S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- A table of positions times the frequencies. -/
def waves (l : Fin 2048 → BitVec 32) : FVec F S2048x16 .f32 :=
  mulf (broadcastInDim S2048x16 ![0, 1] bcast_S2048x1_S2048x16_0_1 (broadcastInDim S2048x1 ![0] bcast_S2048_S2048x1_0 (fun i => FloatOps.ofBits .f32 (l (S2048.rowMajor i)))))
    (broadcastInDim S2048x16 ![0, 1] bcast_S1x16_S2048x16_0_1 (broadcastInDim S1x16 ![1] bcast_S16_S1x16_1 freq))

/-- The angles of the 64 lanes of a head: row angles twice, column angles twice. -/
def ang (l0 l1 : Fin 2048 → BitVec 32) : FVec F S2048x64 .f32 :=
  concatenate S2048x64 1 [⟨S2048x16, waves l0⟩, ⟨S2048x16, waves l0⟩, ⟨S2048x16, waves l1⟩, ⟨S2048x16, waves l1⟩] concatenates_S2048x16_S2048x16_S2048x16_S2048x16_S2048x64_d1

/-- The quarters of a query's lanes, exchanged two by two and one of each two negated. -/
def quarters (x : FVec F S16x2048x16x64 .f32) : FVec F S16x2048x16x64 .f32 :=
  concatenate S16x2048x16x64 3 [⟨S16x2048x16x16, Host.negf (extractStridedSlice S16x2048x16x16 ![0, 0, 0, 16] x slices_S16x2048x16x64_S16x2048x16x16_0_0_0_16 : FVec F S16x2048x16x16 .f32)⟩,
    ⟨S16x2048x16x16, extractStridedSlice S16x2048x16x16 ![0, 0, 0, 0] x slices_S16x2048x16x64_S16x2048x16x16_0_0_0_0⟩,
    ⟨S16x2048x16x16, Host.negf (extractStridedSlice S16x2048x16x16 ![0, 0, 0, 48] x slices_S16x2048x16x64_S16x2048x16x16_0_0_0_48 : FVec F S16x2048x16x16 .f32)⟩,
    ⟨S16x2048x16x16, extractStridedSlice S16x2048x16x16 ![0, 0, 0, 32] x slices_S16x2048x16x64_S16x2048x16x16_0_0_0_32⟩]
    concatenates_S16x2048x16x16_S16x2048x16x16_S16x2048x16x16_S16x2048x16x16_S16x2048x16x64_d3

/-- The same of a key's lanes. -/
def quartersK (x : FVec F S16x2048x4x64 .f32) : FVec F S16x2048x4x64 .f32 :=
  concatenate S16x2048x4x64 3 [⟨S16x2048x4x16, Host.negf (extractStridedSlice S16x2048x4x16 ![0, 0, 0, 16] x slices_S16x2048x4x64_S16x2048x4x16_0_0_0_16 : FVec F S16x2048x4x16 .f32)⟩,
    ⟨S16x2048x4x16, extractStridedSlice S16x2048x4x16 ![0, 0, 0, 0] x slices_S16x2048x4x64_S16x2048x4x16_0_0_0_0⟩,
    ⟨S16x2048x4x16, Host.negf (extractStridedSlice S16x2048x4x16 ![0, 0, 0, 48] x slices_S16x2048x4x64_S16x2048x4x16_0_0_0_48 : FVec F S16x2048x4x16 .f32)⟩,
    ⟨S16x2048x4x16, extractStridedSlice S16x2048x4x16 ![0, 0, 0, 32] x slices_S16x2048x4x64_S16x2048x4x16_0_0_0_32⟩]
    concatenates_S16x2048x4x16_S16x2048x4x16_S16x2048x4x16_S16x2048x4x16_S16x2048x4x64_d3

/-- The rotary embedding of the queries. -/
def rotated (x : FVec F S16x2048x16x64 .f32) (a : FVec F S2048x64 .f32) : FVec F S16x2048x16x64 .f32 :=
  addf (mulf x (broadcastInDim S16x2048x16x64 ![0, 1, 2, 3] bcast_S1x2048x1x64_S16x2048x16x64_0_1_2_3 (broadcastInDim S1x2048x1x64 ![1, 3] bcast_S2048x64_S1x2048x1x64_1_3 (Host.cos a))))
    (mulf (quarters x) (broadcastInDim S16x2048x16x64 ![0, 1, 2, 3] bcast_S1x2048x1x64_S16x2048x16x64_0_1_2_3 (broadcastInDim S1x2048x1x64 ![1, 3] bcast_S2048x64_S1x2048x1x64_1_3 (Host.sin a))))

/-- The rotary embedding of the keys. -/
def rotatedK (x : FVec F S16x2048x4x64 .f32) (a : FVec F S2048x64 .f32) : FVec F S16x2048x4x64 .f32 :=
  addf (mulf x (broadcastInDim S16x2048x4x64 ![0, 1, 2, 3] bcast_S1x2048x1x64_S16x2048x4x64_0_1_2_3 (broadcastInDim S1x2048x1x64 ![1, 3] bcast_S2048x64_S1x2048x1x64_1_3 (Host.cos a))))
    (mulf (quartersK x) (broadcastInDim S16x2048x4x64 ![0, 1, 2, 3] bcast_S1x2048x1x64_S16x2048x4x64_0_1_2_3 (broadcastInDim S1x2048x1x64 ![1, 3] bcast_S2048x64_S1x2048x1x64_1_3 (Host.sin a))))

/-- Heads before rows, as bf16. -/
def headsQ (x : FVec F S16x2048x16x64 .f32) : Vec F S16x16x2048x64 .bf16 :=
  truncf .bf16 (transpose S16x16x2048x64 [0, 2, 1, 3] x transposes_S16x2048x16x64_S16x16x2048x64_0_2_1_3 : FVec F S16x16x2048x64 .f32) bitsLt_bf16_f32
def headsK (x : FVec F S16x2048x4x64 .f32) : Vec F S16x4x2048x64 .bf16 :=
  truncf .bf16 (transpose S16x4x2048x64 [0, 2, 1, 3] x transposes_S16x2048x4x64_S16x4x2048x64_0_2_1_3 : FVec F S16x4x2048x64 .f32) bitsLt_bf16_f32

/-- A value's lanes, two runs of ones, the lanes again; heads before rows, as bf16. -/
def headsV (x : FVec F S16x2048x4x64 .f32) : Vec F S16x4x2048x256 .bf16 :=
  truncf .bf16 (transpose S16x4x2048x256 [0, 2, 1, 3] (concatenate S16x2048x4x256 3 [⟨S16x2048x4x64, x⟩,
      ⟨S16x2048x4x64, broadcastInDim S16x2048x4x64 ![] bcast_S_S16x2048x4x64 (constant S_ .f32 0x3F800000#32)⟩,
      ⟨S16x2048x4x64, broadcastInDim S16x2048x4x64 ![] bcast_S_S16x2048x4x64 (constant S_ .f32 0x3F800000#32)⟩, ⟨S16x2048x4x64, x⟩]
    concatenates_S16x2048x4x64_S16x2048x4x64_S16x2048x4x64_S16x2048x4x64_S16x2048x4x256_d3) transposes_S16x2048x4x256_S16x4x2048x256_0_2_1_3 : FVec F S16x4x2048x256 .f32) bitsLt_bf16_f32

variable (m : (ℓ : Loc nD τ sig) → Buf (Elt F) ℓ) (c : Dev nD)

/-- The projections of the reference's arguments. -/
def ys : FVec F S16x2048x1536 .f32 :=
  projected (normed (m ((c.tc : Thread nD τ).loc main_arg0)) (m ((c.tc : Thread nD τ).loc main_arg1)) (m ((c.tc : Thread nD τ).loc main_arg2))) (m ((c.tc : Thread nD τ).loc main_arg3))

/-- The second result is these steps, one after another; and so the third and the fourth. -/
theorem res1 : Value.res_main_v96 m c = headsQ (rotated (queries (ys m c)) (ang lit0 lit1)) := by
  unfold Value.res_main_v96
  rfl

theorem res2 : Value.res_main_v98 m c = headsK (rotatedK (keys (ys m c)) (ang lit0 lit1)) := by
  unfold Value.res_main_v98
  rfl

theorem res3 : Value.res_main_v100 m c = headsV (vals (ys m c)) := by
  unfold Value.res_main_v100
  rfl

/-- The reference ends with these four results and its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v94) = headsQ (queries (ys m c))
      ∧ r.2.mem ((c.tc : Thread nD τ).loc main_v96) = headsQ (rotated (queries (ys m c)) (ang lit0 lit1))
      ∧ r.2.mem ((c.tc : Thread nD τ).loc main_v98) = headsK (rotatedK (keys (ys m c)) (ang lit0 lit1))
      ∧ r.2.mem ((c.tc : Thread nD τ).loc main_v100) = headsV (vals (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans (res1 m c), (h c).2.2.1.trans (res2 m c), (h c).2.2.2.1.trans (res3 m c), (h c).2.2.2.2⟩) (Value.run m ρ)
end

/-! ## Read at an index -/

/-- Equal numbers name one lane. -/
theorem lane {n : Nat} (f : Fin n → EReal) {a b : Nat} (h : a = b) (ha : a < n) (hb : b < n) : f ⟨a, ha⟩ = f ⟨b, hb⟩ := by
  subst h; rfl

theorem rms_apply (x : FVec Ideal S16x2048x1024 .f32) (b : Fin 16) (n : Fin 2048) (k : Fin 1024) :
    rms x (ix3 b n k) = Ideal.rsqrt (Ideal.div (∑ l, x (ix3 b n l) * x (ix3 b n l)) (Ideal.ofBits .f32 0x44800000#32) + Ideal.ofBits .f32 0x358637BD#32) := by
  pointwise [rms]

theorem gains_apply (g : FVec Ideal S4x1x1024 .f32) (b : Fin 16) (n : Fin 2048) (k : Fin 1024) : gains g (ix3 b n k) = g (ix3 0 0 k) := by
  pointwise [gains]

theorem mods_apply (md : FVec Ideal S576x1x1024 .f32) (b : Fin 16) (s : Fin 6) (k : Fin 1024) :
    mods md (ix3 b s k) = md (ix3 ⟨b.val * 6 + s.val, by omega⟩ 0 k) := by
  pointwise [mods]

theorem shifts_apply (d : FVec Ideal S16x6x1024 .f32) (b : Fin 16) (k : Fin 1024) : shifts d (ix3 b 0 k) = d (ix3 b 0 k) := by
  pointwise [shifts]

theorem scales_apply (d : FVec Ideal S16x6x1024 .f32) (b : Fin 16) (k : Fin 1024) : scales d (ix3 b 0 k) = d (ix3 b 1 k) := by
  pointwise [scales]

theorem normed_apply (x : FVec Ideal S16x2048x1024 .f32) (md : FVec Ideal S576x1x1024 .f32) (g : FVec Ideal S4x1x1024 .f32) (b : Fin 16) (n : Fin 2048) (k : Fin 1024) :
    normed x md g (ix3 b n k) = x (ix3 b n k) * rms x (ix3 b n k) * gains g (ix3 b n k) * (Ideal.ofBits .f32 0x3F800000#32 + scales (mods md) (ix3 b 0 k)) + shifts (mods md) (ix3 b 0 k) := by
  pointwise [normed]

theorem projected_apply (h : FVec Ideal S16x2048x1024 .f32) (w : FVec Ideal S4x1024x1536 .f32) (b : Fin 16) (n : Fin 2048) (j : Fin 1536) :
    projected h w (ix3 b n j) = ∑ k : Fin 1024, h (ix3 b n k) * w (ix3 0 k j) := by
  pointwise [projected]

theorem queries_apply (y : FVec Ideal S16x2048x1536 .f32) (b : Fin 16) (n : Fin 2048) (h : Fin 16) (d : Fin 64) :
    queries y (ix4 b n h d) = Ideal.div (y (ix3 b n ⟨h.val * 64 + d.val, by omega⟩) * Ideal.ofBits .f32 0x3E000000#32) (Ideal.log (Ideal.ofBits .f32 0x40000000#32)) := by
  pointwise [queries]

theorem keys_apply (y : FVec Ideal S16x2048x1536 .f32) (b : Fin 16) (n : Fin 2048) (h : Fin 4) (d : Fin 64) :
    keys y (ix4 b n h d) = y (ix3 b n ⟨1024 + (h.val * 64 + d.val), by omega⟩) := by
  pointwise [keys]

theorem vals_apply (y : FVec Ideal S16x2048x1536 .f32) (b : Fin 16) (n : Fin 2048) (h : Fin 4) (d : Fin 64) :
    vals y (ix4 b n h d) = y (ix3 b n ⟨1280 + (h.val * 64 + d.val), by omega⟩) := by
  pointwise [vals]

theorem quarters_apply (x : FVec Ideal S16x2048x16x64 .f32) (b : Fin 16) (n : Fin 2048) (h : Fin 16) (d : Fin 64) :
    quarters x (ix4 b n h d) = if d.val % 32 < 16 then -x (ix4 b n h ⟨(d.val + 16) % 64, by omega⟩) else x (ix4 b n h ⟨(d.val + 48) % 64, by omega⟩) := by
  by_cases hd : d.val % 32 < 16
  · refine Eq.trans ?_ (if_pos hd).symm
    pointwise [quarters]
    split_ifs <;> first
      | (exfalso; omega)
      | exact congrArg (fun e => -x (ix4 b n h e)) (Fin.ext (by first | omega | (simp only; omega)))
      | exact congrArg (fun e => x (ix4 b n h e)) (Fin.ext (by first | omega | (simp only; omega)))
  · refine Eq.trans ?_ (if_neg hd).symm
    pointwise [quarters]
    split_ifs <;> first
      | (exfalso; omega)
      | exact congrArg (fun e => -x (ix4 b n h e)) (Fin.ext (by first | omega | (simp only; omega)))
      | exact congrArg (fun e => x (ix4 b n h e)) (Fin.ext (by first | omega | (simp only; omega)))

theorem quartersK_apply (x : FVec Ideal S16x2048x4x64 .f32) (b : Fin 16) (n : Fin 2048) (h : Fin 4) (d : Fin 64) :
    quartersK x (ix4 b n h d) = if d.val % 32 < 16 then -x (ix4 b n h ⟨(d.val + 16) % 64, by omega⟩) else x (ix4 b n h ⟨(d.val + 48) % 64, by omega⟩) := by
  by_cases hd : d.val % 32 < 16
  · refine Eq.trans ?_ (if_pos hd).symm
    pointwise [quartersK]
    split_ifs <;> first
      | (exfalso; omega)
      | exact congrArg (fun e => -x (ix4 b n h e)) (Fin.ext (by first | omega | (simp only; omega)))
      | exact congrArg (fun e => x (ix4 b n h e)) (Fin.ext (by first | omega | (simp only; omega)))
  · refine Eq.trans ?_ (if_neg hd).symm
    pointwise [quartersK]
    split_ifs <;> first
      | (exfalso; omega)
      | exact congrArg (fun e => -x (ix4 b n h e)) (Fin.ext (by first | omega | (simp only; omega)))
      | exact congrArg (fun e => x (ix4 b n h e)) (Fin.ext (by first | omega | (simp only; omega)))

theorem rotated_apply (x : FVec Ideal S16x2048x16x64 .f32) (a : FVec Ideal S2048x64 .f32) (b : Fin 16) (n : Fin 2048) (h : Fin 16) (d : Fin 64) :
    rotated x a (ix4 b n h d) = x (ix4 b n h d) * Ideal.cos (a (ix2 n d)) + quarters x (ix4 b n h d) * Ideal.sin (a (ix2 n d)) := by
  pointwise [rotated]

theorem rotatedK_apply (x : FVec Ideal S16x2048x4x64 .f32) (a : FVec Ideal S2048x64 .f32) (b : Fin 16) (n : Fin 2048) (h : Fin 4) (d : Fin 64) :
    rotatedK x a (ix4 b n h d) = x (ix4 b n h d) * Ideal.cos (a (ix2 n d)) + quartersK x (ix4 b n h d) * Ideal.sin (a (ix2 n d)) := by
  pointwise [rotatedK]

theorem headsQ_apply (x : FVec Ideal S16x2048x16x64 .f32) (b : Fin 16) (h : Fin 16) (n : Fin 2048) (d : Fin 64) : headsQ x (ix4 b h n d) = x (ix4 b n h d) := by
  pointwise [headsQ]

theorem headsK_apply (x : FVec Ideal S16x2048x4x64 .f32) (b : Fin 16) (h : Fin 4) (n : Fin 2048) (d : Fin 64) : headsK x (ix4 b h n d) = x (ix4 b n h d) := by
  pointwise [headsK]

theorem headsV_apply (x : FVec Ideal S16x2048x4x64 .f32) (b : Fin 16) (h : Fin 4) (n : Fin 2048) (l : Fin 256) (r : EReal)
    (h0 : ∀ e : l.val < 64, x (ix4 b n h ⟨l.val, e⟩) = r) (h1 : 64 ≤ l.val → l.val < 192 → 1 = r) (h2 : ∀ e : 192 ≤ l.val, x (ix4 b n h ⟨l.val - 192, by omega⟩) = r) :
    headsV x (ix4 b h n l) = r := by
  pointwise [headsV]
  split_ifs <;> first
    | exact h1 (by omega) (by omega)
    | exact h0 (by omega)
    | exact Eq.trans (congrArg (fun e => x (ix4 b n h e)) (Fin.ext (by first | omega | (simp only; omega)))) (h2 (by omega))

end Cert.Reference2Ideal.Hand

end
-- ==== Proof.QkvEquation.lean ====
/-
  The projection kernel's four arrays are the reference's four results.
-/
module

public import proofs.«01_k».proof.Proof.QkvArrays
public import proofs.«01_k».proof.Proof.RefQkv
public import proofs.«01_k».proof.Proof.RefRead

@[expose] public section

set_option maxRecDepth 16384

noncomputable section

namespace Cert.Qkv

open Idealize.ShloMosaic Idealize.SL.Sem
open Cert.Kernel2Ideal

/-! ## The constants -/

/-- Over eight and over the logarithm of two is times the kernel's factor. -/
theorem scale_eq (a : EReal) : Ideal.div (a * Ideal.ofBits .f32 0x3E000000#32) (Ideal.log (Ideal.ofBits .f32 0x40000000#32)) = a * Hand.fac := by
  have e8 : Ideal.ofBits .f32 0x3E000000#32 = ((8⁻¹ : ℝ) : EReal) := by
    simp [Ideal.ofBits, Ideal.ieee, -EReal.coe_mul]; norm_num
  have ef : Hand.fac = (((Real.log 2)⁻¹ * 8⁻¹ : ℝ) : EReal) := rfl
  have hl : Real.log 2 ≠ 0 := (Real.log_pos (by norm_num)).ne'
  rw [Cert.ReferenceIdeal.Hand.log_two, e8, ef]
  rw [Ideal.div_coe hl, one_div, mul_assoc, ← EReal.coe_mul, mul_comm (8⁻¹ : ℝ)]

/-- Both programs hold the same tables of positions. -/
theorem rows_eq : Cert.Reference2Ideal.lit0 = Cert.Kernel2Ideal.lit0 :=
  funext (by decide +kernel : ∀ i : Fin 2048, Cert.Reference2Ideal.lit0 i = Cert.Kernel2Ideal.lit0 i)

theorem cols_eq : Cert.Reference2Ideal.lit1 = Cert.Kernel2Ideal.lit1 :=
  funext (by decide +kernel : ∀ i : Fin 2048, Cert.Reference2Ideal.lit1 i = Cert.Kernel2Ideal.lit1 i)

/-- So they hold the same angles. -/
theorem ang_eq : Cert.Reference2Ideal.Hand.ang (F := Ideal) Cert.Reference2Ideal.lit0 Cert.Reference2Ideal.lit1 = Hand.ang lit0 lit1 := by
  rw [rows_eq, cols_eq]
  rfl

/-- The signs of the sines. -/
theorem sign_bits : ∀ j : Fin 128, lit2 j = if j.val % 32 < 16 then 0xBF800000#32 else 0x3F800000#32 := by decide +kernel

/-- The one and the minus one of that table. -/
theorem sign_val (j : Fin 128) : Ideal.ofBits .f32 (lit2 j) = if j.val % 32 < 16 then (-1 : EReal) else 1 := by
  rw [sign_bits]
  split_ifs
  · rw [show (-1 : EReal) = ((-(1 : ℝ) : ℝ) : EReal) by rw [EReal.coe_neg, EReal.coe_one]]
    simp [Ideal.ofBits, Ideal.ieee, -EReal.coe_mul, -EReal.coe_neg]; norm_num
  · exact Ideal.ofBits_one_f32

/-- The kernel's cosines repeat the angles' cosines for the two heads of a row of lanes. -/
theorem cos_apply (n : Fin 2048) (h : Fin 2) (d : Fin 64) :
    Hand.cosAt n ⟨64 * h.val + d.val, by omega⟩ = Ideal.cos (Hand.ang (F := Ideal) lit0 lit1 (ix2 n d)) := by
  unfold Hand.cosAt
  generalize Hand.ang (F := Ideal) lit0 lit1 = a
  pointwise [Hand.cosT, Hand.angs]
  split_ifs with e
  all_goals first
    | exact congrArg (fun j => Ideal.cos (a (ix2 n j))) (Fin.ext (by first | omega | (simp only; omega)))
    | exact absurd rfl ‹¬ _ = _›

/-- The kernel's sines do so with the signs of the turn. -/
theorem sin_apply (n : Fin 2048) (h : Fin 2) (d : Fin 64) :
    Hand.sinAt n ⟨64 * h.val + d.val, by omega⟩ = Ideal.sin (Hand.ang (F := Ideal) lit0 lit1 (ix2 n d)) * (if d.val % 32 < 16 then (-1 : EReal) else 1) := by
  unfold Hand.sinAt
  generalize Hand.ang (F := Ideal) lit0 lit1 = a
  pointwise [Hand.sinT, Hand.angs]
  have er : S128.rowMajor (ix1 (⟨64 * h.val + d.val, by omega⟩ : Fin 128)) = (⟨64 * h.val + d.val, by omega⟩ : Fin 128) :=
    Fin.ext (Shape.rowMajor_val_one (d := ![128]) (ix1 (⟨64 * h.val + d.val, by omega⟩ : Fin 128)))
  rw [er, sign_val]
  have ei : (if (⟨64 * h.val + d.val, by omega⟩ : Fin 128).val % 32 < 16 then (-1 : EReal) else 1) = if d.val % 32 < 16 then -1 else 1 :=
    if_congr (by show (64 * h.val + d.val) % 32 < 16 ↔ _; omega) rfl rfl
  rw [ei]
  generalize (if d.val % 32 < 16 then (-1 : EReal) else 1) = sg
  split_ifs with e
  all_goals first
    | exact congrArg (fun j => Ideal.sin (a (ix2 n j)) * sg) (Fin.ext (by first | omega | (simp only; omega)))
    | exact absurd rfl ‹¬ _ = _›

/-! ## The projections -/

section
variable (x : Vec Ideal S16x2048x1024 .f32) (md : Vec Ideal S576x1x1024 .f32) (g : Vec Ideal S4x1x1024 .f32) (w : Vec Ideal S4x1024x1536 .f32)

/-- The reference's projections. -/
def refY : FVec Ideal Cert.Reference2Ideal.S16x2048x1536 .f32 := Cert.Reference2Ideal.Hand.projected (Cert.Reference2Ideal.Hand.normed x md g) w

open Cert.Reference2Ideal.Hand in
/-- They are the kernel's. -/
theorem ys_apply (b : Fin 16) (n : Fin 2048) (j : Fin 1536) : refY x md g w (ix3 b n j) = Hand.prj x md g w b n j := by
  unfold refY
  rw [projected_apply]
  unfold Hand.prj Hand.proj
  refine Finset.sum_congr rfl fun k _ => ?_
  rw [normed_apply, rms_apply, gains_apply, scales_apply, shifts_apply, mods_apply, mods_apply]
  have e0 : (⟨b.val * 6 + (0 : Fin 6).val, by show b.val * 6 + 0 < 576; omega⟩ : Fin 576) = Hand.shRow b := Fin.ext (by show b.val * 6 + 0 = 6 * b.val; omega)
  have e1 : (⟨b.val * 6 + (1 : Fin 6).val, by show b.val * 6 + 1 < 576; omega⟩ : Fin 576) = Hand.scRow b := Fin.ext (by show b.val * 6 + 1 = 6 * b.val + 1; omega)
  rw [e0, e1]

/-- A head's lane turned by the tables is the reference's rotary embedding of the head. -/
theorem turn_eq (X : Fin 64 → EReal) (v c s : Fin 128 → EReal) (p : Fin 2) (d : Fin 64) (C S : EReal) (hv : ∀ e : Fin 64, v ⟨64 * p.val + e.val, by omega⟩ = X e)
    (hc : c ⟨64 * p.val + d.val, by omega⟩ = C) (hs : s ⟨64 * p.val + d.val, by omega⟩ = S * (if d.val % 32 < 16 then (-1 : EReal) else 1)) :
    Hand.turn v c s ⟨64 * p.val + d.val, by omega⟩ = X d * C + (if d.val % 32 < 16 then -X ⟨(d.val + 16) % 64, by omega⟩ else X ⟨(d.val + 48) % 64, by omega⟩) * S := by
  obtain rfl : X = fun e : Fin 64 => v ⟨64 * p.val + e.val, by omega⟩ := funext fun e => (hv e).symm
  unfold Hand.turn
  rw [hc, hs]
  by_cases h : d.val % 32 < 16
  · rw [if_pos (show (64 * p.val + d.val) % 32 < 16 by omega), if_pos h, if_pos h, mul_neg, mul_one, mul_neg, neg_mul]
    exact congrArg (fun e => v ⟨64 * p.val + d.val, by omega⟩ * C + -(v e * S)) (Fin.ext (by show (64 * p.val + d.val + 16) % 128 = 64 * p.val + (d.val + 16) % 64; omega))
  · rw [if_neg (show ¬ (64 * p.val + d.val) % 32 < 16 by omega), if_neg h, if_neg h, mul_one]
    exact congrArg (fun e => v ⟨64 * p.val + d.val, by omega⟩ * C + v e * S) (Fin.ext (by show (64 * p.val + d.val + 112) % 128 = 64 * p.val + (d.val + 48) % 64; omega))

open Cert.Reference2Ideal.Hand in
theorem query_at (b : Fin 16) (n : Fin 2048) (h : Fin 16) (d : Fin 64) :
    queries (refY x md g w) (ix4 b n h d) = Hand.prj x md g w b n ⟨64 * h.val + d.val, by omega⟩ * Hand.fac := by
  rw [queries_apply, scale_eq, ys_apply]
  exact congrArg (fun j => Hand.prj x md g w b n j * Hand.fac) (Fin.ext (by show h.val * 64 + d.val = 64 * h.val + d.val; omega))

open Cert.Reference2Ideal.Hand in
theorem qp_eq : headsQ (queries (refY x md g w)) = Hand.QP x md g w := by
  funext z
  obtain ⟨b, h, n, d, rfl⟩ : ∃ (b : Fin 16) (h : Fin 16) (n : Fin 2048) (d : Fin 64), z = ix4 b h n d := ⟨z 0, z 1, z 2, z 3, eq_ix4 z⟩
  exact (headsQ_apply _ b h n d).trans (query_at x md g w b n h d)

open Cert.Reference2Ideal.Hand in
theorem qr_eq : headsQ (rotated (queries (refY x md g w)) (ang Cert.Reference2Ideal.lit0 Cert.Reference2Ideal.lit1)) = Hand.QR x md g w := by
  funext z
  obtain ⟨b, h, n, d, rfl⟩ : ∃ (b : Fin 16) (h : Fin 16) (n : Fin 2048) (d : Fin 64), z = ix4 b h n d := ⟨z 0, z 1, z 2, z 3, eq_ix4 z⟩
  refine (headsQ_apply _ b h n d).trans ?_
  rw [rotated_apply, quarters_apply, ang_eq]
  refine (turn_eq (fun d => queries (refY x md g w) (ix4 b n h d)) _ _ _ ⟨h.val % 2, by omega⟩ d _ _ (fun e => ?_) (cos_apply n ⟨h.val % 2, by omega⟩ d) (sin_apply n ⟨h.val % 2, by omega⟩ d)).symm
  refine Eq.trans ?_ (query_at x md g w b n h e).symm
  exact congrArg (fun j => Hand.prj x md g w b n j * Hand.fac) (Fin.ext (by show 128 * (h.val / 2) + (64 * (h.val % 2) + e.val) = 64 * h.val + e.val; omega))

open Cert.Reference2Ideal.Hand in
theorem kr_eq : headsK (rotatedK (keys (refY x md g w)) (ang Cert.Reference2Ideal.lit0 Cert.Reference2Ideal.lit1)) = Hand.KR x md g w := by
  funext z
  obtain ⟨b, h, n, d, rfl⟩ : ∃ (b : Fin 16) (h : Fin 4) (n : Fin 2048) (d : Fin 64), z = ix4 b h n d := ⟨z 0, z 1, z 2, z 3, eq_ix4 z⟩
  refine (headsK_apply _ b h n d).trans ?_
  rw [rotatedK_apply, quartersK_apply, ang_eq]
  refine (turn_eq (fun d => keys (refY x md g w) (ix4 b n h d)) _ _ _ ⟨h.val % 2, by omega⟩ d _ _ (fun e => ?_) (cos_apply n ⟨h.val % 2, by omega⟩ d) (sin_apply n ⟨h.val % 2, by omega⟩ d)).symm
  refine Eq.trans ?_ ((keys_apply _ b n h e).trans (ys_apply x md g w b n _)).symm
  exact congrArg (fun j => Hand.prj x md g w b n j) (Fin.ext (by show 1024 + 128 * (h.val / 2) + (64 * (h.val % 2) + e.val) = 1024 + (h.val * 64 + e.val); omega))

open Cert.Reference2Ideal.Hand in
theorem va_eq : headsV (vals (refY x md g w)) = Hand.VA x md g w := by
  funext z
  obtain ⟨b, h, n, l, rfl⟩ : ∃ (b : Fin 16) (h : Fin 4) (n : Fin 2048) (l : Fin 256), z = ix4 b h n l := ⟨z 0, z 1, z 2, z 3, eq_ix4 z⟩
  show _ = Hand.vlane (fun j => Hand.prj x md g w b n j) h l
  refine headsV_apply _ b h n l _ (fun e => ?_) (fun e e' => ?_) (fun e => ?_)
  · refine ((vals_apply _ b n h _).trans (ys_apply x md g w b n _)).trans ?_
    refine Eq.trans ?_ (if_pos e).symm
    exact congrArg (fun j => Hand.prj x md g w b n j) (Fin.ext (by show 1280 + (h.val * 64 + l.val) = (1280 + 64 * h.val + l.val) % 1536; omega))
  · exact ((if_neg (by omega)).trans (if_pos e')).symm
  · refine ((vals_apply _ b n h _).trans (ys_apply x md g w b n _)).trans ?_
    refine Eq.trans ?_ ((if_neg (by omega)).trans (if_neg (by omega))).symm
    exact congrArg (fun j => Hand.prj x md g w b n j) (Fin.ext (by show 1280 + (h.val * 64 + (l.val - 192)) = 1280 + 64 * h.val + (l.val - 192); omega))
end

end Cert.Qkv

end
-- ==== Proof.ProjArrays.lean ====
/-
  The output projection's kernel: point `t` of its grid works on batch `t / 2` and rows `1024 * (t % 2)` to that plus 1023.
  Its first array is the input plus the gate times the attention's rows times the weights; its second is that array's rows,
  normalised, scaled and shifted.
-/
module

public import proofs.«01_k».proof.Proof.Gen.Kernel4Ideal.Value
public import Idealize.ShloMosaic.Lib.Pointwise
public import Idealize.ShloMosaic.Lib.StableHlo.Run

@[expose] public section

set_option maxRecDepth 16384

noncomputable section

namespace Cert.Kernel4Ideal.Hand

open Cert.Kernel4Ideal Cert.Kernel4Ideal.Gen Idealize.ShloMosaic Idealize.ShloMosaic.TcCoe Idealize.SL.Sem

section
variable {F : FTy → Type} [FloatOps F]

/-- The weights of the first layer. -/
def wts (w : Vec F S4x1024x1024 .f32) : Vec F S1024x1024 .bf16 :=
  truncf .bf16 (shapeCast S1024x1024 (extractStridedSlice S1x1024x1024 ![0, 0, 0] w slices_S4x1024x1024_S1x1024x1024_0_0_0) shapeCasts_S1x1024x1024_S1024x1024 : FVec F S1024x1024 .f32) bitsLt_bf16_f32

variable (m : (ℓ : Loc nD τ sig) → Buf (Elt F) ℓ)

open Idealize.ShloMosaic.StableHlo in
theorem V_main_v29 (c : Dev nD) : V m c main_v29 = wts (m ((c : Thread nD τ).loc main_arg4)) := by
  unfold V hostOps0
  after_results_simp <;> rfl

/-! ## The points' blocks -/

/-- The batch of a grid point. -/
def batch (t : Fin cfg0.N) : Fin 16 := ⟨t.val / 2, by have h : t.val < 32 := t.isLt; omega⟩
/-- Row `i` of a point's block, in the sequence. -/
def row (t : Fin cfg0.N) (i : Fin 1024) : Fin 2048 := ⟨1024 * (t.val % 2) + i.val, by omega⟩
/-- The rows of a batch's gates, shifts and scales, of the first layer. -/
def gtRow (b : Fin 16) : Fin 576 := ⟨6 * b.val + 2, by omega⟩
def shRow (b : Fin 16) : Fin 576 := ⟨6 * b.val + 3, by omega⟩
def scRow (b : Fin 16) : Fin 576 := ⟨6 * b.val + 4, by omega⟩

theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 6 * (t.val / 2) + 2 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 6 * (t.val / 2) + 3 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 6 * (t.val / 2) + 4 ∧ win0_6.index t (1 : Fin 3) = 0 ∧ win0_6.index t (2 : Fin 3) = 0 :=
  (by decide +kernel : ∀ t : Fin grid0.N, _)
theorem idx10 : ∀ t : Fin cfg0.N, win0_10.index t (0 : Fin 3) = t.val / 2 ∧ win0_10.index t (1 : Fin 3) = t.val % 2 ∧ win0_10.index t (2 : Fin 3) = 0 :=
  (by decide +kernel : ∀ t : Fin grid0.N, _)
theorem idx11 : ∀ t : Fin cfg0.N, win0_11.index t (0 : Fin 3) = t.val / 2 ∧ win0_11.index t (1 : Fin 3) = t.val % 2 ∧ win0_11.index t (2 : Fin 3) = 0 :=
  (by decide +kernel : ∀ t : Fin grid0.N, _)

/-- The blocks of the attention's rows and of the input hold the point's batch and rows. -/
theorem blk0 (c : Dev nD) (t : Fin cfg0.N) (i : Fin 1024) (k : Fin 1024) :
    (iblk m c 0 t : Vec F S1x1024x1024 .bf16) (ix3 0 i k) = m ((c : Thread nD τ).loc main_arg0) (ix3 (batch t) (row t i) k) := by
  obtain ⟨e0, e1, e2⟩ := idx0 t
  rw [← V_main_arg0 m c]
  show V m c main_arg0 (((cfg0.win 0).blk t).view.emb (ix3 0 i k)) = _
  congr 1
  funext a; apply Fin.ext
  match a with
  | ⟨0, _⟩ => show win0_0.index t (0 : Fin 3) * 1 + 1 * 0 = t.val / 2; omega
  | ⟨1, _⟩ => show win0_0.index t (1 : Fin 3) * 1024 + 1 * i.val = 1024 * (t.val % 2) + i.val; omega
  | ⟨2, _⟩ => show win0_0.index t (2 : Fin 3) * 1024 + 1 * k.val = k.val; omega

theorem blk1 (c : Dev nD) (t : Fin cfg0.N) (i : Fin 1024) (k : Fin 1024) :
    (iblk m c 1 t : Vec F S1x1024x1024 .f32) (ix3 0 i k) = m ((c : Thread nD τ).loc main_arg1) (ix3 (batch t) (row t i) k) := by
  obtain ⟨e0, e1, e2⟩ := idx1 t
  rw [← V_main_arg1 m c]
  show V m c main_arg1 (((cfg0.win 1).blk t).view.emb (ix3 0 i k)) = _
  congr 1
  funext a; apply Fin.ext
  match a with
  | ⟨0, _⟩ => show win0_1.index t (0 : Fin 3) * 1 + 1 * 0 = t.val / 2; omega
  | ⟨1, _⟩ => show win0_1.index t (1 : Fin 3) * 1024 + 1 * i.val = 1024 * (t.val % 2) + i.val; omega
  | ⟨2, _⟩ => show win0_1.index t (2 : Fin 3) * 1024 + 1 * k.val = k.val; omega

/-- The block of weights is all of the first layer's. -/
theorem blk2 (c : Dev nD) (t : Fin cfg0.N) (k : Fin 1024) (j : Fin 1024) :
    (iblk m c 2 t : Vec F S1024x1024 .bf16) (ix2 k j) = wts (m ((c : Thread nD τ).loc main_arg4)) (ix2 k j) := by
  obtain ⟨e0, e1⟩ := idx2 t
  rw [← V_main_v29 m c]
  show V m c main_v29 (((cfg0.win 2).blk t).view.emb (ix2 k j)) = _
  congr 1
  funext a; apply Fin.ext
  match a with
  | ⟨0, _⟩ => show win0_2.index t (0 : Fin 2) * 1024 + 1 * k.val = k.val; omega
  | ⟨1, _⟩ => show win0_2.index t (1 : Fin 2) * 1024 + 1 * j.val = j.val; omega

/-- The gates of the point's batch; the first layer's gains; the batch's shifts and scales. -/
theorem blk3 (c : Dev nD) (t : Fin cfg0.N) (k : Fin 1024) :
    (iblk m c 3 t : Vec F S1x1x1024 .f32) (ix3 0 0 k) = m ((c : Thread nD τ).loc main_arg2) (ix3 (gtRow (batch t)) 0 k) := by
  obtain ⟨e0, e1, e2⟩ := idx3 t
  rw [← V_main_arg2 m c]
  show V m c main_arg2 (((cfg0.win 3).blk t).view.emb (ix3 0 0 k)) = _
  congr 1
  funext a; apply Fin.ext
  match a with
  | ⟨0, _⟩ => show win0_3.index t (0 : Fin 3) * 1 + 1 * 0 = 6 * (t.val / 2) + 2; omega
  | ⟨1, _⟩ => show win0_3.index t (1 : Fin 3) * 1 + 1 * 0 = 0; omega
  | ⟨2, _⟩ => show win0_3.index t (2 : Fin 3) * 1024 + 1 * k.val = k.val; omega

theorem blk4 (c : Dev nD) (t : Fin cfg0.N) (k : Fin 1024) :
    (iblk m c 4 t : Vec F S1x1x1024 .f32) (ix3 0 0 k) = m ((c : Thread nD τ).loc main_arg3) (ix3 0 0 k) := by
  obtain ⟨e0, e1, e2⟩ := idx4 t
  rw [← V_main_arg3 m c]
  show V m c main_arg3 (((cfg0.win 4).blk t).view.emb (ix3 0 0 k)) = _
  congr 1
  funext a; apply Fin.ext
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 1024 + 1 * k.val = k.val; omega

theorem blk5 (c : Dev nD) (t : Fin cfg0.N) (k : Fin 1024) :
    (iblk m c 5 t : Vec F S1x1x1024 .f32) (ix3 0 0 k) = m ((c : Thread nD τ).loc main_arg2) (ix3 (shRow (batch t)) 0 k) := by
  obtain ⟨e0, e1, e2⟩ := idx5 t
  rw [← V_main_arg2 m c]
  show V m c main_arg2 (((cfg0.win 5).blk t).view.emb (ix3 0 0 k)) = _
  congr 1
  funext a; apply Fin.ext
  match a with
  | ⟨0, _⟩ => show win0_5.index t (0 : Fin 3) * 1 + 1 * 0 = 6 * (t.val / 2) + 3; omega
  | ⟨1, _⟩ => show win0_5.index t (1 : Fin 3) * 1 + 1 * 0 = 0; omega
  | ⟨2, _⟩ => show win0_5.index t (2 : Fin 3) * 1024 + 1 * k.val = k.val; omega

theorem blk6 (c : Dev nD) (t : Fin cfg0.N) (k : Fin 1024) :
    (iblk m c 6 t : Vec F S1x1x1024 .f32) (ix3 0 0 k) = m ((c : Thread nD τ).loc main_arg2) (ix3 (scRow (batch t)) 0 k) := by
  obtain ⟨e0, e1, e2⟩ := idx6 t
  rw [← V_main_arg2 m c]
  show V m c main_arg2 (((cfg0.win 6).blk t).view.emb (ix3 0 0 k)) = _
  congr 1
  funext a; apply Fin.ext
  match a with
  | ⟨0, _⟩ => show win0_6.index t (0 : Fin 3) * 1 + 1 * 0 = 6 * (t.val / 2) + 4; omega
  | ⟨1, _⟩ => show win0_6.index t (1 : Fin 3) * 1 + 1 * 0 = 0; omega
  | ⟨2, _⟩ => show win0_6.index t (2 : Fin 3) * 1024 + 1 * k.val = k.val; omega

/-- A point's block of the first array, and that the blocks cover it. -/
theorem emb10 (t : Fin cfg0.N) (i : Fin 1024) (k : Fin 1024) : ((cfg0.win 10).blk t).view.emb (ix3 0 i k) = ix3 (batch t) (row t i) k := by
  obtain ⟨e0, e1, e2⟩ := idx10 t
  funext a; apply Fin.ext
  match a with
  | ⟨0, _⟩ => show win0_10.index t (0 : Fin 3) * 1 + 1 * 0 = t.val / 2; omega
  | ⟨1, _⟩ => show win0_10.index t (1 : Fin 3) * 1024 + 1 * i.val = 1024 * (t.val % 2) + i.val; omega
  | ⟨2, _⟩ => show win0_10.index t (2 : Fin 3) * 1024 + 1 * k.val = k.val; omega

theorem covers10 (i : S16x2048x1024.Idx) : ∃ t : Fin cfg0.N, (cfg0.win 10).flush t = true ∧ i ∈ ((cfg0.win 10).blk t).view.set := by
  obtain ⟨b, n, k, rfl⟩ : ∃ (b : Fin 16) (n : Fin 2048) (k : Fin 1024), i = ix3 b n k := ⟨i 0, i 1, i 2, eq_ix3 i⟩
  have hN : b.val * 2 + n.val / 1024 < cfg0.N := show _ < 32 by omega
  refine ⟨⟨b.val * 2 + n.val / 1024, hN⟩, flush0_10 _, ?_⟩
  have hm := ((cfg0.win 10).blk ⟨b.val * 2 + n.val / 1024, hN⟩).view.emb_mem_set (ix3 0 ⟨n.val % 1024, by omega⟩ k)
  rw [emb10] at hm
  have e1 : batch ⟨b.val * 2 + n.val / 1024, hN⟩ = b := Fin.ext (by simp only [batch]; omega)
  have e2 : row ⟨b.val * 2 + n.val / 1024, hN⟩ ⟨n.val % 1024, by omega⟩ = n := Fin.ext (by simp only [row]; omega)
  rwa [e1, e2] at hm

/-- The same of the second array. -/
theorem emb11 (t : Fin cfg0.N) (i : Fin 1024) (k : Fin 1024) : ((cfg0.win 11).blk t).view.emb (ix3 0 i k) = ix3 (batch t) (row t i) k := by
  obtain ⟨e0, e1, e2⟩ := idx11 t
  funext a; apply Fin.ext
  match a with
  | ⟨0, _⟩ => show win0_11.index t (0 : Fin 3) * 1 + 1 * 0 = t.val / 2; omega
  | ⟨1, _⟩ => show win0_11.index t (1 : Fin 3) * 1024 + 1 * i.val = 1024 * (t.val % 2) + i.val; omega
  | ⟨2, _⟩ => show win0_11.index t (2 : Fin 3) * 1024 + 1 * k.val = k.val; omega

theorem covers11 (i : S16x2048x1024.Idx) : ∃ t : Fin cfg0.N, (cfg0.win 11).flush t = true ∧ i ∈ ((cfg0.win 11).blk t).view.set := by
  obtain ⟨b, n, k, rfl⟩ : ∃ (b : Fin 16) (n : Fin 2048) (k : Fin 1024), i = ix3 b n k := ⟨i 0, i 1, i 2, eq_ix3 i⟩
  have hN : b.val * 2 + n.val / 1024 < cfg0.N := show _ < 32 by omega
  refine ⟨⟨b.val * 2 + n.val / 1024, hN⟩, flush0_11 _, ?_⟩
  have hm := ((cfg0.win 11).blk ⟨b.val * 2 + n.val / 1024, hN⟩).view.emb_mem_set (ix3 0 ⟨n.val % 1024, by omega⟩ k)
  rw [emb11] at hm
  have e1 : batch ⟨b.val * 2 + n.val / 1024, hN⟩ = b := Fin.ext (by simp only [batch]; omega)
  have e2 : row ⟨b.val * 2 + n.val / 1024, hN⟩ ⟨n.val % 1024, by omega⟩ = n := Fin.ext (by simp only [row]; omega)
  rwa [e1, e2] at hm

end

/-! ## A point's block of results -/

/-- The input's entry plus the gate times a row of the attention times a column of the weights. -/
def gated (x gt : EReal) (o w : Fin 1024 → EReal) : EReal := x + gt * ∑ k, o k * w k

/-- Entry `j` of a row, normalised, scaled and shifted. -/
def modulated (y g sh sc : Fin 1024 → EReal) (j : Fin 1024) : EReal :=
  y j * Ideal.rsqrt (Ideal.div (∑ l, y l * y l) (Ideal.ofBits .f32 0x44800000#32) + Ideal.ofBits .f32 0x358637BD#32) * g j
    * (Ideal.ofBits .f32 0x3F800000#32 + sc j) + sh j

theorem wts_apply (w : Vec Ideal S4x1024x1024 .f32) (k j : Fin 1024) : wts w (ix2 k j) = w (ix3 0 k j) := by
  pointwise [wts]

theorem gated_apply (v0 : Vec Ideal S1x1024x1024 .f32) (v2 : Vec Ideal S1x1x1024 .f32) (v4 : Vec Ideal S1x1024x1024 .bf16) (v6 : Vec Ideal S1024x1024 .bf16) (i j : Fin 1024) :
    k0_pay1 v0 v2 v4 v6 (ix2 i j) = gated (v0 (ix3 0 i j)) (v2 (ix3 0 0 j)) (fun k => v4 (ix3 0 i k)) (fun k => v6 (ix2 k j)) := by
  pointwise [k0_pay1, gated]

theorem norm_apply (v0 : Vec Ideal S1x1024x1024 .f32) (v2 : Vec Ideal S1x1x1024 .f32) (v4 : Vec Ideal S1x1024x1024 .bf16) (v6 : Vec Ideal S1024x1024 .bf16) (i j : Fin 1024) :
    k0_pay6 v0 v2 v4 v6 (ix2 i j) = Ideal.rsqrt (Ideal.div (∑ l, k0_pay1 v0 v2 v4 v6 (ix2 i l) * k0_pay1 v0 v2 v4 v6 (ix2 i l)) (Ideal.ofBits .f32 0x44800000#32) + Ideal.ofBits .f32 0x358637BD#32) := by
  unfold k0_pay6
  generalize k0_pay1 v0 v2 v4 v6 = y
  pointwise []

theorem modulated_apply (y r : FVec Ideal S1024x1024 .f32) (v15 v17 v19 : Vec Ideal S1x1x1024 .f32) (i j : Fin 1024) :
    k0_pay8 y (k0_pay3 v15) (k0_pay4 v17) (k0_pay5 v19) r (ix3 0 i j)
      = y (ix2 i j) * r (ix2 i j) * v15 (ix3 0 0 j) * (Ideal.ofBits .f32 0x3F800000#32 + v19 (ix3 0 0 j)) + v17 (ix3 0 0 j) := by
  pointwise [k0_pay8, k0_pay7, k0_pay3, k0_pay4, k0_pay5]

theorem rows_apply (v0 : Vec Ideal S1x1024x1024 .f32) (v2 : Vec Ideal S1x1x1024 .f32) (v4 : Vec Ideal S1x1024x1024 .bf16) (v6 : Vec Ideal S1024x1024 .bf16) (i j : Fin 1024) :
    k0_pay2 v0 v2 v4 v6 (ix3 0 i j) = k0_pay1 v0 v2 v4 v6 (ix2 i j) := by
  unfold k0_pay2
  generalize k0_pay1 v0 v2 v4 v6 = y
  pointwise []

/-- An index of a whole block is an index of the block. -/
theorem idx_whole (x : S1x1024x1024.Idx) : r0_0.idx x = x := by
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- The loads of whole blocks. -/
theorem whole0 {e : EltTy} (x : Vec Ideal S1x1024x1024 e) : View.ld x r0_0 = x := funext fun z => congrArg x (idx_whole z)
theorem whole1 {e : EltTy} (x : Vec Ideal S1x1x1024 e) : View.ld x r0_1 = x := by
  funext z
  refine congrArg x ?_
  funext a; apply Fin.ext
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega
theorem whole2 {e : EltTy} (x : Vec Ideal S1024x1024 e) : View.ld x r0_2 = x := by
  funext z; rw [eq_ix2 z]; pointwise []

/-- A store over a whole block leaves the stored vector. -/
theorem stored10 (p : Vec Ideal S1x1024x1024 .f32) : View.canon [(⟨r0_0, p⟩ : View.Piece (Elt Ideal) S1x1024x1024 .f32)] = p := by
  funext z
  refine View.canon_apply_of_pieces p _ ?_ z (cover0_10 p z)
  intro pc hpc
  obtain rfl := List.mem_singleton.mp hpc
  exact fun x => (congrArg p (idx_whole x)).symm

theorem stored11 (p : Vec Ideal S1x1024x1024 .bf16) : View.canon [(⟨r0_0, p⟩ : View.Piece (Elt Ideal) S1x1024x1024 .bf16)] = p := by
  funext z
  refine View.canon_apply_of_pieces p _ ?_ z (cover0_11 p z)
  intro pc hpc
  obtain rfl := List.mem_singleton.mp hpc
  exact fun x => (congrArg p (idx_whole x)).symm

section
variable (x0 : Vec Ideal S1x1024x1024 .bf16) (x1 : Vec Ideal S1x1024x1024 .f32) (x2 : Vec Ideal S1024x1024 .bf16) (x3 x4 x5 x6 : Vec Ideal S1x1x1024 .f32)
  (x7 : Vec Ideal S1024x256 .bf16) (x8 : Vec Ideal S1024x128 .bf16) (x9 : Vec Ideal S1x128 .f32)

/-- The first block of results, from the blocks that the point reads. -/
theorem out_x : out0_10 x0 x1 x2 x3 x4 x5 x6 x7 x8 x9 = k0_pay2 x1 x3 x0 x2 := by
  unfold out0_10
  rw [whole0, whole1, whole0, whole2, stored10]

/-- The second. -/
theorem out_h : out0_11 x0 x1 x2 x3 x4 x5 x6 x7 x8 x9 = k0_pay8 (k0_pay1 x1 x3 x0 x2) (k0_pay3 x4) (k0_pay4 x5) (k0_pay5 x6) (k0_pay6 x1 x3 x0 x2) := by
  show View.canon [(⟨r0_0, k0_pay8 (k0_pay1 (View.ld x1 r0_0) (View.ld x3 r0_1) (View.ld x0 r0_0) (View.ld x2 r0_2)) (k0_pay3 (View.ld x4 r0_1)) (k0_pay4 (View.ld x5 r0_1))
    (k0_pay5 (View.ld x6 r0_1)) (k0_pay6 (View.ld x1 r0_0) (View.ld x3 r0_1) (View.ld x0 r0_0) (View.ld x2 r0_2))⟩ : View.Piece (Elt Ideal) S1x1024x1024 .bf16)] = _
  rw [stored11]
  simp only [whole0, whole1, whole2]

end

/-! ## The arrays -/

section
variable (o : Vec Ideal S16x2048x1024 .bf16) (x : Vec Ideal S16x2048x1024 .f32) (md : Vec Ideal S576x1x1024 .f32) (g : Vec Ideal S4x1x1024 .f32) (w : Vec Ideal S4x1024x1024 .f32)

/-- The input plus the gated projection, at one entry. -/
def entry (b : Fin 16) (n : Fin 2048) (j : Fin 1024) : EReal :=
  gated (x (ix3 b n j)) (md (ix3 (gtRow b) 0 j)) (fun k => o (ix3 b n k)) (fun k => w (ix3 0 k j))

/-- The first array. -/
def XN : Vec Ideal S16x2048x1024 .f32 := fun z => entry o x md w (z 0) (z 1) (z 2)

/-- The second array. -/
def HF : Vec Ideal S16x2048x1024 .bf16 :=
  fun z => modulated (entry o x md w (z 0) (z 1)) (fun k => g (ix3 0 0 k)) (fun k => md (ix3 (shRow (z 0)) 0 k)) (fun k => md (ix3 (scRow (z 0)) 0 k)) (z 2)
end

section
variable (m : (ℓ : Loc nD τ sig) → Buf (Elt Ideal) ℓ) (c : Dev nD)

/-- The entries of a point's block. -/
theorem entry_at (t : Fin cfg0.N) (i j : Fin 1024) :
    k0_pay1 (iblk m c 1 t) (iblk m c 3 t) (iblk m c 0 t) (iblk m c 2 t) (ix2 i j)
      = entry (m ((c : Thread nD τ).loc main_arg0)) (m ((c : Thread nD τ).loc main_arg1)) (m ((c : Thread nD τ).loc main_arg2)) (m ((c : Thread nD τ).loc main_arg4)) (batch t) (row t i) j := by
  rw [gated_apply]
  exact congr (congr (congr (congrArg gated (blk1 m c t i j)) (blk3 m c t j)) (funext fun k => blk0 m c t i k)) (funext fun k => (blk2 m c t k j).trans (wts_apply _ k j))

theorem flushed_XN (t : Fin cfg0.N) : (dats m 0 c).flushed 10 t = ((cfg0.win 10).blk t).view.read (Elt Ideal) (XN (m ((c : Thread nD τ).loc main_arg0)) (m ((c : Thread nD τ).loc main_arg1)) (m ((c : Thread nD τ).loc main_arg2)) (m ((c : Thread nD τ).loc main_arg4))) := by
  rw [Value.flushed10, out_x]
  funext y
  obtain ⟨b, i, j, rfl⟩ : ∃ (b : Fin 1) (i j : Fin 1024), y = ix3 b i j := ⟨y 0, y 1, y 2, eq_ix3 y⟩
  obtain rfl : b = 0 := Subsingleton.elim _ _
  show k0_pay2 (iblk m c 1 t) (iblk m c 3 t) (iblk m c 0 t) (iblk m c 2 t) (ix3 0 i j) = XN _ _ _ _ (((cfg0.win 10).blk t).view.emb (ix3 0 i j))
  rw [emb10, rows_apply, entry_at]
  rfl

/-- The first array of a memory's arguments. -/
def resX : Vec Ideal S16x2048x1024 .f32 := XN (m ((c : Thread nD τ).loc main_arg0)) (m ((c : Thread nD τ).loc main_arg1)) (m ((c : Thread nD τ).loc main_arg2)) (m ((c : Thread nD τ).loc main_arg4))

/-- The first array after the run. -/
theorem final_XN : (dats m 0 c).arrAt 10 cfg0.N = resX m c :=
  (dats m 0 c).arrAt_eq_of_cover 10 _ (fun t _ => flushed_XN m c t) covers10

theorem flushed_HF (t : Fin cfg0.N) : (dats m 0 c).flushed 11 t = ((cfg0.win 11).blk t).view.read (Elt Ideal) (HF (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed11, out_h]
  funext y
  obtain ⟨b, i, j, rfl⟩ : ∃ (b : Fin 1) (i j : Fin 1024), y = ix3 b i j := ⟨y 0, y 1, y 2, eq_ix3 y⟩
  obtain rfl : b = 0 := Subsingleton.elim _ _
  show k0_pay8 (k0_pay1 (iblk m c 1 t) (iblk m c 3 t) (iblk m c 0 t) (iblk m c 2 t)) (k0_pay3 (iblk m c 4 t)) (k0_pay4 (iblk m c 5 t)) (k0_pay5 (iblk m c 6 t))
      (k0_pay6 (iblk m c 1 t) (iblk m c 3 t) (iblk m c 0 t) (iblk m c 2 t)) (ix3 0 i j) = HF _ _ _ _ _ (((cfg0.win 11).blk t).view.emb (ix3 0 i j))
  rw [emb11, modulated_apply, norm_apply]
  simp only [entry_at]
  rw [blk4, blk5, blk6]
  rfl

/-- The second array of a memory's arguments. -/
def resH : Vec Ideal S16x2048x1024 .bf16 := HF (m ((c : Thread nD τ).loc main_arg0)) (m ((c : Thread nD τ).loc main_arg1)) (m ((c : Thread nD τ).loc main_arg2)) (m ((c : Thread nD τ).loc main_arg3)) (m ((c : Thread nD τ).loc main_arg4))

/-- The second array after the run. -/
theorem final_HF : (dats m 0 c).arrAt 11 cfg0.N = resH m c :=
  (dats m 0 c).arrAt_eq_of_cover 11 _ (fun t _ => flushed_HF m c t) covers11

end

end Cert.Kernel4Ideal.Hand

end
-- ==== Proof.RefProj.lean ====
/-
  The output projection's reference, step by step, and its results the kernel's two arrays.
-/
module

public import proofs.«01_k».proof.Proof.Gen.Reference4Ideal.Run
public import proofs.«01_k».proof.Proof.ProjArrays
public import Idealize.ShloMosaic.Lib.Pointwise

@[expose] public section

set_option maxRecDepth 16384

noncomputable section

namespace Cert.Reference4Ideal.Hand

open Cert.Reference4Ideal Cert.Reference4Ideal.Gen Idealize.ShloMosaic Idealize.ShloMosaic.TcCoe Idealize.SL.Sem

section
variable {F : FTy → Type} [FloatOps F]

/-- The first layer's six modulations of each batch. -/
def mods (md : FVec F S576x1x1024 .f32) : FVec F S16x6x1024 .f32 :=
  shapeCast S16x6x1024 (extractStridedSlice S1x16x6x1024 ![0, 0, 0, 0] (shapeCast S4x24x6x1024 md shapeCasts_S576x1x1024_S4x24x6x1024) slices_S4x24x6x1024_S1x16x6x1024_0_0_0_0) shapeCasts_S1x16x6x1024_S16x6x1024

/-- The third modulation: the gate; the fourth: the shift; the fifth: the scale. -/
def gates (d : FVec F S16x6x1024 .f32) : FVec F S16x1x1024 .f32 :=
  broadcastInDim S16x1x1024 ![0, 2] bcast_S16x1024_S16x1x1024_0_2 (shapeCast S16x1024 (extractStridedSlice S16x1x1024 ![0, 2, 0] d slices_S16x6x1024_S16x1x1024_0_2_0) shapeCasts_S16x1x1024_S16x1024)
def shifts (d : FVec F S16x6x1024 .f32) : FVec F S16x1x1024 .f32 :=
  broadcastInDim S16x1x1024 ![0, 2] bcast_S16x1024_S16x1x1024_0_2 (shapeCast S16x1024 (extractStridedSlice S16x1x1024 ![0, 3, 0] d slices_S16x6x1024_S16x1x1024_0_3_0) shapeCasts_S16x1x1024_S16x1024)
def scales (d : FVec F S16x6x1024 .f32) : FVec F S16x1x1024 .f32 :=
  broadcastInDim S16x1x1024 ![0, 2] bcast_S16x1024_S16x1x1024_0_2 (shapeCast S16x1024 (extractStridedSlice S16x1x1024 ![0, 4, 0] d slices_S16x6x1024_S16x1x1024_0_4_0) shapeCasts_S16x1x1024_S16x1024)

/-- The input plus the gate times the attention's rows times the first layer's weights. -/
def sums (o : FVec F S16x2048x1024 .bf16) (x : FVec F S16x2048x1024 .f32) (d : FVec F S16x6x1024 .f32) (w : FVec F S4x1024x1024 .f32) : FVec F S16x2048x1024 .f32 :=
  addf x (mulf (broadcastInDim S16x2048x1024 ![0, 1, 2] bcast_S16x1x1024_S16x2048x1024_0_1_2 (gates d))
    (Host.dotGeneral dot_S16x2048x1024_S1024x1024_S16x2048x1024_2_0_01_1_n_n none (extf .f32 o bitsLt_bf16_f32)
      (shapeCast S1024x1024 (extractStridedSlice S1x1024x1024 ![0, 0, 0] w slices_S4x1024x1024_S1x1024x1024_0_0_0) shapeCasts_S1x1024x1024_S1024x1024)))

/-- One over each row's root mean square. -/
def rms (x : FVec F S16x2048x1024 .f32) : FVec F S16x2048x1024 .f32 :=
  broadcastInDim S16x2048x1024 ![0, 1, 2] bcast_S16x2048x1_S16x2048x1024_0_1_2 (Host.rsqrt (addf
    (Host.divf (broadcastInDim S16x2048x1 ![0, 1] bcast_S16x2048_S16x2048x1_0_1 (Host.reduceAdd (mulf x x) (constant S_ .f32 0x00000000#32) reducesTo_S16x2048x1024_S16x2048_d2 h_S_))
      (broadcastInDim S16x2048x1 ![] bcast_S_S16x2048x1 (constant S_ .f32 0x44800000#32)))
    (broadcastInDim S16x2048x1 ![] bcast_S_S16x2048x1 (constant S_ .f32 0x358637BD#32))))

/-- The first layer's gains, along the rows. -/
def gains (g : FVec F S4x1x1024 .f32) : FVec F S16x2048x1024 .f32 :=
  broadcastInDim S16x2048x1024 ![0, 1, 2] bcast_S1x1x1024_S16x2048x1024_0_1_2 (broadcastInDim S1x1x1024 ![1, 2] bcast_S1x1024_S1x1x1024_1_2
    (shapeCast S1x1024 (extractStridedSlice S1x1x1024 ![0, 0, 0] g slices_S4x1x1024_S1x1x1024_0_0_0) shapeCasts_S1x1x1024_S1x1024))

/-- The normalised, scaled and shifted rows, as bf16. -/
def normed (x : FVec F S16x2048x1024 .f32) (d : FVec F S16x6x1024 .f32) (g : FVec F S4x1x1024 .f32) : FVec F S16x2048x1024 .bf16 :=
  truncf .bf16 (addf (mulf (mulf (mulf x (rms x)) (gains g))
      (broadcastInDim S16x2048x1024 ![0, 1, 2] bcast_S16x1x1024_S16x2048x1024_0_1_2 (addf (broadcastInDim S16x1x1024 ![] bcast_S_S16x1x1024 (constant S_ .f32 0x3F800000#32)) (scales d))))
    (broadcastInDim S16x2048x1024 ![0, 1, 2] bcast_S16x1x1024_S16x2048x1024_0_1_2 (shifts d))) bitsLt_bf16_f32

variable (m : (ℓ : Loc nD τ sig) → Buf (Elt F) ℓ) (c : Dev nD)

/-- The reference's first result. -/
def xs : FVec F S16x2048x1024 .f32 :=
  sums (m ((c.tc : Thread nD τ).loc main_arg0)) (m ((c.tc : Thread nD τ).loc main_arg1)) (mods (m ((c.tc : Thread nD τ).loc main_arg2))) (m ((c.tc : Thread nD τ).loc main_arg4))

/-- Its second is the first's rows normalised. -/
theorem res1 : Value.res_out1 m c = normed (xs m c) (mods (m ((c.tc : Thread nD τ).loc main_arg2))) (m ((c.tc : Thread nD τ).loc main_arg3)) := by
  show Value.res_main_v40 m c = _
  unfold Value.res_main_v40
  rfl

end

/-! ## Read at an index -/

theorem mods_apply (md : FVec Ideal S576x1x1024 .f32) (b : Fin 16) (s : Fin 6) (k : Fin 1024) :
    mods md (ix3 b s k) = md (ix3 ⟨b.val * 6 + s.val, by omega⟩ 0 k) := by
  pointwise [mods]

theorem gates_apply (d : FVec Ideal S16x6x1024 .f32) (b : Fin 16) (k : Fin 1024) : gates d (ix3 b 0 k) = d (ix3 b 2 k) := by
  pointwise [gates]

theorem shifts_apply (d : FVec Ideal S16x6x1024 .f32) (b : Fin 16) (k : Fin 1024) : shifts d (ix3 b 0 k) = d (ix3 b 3 k) := by
  pointwise [shifts]

theorem scales_apply (d : FVec Ideal S16x6x1024 .f32) (b : Fin 16) (k : Fin 1024) : scales d (ix3 b 0 k) = d (ix3 b 4 k) := by
  pointwise [scales]

theorem sums_apply (o : FVec Ideal S16x2048x1024 .bf16) (x : FVec Ideal S16x2048x1024 .f32) (d : FVec Ideal S16x6x1024 .f32) (w : FVec Ideal S4x1024x1024 .f32) (b : Fin 16) (n : Fin 2048) (j : Fin 1024) :
    sums o x d w (ix3 b n j) = x (ix3 b n j) + gates d (ix3 b 0 j) * ∑ k : Fin 1024, o (ix3 b n k) * w (ix3 0 k j) := by
  pointwise [sums]

theorem rms_apply (x : FVec Ideal S16x2048x1024 .f32) (b : Fin 16) (n : Fin 2048) (k : Fin 1024) :
    rms x (ix3 b n k) = Ideal.rsqrt (Ideal.div (∑ l, x (ix3 b n l) * x (ix3 b n l)) (Ideal.ofBits .f32 0x44800000#32) + Ideal.ofBits .f32 0x358637BD#32) := by
  pointwise [rms]

theorem gains_apply (g : FVec Ideal S4x1x1024 .f32) (b : Fin 16) (n : Fin 2048) (k : Fin 1024) : gains g (ix3 b n k) = g (ix3 0 0 k) := by
  pointwise [gains]

theorem normed_apply (x : FVec Ideal S16x2048x1024 .f32) (d : FVec Ideal S16x6x1024 .f32) (g : FVec Ideal S4x1x1024 .f32) (b : Fin 16) (n : Fin 2048) (k : Fin 1024) :
    normed x d g (ix3 b n k) = x (ix3 b n k) * rms x (ix3 b n k) * gains g (ix3 b n k) * (Ideal.ofBits .f32 0x3F800000#32 + scales d (ix3 b 0 k)) + shifts d (ix3 b 0 k) := by
  pointwise [normed]

/-! ## The kernel's arrays -/

section
variable (o : FVec Ideal S16x2048x1024 .bf16) (x : FVec Ideal S16x2048x1024 .f32) (md : FVec Ideal S576x1x1024 .f32) (g : FVec Ideal S4x1x1024 .f32) (w : FVec Ideal S4x1024x1024 .f32)

theorem sums_eq (b : Fin 16) (n : Fin 2048) (j : Fin 1024) : sums o x (mods md) w (ix3 b n j) = Cert.Kernel4Ideal.Hand.entry o x md w b n j := by
  rw [sums_apply, gates_apply, mods_apply]
  exact congrArg (fun r : Fin 576 => x (ix3 b n j) + md (ix3 r 0 j) * ∑ k : Fin 1024, o (ix3 b n k) * w (ix3 0 k j)) (Fin.ext (by show b.val * 6 + 2 = 6 * b.val + 2; omega))

/-- The first result. -/
theorem xn_eq : sums o x (mods md) w = Cert.Kernel4Ideal.Hand.XN o x md w := by
  funext z
  obtain ⟨b, n, j, rfl⟩ : ∃ (b : Fin 16) (n : Fin 2048) (j : Fin 1024), z = ix3 b n j := ⟨z 0, z 1, z 2, eq_ix3 z⟩
  exact sums_eq o x md w b n j

/-- The second. -/
theorem hf_eq : normed (sums o x (mods md) w) (mods md) g = Cert.Kernel4Ideal.Hand.HF o x md g w := by
  funext z
  obtain ⟨b, n, j, rfl⟩ : ∃ (b : Fin 16) (n : Fin 2048) (j : Fin 1024), z = ix3 b n j := ⟨z 0, z 1, z 2, eq_ix3 z⟩
  rw [normed_apply, rms_apply, gains_apply, scales_apply, shifts_apply, mods_apply, mods_apply]
  simp only [sums_eq]
  have e0 : (⟨b.val * 6 + (3 : Fin 6).val, by show b.val * 6 + 3 < 576; omega⟩ : Fin 576) = Cert.Kernel4Ideal.Hand.shRow b := Fin.ext (by show b.val * 6 + 3 = 6 * b.val + 3; omega)
  have e1 : (⟨b.val * 6 + (4 : Fin 6).val, by show b.val * 6 + 4 < 576; omega⟩ : Fin 576) = Cert.Kernel4Ideal.Hand.scRow b := Fin.ext (by show b.val * 6 + 4 = 6 * b.val + 4; omega)
  rw [e0, e1]
  rfl
end

end Cert.Reference4Ideal.Hand

end
-- ==== Proof.PlainBlock.lean ====
/-
  What the projection kernel without rotary embedding computes at one point of its grid: the rows of a block, normalised, scaled and shifted, times the
  weights; then, column block by column block of 128 lanes, two heads' queries, keys or values at a time.
-/
module

public import proofs.«01_k».proof.Proof.Gen.Kernel5Ideal.Value
public import Idealize.ShloMosaic.Lib.Pointwise

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable {F : FTy → Type} [FloatOps F] [Named F]

/-- The kernel's factor on the queries. -/
def factor : F .f32 := Named.named κ "attn_scale" 0x3E38AA3B#32

/-- The column block of 128 lanes that begins at lane `o`. -/
def cols (o : Nat) (hs : S512x1536.Slices ![0, o] S512x128) (y : FVec F S512x1536 .f32) : FVec F S512x128 .f32 :=
  extractStridedSlice S512x128 ![0, o] y hs

/-- A column block times the factor. -/
def scaled (v : FVec F S512x128 .f32) : FVec F S512x128 .f32 := mulf v (broadcast S512x128 factor)

/-- The first head of a column block, as a piece of an output block. -/
def fst (v : FVec F S512x128 .f32) : FVec F S1x1x512x64 .bf16 :=
  shapeCast S1x1x512x64 (truncf .bf16 (extractStridedSlice S512x64 ![0, 0] v slices_S512x128_o0_0_S512x64 : FVec F S512x64 .f32) bitsLt_bf16_f32 : FVec F S512x64 .bf16) shapeCasts_S512x64_S1x1x512x64

/-- The second head of a column block. -/
def snd (v : FVec F S512x128 .f32) : FVec F S1x1x512x64 .bf16 :=
  shapeCast S1x1x512x64 (truncf .bf16 (extractStridedSlice S512x64 ![0, 64] v slices_S512x128_o0_64_S512x64 : FVec F S512x64 .f32) bitsLt_bf16_f32 : FVec F S512x64 .bf16) shapeCasts_S512x64_S1x1x512x64

/-- A column block with ones in its high lanes. -/
def thenOnes (a : FVec F S512x128 .f32) : FVec F S512x128 .f32 :=
  select (broadcastTo S512x128 (shapeCast S1x128 k0_pay38 shapeCasts_S1x128_S1x128) broadcasts_S1x128_S512x128) a
    (broadcast S512x128 (Scalar.ofBits .f32 0x3F800000#32))

/-- A column block with ones in its low lanes. -/
def onesThen (b : FVec F S512x128 .f32) : FVec F S512x128 .f32 :=
  select (broadcastTo S512x128 (shapeCast S1x128 k0_pay38 shapeCasts_S1x128_S1x128) broadcasts_S1x128_S512x128)
    (broadcast S512x128 (Scalar.ofBits .f32 0x3F800000#32)) b

/-- Two column blocks side by side, as a piece of the values' output block. -/
def beside (p q : FVec F S512x128 .f32) : FVec F S1x1x512x256 .bf16 :=
  shapeCast S1x1x512x256 (truncf .bf16 (concatenate S512x256 1 [⟨S512x128, p⟩, ⟨S512x128, q⟩] concatenates_S512x128_S512x128_S512x256_d1 : FVec F S512x256 .f32) bitsLt_bf16_f32 : FVec F S512x256 .bf16) shapeCasts_S512x256_S1x1x512x256

/-- The lanes `a | 1 | 1 | b` of a head's values, `a` from the low and `b` from the high lanes of two column blocks. -/
def vrow (a b : FVec F S512x128 .f32) : FVec F S1x1x512x256 .bf16 := beside (thenOnes a) (onesThen b)

/-- A column block with its halves exchanged. -/
def swapped (v : FVec F S512x128 .f32) : FVec F S512x128 .f32 := dynamicRotate 1 64#32 none v rotates_S512x128_d1
end

/-- The factor on the queries, as an ideal number. -/
def fac : EReal := factor (F := Ideal)

/-- One row of the normalised, scaled and shifted input times one column of the weights. -/
def proj (x g sh sc w : Fin 1024 → EReal) : EReal :=
  ∑ k : Fin 1024, (x k * Ideal.rsqrt (Ideal.div (∑ l, x l * x l) (Ideal.ofBits .f32 0x44800000#32) + Ideal.ofBits .f32 0x358637BD#32) * g k
    * (Ideal.ofBits .f32 0x3F800000#32 + sc k) + sh k) * w k

theorem projected (v0 : Vec Ideal S1x512x1024 .f32) (v2 v4 v6 : Vec Ideal S1x1x1024 .f32) (v27 : Vec Ideal S1024x1536 .bf16) (i : Fin 512) (j : Fin 1536) :
    k0_pay2 v0 v2 v4 v6 v27 (ix2 i j) = proj (fun k => v0 (ix3 0 i k)) (fun k => v2 (ix3 0 0 k)) (fun k => v4 (ix3 0 0 k)) (fun k => v6 (ix3 0 0 k)) (fun k => v27 (ix2 k j)) := by
  pointwise [k0_pay2, proj]

theorem cols_apply (o : Nat) (hs : S512x1536.Slices ![0, o] S512x128) (y : FVec Ideal S512x1536 .f32) (i : Fin 512) (j : Fin 128) (h : o + j.val < 1536) :
    cols o hs y (ix2 i j) = y (ix2 i ⟨o + j.val, h⟩) := by
  pointwise [cols]

theorem scaled_apply (v : FVec Ideal S512x128 .f32) (i : Fin 512) (j : Fin 128) : scaled v (ix2 i j) = v (ix2 i j) * fac := by
  pointwise [scaled, fac]

theorem fst_apply (v : FVec Ideal S512x128 .f32) (i : Fin 512) (d : Fin 64) : fst v (ix4 0 0 i d) = v (ix2 i ⟨d.val, by omega⟩) := by
  pointwise [fst]

theorem snd_apply (v : FVec Ideal S512x128 .f32) (i : Fin 512) (d : Fin 64) : snd v (ix4 0 0 i d) = v (ix2 i ⟨64 + d.val, by omega⟩) := by
  pointwise [snd]

/-- The first 64 lanes of a column block. -/
theorem low_apply : ∀ j : Fin 128, k0_pay38 (ix2 0 j) = if j.val < 64 then 1#1 else 0#1 := by
  decide +kernel

theorem swapped_apply (v : FVec Ideal S512x128 .f32) (i : Fin 512) (j : Fin 128) :
    swapped v (ix2 i j) = v (ix2 i ⟨(j.val + 64) % 128, by omega⟩) := by
  pointwise [swapped]
  exact congrArg v (congrArg (ix2 i) (Fin.ext (by simp only; omega)))

theorem thenOnes_apply (a : FVec Ideal S512x128 .f32) (i : Fin 512) (j : Fin 128) :
    thenOnes a (ix2 i j) = if j.val < 64 then a (ix2 i j) else 1 := by
  pointwise [thenOnes]
  rw [low_apply]
  split <;> rfl

theorem onesThen_apply (a : FVec Ideal S512x128 .f32) (i : Fin 512) (j : Fin 128) :
    onesThen a (ix2 i j) = if j.val < 64 then 1 else a (ix2 i j) := by
  pointwise [onesThen]
  rw [low_apply]
  split <;> rfl

theorem beside_left (p q : FVec Ideal S512x128 .f32) (i : Fin 512) (l : Fin 128) : beside p q (ix4 0 0 i ⟨l.val, by omega⟩) = p (ix2 i l) := by
  pointwise [beside]

theorem beside_right (p q : FVec Ideal S512x128 .f32) (i : Fin 512) (l : Fin 128) : beside p q (ix4 0 0 i ⟨128 + l.val, by omega⟩) = q (ix2 i l) := by
  pointwise [beside]

/-- A head's values, lane by lane. -/
theorem vrow_apply (a b : FVec Ideal S512x128 .f32) (i : Fin 512) (l : Fin 256) :
    vrow a b (ix4 0 0 i l) = if h : l.val < 64 then a (ix2 i ⟨l.val, by omega⟩) else if h' : l.val < 192 then 1 else b (ix2 i ⟨l.val - 128, by omega⟩) := by
  unfold vrow
  by_cases h : l.val < 128
  · have e := beside_left (thenOnes a) (onesThen b) i ⟨l.val, h⟩
    rw [show (⟨(⟨l.val, h⟩ : Fin 128).val, by omega⟩ : Fin 256) = l from rfl] at e
    rw [e, thenOnes_apply]
    by_cases h1 : l.val < 64
    · rw [if_pos h1, dif_pos h1]
    · rw [if_neg h1, dif_neg h1, dif_pos (by omega)]
  · have e := beside_right (thenOnes a) (onesThen b) i ⟨l.val - 128, by omega⟩
    rw [show (⟨128 + (⟨l.val - 128, by omega⟩ : Fin 128).val, by omega⟩ : Fin 256) = l from Fin.ext (by simp only; omega)] at e
    rw [e, onesThen_apply, dif_neg (by omega)]
    by_cases h1 : l.val < 192
    · rw [if_pos (by simp only; omega), dif_pos h1]
    · rw [if_neg (by simp only; omega), dif_neg h1]

/-! ## The output blocks -/

/-- The plain queries of a block, head by head. -/
def Qp (y : FVec Ideal S512x1536 .f32) : Vec Ideal S1x16x512x64 .bf16 :=
  fun z => y (ix2 (z 2) ⟨64 * (z 1).val + (z 3).val, by have h1 : (z 1).val < 16 := (z 1).isLt; have h3 : (z 3).val < 64 := (z 3).isLt; omega⟩) * fac

/-- The keys of a block, head by head. -/
def Ky (y : FVec Ideal S512x1536 .f32) : Vec Ideal S1x4x512x64 .bf16 :=
  fun z => y (ix2 (z 2) ⟨1024 + 64 * (z 1).val + (z 3).val, by have h1 : (z 1).val < 4 := (z 1).isLt; have h3 : (z 3).val < 64 := (z 3).isLt; omega⟩)

/-- Lane `l` of value head `h` from a row of projections: the head, two runs of ones, the head again. -/
def vlane (f : Fin 1536 → EReal) (h : Fin 4) (l : Fin 256) : EReal :=
  if l.val < 64 then f ⟨(1280 + 64 * h.val + l.val) % 1536, by omega⟩ else if l.val < 192 then 1 else f ⟨1280 + 64 * h.val + (l.val - 192), by omega⟩

/-- The values of a block, head by head, with the two runs of ones between. -/
def Va (y : FVec Ideal S512x1536 .f32) : Vec Ideal S1x4x512x256 .bf16 :=
  fun z => vlane (fun j => y (ix2 (z 2) j)) (z 1) (z 3)

theorem emb_q (h : Nat) (hh : h < 16) (hb : ∀ a, (![0, h, 0, 0] : Fin 4 → Nat) a + S1x1x512x64.size a ≤ S1x16x512x64.size a) (i : Fin 512) (d : Fin 64) :
    (Rect.unit (s := S1x16x512x64) ![0, h, 0, 0] S1x1x512x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_k (h : Nat) (hh : h < 4) (hb : ∀ a, (![0, h, 0, 0] : Fin 4 → Nat) a + S1x1x512x64.size a ≤ S1x4x512x64.size a) (i : Fin 512) (d : Fin 64) :
    (Rect.unit (s := S1x4x512x64) ![0, h, 0, 0] S1x1x512x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_v (h : Nat) (hh : h < 4) (hb : ∀ a, (![0, h, 0, 0] : Fin 4 → Nat) a + S1x1x512x256.size a ≤ S1x4x512x256.size a) (i : Fin 512) (d : Fin 256) :
    (Rect.unit (s := S1x4x512x256) ![0, h, 0, 0] S1x1x512x256.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

/-- A piece's index is a row and a lane. -/
theorem split64 (x : S1x1x512x64.Idx) : ∃ (i : Fin 512) (d : Fin 64), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

theorem split256 (x : S1x1x512x256.Idx) : ∃ (i : Fin 512) (d : Fin 256), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

/-- Two sums of natural numbers that are equal name one lane. -/
theorem lane {n : Nat} (f : Fin n → EReal) {a b : Nat} (h : a = b) (ha : a < n) (hb : b < n) : f ⟨a, ha⟩ = f ⟨b, hb⟩ := by
  subst h; rfl

section
variable (y : FVec Ideal S512x1536 .f32)

theorem piece_qp_fst (n h o : Nat) (e : h = 2 * n ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    fst (scaled (cols o hs y)) x = Qp y ((Rect.unit (s := S1x16x512x64) ![0, h, 0, 0] S1x1x512x64.size hb).emb x) := by
  obtain ⟨i, d, rfl⟩ := split64 x
  rw [emb_q h hh, fst_apply, scaled_apply, cols_apply _ _ _ _ _ (by first | omega | (simp only; omega))]
  exact congrArg (· * fac) (lane (fun j => y (ix2 i j)) (b := 64 * h + d.val) (by simp only; omega) _ _)

theorem piece_qp_snd (n h o : Nat) (e : h = 2 * n + 1 ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    snd (scaled (cols o hs y)) x = Qp y ((Rect.unit (s := S1x16x512x64) ![0, h, 0, 0] S1x1x512x64.size hb).emb x) := by
  obtain ⟨i, d, rfl⟩ := split64 x
  rw [emb_q h hh, snd_apply, scaled_apply, cols_apply _ _ _ _ _ (by first | omega | (simp only; omega))]
  exact congrArg (· * fac) (lane (fun j => y (ix2 i j)) (b := 64 * h + d.val) (by simp only; omega) _ _)

theorem piece_ky_fst (n h o : Nat) (e : h = 2 * n ∧ o = 1024 + 128 * n) (hh : h < 4) (hs : S512x1536.Slices ![0, o] S512x128)
    (hb : ∀ a, (![0, h, 0, 0] : Fin 4 → Nat) a + S1x1x512x64.size a ≤ S1x4x512x64.size a) (x : S1x1x512x64.Idx) :
    fst (cols o hs y) x = Ky y ((Rect.unit (s := S1x4x512x64) ![0, h, 0, 0] S1x1x512x64.size hb).emb x) := by
  obtain ⟨i, d, rfl⟩ := split64 x
  rw [emb_k h hh, fst_apply, cols_apply _ _ _ _ _ (by first | omega | (simp only; omega))]
  exact lane (fun j => y (ix2 i j)) (b := 1024 + 64 * h + d.val) (by simp only; omega) _ _

theorem piece_ky_snd (n h o : Nat) (e : h = 2 * n + 1 ∧ o = 1024 + 128 * n) (hh : h < 4) (hs : S512x1536.Slices ![0, o] S512x128)
    (hb : ∀ a, (![0, h, 0, 0] : Fin 4 → Nat) a + S1x1x512x64.size a ≤ S1x4x512x64.size a) (x : S1x1x512x64.Idx) :
    snd (cols o hs y) x = Ky y ((Rect.unit (s := S1x4x512x64) ![0, h, 0, 0] S1x1x512x64.size hb).emb x) := by
  obtain ⟨i, d, rfl⟩ := split64 x
  rw [emb_k h hh, snd_apply, cols_apply _ _ _ _ _ (by first | omega | (simp only; omega))]
  exact lane (fun j => y (ix2 i j)) (b := 1024 + 64 * h + d.val) (by simp only; omega) _ _

theorem piece_va_fst (n h o : Nat) (e : h = 2 * n ∧ o = 1280 + 128 * n) (hh : h < 4) (hs : S512x1536.Slices ![0, o] S512x128)
    (hb : ∀ a, (![0, h, 0, 0] : Fin 4 → Nat) a + S1x1x512x256.size a ≤ S1x4x512x256.size a) (x : S1x1x512x256.Idx) :
    vrow (cols o hs y) (swapped (cols o hs y)) x = Va y ((Rect.unit (s := S1x4x512x256) ![0, h, 0, 0] S1x1x512x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, cols_apply _ _ _ _ _ (by first | omega | (simp only; omega))]
    exact lane (fun j => y (ix2 i j)) (by show o + l.val = (1280 + 64 * h + l.val) % 1536; omega) _ _
  · rw [dif_neg h1, if_neg h1]
    by_cases h2 : l.val < 192
    · rw [dif_pos h2, if_pos h2]
    · rw [dif_neg h2, if_neg h2, swapped_apply, cols_apply _ _ _ _ _ (by first | omega | (simp only; omega))]
      exact lane (fun j => y (ix2 i j)) (by show o + (l.val - 128 + 64) % 128 = 1280 + 64 * h + (l.val - 192); omega) _ _

theorem piece_va_snd (n h o : Nat) (e : h = 2 * n + 1 ∧ o = 1280 + 128 * n) (hh : h < 4) (hs : S512x1536.Slices ![0, o] S512x128)
    (hb : ∀ a, (![0, h, 0, 0] : Fin 4 → Nat) a + S1x1x512x256.size a ≤ S1x4x512x256.size a) (x : S1x1x512x256.Idx) :
    vrow (swapped (cols o hs y)) (cols o hs y) x = Va y ((Rect.unit (s := S1x4x512x256) ![0, h, 0, 0] S1x1x512x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, swapped_apply, cols_apply _ _ _ _ _ (by first | omega | (simp only; omega))]
    exact lane (fun j => y (ix2 i j)) (by show o + (l.val + 64) % 128 = (1280 + 64 * h + l.val) % 1536; omega) _ _
  · rw [dif_neg h1, if_neg h1]
    by_cases h2 : l.val < 192
    · rw [dif_pos h2, if_pos h2]
    · rw [dif_neg h2, if_neg h2, cols_apply _ _ _ _ _ (by first | omega | (simp only; omega))]
      exact lane (fun j => y (ix2 i j)) (by show o + (l.val - 128) = 1280 + 64 * h + (l.val - 192); omega) _ _

/-! Each output block is the list of its heads' pieces. -/

theorem canon_qp : View.canon [⟨r0_18, snd (scaled (cols 896 slices_S512x1536_o0_896_S512x128 y))⟩,
      ⟨r0_17, fst (scaled (cols 896 slices_S512x1536_o0_896_S512x128 y))⟩,
      ⟨r0_16, snd (scaled (cols 768 slices_S512x1536_o0_768_S512x128 y))⟩,
      ⟨r0_15, fst (scaled (cols 768 slices_S512x1536_o0_768_S512x128 y))⟩,
      ⟨r0_14, snd (scaled (cols 640 slices_S512x1536_o0_640_S512x128 y))⟩,
      ⟨r0_13, fst (scaled (cols 640 slices_S512x1536_o0_640_S512x128 y))⟩,
      ⟨r0_12, snd (scaled (cols 512 slices_S512x1536_o0_512_S512x128 y))⟩,
      ⟨r0_11, fst (scaled (cols 512 slices_S512x1536_o0_512_S512x128 y))⟩,
      ⟨r0_10, snd (scaled (cols 384 slices_S512x1536_o0_384_S512x128 y))⟩,
      ⟨r0_9, fst (scaled (cols 384 slices_S512x1536_o0_384_S512x128 y))⟩,
      ⟨r0_8, snd (scaled (cols 256 slices_S512x1536_o0_256_S512x128 y))⟩,
      ⟨r0_7, fst (scaled (cols 256 slices_S512x1536_o0_256_S512x128 y))⟩,
      ⟨r0_6, snd (scaled (cols 128 slices_S512x1536_o0_128_S512x128 y))⟩,
      ⟨r0_5, fst (scaled (cols 128 slices_S512x1536_o0_128_S512x128 y))⟩,
      ⟨r0_4, snd (scaled (cols 0 slices_S512x1536_o0_0_S512x128 y))⟩,
      ⟨r0_3, fst (scaled (cols 0 slices_S512x1536_o0_0_S512x128 y))⟩] = Qp y := by
  funext z
  refine View.canon_apply_of_pieces (Qp y) _ ?_ z (cover0_5 _ _ _ _ _ _ _ _ _ _ _ _ _ _ _ _ z)
  exact List.forall_mem_cons.2 ⟨piece_qp_snd y 7 15 896 (by omega) (by omega) _ (by decide), List.forall_mem_cons.2 ⟨piece_qp_fst y 7 14 896 (by omega) (by omega) _ (by decide), List.forall_mem_cons.2 ⟨piece_qp_snd y 6 13 768 (by omega) (by omega) _ (by decide), List.forall_mem_cons.2 ⟨piece_qp_fst y 6 12 768 (by omega) (by omega) _ (by decide), List.forall_mem_cons.2 ⟨piece_qp_snd y 5 11 640 (by omega) (by omega) _ (by decide), List.forall_mem_cons.2 ⟨piece_qp_fst y 5 10 640 (by omega) (by omega) _ (by decide), List.forall_mem_cons.2 ⟨piece_qp_snd y 4 9 512 (by omega) (by omega) _ (by decide), List.forall_mem_cons.2 ⟨piece_qp_fst y 4 8 512 (by omega) (by omega) _ (by decide), List.forall_mem_cons.2 ⟨piece_qp_snd y 3 7 384 (by omega) (by omega) _ (by decide), List.forall_mem_cons.2 ⟨piece_qp_fst y 3 6 384 (by omega) (by omega) _ (by decide), List.forall_mem_cons.2 ⟨piece_qp_snd y 2 5 256 (by omega) (by omega) _ (by decide), List.forall_mem_cons.2 ⟨piece_qp_fst y 2 4 256 (by omega) (by omega) _ (by decide), List.forall_mem_cons.2 ⟨piece_qp_snd y 1 3 128 (by omega) (by omega) _ (by decide), List.forall_mem_cons.2 ⟨piece_qp_fst y 1 2 128 (by omega) (by omega) _ (by decide), List.forall_mem_cons.2 ⟨piece_qp_snd y 0 1 0 (by omega) (by omega) _ (by decide), List.forall_mem_cons.2 ⟨piece_qp_fst y 0 0 0 (by omega) (by omega) _ (by decide), fun _ h => absurd h List.not_mem_nil⟩⟩⟩⟩⟩⟩⟩⟩⟩⟩⟩⟩⟩⟩⟩⟩

theorem canon_ky : View.canon [⟨r0_22, snd (cols 1152 slices_S512x1536_o0_1152_S512x128 y)⟩,
      ⟨r0_21, fst (cols 1152 slices_S512x1536_o0_1152_S512x128 y)⟩,
      ⟨r0_20, snd (cols 1024 slices_S512x1536_o0_1024_S512x128 y)⟩,
      ⟨r0_19, fst (cols 1024 slices_S512x1536_o0_1024_S512x128 y)⟩] = Ky y := by
  funext z
  refine View.canon_apply_of_pieces (Ky y) _ ?_ z (cover0_6 _ _ _ _ z)
  exact List.forall_mem_cons.2 ⟨piece_ky_snd y 1 3 1152 (by omega) (by omega) _ (by decide), List.forall_mem_cons.2 ⟨piece_ky_fst y 1 2 1152 (by omega) (by omega) _ (by decide), List.forall_mem_cons.2 ⟨piece_ky_snd y 0 1 1024 (by omega) (by omega) _ (by decide), List.forall_mem_cons.2 ⟨piece_ky_fst y 0 0 1024 (by omega) (by omega) _ (by decide), fun _ h => absurd h List.not_mem_nil⟩⟩⟩⟩

theorem canon_va : View.canon [⟨r0_26, vrow (swapped (cols 1408 slices_S512x1536_o0_1408_S512x128 y)) (cols 1408 slices_S512x1536_o0_1408_S512x128 y)⟩,
      ⟨r0_25, vrow (cols 1408 slices_S512x1536_o0_1408_S512x128 y) (swapped (cols 1408 slices_S512x1536_o0_1408_S512x128 y))⟩,
      ⟨r0_24, vrow (swapped (cols 1280 slices_S512x1536_o0_1280_S512x128 y)) (cols 1280 slices_S512x1536_o0_1280_S512x128 y)⟩,
      ⟨r0_23, vrow (cols 1280 slices_S512x1536_o0_1280_S512x128 y) (swapped (cols 1280 slices_S512x1536_o0_1280_S512x128 y))⟩] = Va y := by
  funext z
  refine View.canon_apply_of_pieces (Va y) _ ?_ z (cover0_7 _ _ _ _ z)
  exact List.forall_mem_cons.2 ⟨piece_va_snd y 1 3 1408 (by omega) (by omega) _ (by decide), List.forall_mem_cons.2 ⟨piece_va_fst y 1 2 1408 (by omega) (by omega) _ (by decide), List.forall_mem_cons.2 ⟨piece_va_snd y 0 1 1280 (by omega) (by omega) _ (by decide), List.forall_mem_cons.2 ⟨piece_va_fst y 0 0 1280 (by omega) (by omega) _ (by decide), fun _ h => absurd h List.not_mem_nil⟩⟩⟩⟩

end

/-- The projections of a block, from the blocks that the point reads. -/
theorem rows_apply (x0 : Vec Ideal S1x512x1024 .f32) (x1 x2 x3 : Vec Ideal S1x1x1024 .f32) (x4 : Vec Ideal S1024x1536 .bf16) (i : Fin 512) (j : Fin 1536) :
    k0_pay48 x0 x1 x2 x3 x4 (ix2 i j) = proj (fun k => x0 (ix3 0 i k)) (fun k => x1 (ix3 0 0 k)) (fun k => x2 (ix3 0 0 k)) (fun k => x3 (ix3 0 0 k)) (fun k => x4 (ix2 k j)) := by
  show k0_pay2 (View.ld x0 r0_0) (View.ld x1 r0_1) (View.ld x2 r0_1) (View.ld x3 r0_1) (View.ld x4 r0_2) (ix2 i j) = _
  rw [projected]
  have e0 : ∀ k, View.ld x0 r0_0 (ix3 0 i k) = x0 (ix3 0 i k) := fun k => by pointwise []
  have e1 : ∀ (x : Vec Ideal S1x1x1024 .f32) k, View.ld x r0_1 (ix3 0 0 k) = x (ix3 0 0 k) := fun x k => by pointwise []
  have e4 : ∀ k, View.ld x4 r0_2 (ix2 k j) = x4 (ix2 k j) := fun k => by pointwise []
  exact congr (congr (congr (congr (congrArg proj (funext e0)) (funext (e1 x1))) (funext (e1 x2))) (funext (e1 x3))) (funext e4)

theorem out_qp (x0 : Vec Ideal S1x512x1024 .f32) (x1 x2 x3 : Vec Ideal S1x1x1024 .f32) (x4 : Vec Ideal S1024x1536 .bf16) : out0_5 x0 x1 x2 x3 x4 = Qp (k0_pay48 x0 x1 x2 x3 x4) :=
  canon_qp (k0_pay48 x0 x1 x2 x3 x4)

theorem out_ky (x0 : Vec Ideal S1x512x1024 .f32) (x1 x2 x3 : Vec Ideal S1x1x1024 .f32) (x4 : Vec Ideal S1024x1536 .bf16) : out0_6 x0 x1 x2 x3 x4 = Ky (k0_pay48 x0 x1 x2 x3 x4) :=
  canon_ky (k0_pay48 x0 x1 x2 x3 x4)

theorem out_va (x0 : Vec Ideal S1x512x1024 .f32) (x1 x2 x3 : Vec Ideal S1x1x1024 .f32) (x4 : Vec Ideal S1024x1536 .bf16) : out0_7 x0 x1 x2 x3 x4 = Va (k0_pay48 x0 x1 x2 x3 x4) :=
  canon_va (k0_pay48 x0 x1 x2 x3 x4)

end Cert.Kernel5Ideal.Hand

end
-- ==== Proof.PlainArrays.lean ====
/-
  The projection kernel's three result arrays: point `t` of the grid works on batch `t / 4` and rows `512 * (t % 4)` to that
  plus 511, so that each array is one function of the arguments, index by index.
-/
module

public import proofs.«01_k».proof.Proof.PlainBlock
public import Idealize.ShloMosaic.Lib.StableHlo.Run

@[expose] public section

set_option maxRecDepth 16384

noncomputable section

namespace Cert.Kernel5Ideal.Hand

open Cert.Kernel5Ideal Cert.Kernel5Ideal.Gen Idealize.ShloMosaic Idealize.ShloMosaic.TcCoe Idealize.SL.Sem

section
variable {F : FTy → Type} [FloatOps F] [Named F]

/-! ## The host's arrays -/

/-- The weights of the third layer. -/
def wts (w : Vec F S4x1024x1536 .f32) : Vec F S1024x1536 .bf16 :=
  truncf .bf16 (shapeCast S1024x1536 (extractStridedSlice S1x1024x1536 ![2, 0, 0] w slices_S4x1024x1536_S1x1024x1536_2_0_0) shapeCasts_S1x1024x1536_S1024x1536 : FVec F S1024x1536 .f32) bitsLt_bf16_f32

variable (m : (ℓ : Loc nD τ sig) → Buf (Elt F) ℓ)

open Idealize.ShloMosaic.StableHlo in
theorem V_main_v2 (c : Dev nD) : V m c main_v2 = wts (m ((c : Thread nD τ).loc main_arg3)) := by
  unfold V hostOps0
  after_results_simp <;> rfl

/-! ## The points' blocks -/

/-- The batch of a grid point. -/
def batch (t : Fin cfg0.N) : Fin 16 := ⟨t.val / 4, by have h : t.val < 64 := t.isLt; omega⟩
/-- Row `i` of a point's block, in the sequence. -/
def row (t : Fin cfg0.N) (i : Fin 512) : Fin 2048 := ⟨512 * (t.val % 4) + i.val, by omega⟩

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = 2 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 288 + 6 * (t.val / 4) ∧ win0_2.index t (1 : Fin 3) = 0 ∧ win0_2.index t (2 : Fin 3) = 0 :=
  (by decide +kernel : ∀ t : Fin grid0.N, _)
theorem idx3 : ∀ t : Fin cfg0.N, win0_3.index t (0 : Fin 3) = 288 + 6 * (t.val / 4) + 1 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 4) = t.val / 4 ∧ win0_5.index t (1 : Fin 4) = 0 ∧ win0_5.index t (2 : Fin 4) = t.val % 4 ∧ win0_5.index t (3 : Fin 4) = 0 :=
  (by decide +kernel : ∀ t : Fin grid0.N, _)
theorem idx6 : ∀ t : Fin cfg0.N, win0_6.index t (0 : Fin 4) = t.val / 4 ∧ win0_6.index t (1 : Fin 4) = 0 ∧ win0_6.index t (2 : Fin 4) = t.val % 4 ∧ win0_6.index t (3 : Fin 4) = 0 :=
  (by decide +kernel : ∀ t : Fin grid0.N, _)
theorem idx7 : ∀ t : Fin cfg0.N, win0_7.index t (0 : Fin 4) = t.val / 4 ∧ win0_7.index t (1 : Fin 4) = 0 ∧ win0_7.index t (2 : Fin 4) = t.val % 4 ∧ win0_7.index t (3 : Fin 4) = 0 :=
  (by decide +kernel : ∀ t : Fin grid0.N, _)

/-- The block of rows holds the point's batch and rows. -/
theorem blk0 (c : Dev nD) (t : Fin cfg0.N) (i : Fin 512) (k : Fin 1024) :
    (iblk m c 0 t : Vec F S1x512x1024 .f32) (ix3 0 i k) = m ((c : Thread nD τ).loc main_arg0) (ix3 (batch t) (row t i) k) := by
  obtain ⟨e0, e1, e2⟩ := idx0 t
  rw [← V_main_arg0 m c]
  show V m c main_arg0 (((cfg0.win 0).blk t).view.emb (ix3 0 i k)) = _
  congr 1
  funext a; apply Fin.ext
  match a with
  | ⟨0, _⟩ => show win0_0.index t (0 : Fin 3) * 1 + 1 * 0 = t.val / 4; omega
  | ⟨1, _⟩ => show win0_0.index t (1 : Fin 3) * 512 + 1 * i.val = 512 * (t.val % 4) + i.val; omega
  | ⟨2, _⟩ => show win0_0.index t (2 : Fin 3) * 1024 + 1 * k.val = k.val; omega

/-- The block of gains holds the third layer's. -/
theorem blk1 (c : Dev nD) (t : Fin cfg0.N) (k : Fin 1024) :
    (iblk m c 1 t : Vec F S1x1x1024 .f32) (ix3 0 0 k) = m ((c : Thread nD τ).loc main_arg2) (ix3 2 0 k) := by
  obtain ⟨e0, e1, e2⟩ := idx1 t
  rw [← V_main_arg2 m c]
  show V m c main_arg2 (((cfg0.win 1).blk t).view.emb (ix3 0 0 k)) = _
  congr 1
  funext a; apply Fin.ext
  match a with
  | ⟨0, _⟩ => show win0_1.index t (0 : Fin 3) * 1 + 1 * 0 = 2; omega
  | ⟨1, _⟩ => show win0_1.index t (1 : Fin 3) * 1 + 1 * 0 = 0; omega
  | ⟨2, _⟩ => show win0_1.index t (2 : Fin 3) * 1024 + 1 * k.val = k.val; omega

/-- The row of shifts of a batch, of the third layer. -/
def shRow (b : Fin 16) : Fin 576 := ⟨288 + 6 * b.val, by omega⟩
/-- The row of scales of a batch, of the third layer. -/
def scRow (b : Fin 16) : Fin 576 := ⟨288 + 6 * b.val + 1, by omega⟩

theorem blk2 (c : Dev nD) (t : Fin cfg0.N) (k : Fin 1024) :
    (iblk m c 2 t : Vec F S1x1x1024 .f32) (ix3 0 0 k) = m ((c : Thread nD τ).loc main_arg1) (ix3 (shRow (batch t)) 0 k) := by
  obtain ⟨e0, e1, e2⟩ := idx2 t
  rw [← V_main_arg1 m c]
  show V m c main_arg1 (((cfg0.win 2).blk t).view.emb (ix3 0 0 k)) = _
  congr 1
  funext a; apply Fin.ext
  match a with
  | ⟨0, _⟩ => show win0_2.index t (0 : Fin 3) * 1 + 1 * 0 = 288 + 6 * (t.val / 4); omega
  | ⟨1, _⟩ => show win0_2.index t (1 : Fin 3) * 1 + 1 * 0 = 0; omega
  | ⟨2, _⟩ => show win0_2.index t (2 : Fin 3) * 1024 + 1 * k.val = k.val; omega

theorem blk3 (c : Dev nD) (t : Fin cfg0.N) (k : Fin 1024) :
    (iblk m c 3 t : Vec F S1x1x1024 .f32) (ix3 0 0 k) = m ((c : Thread nD τ).loc main_arg1) (ix3 (scRow (batch t)) 0 k) := by
  obtain ⟨e0, e1, e2⟩ := idx3 t
  rw [← V_main_arg1 m c]
  show V m c main_arg1 (((cfg0.win 3).blk t).view.emb (ix3 0 0 k)) = _
  congr 1
  funext a; apply Fin.ext
  match a with
  | ⟨0, _⟩ => show win0_3.index t (0 : Fin 3) * 1 + 1 * 0 = 288 + 6 * (t.val / 4) + 1; omega
  | ⟨1, _⟩ => show win0_3.index t (1 : Fin 3) * 1 + 1 * 0 = 0; omega
  | ⟨2, _⟩ => show win0_3.index t (2 : Fin 3) * 1024 + 1 * k.val = k.val; omega

/-- The block of weights is all of the third layer's. -/
theorem blk4 (c : Dev nD) (t : Fin cfg0.N) (k : Fin 1024) (j : Fin 1536) :
    (iblk m c 4 t : Vec F S1024x1536 .bf16) (ix2 k j) = wts (m ((c : Thread nD τ).loc main_arg3)) (ix2 k j) := by
  obtain ⟨e0, e1⟩ := idx4 t
  rw [← V_main_v2 m c]
  show V m c main_v2 (((cfg0.win 4).blk t).view.emb (ix2 k j)) = _
  congr 1
  funext a; apply Fin.ext
  match a with
  | ⟨0, _⟩ => show win0_4.index t (0 : Fin 2) * 1024 + 1 * k.val = k.val; omega
  | ⟨1, _⟩ => show win0_4.index t (1 : Fin 2) * 1536 + 1 * j.val = j.val; omega

/-- A point's block of result array 1, and that the blocks cover it. -/
theorem emb5 (t : Fin cfg0.N) (h : Fin 16) (i : Fin 512) (d : Fin 64) : ((cfg0.win 5).blk t).view.emb (ix4 0 h i d) = ix4 (batch t) h (row t i) d := by
  obtain ⟨e0, e1, e2, e3⟩ := idx5 t
  funext a; apply Fin.ext
  match a with
  | ⟨0, _⟩ => show win0_5.index t (0 : Fin 4) * 1 + 1 * 0 = t.val / 4; omega
  | ⟨1, _⟩ => show win0_5.index t (1 : Fin 4) * 16 + 1 * h.val = h.val; omega
  | ⟨2, _⟩ => show win0_5.index t (2 : Fin 4) * 512 + 1 * i.val = 512 * (t.val % 4) + i.val; omega
  | ⟨3, _⟩ => show win0_5.index t (3 : Fin 4) * 64 + 1 * d.val = d.val; omega

theorem covers5 (i : S16x16x2048x64.Idx) : ∃ t : Fin cfg0.N, (cfg0.win 5).flush t = true ∧ i ∈ ((cfg0.win 5).blk t).view.set := by
  obtain ⟨b, h, n, d, rfl⟩ : ∃ (b : Fin 16) (h : Fin 16) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_5 _, ?_⟩
  have hm := ((cfg0.win 5).blk ⟨b.val * 4 + n.val / 512, hN⟩).view.emb_mem_set (ix4 0 h ⟨n.val % 512, by omega⟩ d)
  rw [emb5] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 2, and that the blocks cover it. -/
theorem emb6 (t : Fin cfg0.N) (h : Fin 4) (i : Fin 512) (d : Fin 64) : ((cfg0.win 6).blk t).view.emb (ix4 0 h i d) = ix4 (batch t) h (row t i) d := by
  obtain ⟨e0, e1, e2, e3⟩ := idx6 t
  funext a; apply Fin.ext
  match a with
  | ⟨0, _⟩ => show win0_6.index t (0 : Fin 4) * 1 + 1 * 0 = t.val / 4; omega
  | ⟨1, _⟩ => show win0_6.index t (1 : Fin 4) * 4 + 1 * h.val = h.val; omega
  | ⟨2, _⟩ => show win0_6.index t (2 : Fin 4) * 512 + 1 * i.val = 512 * (t.val % 4) + i.val; omega
  | ⟨3, _⟩ => show win0_6.index t (3 : Fin 4) * 64 + 1 * d.val = d.val; omega

theorem covers6 (i : S16x4x2048x64.Idx) : ∃ t : Fin cfg0.N, (cfg0.win 6).flush t = true ∧ i ∈ ((cfg0.win 6).blk t).view.set := by
  obtain ⟨b, h, n, d, rfl⟩ : ∃ (b : Fin 16) (h : Fin 4) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_6 _, ?_⟩
  have hm := ((cfg0.win 6).blk ⟨b.val * 4 + n.val / 512, hN⟩).view.emb_mem_set (ix4 0 h ⟨n.val % 512, by omega⟩ d)
  rw [emb6] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 3, and that the blocks cover it. -/
theorem emb7 (t : Fin cfg0.N) (h : Fin 4) (i : Fin 512) (d : Fin 256) : ((cfg0.win 7).blk t).view.emb (ix4 0 h i d) = ix4 (batch t) h (row t i) d := by
  obtain ⟨e0, e1, e2, e3⟩ := idx7 t
  funext a; apply Fin.ext
  match a with
  | ⟨0, _⟩ => show win0_7.index t (0 : Fin 4) * 1 + 1 * 0 = t.val / 4; omega
  | ⟨1, _⟩ => show win0_7.index t (1 : Fin 4) * 4 + 1 * h.val = h.val; omega
  | ⟨2, _⟩ => show win0_7.index t (2 : Fin 4) * 512 + 1 * i.val = 512 * (t.val % 4) + i.val; omega
  | ⟨3, _⟩ => show win0_7.index t (3 : Fin 4) * 256 + 1 * d.val = d.val; omega

theorem covers7 (i : S16x4x2048x256.Idx) : ∃ t : Fin cfg0.N, (cfg0.win 7).flush t = true ∧ i ∈ ((cfg0.win 7).blk t).view.set := by
  obtain ⟨b, h, n, d, rfl⟩ : ∃ (b : Fin 16) (h : Fin 4) (n : Fin 2048) (d : Fin 256), i = ix4 b h n d := ⟨i 0, i 1, i 2, i 3, eq_ix4 i⟩
  have hN : b.val * 4 + n.val / 512 < cfg0.N := show _ < 64 by omega
  refine ⟨⟨b.val * 4 + n.val / 512, hN⟩, flush0_7 _, ?_⟩
  have hm := ((cfg0.win 7).blk ⟨b.val * 4 + n.val / 512, hN⟩).view.emb_mem_set (ix4 0 h ⟨n.val % 512, by omega⟩ d)
  rw [emb7] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

end

/-! ## The arrays -/

theorem wts_apply (w : Vec Ideal S4x1024x1536 .f32) (k : Fin 1024) (j : Fin 1536) : wts w (ix2 k j) = w (ix3 2 k j) := by
  pointwise [wts]

/-- Column `j` of the projection of row `n` of batch `b`. -/
def prj (x : Vec Ideal S16x2048x1024 .f32) (md : Vec Ideal S576x1x1024 .f32) (g : Vec Ideal S4x1x1024 .f32) (w : Vec Ideal S4x1024x1536 .f32)
    (b : Fin 16) (n : Fin 2048) (j : Fin 1536) : EReal :=
  proj (fun k => x (ix3 b n k)) (fun k => g (ix3 2 0 k)) (fun k => md (ix3 (shRow b) 0 k)) (fun k => md (ix3 (scRow b) 0 k)) (fun k => w (ix3 2 k j))

section
variable (x : Vec Ideal S16x2048x1024 .f32) (md : Vec Ideal S576x1x1024 .f32) (g : Vec Ideal S4x1x1024 .f32) (w : Vec Ideal S4x1024x1536 .f32)

/-- The plain queries. -/
def QP : Vec Ideal S16x16x2048x64 .bf16 :=
  fun z => prj x md g w (z 0) (z 2) ⟨64 * (z 1).val + (z 3).val, by have h1 : (z 1).val < 16 := (z 1).isLt; have h3 : (z 3).val < 64 := (z 3).isLt; omega⟩ * fac

/-- The keys. -/
def KY : Vec Ideal S16x4x2048x64 .bf16 :=
  fun z => prj x md g w (z 0) (z 2) ⟨1024 + 64 * (z 1).val + (z 3).val, by have h1 : (z 1).val < 4 := (z 1).isLt; have h3 : (z 3).val < 64 := (z 3).isLt; omega⟩

/-- The values, with the two runs of ones between. -/
def VA : Vec Ideal S16x4x2048x256 .bf16 :=
  fun z => vlane (fun j => prj x md g w (z 0) (z 2) j) (z 1) (z 3)
end

section
variable (m : (ℓ : Loc nD τ sig) → Buf (Elt Ideal) ℓ) (c : Dev nD)

/-- The projections of a point's block. -/
theorem rows_at (t : Fin cfg0.N) (i : Fin 512) (j : Fin 1536) :
    k0_pay48 (iblk m c 0 t) (iblk m c 1 t) (iblk m c 2 t) (iblk m c 3 t) (iblk m c 4 t) (ix2 i j)
      = prj (m ((c : Thread nD τ).loc main_arg0)) (m ((c : Thread nD τ).loc main_arg1)) (m ((c : Thread nD τ).loc main_arg2)) (m ((c : Thread nD τ).loc main_arg3)) (batch t) (row t i) j := by
  rw [rows_apply]
  exact congr (congr (congr (congr (congrArg proj (funext fun k => blk0 m c t i k)) (funext fun k => blk1 m c t k)) (funext fun k => blk2 m c t k)) (funext fun k => blk3 m c t k))
    (funext fun k => (blk4 m c t k j).trans (wts_apply _ k j))

theorem flushed_QP (t : Fin cfg0.N) : (dats m 0 c).flushed 5 t = ((cfg0.win 5).blk t).view.read (Elt Ideal) (QP (m ((c : Thread nD τ).loc main_arg0)) (m ((c : Thread nD τ).loc main_arg1)) (m ((c : Thread nD τ).loc main_arg2)) (m ((c : Thread nD τ).loc main_arg3))) := by
  rw [Value.flushed5, out_qp]
  funext y
  obtain ⟨b, h, i, d, rfl⟩ : ∃ (b : Fin 1) (h : Fin 16) (i : Fin 512) (d : Fin 64), y = ix4 b h i d := ⟨y 0, y 1, y 2, y 3, eq_ix4 y⟩
  obtain rfl : b = 0 := Subsingleton.elim _ _
  show Qp (k0_pay48 (iblk m c 0 t) (iblk m c 1 t) (iblk m c 2 t) (iblk m c 3 t) (iblk m c 4 t)) (ix4 0 h i d)
    = QP _ _ _ _ (((cfg0.win 5).blk t).view.emb (ix4 0 h i d))
  rw [emb5]
  show k0_pay48 (iblk m c 0 t) (iblk m c 1 t) (iblk m c 2 t) (iblk m c 3 t) (iblk m c 4 t) (ix2 i _) * fac = prj _ _ _ _ (batch t) (row t i) _ * fac
  rw [rows_at]
  rfl

/-- Result array 1 after the run. -/
theorem final_QP : (dats m 0 c).arrAt 5 cfg0.N = QP (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_QP m c t) covers5

theorem flushed_KY (t : Fin cfg0.N) : (dats m 0 c).flushed 6 t = ((cfg0.win 6).blk t).view.read (Elt Ideal) (KY (m ((c : Thread nD τ).loc main_arg0)) (m ((c : Thread nD τ).loc main_arg1)) (m ((c : Thread nD τ).loc main_arg2)) (m ((c : Thread nD τ).loc main_arg3))) := by
  rw [Value.flushed6, out_ky]
  funext y
  obtain ⟨b, h, i, d, rfl⟩ : ∃ (b : Fin 1) (h : Fin 4) (i : Fin 512) (d : Fin 64), y = ix4 b h i d := ⟨y 0, y 1, y 2, y 3, eq_ix4 y⟩
  obtain rfl : b = 0 := Subsingleton.elim _ _
  show Ky (k0_pay48 (iblk m c 0 t) (iblk m c 1 t) (iblk m c 2 t) (iblk m c 3 t) (iblk m c 4 t)) (ix4 0 h i d)
    = KY _ _ _ _ (((cfg0.win 6).blk t).view.emb (ix4 0 h i d))
  rw [emb6]
  exact rows_at m c t i _

/-- Result array 2 after the run. -/
theorem final_KY : (dats m 0 c).arrAt 6 cfg0.N = KY (m ((c : Thread nD τ).loc main_arg0)) (m ((c : Thread nD τ).loc main_arg1)) (m ((c : Thread nD τ).loc main_arg2)) (m ((c : Thread nD τ).loc main_arg3)) :=
  (dats m 0 c).arrAt_eq_of_cover 6 _ (fun t _ => flushed_KY m c t) covers6

theorem flushed_VA (t : Fin cfg0.N) : (dats m 0 c).flushed 7 t = ((cfg0.win 7).blk t).view.read (Elt Ideal) (VA (m ((c : Thread nD τ).loc main_arg0)) (m ((c : Thread nD τ).loc main_arg1)) (m ((c : Thread nD τ).loc main_arg2)) (m ((c : Thread nD τ).loc main_arg3))) := by
  rw [Value.flushed7, out_va]
  funext y
  obtain ⟨b, h, i, d, rfl⟩ : ∃ (b : Fin 1) (h : Fin 4) (i : Fin 512) (d : Fin 256), y = ix4 b h i d := ⟨y 0, y 1, y 2, y 3, eq_ix4 y⟩
  obtain rfl : b = 0 := Subsingleton.elim _ _
  show Va (k0_pay48 (iblk m c 0 t) (iblk m c 1 t) (iblk m c 2 t) (iblk m c 3 t) (iblk m c 4 t)) (ix4 0 h i d)
    = VA _ _ _ _ (((cfg0.win 7).blk t).view.emb (ix4 0 h i d))
  rw [emb7]
  exact congrArg (fun f => vlane f h d) (funext fun j => rows_at m c t i j)

/-- Result array 3 after the run. -/
theorem final_VA : (dats m 0 c).arrAt 7 cfg0.N = VA (m ((c : Thread nD τ).loc main_arg0)) (m ((c : Thread nD τ).loc main_arg1)) (m ((c : Thread nD τ).loc main_arg2)) (m ((c : Thread nD τ).loc main_arg3)) :=
  (dats m 0 c).arrAt_eq_of_cover 7 _ (fun t _ => flushed_VA m c t) covers7

end

end Cert.Kernel5Ideal.Hand

end
-- ==== Proof.RefPlain.lean ====
/-
  The reference of the projection without rotary embedding, step by step, and each of its results read at an index.
-/
module

public import proofs.«01_k».proof.Proof.Gen.Reference5Ideal.Run
public import Idealize.ShloMosaic.Lib.Pointwise

@[expose] public section

set_option maxRecDepth 16384

noncomputable section

namespace Cert.Reference5Ideal.Hand

open Cert.Reference5Ideal Cert.Reference5Ideal.Gen Idealize.ShloMosaic Idealize.ShloMosaic.TcCoe Idealize.SL.Sem

section
variable {F : FTy → Type} [FloatOps F]

/-- One over each row's root mean square. -/
def rms (x : FVec F S16x2048x1024 .f32) : FVec F S16x2048x1024 .f32 :=
  broadcastInDim S16x2048x1024 ![0, 1, 2] bcast_S16x2048x1_S16x2048x1024_0_1_2 (Host.rsqrt (addf
    (Host.divf (broadcastInDim S16x2048x1 ![0, 1] bcast_S16x2048_S16x2048x1_0_1 (Host.reduceAdd (mulf x x) (constant S_ .f32 0x00000000#32) reducesTo_S16x2048x1024_S16x2048_d2 h_S_))
      (broadcastInDim S16x2048x1 ![] bcast_S_S16x2048x1 (constant S_ .f32 0x44800000#32)))
    (broadcastInDim S16x2048x1 ![] bcast_S_S16x2048x1 (constant S_ .f32 0x358637BD#32))))

/-- The third layer's gains, along the rows. -/
def gains (g : FVec F S4x1x1024 .f32) : FVec F S16x2048x1024 .f32 :=
  broadcastInDim S16x2048x1024 ![0, 1, 2] bcast_S1x1x1024_S16x2048x1024_0_1_2 (broadcastInDim S1x1x1024 ![1, 2] bcast_S1x1024_S1x1x1024_1_2
    (shapeCast S1x1024 (extractStridedSlice S1x1x1024 ![2, 0, 0] g slices_S4x1x1024_S1x1x1024_2_0_0) shapeCasts_S1x1x1024_S1x1024))

/-- The third layer's six modulations of each batch. -/
def mods (md : FVec F S576x1x1024 .f32) : FVec F S16x6x1024 .f32 :=
  shapeCast S16x6x1024 (extractStridedSlice S1x16x6x1024 ![2, 0, 0, 0] (shapeCast S4x24x6x1024 md shapeCasts_S576x1x1024_S4x24x6x1024) slices_S4x24x6x1024_S1x16x6x1024_2_0_0_0) shapeCasts_S1x16x6x1024_S16x6x1024

/-- The first modulation: the shift. -/
def shifts (d : FVec F S16x6x1024 .f32) : FVec F S16x1x1024 .f32 :=
  broadcastInDim S16x1x1024 ![0, 2] bcast_S16x1024_S16x1x1024_0_2 (shapeCast S16x1024 (extractStridedSlice S16x1x1024 ![0, 0, 0] d slices_S16x6x1024_S16x1x1024_0_0_0) shapeCasts_S16x1x1024_S16x1024)

/-- The second: the scale. -/
def scales (d : FVec F S16x6x1024 .f32) : FVec F S16x1x1024 .f32 :=
  broadcastInDim S16x1x1024 ![0, 2] bcast_S16x1024_S16x1x1024_0_2 (shapeCast S16x1024 (extractStridedSlice S16x1x1024 ![0, 1, 0] d slices_S16x6x1024_S16x1x1024_0_1_0) shapeCasts_S16x1x1024_S16x1024)

/-- The normalised, scaled and shifted rows. -/
def normed (x : FVec F S16x2048x1024 .f32) (md : FVec F S576x1x1024 .f32) (g : FVec F S4x1x1024 .f32) : FVec F S16x2048x1024 .f32 :=
  addf (mulf (mulf (mulf x (rms x)) (gains g))
      (broadcastInDim S16x2048x1024 ![0, 1, 2] bcast_S16x1x1024_S16x2048x1024_0_1_2 (addf (broadcastInDim S16x1x1024 ![] bcast_S_S16x1x1024 (constant S_ .f32 0x3F800000#32)) (scales (mods md)))))
    (broadcastInDim S16x2048x1024 ![0, 1, 2] bcast_S16x1x1024_S16x2048x1024_0_1_2 (shifts (mods md)))

/-- Those rows times the third layer's weights. -/
def projected (h : FVec F S16x2048x1024 .f32) (w : FVec F S4x1024x1536 .f32) : FVec F S16x2048x1536 .f32 :=
  Host.dotGeneral dot_S16x2048x1024_S1024x1536_S16x2048x1536_2_0_01_1_n_n none h
    (shapeCast S1024x1536 (extractStridedSlice S1x1024x1536 ![2, 0, 0] w slices_S4x1024x1536_S1x1024x1536_2_0_0) shapeCasts_S1x1024x1536_S1024x1536)

/-- The queries: their columns, over eight and over the logarithm of two. -/
def queries (y : FVec F S16x2048x1536 .f32) : FVec F S16x2048x16x64 .f32 :=
  Host.divf (mulf (shapeCast S16x2048x16x64 (extractStridedSlice S16x2048x1024 ![0, 0, 0] y slices_S16x2048x1536_S16x2048x1024_0_0_0) shapeCasts_S16x2048x1024_S16x2048x16x64)
      (broadcastInDim S16x2048x16x64 ![] bcast_S_S16x2048x16x64 (constant S_ .f32 0x3E000000#32)))
    (broadcastInDim S16x2048x16x64 ![] bcast_S_S16x2048x16x64 (Host.log (constant S_ .f32 0x40000000#32)))

/-- The keys' columns. -/
def keys (y : FVec F S16x2048x1536 .f32) : FVec F S16x2048x4x64 .f32 :=
  shapeCast S16x2048x4x64 (extractStridedSlice S16x2048x256 ![0, 0, 1024] y slices_S16x2048x1536_S16x2048x256_0_0_1024) shapeCasts_S16x2048x256_S16x2048x4x64

/-- The values' columns. -/
def vals (y : FVec F S16x2048x1536 .f32) : FVec F S16x2048x4x64 .f32 :=
  shapeCast S16x2048x4x64 (extractStridedSlice S16x2048x256 ![0, 0, 1280] y slices_S16x2048x1536_S16x2048x256_0_0_1280) shapeCasts_S16x2048x256_S16x2048x4x64

/-- Heads before rows, as bf16. -/
def headsQ (x : FVec F S16x2048x16x64 .f32) : Vec F S16x16x2048x64 .bf16 :=
  truncf .bf16 (transpose S16x16x2048x64 [0, 2, 1, 3] x transposes_S16x2048x16x64_S16x16x2048x64_0_2_1_3 : FVec F S16x16x2048x64 .f32) bitsLt_bf16_f32
def headsK (x : FVec F S16x2048x4x64 .f32) : Vec F S16x4x2048x64 .bf16 :=
  truncf .bf16 (transpose S16x4x2048x64 [0, 2, 1, 3] x transposes_S16x2048x4x64_S16x4x2048x64_0_2_1_3 : FVec F S16x4x2048x64 .f32) bitsLt_bf16_f32

/-- A value's lanes, two runs of ones, the lanes again; heads before rows, as bf16. -/
def headsV (x : FVec F S16x2048x4x64 .f32) : Vec F S16x4x2048x256 .bf16 :=
  truncf .bf16 (transpose S16x4x2048x256 [0, 2, 1, 3] (concatenate S16x2048x4x256 3 [⟨S16x2048x4x64, x⟩,
      ⟨S16x2048x4x64, broadcastInDim S16x2048x4x64 ![] bcast_S_S16x2048x4x64 (constant S_ .f32 0x3F800000#32)⟩,
      ⟨S16x2048x4x64, broadcastInDim S16x2048x4x64 ![] bcast_S_S16x2048x4x64 (constant S_ .f32 0x3F800000#32)⟩, ⟨S16x2048x4x64, x⟩]
    concatenates_S16x2048x4x64_S16x2048x4x64_S16x2048x4x64_S16x2048x4x64_S16x2048x4x256_d3) transposes_S16x2048x4x256_S16x4x2048x256_0_2_1_3 : FVec F S16x4x2048x256 .f32) bitsLt_bf16_f32

variable (m : (ℓ : Loc nD τ sig) → Buf (Elt F) ℓ) (c : Dev nD)

/-- The projections of the reference's arguments. -/
def ys : FVec F S16x2048x1536 .f32 :=
  projected (normed (m ((c.tc : Thread nD τ).loc main_arg0)) (m ((c.tc : Thread nD τ).loc main_arg1)) (m ((c.tc : Thread nD τ).loc main_arg2))) (m ((c.tc : Thread nD τ).loc main_arg3))

/-- The third result is these steps, one after another. -/
theorem res2 : Value.res_main_v51 m c = headsV (vals (ys m c)) := by
  unfold Value.res_main_v51
  rfl

/-- The reference ends with these three results and its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v47) = headsQ (queries (ys m c))
      ∧ r.2.mem ((c.tc : Thread nD τ).loc main_v49) = headsK (keys (ys m c))
      ∧ r.2.mem ((c.tc : Thread nD τ).loc main_v51) = headsV (vals (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans (res2 m c), (h c).2.2.2⟩) (Value.run m ρ)
end

/-! ## Read at an index -/

/-- Equal numbers name one lane. -/
theorem lane {n : Nat} (f : Fin n → EReal) {a b : Nat} (h : a = b) (ha : a < n) (hb : b < n) : f ⟨a, ha⟩ = f ⟨b, hb⟩ := by
  subst h; rfl

theorem rms_apply (x : FVec Ideal S16x2048x1024 .f32) (b : Fin 16) (n : Fin 2048) (k : Fin 1024) :
    rms x (ix3 b n k) = Ideal.rsqrt (Ideal.div (∑ l, x (ix3 b n l) * x (ix3 b n l)) (Ideal.ofBits .f32 0x44800000#32) + Ideal.ofBits .f32 0x358637BD#32) := by
  pointwise [rms]

theorem gains_apply (g : FVec Ideal S4x1x1024 .f32) (b : Fin 16) (n : Fin 2048) (k : Fin 1024) : gains g (ix3 b n k) = g (ix3 2 0 k) := by
  pointwise [gains]

theorem mods_apply (md : FVec Ideal S576x1x1024 .f32) (b : Fin 16) (s : Fin 6) (k : Fin 1024) :
    mods md (ix3 b s k) = md (ix3 ⟨288 + b.val * 6 + s.val, by omega⟩ 0 k) := by
  pointwise [mods]

theorem shifts_apply (d : FVec Ideal S16x6x1024 .f32) (b : Fin 16) (k : Fin 1024) : shifts d (ix3 b 0 k) = d (ix3 b 0 k) := by
  pointwise [shifts]

theorem scales_apply (d : FVec Ideal S16x6x1024 .f32) (b : Fin 16) (k : Fin 1024) : scales d (ix3 b 0 k) = d (ix3 b 1 k) := by
  pointwise [scales]

theorem normed_apply (x : FVec Ideal S16x2048x1024 .f32) (md : FVec Ideal S576x1x1024 .f32) (g : FVec Ideal S4x1x1024 .f32) (b : Fin 16) (n : Fin 2048) (k : Fin 1024) :
    normed x md g (ix3 b n k) = x (ix3 b n k) * rms x (ix3 b n k) * gains g (ix3 b n k) * (Ideal.ofBits .f32 0x3F800000#32 + scales (mods md) (ix3 b 0 k)) + shifts (mods md) (ix3 b 0 k) := by
  pointwise [normed]

theorem projected_apply (h : FVec Ideal S16x2048x1024 .f32) (w : FVec Ideal S4x1024x1536 .f32) (b : Fin 16) (n : Fin 2048) (j : Fin 1536) :
    projected h w (ix3 b n j) = ∑ k : Fin 1024, h (ix3 b n k) * w (ix3 2 k j) := by
  pointwise [projected]

theorem queries_apply (y : FVec Ideal S16x2048x1536 .f32) (b : Fin 16) (n : Fin 2048) (h : Fin 16) (d : Fin 64) :
    queries y (ix4 b n h d) = Ideal.div (y (ix3 b n ⟨h.val * 64 + d.val, by omega⟩) * Ideal.ofBits .f32 0x3E000000#32) (Ideal.log (Ideal.ofBits .f32 0x40000000#32)) := by
  pointwise [queries]

theorem keys_apply (y : FVec Ideal S16x2048x1536 .f32) (b : Fin 16) (n : Fin 2048) (h : Fin 4) (d : Fin 64) :
    keys y (ix4 b n h d) = y (ix3 b n ⟨1024 + (h.val * 64 + d.val), by omega⟩) := by
  pointwise [keys]

theorem vals_apply (y : FVec Ideal S16x2048x1536 .f32) (b : Fin 16) (n : Fin 2048) (h : Fin 4) (d : Fin 64) :
    vals y (ix4 b n h d) = y (ix3 b n ⟨1280 + (h.val * 64 + d.val), by omega⟩) := by
  pointwise [vals]

theorem headsQ_apply (x : FVec Ideal S16x2048x16x64 .f32) (b : Fin 16) (h : Fin 16) (n : Fin 2048) (d : Fin 64) : headsQ x (ix4 b h n d) = x (ix4 b n h d) := by
  pointwise [headsQ]

theorem headsK_apply (x : FVec Ideal S16x2048x4x64 .f32) (b : Fin 16) (h : Fin 4) (n : Fin 2048) (d : Fin 64) : headsK x (ix4 b h n d) = x (ix4 b n h d) := by
  pointwise [headsK]

theorem headsV_apply (x : FVec Ideal S16x2048x4x64 .f32) (b : Fin 16) (h : Fin 4) (n : Fin 2048) (l : Fin 256) (r : EReal)
    (h0 : ∀ e : l.val < 64, x (ix4 b n h ⟨l.val, e⟩) = r) (h1 : 64 ≤ l.val → l.val < 192 → 1 = r) (h2 : ∀ e : 192 ≤ l.val, x (ix4 b n h ⟨l.val - 192, by omega⟩) = r) :
    headsV x (ix4 b h n l) = r := by
  pointwise [headsV]
  split_ifs <;> first
    | exact h1 (by omega) (by omega)
    | exact h0 (by omega)
    | exact Eq.trans (congrArg (fun e => x (ix4 b n h e)) (Fin.ext (by first | omega | (simp only; omega)))) (h2 (by omega))

end Cert.Reference5Ideal.Hand

end
-- ==== Proof.PlainEquation.lean ====
/-
  The arrays of the projection without rotary embedding are its reference's results.
-/
module

public import proofs.«01_k».proof.Proof.PlainArrays
public import proofs.«01_k».proof.Proof.RefPlain
public import proofs.«01_k».proof.Proof.QkvEquation

@[expose] public section

set_option maxRecDepth 16384

noncomputable section

namespace Cert.Plain

open Idealize.ShloMosaic Idealize.SL.Sem
open Cert.Kernel5Ideal

/-- Over eight and over the logarithm of two is times the kernel's factor. -/
theorem scale (a : EReal) : Ideal.div (a * Ideal.ofBits .f32 0x3E000000#32) (Ideal.log (Ideal.ofBits .f32 0x40000000#32)) = a * Hand.fac :=
  Cert.Qkv.scale_eq a

/-! ## The projections -/

section
variable (x : Vec Ideal S16x2048x1024 .f32) (md : Vec Ideal S576x1x1024 .f32) (g : Vec Ideal S4x1x1024 .f32) (w : Vec Ideal S4x1024x1536 .f32)

/-- The reference's projections. -/
def refY : FVec Ideal Cert.Reference5Ideal.S16x2048x1536 .f32 := Cert.Reference5Ideal.Hand.projected (Cert.Reference5Ideal.Hand.normed x md g) w

open Cert.Reference5Ideal.Hand in
/-- They are the kernel's. -/
theorem ys_apply (b : Fin 16) (n : Fin 2048) (j : Fin 1536) : refY x md g w (ix3 b n j) = Hand.prj x md g w b n j := by
  unfold refY
  rw [projected_apply]
  unfold Hand.prj Hand.proj
  refine Finset.sum_congr rfl fun k _ => ?_
  rw [normed_apply, rms_apply, gains_apply, scales_apply, shifts_apply, mods_apply, mods_apply]
  have e0 : (⟨288 + b.val * 6 + (0 : Fin 6).val, by show 288 + b.val * 6 + 0 < 576; omega⟩ : Fin 576) = Hand.shRow b := Fin.ext (by show 288 + b.val * 6 + 0 = 288 + 6 * b.val; omega)
  have e1 : (⟨288 + b.val * 6 + (1 : Fin 6).val, by show 288 + b.val * 6 + 1 < 576; omega⟩ : Fin 576) = Hand.scRow b := Fin.ext (by show 288 + b.val * 6 + 1 = 288 + 6 * b.val + 1; omega)
  rw [e0, e1]

open Cert.Reference5Ideal.Hand in
theorem query_at (b : Fin 16) (n : Fin 2048) (h : Fin 16) (d : Fin 64) :
    queries (refY x md g w) (ix4 b n h d) = Hand.prj x md g w b n ⟨64 * h.val + d.val, by omega⟩ * Hand.fac := by
  rw [queries_apply, scale, ys_apply]
  exact congrArg (fun j => Hand.prj x md g w b n j * Hand.fac) (Fin.ext (by show h.val * 64 + d.val = 64 * h.val + d.val; omega))

open Cert.Reference5Ideal.Hand in
theorem qp_eq : headsQ (queries (refY x md g w)) = Hand.QP x md g w := by
  funext z
  obtain ⟨b, h, n, d, rfl⟩ : ∃ (b : Fin 16) (h : Fin 16) (n : Fin 2048) (d : Fin 64), z = ix4 b h n d := ⟨z 0, z 1, z 2, z 3, eq_ix4 z⟩
  exact (headsQ_apply _ b h n d).trans (query_at x md g w b n h d)

open Cert.Reference5Ideal.Hand in
theorem ky_eq : headsK (keys (refY x md g w)) = Hand.KY x md g w := by
  funext z
  obtain ⟨b, h, n, d, rfl⟩ : ∃ (b : Fin 16) (h : Fin 4) (n : Fin 2048) (d : Fin 64), z = ix4 b h n d := ⟨z 0, z 1, z 2, z 3, eq_ix4 z⟩
  refine (headsK_apply _ b h n d).trans ((keys_apply _ b n h d).trans ((ys_apply x md g w b n _).trans ?_))
  exact congrArg (fun j => Hand.prj x md g w b n j) (Fin.ext (by show 1024 + (h.val * 64 + d.val) = 1024 + 64 * h.val + d.val; omega))

open Cert.Reference5Ideal.Hand in
theorem va_eq : headsV (vals (refY x md g w)) = Hand.VA x md g w := by
  funext z
  obtain ⟨b, h, n, l, rfl⟩ : ∃ (b : Fin 16) (h : Fin 4) (n : Fin 2048) (l : Fin 256), z = ix4 b h n l := ⟨z 0, z 1, z 2, z 3, eq_ix4 z⟩
  show _ = Hand.vlane (fun j => Hand.prj x md g w b n j) h l
  refine headsV_apply _ b h n l _ (fun e => ?_) (fun e e' => ?_) (fun e => ?_)
  · refine ((vals_apply _ b n h _).trans (ys_apply x md g w b n _)).trans ?_
    refine Eq.trans ?_ (if_pos e).symm
    exact congrArg (fun j => Hand.prj x md g w b n j) (Fin.ext (by show 1280 + (h.val * 64 + l.val) = (1280 + 64 * h.val + l.val) % 1536; omega))
  · exact ((if_neg (by omega)).trans (if_pos e')).symm
  · refine ((vals_apply _ b n h _).trans (ys_apply x md g w b n _)).trans ?_
    refine Eq.trans ?_ ((if_neg (by omega)).trans (if_neg (by omega))).symm
    exact congrArg (fun j => Hand.prj x md g w b n j) (Fin.ext (by show 1280 + (h.val * 64 + (l.val - 192)) = 1280 + 64 * h.val + (l.val - 192); omega))
end

end Cert.Plain

end
-- ==== Proof.NormBlock.lean ====
/-
  What the projection kernel of the second layer computes at one point of its grid: the rows of a block, normalised, scaled and
  shifted, times the weights; then, column block by column block of 128 lanes, two heads' queries, keys or values at a time, the
  queries and the keys normalised head by head.
-/
module

public import proofs.«01_k».proof.Proof.Gen.Kernel6Ideal.Value
public import Idealize.ShloMosaic.Lib.Pointwise

@[expose] public section

set_option maxRecDepth 16384

noncomputable section

namespace Cert.Kernel6Ideal.Hand

open Cert.Kernel6Ideal Cert.Kernel6Ideal.Gen Idealize.ShloMosaic Idealize.ShloMosaic.TcCoe Idealize.SL.Sem

section
variable {F : FTy → Type} [FloatOps F] [Named F]

/-- The kernel's factor on the queries. -/
def factor : F .f32 := Named.named κ "attn_scale" 0x3E38AA3B#32

/-- The column block of 128 lanes that begins at lane `o`. -/
def cols (o : Nat) (hs : S512x1536.Slices ![0, o] S512x128) (y : FVec F S512x1536 .f32) : FVec F S512x128 .f32 :=
  extractStridedSlice S512x128 ![0, o] y hs

/-- A column block, each lane over its head's root mean square and times its gain: the squares are summed over the lanes of a
    head by a product with `b`, in two parts. -/
def normal (v : FVec F S512x128 .f32) (b : FVec F S128x128 .bf16) (g : FVec F S1x128 .f32) : FVec F S512x128 .f32 :=
  mulf (mulf v (rsqrt (addf (mulf (addf
        (matmul dot_S512x128_S128x128_S512x128_1_0_0_1_n_n none (truncf .bf16 (mulf v v) bitsLt_bf16_f32 : FVec F S512x128 .bf16) b (constant S512x128 .f32 0x00000000#32))
        (matmul dot_S512x128_S128x128_S512x128_1_0_0_1_n_n none (truncf .bf16 (subf (mulf v v) (extf .f32 (truncf .bf16 (mulf v v) bitsLt_bf16_f32 : FVec F S512x128 .bf16) bitsLt_bf16_f32)) bitsLt_bf16_f32 : FVec F S512x128 .bf16) b (constant S512x128 .f32 0x00000000#32)))
      (broadcast S512x128 (Scalar.ofBits .f32 0x3C800000#32))) (broadcast S512x128 (Scalar.ofBits .f32 0x358637BD#32)))))
    (broadcastTo S512x128 (shapeCast S1x128 g shapeCasts_S1x128_S1x128) broadcasts_S1x128_S512x128)

/-- A column block times the factor. -/
def scaled (v : FVec F S512x128 .f32) : FVec F S512x128 .f32 := mulf v (broadcast S512x128 factor)

/-- A column block's rotary embedding, by the tables of cosines and signed sines. -/
def turned (v c s : FVec F S512x128 .f32) : FVec F S512x128 .f32 :=
  addf (mulf v (shapeCast S512x128 c shapeCasts_S512x128_S512x128))
    (mulf (select (broadcastTo S512x128 (shapeCast S1x128 k0_pay3 shapeCasts_S1x128_S1x128) broadcasts_S1x128_S512x128)
        (dynamicRotate 1 112#32 none v rotates_S512x128_d1) (dynamicRotate 1 16#32 none v rotates_S512x128_d1))
      (shapeCast S512x128 s shapeCasts_S512x128_S512x128))

/-- The first head of a column block, as a piece of an output block. -/
def fst (v : FVec F S512x128 .f32) : FVec F S1x1x512x64 .bf16 :=
  shapeCast S1x1x512x64 (truncf .bf16 (extractStridedSlice S512x64 ![0, 0] v slices_S512x128_o0_0_S512x64 : FVec F S512x64 .f32) bitsLt_bf16_f32 : FVec F S512x64 .bf16) shapeCasts_S512x64_S1x1x512x64

/-- The second head of a column block. -/
def snd (v : FVec F S512x128 .f32) : FVec F S1x1x512x64 .bf16 :=
  shapeCast S1x1x512x64 (truncf .bf16 (extractStridedSlice S512x64 ![0, 64] v slices_S512x128_o0_64_S512x64 : FVec F S512x64 .f32) bitsLt_bf16_f32 : FVec F S512x64 .bf16) shapeCasts_S512x64_S1x1x512x64

/-- A column block with ones in its high lanes. -/
def thenOnes (a : FVec F S512x128 .f32) : FVec F S512x128 .f32 :=
  select (broadcastTo S512x128 (shapeCast S1x128 k0_pay86 shapeCasts_S1x128_S1x128) broadcasts_S1x128_S512x128) a
    (broadcast S512x128 (Scalar.ofBits .f32 0x3F800000#32))

/-- A column block with ones in its low lanes. -/
def onesThen (b : FVec F S512x128 .f32) : FVec F S512x128 .f32 :=
  select (broadcastTo S512x128 (shapeCast S1x128 k0_pay86 shapeCasts_S1x128_S1x128) broadcasts_S1x128_S512x128)
    (broadcast S512x128 (Scalar.ofBits .f32 0x3F800000#32)) b

/-- Two column blocks side by side, as a piece of the values' output block. -/
def beside (p q : FVec F S512x128 .f32) : FVec F S1x1x512x256 .bf16 :=
  shapeCast S1x1x512x256 (truncf .bf16 (concatenate S512x256 1 [⟨S512x128, p⟩, ⟨S512x128, q⟩] concatenates_S512x128_S512x128_S512x256_d1 : FVec F S512x256 .f32) bitsLt_bf16_f32 : FVec F S512x256 .bf16) shapeCasts_S512x256_S1x1x512x256

/-- The lanes `a | 1 | 1 | b` of a head's values, `a` from the low and `b` from the high lanes of two column blocks. -/
def vrow (a b : FVec F S512x128 .f32) : FVec F S1x1x512x256 .bf16 := beside (thenOnes a) (onesThen b)

/-- A column block with its halves exchanged. -/
def swapped (v : FVec F S512x128 .f32) : FVec F S512x128 .f32 := dynamicRotate 1 64#32 none v rotates_S512x128_d1
end

/-- The factor on the queries, as an ideal number. -/
def fac : EReal := factor (F := Ideal)

/-- One row of the normalised, scaled and shifted input times one column of the weights. -/
def proj (x g sh sc w : Fin 1024 → EReal) : EReal :=
  ∑ k : Fin 1024, (x k * Ideal.rsqrt (Ideal.div (∑ l, x l * x l) (Ideal.ofBits .f32 0x44800000#32) + Ideal.ofBits .f32 0x358637BD#32) * g k
    * (Ideal.ofBits .f32 0x3F800000#32 + sc k) + sh k) * w k

theorem projected (v0 : Vec Ideal S1x512x1024 .f32) (v2 v4 v6 : Vec Ideal S1x1x1024 .f32) (v27 : Vec Ideal S1024x1536 .bf16) (i : Fin 512) (j : Fin 1536) :
    k0_pay2 v0 v2 v4 v6 v27 (ix2 i j) = proj (fun k => v0 (ix3 0 i k)) (fun k => v2 (ix3 0 0 k)) (fun k => v4 (ix3 0 0 k)) (fun k => v6 (ix3 0 0 k)) (fun k => v27 (ix2 k j)) := by
  pointwise [k0_pay2, proj]

theorem cols_apply (o : Nat) (hs : S512x1536.Slices ![0, o] S512x128) (y : FVec Ideal S512x1536 .f32) (i : Fin 512) (j : Fin 128) (h : o + j.val < 1536) :
    cols o hs y (ix2 i j) = y (ix2 i ⟨o + j.val, h⟩) := by
  pointwise [cols]

theorem scaled_apply (v : FVec Ideal S512x128 .f32) (i : Fin 512) (j : Fin 128) : scaled v (ix2 i j) = v (ix2 i j) * fac := by
  pointwise [scaled, fac]

/-- Lane `j` of a normalised row of 128 lanes. -/
def normAt (v g : Fin 128 → EReal) (b : Fin 128 → Fin 128 → EReal) (j : Fin 128) : EReal :=
  v j * Ideal.rsqrt ((∑ l, v l * v l * b l j + ∑ l, (v l * v l - v l * v l) * b l j) * Ideal.ofBits .f32 0x3C800000#32 + Ideal.ofBits .f32 0x358637BD#32) * g j

theorem normal_apply (v : FVec Ideal S512x128 .f32) (b : FVec Ideal S128x128 .bf16) (g : FVec Ideal S1x128 .f32) (i : Fin 512) (j : Fin 128) :
    normal v b g (ix2 i j) = normAt (fun j => v (ix2 i j)) (fun j => g (ix2 0 j)) (fun l j => b (ix2 l j)) j := by
  pointwise [normal, normAt]

theorem normal_at (v : FVec Ideal S512x128 .f32) (b : FVec Ideal S128x128 .bf16) (g : FVec Ideal S1x128 .f32) (i : Fin 512) (j : Fin 128) (w : Fin 128 → EReal) (hw : ∀ j, v (ix2 i j) = w j) (j' : Fin 128) (hj : j = j') :
    normal v b g (ix2 i j) = normAt w (fun j => g (ix2 0 j)) (fun l j => b (ix2 l j)) j' := by
  subst hj
  rw [normal_apply, show (fun j => v (ix2 i j)) = w from funext hw]

theorem fst_apply (v : FVec Ideal S512x128 .f32) (i : Fin 512) (d : Fin 64) : fst v (ix4 0 0 i d) = v (ix2 i ⟨d.val, by omega⟩) := by
  pointwise [fst]

theorem snd_apply (v : FVec Ideal S512x128 .f32) (i : Fin 512) (d : Fin 64) : snd v (ix4 0 0 i d) = v (ix2 i ⟨64 + d.val, by omega⟩) := by
  pointwise [snd]

/-- The lanes whose partner lies 16 lanes up. -/
theorem mask_apply : ∀ j : Fin 128, k0_pay3 (ix2 0 j) = if j.val % 32 < 16 then 1#1 else 0#1 := by
  decide +kernel

/-- The first 64 lanes of a column block. -/
theorem low_apply : ∀ j : Fin 128, k0_pay86 (ix2 0 j) = if j.val < 64 then 1#1 else 0#1 := by
  decide +kernel

theorem turned_apply (v c s : FVec Ideal S512x128 .f32) (i : Fin 512) (j : Fin 128) :
    turned v c s (ix2 i j) = v (ix2 i j) * c (ix2 i j)
      + (if j.val % 32 < 16 then v (ix2 i ⟨(j.val + 16) % 128, by omega⟩) else v (ix2 i ⟨(j.val + 112) % 128, by omega⟩)) * s (ix2 i j) := by
  pointwise [turned]
  rw [mask_apply]
  by_cases h : j.val % 32 < 16
  · rw [if_pos h, if_pos h, show (⟨(j.val + 128 - 112) % 128, by omega⟩ : Fin 128) = ⟨(j.val + 16) % 128, by omega⟩ from Fin.ext (by simp only; omega)]
    rfl
  · rw [if_neg h, if_neg h, show (⟨(j.val + 128 - 16) % 128, by omega⟩ : Fin 128) = ⟨(j.val + 112) % 128, by omega⟩ from Fin.ext (by simp only; omega)]
    rfl

theorem swapped_apply (v : FVec Ideal S512x128 .f32) (i : Fin 512) (j : Fin 128) :
    swapped v (ix2 i j) = v (ix2 i ⟨(j.val + 64) % 128, by omega⟩) := by
  pointwise [swapped]
  exact congrArg v (congrArg (ix2 i) (Fin.ext (by simp only; omega)))

theorem thenOnes_apply (a : FVec Ideal S512x128 .f32) (i : Fin 512) (j : Fin 128) :
    thenOnes a (ix2 i j) = if j.val < 64 then a (ix2 i j) else 1 := by
  pointwise [thenOnes]
  rw [low_apply]
  split <;> rfl

theorem onesThen_apply (a : FVec Ideal S512x128 .f32) (i : Fin 512) (j : Fin 128) :
    onesThen a (ix2 i j) = if j.val < 64 then 1 else a (ix2 i j) := by
  pointwise [onesThen]
  rw [low_apply]
  split <;> rfl

theorem beside_left (p q : FVec Ideal S512x128 .f32) (i : Fin 512) (l : Fin 128) : beside p q (ix4 0 0 i ⟨l.val, by omega⟩) = p (ix2 i l) := by
  pointwise [beside]

theorem beside_right (p q : FVec Ideal S512x128 .f32) (i : Fin 512) (l : Fin 128) : beside p q (ix4 0 0 i ⟨128 + l.val, by omega⟩) = q (ix2 i l) := by
  pointwise [beside]

/-- A head's values, lane by lane. -/
theorem vrow_apply (a b : FVec Ideal S512x128 .f32) (i : Fin 512) (l : Fin 256) :
    vrow a b (ix4 0 0 i l) = if h : l.val < 64 then a (ix2 i ⟨l.val, by omega⟩) else if h' : l.val < 192 then 1 else b (ix2 i ⟨l.val - 128, by omega⟩) := by
  unfold vrow
  by_cases h : l.val < 128
  · have e := beside_left (thenOnes a) (onesThen b) i ⟨l.val, h⟩
    rw [show (⟨(⟨l.val, h⟩ : Fin 128).val, by omega⟩ : Fin 256) = l from rfl] at e
    rw [e, thenOnes_apply]
    by_cases h1 : l.val < 64
    · rw [if_pos h1, dif_pos h1]
    · rw [if_neg h1, dif_neg h1, dif_pos (by omega)]
  · have e := beside_right (thenOnes a) (onesThen b) i ⟨l.val - 128, by omega⟩
    rw [show (⟨128 + (⟨l.val - 128, by omega⟩ : Fin 128).val, by omega⟩ : Fin 256) = l from Fin.ext (by simp only; omega)] at e
    rw [e, onesThen_apply, dif_neg (by omega)]
    by_cases h1 : l.val < 192
    · rw [if_pos (by simp only; omega), dif_pos h1]
    · rw [if_neg (by simp only; omega), dif_neg h1]

/-! ## The output blocks -/

/-- The plain queries of a block, head by head. -/
def Qp (y : FVec Ideal S512x1536 .f32) (b : FVec Ideal S128x128 .bf16) (g : FVec Ideal S1x128 .f32) : Vec Ideal S1x16x512x64 .bf16 :=
  fun z => normAt (fun j => y (ix2 (z 2) ⟨128 * ((z 1).val / 2) + j.val, by have h1 : (z 1).val < 16 := (z 1).isLt; omega⟩)) (fun j => g (ix2 0 j)) (fun l j => b (ix2 l j)) ⟨64 * ((z 1).val % 2) + (z 3).val, by have h3 : (z 3).val < 64 := (z 3).isLt; omega⟩ * fac

/-- Lane `j` of a column block, turned by the tables. -/
def turn (v c s : Fin 128 → EReal) (j : Fin 128) : EReal :=
  v j * c j + (if j.val % 32 < 16 then v ⟨(j.val + 16) % 128, by omega⟩ else v ⟨(j.val + 112) % 128, by omega⟩) * s j

/-- The rotated queries of a block, head by head. -/
def Qr (y : FVec Ideal S512x1536 .f32) (b : FVec Ideal S128x128 .bf16) (g : FVec Ideal S1x128 .f32) (c s : FVec Ideal S512x128 .f32) : Vec Ideal S1x16x512x64 .bf16 :=
  fun z => turn (fun j => normAt (fun j => y (ix2 (z 2) ⟨128 * ((z 1).val / 2) + j.val, by have h1 : (z 1).val < 16 := (z 1).isLt; omega⟩)) (fun j => g (ix2 0 j)) (fun l j => b (ix2 l j)) j * fac)
    (fun j => c (ix2 (z 2) j)) (fun j => s (ix2 (z 2) j)) ⟨64 * ((z 1).val % 2) + (z 3).val, by have h3 : (z 3).val < 64 := (z 3).isLt; omega⟩

/-- The rotated keys of a block, head by head. -/
def Kr (y : FVec Ideal S512x1536 .f32) (b : FVec Ideal S128x128 .bf16) (g : FVec Ideal S1x128 .f32) (c s : FVec Ideal S512x128 .f32) : Vec Ideal S1x4x512x64 .bf16 :=
  fun z => turn (normAt (fun j => y (ix2 (z 2) ⟨1024 + 128 * ((z 1).val / 2) + j.val, by have h1 : (z 1).val < 4 := (z 1).isLt; omega⟩)) (fun j => g (ix2 0 j)) (fun l j => b (ix2 l j)))
    (fun j => c (ix2 (z 2) j)) (fun j => s (ix2 (z 2) j)) ⟨64 * ((z 1).val % 2) + (z 3).val, by have h3 : (z 3).val < 64 := (z 3).isLt; omega⟩

/-- Lane `l` of value head `h` from a row of projections: the head, two runs of ones, the head again. -/
def vlane (f : Fin 1536 → EReal) (h : Fin 4) (l : Fin 256) : EReal :=
  if l.val < 64 then f ⟨(1280 + 64 * h.val + l.val) % 1536, by omega⟩ else if l.val < 192 then 1 else f ⟨1280 + 64 * h.val + (l.val - 192), by omega⟩

/-- The values of a block, head by head, with the two runs of ones between. -/
def Va (y : FVec Ideal S512x1536 .f32) : Vec Ideal S1x4x512x256 .bf16 :=
  fun z => vlane (fun j => y (ix2 (z 2) j)) (z 1) (z 3)

theorem emb_q (h : Nat) (hh : h < 16) (hb : ∀ a, (![0, h, 0, 0] : Fin 4 → Nat) a + S1x1x512x64.size a ≤ S1x16x512x64.size a) (i : Fin 512) (d : Fin 64) :
    (Rect.unit (s := S1x16x512x64) ![0, h, 0, 0] S1x1x512x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_k (h : Nat) (hh : h < 4) (hb : ∀ a, (![0, h, 0, 0] : Fin 4 → Nat) a + S1x1x512x64.size a ≤ S1x4x512x64.size a) (i : Fin 512) (d : Fin 64) :
    (Rect.unit (s := S1x4x512x64) ![0, h, 0, 0] S1x1x512x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_v (h : Nat) (hh : h < 4) (hb : ∀ a, (![0, h, 0, 0] : Fin 4 → Nat) a + S1x1x512x256.size a ≤ S1x4x512x256.size a) (i : Fin 512) (d : Fin 256) :
    (Rect.unit (s := S1x4x512x256) ![0, h, 0, 0] S1x1x512x256.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

/-- A piece's index is a row and a lane. -/
theorem split64 (x : S1x1x512x64.Idx) : ∃ (i : Fin 512) (d : Fin 64), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

theorem split256 (x : S1x1x512x256.Idx) : ∃ (i : Fin 512) (d : Fin 256), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

/-- Two sums of natural numbers that are equal name one lane. -/
theorem lane {n : Nat} (f : Fin n → EReal) {a b : Nat} (h : a = b) (ha : a < n) (hb : b < n) : f ⟨a, ha⟩ = f ⟨b, hb⟩ := by
  subst h; rfl

section
variable (y : FVec Ideal S512x1536 .f32) (b : FVec Ideal S128x128 .bf16) (g : FVec Ideal S1x128 .f32) (c s : FVec Ideal S512x128 .f32)

theorem piece_qp_fst (n h o : Nat) (e : h = 2 * n ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    fst (scaled (normal (cols o hs y) b g)) x = Qp y b g ((Rect.unit (s := S1x16x512x64) ![0, h, 0, 0] S1x1x512x64.size hb).emb x) := by
  obtain ⟨i, d, rfl⟩ := split64 x
  rw [emb_q h hh, fst_apply, scaled_apply]
  show _ = normAt (fun j => y (ix2 i ⟨128 * (h / 2) + j.val, by omega⟩)) (fun j => g (ix2 0 j)) (fun l j => b (ix2 l j)) ⟨64 * (h % 2) + d.val, by omega⟩ * fac
  refine congrArg (· * fac) (normal_at _ b g i _ _ (fun j => ?_) _ (Fin.ext ?_))
  · rw [cols_apply _ _ _ _ _ (by first | omega | (simp only; omega))]
    exact lane (fun j => y (ix2 i j)) (by show o + j.val = 128 * (h / 2) + j.val; omega) _ _
  · show d.val = 64 * (h % 2) + d.val; omega

theorem piece_qp_snd (n h o : Nat) (e : h = 2 * n + 1 ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    snd (scaled (normal (cols o hs y) b g)) x = Qp y b g ((Rect.unit (s := S1x16x512x64) ![0, h, 0, 0] S1x1x512x64.size hb).emb x) := by
  obtain ⟨i, d, rfl⟩ := split64 x
  rw [emb_q h hh, snd_apply, scaled_apply]
  show _ = normAt (fun j => y (ix2 i ⟨128 * (h / 2) + j.val, by omega⟩)) (fun j => g (ix2 0 j)) (fun l j => b (ix2 l j)) ⟨64 * (h % 2) + d.val, by omega⟩ * fac
  refine congrArg (· * fac) (normal_at _ b g i _ _ (fun j => ?_) _ (Fin.ext ?_))
  · rw [cols_apply _ _ _ _ _ (by first | omega | (simp only; omega))]
    exact lane (fun j => y (ix2 i j)) (by show o + j.val = 128 * (h / 2) + j.val; omega) _ _
  · show 64 + d.val = 64 * (h % 2) + d.val; omega

/-- A turned column block at a row and a lane. -/
theorem turned_turn (v c s : FVec Ideal S512x128 .f32) (i : Fin 512) (j : Fin 128) (w : Fin 128 → EReal) (hw : ∀ j, v (ix2 i j) = w j) (j' : Fin 128) (hj : j = j') :
    turned v c s (ix2 i j) = turn w (fun j => c (ix2 i j)) (fun j => s (ix2 i j)) j' := by
  subst hj
  rw [turned_apply]
  simp only [hw, turn]

theorem piece_qr_fst (n h o : Nat) (e : h = 2 * n ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    fst (turned (scaled (normal (cols o hs y) b g)) c s) x = Qr y b g c s ((Rect.unit (s := S1x16x512x64) ![0, h, 0, 0] S1x1x512x64.size hb).emb x) := by
  obtain ⟨i, d, rfl⟩ := split64 x
  rw [emb_q h hh, fst_apply]
  show _ = turn (fun j => normAt (fun j => y (ix2 i ⟨128 * (h / 2) + j.val, by omega⟩)) (fun j => g (ix2 0 j)) (fun l j => b (ix2 l j)) j * fac) (fun j => c (ix2 i j)) (fun j => s (ix2 i j)) ⟨64 * (h % 2) + d.val, by omega⟩
  refine turned_turn _ c s i _ _ (fun j => ?_) _ (Fin.ext ?_)
  · rw [scaled_apply]
    refine congrArg (· * fac) (normal_at _ b g i _ _ (fun j => ?_) _ rfl)
    rw [cols_apply _ _ _ _ _ (by first | omega | (simp only; omega))]
    exact lane (fun j => y (ix2 i j)) (by show o + j.val = 128 * (h / 2) + j.val; omega) _ _
  · show d.val = 64 * (h % 2) + d.val; omega

theorem piece_qr_snd (n h o : Nat) (e : h = 2 * n + 1 ∧ o = 128 * n) (hh : h < 16) (hs : S512x1536.Slices ![0, o] S512x128)
    (hb : ∀ a, (![0, h, 0, 0] : Fin 4 → Nat) a + S1x1x512x64.size a ≤ S1x16x512x64.size a) (x : S1x1x512x64.Idx) :
    snd (turned (scaled (normal (cols o hs y) b g)) c s) x = Qr y b g c s ((Rect.unit (s := S1x16x512x64) ![0, h, 0, 0] S1x1x512x64.size hb).emb x) := by
  obtain ⟨i, d, rfl⟩ := split64 x
  rw [emb_q h hh, snd_apply]
  show _ = turn (fun j => normAt (fun j => y (ix2 i ⟨128 * (h / 2) + j.val, by omega⟩)) (fun j => g (ix2 0 j)) (fun l j => b (ix2 l j)) j * fac) (fun j => c (ix2 i j)) (fun j => s (ix2 i j)) ⟨64 * (h % 2) + d.val, by omega⟩
  refine turned_turn _ c s i _ _ (fun j => ?_) _ (Fin.ext ?_)
  · rw [scaled_apply]
    refine congrArg (· * fac) (normal_at _ b g i _ _ (fun j => ?_) _ rfl)
    rw [cols_apply _ _ _ _ _ (by first | omega | (simp only; omega))]
    exact lane (fun j => y (ix2 i j)) (by show o + j.val = 128 * (h / 2) + j.val; omega) _ _
  · show 64 + d.val = 64 * (h % 2) + d.val; omega

theorem piece_kr_fst (n h o : Nat) (e : h = 2 * n ∧ o = 1024 + 128 * n) (hh : h < 4) (hs : S512x1536.Slices ![0, o] S512x128)
    (hb : ∀ a, (![0, h, 0, 0] : Fin 4 → Nat) a + S1x1x512x64.size a ≤ S1x4x512x64.size a) (x : S1x1x512x64.Idx) :
    fst (turned (normal (cols o hs y) b g) c s) x = Kr y b g c s ((Rect.unit (s := S1x4x512x64) ![0, h, 0, 0] S1x1x512x64.size hb).emb x) := by
  obtain ⟨i, d, rfl⟩ := split64 x
  rw [emb_k h hh, fst_apply]
  show _ = turn (normAt (fun j => y (ix2 i ⟨1024 + 128 * (h / 2) + j.val, by omega⟩)) (fun j => g (ix2 0 j)) (fun l j => b (ix2 l j))) (fun j => c (ix2 i j)) (fun j => s (ix2 i j)) ⟨64 * (h % 2) + d.val, by omega⟩
  refine turned_turn _ c s i _ _ (fun j => ?_) _ (Fin.ext ?_)
  · refine normal_at _ b g i _ _ (fun j => ?_) _ rfl
    rw [cols_apply _ _ _ _ _ (by first | omega | (simp only; omega))]
    exact lane (fun j => y (ix2 i j)) (by show o + j.val = 1024 + 128 * (h / 2) + j.val; omega) _ _
  · show d.val = 64 * (h % 2) + d.val; omega

theorem piece_kr_snd (n h o : Nat) (e : h = 2 * n + 1 ∧ o = 1024 + 128 * n) (hh : h < 4) (hs : S512x1536.Slices ![0, o] S512x128)
    (hb : ∀ a, (![0, h, 0, 0] : Fin 4 → Nat) a + S1x1x512x64.size a ≤ S1x4x512x64.size a) (x : S1x1x512x64.Idx) :
    snd (turned (normal (cols o hs y) b g) c s) x = Kr y b g c s ((Rect.unit (s := S1x4x512x64) ![0, h, 0, 0] S1x1x512x64.size hb).emb x) := by
  obtain ⟨i, d, rfl⟩ := split64 x
  rw [emb_k h hh, snd_apply]
  show _ = turn (normAt (fun j => y (ix2 i ⟨1024 + 128 * (h / 2) + j.val, by omega⟩)) (fun j => g (ix2 0 j)) (fun l j => b (ix2 l j))) (fun j => c (ix2 i j)) (fun j => s (ix2 i j)) ⟨64 * (h % 2) + d.val, by omega⟩
  refine turned_turn _ c s i _ _ (fun j => ?_) _ (Fin.ext ?_)
  · refine normal_at _ b g i _ _ (fun j => ?_) _ rfl
    rw [cols_apply _ _ _ _ _ (by first | omega | (simp only; omega))]
    exact lane (fun j => y (ix2 i j)) (by show o + j.val = 1024 + 128 * (h / 2) + j.val; omega) _ _
  · show 64 + d.val = 64 * (h % 2) + d.val; omega

theorem piece_va_fst (n h o : Nat) (e : h = 2 * n ∧ o = 1280 + 128 * n) (hh : h < 4) (hs : S512x1536.Slices ![0, o] S512x128)
    (hb : ∀ a, (![0, h, 0, 0] : Fin 4 → Nat) a + S1x1x512x256.size a ≤ S1x4x512x256.size a) (x : S1x1x512x256.Idx) :
    vrow (cols o hs y) (swapped (cols o hs y)) x = Va y ((Rect.unit (s := S1x4x512x256) ![0, h, 0, 0] S1x1x512x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, cols_apply _ _ _ _ _ (by first | omega | (simp only; omega))]
    exact lane (fun j => y (ix2 i j)) (by show o + l.val = (1280 + 64 * h + l.val) % 1536; omega) _ _
  · rw [dif_neg h1, if_neg h1]
    by_cases h2 : l.val < 192
    · rw [dif_pos h2, if_pos h2]
    · rw [dif_neg h2, if_neg h2, swapped_apply, cols_apply _ _ _ _ _ (by first | omega | (simp only; omega))]
      exact lane (fun j => y (ix2 i j)) (by show o + (l.val - 128 + 64) % 128 = 1280 + 64 * h + (l.val - 192); omega) _ _

theorem piece_va_snd (n h o : Nat) (e : h = 2 * n + 1 ∧ o = 1280 + 128 * n) (hh : h < 4) (hs : S512x1536.Slices ![0, o] S512x128)
    (hb : ∀ a, (![0, h, 0, 0] : Fin 4 → Nat) a + S1x1x512x256.size a ≤ S1x4x512x256.size a) (x : S1x1x512x256.Idx) :
    vrow (swapped (cols o hs y)) (cols o hs y) x = Va y ((Rect.unit (s := S1x4x512x256) ![0, h, 0, 0] S1x1x512x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, swapped_apply, cols_apply _ _ _ _ _ (by first | omega | (simp only; omega))]
    exact lane (fun j => y (ix2 i j)) (by show o + (l.val + 64) % 128 = (1280 + 64 * h + l.val) % 1536; omega) _ _
  · rw [dif_neg h1, if_neg h1]
    by_cases h2 : l.val < 192
    · rw [dif_pos h2, if_pos h2]
    · rw [dif_neg h2, if_neg h2, cols_apply _ _ _ _ _ (by first | omega | (simp only; omega))]
      exact lane (fun j => y (ix2 i j)) (by show o + (l.val - 128) = 1280 + 64 * h + (l.val - 192); omega) _ _
/-! Each output block is the list of its heads' pieces. -/

theorem canon_qp : View.canon [⟨r0_21, snd (scaled (normal (cols 896 slices_S512x1536_o0_896_S512x128 y) b g))⟩,
      ⟨r0_20, fst (scaled (normal (cols 896 slices_S512x1536_o0_896_S512x128 y) b g))⟩,
      ⟨r0_19, snd (scaled (normal (cols 768 slices_S512x1536_o0_768_S512x128 y) b g))⟩,
      ⟨r0_18, fst (scaled (normal (cols 768 slices_S512x1536_o0_768_S512x128 y) b g))⟩,
      ⟨r0_17, snd (scaled (normal (cols 640 slices_S512x1536_o0_640_S512x128 y) b g))⟩,
      ⟨r0_16, fst (scaled (normal (cols 640 slices_S512x1536_o0_640_S512x128 y) b g))⟩,
      ⟨r0_15, snd (scaled (normal (cols 512 slices_S512x1536_o0_512_S512x128 y) b g))⟩,
      ⟨r0_14, fst (scaled (normal (cols 512 slices_S512x1536_o0_512_S512x128 y) b g))⟩,
      ⟨r0_13, snd (scaled (normal (cols 384 slices_S512x1536_o0_384_S512x128 y) b g))⟩,
      ⟨r0_12, fst (scaled (normal (cols 384 slices_S512x1536_o0_384_S512x128 y) b g))⟩,
      ⟨r0_11, snd (scaled (normal (cols 256 slices_S512x1536_o0_256_S512x128 y) b g))⟩,
      ⟨r0_10, fst (scaled (normal (cols 256 slices_S512x1536_o0_256_S512x128 y) b g))⟩,
      ⟨r0_9, snd (scaled (normal (cols 128 slices_S512x1536_o0_128_S512x128 y) b g))⟩,
      ⟨r0_8, fst (scaled (normal (cols 128 slices_S512x1536_o0_128_S512x128 y) b g))⟩,
      ⟨r0_7, snd (scaled (normal (cols 0 slices_S512x1536_o0_0_S512x128 y) b g))⟩,
      ⟨r0_6, fst (scaled (normal (cols 0 slices_S512x1536_o0_0_S512x128 y) b g))⟩] = Qp y b g := by
  funext z
  refine View.canon_apply_of_pieces (Qp y b g) _ ?_ z (cover0_10 _ _ _ _ _ _ _ _ _ _ _ _ _ _ _ _ z)
  exact List.forall_mem_cons.2 ⟨piece_qp_snd y b g 7 15 896 (by omega) (by omega) _ (by decide), List.forall_mem_cons.2 ⟨piece_qp_fst y b g 7 14 896 (by omega) (by omega) _ (by decide), List.forall_mem_cons.2 ⟨piece_qp_snd y b g 6 13 768 (by omega) (by omega) _ (by decide), List.forall_mem_cons.2 ⟨piece_qp_fst y b g 6 12 768 (by omega) (by omega) _ (by decide), List.forall_mem_cons.2 ⟨piece_qp_snd y b g 5 11 640 (by omega) (by omega) _ (by decide), List.forall_mem_cons.2 ⟨piece_qp_fst y b g 5 10 640 (by omega) (by omega) _ (by decide), List.forall_mem_cons.2 ⟨piece_qp_snd y b g 4 9 512 (by omega) (by omega) _ (by decide), List.forall_mem_cons.2 ⟨piece_qp_fst y b g 4 8 512 (by omega) (by omega) _ (by decide), List.forall_mem_cons.2 ⟨piece_qp_snd y b g 3 7 384 (by omega) (by omega) _ (by decide), List.forall_mem_cons.2 ⟨piece_qp_fst y b g 3 6 384 (by omega) (by omega) _ (by decide), List.forall_mem_cons.2 ⟨piece_qp_snd y b g 2 5 256 (by omega) (by omega) _ (by decide), List.forall_mem_cons.2 ⟨piece_qp_fst y b g 2 4 256 (by omega) (by omega) _ (by decide), List.forall_mem_cons.2 ⟨piece_qp_snd y b g 1 3 128 (by omega) (by omega) _ (by decide), List.forall_mem_cons.2 ⟨piece_qp_fst y b g 1 2 128 (by omega) (by omega) _ (by decide), List.forall_mem_cons.2 ⟨piece_qp_snd y b g 0 1 0 (by omega) (by omega) _ (by decide), List.forall_mem_cons.2 ⟨piece_qp_fst y b g 0 0 0 (by omega) (by omega) _ (by decide), fun _ h => absurd h List.not_mem_nil⟩⟩⟩⟩⟩⟩⟩⟩⟩⟩⟩⟩⟩⟩⟩⟩

theorem canon_qr : View.canon [⟨r0_21, snd (turned (scaled (normal (cols 896 slices_S512x1536_o0_896_S512x128 y) b g)) c s)⟩,
      ⟨r0_20, fst (turned (scaled (normal (cols 896 slices_S512x1536_o0_896_S512x128 y) b g)) c s)⟩,
      ⟨r0_19, snd (turned (scaled (normal (cols 768 slices_S512x1536_o0_768_S512x128 y) b g)) c s)⟩,
      ⟨r0_18, fst (turned (scaled (normal (cols 768 slices_S512x1536_o0_768_S512x128 y) b g)) c s)⟩,
      ⟨r0_17, snd (turned (scaled (normal (cols 640 slices_S512x1536_o0_640_S512x128 y) b g)) c s)⟩,
      ⟨r0_16, fst (turned (scaled (normal (cols 640 slices_S512x1536_o0_640_S512x128 y) b g)) c s)⟩,
      ⟨r0_15, snd (turned (scaled (normal (cols 512 slices_S512x1536_o0_512_S512x128 y) b g)) c s)⟩,
      ⟨r0_14, fst (turned (scaled (normal (cols 512 slices_S512x1536_o0_512_S512x128 y) b g)) c s)⟩,
      ⟨r0_13, snd (turned (scaled (normal (cols 384 slices_S512x1536_o0_384_S512x128 y) b g)) c s)⟩,
      ⟨r0_12, fst (turned (scaled (normal (cols 384 slices_S512x1536_o0_384_S512x128 y) b g)) c s)⟩,
      ⟨r0_11, snd (turned (scaled (normal (cols 256 slices_S512x1536_o0_256_S512x128 y) b g)) c s)⟩,
      ⟨r0_10, fst (turned (scaled (normal (cols 256 slices_S512x1536_o0_256_S512x128 y) b g)) c s)⟩,
      ⟨r0_9, snd (turned (scaled (normal (cols 128 slices_S512x1536_o0_128_S512x128 y) b g)) c s)⟩,
      ⟨r0_8, fst (turned (scaled (normal (cols 128 slices_S512x1536_o0_128_S512x128 y) b g)) c s)⟩,
      ⟨r0_7, snd (turned (scaled (normal (cols 0 slices_S512x1536_o0_0_S512x128 y) b g)) c s)⟩,
      ⟨r0_6, fst (turned (scaled (normal (cols 0 slices_S512x1536_o0_0_S512x128 y) b g)) c s)⟩] = Qr y b g c s := by
  funext z
  refine View.canon_apply_of_pieces (Qr y b g c s) _ ?_ z (cover0_11 _ _ _ _ _ _ _ _ _ _ _ _ _ _ _ _ z)
  exact List.forall_mem_cons.2 ⟨piece_qr_snd y b g c s 7 15 896 (by omega) (by omega) _ (by decide), List.forall_mem_cons.2 ⟨piece_qr_fst y b g c s 7 14 896 (by omega) (by omega) _ (by decide), List.forall_mem_cons.2 ⟨piece_qr_snd y b g c s 6 13 768 (by omega) (by omega) _ (by decide), List.forall_mem_cons.2 ⟨piece_qr_fst y b g c s 6 12 768 (by omega) (by omega) _ (by decide), List.forall_mem_cons.2 ⟨piece_qr_snd y b g c s 5 11 640 (by omega) (by omega) _ (by decide), List.forall_mem_cons.2 ⟨piece_qr_fst y b g c s 5 10 640 (by omega) (by omega) _ (by decide), List.forall_mem_cons.2 ⟨piece_qr_snd y b g c s 4 9 512 (by omega) (by omega) _ (by decide), List.forall_mem_cons.2 ⟨piece_qr_fst y b g c s 4 8 512 (by omega) (by omega) _ (by decide), List.forall_mem_cons.2 ⟨piece_qr_snd y b g c s 3 7 384 (by omega) (by omega) _ (by decide), List.forall_mem_cons.2 ⟨piece_qr_fst y b g c s 3 6 384 (by omega) (by omega) _ (by decide), List.forall_mem_cons.2 ⟨piece_qr_snd y b g c s 2 5 256 (by omega) (by omega) _ (by decide), List.forall_mem_cons.2 ⟨piece_qr_fst y b g c s 2 4 256 (by omega) (by omega) _ (by decide), List.forall_mem_cons.2 ⟨piece_qr_snd y b g c s 1 3 128 (by omega) (by omega) _ (by decide), List.forall_mem_cons.2 ⟨piece_qr_fst y b g c s 1 2 128 (by omega) (by omega) _ (by decide), List.forall_mem_cons.2 ⟨piece_qr_snd y b g c s 0 1 0 (by omega) (by omega) _ (by decide), List.forall_mem_cons.2 ⟨piece_qr_fst y b g c s 0 0 0 (by omega) (by omega) _ (by decide), fun _ h => absurd h List.not_mem_nil⟩⟩⟩⟩⟩⟩⟩⟩⟩⟩⟩⟩⟩⟩⟩⟩

theorem canon_kr : View.canon [⟨r0_25, snd (turned (normal (cols 1152 slices_S512x1536_o0_1152_S512x128 y) b g) c s)⟩,
      ⟨r0_24, fst (turned (normal (cols 1152 slices_S512x1536_o0_1152_S512x128 y) b g) c s)⟩,
      ⟨r0_23, snd (turned (normal (cols 1024 slices_S512x1536_o0_1024_S512x128 y) b g) c s)⟩,
      ⟨r0_22, fst (turned (normal (cols 1024 slices_S512x1536_o0_1024_S512x128 y) b g) c s)⟩] = Kr y b g c s := by
  funext z
  refine View.canon_apply_of_pieces (Kr y b g c s) _ ?_ z (cover0_12 _ _ _ _ z)
  exact List.forall_mem_cons.2 ⟨piece_kr_snd y b g c s 1 3 1152 (by omega) (by omega) _ (by decide), List.forall_mem_cons.2 ⟨piece_kr_fst y b g c s 1 2 1152 (by omega) (by omega) _ (by decide), List.forall_mem_cons.2 ⟨piece_kr_snd y b g c s 0 1 1024 (by omega) (by omega) _ (by decide), List.forall_mem_cons.2 ⟨piece_kr_fst y b g c s 0 0 1024 (by omega) (by omega) _ (by decide), fun _ h => absurd h List.not_mem_nil⟩⟩⟩⟩

theorem canon_va : View.canon [⟨r0_29, vrow (swapped (cols 1408 slices_S512x1536_o0_1408_S512x128 y)) (cols 1408 slices_S512x1536_o0_1408_S512x128 y)⟩,
      ⟨r0_28, vrow (cols 1408 slices_S512x1536_o0_1408_S512x128 y) (swapped (cols 1408 slices_S512x1536_o0_1408_S512x128 y))⟩,
      ⟨r0_27, vrow (swapped (cols 1280 slices_S512x1536_o0_1280_S512x128 y)) (cols 1280 slices_S512x1536_o0_1280_S512x128 y)⟩,
      ⟨r0_26, vrow (cols 1280 slices_S512x1536_o0_1280_S512x128 y) (swapped (cols 1280 slices_S512x1536_o0_1280_S512x128 y))⟩] = Va y := by
  funext z
  refine View.canon_apply_of_pieces (Va y) _ ?_ z (cover0_13 _ _ _ _ z)
  exact List.forall_mem_cons.2 ⟨piece_va_snd y 1 3 1408 (by omega) (by omega) _ (by decide), List.forall_mem_cons.2 ⟨piece_va_fst y 1 2 1408 (by omega) (by omega) _ (by decide), List.forall_mem_cons.2 ⟨piece_va_snd y 0 1 1280 (by omega) (by omega) _ (by decide), List.forall_mem_cons.2 ⟨piece_va_fst y 0 0 1280 (by omega) (by omega) _ (by decide), fun _ h => absurd h List.not_mem_nil⟩⟩⟩⟩

end

/-- The projections of a block, from the blocks that the point reads. -/
theorem rows_apply (x0 : Vec Ideal S1x512x1024 .f32) (x1 x2 x3 : Vec Ideal S1x1x1024 .f32) (x4 : Vec Ideal S1024x1536 .bf16) (x5 x6 : Vec Ideal S512x128 .f32) (x7 x8 : Vec Ideal S1x128 .f32) (x9 : Vec Ideal S128x128 .bf16) (i : Fin 512) (j : Fin 1536) :
    k0_pay95 x0 x1 x2 x3 x4 x5 x6 x7 x8 x9 (ix2 i j) = proj (fun k => x0 (ix3 0 i k)) (fun k => x1 (ix3 0 0 k)) (fun k => x2 (ix3 0 0 k)) (fun k => x3 (ix3 0 0 k)) (fun k => x4 (ix2 k j)) := by
  show k0_pay2 (View.ld x0 r0_0) (View.ld x1 r0_1) (View.ld x2 r0_1) (View.ld x3 r0_1) (View.ld x4 r0_2) (ix2 i j) = _
  rw [projected]
  have e0 : ∀ k, View.ld x0 r0_0 (ix3 0 i k) = x0 (ix3 0 i k) := fun k => by pointwise []
  have e1 : ∀ (x : Vec Ideal S1x1x1024 .f32) k, View.ld x r0_1 (ix3 0 0 k) = x (ix3 0 0 k) := fun x k => by pointwise []
  have e4 : ∀ k, View.ld x4 r0_2 (ix2 k j) = x4 (ix2 k j) := fun k => by pointwise []
  exact congr (congr (congr (congr (congrArg proj (funext e0)) (funext (e1 x1))) (funext (e1 x2))) (funext (e1 x3))) (funext e4)

theorem table (x : Vec Ideal S512x128 .f32) : View.ld x r0_5 = x := by
  funext z
  rw [eq_ix2 z]
  pointwise []

theorem masks (x : Vec Ideal S128x128 .bf16) : View.ld x r0_3 = x := by
  funext z
  rw [eq_ix2 z]
  pointwise []

theorem gainRow (x : Vec Ideal S1x128 .f32) : View.ld x r0_4 = x := by
  funext z
  obtain ⟨a, j, rfl⟩ : ∃ (a : Fin 1) (j : Fin 128), z = ix2 a j := ⟨z 0, z 1, eq_ix2 z⟩
  obtain rfl : a = 0 := Subsingleton.elim _ _
  pointwise []

theorem out_qp (x0 : Vec Ideal S1x512x1024 .f32) (x1 x2 x3 : Vec Ideal S1x1x1024 .f32) (x4 : Vec Ideal S1024x1536 .bf16) (x5 x6 : Vec Ideal S512x128 .f32) (x7 x8 : Vec Ideal S1x128 .f32) (x9 : Vec Ideal S128x128 .bf16) : out0_10 x0 x1 x2 x3 x4 x5 x6 x7 x8 x9 = Qp (k0_pay95 x0 x1 x2 x3 x4 x5 x6 x7 x8 x9) x9 x7 :=
  (canon_qp (k0_pay95 x0 x1 x2 x3 x4 x5 x6 x7 x8 x9) (View.ld x9 r0_3) (View.ld x7 r0_4)).trans (by rw [masks, gainRow])

theorem out_qr (x0 : Vec Ideal S1x512x1024 .f32) (x1 x2 x3 : Vec Ideal S1x1x1024 .f32) (x4 : Vec Ideal S1024x1536 .bf16) (x5 x6 : Vec Ideal S512x128 .f32) (x7 x8 : Vec Ideal S1x128 .f32) (x9 : Vec Ideal S128x128 .bf16) : out0_11 x0 x1 x2 x3 x4 x5 x6 x7 x8 x9 = Qr (k0_pay95 x0 x1 x2 x3 x4 x5 x6 x7 x8 x9) x9 x7 x5 x6 :=
  (canon_qr (k0_pay95 x0 x1 x2 x3 x4 x5 x6 x7 x8 x9) (View.ld x9 r0_3) (View.ld x7 r0_4) (View.ld x5 r0_5) (View.ld x6 r0_5)).trans (by rw [table, table, masks, gainRow])

theorem out_kr (x0 : Vec Ideal S1x512x1024 .f32) (x1 x2 x3 : Vec Ideal S1x1x1024 .f32) (x4 : Vec Ideal S1024x1536 .bf16) (x5 x6 : Vec Ideal S512x128 .f32) (x7 x8 : Vec Ideal S1x128 .f32) (x9 : Vec Ideal S128x128 .bf16) : out0_12 x0 x1 x2 x3 x4 x5 x6 x7 x8 x9 = Kr (k0_pay95 x0 x1 x2 x3 x4 x5 x6 x7 x8 x9) x9 x8 x5 x6 :=
  (canon_kr (k0_pay95 x0 x1 x2 x3 x4 x5 x6 x7 x8 x9) (View.ld x9 r0_3) (View.ld x8 r0_4) (View.ld x5 r0_5) (View.ld x6 r0_5)).trans (by rw [table, table, masks, gainRow])

theorem out_va (x0 : Vec Ideal S1x512x1024 .f32) (x1 x2 x3 : Vec Ideal S1x1x1024 .f32) (x4 : Vec Ideal S1024x1536 .bf16) (x5 x6 : Vec Ideal S512x128 .f32) (x7 x8 : Vec Ideal S1x128 .f32) (x9 : Vec Ideal S128x128 .bf16) : out0_13 x0 x1 x2 x3 x4 x5 x6 x7 x8 x9 = Va (k0_pay95 x0 x1 x2 x3 x4 x5 x6 x7 x8 x9) :=
  canon_va (k0_pay95 x0 x1 x2 x3 x4 x5 x6 x7 x8 x9)

end Cert.Kernel6Ideal.Hand

end
-- ==== Proof.NormTable.lean ====
/-
  The table that sums the lanes of a head: 128 by 128 words, one where two lanes lie in one head and zero elsewhere.
-/
module

public import proofs.«01_k».proof.Kernel6Ideal

@[expose] public section

namespace Cert.Kernel6Ideal.Hand

open Cert.Kernel6Ideal

/-- The table of 16384 words, read at its place in rows of 128. -/
theorem head_words : ∀ i : Fin 16384, lit0 i = if i.val / 128 / 64 = i.val % 128 / 64 then 0x3F80#16 else 0x0000#16 := by
  decide +kernel

end Cert.Kernel6Ideal.Hand

end
-- ==== Proof.NormArrays.lean ====
/-
  The four result arrays of the second layer's projection kernel: point `t` of the grid works on batch `t / 4` and rows `512 * (t % 4)` to that
  plus 511, so that each array is one function of the arguments, index by index.
-/
module

public import proofs.«01_k».proof.Proof.NormBlock
public import proofs.«01_k».proof.Proof.NormTable
public import Idealize.ShloMosaic.Lib.StableHlo.Run

@[expose] public section

set_option maxRecDepth 16384

noncomputable section

namespace Cert.Kernel6Ideal.Hand

open Cert.Kernel6Ideal Cert.Kernel6Ideal.Gen Idealize.ShloMosaic Idealize.ShloMosaic.TcCoe Idealize.SL.Sem

section
variable {F : FTy → Type} [FloatOps F] [Named F]

/-! ## The host's arrays -/

/-- The weights of the second layer. -/
def wts (w : Vec F S4x1024x1536 .f32) : Vec F S1024x1536 .bf16 :=
  truncf .bf16 (shapeCast S1024x1536 (extractStridedSlice S1x1024x1536 ![1, 0, 0] w slices_S4x1024x1536_S1x1024x1536_1_0_0) shapeCasts_S1x1024x1536_S1024x1536 : FVec F S1024x1536 .f32) bitsLt_bf16_f32

/-- The sixteen frequencies. -/
def freq : FVec F S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- A table of positions times the frequencies. -/
def waves (l : Fin 2048 → BitVec 32) : FVec F S2048x16 .f32 :=
  mulf (broadcastInDim S2048x16 ![0, 1] bcast_S2048x1_S2048x16_0_1 (broadcastInDim S2048x1 ![0] bcast_S2048_S2048x1_0 (fun i => FloatOps.ofBits .f32 (l (S2048.rowMajor i)))))
    (broadcastInDim S2048x16 ![0, 1] bcast_S1x16_S2048x16_0_1 (broadcastInDim S1x16 ![1] bcast_S16_S1x16_1 freq))

/-- The angles of the 64 lanes of a head: row angles twice, column angles twice. -/
def ang (l0 l1 : Fin 2048 → BitVec 32) : FVec F S2048x64 .f32 :=
  concatenate S2048x64 1 [⟨S2048x16, waves l0⟩, ⟨S2048x16, waves l0⟩, ⟨S2048x16, waves l1⟩, ⟨S2048x16, waves l1⟩] concatenates_S2048x16_S2048x16_S2048x16_S2048x16_S2048x64_d1

/-- The angles of two heads' lanes. -/
def angs (a : FVec F S2048x64 .f32) : FVec F S2048x128 .f32 :=
  concatenate S2048x128 1 [⟨S2048x64, a⟩, ⟨S2048x64, a⟩] concatenates_S2048x64_S2048x64_S2048x128_d1

/-- The table of cosines. -/
def cosT (a : FVec F S2048x64 .f32) : Vec F S2048x128 .f32 := Host.cos (angs a)

/-- The table of signed sines. -/
def sinT (a : FVec F S2048x64 .f32) : Vec F S2048x128 .f32 :=
  mulf (Host.sin (angs a)) (broadcastInDim S2048x128 ![0, 1] bcast_S1x128_S2048x128_0_1 (broadcastInDim S1x128 ![1] bcast_S128_S1x128_1 (fun i => FloatOps.ofBits .f32 (lit3 (S128.rowMajor i)))))

/-- A head's gains, twice along a row of lanes. -/
def gainTwice (x : Vec F S1x64 .f32) : Vec F S1x128 .f32 :=
  shapeCast S1x128 (shapeCast S128 (broadcastInDim S2x64 ![0, 1] bcast_S1x64_S2x64_0_1 (shapeCast S1x64 (shapeCast S64 x shapeCasts_S1x64_S64) shapeCasts_S64_S1x64)) shapeCasts_S2x64_S128) shapeCasts_S128_S1x128

/-- One where two lanes lie in one head. -/
def sameHead : Vec F S128x128 .bf16 := fun i => FloatOps.ofBits .bf16 (lit0 (S128x128.rowMajor i))

variable (m : (ℓ : Loc nD τ sig) → Buf (Elt F) ℓ)

open Idealize.ShloMosaic.StableHlo in
theorem V_main_v4 (c : Dev nD) : V m c main_v4 = gainTwice (m ((c : Thread nD τ).loc main_arg4)) := by
  unfold V hostOps0
  after_results_simp <;> rfl

open Idealize.ShloMosaic.StableHlo in
theorem V_main_v9 (c : Dev nD) : V m c main_v9 = gainTwice (m ((c : Thread nD τ).loc main_arg5)) := by
  unfold V hostOps0
  after_results_simp <;> rfl

open Idealize.ShloMosaic.StableHlo in
theorem V_main_cst (c : Dev nD) : V m c main_cst = sameHead := by
  unfold V hostOps0
  after_results_simp <;> rfl

open Idealize.ShloMosaic.StableHlo in
theorem V_main_v12 (c : Dev nD) : V m c main_v12 = wts (m ((c : Thread nD τ).loc main_arg3)) := by
  unfold V hostOps0
  after_results_simp <;> rfl

set_option maxHeartbeats 4000000 in
open Idealize.ShloMosaic.StableHlo in
theorem V_main_v31 (c : Dev nD) : V m c main_v31 = cosT (ang lit1 lit2) := by
  unfold V hostOps0
  after_results_simp <;> rfl

set_option maxHeartbeats 4000000 in
open Idealize.ShloMosaic.StableHlo in
theorem V_main_v35 (c : Dev nD) : V m c main_v35 = sinT (ang lit1 lit2) := by
  unfold V hostOps0
  after_results_simp <;> rfl

/-! ## The points' blocks -/

/-- The batch of a grid point. -/
def batch (t : Fin cfg0.N) : Fin 16 := ⟨t.val / 4, by have h : t.val < 64 := t.isLt; omega⟩
/-- Row `i` of a point's block, in the sequence. -/
def row (t : Fin cfg0.N) (i : Fin 512) : Fin 2048 := ⟨512 * (t.val % 4) + i.val, by omega⟩

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 144 + 6 * (t.val / 4) ∧ win0_2.index t (1 : Fin 3) = 0 ∧ win0_2.index t (2 : Fin 3) = 0 :=
  (by decide +kernel : ∀ t : Fin grid0.N, _)
theorem idx3 : ∀ t : Fin cfg0.N, win0_3.index t (0 : Fin 3) = 144 + 6 * (t.val / 4) + 1 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val % 4 ∧ win0_5.index t (1 : Fin 2) = 0 :=
  (by decide +kernel : ∀ t : Fin grid0.N, _)
theorem idx6 : ∀ t : Fin cfg0.N, win0_6.index t (0 : Fin 2) = t.val % 4 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 4) = t.val / 4 ∧ win0_10.index t (1 : Fin 4) = 0 ∧ win0_10.index t (2 : Fin 4) = t.val % 4 ∧ win0_10.index t (3 : Fin 4) = 0 :=
  (by decide +kernel : ∀ t : Fin grid0.N, _)
theorem idx11 : ∀ t : Fin cfg0.N, win0_11.index t (0 : Fin 4) = t.val / 4 ∧ win0_11.index t (1 : Fin 4) = 0 ∧ win0_11.index t (2 : Fin 4) = t.val % 4 ∧ win0_11.index t (3 : Fin 4) = 0 :=
  (by decide +kernel : ∀ t : Fin grid0.N, _)
theorem idx12 : ∀ t : Fin cfg0.N, win0_12.index t (0 : Fin 4) = t.val / 4 ∧ win0_12.index t (1 : Fin 4) = 0 ∧ win0_12.index t (2 : Fin 4) = t.val % 4 ∧ win0_12.index t (3 : Fin 4) = 0 :=
  (by decide +kernel : ∀ t : Fin grid0.N, _)
theorem idx13 : ∀ t : Fin cfg0.N, win0_13.index t (0 : Fin 4) = t.val / 4 ∧ win0_13.index t (1 : Fin 4) = 0 ∧ win0_13.index t (2 : Fin 4) = t.val % 4 ∧ win0_13.index t (3 : Fin 4) = 0 :=
  (by decide +kernel : ∀ t : Fin grid0.N, _)

/-- The block of rows holds the point's batch and rows. -/
theorem blk0 (c : Dev nD) (t : Fin cfg0.N) (i : Fin 512) (k : Fin 1024) :
    (iblk m c 0 t : Vec F S1x512x1024 .f32) (ix3 0 i k) = m ((c : Thread nD τ).loc main_arg0) (ix3 (batch t) (row t i) k) := by
  obtain ⟨e0, e1, e2⟩ := idx0 t
  rw [← V_main_arg0 m c]
  show V m c main_arg0 (((cfg0.win 0).blk t).view.emb (ix3 0 i k)) = _
  congr 1
  funext a; apply Fin.ext
  match a with
  | ⟨0, _⟩ => show win0_0.index t (0 : Fin 3) * 1 + 1 * 0 = t.val / 4; omega
  | ⟨1, _⟩ => show win0_0.index t (1 : Fin 3) * 512 + 1 * i.val = 512 * (t.val % 4) + i.val; omega
  | ⟨2, _⟩ => show win0_0.index t (2 : Fin 3) * 1024 + 1 * k.val = k.val; omega

/-- The block of gains holds the second layer's. -/
theorem blk1 (c : Dev nD) (t : Fin cfg0.N) (k : Fin 1024) :
    (iblk m c 1 t : Vec F S1x1x1024 .f32) (ix3 0 0 k) = m ((c : Thread nD τ).loc main_arg2) (ix3 1 0 k) := by
  obtain ⟨e0, e1, e2⟩ := idx1 t
  rw [← V_main_arg2 m c]
  show V m c main_arg2 (((cfg0.win 1).blk t).view.emb (ix3 0 0 k)) = _
  congr 1
  funext a; apply Fin.ext
  match a with
  | ⟨0, _⟩ => show win0_1.index t (0 : Fin 3) * 1 + 1 * 0 = 1; omega
  | ⟨1, _⟩ => show win0_1.index t (1 : Fin 3) * 1 + 1 * 0 = 0; omega
  | ⟨2, _⟩ => show win0_1.index t (2 : Fin 3) * 1024 + 1 * k.val = k.val; omega

/-- The row of shifts of a batch, of the second layer. -/
def shRow (b : Fin 16) : Fin 576 := ⟨144 + 6 * b.val, by omega⟩
/-- The row of scales of a batch, of the second layer. -/
def scRow (b : Fin 16) : Fin 576 := ⟨144 + 6 * b.val + 1, by omega⟩

theorem blk2 (c : Dev nD) (t : Fin cfg0.N) (k : Fin 1024) :
    (iblk m c 2 t : Vec F S1x1x1024 .f32) (ix3 0 0 k) = m ((c : Thread nD τ).loc main_arg1) (ix3 (shRow (batch t)) 0 k) := by
  obtain ⟨e0, e1, e2⟩ := idx2 t
  rw [← V_main_arg1 m c]
  show V m c main_arg1 (((cfg0.win 2).blk t).view.emb (ix3 0 0 k)) = _
  congr 1
  funext a; apply Fin.ext
  match a with
  | ⟨0, _⟩ => show win0_2.index t (0 : Fin 3) * 1 + 1 * 0 = 144 + 6 * (t.val / 4); omega
  | ⟨1, _⟩ => show win0_2.index t (1 : Fin 3) * 1 + 1 * 0 = 0; omega
  | ⟨2, _⟩ => show win0_2.index t (2 : Fin 3) * 1024 + 1 * k.val = k.val; omega

theorem blk3 (c : Dev nD) (t : Fin cfg0.N) (k : Fin 1024) :
    (iblk m c 3 t : Vec F S1x1x1024 .f32) (ix3 0 0 k) = m ((c : Thread nD τ).loc main_arg1) (ix3 (scRow (batch t)) 0 k) := by
  obtain ⟨e0, e1, e2⟩ := idx3 t
  rw [← V_main_arg1 m c]
  show V m c main_arg1 (((cfg0.win 3).blk t).view.emb (ix3 0 0 k)) = _
  congr 1
  funext a; apply Fin.ext
  match a with
  | ⟨0, _⟩ => show win0_3.index t (0 : Fin 3) * 1 + 1 * 0 = 144 + 6 * (t.val / 4) + 1; omega
  | ⟨1, _⟩ => show win0_3.index t (1 : Fin 3) * 1 + 1 * 0 = 0; omega
  | ⟨2, _⟩ => show win0_3.index t (2 : Fin 3) * 1024 + 1 * k.val = k.val; omega

/-- The block of weights is all of the second layer's. -/
theorem blk4 (c : Dev nD) (t : Fin cfg0.N) (k : Fin 1024) (j : Fin 1536) :
    (iblk m c 4 t : Vec F S1024x1536 .bf16) (ix2 k j) = wts (m ((c : Thread nD τ).loc main_arg3)) (ix2 k j) := by
  obtain ⟨e0, e1⟩ := idx4 t
  rw [← V_main_v12 m c]
  show V m c main_v12 (((cfg0.win 4).blk t).view.emb (ix2 k j)) = _
  congr 1
  funext a; apply Fin.ext
  match a with
  | ⟨0, _⟩ => show win0_4.index t (0 : Fin 2) * 1024 + 1 * k.val = k.val; omega
  | ⟨1, _⟩ => show win0_4.index t (1 : Fin 2) * 1536 + 1 * j.val = j.val; omega

/-- The blocks of the tables hold the point's rows. -/
theorem blk5 (c : Dev nD) (t : Fin cfg0.N) (i : Fin 512) (j : Fin 128) :
    (iblk m c 5 t : Vec F S512x128 .f32) (ix2 i j) = cosT (ang lit1 lit2) (ix2 (row t i) j) := by
  obtain ⟨e0, e1⟩ := idx5 t
  rw [← V_main_v31 m c]
  show V m c main_v31 (((cfg0.win 5).blk t).view.emb (ix2 i j)) = _
  congr 1
  funext a; apply Fin.ext
  match a with
  | ⟨0, _⟩ => show win0_5.index t (0 : Fin 2) * 512 + 1 * i.val = 512 * (t.val % 4) + i.val; omega
  | ⟨1, _⟩ => show win0_5.index t (1 : Fin 2) * 128 + 1 * j.val = j.val; omega

theorem blk6 (c : Dev nD) (t : Fin cfg0.N) (i : Fin 512) (j : Fin 128) :
    (iblk m c 6 t : Vec F S512x128 .f32) (ix2 i j) = sinT (ang lit1 lit2) (ix2 (row t i) j) := by
  obtain ⟨e0, e1⟩ := idx6 t
  rw [← V_main_v35 m c]
  show V m c main_v35 (((cfg0.win 6).blk t).view.emb (ix2 i j)) = _
  congr 1
  funext a; apply Fin.ext
  match a with
  | ⟨0, _⟩ => show win0_6.index t (0 : Fin 2) * 512 + 1 * i.val = 512 * (t.val % 4) + i.val; omega
  | ⟨1, _⟩ => show win0_6.index t (1 : Fin 2) * 128 + 1 * j.val = j.val; omega

/-- The blocks of the gains and of the square of lanes are all of theirs. -/
theorem blk7 (c : Dev nD) (t : Fin cfg0.N) (j : Fin 128) :
    (iblk m c 7 t : Vec F S1x128 .f32) (ix2 0 j) = gainTwice (m ((c : Thread nD τ).loc main_arg4)) (ix2 0 j) := by
  obtain ⟨e0, e1⟩ := idx7 t
  rw [← V_main_v4 m c]
  show V m c main_v4 (((cfg0.win 7).blk t).view.emb (ix2 0 j)) = _
  congr 1
  funext a; apply Fin.ext
  match a with
  | ⟨0, _⟩ => show win0_7.index t (0 : Fin 2) * 1 + 1 * 0 = 0; omega
  | ⟨1, _⟩ => show win0_7.index t (1 : Fin 2) * 128 + 1 * j.val = j.val; omega

theorem blk8 (c : Dev nD) (t : Fin cfg0.N) (j : Fin 128) :
    (iblk m c 8 t : Vec F S1x128 .f32) (ix2 0 j) = gainTwice (m ((c : Thread nD τ).loc main_arg5)) (ix2 0 j) := by
  obtain ⟨e0, e1⟩ := idx8 t
  rw [← V_main_v9 m c]
  show V m c main_v9 (((cfg0.win 8).blk t).view.emb (ix2 0 j)) = _
  congr 1
  funext a; apply Fin.ext
  match a with
  | ⟨0, _⟩ => show win0_8.index t (0 : Fin 2) * 1 + 1 * 0 = 0; omega
  | ⟨1, _⟩ => show win0_8.index t (1 : Fin 2) * 128 + 1 * j.val = j.val; omega

theorem blk9 (c : Dev nD) (t : Fin cfg0.N) (l j : Fin 128) :
    (iblk m c 9 t : Vec F S128x128 .bf16) (ix2 l j) = sameHead (ix2 l j) := by
  obtain ⟨e0, e1⟩ := idx9 t
  rw [← V_main_cst m c]
  show V m c main_cst (((cfg0.win 9).blk t).view.emb (ix2 l j)) = _
  congr 1
  funext a; apply Fin.ext
  match a with
  | ⟨0, _⟩ => show win0_9.index t (0 : Fin 2) * 128 + 1 * l.val = l.val; omega
  | ⟨1, _⟩ => show win0_9.index t (1 : Fin 2) * 128 + 1 * j.val = j.val; omega

/-- A point's block of result array 1, and that the blocks cover it. -/
theorem emb10 (t : Fin cfg0.N) (h : Fin 16) (i : Fin 512) (d : Fin 64) : ((cfg0.win 10).blk t).view.emb (ix4 0 h i d) = ix4 (batch t) h (row t i) d := by
  obtain ⟨e0, e1, e2, e3⟩ := idx10 t
  funext a; apply Fin.ext
  match a with
  | ⟨0, _⟩ => show win0_10.index t (0 : Fin 4) * 1 + 1 * 0 = t.val / 4; omega
  | ⟨1, _⟩ => show win0_10.index t (1 : Fin 4) * 16 + 1 * h.val = h.val; omega
  | ⟨2, _⟩ => show win0_10.index t (2 : Fin 4) * 512 + 1 * i.val = 512 * (t.val % 4) + i.val; omega
  | ⟨3, _⟩ => show win0_10.index t (3 : Fin 4) * 64 + 1 * d.val = d.val; omega

theorem covers10 (i : S16x16x2048x64.Idx) : ∃ t : Fin cfg0.N, (cfg0.win 10).flush t = true ∧ i ∈ ((cfg0.win 10).blk t).view.set := by
  obtain ⟨b, h, n, d, rfl⟩ : ∃ (b : Fin 16) (h : Fin 16) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_10 _, ?_⟩
  have hm := ((cfg0.win 10).blk ⟨b.val * 4 + n.val / 512, hN⟩).view.emb_mem_set (ix4 0 h ⟨n.val % 512, by omega⟩ d)
  rw [emb10] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 2, and that the blocks cover it. -/
theorem emb11 (t : Fin cfg0.N) (h : Fin 16) (i : Fin 512) (d : Fin 64) : ((cfg0.win 11).blk t).view.emb (ix4 0 h i d) = ix4 (batch t) h (row t i) d := by
  obtain ⟨e0, e1, e2, e3⟩ := idx11 t
  funext a; apply Fin.ext
  match a with
  | ⟨0, _⟩ => show win0_11.index t (0 : Fin 4) * 1 + 1 * 0 = t.val / 4; omega
  | ⟨1, _⟩ => show win0_11.index t (1 : Fin 4) * 16 + 1 * h.val = h.val; omega
  | ⟨2, _⟩ => show win0_11.index t (2 : Fin 4) * 512 + 1 * i.val = 512 * (t.val % 4) + i.val; omega
  | ⟨3, _⟩ => show win0_11.index t (3 : Fin 4) * 64 + 1 * d.val = d.val; omega

theorem covers11 (i : S16x16x2048x64.Idx) : ∃ t : Fin cfg0.N, (cfg0.win 11).flush t = true ∧ i ∈ ((cfg0.win 11).blk t).view.set := by
  obtain ⟨b, h, n, d, rfl⟩ : ∃ (b : Fin 16) (h : Fin 16) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_11 _, ?_⟩
  have hm := ((cfg0.win 11).blk ⟨b.val * 4 + n.val / 512, hN⟩).view.emb_mem_set (ix4 0 h ⟨n.val % 512, by omega⟩ d)
  rw [emb11] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 3, and that the blocks cover it. -/
theorem emb12 (t : Fin cfg0.N) (h : Fin 4) (i : Fin 512) (d : Fin 64) : ((cfg0.win 12).blk t).view.emb (ix4 0 h i d) = ix4 (batch t) h (row t i) d := by
  obtain ⟨e0, e1, e2, e3⟩ := idx12 t
  funext a; apply Fin.ext
  match a with
  | ⟨0, _⟩ => show win0_12.index t (0 : Fin 4) * 1 + 1 * 0 = t.val / 4; omega
  | ⟨1, _⟩ => show win0_12.index t (1 : Fin 4) * 4 + 1 * h.val = h.val; omega
  | ⟨2, _⟩ => show win0_12.index t (2 : Fin 4) * 512 + 1 * i.val = 512 * (t.val % 4) + i.val; omega
  | ⟨3, _⟩ => show win0_12.index t (3 : Fin 4) * 64 + 1 * d.val = d.val; omega

theorem covers12 (i : S16x4x2048x64.Idx) : ∃ t : Fin cfg0.N, (cfg0.win 12).flush t = true ∧ i ∈ ((cfg0.win 12).blk t).view.set := by
  obtain ⟨b, h, n, d, rfl⟩ : ∃ (b : Fin 16) (h : Fin 4) (n : Fin 2048) (d : Fin 64), i = ix4 b h n d := ⟨i 0, i 1, i 2, i 3, eq_ix4 i⟩
  have hN : b.val * 4 + n.val / 512 < cfg0.N := show _ < 64 by omega
  refine ⟨⟨b.val * 4 + n.val / 512, hN⟩, flush0_12 _, ?_⟩
  have hm := ((cfg0.win 12).blk ⟨b.val * 4 + n.val / 512, hN⟩).view.emb_mem_set (ix4 0 h ⟨n.val % 512, by omega⟩ d)
  rw [emb12] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

/-- A point's block of result array 4, and that the blocks cover it. -/
theorem emb13 (t : Fin cfg0.N) (h : Fin 4) (i : Fin 512) (d : Fin 256) : ((cfg0.win 13).blk t).view.emb (ix4 0 h i d) = ix4 (batch t) h (row t i) d := by
  obtain ⟨e0, e1, e2, e3⟩ := idx13 t
  funext a; apply Fin.ext
  match a with
  | ⟨0, _⟩ => show win0_13.index t (0 : Fin 4) * 1 + 1 * 0 = t.val / 4; omega
  | ⟨1, _⟩ => show win0_13.index t (1 : Fin 4) * 4 + 1 * h.val = h.val; omega
  | ⟨2, _⟩ => show win0_13.index t (2 : Fin 4) * 512 + 1 * i.val = 512 * (t.val % 4) + i.val; omega
  | ⟨3, _⟩ => show win0_13.index t (3 : Fin 4) * 256 + 1 * d.val = d.val; omega

theorem covers13 (i : S16x4x2048x256.Idx) : ∃ t : Fin cfg0.N, (cfg0.win 13).flush t = true ∧ i ∈ ((cfg0.win 13).blk t).view.set := by
  obtain ⟨b, h, n, d, rfl⟩ : ∃ (b : Fin 16) (h : Fin 4) (n : Fin 2048) (d : Fin 256), i = ix4 b h n d := ⟨i 0, i 1, i 2, i 3, eq_ix4 i⟩
  have hN : b.val * 4 + n.val / 512 < cfg0.N := show _ < 64 by omega
  refine ⟨⟨b.val * 4 + n.val / 512, hN⟩, flush0_13 _, ?_⟩
  have hm := ((cfg0.win 13).blk ⟨b.val * 4 + n.val / 512, hN⟩).view.emb_mem_set (ix4 0 h ⟨n.val % 512, by omega⟩ d)
  rw [emb13] at hm
  have e1 : batch ⟨b.val * 4 + n.val / 512, hN⟩ = b := Fin.ext (by simp only [batch]; omega)
  have e2 : row ⟨b.val * 4 + n.val / 512, hN⟩ ⟨n.val % 512, by omega⟩ = n := Fin.ext (by simp only [row]; omega)
  rwa [e1, e2] at hm

end

/-! ## The arrays -/

theorem wts_apply (w : Vec Ideal S4x1024x1536 .f32) (k : Fin 1024) (j : Fin 1536) : wts w (ix2 k j) = w (ix3 1 k j) := by
  pointwise [wts]

/-- The gain of a lane: its place's in its head. -/
def gainAt (x : Vec Ideal S1x64 .f32) (j : Fin 128) : EReal := x (ix2 0 ⟨j.val % 64, by omega⟩)

theorem gain_apply (x : Vec Ideal S1x64 .f32) (j : Fin 128) : gainTwice x (ix2 0 j) = gainAt x j := by
  pointwise [gainTwice, gainAt]

/-- One where two lanes lie in one head, zero elsewhere. -/
def oneHead (l j : Fin 128) : EReal := if l.val / 64 = j.val / 64 then 1 else 0

/-- One where two lanes lie in one head, zero elsewhere: the values of the table. -/
theorem sameHead_apply (l j : Fin 128) : sameHead (F := Ideal) (ix2 l j) = oneHead l j := by
  have e : S128x128.rowMajor (ix2 l j) = (⟨l.val * 128 + j.val, by omega⟩ : Fin 16384) := Fin.ext (Shape.rowMajor_val_two (ix2 l j))
  refine (congrArg (fun i : Fin 16384 => Ideal.ofBits .bf16 (lit0 i)) e).trans ?_
  beta_reduce
  rw [head_words]
  unfold oneHead
  by_cases h : l.val / 64 = j.val / 64
  · rw [if_pos h, if_pos (by simp only; omega)]
    exact Ideal.ofBits_one_bf16
  · rw [if_neg h, if_neg (by simp only; omega)]
    exact Ideal.ofBits_zero_bf16

/-- The cosine and the signed sine of lane `j` at row `n`. -/
def cosAt (n : Fin 2048) (j : Fin 128) : EReal := cosT (F := Ideal) (ang lit1 lit2) (ix2 n j)
def sinAt (n : Fin 2048) (j : Fin 128) : EReal := sinT (F := Ideal) (ang lit1 lit2) (ix2 n j)

/-- Column `j` of the projection of row `n` of batch `b`. -/
def prj (x : Vec Ideal S16x2048x1024 .f32) (md : Vec Ideal S576x1x1024 .f32) (g : Vec Ideal S4x1x1024 .f32) (w : Vec Ideal S4x1024x1536 .f32)
    (b : Fin 16) (n : Fin 2048) (j : Fin 1536) : EReal :=
  proj (fun k => x (ix3 b n k)) (fun k => g (ix3 1 0 k)) (fun k => md (ix3 (shRow b) 0 k)) (fun k => md (ix3 (scRow b) 0 k)) (fun k => w (ix3 1 k j))

section
variable (x : Vec Ideal S16x2048x1024 .f32) (md : Vec Ideal S576x1x1024 .f32) (g : Vec Ideal S4x1x1024 .f32) (w : Vec Ideal S4x1024x1536 .f32)

/-- The plain queries. -/
def QP (gq : Vec Ideal S1x64 .f32) : Vec Ideal S16x16x2048x64 .bf16 :=
  fun z => normAt (fun j => prj x md g w (z 0) (z 2) ⟨128 * ((z 1).val / 2) + j.val, by have h1 : (z 1).val < 16 := (z 1).isLt; omega⟩)
    (gainAt gq) oneHead ⟨64 * ((z 1).val % 2) + (z 3).val, by have h3 : (z 3).val < 64 := (z 3).isLt; omega⟩ * fac

/-- The rotated queries. -/
def QR (gq : Vec Ideal S1x64 .f32) : Vec Ideal S16x16x2048x64 .bf16 :=
  fun z => turn (fun j => normAt (fun j => prj x md g w (z 0) (z 2) ⟨128 * ((z 1).val / 2) + j.val, by have h1 : (z 1).val < 16 := (z 1).isLt; omega⟩) (gainAt gq) oneHead j * fac)
    (cosAt (z 2)) (sinAt (z 2)) ⟨64 * ((z 1).val % 2) + (z 3).val, by have h3 : (z 3).val < 64 := (z 3).isLt; omega⟩

/-- The rotated keys. -/
def KR (gk : Vec Ideal S1x64 .f32) : Vec Ideal S16x4x2048x64 .bf16 :=
  fun z => turn (normAt (fun j => prj x md g w (z 0) (z 2) ⟨1024 + 128 * ((z 1).val / 2) + j.val, by have h1 : (z 1).val < 4 := (z 1).isLt; omega⟩) (gainAt gk) oneHead)
    (cosAt (z 2)) (sinAt (z 2)) ⟨64 * ((z 1).val % 2) + (z 3).val, by have h3 : (z 3).val < 64 := (z 3).isLt; omega⟩

/-- The values, with the two runs of ones between. -/
def VA : Vec Ideal S16x4x2048x256 .bf16 :=
  fun z => vlane (fun j => prj x md g w (z 0) (z 2) j) (z 1) (z 3)
end

section
variable (m : (ℓ : Loc nD τ sig) → Buf (Elt Ideal) ℓ) (c : Dev nD)

/-- The projections of a point's block. -/
theorem rows_at (t : Fin cfg0.N) (i : Fin 512) (j : Fin 1536) :
    k0_pay95 (iblk m c 0 t) (iblk m c 1 t) (iblk m c 2 t) (iblk m c 3 t) (iblk m c 4 t) (iblk m c 5 t) (iblk m c 6 t) (iblk m c 7 t) (iblk m c 8 t) (iblk m c 9 t) (ix2 i j)
      = prj (m ((c : Thread nD τ).loc main_arg0)) (m ((c : Thread nD τ).loc main_arg1)) (m ((c : Thread nD τ).loc main_arg2)) (m ((c : Thread nD τ).loc main_arg3)) (batch t) (row t i) j := by
  rw [rows_apply]
  exact congr (congr (congr (congr (congrArg proj (funext fun k => blk0 m c t i k)) (funext fun k => blk1 m c t k)) (funext fun k => blk2 m c t k)) (funext fun k => blk3 m c t k))
    (funext fun k => (blk4 m c t k j).trans (wts_apply _ k j))

theorem flushed_QP (t : Fin cfg0.N) : (dats m 0 c).flushed 10 t = ((cfg0.win 10).blk t).view.read (Elt Ideal) (QP (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed10, out_qp]
  funext y
  obtain ⟨b, h, i, d, rfl⟩ : ∃ (b : Fin 1) (h : Fin 16) (i : Fin 512) (d : Fin 64), y = ix4 b h i d := ⟨y 0, y 1, y 2, y 3, eq_ix4 y⟩
  obtain rfl : b = 0 := Subsingleton.elim _ _
  show Qp (k0_pay95 (iblk m c 0 t) (iblk m c 1 t) (iblk m c 2 t) (iblk m c 3 t) (iblk m c 4 t) (iblk m c 5 t) (iblk m c 6 t) (iblk m c 7 t) (iblk m c 8 t) (iblk m c 9 t)) (iblk m c 9 t) (iblk m c 7 t) (ix4 0 h i d)
    = QP _ _ _ _ _ (((cfg0.win 10).blk t).view.emb (ix4 0 h i d))
  rw [emb10]
  show normAt _ _ _ _ * fac = normAt _ _ _ _ * fac
  exact congrArg (· * fac) (congr (congr (congr (congrArg normAt (funext fun j => rows_at m c t i _)) (funext fun j => (blk7 m c t j).trans (gain_apply _ j))) (funext fun l => funext fun j => (blk9 m c t l j).trans (sameHead_apply l j))) rfl)

/-- Result array 1 after the run. -/
theorem final_QP : (dats m 0 c).arrAt 10 cfg0.N = QP (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 10 _ (fun t _ => flushed_QP m c t) covers10

theorem flushed_QR (t : Fin cfg0.N) : (dats m 0 c).flushed 11 t = ((cfg0.win 11).blk t).view.read (Elt Ideal) (QR (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed11, out_qr]
  funext y
  obtain ⟨b, h, i, d, rfl⟩ : ∃ (b : Fin 1) (h : Fin 16) (i : Fin 512) (d : Fin 64), y = ix4 b h i d := ⟨y 0, y 1, y 2, y 3, eq_ix4 y⟩
  obtain rfl : b = 0 := Subsingleton.elim _ _
  show Qr (k0_pay95 (iblk m c 0 t) (iblk m c 1 t) (iblk m c 2 t) (iblk m c 3 t) (iblk m c 4 t) (iblk m c 5 t) (iblk m c 6 t) (iblk m c 7 t) (iblk m c 8 t) (iblk m c 9 t)) (iblk m c 9 t) (iblk m c 7 t) (iblk m c 5 t) (iblk m c 6 t) (ix4 0 h i d)
    = QR _ _ _ _ _ (((cfg0.win 11).blk t).view.emb (ix4 0 h i d))
  rw [emb11]
  show turn _ _ _ _ = turn _ _ _ _
  exact congr (congr (congr (congrArg turn (funext fun j => congrArg (· * fac) (congrFun (congr (congr (congrArg normAt (funext fun j => rows_at m c t i _)) (funext fun j => (blk7 m c t j).trans (gain_apply _ j))) (funext fun l => funext fun j => (blk9 m c t l j).trans (sameHead_apply l j))) j))) (funext fun j => blk5 m c t i j)) (funext fun j => blk6 m c t i j)) rfl

/-- Result array 2 after the run. -/
theorem final_QR : (dats m 0 c).arrAt 11 cfg0.N = QR (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 11 _ (fun t _ => flushed_QR m c t) covers11

theorem flushed_KR (t : Fin cfg0.N) : (dats m 0 c).flushed 12 t = ((cfg0.win 12).blk t).view.read (Elt Ideal) (KR (m ((c : Thread nD τ).loc main_arg0)) (m ((c : Thread nD τ).loc main_arg1)) (m ((c : Thread nD τ).loc main_arg2)) (m ((c : Thread nD τ).loc main_arg3)) (m ((c : Thread nD τ).loc main_arg5))) := by
  rw [Value.flushed12, out_kr]
  funext y
  obtain ⟨b, h, i, d, rfl⟩ : ∃ (b : Fin 1) (h : Fin 4) (i : Fin 512) (d : Fin 64), y = ix4 b h i d := ⟨y 0, y 1, y 2, y 3, eq_ix4 y⟩
  obtain rfl : b = 0 := Subsingleton.elim _ _
  show Kr (k0_pay95 (iblk m c 0 t) (iblk m c 1 t) (iblk m c 2 t) (iblk m c 3 t) (iblk m c 4 t) (iblk m c 5 t) (iblk m c 6 t) (iblk m c 7 t) (iblk m c 8 t) (iblk m c 9 t)) (iblk m c 9 t) (iblk m c 8 t) (iblk m c 5 t) (iblk m c 6 t) (ix4 0 h i d)
    = KR _ _ _ _ _ (((cfg0.win 12).blk t).view.emb (ix4 0 h i d))
  rw [emb12]
  show turn _ _ _ _ = turn _ _ _ _
  exact congr (congr (congr (congrArg turn (congr (congr (congrArg normAt (funext fun j => rows_at m c t i _)) (funext fun j => (blk8 m c t j).trans (gain_apply _ j))) (funext fun l => funext fun j => (blk9 m c t l j).trans (sameHead_apply l j)))) (funext fun j => blk5 m c t i j)) (funext fun j => blk6 m c t i j)) rfl

/-- Result array 3 after the run. -/
theorem final_KR : (dats m 0 c).arrAt 12 cfg0.N = KR (m ((c : Thread nD τ).loc main_arg0)) (m ((c : Thread nD τ).loc main_arg1)) (m ((c : Thread nD τ).loc main_arg2)) (m ((c : Thread nD τ).loc main_arg3)) (m ((c : Thread nD τ).loc main_arg5)) :=
  (dats m 0 c).arrAt_eq_of_cover 12 _ (fun t _ => flushed_KR m c t) covers12

theorem flushed_VA (t : Fin cfg0.N) : (dats m 0 c).flushed 13 t = ((cfg0.win 13).blk t).view.read (Elt Ideal) (VA (m ((c : Thread nD τ).loc main_arg0)) (m ((c : Thread nD τ).loc main_arg1)) (m ((c : Thread nD τ).loc main_arg2)) (m ((c : Thread nD τ).loc main_arg3))) := by
  rw [Value.flushed13, out_va]
  funext y
  obtain ⟨b, h, i, d, rfl⟩ : ∃ (b : Fin 1) (h : Fin 4) (i : Fin 512) (d : Fin 256), y = ix4 b h i d := ⟨y 0, y 1, y 2, y 3, eq_ix4 y⟩
  obtain rfl : b = 0 := Subsingleton.elim _ _
  show Va (k0_pay95 (iblk m c 0 t) (iblk m c 1 t) (iblk m c 2 t) (iblk m c 3 t) (iblk m c 4 t) (iblk m c 5 t) (iblk m c 6 t) (iblk m c 7 t) (iblk m c 8 t) (iblk m c 9 t)) (ix4 0 h i d)
    = VA _ _ _ _ (((cfg0.win 13).blk t).view.emb (ix4 0 h i d))
  rw [emb13]
  exact congrArg (fun f => vlane f h d) (funext fun j => rows_at m c t i j)

/-- Result array 4 after the run. -/
theorem final_VA : (dats m 0 c).arrAt 13 cfg0.N = VA (m ((c : Thread nD τ).loc main_arg0)) (m ((c : Thread nD τ).loc main_arg1)) (m ((c : Thread nD τ).loc main_arg2)) (m ((c : Thread nD τ).loc main_arg3)) :=
  (dats m 0 c).arrAt_eq_of_cover 13 _ (fun t _ => flushed_VA m c t) covers13

end

end Cert.Kernel6Ideal.Hand

end
-- ==== Proof.RefNorm.lean ====
/-
  The reference of the projection with normalised heads, step by step, and each of its results read at an index.
-/
module

public import proofs.«01_k».proof.Proof.Gen.Reference6Ideal.Run
public import Idealize.ShloMosaic.Lib.Pointwise

@[expose] public section

set_option maxRecDepth 16384

noncomputable section

namespace Cert.Reference6Ideal.Hand

open Cert.Reference6Ideal Cert.Reference6Ideal.Gen Idealize.ShloMosaic Idealize.ShloMosaic.TcCoe Idealize.SL.Sem

section
variable {F : FTy → Type} [FloatOps F]

/-- One over each row's root mean square. -/
def rms (x : FVec F S16x2048x1024 .f32) : FVec F S16x2048x1024 .f32 :=
  broadcastInDim S16x2048x1024 ![0, 1, 2] bcast_S16x2048x1_S16x2048x1024_0_1_2 (Host.rsqrt (addf
    (Host.divf (broadcastInDim S16x2048x1 ![0, 1] bcast_S16x2048_S16x2048x1_0_1 (Host.reduceAdd (mulf x x) (constant S_ .f32 0x00000000#32) reducesTo_S16x2048x1024_S16x2048_d2 h_S_))
      (broadcastInDim S16x2048x1 ![] bcast_S_S16x2048x1 (constant S_ .f32 0x44800000#32)))
    (broadcastInDim S16x2048x1 ![] bcast_S_S16x2048x1 (constant S_ .f32 0x358637BD#32))))

/-- The second layer's gains, along the rows. -/
def gains (g : FVec F S4x1x1024 .f32) : FVec F S16x2048x1024 .f32 :=
  broadcastInDim S16x2048x1024 ![0, 1, 2] bcast_S1x1x1024_S16x2048x1024_0_1_2 (broadcastInDim S1x1x1024 ![1, 2] bcast_S1x1024_S1x1x1024_1_2
    (shapeCast S1x1024 (extractStridedSlice S1x1x1024 ![1, 0, 0] g slices_S4x1x1024_S1x1x1024_1_0_0) shapeCasts_S1x1x1024_S1x1024))

/-- The second layer's six modulations of each batch. -/
def mods (md : FVec F S576x1x1024 .f32) : FVec F S16x6x1024 .f32 :=
  shapeCast S16x6x1024 (extractStridedSlice S1x16x6x1024 ![1, 0, 0, 0] (shapeCast S4x24x6x1024 md shapeCasts_S576x1x1024_S4x24x6x1024) slices_S4x24x6x1024_S1x16x6x1024_1_0_0_0) shapeCasts_S1x16x6x1024_S16x6x1024

/-- The first modulation: the shift. -/
def shifts (d : FVec F S16x6x1024 .f32) : FVec F S16x1x1024 .f32 :=
  broadcastInDim S16x1x1024 ![0, 2] bcast_S16x1024_S16x1x1024_0_2 (shapeCast S16x1024 (extractStridedSlice S16x1x1024 ![0, 0, 0] d slices_S16x6x1024_S16x1x1024_0_0_0) shapeCasts_S16x1x1024_S16x1024)

/-- The second: the scale. -/
def scales (d : FVec F S16x6x1024 .f32) : FVec F S16x1x1024 .f32 :=
  broadcastInDim S16x1x1024 ![0, 2] bcast_S16x1024_S16x1x1024_0_2 (shapeCast S16x1024 (extractStridedSlice S16x1x1024 ![0, 1, 0] d slices_S16x6x1024_S16x1x1024_0_1_0) shapeCasts_S16x1x1024_S16x1024)

/-- The normalised, scaled and shifted rows. -/
def normed (x : FVec F S16x2048x1024 .f32) (md : FVec F S576x1x1024 .f32) (g : FVec F S4x1x1024 .f32) : FVec F S16x2048x1024 .f32 :=
  addf (mulf (mulf (mulf x (rms x)) (gains g))
      (broadcastInDim S16x2048x1024 ![0, 1, 2] bcast_S16x1x1024_S16x2048x1024_0_1_2 (addf (broadcastInDim S16x1x1024 ![] bcast_S_S16x1x1024 (constant S_ .f32 0x3F800000#32)) (scales (mods md)))))
    (broadcastInDim S16x2048x1024 ![0, 1, 2] bcast_S16x1x1024_S16x2048x1024_0_1_2 (shifts (mods md)))

/-- Those rows times the second layer's weights. -/
def projected (h : FVec F S16x2048x1024 .f32) (w : FVec F S4x1024x1536 .f32) : FVec F S16x2048x1536 .f32 :=
  Host.dotGeneral dot_S16x2048x1024_S1024x1536_S16x2048x1536_2_0_01_1_n_n none h
    (shapeCast S1024x1536 (extractStridedSlice S1x1024x1536 ![1, 0, 0] w slices_S4x1024x1536_S1x1024x1536_1_0_0) shapeCasts_S1x1024x1536_S1024x1536)

/-- The lanes of each query head over their root mean square, times the gains. -/
def normQ (x : FVec F S16x2048x16x64 .f32) (g : FVec F S1x64 .f32) : FVec F S16x2048x16x64 .f32 :=
  mulf (mulf x (broadcastInDim S16x2048x16x64 ![0, 1, 2, 3] bcast_S16x2048x16x1_S16x2048x16x64_0_1_2_3 (Host.rsqrt (addf
      (Host.divf (broadcastInDim S16x2048x16x1 ![0, 1, 2] bcast_S16x2048x16_S16x2048x16x1_0_1_2 (Host.reduceAdd (mulf x x) (constant S_ .f32 0x00000000#32) reducesTo_S16x2048x16x64_S16x2048x16_d3 h_S_))
        (broadcastInDim S16x2048x16x1 ![] bcast_S_S16x2048x16x1 (constant S_ .f32 0x42800000#32)))
      (broadcastInDim S16x2048x16x1 ![] bcast_S_S16x2048x16x1 (constant S_ .f32 0x358637BD#32))))))
    (broadcastInDim S16x2048x16x64 ![0, 1, 2, 3] bcast_S1x1x1x64_S16x2048x16x64_0_1_2_3 (broadcastInDim S1x1x1x64 ![3] bcast_S64_S1x1x1x64_3 (shapeCast S64 g shapeCasts_S1x64_S64)))

/-- The lanes of each key head over their root mean square, times the gains. -/
def normK (x : FVec F S16x2048x4x64 .f32) (g : FVec F S1x64 .f32) : FVec F S16x2048x4x64 .f32 :=
  mulf (mulf x (broadcastInDim S16x2048x4x64 ![0, 1, 2, 3] bcast_S16x2048x4x1_S16x2048x4x64_0_1_2_3 (Host.rsqrt (addf
      (Host.divf (broadcastInDim S16x2048x4x1 ![0, 1, 2] bcast_S16x2048x4_S16x2048x4x1_0_1_2 (Host.reduceAdd (mulf x x) (constant S_ .f32 0x00000000#32) reducesTo_S16x2048x4x64_S16x2048x4_d3 h_S_))
        (broadcastInDim S16x2048x4x1 ![] bcast_S_S16x2048x4x1 (constant S_ .f32 0x42800000#32)))
      (broadcastInDim S16x2048x4x1 ![] bcast_S_S16x2048x4x1 (constant S_ .f32 0x358637BD#32))))))
    (broadcastInDim S16x2048x4x64 ![0, 1, 2, 3] bcast_S1x1x1x64_S16x2048x4x64_0_1_2_3 (broadcastInDim S1x1x1x64 ![3] bcast_S64_S1x1x1x64_3 (shapeCast S64 g shapeCasts_S1x64_S64)))

/-- The queries: their columns, normalised head by head, over eight and over the logarithm of two. -/
def queries (y : FVec F S16x2048x1536 .f32) (g : FVec F S1x64 .f32) : FVec F S16x2048x16x64 .f32 :=
  Host.divf (mulf (normQ (shapeCast S16x2048x16x64 (extractStridedSlice S16x2048x1024 ![0, 0, 0] y slices_S16x2048x1536_S16x2048x1024_0_0_0) shapeCasts_S16x2048x1024_S16x2048x16x64) g)
      (broadcastInDim S16x2048x16x64 ![] bcast_S_S16x2048x16x64 (constant S_ .f32 0x3E000000#32)))
    (broadcastInDim S16x2048x16x64 ![] bcast_S_S16x2048x16x64 (Host.log (constant S_ .f32 0x40000000#32)))

/-- The keys: their columns, normalised head by head. -/
def keys (y : FVec F S16x2048x1536 .f32) (g : FVec F S1x64 .f32) : FVec F S16x2048x4x64 .f32 :=
  normK (shapeCast S16x2048x4x64 (extractStridedSlice S16x2048x256 ![0, 0, 1024] y slices_S16x2048x1536_S16x2048x256_0_0_1024) shapeCasts_S16x2048x256_S16x2048x4x64) g

/-- The values' columns. -/
def vals (y : FVec F S16x2048x1536 .f32) : FVec F S16x2048x4x64 .f32 :=
  shapeCast S16x2048x4x64 (extractStridedSlice S16x2048x256 ![0, 0, 1280] y slices_S16x2048x1536_S16x2048x256_0_0_1280) shapeCasts_S16x2048x256_S16x2048x4x64

/-- The sixteen frequencies. -/
def freq : FVec F S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- A table of positions times the frequencies. -/
def waves (l : Fin 2048 → BitVec 32) : FVec F S2048x16 .f32 :=
  mulf (broadcastInDim S2048x16 ![0, 1] bcast_S2048x1_S2048x16_0_1 (broadcastInDim S2048x1 ![0] bcast_S2048_S2048x1_0 (fun i => FloatOps.ofBits .f32 (l (S2048.rowMajor i)))))
    (broadcastInDim S2048x16 ![0, 1] bcast_S1x16_S2048x16_0_1 (broadcastInDim S1x16 ![1] bcast_S16_S1x16_1 freq))

/-- The angles of the 64 lanes of a head: row angles twice, column angles twice. -/
def ang (l0 l1 : Fin 2048 → BitVec 32) : FVec F S2048x64 .f32 :=
  concatenate S2048x64 1 [⟨S2048x16, waves l0⟩, ⟨S2048x16, waves l0⟩, ⟨S2048x16, waves l1⟩, ⟨S2048x16, waves l1⟩] concatenates_S2048x16_S2048x16_S2048x16_S2048x16_S2048x64_d1

/-- The quarters of a query's lanes, exchanged two by two and one of each two negated. -/
def quarters (x : FVec F S16x2048x16x64 .f32) : FVec F S16x2048x16x64 .f32 :=
  concatenate S16x2048x16x64 3 [⟨S16x2048x16x16, Host.negf (extractStridedSlice S16x2048x16x16 ![0, 0, 0, 16] x slices_S16x2048x16x64_S16x2048x16x16_0_0_0_16 : FVec F S16x2048x16x16 .f32)⟩,
    ⟨S16x2048x16x16, extractStridedSlice S16x2048x16x16 ![0, 0, 0, 0] x slices_S16x2048x16x64_S16x2048x16x16_0_0_0_0⟩,
    ⟨S16x2048x16x16, Host.negf (extractStridedSlice S16x2048x16x16 ![0, 0, 0, 48] x slices_S16x2048x16x64_S16x2048x16x16_0_0_0_48 : FVec F S16x2048x16x16 .f32)⟩,
    ⟨S16x2048x16x16, extractStridedSlice S16x2048x16x16 ![0, 0, 0, 32] x slices_S16x2048x16x64_S16x2048x16x16_0_0_0_32⟩]
    concatenates_S16x2048x16x16_S16x2048x16x16_S16x2048x16x16_S16x2048x16x16_S16x2048x16x64_d3

/-- The same of a key's lanes. -/
def quartersK (x : FVec F S16x2048x4x64 .f32) : FVec F S16x2048x4x64 .f32 :=
  concatenate S16x2048x4x64 3 [⟨S16x2048x4x16, Host.negf (extractStridedSlice S16x2048x4x16 ![0, 0, 0, 16] x slices_S16x2048x4x64_S16x2048x4x16_0_0_0_16 : FVec F S16x2048x4x16 .f32)⟩,
    ⟨S16x2048x4x16, extractStridedSlice S16x2048x4x16 ![0, 0, 0, 0] x slices_S16x2048x4x64_S16x2048x4x16_0_0_0_0⟩,
    ⟨S16x2048x4x16, Host.negf (extractStridedSlice S16x2048x4x16 ![0, 0, 0, 48] x slices_S16x2048x4x64_S16x2048x4x16_0_0_0_48 : FVec F S16x2048x4x16 .f32)⟩,
    ⟨S16x2048x4x16, extractStridedSlice S16x2048x4x16 ![0, 0, 0, 32] x slices_S16x2048x4x64_S16x2048x4x16_0_0_0_32⟩]
    concatenates_S16x2048x4x16_S16x2048x4x16_S16x2048x4x16_S16x2048x4x16_S16x2048x4x64_d3

/-- The rotary embedding of the queries. -/
def rotated (x : FVec F S16x2048x16x64 .f32) (a : FVec F S2048x64 .f32) : FVec F S16x2048x16x64 .f32 :=
  addf (mulf x (broadcastInDim S16x2048x16x64 ![0, 1, 2, 3] bcast_S1x2048x1x64_S16x2048x16x64_0_1_2_3 (broadcastInDim S1x2048x1x64 ![1, 3] bcast_S2048x64_S1x2048x1x64_1_3 (Host.cos a))))
    (mulf (quarters x) (broadcastInDim S16x2048x16x64 ![0, 1, 2, 3] bcast_S1x2048x1x64_S16x2048x16x64_0_1_2_3 (broadcastInDim S1x2048x1x64 ![1, 3] bcast_S2048x64_S1x2048x1x64_1_3 (Host.sin a))))

/-- The rotary embedding of the keys. -/
def rotatedK (x : FVec F S16x2048x4x64 .f32) (a : FVec F S2048x64 .f32) : FVec F S16x2048x4x64 .f32 :=
  addf (mulf x (broadcastInDim S16x2048x4x64 ![0, 1, 2, 3] bcast_S1x2048x1x64_S16x2048x4x64_0_1_2_3 (broadcastInDim S1x2048x1x64 ![1, 3] bcast_S2048x64_S1x2048x1x64_1_3 (Host.cos a))))
    (mulf (quartersK x) (broadcastInDim S16x2048x4x64 ![0, 1, 2, 3] bcast_S1x2048x1x64_S16x2048x4x64_0_1_2_3 (broadcastInDim S1x2048x1x64 ![1, 3] bcast_S2048x64_S1x2048x1x64_1_3 (Host.sin a))))

/-- Heads before rows, as bf16. -/
def headsQ (x : FVec F S16x2048x16x64 .f32) : Vec F S16x16x2048x64 .bf16 :=
  truncf .bf16 (transpose S16x16x2048x64 [0, 2, 1, 3] x transposes_S16x2048x16x64_S16x16x2048x64_0_2_1_3 : FVec F S16x16x2048x64 .f32) bitsLt_bf16_f32
def headsK (x : FVec F S16x2048x4x64 .f32) : Vec F S16x4x2048x64 .bf16 :=
  truncf .bf16 (transpose S16x4x2048x64 [0, 2, 1, 3] x transposes_S16x2048x4x64_S16x4x2048x64_0_2_1_3 : FVec F S16x4x2048x64 .f32) bitsLt_bf16_f32

/-- A value's lanes, two runs of ones, the lanes again; heads before rows, as bf16. -/
def headsV (x : FVec F S16x2048x4x64 .f32) : Vec F S16x4x2048x256 .bf16 :=
  truncf .bf16 (transpose S16x4x2048x256 [0, 2, 1, 3] (concatenate S16x2048x4x256 3 [⟨S16x2048x4x64, x⟩,
      ⟨S16x2048x4x64, broadcastInDim S16x2048x4x64 ![] bcast_S_S16x2048x4x64 (constant S_ .f32 0x3F800000#32)⟩,
      ⟨S16x2048x4x64, broadcastInDim S16x2048x4x64 ![] bcast_S_S16x2048x4x64 (constant S_ .f32 0x3F800000#32)⟩, ⟨S16x2048x4x64, x⟩]
    concatenates_S16x2048x4x64_S16x2048x4x64_S16x2048x4x64_S16x2048x4x64_S16x2048x4x256_d3) transposes_S16x2048x4x256_S16x4x2048x256_0_2_1_3 : FVec F S16x4x2048x256 .f32) bitsLt_bf16_f32

variable (m : (ℓ : Loc nD τ sig) → Buf (Elt F) ℓ) (c : Dev nD)

/-- The projections of the reference's arguments. -/
def ys : FVec F S16x2048x1536 .f32 :=
  projected (normed (m ((c.tc : Thread nD τ).loc main_arg0)) (m ((c.tc : Thread nD τ).loc main_arg1)) (m ((c.tc : Thread nD τ).loc main_arg2))) (m ((c.tc : Thread nD τ).loc main_arg3))

/-- The first result is these steps, one after another; and so the others. -/
theorem res0 : Value.res_main_v122 m c = headsQ (queries (ys m c) (m ((c.tc : Thread nD τ).loc main_arg4))) := by
  unfold Value.res_main_v122
  rfl

theorem res1 : Value.res_main_v124 m c = headsQ (rotated (queries (ys m c) (m ((c.tc : Thread nD τ).loc main_arg4))) (ang lit0 lit1)) := by
  unfold Value.res_main_v124
  rfl

theorem res2 : Value.res_main_v126 m c = headsK (rotatedK (keys (ys m c) (m ((c.tc : Thread nD τ).loc main_arg5))) (ang lit0 lit1)) := by
  unfold Value.res_main_v126
  rfl

theorem res3 : Value.res_main_v128 m c = headsV (vals (ys m c)) := by
  unfold Value.res_main_v128
  rfl

/-- The reference ends with these four results and its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v122) = headsQ (queries (ys m c) (m ((c.tc : Thread nD τ).loc main_arg4)))
      ∧ r.2.mem ((c.tc : Thread nD τ).loc main_v124) = headsQ (rotated (queries (ys m c) (m ((c.tc : Thread nD τ).loc main_arg4))) (ang lit0 lit1))
      ∧ r.2.mem ((c.tc : Thread nD τ).loc main_v126) = headsK (rotatedK (keys (ys m c) (m ((c.tc : Thread nD τ).loc main_arg5))) (ang lit0 lit1))
      ∧ r.2.mem ((c.tc : Thread nD τ).loc main_v128) = headsV (vals (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res0 m c), (h c).2.1.trans (res1 m c), (h c).2.2.1.trans (res2 m c), (h c).2.2.2.1.trans (res3 m c), (h c).2.2.2.2⟩) (Value.run m ρ)
end

/-! ## Read at an index -/

/-- Equal numbers name one lane. -/
theorem lane {n : Nat} (f : Fin n → EReal) {a b : Nat} (h : a = b) (ha : a < n) (hb : b < n) : f ⟨a, ha⟩ = f ⟨b, hb⟩ := by
  subst h; rfl

theorem rms_apply (x : FVec Ideal S16x2048x1024 .f32) (b : Fin 16) (n : Fin 2048) (k : Fin 1024) :
    rms x (ix3 b n k) = Ideal.rsqrt (Ideal.div (∑ l, x (ix3 b n l) * x (ix3 b n l)) (Ideal.ofBits .f32 0x44800000#32) + Ideal.ofBits .f32 0x358637BD#32) := by
  pointwise [rms]

theorem gains_apply (g : FVec Ideal S4x1x1024 .f32) (b : Fin 16) (n : Fin 2048) (k : Fin 1024) : gains g (ix3 b n k) = g (ix3 1 0 k) := by
  pointwise [gains]

theorem mods_apply (md : FVec Ideal S576x1x1024 .f32) (b : Fin 16) (s : Fin 6) (k : Fin 1024) :
    mods md (ix3 b s k) = md (ix3 ⟨144 + b.val * 6 + s.val, by omega⟩ 0 k) := by
  pointwise [mods]

theorem shifts_apply (d : FVec Ideal S16x6x1024 .f32) (b : Fin 16) (k : Fin 1024) : shifts d (ix3 b 0 k) = d (ix3 b 0 k) := by
  pointwise [shifts]

theorem scales_apply (d : FVec Ideal S16x6x1024 .f32) (b : Fin 16) (k : Fin 1024) : scales d (ix3 b 0 k) = d (ix3 b 1 k) := by
  pointwise [scales]

theorem normed_apply (x : FVec Ideal S16x2048x1024 .f32) (md : FVec Ideal S576x1x1024 .f32) (g : FVec Ideal S4x1x1024 .f32) (b : Fin 16) (n : Fin 2048) (k : Fin 1024) :
    normed x md g (ix3 b n k) = x (ix3 b n k) * rms x (ix3 b n k) * gains g (ix3 b n k) * (Ideal.ofBits .f32 0x3F800000#32 + scales (mods md) (ix3 b 0 k)) + shifts (mods md) (ix3 b 0 k) := by
  pointwise [normed]

theorem projected_apply (h : FVec Ideal S16x2048x1024 .f32) (w : FVec Ideal S4x1024x1536 .f32) (b : Fin 16) (n : Fin 2048) (j : Fin 1536) :
    projected h w (ix3 b n j) = ∑ k : Fin 1024, h (ix3 b n k) * w (ix3 1 k j) := by
  pointwise [projected]

/-- Lane `d` of a head over its root mean square, times its gain. -/
def headAt (X G : Fin 64 → EReal) (d : Fin 64) : EReal :=
  X d * Ideal.rsqrt (Ideal.div (∑ e, X e * X e) (Ideal.ofBits .f32 0x42800000#32) + Ideal.ofBits .f32 0x358637BD#32) * G d

theorem normQ_apply (x : FVec Ideal S16x2048x16x64 .f32) (g : FVec Ideal S1x64 .f32) (b : Fin 16) (n : Fin 2048) (h : Fin 16) (d : Fin 64) :
    normQ x g (ix4 b n h d) = headAt (fun e => x (ix4 b n h e)) (fun e => g (ix2 0 e)) d := by
  pointwise [normQ, headAt]

theorem normK_apply (x : FVec Ideal S16x2048x4x64 .f32) (g : FVec Ideal S1x64 .f32) (b : Fin 16) (n : Fin 2048) (h : Fin 4) (d : Fin 64) :
    normK x g (ix4 b n h d) = headAt (fun e => x (ix4 b n h e)) (fun e => g (ix2 0 e)) d := by
  pointwise [normK, headAt]

theorem qcols_apply (y : FVec Ideal S16x2048x1536 .f32) (b : Fin 16) (n : Fin 2048) (h : Fin 16) (d : Fin 64) :
    (shapeCast S16x2048x16x64 (extractStridedSlice S16x2048x1024 ![0, 0, 0] y slices_S16x2048x1536_S16x2048x1024_0_0_0) shapeCasts_S16x2048x1024_S16x2048x16x64 : FVec Ideal S16x2048x16x64 .f32) (ix4 b n h d)
      = y (ix3 b n ⟨h.val * 64 + d.val, by omega⟩) := by
  pointwise []

theorem kcols_apply (y : FVec Ideal S16x2048x1536 .f32) (b : Fin 16) (n : Fin 2048) (h : Fin 4) (d : Fin 64) :
    (shapeCast S16x2048x4x64 (extractStridedSlice S16x2048x256 ![0, 0, 1024] y slices_S16x2048x1536_S16x2048x256_0_0_1024) shapeCasts_S16x2048x256_S16x2048x4x64 : FVec Ideal S16x2048x4x64 .f32) (ix4 b n h d)
      = y (ix3 b n ⟨1024 + (h.val * 64 + d.val), by omega⟩) := by
  pointwise []

theorem over_apply (q : FVec Ideal S16x2048x16x64 .f32) (i : S16x2048x16x64.Idx) :
    (Host.divf (mulf q (broadcastInDim S16x2048x16x64 ![] bcast_S_S16x2048x16x64 (constant S_ .f32 0x3E000000#32)))
      (broadcastInDim S16x2048x16x64 ![] bcast_S_S16x2048x16x64 (Host.log (constant S_ .f32 0x40000000#32))) : FVec Ideal S16x2048x16x64 .f32) i
      = Ideal.div (q i * Ideal.ofBits .f32 0x3E000000#32) (Ideal.log (Ideal.ofBits .f32 0x40000000#32)) := by
  rfl

theorem queries_apply (y : FVec Ideal S16x2048x1536 .f32) (g : FVec Ideal S1x64 .f32) (b : Fin 16) (n : Fin 2048) (h : Fin 16) (d : Fin 64) :
    queries y g (ix4 b n h d) = Ideal.div (headAt (fun e => y (ix3 b n ⟨h.val * 64 + e.val, by omega⟩)) (fun e => g (ix2 0 e)) d * Ideal.ofBits .f32 0x3E000000#32) (Ideal.log (Ideal.ofBits .f32 0x40000000#32)) := by
  unfold queries
  rw [over_apply, normQ_apply]
  simp only [qcols_apply]

theorem keys_apply (y : FVec Ideal S16x2048x1536 .f32) (g : FVec Ideal S1x64 .f32) (b : Fin 16) (n : Fin 2048) (h : Fin 4) (d : Fin 64) :
    keys y g (ix4 b n h d) = headAt (fun e => y (ix3 b n ⟨1024 + (h.val * 64 + e.val), by omega⟩)) (fun e => g (ix2 0 e)) d := by
  unfold keys
  rw [normK_apply]
  simp only [kcols_apply]

theorem vals_apply (y : FVec Ideal S16x2048x1536 .f32) (b : Fin 16) (n : Fin 2048) (h : Fin 4) (d : Fin 64) :
    vals y (ix4 b n h d) = y (ix3 b n ⟨1280 + (h.val * 64 + d.val), by omega⟩) := by
  pointwise [vals]

theorem quarters_apply (x : FVec Ideal S16x2048x16x64 .f32) (b : Fin 16) (n : Fin 2048) (h : Fin 16) (d : Fin 64) :
    quarters x (ix4 b n h d) = if d.val % 32 < 16 then -x (ix4 b n h ⟨(d.val + 16) % 64, by omega⟩) else x (ix4 b n h ⟨(d.val + 48) % 64, by omega⟩) := by
  by_cases hd : d.val % 32 < 16
  · refine Eq.trans ?_ (if_pos hd).symm
    pointwise [quarters]
    split_ifs <;> first
      | (exfalso; omega)
      | exact congrArg (fun e => -x (ix4 b n h e)) (Fin.ext (by first | omega | (simp only; omega)))
      | exact congrArg (fun e => x (ix4 b n h e)) (Fin.ext (by first | omega | (simp only; omega)))
  · refine Eq.trans ?_ (if_neg hd).symm
    pointwise [quarters]
    split_ifs <;> first
      | (exfalso; omega)
      | exact congrArg (fun e => -x (ix4 b n h e)) (Fin.ext (by first | omega | (simp only; omega)))
      | exact congrArg (fun e => x (ix4 b n h e)) (Fin.ext (by first | omega | (simp only; omega)))

theorem quartersK_apply (x : FVec Ideal S16x2048x4x64 .f32) (b : Fin 16) (n : Fin 2048) (h : Fin 4) (d : Fin 64) :
    quartersK x (ix4 b n h d) = if d.val % 32 < 16 then -x (ix4 b n h ⟨(d.val + 16) % 64, by omega⟩) else x (ix4 b n h ⟨(d.val + 48) % 64, by omega⟩) := by
  by_cases hd : d.val % 32 < 16
  · refine Eq.trans ?_ (if_pos hd).symm
    pointwise [quartersK]
    split_ifs <;> first
      | (exfalso; omega)
      | exact congrArg (fun e => -x (ix4 b n h e)) (Fin.ext (by first | omega | (simp only; omega)))
      | exact congrArg (fun e => x (ix4 b n h e)) (Fin.ext (by first | omega | (simp only; omega)))
  · refine Eq.trans ?_ (if_neg hd).symm
    pointwise [quartersK]
    split_ifs <;> first
      | (exfalso; omega)
      | exact congrArg (fun e => -x (ix4 b n h e)) (Fin.ext (by first | omega | (simp only; omega)))
      | exact congrArg (fun e => x (ix4 b n h e)) (Fin.ext (by first | omega | (simp only; omega)))

theorem rotated_apply (x : FVec Ideal S16x2048x16x64 .f32) (a : FVec Ideal S2048x64 .f32) (b : Fin 16) (n : Fin 2048) (h : Fin 16) (d : Fin 64) :
    rotated x a (ix4 b n h d) = x (ix4 b n h d) * Ideal.cos (a (ix2 n d)) + quarters x (ix4 b n h d) * Ideal.sin (a (ix2 n d)) := by
  pointwise [rotated]

theorem rotatedK_apply (x : FVec Ideal S16x2048x4x64 .f32) (a : FVec Ideal S2048x64 .f32) (b : Fin 16) (n : Fin 2048) (h : Fin 4) (d : Fin 64) :
    rotatedK x a (ix4 b n h d) = x (ix4 b n h d) * Ideal.cos (a (ix2 n d)) + quartersK x (ix4 b n h d) * Ideal.sin (a (ix2 n d)) := by
  pointwise [rotatedK]

theorem headsQ_apply (x : FVec Ideal S16x2048x16x64 .f32) (b : Fin 16) (h : Fin 16) (n : Fin 2048) (d : Fin 64) : headsQ x (ix4 b h n d) = x (ix4 b n h d) := by
  pointwise [headsQ]

theorem headsK_apply (x : FVec Ideal S16x2048x4x64 .f32) (b : Fin 16) (h : Fin 4) (n : Fin 2048) (d : Fin 64) : headsK x (ix4 b h n d) = x (ix4 b n h d) := by
  pointwise [headsK]

theorem headsV_apply (x : FVec Ideal S16x2048x4x64 .f32) (b : Fin 16) (h : Fin 4) (n : Fin 2048) (l : Fin 256) (r : EReal)
    (h0 : ∀ e : l.val < 64, x (ix4 b n h ⟨l.val, e⟩) = r) (h1 : 64 ≤ l.val → l.val < 192 → 1 = r) (h2 : ∀ e : 192 ≤ l.val, x (ix4 b n h ⟨l.val - 192, by omega⟩) = r) :
    headsV x (ix4 b h n l) = r := by
  pointwise [headsV]
  split_ifs <;> first
    | exact h1 (by omega) (by omega)
    | exact h0 (by omega)
    | exact Eq.trans (congrArg (fun e => x (ix4 b n h e)) (Fin.ext (by first | omega | (simp only; omega)))) (h2 (by omega))

end Cert.Reference6Ideal.Hand

end
-- ==== Proof.NormFinite.lean ====
/-
  What the precondition on the second layer's projection gives: the projections are real numbers; and what follows for the
  normalisation of a head, whose two-part sum of squares is then the plain one.
-/
module

public import proofs.«01_k».proof.Proof.NormArrays
public import proofs.«01_k».proof.Proof.RefNorm
public import proofs.«01_k».proof.Proof.WinEquation
public import proofs.«01_k».proof.Proof.Gen.Pre_finite_rows

@[expose] public section

set_option maxRecDepth 16384

noncomputable section

namespace Cert.Norm

open Idealize.ShloMosaic Idealize.SL.Sem Cert.Attend

instance : Subsingleton (Cert.Pre_finite_rows.S_).Idx := ⟨fun a b => funext fun i => i.elim0⟩

open Cert.Pre_finite_rows in
/-- Where the precondition holds, modulations, gains and weights are reals. -/
theorem real_of_finite_rows (x : FVec Ideal S16x2048x1024 .f32) (md : FVec Ideal S576x1x1024 .f32) (g : FVec Ideal S4x1x1024 .f32) (w : FVec Ideal S4x1024x1536 .f32)
    (gq gk : FVec Ideal S1x64 .f32) (h : Cert.Pre_finite_rows.fn (F := Ideal) x md g w gq gk = fun _ => 1#1) :
    (∀ i, ∃ r : ℝ, (md i : EReal) = r) ∧ (∀ i, ∃ r : ℝ, (g i : EReal) = r) ∧ (∀ i, ∃ r : ℝ, (w i : EReal) = r) := by
  have h0 := congrFun h (fun i => i.elim0)
  obtain ⟨h1, hw⟩ := and_one h0
  obtain ⟨hm, hg⟩ := and_one h1
  exact ⟨real_of_all_f32 md _ _ _ _ _ (fun _ => rfl) hm, real_of_all_f32 g _ _ _ _ _ (fun _ => rfl) hg, real_of_all_f32 w _ _ _ _ _ (fun _ => rfl) hw⟩

open Cert.Kernel6Ideal

/-! ## The constants -/

theorem val_1024 : Ideal.ofBits .f32 0x44800000#32 = ((1024 : ℝ) : EReal) := by
  simp [Ideal.ofBits, Ideal.ieee, -EReal.coe_mul]; norm_num

theorem val_64 : Ideal.ofBits .f32 0x42800000#32 = ((64 : ℝ) : EReal) := by
  simp [Ideal.ofBits, Ideal.ieee, -EReal.coe_mul]; norm_num

theorem val_64th : Ideal.ofBits .f32 0x3C800000#32 = ((1 / 64 : ℝ) : EReal) := by
  simp [Ideal.ofBits, Ideal.ieee, -EReal.coe_mul]; norm_num

/-- The small number under the roots. -/
theorem val_eps : Ideal.ofBits .f32 0x358637BD#32 = ((8796093 / 8796093022208 : ℝ) : EReal) := by
  simp [Ideal.ofBits, Ideal.ieee, -EReal.coe_mul]; norm_num

/-! ## The projections are real -/

theorem finite_add {a b : EReal} (ha : ∃ x : ℝ, a = x) (hb : ∃ x : ℝ, b = x) : ∃ x : ℝ, a + b = x := by
  obtain ⟨x, rfl⟩ := ha; obtain ⟨y, rfl⟩ := hb
  exact ⟨x + y, (EReal.coe_add x y).symm⟩

theorem rsqrt_real {r : ℝ} (h : 0 < r) : ∃ q : ℝ, Ideal.rsqrt (r : EReal) = q :=
  ⟨_, by rw [Ideal.rsqrt_coe, if_neg (not_lt.2 h.le), if_neg h.ne']⟩

theorem square_nonneg (a : EReal) : 0 ≤ a * a := by
  induction a using EReal.rec with
  | bot => simp
  | coe r => rw [← EReal.coe_mul]; exact EReal.coe_nonneg.2 (mul_self_nonneg r)
  | top => simp

/-- An element over its row's root mean square is a real, whatever the row: over an infinite mean it is zero. -/
theorem row_real (x : Fin 1024 → EReal) (k : Fin 1024) :
    ∃ r : ℝ, x k * Ideal.rsqrt (Ideal.div (∑ l, x l * x l) (Ideal.ofBits .f32 0x44800000#32) + Ideal.ofBits .f32 0x358637BD#32) = r := by
  have h0 : 0 ≤ ∑ l, x l * x l := Finset.sum_nonneg fun l _ => square_nonneg (x l)
  have hk : x k * x k ≤ ∑ l, x l * x l := Finset.single_le_sum (f := fun l => x l * x l) (fun l _ => square_nonneg (x l)) (Finset.mem_univ k)
  rw [val_1024, val_eps, Ideal.div_coe (by norm_num)]
  generalize (∑ l, x l * x l) = S at h0 hk ⊢
  induction S using EReal.rec with
  | bot => simp at h0
  | top => exact ⟨0, by rw [EReal.top_mul_coe_of_pos (by norm_num), EReal.top_add_coe, Ideal.rsqrt_top, mul_zero, EReal.coe_zero]⟩
  | coe s =>
    have hs : 0 ≤ s := EReal.coe_nonneg.1 h0
    rw [← EReal.coe_mul, ← EReal.coe_add]
    refine finite_mul ?_ (rsqrt_real (by positivity))
    generalize x k = a at hk
    induction a using EReal.rec with
    | bot => simp at hk
    | coe r => exact ⟨r, rfl⟩
    | top => simp at hk

theorem proj_real (x g sh sc w : Fin 1024 → EReal) (hg : ∀ k, ∃ r : ℝ, g k = r) (hs : ∀ k, ∃ r : ℝ, sh k = r) (hc : ∀ k, ∃ r : ℝ, sc k = r) (hw : ∀ k, ∃ r : ℝ, w k = r) :
    ∃ r : ℝ, Hand.proj x g sh sc w = r :=
  finite_sum fun k => finite_mul (finite_add (finite_mul (finite_mul (row_real x k) (hg k))
    (finite_add ⟨1, Ideal.ofBits_one_f32.trans EReal.coe_one.symm⟩ (hc k))) (hs k)) (hw k)

theorem prj_real (x : Vec Ideal S16x2048x1024 .f32) (md : Vec Ideal S576x1x1024 .f32) (g : Vec Ideal S4x1x1024 .f32) (w : Vec Ideal S4x1024x1536 .f32)
    (hm : ∀ i, ∃ r : ℝ, (md i : EReal) = r) (hg : ∀ i, ∃ r : ℝ, (g i : EReal) = r) (hw : ∀ i, ∃ r : ℝ, (w i : EReal) = r) (b : Fin 16) (n : Fin 2048) (j : Fin 1536) :
    ∃ r : ℝ, Hand.prj x md g w b n j = r :=
  proj_real _ _ _ _ _ (fun _ => hg _) (fun _ => hm _) (fun _ => hm _) (fun _ => hw _)

/-! ## A head's normalisation -/

/-- A sum over two heads' lanes that counts one head's is the sum over that head. -/
theorem head_sum (f : Fin 128 → EReal) (p : Fin 2) (d : Fin 64) :
    ∑ l, f l * Hand.oneHead l ⟨64 * p.val + d.val, by omega⟩ = ∑ e : Fin 64, f ⟨64 * p.val + e.val, by omega⟩ := by
  have hd : (64 * p.val + d.val) / 64 = p.val := by omega
  unfold Hand.oneHead
  simp only [hd]
  rw [Fin.sum_univ_two_halves 64 64 rfl]
  match p with
  | ⟨0, _⟩ =>
    refine Eq.trans (b := (∑ e : Fin 64, f ⟨64 * 0 + e.val, by omega⟩) + 0) (congrArg₂ (· + ·) (Finset.sum_congr rfl fun e _ => ?_) (Finset.sum_eq_zero fun e _ => ?_)) (add_zero _)
    · rw [if_pos (by simp only; omega), mul_one]
      exact congrArg f (Fin.ext (by simp only; omega))
    · rw [if_neg (by simp only; omega), mul_zero]
  | ⟨1, _⟩ =>
    refine Eq.trans (b := 0 + ∑ e : Fin 64, f ⟨64 * 1 + e.val, by omega⟩) (congrArg₂ (· + ·) (Finset.sum_eq_zero fun e _ => ?_) (Finset.sum_congr rfl fun e _ => ?_)) (zero_add _)
    · rw [if_neg (by simp only; omega), mul_zero]
    · rw [if_pos (by simp only; omega), mul_one]

/-- On real lanes the kernel's normalisation of two heads is the reference's of each. -/
theorem norm_eq (v G : Fin 128 → EReal) (X Y : Fin 64 → EReal) (p : Fin 2) (d : Fin 64) (hv : ∀ j, ∃ r : ℝ, v j = r)
    (hX : ∀ e : Fin 64, v ⟨64 * p.val + e.val, by omega⟩ = X e) (hG : G ⟨64 * p.val + d.val, by omega⟩ = Y d) :
    Hand.normAt v G Hand.oneHead ⟨64 * p.val + d.val, by omega⟩ = Cert.Reference6Ideal.Hand.headAt X Y d := by
  unfold Hand.normAt Cert.Reference6Ideal.Hand.headAt
  have hz : ∑ l, (v l * v l - v l * v l) * Hand.oneHead l ⟨64 * p.val + d.val, by omega⟩ = 0 := Finset.sum_eq_zero fun l _ => by
    obtain ⟨r, hr⟩ := hv l
    rw [hr, ← EReal.coe_mul, ← EReal.coe_sub, sub_self, EReal.coe_zero, zero_mul]
  rw [hz, add_zero, head_sum (fun l => v l * v l), val_64, Ideal.div_coe (by norm_num), val_64th, hX d, hG]
  simp only [hX]

end Cert.Norm

end
-- ==== Proof.NormEquation.lean ====
/-
  The four arrays of the second layer's projection kernel are its reference's four results.
-/
module

public import proofs.«01_k».proof.Proof.NormFinite
public import proofs.«01_k».proof.Proof.QkvEquation

@[expose] public section

set_option maxRecDepth 16384

noncomputable section

namespace Cert.Norm

open Idealize.ShloMosaic Idealize.SL.Sem
open Cert.Kernel6Ideal

/-! ## The constants -/

/-- Over eight and over the logarithm of two is times the kernel's factor. -/
theorem scale (a : EReal) : Ideal.div (a * Ideal.ofBits .f32 0x3E000000#32) (Ideal.log (Ideal.ofBits .f32 0x40000000#32)) = a * Hand.fac :=
  Cert.Qkv.scale_eq a

/-- Both programs hold the same tables of positions. -/
theorem rows_eq : Cert.Reference6Ideal.lit0 = Cert.Kernel6Ideal.lit1 :=
  funext (by decide +kernel : ∀ i : Fin 2048, Cert.Reference6Ideal.lit0 i = Cert.Kernel6Ideal.lit1 i)

theorem cols_eq : Cert.Reference6Ideal.lit1 = Cert.Kernel6Ideal.lit2 :=
  funext (by decide +kernel : ∀ i : Fin 2048, Cert.Reference6Ideal.lit1 i = Cert.Kernel6Ideal.lit2 i)

/-- So they hold the same angles. -/
theorem ang_eq : Cert.Reference6Ideal.Hand.ang (F := Ideal) Cert.Reference6Ideal.lit0 Cert.Reference6Ideal.lit1 = Hand.ang lit1 lit2 := by
  rw [rows_eq, cols_eq]
  rfl

/-- The signs of the sines. -/
theorem sign_bits : ∀ j : Fin 128, lit3 j = if j.val % 32 < 16 then 0xBF800000#32 else 0x3F800000#32 := by decide +kernel

/-- The one and the minus one of that table. -/
theorem sign_val (j : Fin 128) : Ideal.ofBits .f32 (lit3 j) = if j.val % 32 < 16 then (-1 : EReal) else 1 := by
  rw [sign_bits]
  split_ifs
  · rw [show (-1 : EReal) = ((-(1 : ℝ) : ℝ) : EReal) by rw [EReal.coe_neg, EReal.coe_one]]
    simp [Ideal.ofBits, Ideal.ieee, -EReal.coe_mul, -EReal.coe_neg]; norm_num
  · exact Ideal.ofBits_one_f32

/-- The kernel's cosines repeat the angles' cosines for the two heads of a row of lanes. -/
theorem cos_apply (n : Fin 2048) (h : Fin 2) (d : Fin 64) :
    Hand.cosAt n ⟨64 * h.val + d.val, by omega⟩ = Ideal.cos (Hand.ang (F := Ideal) lit1 lit2 (ix2 n d)) := by
  unfold Hand.cosAt
  generalize Hand.ang (F := Ideal) lit1 lit2 = a
  pointwise [Hand.cosT, Hand.angs]
  split_ifs with e
  all_goals first
    | exact congrArg (fun j => Ideal.cos (a (ix2 n j))) (Fin.ext (by first | omega | (simp only; omega)))
    | exact absurd rfl ‹¬ _ = _›

/-- The kernel's sines do so with the signs of the turn. -/
theorem sin_apply (n : Fin 2048) (h : Fin 2) (d : Fin 64) :
    Hand.sinAt n ⟨64 * h.val + d.val, by omega⟩ = Ideal.sin (Hand.ang (F := Ideal) lit1 lit2 (ix2 n d)) * (if d.val % 32 < 16 then (-1 : EReal) else 1) := by
  unfold Hand.sinAt
  generalize Hand.ang (F := Ideal) lit1 lit2 = a
  pointwise [Hand.sinT, Hand.angs]
  have er : S128.rowMajor (ix1 (⟨64 * h.val + d.val, by omega⟩ : Fin 128)) = (⟨64 * h.val + d.val, by omega⟩ : Fin 128) :=
    Fin.ext (Shape.rowMajor_val_one (d := ![128]) (ix1 (⟨64 * h.val + d.val, by omega⟩ : Fin 128)))
  rw [er, sign_val]
  have ei : (if (⟨64 * h.val + d.val, by omega⟩ : Fin 128).val % 32 < 16 then (-1 : EReal) else 1) = if d.val % 32 < 16 then -1 else 1 :=
    if_congr (by show (64 * h.val + d.val) % 32 < 16 ↔ _; omega) rfl rfl
  rw [ei]
  generalize (if d.val % 32 < 16 then (-1 : EReal) else 1) = sg
  split_ifs with e
  all_goals first
    | exact congrArg (fun j => Ideal.sin (a (ix2 n j)) * sg) (Fin.ext (by first | omega | (simp only; omega)))
    | exact absurd rfl ‹¬ _ = _›

/-! ## The projections -/

section
variable (x : Vec Ideal S16x2048x1024 .f32) (md : Vec Ideal S576x1x1024 .f32) (g : Vec Ideal S4x1x1024 .f32) (w : Vec Ideal S4x1024x1536 .f32)

/-- The reference's projections. -/
def refY : FVec Ideal Cert.Reference6Ideal.S16x2048x1536 .f32 := Cert.Reference6Ideal.Hand.projected (Cert.Reference6Ideal.Hand.normed x md g) w

open Cert.Reference6Ideal.Hand in
/-- They are the kernel's. -/
theorem ys_apply (b : Fin 16) (n : Fin 2048) (j : Fin 1536) : refY x md g w (ix3 b n j) = Hand.prj x md g w b n j := by
  unfold refY
  rw [projected_apply]
  unfold Hand.prj Hand.proj
  refine Finset.sum_congr rfl fun k _ => ?_
  rw [normed_apply, rms_apply, gains_apply, scales_apply, shifts_apply, mods_apply, mods_apply]
  have e0 : (⟨144 + b.val * 6 + (0 : Fin 6).val, by show 144 + b.val * 6 + 0 < 576; omega⟩ : Fin 576) = Hand.shRow b := Fin.ext (by show 144 + b.val * 6 + 0 = 144 + 6 * b.val; omega)
  have e1 : (⟨144 + b.val * 6 + (1 : Fin 6).val, by show 144 + b.val * 6 + 1 < 576; omega⟩ : Fin 576) = Hand.scRow b := Fin.ext (by show 144 + b.val * 6 + 1 = 144 + 6 * b.val + 1; omega)
  rw [e0, e1]

/-- A head's lane turned by the tables is the reference's rotary embedding of the head. -/
theorem turn_eq (X : Fin 64 → EReal) (v c s : Fin 128 → EReal) (p : Fin 2) (d : Fin 64) (C S : EReal) (hv : ∀ e : Fin 64, v ⟨64 * p.val + e.val, by omega⟩ = X e)
    (hc : c ⟨64 * p.val + d.val, by omega⟩ = C) (hs : s ⟨64 * p.val + d.val, by omega⟩ = S * (if d.val % 32 < 16 then (-1 : EReal) else 1)) :
    Hand.turn v c s ⟨64 * p.val + d.val, by omega⟩ = X d * C + (if d.val % 32 < 16 then -X ⟨(d.val + 16) % 64, by omega⟩ else X ⟨(d.val + 48) % 64, by omega⟩) * S := by
  obtain rfl : X = fun e : Fin 64 => v ⟨64 * p.val + e.val, by omega⟩ := funext fun e => (hv e).symm
  unfold Hand.turn
  rw [hc, hs]
  by_cases h : d.val % 32 < 16
  · rw [if_pos (show (64 * p.val + d.val) % 32 < 16 by omega), if_pos h, if_pos h, mul_neg, mul_one, mul_neg, neg_mul]
    exact congrArg (fun e => v ⟨64 * p.val + d.val, by omega⟩ * C + -(v e * S)) (Fin.ext (by show (64 * p.val + d.val + 16) % 128 = 64 * p.val + (d.val + 16) % 64; omega))
  · rw [if_neg (show ¬ (64 * p.val + d.val) % 32 < 16 by omega), if_neg h, if_neg h, mul_one]
    exact congrArg (fun e => v ⟨64 * p.val + d.val, by omega⟩ * C + v e * S) (Fin.ext (by show (64 * p.val + d.val + 112) % 128 = 64 * p.val + (d.val + 48) % 64; omega))

theorem gain_at (G : Vec Ideal S1x64 .f32) (p : Fin 2) (d : Fin 64) : Hand.gainAt G ⟨64 * p.val + d.val, by omega⟩ = G (ix2 0 d) :=
  congrArg (fun e => G (ix2 0 e)) (Fin.ext (by show (64 * p.val + d.val) % 64 = d.val; omega))

open Cert.Reference6Ideal.Hand in
theorem query_at (hm : ∀ i, ∃ r : ℝ, (md i : EReal) = r) (hg : ∀ i, ∃ r : ℝ, (g i : EReal) = r) (hw : ∀ i, ∃ r : ℝ, (w i : EReal) = r) (gq : Vec Ideal S1x64 .f32) (b : Fin 16) (n : Fin 2048) (h : Fin 16) (d : Fin 64) :
    queries (refY x md g w) gq (ix4 b n h d)
      = Hand.normAt (fun j => Hand.prj x md g w b n ⟨128 * (h.val / 2) + j.val, by omega⟩) (Hand.gainAt gq) Hand.oneHead ⟨64 * (h.val % 2) + d.val, by omega⟩ * Hand.fac := by
  rw [queries_apply, scale]
  refine congrArg (· * Hand.fac) (norm_eq _ _ _ _ ⟨h.val % 2, by omega⟩ d (fun j => prj_real x md g w hm hg hw b n _) (fun e => ?_) (gain_at gq ⟨h.val % 2, by omega⟩ d)).symm
  refine Eq.trans ?_ (ys_apply x md g w b n _).symm
  exact congrArg (fun j => Hand.prj x md g w b n j) (Fin.ext (by show 128 * (h.val / 2) + (64 * (h.val % 2) + e.val) = h.val * 64 + e.val; omega))

open Cert.Reference6Ideal.Hand in
theorem key_at (hm : ∀ i, ∃ r : ℝ, (md i : EReal) = r) (hg : ∀ i, ∃ r : ℝ, (g i : EReal) = r) (hw : ∀ i, ∃ r : ℝ, (w i : EReal) = r) (gk : Vec Ideal S1x64 .f32) (b : Fin 16) (n : Fin 2048) (h : Fin 4) (d : Fin 64) :
    keys (refY x md g w) gk (ix4 b n h d)
      = Hand.normAt (fun j => Hand.prj x md g w b n ⟨1024 + 128 * (h.val / 2) + j.val, by omega⟩) (Hand.gainAt gk) Hand.oneHead ⟨64 * (h.val % 2) + d.val, by omega⟩ := by
  rw [keys_apply]
  refine (norm_eq _ _ _ _ ⟨h.val % 2, by omega⟩ d (fun j => prj_real x md g w hm hg hw b n _) (fun e => ?_) (gain_at gk ⟨h.val % 2, by omega⟩ d)).symm
  refine Eq.trans ?_ (ys_apply x md g w b n _).symm
  exact congrArg (fun j => Hand.prj x md g w b n j) (Fin.ext (by show 1024 + 128 * (h.val / 2) + (64 * (h.val % 2) + e.val) = 1024 + (h.val * 64 + e.val); omega))

open Cert.Reference6Ideal.Hand in
theorem qp_eq (hm : ∀ i, ∃ r : ℝ, (md i : EReal) = r) (hg : ∀ i, ∃ r : ℝ, (g i : EReal) = r) (hw : ∀ i, ∃ r : ℝ, (w i : EReal) = r) (gq : Vec Ideal S1x64 .f32) : headsQ (queries (refY x md g w) gq) = Hand.QP x md g w gq := by
  funext z
  obtain ⟨b, h, n, d, rfl⟩ : ∃ (b : Fin 16) (h : Fin 16) (n : Fin 2048) (d : Fin 64), z = ix4 b h n d := ⟨z 0, z 1, z 2, z 3, eq_ix4 z⟩
  exact (headsQ_apply _ b h n d).trans (query_at x md g w hm hg hw gq b n h d)

open Cert.Reference6Ideal.Hand in
theorem qr_eq (hm : ∀ i, ∃ r : ℝ, (md i : EReal) = r) (hg : ∀ i, ∃ r : ℝ, (g i : EReal) = r) (hw : ∀ i, ∃ r : ℝ, (w i : EReal) = r) (gq : Vec Ideal S1x64 .f32) :
    headsQ (rotated (queries (refY x md g w) gq) (ang Cert.Reference6Ideal.lit0 Cert.Reference6Ideal.lit1)) = Hand.QR x md g w gq := by
  funext z
  obtain ⟨b, h, n, d, rfl⟩ : ∃ (b : Fin 16) (h : Fin 16) (n : Fin 2048) (d : Fin 64), z = ix4 b h n d := ⟨z 0, z 1, z 2, z 3, eq_ix4 z⟩
  refine (headsQ_apply _ b h n d).trans ?_
  rw [rotated_apply, quarters_apply, ang_eq]
  exact (turn_eq (fun d => queries (refY x md g w) gq (ix4 b n h d)) _ _ _ ⟨h.val % 2, by omega⟩ d _ _ (fun e => (query_at x md g w hm hg hw gq b n h e).symm) (cos_apply n ⟨h.val % 2, by omega⟩ d) (sin_apply n ⟨h.val % 2, by omega⟩ d)).symm

open Cert.Reference6Ideal.Hand in
theorem kr_eq (hm : ∀ i, ∃ r : ℝ, (md i : EReal) = r) (hg : ∀ i, ∃ r : ℝ, (g i : EReal) = r) (hw : ∀ i, ∃ r : ℝ, (w i : EReal) = r) (gk : Vec Ideal S1x64 .f32) :
    headsK (rotatedK (keys (refY x md g w) gk) (ang Cert.Reference6Ideal.lit0 Cert.Reference6Ideal.lit1)) = Hand.KR x md g w gk := by
  funext z
  obtain ⟨b, h, n, d, rfl⟩ : ∃ (b : Fin 16) (h : Fin 4) (n : Fin 2048) (d : Fin 64), z = ix4 b h n d := ⟨z 0, z 1, z 2, z 3, eq_ix4 z⟩
  refine (headsK_apply _ b h n d).trans ?_
  rw [rotatedK_apply, quartersK_apply, ang_eq]
  exact (turn_eq (fun d => keys (refY x md g w) gk (ix4 b n h d)) _ _ _ ⟨h.val % 2, by omega⟩ d _ _ (fun e => (key_at x md g w hm hg hw gk b n h e).symm) (cos_apply n ⟨h.val % 2, by omega⟩ d) (sin_apply n ⟨h.val % 2, by omega⟩ d)).symm

open Cert.Reference6Ideal.Hand in
theorem va_eq : headsV (vals (refY x md g w)) = Hand.VA x md g w := by
  funext z
  obtain ⟨b, h, n, l, rfl⟩ : ∃ (b : Fin 16) (h : Fin 4) (n : Fin 2048) (l : Fin 256), z = ix4 b h n l := ⟨z 0, z 1, z 2, z 3, eq_ix4 z⟩
  show _ = Hand.vlane (fun j => Hand.prj x md g w b n j) h l
  refine headsV_apply _ b h n l _ (fun e => ?_) (fun e e' => ?_) (fun e => ?_)
  · refine ((vals_apply _ b n h _).trans (ys_apply x md g w b n _)).trans ?_
    refine Eq.trans ?_ (if_pos e).symm
    exact congrArg (fun j => Hand.prj x md g w b n j) (Fin.ext (by show 1280 + (h.val * 64 + l.val) = (1280 + 64 * h.val + l.val) % 1536; omega))
  · exact ((if_neg (by omega)).trans (if_pos e')).symm
  · refine ((vals_apply _ b n h _).trans (ys_apply x md g w b n _)).trans ?_
    refine Eq.trans ?_ ((if_neg (by omega)).trans (if_neg (by omega))).symm
    exact congrArg (fun j => Hand.prj x md g w b n j) (Fin.ext (by show 1280 + (h.val * 64 + (l.val - 192)) = 1280 + 64 * h.val + (l.val - 192); omega))
end

end Cert.Norm

end
-- ==== Proof.CtxBlock.lean ====
/-
  What the projection kernel computes for the context at one point of its grid: the rows of a block, normalised, scaled and shifted, times the
  weights; then, column block by column block of 128 lanes, two heads' queries, keys or values at a time.
-/
module

public import proofs.«01_k».proof.Proof.Gen.Kernel7Ideal.Value
public import Idealize.ShloMosaic.Lib.Pointwise

@[expose] public section

set_option maxRecDepth 16384

noncomputable section

namespace Cert.Kernel7Ideal.Hand

open Cert.Kernel7Ideal Cert.Kernel7Ideal.Gen Idealize.ShloMosaic Idealize.ShloMosaic.TcCoe Idealize.SL.Sem

section
variable {F : FTy → Type} [FloatOps F] [Named F]

/-- The kernel's factor on the queries. -/
def factor : F .f32 := Named.named κ "attn_scale" 0x3E38AA3B#32

/-- The column block of 128 lanes that begins at lane `o`. -/
def cols (o : Nat) (hs : S256x1536.Slices ![0, o] S256x128) (y : FVec F S256x1536 .f32) : FVec F S256x128 .f32 :=
  extractStridedSlice S256x128 ![0, o] y hs

/-- A column block times the factor. -/
def scaled (v : FVec F S256x128 .f32) : FVec F S256x128 .f32 := mulf v (broadcast S256x128 factor)

/-- The first head of a column block, as a piece of an output block. -/
def fst (v : FVec F S256x128 .f32) : FVec F S1x1x256x64 .bf16 :=
  shapeCast S1x1x256x64 (truncf .bf16 (extractStridedSlice S256x64 ![0, 0] v slices_S256x128_o0_0_S256x64 : FVec F S256x64 .f32) bitsLt_bf16_f32 : FVec F S256x64 .bf16) shapeCasts_S256x64_S1x1x256x64

/-- The second head of a column block. -/
def snd (v : FVec F S256x128 .f32) : FVec F S1x1x256x64 .bf16 :=
  shapeCast S1x1x256x64 (truncf .bf16 (extractStridedSlice S256x64 ![0, 64] v slices_S256x128_o0_64_S256x64 : FVec F S256x64 .f32) bitsLt_bf16_f32 : FVec F S256x64 .bf16) shapeCasts_S256x64_S1x1x256x64

/-- A column block with ones in its high lanes. -/
def thenOnes (a : FVec F S256x128 .f32) : FVec F S256x128 .f32 :=
  select (broadcastTo S256x128 (shapeCast S1x128 k0_pay38 shapeCasts_S1x128_S1x128) broadcasts_S1x128_S256x128) a
    (broadcast S256x128 (Scalar.ofBits .f32 0x3F800000#32))

/-- A column block with ones in its low lanes. -/
def onesThen (b : FVec F S256x128 .f32) : FVec F S256x128 .f32 :=
  select (broadcastTo S256x128 (shapeCast S1x128 k0_pay38 shapeCasts_S1x128_S1x128) broadcasts_S1x128_S256x128)
    (broadcast S256x128 (Scalar.ofBits .f32 0x3F800000#32)) b

/-- Two column blocks side by side, as a piece of the values' output block. -/
def beside (p q : FVec F S256x128 .f32) : FVec F S1x1x256x256 .bf16 :=
  shapeCast S1x1x256x256 (truncf .bf16 (concatenate S256x256 1 [⟨S256x128, p⟩, ⟨S256x128, q⟩] concatenates_S256x128_S256x128_S256x256_d1 : FVec F S256x256 .f32) bitsLt_bf16_f32 : FVec F S256x256 .bf16) shapeCasts_S256x256_S1x1x256x256

/-- The lanes `a | 1 | 1 | b` of a head's values, `a` from the low and `b` from the high lanes of two column blocks. -/
def vrow (a b : FVec F S256x128 .f32) : FVec F S1x1x256x256 .bf16 := beside (thenOnes a) (onesThen b)

/-- A column block with its halves exchanged. -/
def swapped (v : FVec F S256x128 .f32) : FVec F S256x128 .f32 := dynamicRotate 1 64#32 none v rotates_S256x128_d1
end

/-- The factor on the queries, as an ideal number. -/
def fac : EReal := factor (F := Ideal)

/-- One row of the normalised, scaled and shifted input times one column of the weights. -/
def proj (x g sh sc w : Fin 1024 → EReal) : EReal :=
  ∑ k : Fin 1024, (x k * Ideal.rsqrt (Ideal.div (∑ l, x l * x l) (Ideal.ofBits .f32 0x44800000#32) + Ideal.ofBits .f32 0x358637BD#32) * g k
    * (Ideal.ofBits .f32 0x3F800000#32 + sc k) + sh k) * w k

theorem projected (v0 : Vec Ideal S1x256x1024 .f32) (v2 v4 v6 : Vec Ideal S1x1x1024 .f32) (v27 : Vec Ideal S1024x1536 .bf16) (i : Fin 256) (j : Fin 1536) :
    k0_pay2 v0 v2 v4 v6 v27 (ix2 i j) = proj (fun k => v0 (ix3 0 i k)) (fun k => v2 (ix3 0 0 k)) (fun k => v4 (ix3 0 0 k)) (fun k => v6 (ix3 0 0 k)) (fun k => v27 (ix2 k j)) := by
  pointwise [k0_pay2, proj]

theorem cols_apply (o : Nat) (hs : S256x1536.Slices ![0, o] S256x128) (y : FVec Ideal S256x1536 .f32) (i : Fin 256) (j : Fin 128) (h : o + j.val < 1536) :
    cols o hs y (ix2 i j) = y (ix2 i ⟨o + j.val, h⟩) := by
  pointwise [cols]

theorem scaled_apply (v : FVec Ideal S256x128 .f32) (i : Fin 256) (j : Fin 128) : scaled v (ix2 i j) = v (ix2 i j) * fac := by
  pointwise [scaled, fac]

theorem fst_apply (v : FVec Ideal S256x128 .f32) (i : Fin 256) (d : Fin 64) : fst v (ix4 0 0 i d) = v (ix2 i ⟨d.val, by omega⟩) := by
  pointwise [fst]

theorem snd_apply (v : FVec Ideal S256x128 .f32) (i : Fin 256) (d : Fin 64) : snd v (ix4 0 0 i d) = v (ix2 i ⟨64 + d.val, by omega⟩) := by
  pointwise [snd]

/-- The first 64 lanes of a column block. -/
theorem low_apply : ∀ j : Fin 128, k0_pay38 (ix2 0 j) = if j.val < 64 then 1#1 else 0#1 := by
  decide +kernel

theorem swapped_apply (v : FVec Ideal S256x128 .f32) (i : Fin 256) (j : Fin 128) :
    swapped v (ix2 i j) = v (ix2 i ⟨(j.val + 64) % 128, by omega⟩) := by
  pointwise [swapped]
  exact congrArg v (congrArg (ix2 i) (Fin.ext (by simp only; omega)))

theorem thenOnes_apply (a : FVec Ideal S256x128 .f32) (i : Fin 256) (j : Fin 128) :
    thenOnes a (ix2 i j) = if j.val < 64 then a (ix2 i j) else 1 := by
  pointwise [thenOnes]
  rw [low_apply]
  split <;> rfl

theorem onesThen_apply (a : FVec Ideal S256x128 .f32) (i : Fin 256) (j : Fin 128) :
    onesThen a (ix2 i j) = if j.val < 64 then 1 else a (ix2 i j) := by
  pointwise [onesThen]
  rw [low_apply]
  split <;> rfl

theorem beside_left (p q : FVec Ideal S256x128 .f32) (i : Fin 256) (l : Fin 128) : beside p q (ix4 0 0 i ⟨l.val, by omega⟩) = p (ix2 i l) := by
  pointwise [beside]

theorem beside_right (p q : FVec Ideal S256x128 .f32) (i : Fin 256) (l : Fin 128) : beside p q (ix4 0 0 i ⟨128 + l.val, by omega⟩) = q (ix2 i l) := by
  pointwise [beside]

/-- A head's values, lane by lane. -/
theorem vrow_apply (a b : FVec Ideal S256x128 .f32) (i : Fin 256) (l : Fin 256) :
    vrow a b (ix4 0 0 i l) = if h : l.val < 64 then a (ix2 i ⟨l.val, by omega⟩) else if h' : l.val < 192 then 1 else b (ix2 i ⟨l.val - 128, by omega⟩) := by
  unfold vrow
  by_cases h : l.val < 128
  · have e := beside_left (thenOnes a) (onesThen b) i ⟨l.val, h⟩
    rw [show (⟨(⟨l.val, h⟩ : Fin 128).val, by omega⟩ : Fin 256) = l from rfl] at e
    rw [e, thenOnes_apply]
    by_cases h1 : l.val < 64
    · rw [if_pos h1, dif_pos h1]
    · rw [if_neg h1, dif_neg h1, dif_pos (by omega)]
  · have e := beside_right (thenOnes a) (onesThen b) i ⟨l.val - 128, by omega⟩
    rw [show (⟨128 + (⟨l.val - 128, by omega⟩ : Fin 128).val, by omega⟩ : Fin 256) = l from Fin.ext (by simp only; omega)] at e
    rw [e, onesThen_apply, dif_neg (by omega)]
    by_cases h1 : l.val < 192
    · rw [if_pos (by simp only; omega), dif_pos h1]
    · rw [if_neg (by simp only; omega), dif_neg h1]

/-! ## The output blocks -/

/-- The plain queries of a block, head by head. -/
def Qp (y : FVec Ideal S256x1536 .f32) : Vec Ideal S1x16x256x64 .bf16 :=
  fun z => y (ix2 (z 2) ⟨64 * (z 1).val + (z 3).val, by have h1 : (z 1).val < 16 := (z 1).isLt; have h3 : (z 3).val < 64 := (z 3).isLt; omega⟩) * fac

/-- The keys of a block, head by head. -/
def Ky (y : FVec Ideal S256x1536 .f32) : Vec Ideal S1x4x256x64 .bf16 :=
  fun z => y (ix2 (z 2) ⟨1024 + 64 * (z 1).val + (z 3).val, by have h1 : (z 1).val < 4 := (z 1).isLt; have h3 : (z 3).val < 64 := (z 3).isLt; omega⟩)

/-- Lane `l` of value head `h` from a row of projections: the head, two runs of ones, the head again. -/
def vlane (f : Fin 1536 → EReal) (h : Fin 4) (l : Fin 256) : EReal :=
  if l.val < 64 then f ⟨(1280 + 64 * h.val + l.val) % 1536, by omega⟩ else if l.val < 192 then 1 else f ⟨1280 + 64 * h.val + (l.val - 192), by omega⟩

/-- The values of a block, head by head, with the two runs of ones between. -/
def Va (y : FVec Ideal S256x1536 .f32) : Vec Ideal S1x4x256x256 .bf16 :=
  fun z => vlane (fun j => y (ix2 (z 2) j)) (z 1) (z 3)

theorem emb_q (h : Nat) (hh : h < 16) (hb : ∀ a, (![0, h, 0, 0] : Fin 4 → Nat) a + S1x1x256x64.size a ≤ S1x16x256x64.size a) (i : Fin 256) (d : Fin 64) :
    (Rect.unit (s := S1x16x256x64) ![0, h, 0, 0] S1x1x256x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_k (h : Nat) (hh : h < 4) (hb : ∀ a, (![0, h, 0, 0] : Fin 4 → Nat) a + S1x1x256x64.size a ≤ S1x4x256x64.size a) (i : Fin 256) (d : Fin 64) :
    (Rect.unit (s := S1x4x256x64) ![0, h, 0, 0] S1x1x256x64.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

theorem emb_v (h : Nat) (hh : h < 4) (hb : ∀ a, (![0, h, 0, 0] : Fin 4 → Nat) a + S1x1x256x256.size a ≤ S1x4x256x256.size a) (i : Fin 256) (d : Fin 256) :
    (Rect.unit (s := S1x4x256x256) ![0, h, 0, 0] S1x1x256x256.size hb).emb (ix4 0 0 i d) = ix4 0 ⟨h, hh⟩ i d := by
  funext a; apply Fin.ext
  match a with
  | ⟨0, _⟩ => rfl
  | ⟨1, _⟩ => show h + 1 * 0 = h; omega
  | ⟨2, _⟩ => show 0 + 1 * i.val = i.val; omega
  | ⟨3, _⟩ => show 0 + 1 * d.val = d.val; omega

/-- A piece's index is a row and a lane. -/
theorem split64 (x : S1x1x256x64.Idx) : ∃ (i : Fin 256) (d : Fin 64), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

theorem split256 (x : S1x1x256x256.Idx) : ∃ (i : Fin 256) (d : Fin 256), x = ix4 0 0 i d := by
  have h0 : (x 0 : Fin 1) = (0 : Fin 1) := @Subsingleton.elim (Fin 1) _ (x 0) 0
  have h1 : (x 1 : Fin 1) = (0 : Fin 1) := @Subsingleton.elim (Fin 1) _ (x 1) 0
  exact ⟨x 2, x 3, (eq_ix4 x).trans (congrArg₂ (fun a b => ix4 a b (x 2) (x 3)) h0 h1)⟩

/-- Two sums of natural numbers that are equal name one lane. -/
theorem lane {n : Nat} (f : Fin n → EReal) {a b : Nat} (h : a = b) (ha : a < n) (hb : b < n) : f ⟨a, ha⟩ = f ⟨b, hb⟩ := by
  subst h; rfl

section
variable (y : FVec Ideal S256x1536 .f32)

theorem piece_qp_fst (n h o : Nat) (e : h = 2 * n ∧ o = 128 * n) (hh : h < 16) (hs : S256x1536.Slices ![0, o] S256x128)
    (hb : ∀ a, (![0, h, 0, 0] : Fin 4 → Nat) a + S1x1x256x64.size a ≤ S1x16x256x64.size a) (x : S1x1x256x64.Idx) :
    fst (scaled (cols o hs y)) x = Qp y ((Rect.unit (s := S1x16x256x64) ![0, h, 0, 0] S1x1x256x64.size hb).emb x) := by
  obtain ⟨i, d, rfl⟩ := split64 x
  rw [emb_q h hh, fst_apply, scaled_apply, cols_apply _ _ _ _ _ (by first | omega | (simp only; omega))]
  exact congrArg (· * fac) (lane (fun j => y (ix2 i j)) (b := 64 * h + d.val) (by simp only; omega) _ _)

theorem piece_qp_snd (n h o : Nat) (e : h = 2 * n + 1 ∧ o = 128 * n) (hh : h < 16) (hs : S256x1536.Slices ![0, o] S256x128)
    (hb : ∀ a, (![0, h, 0, 0] : Fin 4 → Nat) a + S1x1x256x64.size a ≤ S1x16x256x64.size a) (x : S1x1x256x64.Idx) :
    snd (scaled (cols o hs y)) x = Qp y ((Rect.unit (s := S1x16x256x64) ![0, h, 0, 0] S1x1x256x64.size hb).emb x) := by
  obtain ⟨i, d, rfl⟩ := split64 x
  rw [emb_q h hh, snd_apply, scaled_apply, cols_apply _ _ _ _ _ (by first | omega | (simp only; omega))]
  exact congrArg (· * fac) (lane (fun j => y (ix2 i j)) (b := 64 * h + d.val) (by simp only; omega) _ _)

theorem piece_ky_fst (n h o : Nat) (e : h = 2 * n ∧ o = 1024 + 128 * n) (hh : h < 4) (hs : S256x1536.Slices ![0, o] S256x128)
    (hb : ∀ a, (![0, h, 0, 0] : Fin 4 → Nat) a + S1x1x256x64.size a ≤ S1x4x256x64.size a) (x : S1x1x256x64.Idx) :
    fst (cols o hs y) x = Ky y ((Rect.unit (s := S1x4x256x64) ![0, h, 0, 0] S1x1x256x64.size hb).emb x) := by
  obtain ⟨i, d, rfl⟩ := split64 x
  rw [emb_k h hh, fst_apply, cols_apply _ _ _ _ _ (by first | omega | (simp only; omega))]
  exact lane (fun j => y (ix2 i j)) (b := 1024 + 64 * h + d.val) (by simp only; omega) _ _

theorem piece_ky_snd (n h o : Nat) (e : h = 2 * n + 1 ∧ o = 1024 + 128 * n) (hh : h < 4) (hs : S256x1536.Slices ![0, o] S256x128)
    (hb : ∀ a, (![0, h, 0, 0] : Fin 4 → Nat) a + S1x1x256x64.size a ≤ S1x4x256x64.size a) (x : S1x1x256x64.Idx) :
    snd (cols o hs y) x = Ky y ((Rect.unit (s := S1x4x256x64) ![0, h, 0, 0] S1x1x256x64.size hb).emb x) := by
  obtain ⟨i, d, rfl⟩ := split64 x
  rw [emb_k h hh, snd_apply, cols_apply _ _ _ _ _ (by first | omega | (simp only; omega))]
  exact lane (fun j => y (ix2 i j)) (b := 1024 + 64 * h + d.val) (by simp only; omega) _ _

theorem piece_va_fst (n h o : Nat) (e : h = 2 * n ∧ o = 1280 + 128 * n) (hh : h < 4) (hs : S256x1536.Slices ![0, o] S256x128)
    (hb : ∀ a, (![0, h, 0, 0] : Fin 4 → Nat) a + S1x1x256x256.size a ≤ S1x4x256x256.size a) (x : S1x1x256x256.Idx) :
    vrow (cols o hs y) (swapped (cols o hs y)) x = Va y ((Rect.unit (s := S1x4x256x256) ![0, h, 0, 0] S1x1x256x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, cols_apply _ _ _ _ _ (by first | omega | (simp only; omega))]
    exact lane (fun j => y (ix2 i j)) (by show o + l.val = (1280 + 64 * h + l.val) % 1536; omega) _ _
  · rw [dif_neg h1, if_neg h1]
    by_cases h2 : l.val < 192
    · rw [dif_pos h2, if_pos h2]
    · rw [dif_neg h2, if_neg h2, swapped_apply, cols_apply _ _ _ _ _ (by first | omega | (simp only; omega))]
      exact lane (fun j => y (ix2 i j)) (by show o + (l.val - 128 + 64) % 128 = 1280 + 64 * h + (l.val - 192); omega) _ _

theorem piece_va_snd (n h o : Nat) (e : h = 2 * n + 1 ∧ o = 1280 + 128 * n) (hh : h < 4) (hs : S256x1536.Slices ![0, o] S256x128)
    (hb : ∀ a, (![0, h, 0, 0] : Fin 4 → Nat) a + S1x1x256x256.size a ≤ S1x4x256x256.size a) (x : S1x1x256x256.Idx) :
    vrow (swapped (cols o hs y)) (cols o hs y) x = Va y ((Rect.unit (s := S1x4x256x256) ![0, h, 0, 0] S1x1x256x256.size hb).emb x) := by
  obtain ⟨i, l, rfl⟩ := split256 x
  rw [emb_v h hh, vrow_apply]
  show _ = vlane (fun j => y (ix2 i j)) ⟨h, hh⟩ l
  unfold vlane
  by_cases h1 : l.val < 64
  · rw [dif_pos h1, if_pos h1, swapped_apply, cols_apply _ _ _ _ _ (by first | omega | (simp only; omega))]
    exact lane (fun j => y (ix2 i j)) (by show o + (l.val + 64) % 128 = (1280 + 64 * h + l.val) % 1536; omega) _ _
  · rw [dif_neg h1, if_neg h1]
    by_cases h2 : l.val < 192
    · rw [dif_pos h2, if_pos h2]
    · rw [dif_neg h2, if_neg h2, cols_apply _ _ _ _ _ (by first | omega | (simp only; omega))]
      exact lane (fun j => y (ix2 i j)) (by show o + (l.val - 128) = 1280 + 64 * h + (l.val - 192); omega) _ _

/-! Each output block is the list of its heads' pieces. -/

theorem canon_qp : View.canon [⟨r0_18, snd (scaled (cols 896 slices_S256x1536_o0_896_S256x128 y))⟩,
      ⟨r0_17, fst (scaled (cols 896 slices_S256x1536_o0_896_S256x128 y))⟩,
      ⟨r0_16, snd (scaled (cols 768 slices_S256x1536_o0_768_S256x128 y))⟩,
      ⟨r0_15, fst (scaled (cols 768 slices_S256x1536_o0_768_S256x128 y))⟩,
      ⟨r0_14, snd (scaled (cols 640 slices_S256x1536_o0_640_S256x128 y))⟩,
      ⟨r0_13, fst (scaled (cols 640 slices_S256x1536_o0_640_S256x128 y))⟩,
      ⟨r0_12, snd (scaled (cols 512 slices_S256x1536_o0_512_S256x128 y))⟩,
      ⟨r0_11, fst (scaled (cols 512 slices_S256x1536_o0_512_S256x128 y))⟩,
      ⟨r0_10, snd (scaled (cols 384 slices_S256x1536_o0_384_S256x128 y))⟩,
      ⟨r0_9, fst (scaled (cols 384 slices_S256x1536_o0_384_S256x128 y))⟩,
      ⟨r0_8, snd (scaled (cols 256 slices_S256x1536_o0_256_S256x128 y))⟩,
      ⟨r0_7, fst (scaled (cols 256 slices_S256x1536_o0_256_S256x128 y))⟩,
      ⟨r0_6, snd (scaled (cols 128 slices_S256x1536_o0_128_S256x128 y))⟩,
      ⟨r0_5, fst (scaled (cols 128 slices_S256x1536_o0_128_S256x128 y))⟩,
      ⟨r0_4, snd (scaled (cols 0 slices_S256x1536_o0_0_S256x128 y))⟩,
      ⟨r0_3, fst (scaled (cols 0 slices_S256x1536_o0_0_S256x128 y))⟩] = Qp y := by
  funext z
  refine View.canon_apply_of_pieces (Qp y) _ ?_ z (cover0_5 _ _ _ _ _ _ _ _ _ _ _ _ _ _ _ _ z)
  exact List.forall_mem_cons.2 ⟨piece_qp_snd y 7 15 896 (by omega) (by omega) _ (by decide), List.forall_mem_cons.2 ⟨piece_qp_fst y 7 14 896 (by omega) (by omega) _ (by decide), List.forall_mem_cons.2 ⟨piece_qp_snd y 6 13 768 (by omega) (by omega) _ (by decide), List.forall_mem_cons.2 ⟨piece_qp_fst y 6 12 768 (by omega) (by omega) _ (by decide), List.forall_mem_cons.2 ⟨piece_qp_snd y 5 11 640 (by omega) (by omega) _ (by decide), List.forall_mem_cons.2 ⟨piece_qp_fst y 5 10 640 (by omega) (by omega) _ (by decide), List.forall_mem_cons.2 ⟨piece_qp_snd y 4 9 512 (by omega) (by omega) _ (by decide), List.forall_mem_cons.2 ⟨piece_qp_fst y 4 8 512 (by omega) (by omega) _ (by decide), List.forall_mem_cons.2 ⟨piece_qp_snd y 3 7 384 (by omega) (by omega) _ (by decide), List.forall_mem_cons.2 ⟨piece_qp_fst y 3 6 384 (by omega) (by omega) _ (by decide), List.forall_mem_cons.2 ⟨piece_qp_snd y 2 5 256 (by omega) (by omega) _ (by decide), List.forall_mem_cons.2 ⟨piece_qp_fst y 2 4 256 (by omega) (by omega) _ (by decide), List.forall_mem_cons.2 ⟨piece_qp_snd y 1 3 128 (by omega) (by omega) _ (by decide), List.forall_mem_cons.2 ⟨piece_qp_fst y 1 2 128 (by omega) (by omega) _ (by decide), List.forall_mem_cons.2 ⟨piece_qp_snd y 0 1 0 (by omega) (by omega) _ (by decide), List.forall_mem_cons.2 ⟨piece_qp_fst y 0 0 0 (by omega) (by omega) _ (by decide), fun _ h => absurd h List.not_mem_nil⟩⟩⟩⟩⟩⟩⟩⟩⟩⟩⟩⟩⟩⟩⟩⟩

theorem canon_ky : View.canon [⟨r0_22, snd (cols 1152 slices_S256x1536_o0_1152_S256x128 y)⟩,
      ⟨r0_21, fst (cols 1152 slices_S256x1536_o0_1152_S256x128 y)⟩,
      ⟨r0_20, snd (cols 1024 slices_S256x1536_o0_1024_S256x128 y)⟩,
      ⟨r0_19, fst (cols 1024 slices_S256x1536_o0_1024_S256x128 y)⟩] = Ky y := by
  funext z
  refine View.canon_apply_of_pieces (Ky y) _ ?_ z (cover0_6 _ _ _ _ z)
  exact List.forall_mem_cons.2 ⟨piece_ky_snd y 1 3 1152 (by omega) (by omega) _ (by decide), List.forall_mem_cons.2 ⟨piece_ky_fst y 1 2 1152 (by omega) (by omega) _ (by decide), List.forall_mem_cons.2 ⟨piece_ky_snd y 0 1 1024 (by omega) (by omega) _ (by decide), List.forall_mem_cons.2 ⟨piece_ky_fst y 0 0 1024 (by omega) (by omega) _ (by decide), fun _ h => absurd h List.not_mem_nil⟩⟩⟩⟩

theorem canon_va : View.canon [⟨r0_26, vrow (swapped (cols 1408 slices_S256x1536_o0_1408_S256x128 y)) (cols 1408 slices_S256x1536_o0_1408_S256x128 y)⟩,
      ⟨r0_25, vrow (cols 1408 slices_S256x1536_o0_1408_S256x128 y) (swapped (cols 1408 slices_S256x1536_o0_1408_S256x128 y))⟩,
      ⟨r0_24, vrow (swapped (cols 1280 slices_S256x1536_o0_1280_S256x128 y)) (cols 1280 slices_S256x1536_o0_1280_S256x128 y)⟩,
      ⟨r0_23, vrow (cols 1280 slices_S256x1536_o0_1280_S256x128 y) (swapped (cols 1280 slices_S256x1536_o0_1280_S256x128 y))⟩] = Va y := by
  funext z
  refine View.canon_apply_of_pieces (Va y) _ ?_ z (cover0_7 _ _ _ _ z)
  exact List.forall_mem_cons.2 ⟨piece_va_snd y 1 3 1408 (by omega) (by omega) _ (by decide), List.forall_mem_cons.2 ⟨piece_va_fst y 1 2 1408 (by omega) (by omega) _ (by decide), List.forall_mem_cons.2 ⟨piece_va_snd y 0 1 1280 (by omega) (by omega) _ (by decide), List.forall_mem_cons.2 ⟨piece_va_fst y 0 0 1280 (by omega) (by omega) _ (by decide), fun _ h => absurd h List.not_mem_nil⟩⟩⟩⟩

end

/-- The projections of a block, from the blocks that the point reads. -/
theorem rows_apply (x0 : Vec Ideal S1x256x1024 .f32) (x1 x2 x3 : Vec Ideal S1x1x1024 .f32) (x4 : Vec Ideal S1024x1536 .bf16) (i : Fin 256) (j : Fin 1536) :
    k0_pay48 x0 x1 x2 x3 x4 (ix2 i j) = proj (fun k => x0 (ix3 0 i k)) (fun k => x1 (ix3 0 0 k)) (fun k => x2 (ix3 0 0 k)) (fun k => x3 (ix3 0 0 k)) (fun k => x4 (ix2 k j)) := by
  show k0_pay2 (View.ld x0 r0_0) (View.ld x1 r0_1) (View.ld x2 r0_1) (View.ld x3 r0_1) (View.ld x4 r0_2) (ix2 i j) = _
  rw [projected]
  have e0 : ∀ k, View.ld x0 r0_0 (ix3 0 i k) = x0 (ix3 0 i k) := fun k => by pointwise []
  have e1 : ∀ (x : Vec Ideal S1x1x1024 .f32) k, View.ld x r0_1 (ix3 0 0 k) = x (ix3 0 0 k) := fun x k => by pointwise []
  have e4 : ∀ k, View.ld x4 r0_2 (ix2 k j) = x4 (ix2 k j) := fun k => by pointwise []
  exact congr (congr (congr (congr (congrArg proj (funext e0)) (funext (e1 x1))) (funext (e1 x2))) (funext (e1 x3))) (funext e4)

theorem out_qp (x0 : Vec Ideal S1x256x1024 .f32) (x1 x2 x3 : Vec Ideal S1x1x1024 .f32) (x4 : Vec Ideal S1024x1536 .bf16) : out0_5 x0 x1 x2 x3 x4 = Qp (k0_pay48 x0 x1 x2 x3 x4) :=
  canon_qp (k0_pay48 x0 x1 x2 x3 x4)

theorem out_ky (x0 : Vec Ideal S1x256x1024 .f32) (x1 x2 x3 : Vec Ideal S1x1x1024 .f32) (x4 : Vec Ideal S1024x1536 .bf16) : out0_6 x0 x1 x2 x3 x4 = Ky (k0_pay48 x0 x1 x2 x3 x4) :=
  canon_ky (k0_pay48 x0 x1 x2 x3 x4)

theorem out_va (x0 : Vec Ideal S1x256x1024 .f32) (x1 x2 x3 : Vec Ideal S1x1x1024 .f32) (x4 : Vec Ideal S1024x1536 .bf16) : out0_7 x0 x1 x2 x3 x4 = Va (k0_pay48 x0 x1 x2 x3 x4) :=
  canon_va (k0_pay48 x0 x1 x2 x3 x4)

end Cert.Kernel7Ideal.Hand

end
-- ==== Proof.CtxArrays.lean ====
/-
  The context projection kernel's three result arrays: point `t` of the grid works on batch `t`, so that each array is one function of the arguments, index by index.
-/
module

public import proofs.«01_k».proof.Proof.CtxBlock
public import Idealize.ShloMosaic.Lib.StableHlo.Run

@[expose] public section

set_option maxRecDepth 16384

noncomputable section

namespace Cert.Kernel7Ideal.Hand

open Cert.Kernel7Ideal Cert.Kernel7Ideal.Gen Idealize.ShloMosaic Idealize.ShloMosaic.TcCoe Idealize.SL.Sem

section
variable {F : FTy → Type} [FloatOps F] [Named F]

/-! ## The host's arrays -/

/-- The weights of the first layer. -/
def wts (w : Vec F S4x1024x1536 .f32) : Vec F S1024x1536 .bf16 :=
  truncf .bf16 (shapeCast S1024x1536 (extractStridedSlice S1x1024x1536 ![0, 0, 0] w slices_S4x1024x1536_S1x1024x1536_0_0_0) shapeCasts_S1x1024x1536_S1024x1536 : FVec F S1024x1536 .f32) bitsLt_bf16_f32

variable (m : (ℓ : Loc nD τ sig) → Buf (Elt F) ℓ)

open Idealize.ShloMosaic.StableHlo in
theorem V_main_v2 (c : Dev nD) : V m c main_v2 = wts (m ((c : Thread nD τ).loc main_arg3)) := by
  unfold V hostOps0
  after_results_simp <;> rfl

/-! ## The points' blocks -/

/-- The batch of a grid point. -/
def batch (t : Fin cfg0.N) : Fin 16 := ⟨t.val, t.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 96 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 97 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
theorem idx6 : ∀ t : Fin cfg0.N, win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)
theorem idx7 : ∀ t : Fin cfg0.N, win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)

/-- The block of rows holds the point's batch and rows. -/
theorem blk0 (c : Dev nD) (t : Fin cfg0.N) (i : Fin 256) (k : Fin 1024) :
    (iblk m c 0 t : Vec F S1x256x1024 .f32) (ix3 0 i k) = m ((c : Thread nD τ).loc main_arg0) (ix3 (batch t) i k) := by
  obtain ⟨e0, e1, e2⟩ := idx0 t
  rw [← V_main_arg0 m c]
  show V m c main_arg0 (((cfg0.win 0).blk t).view.emb (ix3 0 i k)) = _
  congr 1
  funext a; apply Fin.ext
  match a with
  | ⟨0, _⟩ => show win0_0.index t (0 : Fin 3) * 1 + 1 * 0 = t.val; omega
  | ⟨1, _⟩ => show win0_0.index t (1 : Fin 3) * 256 + 1 * i.val = i.val; omega
  | ⟨2, _⟩ => show win0_0.index t (2 : Fin 3) * 1024 + 1 * k.val = k.val; omega

/-- The block of gains holds the first layer's. -/
theorem blk1 (c : Dev nD) (t : Fin cfg0.N) (k : Fin 1024) :
    (iblk m c 1 t : Vec F S1x1x1024 .f32) (ix3 0 0 k) = m ((c : Thread nD τ).loc main_arg2) (ix3 0 0 k) := by
  obtain ⟨e0, e1, e2⟩ := idx1 t
  rw [← V_main_arg2 m c]
  show V m c main_arg2 (((cfg0.win 1).blk t).view.emb (ix3 0 0 k)) = _
  congr 1
  funext a; apply Fin.ext
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 1024 + 1 * k.val = k.val; omega

/-- The context's row of shifts, of the first layer. -/
def shRow : Fin 576 := 96
/-- The context's row of scales, of the first layer. -/
def scRow : Fin 576 := 97

theorem blk2 (c : Dev nD) (t : Fin cfg0.N) (k : Fin 1024) :
    (iblk m c 2 t : Vec F S1x1x1024 .f32) (ix3 0 0 k) = m ((c : Thread nD τ).loc main_arg1) (ix3 shRow 0 k) := by
  obtain ⟨e0, e1, e2⟩ := idx2 t
  rw [← V_main_arg1 m c]
  show V m c main_arg1 (((cfg0.win 2).blk t).view.emb (ix3 0 0 k)) = _
  congr 1
  funext a; apply Fin.ext
  match a with
  | ⟨0, _⟩ => show win0_2.index t (0 : Fin 3) * 1 + 1 * 0 = 96; omega
  | ⟨1, _⟩ => show win0_2.index t (1 : Fin 3) * 1 + 1 * 0 = 0; omega
  | ⟨2, _⟩ => show win0_2.index t (2 : Fin 3) * 1024 + 1 * k.val = k.val; omega

theorem blk3 (c : Dev nD) (t : Fin cfg0.N) (k : Fin 1024) :
    (iblk m c 3 t : Vec F S1x1x1024 .f32) (ix3 0 0 k) = m ((c : Thread nD τ).loc main_arg1) (ix3 scRow 0 k) := by
  obtain ⟨e0, e1, e2⟩ := idx3 t
  rw [← V_main_arg1 m c]
  show V m c main_arg1 (((cfg0.win 3).blk t).view.emb (ix3 0 0 k)) = _
  congr 1
  funext a; apply Fin.ext
  match a with
  | ⟨0, _⟩ => show win0_3.index t (0 : Fin 3) * 1 + 1 * 0 = 97; omega
  | ⟨1, _⟩ => show win0_3.index t (1 : Fin 3) * 1 + 1 * 0 = 0; omega
  | ⟨2, _⟩ => show win0_3.index t (2 : Fin 3) * 1024 + 1 * k.val = k.val; omega

/-- The block of weights is all of the first layer's. -/
theorem blk4 (c : Dev nD) (t : Fin cfg0.N) (k : Fin 1024) (j : Fin 1536) :
    (iblk m c 4 t : Vec F S1024x1536 .bf16) (ix2 k j) = wts (m ((c : Thread nD τ).loc main_arg3)) (ix2 k j) := by
  obtain ⟨e0, e1⟩ := idx4 t
  rw [← V_main_v2 m c]
  show V m c main_v2 (((cfg0.win 4).blk t).view.emb (ix2 k j)) = _
  congr 1
  funext a; apply Fin.ext
  match a with
  | ⟨0, _⟩ => show win0_4.index t (0 : Fin 2) * 1024 + 1 * k.val = k.val; omega
  | ⟨1, _⟩ => show win0_4.index t (1 : Fin 2) * 1536 + 1 * j.val = j.val; omega

/-- A point's block of result array 1, and that the blocks cover it. -/
theorem emb5 (t : Fin cfg0.N) (h : Fin 16) (i : Fin 256) (d : Fin 64) : ((cfg0.win 5).blk t).view.emb (ix4 0 h i d) = ix4 (batch t) h i d := by
  obtain ⟨e0, e1, e2, e3⟩ := idx5 t
  funext a; apply Fin.ext
  match a with
  | ⟨0, _⟩ => show win0_5.index t (0 : Fin 4) * 1 + 1 * 0 = t.val; omega
  | ⟨1, _⟩ => show win0_5.index t (1 : Fin 4) * 16 + 1 * h.val = h.val; omega
  | ⟨2, _⟩ => show win0_5.index t (2 : Fin 4) * 256 + 1 * i.val = i.val; omega
  | ⟨3, _⟩ => show win0_5.index t (3 : Fin 4) * 64 + 1 * d.val = d.val; omega

theorem covers5 (i : S16x16x256x64.Idx) : ∃ t : Fin cfg0.N, (cfg0.win 5).flush t = true ∧ i ∈ ((cfg0.win 5).blk t).view.set := by
  obtain ⟨b, h, n, d, rfl⟩ : ∃ (b : Fin 16) (h : Fin 16) (n : Fin 256) (d : Fin 64), i = ix4 b h n d := ⟨i 0, i 1, i 2, i 3, eq_ix4 i⟩
  have hN : b.val < cfg0.N := show _ < 16 by omega
  refine ⟨⟨b.val, hN⟩, flush0_5 _, ?_⟩
  have hm := ((cfg0.win 5).blk ⟨b.val, hN⟩).view.emb_mem_set (ix4 0 h n d)
  rwa [emb5] at hm

/-- A point's block of result array 2, and that the blocks cover it. -/
theorem emb6 (t : Fin cfg0.N) (h : Fin 4) (i : Fin 256) (d : Fin 64) : ((cfg0.win 6).blk t).view.emb (ix4 0 h i d) = ix4 (batch t) h i d := by
  obtain ⟨e0, e1, e2, e3⟩ := idx6 t
  funext a; apply Fin.ext
  match a with
  | ⟨0, _⟩ => show win0_6.index t (0 : Fin 4) * 1 + 1 * 0 = t.val; omega
  | ⟨1, _⟩ => show win0_6.index t (1 : Fin 4) * 4 + 1 * h.val = h.val; omega
  | ⟨2, _⟩ => show win0_6.index t (2 : Fin 4) * 256 + 1 * i.val = i.val; omega
  | ⟨3, _⟩ => show win0_6.index t (3 : Fin 4) * 64 + 1 * d.val = d.val; omega

theorem covers6 (i : S16x4x256x64.Idx) : ∃ t : Fin cfg0.N, (cfg0.win 6).flush t = true ∧ i ∈ ((cfg0.win 6).blk t).view.set := by
  obtain ⟨b, h, n, d, rfl⟩ : ∃ (b : Fin 16) (h : Fin 4) (n : Fin 256) (d : Fin 64), i = ix4 b h n d := ⟨i 0, i 1, i 2, i 3, eq_ix4 i⟩
  have hN : b.val < cfg0.N := show _ < 16 by omega
  refine ⟨⟨b.val, hN⟩, flush0_6 _, ?_⟩
  have hm := ((cfg0.win 6).blk ⟨b.val, hN⟩).view.emb_mem_set (ix4 0 h n d)
  rwa [emb6] at hm

/-- A point's block of result array 3, and that the blocks cover it. -/
theorem emb7 (t : Fin cfg0.N) (h : Fin 4) (i : Fin 256) (d : Fin 256) : ((cfg0.win 7).blk t).view.emb (ix4 0 h i d) = ix4 (batch t) h i d := by
  obtain ⟨e0, e1, e2, e3⟩ := idx7 t
  funext a; apply Fin.ext
  match a with
  | ⟨0, _⟩ => show win0_7.index t (0 : Fin 4) * 1 + 1 * 0 = t.val; omega
  | ⟨1, _⟩ => show win0_7.index t (1 : Fin 4) * 4 + 1 * h.val = h.val; omega
  | ⟨2, _⟩ => show win0_7.index t (2 : Fin 4) * 256 + 1 * i.val = i.val; omega
  | ⟨3, _⟩ => show win0_7.index t (3 : Fin 4) * 256 + 1 * d.val = d.val; omega

theorem covers7 (i : S16x4x256x256.Idx) : ∃ t : Fin cfg0.N, (cfg0.win 7).flush t = true ∧ i ∈ ((cfg0.win 7).blk t).view.set := by
  obtain ⟨b, h, n, d, rfl⟩ : ∃ (b : Fin 16) (h : Fin 4) (n : Fin 256) (d : Fin 256), i = ix4 b h n d := ⟨i 0, i 1, i 2, i 3, eq_ix4 i⟩
  have hN : b.val < cfg0.N := show _ < 16 by omega
  refine ⟨⟨b.val, hN⟩, flush0_7 _, ?_⟩
  have hm := ((cfg0.win 7).blk ⟨b.val, hN⟩).view.emb_mem_set (ix4 0 h n d)
  rwa [emb7] at hm

end

/-! ## The arrays -/

theorem wts_apply (w : Vec Ideal S4x1024x1536 .f32) (k : Fin 1024) (j : Fin 1536) : wts w (ix2 k j) = w (ix3 0 k j) := by
  pointwise [wts]

/-- Column `j` of the projection of row `n` of batch `b`. -/
def prj (x : Vec Ideal S16x256x1024 .f32) (md : Vec Ideal S576x1x1024 .f32) (g : Vec Ideal S4x1x1024 .f32) (w : Vec Ideal S4x1024x1536 .f32)
    (b : Fin 16) (n : Fin 256) (j : Fin 1536) : EReal :=
  proj (fun k => x (ix3 b n k)) (fun k => g (ix3 0 0 k)) (fun k => md (ix3 shRow 0 k)) (fun k => md (ix3 scRow 0 k)) (fun k => w (ix3 0 k j))

section
variable (x : Vec Ideal S16x256x1024 .f32) (md : Vec Ideal S576x1x1024 .f32) (g : Vec Ideal S4x1x1024 .f32) (w : Vec Ideal S4x1024x1536 .f32)

/-- The plain queries. -/
def QP : Vec Ideal S16x16x256x64 .bf16 :=
  fun z => prj x md g w (z 0) (z 2) ⟨64 * (z 1).val + (z 3).val, by have h1 : (z 1).val < 16 := (z 1).isLt; have h3 : (z 3).val < 64 := (z 3).isLt; omega⟩ * fac

/-- The keys. -/
def KY : Vec Ideal S16x4x256x64 .bf16 :=
  fun z => prj x md g w (z 0) (z 2) ⟨1024 + 64 * (z 1).val + (z 3).val, by have h1 : (z 1).val < 4 := (z 1).isLt; have h3 : (z 3).val < 64 := (z 3).isLt; omega⟩

/-- The values, with the two runs of ones between. -/
def VA : Vec Ideal S16x4x256x256 .bf16 :=
  fun z => vlane (fun j => prj x md g w (z 0) (z 2) j) (z 1) (z 3)
end

section
variable (m : (ℓ : Loc nD τ sig) → Buf (Elt Ideal) ℓ) (c : Dev nD)

/-- The projections of a point's block. -/
theorem rows_at (t : Fin cfg0.N) (i : Fin 256) (j : Fin 1536) :
    k0_pay48 (iblk m c 0 t) (iblk m c 1 t) (iblk m c 2 t) (iblk m c 3 t) (iblk m c 4 t) (ix2 i j)
      = prj (m ((c : Thread nD τ).loc main_arg0)) (m ((c : Thread nD τ).loc main_arg1)) (m ((c : Thread nD τ).loc main_arg2)) (m ((c : Thread nD τ).loc main_arg3)) (batch t) i j := by
  rw [rows_apply]
  exact congr (congr (congr (congr (congrArg proj (funext fun k => blk0 m c t i k)) (funext fun k => blk1 m c t k)) (funext fun k => blk2 m c t k)) (funext fun k => blk3 m c t k))
    (funext fun k => (blk4 m c t k j).trans (wts_apply _ k j))

theorem flushed_QP (t : Fin cfg0.N) : (dats m 0 c).flushed 5 t = ((cfg0.win 5).blk t).view.read (Elt Ideal) (QP (m ((c : Thread nD τ).loc main_arg0)) (m ((c : Thread nD τ).loc main_arg1)) (m ((c : Thread nD τ).loc main_arg2)) (m ((c : Thread nD τ).loc main_arg3))) := by
  rw [Value.flushed5, out_qp]
  funext y
  obtain ⟨b, h, i, d, rfl⟩ : ∃ (b : Fin 1) (h : Fin 16) (i : Fin 256) (d : Fin 64), y = ix4 b h i d := ⟨y 0, y 1, y 2, y 3, eq_ix4 y⟩
  obtain rfl : b = 0 := Subsingleton.elim _ _
  show Qp (k0_pay48 (iblk m c 0 t) (iblk m c 1 t) (iblk m c 2 t) (iblk m c 3 t) (iblk m c 4 t)) (ix4 0 h i d)
    = QP _ _ _ _ (((cfg0.win 5).blk t).view.emb (ix4 0 h i d))
  rw [emb5]
  show k0_pay48 (iblk m c 0 t) (iblk m c 1 t) (iblk m c 2 t) (iblk m c 3 t) (iblk m c 4 t) (ix2 i _) * fac = prj _ _ _ _ (batch t) i _ * fac
  rw [rows_at]
  rfl

/-- Result array 1 after the run. -/
theorem final_QP : (dats m 0 c).arrAt 5 cfg0.N = QP (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_QP m c t) covers5

theorem flushed_KY (t : Fin cfg0.N) : (dats m 0 c).flushed 6 t = ((cfg0.win 6).blk t).view.read (Elt Ideal) (KY (m ((c : Thread nD τ).loc main_arg0)) (m ((c : Thread nD τ).loc main_arg1)) (m ((c : Thread nD τ).loc main_arg2)) (m ((c : Thread nD τ).loc main_arg3))) := by
  rw [Value.flushed6, out_ky]
  funext y
  obtain ⟨b, h, i, d, rfl⟩ : ∃ (b : Fin 1) (h : Fin 4) (i : Fin 256) (d : Fin 64), y = ix4 b h i d := ⟨y 0, y 1, y 2, y 3, eq_ix4 y⟩
  obtain rfl : b = 0 := Subsingleton.elim _ _
  show Ky (k0_pay48 (iblk m c 0 t) (iblk m c 1 t) (iblk m c 2 t) (iblk m c 3 t) (iblk m c 4 t)) (ix4 0 h i d)
    = KY _ _ _ _ (((cfg0.win 6).blk t).view.emb (ix4 0 h i d))
  rw [emb6]
  exact rows_at m c t i _

/-- Result array 2 after the run. -/
theorem final_KY : (dats m 0 c).arrAt 6 cfg0.N = KY (m ((c : Thread nD τ).loc main_arg0)) (m ((c : Thread nD τ).loc main_arg1)) (m ((c : Thread nD τ).loc main_arg2)) (m ((c : Thread nD τ).loc main_arg3)) :=
  (dats m 0 c).arrAt_eq_of_cover 6 _ (fun t _ => flushed_KY m c t) covers6

theorem flushed_VA (t : Fin cfg0.N) : (dats m 0 c).flushed 7 t = ((cfg0.win 7).blk t).view.read (Elt Ideal) (VA (m ((c : Thread nD τ).loc main_arg0)) (m ((c : Thread nD τ).loc main_arg1)) (m ((c : Thread nD τ).loc main_arg2)) (m ((c : Thread nD τ).loc main_arg3))) := by
  rw [Value.flushed7, out_va]
  funext y
  obtain ⟨b, h, i, d, rfl⟩ : ∃ (b : Fin 1) (h : Fin 4) (i : Fin 256) (d : Fin 256), y = ix4 b h i d := ⟨y 0, y 1, y 2, y 3, eq_ix4 y⟩
  obtain rfl : b = 0 := Subsingleton.elim _ _
  show Va (k0_pay48 (iblk m c 0 t) (iblk m c 1 t) (iblk m c 2 t) (iblk m c 3 t) (iblk m c 4 t)) (ix4 0 h i d)
    = VA _ _ _ _ (((cfg0.win 7).blk t).view.emb (ix4 0 h i d))
  rw [emb7]
  exact congrArg (fun f => vlane f h d) (funext fun j => rows_at m c t i j)

/-- Result array 3 after the run. -/
theorem final_VA : (dats m 0 c).arrAt 7 cfg0.N = VA (m ((c : Thread nD τ).loc main_arg0)) (m ((c : Thread nD τ).loc main_arg1)) (m ((c : Thread nD τ).loc main_arg2)) (m ((c : Thread nD τ).loc main_arg3)) :=
  (dats m 0 c).arrAt_eq_of_cover 7 _ (fun t _ => flushed_VA m c t) covers7

end

end Cert.Kernel7Ideal.Hand

end
-- ==== Proof.RefCtx.lean ====
/-
  The reference of the context's projection, step by step, and each of its results read at an index.
-/
module

public import proofs.«01_k».proof.Proof.Gen.Reference7Ideal.Run
public import Idealize.ShloMosaic.Lib.Pointwise

@[expose] public section

set_option maxRecDepth 16384

noncomputable section

namespace Cert.Reference7Ideal.Hand

open Cert.Reference7Ideal Cert.Reference7Ideal.Gen Idealize.ShloMosaic Idealize.ShloMosaic.TcCoe Idealize.SL.Sem

section
variable {F : FTy → Type} [FloatOps F]

/-- One over each row's root mean square. -/
def rms (x : FVec F S16x256x1024 .f32) : FVec F S16x256x1024 .f32 :=
  broadcastInDim S16x256x1024 ![0, 1, 2] bcast_S16x256x1_S16x256x1024_0_1_2 (Host.rsqrt (addf
    (Host.divf (broadcastInDim S16x256x1 ![0, 1] bcast_S16x256_S16x256x1_0_1 (Host.reduceAdd (mulf x x) (constant S_ .f32 0x00000000#32) reducesTo_S16x256x1024_S16x256_d2 h_S_))
      (broadcastInDim S16x256x1 ![] bcast_S_S16x256x1 (constant S_ .f32 0x44800000#32)))
    (broadcastInDim S16x256x1 ![] bcast_S_S16x256x1 (constant S_ .f32 0x358637BD#32))))

/-- The first layer's gains, along the rows. -/
def gains (g : FVec F S4x1x1024 .f32) : FVec F S16x256x1024 .f32 :=
  broadcastInDim S16x256x1024 ![0, 1, 2] bcast_S1x1x1024_S16x256x1024_0_1_2 (broadcastInDim S1x1x1024 ![1, 2] bcast_S1x1024_S1x1x1024_1_2
    (shapeCast S1x1024 (extractStridedSlice S1x1x1024 ![0, 0, 0] g slices_S4x1x1024_S1x1x1024_0_0_0) shapeCasts_S1x1x1024_S1x1024))

/-- The context's six modulations in the first layer. -/
def mods (md : FVec F S576x1x1024 .f32) : FVec F S6x1024 .f32 :=
  shapeCast S6x1024 (extractStridedSlice S1x1x6x1024 ![0, 16, 0, 0] (shapeCast S4x24x6x1024 md shapeCasts_S576x1x1024_S4x24x6x1024) slices_S4x24x6x1024_S1x1x6x1024_0_16_0_0) shapeCasts_S1x1x6x1024_S6x1024

/-- The first modulation: the shift. -/
def shifts (d : FVec F S6x1024 .f32) : FVec F S1024 .f32 :=
  shapeCast S1024 (extractStridedSlice S1x1024 ![0, 0] d slices_S6x1024_S1x1024_0_0) shapeCasts_S1x1024_S1024

/-- The second: the scale. -/
def scales (d : FVec F S6x1024 .f32) : FVec F S1024 .f32 :=
  shapeCast S1024 (extractStridedSlice S1x1024 ![1, 0] d slices_S6x1024_S1x1024_1_0) shapeCasts_S1x1024_S1024

/-- A row, along all rows of the context. -/
def along (r : FVec F S1024 .f32) : FVec F S16x256x1024 .f32 :=
  broadcastInDim S16x256x1024 ![0, 1, 2] bcast_S1x1x1024_S16x256x1024_0_1_2 (broadcastInDim S1x1x1024 ![2] bcast_S1024_S1x1x1024_2 r)

/-- The normalised, scaled and shifted rows. -/
def normed (x : FVec F S16x256x1024 .f32) (md : FVec F S576x1x1024 .f32) (g : FVec F S4x1x1024 .f32) : FVec F S16x256x1024 .f32 :=
  addf (mulf (mulf (mulf x (rms x)) (gains g)) (along (addf (broadcastInDim S1024 ![] bcast_S_S1024 (constant S_ .f32 0x3F800000#32)) (scales (mods md)))))
    (along (shifts (mods md)))

/-- Those rows times the first layer's weights. -/
def projected (h : FVec F S16x256x1024 .f32) (w : FVec F S4x1024x1536 .f32) : FVec F S16x256x1536 .f32 :=
  Host.dotGeneral dot_S16x256x1024_S1024x1536_S16x256x1536_2_0_01_1_n_n none h
    (shapeCast S1024x1536 (extractStridedSlice S1x1024x1536 ![0, 0, 0] w slices_S4x1024x1536_S1x1024x1536_0_0_0) shapeCasts_S1x1024x1536_S1024x1536)

/-- The queries: their columns, over eight and over the logarithm of two. -/
def queries (y : FVec F S16x256x1536 .f32) : FVec F S16x256x16x64 .f32 :=
  Host.divf (mulf (shapeCast S16x256x16x64 (extractStridedSlice S16x256x1024 ![0, 0, 0] y slices_S16x256x1536_S16x256x1024_0_0_0) shapeCasts_S16x256x1024_S16x256x16x64)
      (broadcastInDim S16x256x16x64 ![] bcast_S_S16x256x16x64 (constant S_ .f32 0x3E000000#32)))
    (broadcastInDim S16x256x16x64 ![] bcast_S_S16x256x16x64 (Host.log (constant S_ .f32 0x40000000#32)))

/-- The keys' columns. -/
def keys (y : FVec F S16x256x1536 .f32) : FVec F S16x256x4x64 .f32 :=
  shapeCast S16x256x4x64 (extractStridedSlice S16x256x256 ![0, 0, 1024] y slices_S16x256x1536_S16x256x256_0_0_1024) shapeCasts_S16x256x256_S16x256x4x64

/-- The values' columns. -/
def vals (y : FVec F S16x256x1536 .f32) : FVec F S16x256x4x64 .f32 :=
  shapeCast S16x256x4x64 (extractStridedSlice S16x256x256 ![0, 0, 1280] y slices_S16x256x1536_S16x256x256_0_0_1280) shapeCasts_S16x256x256_S16x256x4x64

/-- Heads before rows, as bf16. -/
def headsQ (x : FVec F S16x256x16x64 .f32) : Vec F S16x16x256x64 .bf16 :=
  truncf .bf16 (transpose S16x16x256x64 [0, 2, 1, 3] x transposes_S16x256x16x64_S16x16x256x64_0_2_1_3 : FVec F S16x16x256x64 .f32) bitsLt_bf16_f32
def headsK (x : FVec F S16x256x4x64 .f32) : Vec F S16x4x256x64 .bf16 :=
  truncf .bf16 (transpose S16x4x256x64 [0, 2, 1, 3] x transposes_S16x256x4x64_S16x4x256x64_0_2_1_3 : FVec F S16x4x256x64 .f32) bitsLt_bf16_f32

/-- A value's lanes, two runs of ones, the lanes again; heads before rows, as bf16. -/
def headsV (x : FVec F S16x256x4x64 .f32) : Vec F S16x4x256x256 .bf16 :=
  truncf .bf16 (transpose S16x4x256x256 [0, 2, 1, 3] (concatenate S16x256x4x256 3 [⟨S16x256x4x64, x⟩,
      ⟨S16x256x4x64, broadcastInDim S16x256x4x64 ![] bcast_S_S16x256x4x64 (constant S_ .f32 0x3F800000#32)⟩,
      ⟨S16x256x4x64, broadcastInDim S16x256x4x64 ![] bcast_S_S16x256x4x64 (constant S_ .f32 0x3F800000#32)⟩, ⟨S16x256x4x64, x⟩]
    concatenates_S16x256x4x64_S16x256x4x64_S16x256x4x64_S16x256x4x64_S16x256x4x256_d3) transposes_S16x256x4x256_S16x4x256x256_0_2_1_3 : FVec F S16x4x256x256 .f32) bitsLt_bf16_f32

variable (m : (ℓ : Loc nD τ sig) → Buf (Elt F) ℓ) (c : Dev nD)

/-- The projections of the reference's arguments. -/
def ys : FVec F S16x256x1536 .f32 :=
  projected (normed (m ((c.tc : Thread nD τ).loc main_arg0)) (m ((c.tc : Thread nD τ).loc main_arg1)) (m ((c.tc : Thread nD τ).loc main_arg2))) (m ((c.tc : Thread nD τ).loc main_arg3))

/-- The third result is these steps, one after another. -/
theorem res2 : Value.res_main_v51 m c = headsV (vals (ys m c)) := by
  unfold Value.res_main_v51
  rfl

/-- The reference ends with these three results and its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v47) = headsQ (queries (ys m c))
      ∧ r.2.mem ((c.tc : Thread nD τ).loc main_v49) = headsK (keys (ys m c))
      ∧ r.2.mem ((c.tc : Thread nD τ).loc main_v51) = headsV (vals (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans (res2 m c), (h c).2.2.2⟩) (Value.run m ρ)
end

/-! ## Read at an index -/

/-- Equal numbers name one lane. -/
theorem lane {n : Nat} (f : Fin n → EReal) {a b : Nat} (h : a = b) (ha : a < n) (hb : b < n) : f ⟨a, ha⟩ = f ⟨b, hb⟩ := by
  subst h; rfl

theorem rms_apply (x : FVec Ideal S16x256x1024 .f32) (b : Fin 16) (n : Fin 256) (k : Fin 1024) :
    rms x (ix3 b n k) = Ideal.rsqrt (Ideal.div (∑ l, x (ix3 b n l) * x (ix3 b n l)) (Ideal.ofBits .f32 0x44800000#32) + Ideal.ofBits .f32 0x358637BD#32) := by
  pointwise [rms]

theorem gains_apply (g : FVec Ideal S4x1x1024 .f32) (b : Fin 16) (n : Fin 256) (k : Fin 1024) : gains g (ix3 b n k) = g (ix3 0 0 k) := by
  pointwise [gains]

theorem mods_apply (md : FVec Ideal S576x1x1024 .f32) (s : Fin 6) (k : Fin 1024) :
    mods md (ix2 s k) = md (ix3 ⟨96 + s.val, by omega⟩ 0 k) := by
  pointwise [mods]

theorem shifts_apply (d : FVec Ideal S6x1024 .f32) (k : Fin 1024) : shifts d (ix1 k) = d (ix2 0 k) := by
  pointwise [shifts]

theorem scales_apply (d : FVec Ideal S6x1024 .f32) (k : Fin 1024) : scales d (ix1 k) = d (ix2 1 k) := by
  pointwise [scales]

theorem normed_apply (x : FVec Ideal S16x256x1024 .f32) (md : FVec Ideal S576x1x1024 .f32) (g : FVec Ideal S4x1x1024 .f32) (b : Fin 16) (n : Fin 256) (k : Fin 1024) :
    normed x md g (ix3 b n k) = x (ix3 b n k) * rms x (ix3 b n k) * gains g (ix3 b n k) * (Ideal.ofBits .f32 0x3F800000#32 + scales (mods md) (ix1 k)) + shifts (mods md) (ix1 k) := by
  pointwise [normed, along]

theorem projected_apply (h : FVec Ideal S16x256x1024 .f32) (w : FVec Ideal S4x1024x1536 .f32) (b : Fin 16) (n : Fin 256) (j : Fin 1536) :
    projected h w (ix3 b n j) = ∑ k : Fin 1024, h (ix3 b n k) * w (ix3 0 k j) := by
  pointwise [projected]

theorem queries_apply (y : FVec Ideal S16x256x1536 .f32) (b : Fin 16) (n : Fin 256) (h : Fin 16) (d : Fin 64) :
    queries y (ix4 b n h d) = Ideal.div (y (ix3 b n ⟨h.val * 64 + d.val, by omega⟩) * Ideal.ofBits .f32 0x3E000000#32) (Ideal.log (Ideal.ofBits .f32 0x40000000#32)) := by
  pointwise [queries]

theorem keys_apply (y : FVec Ideal S16x256x1536 .f32) (b : Fin 16) (n : Fin 256) (h : Fin 4) (d : Fin 64) :
    keys y (ix4 b n h d) = y (ix3 b n ⟨1024 + (h.val * 64 + d.val), by omega⟩) := by
  pointwise [keys]

theorem vals_apply (y : FVec Ideal S16x256x1536 .f32) (b : Fin 16) (n : Fin 256) (h : Fin 4) (d : Fin 64) :
    vals y (ix4 b n h d) = y (ix3 b n ⟨1280 + (h.val * 64 + d.val), by omega⟩) := by
  pointwise [vals]

theorem headsQ_apply (x : FVec Ideal S16x256x16x64 .f32) (b : Fin 16) (h : Fin 16) (n : Fin 256) (d : Fin 64) : headsQ x (ix4 b h n d) = x (ix4 b n h d) := by
  pointwise [headsQ]

theorem headsK_apply (x : FVec Ideal S16x256x4x64 .f32) (b : Fin 16) (h : Fin 4) (n : Fin 256) (d : Fin 64) : headsK x (ix4 b h n d) = x (ix4 b n h d) := by
  pointwise [headsK]

theorem headsV_apply (x : FVec Ideal S16x256x4x64 .f32) (b : Fin 16) (h : Fin 4) (n : Fin 256) (l : Fin 256) (r : EReal)
    (h0 : ∀ e : l.val < 64, x (ix4 b n h ⟨l.val, e⟩) = r) (h1 : 64 ≤ l.val → l.val < 192 → 1 = r) (h2 : ∀ e : 192 ≤ l.val, x (ix4 b n h ⟨l.val - 192, by omega⟩) = r) :
    headsV x (ix4 b h n l) = r := by
  pointwise [headsV]
  split_ifs <;> first
    | exact h1 (by omega) (by omega)
    | exact h0 (by omega)
    | exact Eq.trans (congrArg (fun e => x (ix4 b n h e)) (Fin.ext (by first | omega | (simp only; omega)))) (h2 (by omega))

end Cert.Reference7Ideal.Hand

end
-- ==== Proof.CtxEquation.lean ====
/-
  The arrays of the context's projection are its reference's results.
-/
module

public import proofs.«01_k».proof.Proof.CtxArrays
public import proofs.«01_k».proof.Proof.RefCtx
public import proofs.«01_k».proof.Proof.QkvEquation

@[expose] public section

set_option maxRecDepth 16384

noncomputable section

namespace Cert.Ctx

open Idealize.ShloMosaic Idealize.SL.Sem
open Cert.Kernel7Ideal

/-- Over eight and over the logarithm of two is times the kernel's factor. -/
theorem scale (a : EReal) : Ideal.div (a * Ideal.ofBits .f32 0x3E000000#32) (Ideal.log (Ideal.ofBits .f32 0x40000000#32)) = a * Hand.fac :=
  Cert.Qkv.scale_eq a

/-! ## The projections -/

section
variable (x : Vec Ideal S16x256x1024 .f32) (md : Vec Ideal S576x1x1024 .f32) (g : Vec Ideal S4x1x1024 .f32) (w : Vec Ideal S4x1024x1536 .f32)

/-- The reference's projections. -/
def refY : FVec Ideal Cert.Reference7Ideal.S16x256x1536 .f32 := Cert.Reference7Ideal.Hand.projected (Cert.Reference7Ideal.Hand.normed x md g) w

open Cert.Reference7Ideal.Hand in
/-- They are the kernel's. -/
theorem ys_apply (b : Fin 16) (n : Fin 256) (j : Fin 1536) : refY x md g w (ix3 b n j) = Hand.prj x md g w b n j := by
  unfold refY
  rw [projected_apply]
  unfold Hand.prj Hand.proj
  refine Finset.sum_congr rfl fun k _ => ?_
  rw [normed_apply, rms_apply, gains_apply, scales_apply, shifts_apply, mods_apply, mods_apply]
  rfl

open Cert.Reference7Ideal.Hand in
theorem query_at (b : Fin 16) (n : Fin 256) (h : Fin 16) (d : Fin 64) :
    queries (refY x md g w) (ix4 b n h d) = Hand.prj x md g w b n ⟨64 * h.val + d.val, by omega⟩ * Hand.fac := by
  rw [queries_apply, scale, ys_apply]
  exact congrArg (fun j => Hand.prj x md g w b n j * Hand.fac) (Fin.ext (by show h.val * 64 + d.val = 64 * h.val + d.val; omega))

open Cert.Reference7Ideal.Hand in
theorem qp_eq : headsQ (queries (refY x md g w)) = Hand.QP x md g w := by
  funext z
  obtain ⟨b, h, n, d, rfl⟩ : ∃ (b : Fin 16) (h : Fin 16) (n : Fin 256) (d : Fin 64), z = ix4 b h n d := ⟨z 0, z 1, z 2, z 3, eq_ix4 z⟩
  exact (headsQ_apply _ b h n d).trans (query_at x md g w b n h d)

open Cert.Reference7Ideal.Hand in
theorem ky_eq : headsK (keys (refY x md g w)) = Hand.KY x md g w := by
  funext z
  obtain ⟨b, h, n, d, rfl⟩ : ∃ (b : Fin 16) (h : Fin 4) (n : Fin 256) (d : Fin 64), z = ix4 b h n d := ⟨z 0, z 1, z 2, z 3, eq_ix4 z⟩
  refine (headsK_apply _ b h n d).trans ((keys_apply _ b n h d).trans ((ys_apply x md g w b n _).trans ?_))
  exact congrArg (fun j => Hand.prj x md g w b n j) (Fin.ext (by show 1024 + (h.val * 64 + d.val) = 1024 + 64 * h.val + d.val; omega))

open Cert.Reference7Ideal.Hand in
theorem va_eq : headsV (vals (refY x md g w)) = Hand.VA x md g w := by
  funext z
  obtain ⟨b, h, n, l, rfl⟩ : ∃ (b : Fin 16) (h : Fin 4) (n : Fin 256) (l : Fin 256), z = ix4 b h n l := ⟨z 0, z 1, z 2, z 3, eq_ix4 z⟩
  show _ = Hand.vlane (fun j => Hand.prj x md g w b n j) h l
  refine headsV_apply _ b h n l _ (fun e => ?_) (fun e e' => ?_) (fun e => ?_)
  · refine ((vals_apply _ b n h _).trans (ys_apply x md g w b n _)).trans ?_
    refine Eq.trans ?_ (if_pos e).symm
    exact congrArg (fun j => Hand.prj x md g w b n j) (Fin.ext (by show 1280 + (h.val * 64 + l.val) = (1280 + 64 * h.val + l.val) % 1536; omega))
  · exact ((if_neg (by omega)).trans (if_pos e')).symm
  · refine ((vals_apply _ b n h _).trans (ys_apply x md g w b n _)).trans ?_
    refine Eq.trans ?_ ((if_neg (by omega)).trans (if_neg (by omega))).symm
    exact congrArg (fun j => Hand.prj x md g w b n j) (Fin.ext (by show 1280 + (h.val * 64 + (l.val - 192)) = 1280 + 64 * h.val + (l.val - 192); omega))
end

end Cert.Ctx

end
-- ==== Proof.CtxProjArrays.lean ====
/-
  The output projection's kernel on the context: point `t` of its grid works on rows `1024 * t` to that plus 1023 of the one
  sequence that all batches' rows make.
  Its first array is the input plus the gate times the attention's rows times the weights; its second is that array's rows,
  normalised, scaled and shifted.
-/
module

public import proofs.«01_k».proof.Proof.Gen.Kernel8Ideal.Value
public import Idealize.ShloMosaic.Lib.Pointwise
public import Idealize.ShloMosaic.Lib.StableHlo.Run

@[expose] public section

set_option maxRecDepth 16384

noncomputable section

namespace Cert.Kernel8Ideal.Hand

open Cert.Kernel8Ideal Cert.Kernel8Ideal.Gen Idealize.ShloMosaic Idealize.ShloMosaic.TcCoe Idealize.SL.Sem

section
variable {F : FTy → Type} [FloatOps F]

/-- The weights of the first layer. -/
def wts (w : Vec F S4x1024x1024 .f32) : Vec F S1024x1024 .bf16 :=
  truncf .bf16 (shapeCast S1024x1024 (extractStridedSlice S1x1024x1024 ![0, 0, 0] w slices_S4x1024x1024_S1x1024x1024_0_0_0) shapeCasts_S1x1024x1024_S1024x1024 : FVec F S1024x1024 .f32) bitsLt_bf16_f32

variable (m : (ℓ : Loc nD τ sig) → Buf (Elt F) ℓ)

open Idealize.ShloMosaic.StableHlo in
theorem V_main_v29 (c : Dev nD) : V m c main_v29 = wts (m ((c : Thread nD τ).loc main_arg4)) := by
  unfold V hostOps0
  after_results_simp <;> rfl

/-! ## The points' blocks -/

/-- Row `i` of a point's block, in the sequence. -/
def row (t : Fin cfg0.N) (i : Fin 1024) : Fin 4096 := ⟨1024 * t.val + i.val, by have h : t.val < 4 := t.isLt; omega⟩
/-- The context's gate, shift and scale in the first layer. -/
def gtRow : Fin 576 := 98
def shRow : Fin 576 := 99
def scRow : Fin 576 := 100

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 98 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 99 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 100 ∧ win0_6.index t (1 : Fin 3) = 0 ∧ win0_6.index t (2 : Fin 3) = 0 :=
  (by decide +kernel : ∀ t : Fin grid0.N, _)
theorem idx10 : ∀ t : Fin cfg0.N, win0_10.index t (0 : Fin 3) = 0 ∧ win0_10.index t (1 : Fin 3) = t.val ∧ win0_10.index t (2 : Fin 3) = 0 :=
  (by decide +kernel : ∀ t : Fin grid0.N, _)
theorem idx11 : ∀ t : Fin cfg0.N, win0_11.index t (0 : Fin 3) = 0 ∧ win0_11.index t (1 : Fin 3) = t.val ∧ win0_11.index t (2 : Fin 3) = 0 :=
  (by decide +kernel : ∀ t : Fin grid0.N, _)

/-- The blocks of the attention's rows and of the input hold the point's rows. -/
theorem blk0 (c : Dev nD) (t : Fin cfg0.N) (i : Fin 1024) (k : Fin 1024) :
    (iblk m c 0 t : Vec F S1x1024x1024 .bf16) (ix3 0 i k) = m ((c : Thread nD τ).loc main_arg0) (ix3 0 (row t i) k) := by
  obtain ⟨e0, e1, e2⟩ := idx0 t
  rw [← V_main_arg0 m c]
  show V m c main_arg0 (((cfg0.win 0).blk t).view.emb (ix3 0 i k)) = _
  congr 1
  funext a; apply Fin.ext
  match a with
  | ⟨0, _⟩ => show win0_0.index t (0 : Fin 3) * 1 + 1 * 0 = 0; omega
  | ⟨1, _⟩ => show win0_0.index t (1 : Fin 3) * 1024 + 1 * i.val = 1024 * t.val + i.val; omega
  | ⟨2, _⟩ => show win0_0.index t (2 : Fin 3) * 1024 + 1 * k.val = k.val; omega

theorem blk1 (c : Dev nD) (t : Fin cfg0.N) (i : Fin 1024) (k : Fin 1024) :
    (iblk m c 1 t : Vec F S1x1024x1024 .f32) (ix3 0 i k) = m ((c : Thread nD τ).loc main_arg1) (ix3 0 (row t i) k) := by
  obtain ⟨e0, e1, e2⟩ := idx1 t
  rw [← V_main_arg1 m c]
  show V m c main_arg1 (((cfg0.win 1).blk t).view.emb (ix3 0 i k)) = _
  congr 1
  funext a; apply Fin.ext
  match a with
  | ⟨0, _⟩ => show win0_1.index t (0 : Fin 3) * 1 + 1 * 0 = 0; omega
  | ⟨1, _⟩ => show win0_1.index t (1 : Fin 3) * 1024 + 1 * i.val = 1024 * t.val + i.val; omega
  | ⟨2, _⟩ => show win0_1.index t (2 : Fin 3) * 1024 + 1 * k.val = k.val; omega

/-- The block of weights is all of the first layer's. -/
theorem blk2 (c : Dev nD) (t : Fin cfg0.N) (k : Fin 1024) (j : Fin 1024) :
    (iblk m c 2 t : Vec F S1024x1024 .bf16) (ix2 k j) = wts (m ((c : Thread nD τ).loc main_arg4)) (ix2 k j) := by
  obtain ⟨e0, e1⟩ := idx2 t
  rw [← V_main_v29 m c]
  show V m c main_v29 (((cfg0.win 2).blk t).view.emb (ix2 k j)) = _
  congr 1
  funext a; apply Fin.ext
  match a with
  | ⟨0, _⟩ => show win0_2.index t (0 : Fin 2) * 1024 + 1 * k.val = k.val; omega
  | ⟨1, _⟩ => show win0_2.index t (1 : Fin 2) * 1024 + 1 * j.val = j.val; omega

/-- The context's gate, shift and scale; the first layer's gains. -/
theorem blk3 (c : Dev nD) (t : Fin cfg0.N) (k : Fin 1024) :
    (iblk m c 3 t : Vec F S1x1x1024 .f32) (ix3 0 0 k) = m ((c : Thread nD τ).loc main_arg2) (ix3 gtRow 0 k) := by
  obtain ⟨e0, e1, e2⟩ := idx3 t
  rw [← V_main_arg2 m c]
  show V m c main_arg2 (((cfg0.win 3).blk t).view.emb (ix3 0 0 k)) = _
  congr 1
  funext a; apply Fin.ext
  match a with
  | ⟨0, _⟩ => show win0_3.index t (0 : Fin 3) * 1 + 1 * 0 = 98; omega
  | ⟨1, _⟩ => show win0_3.index t (1 : Fin 3) * 1 + 1 * 0 = 0; omega
  | ⟨2, _⟩ => show win0_3.index t (2 : Fin 3) * 1024 + 1 * k.val = k.val; omega

theorem blk4 (c : Dev nD) (t : Fin cfg0.N) (k : Fin 1024) :
    (iblk m c 4 t : Vec F S1x1x1024 .f32) (ix3 0 0 k) = m ((c : Thread nD τ).loc main_arg3) (ix3 0 0 k) := by
  obtain ⟨e0, e1, e2⟩ := idx4 t
  rw [← V_main_arg3 m c]
  show V m c main_arg3 (((cfg0.win 4).blk t).view.emb (ix3 0 0 k)) = _
  congr 1
  funext a; apply Fin.ext
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 1024 + 1 * k.val = k.val; omega

theorem blk5 (c : Dev nD) (t : Fin cfg0.N) (k : Fin 1024) :
    (iblk m c 5 t : Vec F S1x1x1024 .f32) (ix3 0 0 k) = m ((c : Thread nD τ).loc main_arg2) (ix3 shRow 0 k) := by
  obtain ⟨e0, e1, e2⟩ := idx5 t
  rw [← V_main_arg2 m c]
  show V m c main_arg2 (((cfg0.win 5).blk t).view.emb (ix3 0 0 k)) = _
  congr 1
  funext a; apply Fin.ext
  match a with
  | ⟨0, _⟩ => show win0_5.index t (0 : Fin 3) * 1 + 1 * 0 = 99; omega
  | ⟨1, _⟩ => show win0_5.index t (1 : Fin 3) * 1 + 1 * 0 = 0; omega
  | ⟨2, _⟩ => show win0_5.index t (2 : Fin 3) * 1024 + 1 * k.val = k.val; omega

theorem blk6 (c : Dev nD) (t : Fin cfg0.N) (k : Fin 1024) :
    (iblk m c 6 t : Vec F S1x1x1024 .f32) (ix3 0 0 k) = m ((c : Thread nD τ).loc main_arg2) (ix3 scRow 0 k) := by
  obtain ⟨e0, e1, e2⟩ := idx6 t
  rw [← V_main_arg2 m c]
  show V m c main_arg2 (((cfg0.win 6).blk t).view.emb (ix3 0 0 k)) = _
  congr 1
  funext a; apply Fin.ext
  match a with
  | ⟨0, _⟩ => show win0_6.index t (0 : Fin 3) * 1 + 1 * 0 = 100; omega
  | ⟨1, _⟩ => show win0_6.index t (1 : Fin 3) * 1 + 1 * 0 = 0; omega
  | ⟨2, _⟩ => show win0_6.index t (2 : Fin 3) * 1024 + 1 * k.val = k.val; omega

/-- A point's block of the first array, and that the blocks cover it. -/
theorem emb10 (t : Fin cfg0.N) (i : Fin 1024) (k : Fin 1024) : ((cfg0.win 10).blk t).view.emb (ix3 0 i k) = ix3 0 (row t i) k := by
  obtain ⟨e0, e1, e2⟩ := idx10 t
  funext a; apply Fin.ext
  match a with
  | ⟨0, _⟩ => show win0_10.index t (0 : Fin 3) * 1 + 1 * 0 = 0; omega
  | ⟨1, _⟩ => show win0_10.index t (1 : Fin 3) * 1024 + 1 * i.val = 1024 * t.val + i.val; omega
  | ⟨2, _⟩ => show win0_10.index t (2 : Fin 3) * 1024 + 1 * k.val = k.val; omega

theorem covers10 (i : S1x4096x1024.Idx) : ∃ t : Fin cfg0.N, (cfg0.win 10).flush t = true ∧ i ∈ ((cfg0.win 10).blk t).view.set := by
  obtain ⟨b, n, k, rfl⟩ : ∃ (b : Fin 1) (n : Fin 4096) (k : Fin 1024), i = ix3 b n k := ⟨i 0, i 1, i 2, eq_ix3 i⟩
  obtain rfl : b = 0 := Subsingleton.elim _ _
  have hN : n.val / 1024 < cfg0.N := show _ < 4 by omega
  refine ⟨⟨n.val / 1024, hN⟩, flush0_10 _, ?_⟩
  have hm := ((cfg0.win 10).blk ⟨n.val / 1024, hN⟩).view.emb_mem_set (ix3 0 ⟨n.val % 1024, by omega⟩ k)
  rw [emb10] at hm
  have e1 : row ⟨n.val / 1024, hN⟩ ⟨n.val % 1024, by omega⟩ = n := Fin.ext (by simp only [row]; omega)
  rwa [e1] at hm

/-- The same of the second array. -/
theorem emb11 (t : Fin cfg0.N) (i : Fin 1024) (k : Fin 1024) : ((cfg0.win 11).blk t).view.emb (ix3 0 i k) = ix3 0 (row t i) k := by
  obtain ⟨e0, e1, e2⟩ := idx11 t
  funext a; apply Fin.ext
  match a with
  | ⟨0, _⟩ => show win0_11.index t (0 : Fin 3) * 1 + 1 * 0 = 0; omega
  | ⟨1, _⟩ => show win0_11.index t (1 : Fin 3) * 1024 + 1 * i.val = 1024 * t.val + i.val; omega
  | ⟨2, _⟩ => show win0_11.index t (2 : Fin 3) * 1024 + 1 * k.val = k.val; omega

theorem covers11 (i : S1x4096x1024.Idx) : ∃ t : Fin cfg0.N, (cfg0.win 11).flush t = true ∧ i ∈ ((cfg0.win 11).blk t).view.set := by
  obtain ⟨b, n, k, rfl⟩ : ∃ (b : Fin 1) (n : Fin 4096) (k : Fin 1024), i = ix3 b n k := ⟨i 0, i 1, i 2, eq_ix3 i⟩
  obtain rfl : b = 0 := Subsingleton.elim _ _
  have hN : n.val / 1024 < cfg0.N := show _ < 4 by omega
  refine ⟨⟨n.val / 1024, hN⟩, flush0_11 _, ?_⟩
  have hm := ((cfg0.win 11).blk ⟨n.val / 1024, hN⟩).view.emb_mem_set (ix3 0 ⟨n.val % 1024, by omega⟩ k)
  rw [emb11] at hm
  have e1 : row ⟨n.val / 1024, hN⟩ ⟨n.val % 1024, by omega⟩ = n := Fin.ext (by simp only [row]; omega)
  rwa [e1] at hm

end

/-! ## A point's block of results -/

/-- The input's entry plus the gate times a row of the attention times a column of the weights. -/
def gated (x gt : EReal) (o w : Fin 1024 → EReal) : EReal := x + gt * ∑ k, o k * w k

/-- Entry `j` of a row, normalised, scaled and shifted. -/
def modulated (y g sh sc : Fin 1024 → EReal) (j : Fin 1024) : EReal :=
  y j * Ideal.rsqrt (Ideal.div (∑ l, y l * y l) (Ideal.ofBits .f32 0x44800000#32) + Ideal.ofBits .f32 0x358637BD#32) * g j
    * (Ideal.ofBits .f32 0x3F800000#32 + sc j) + sh j

theorem wts_apply (w : Vec Ideal S4x1024x1024 .f32) (k j : Fin 1024) : wts w (ix2 k j) = w (ix3 0 k j) := by
  pointwise [wts]

theorem gated_apply (v0 : Vec Ideal S1x1024x1024 .f32) (v2 : Vec Ideal S1x1x1024 .f32) (v4 : Vec Ideal S1x1024x1024 .bf16) (v6 : Vec Ideal S1024x1024 .bf16) (i j : Fin 1024) :
    k0_pay1 v0 v2 v4 v6 (ix2 i j) = gated (v0 (ix3 0 i j)) (v2 (ix3 0 0 j)) (fun k => v4 (ix3 0 i k)) (fun k => v6 (ix2 k j)) := by
  pointwise [k0_pay1, gated]

theorem norm_apply (v0 : Vec Ideal S1x1024x1024 .f32) (v2 : Vec Ideal S1x1x1024 .f32) (v4 : Vec Ideal S1x1024x1024 .bf16) (v6 : Vec Ideal S1024x1024 .bf16) (i j : Fin 1024) :
    k0_pay6 v0 v2 v4 v6 (ix2 i j) = Ideal.rsqrt (Ideal.div (∑ l, k0_pay1 v0 v2 v4 v6 (ix2 i l) * k0_pay1 v0 v2 v4 v6 (ix2 i l)) (Ideal.ofBits .f32 0x44800000#32) + Ideal.ofBits .f32 0x358637BD#32) := by
  unfold k0_pay6
  generalize k0_pay1 v0 v2 v4 v6 = y
  pointwise []

theorem modulated_apply (y r : FVec Ideal S1024x1024 .f32) (v15 v17 v19 : Vec Ideal S1x1x1024 .f32) (i j : Fin 1024) :
    k0_pay8 y (k0_pay3 v15) (k0_pay4 v17) (k0_pay5 v19) r (ix3 0 i j)
      = y (ix2 i j) * r (ix2 i j) * v15 (ix3 0 0 j) * (Ideal.ofBits .f32 0x3F800000#32 + v19 (ix3 0 0 j)) + v17 (ix3 0 0 j) := by
  pointwise [k0_pay8, k0_pay7, k0_pay3, k0_pay4, k0_pay5]

theorem rows_apply (v0 : Vec Ideal S1x1024x1024 .f32) (v2 : Vec Ideal S1x1x1024 .f32) (v4 : Vec Ideal S1x1024x1024 .bf16) (v6 : Vec Ideal S1024x1024 .bf16) (i j : Fin 1024) :
    k0_pay2 v0 v2 v4 v6 (ix3 0 i j) = k0_pay1 v0 v2 v4 v6 (ix2 i j) := by
  unfold k0_pay2
  generalize k0_pay1 v0 v2 v4 v6 = y
  pointwise []

/-- An index of a whole block is an index of the block. -/
theorem idx_whole (x : S1x1024x1024.Idx) : r0_0.idx x = x := by
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- The loads of whole blocks. -/
theorem whole0 {e : EltTy} (x : Vec Ideal S1x1024x1024 e) : View.ld x r0_0 = x := funext fun z => congrArg x (idx_whole z)
theorem whole1 {e : EltTy} (x : Vec Ideal S1x1x1024 e) : View.ld x r0_1 = x := by
  funext z
  refine congrArg x ?_
  funext a; apply Fin.ext
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega
theorem whole2 {e : EltTy} (x : Vec Ideal S1024x1024 e) : View.ld x r0_2 = x := by
  funext z; rw [eq_ix2 z]; pointwise []

/-- A store over a whole block leaves the stored vector. -/
theorem stored10 (p : Vec Ideal S1x1024x1024 .f32) : View.canon [(⟨r0_0, p⟩ : View.Piece (Elt Ideal) S1x1024x1024 .f32)] = p := by
  funext z
  refine View.canon_apply_of_pieces p _ ?_ z (cover0_10 p z)
  intro pc hpc
  obtain rfl := List.mem_singleton.mp hpc
  exact fun x => (congrArg p (idx_whole x)).symm

theorem stored11 (p : Vec Ideal S1x1024x1024 .bf16) : View.canon [(⟨r0_0, p⟩ : View.Piece (Elt Ideal) S1x1024x1024 .bf16)] = p := by
  funext z
  refine View.canon_apply_of_pieces p _ ?_ z (cover0_11 p z)
  intro pc hpc
  obtain rfl := List.mem_singleton.mp hpc
  exact fun x => (congrArg p (idx_whole x)).symm

section
variable (x0 : Vec Ideal S1x1024x1024 .bf16) (x1 : Vec Ideal S1x1024x1024 .f32) (x2 : Vec Ideal S1024x1024 .bf16) (x3 x4 x5 x6 : Vec Ideal S1x1x1024 .f32)
  (x7 : Vec Ideal S1024x256 .bf16) (x8 : Vec Ideal S1024x128 .bf16) (x9 : Vec Ideal S1x128 .f32)

/-- The first block of results, from the blocks that the point reads. -/
theorem out_x : out0_10 x0 x1 x2 x3 x4 x5 x6 x7 x8 x9 = k0_pay2 x1 x3 x0 x2 := by
  unfold out0_10
  rw [whole0, whole1, whole0, whole2, stored10]

/-- The second. -/
theorem out_h : out0_11 x0 x1 x2 x3 x4 x5 x6 x7 x8 x9 = k0_pay8 (k0_pay1 x1 x3 x0 x2) (k0_pay3 x4) (k0_pay4 x5) (k0_pay5 x6) (k0_pay6 x1 x3 x0 x2) := by
  show View.canon [(⟨r0_0, k0_pay8 (k0_pay1 (View.ld x1 r0_0) (View.ld x3 r0_1) (View.ld x0 r0_0) (View.ld x2 r0_2)) (k0_pay3 (View.ld x4 r0_1)) (k0_pay4 (View.ld x5 r0_1))
    (k0_pay5 (View.ld x6 r0_1)) (k0_pay6 (View.ld x1 r0_0) (View.ld x3 r0_1) (View.ld x0 r0_0) (View.ld x2 r0_2))⟩ : View.Piece (Elt Ideal) S1x1024x1024 .bf16)] = _
  rw [stored11]
  simp only [whole0, whole1, whole2]

end

/-! ## The arrays -/

section
variable (o : Vec Ideal S1x4096x1024 .bf16) (x : Vec Ideal S1x4096x1024 .f32) (md : Vec Ideal S576x1x1024 .f32) (g : Vec Ideal S4x1x1024 .f32) (w : Vec Ideal S4x1024x1024 .f32)

/-- The input plus the gated projection, at one entry. -/
def entry (n : Fin 4096) (j : Fin 1024) : EReal :=
  gated (x (ix3 0 n j)) (md (ix3 gtRow 0 j)) (fun k => o (ix3 0 n k)) (fun k => w (ix3 0 k j))

/-- The first array. -/
def XN : Vec Ideal S1x4096x1024 .f32 := fun z => entry o x md w (z 1) (z 2)

/-- The second array. -/
def HF : Vec Ideal S1x4096x1024 .bf16 :=
  fun z => modulated (entry o x md w (z 1)) (fun k => g (ix3 0 0 k)) (fun k => md (ix3 shRow 0 k)) (fun k => md (ix3 scRow 0 k)) (z 2)
end

section
variable (m : (ℓ : Loc nD τ sig) → Buf (Elt Ideal) ℓ) (c : Dev nD)

/-- The entries of a point's block. -/
theorem entry_at (t : Fin cfg0.N) (i j : Fin 1024) :
    k0_pay1 (iblk m c 1 t) (iblk m c 3 t) (iblk m c 0 t) (iblk m c 2 t) (ix2 i j)
      = entry (m ((c : Thread nD τ).loc main_arg0)) (m ((c : Thread nD τ).loc main_arg1)) (m ((c : Thread nD τ).loc main_arg2)) (m ((c : Thread nD τ).loc main_arg4)) (row t i) j := by
  rw [gated_apply]
  exact congr (congr (congr (congrArg gated (blk1 m c t i j)) (blk3 m c t j)) (funext fun k => blk0 m c t i k)) (funext fun k => (blk2 m c t k j).trans (wts_apply _ k j))

theorem flushed_XN (t : Fin cfg0.N) : (dats m 0 c).flushed 10 t = ((cfg0.win 10).blk t).view.read (Elt Ideal) (XN (m ((c : Thread nD τ).loc main_arg0)) (m ((c : Thread nD τ).loc main_arg1)) (m ((c : Thread nD τ).loc main_arg2)) (m ((c : Thread nD τ).loc main_arg4))) := by
  rw [Value.flushed10, out_x]
  funext y
  obtain ⟨b, i, j, rfl⟩ : ∃ (b : Fin 1) (i j : Fin 1024), y = ix3 b i j := ⟨y 0, y 1, y 2, eq_ix3 y⟩
  obtain rfl : b = 0 := Subsingleton.elim _ _
  show k0_pay2 (iblk m c 1 t) (iblk m c 3 t) (iblk m c 0 t) (iblk m c 2 t) (ix3 0 i j) = XN _ _ _ _ (((cfg0.win 10).blk t).view.emb (ix3 0 i j))
  rw [emb10, rows_apply, entry_at]
  rfl

/-- The first array of a memory's arguments. -/
def resX : Vec Ideal S1x4096x1024 .f32 := XN (m ((c : Thread nD τ).loc main_arg0)) (m ((c : Thread nD τ).loc main_arg1)) (m ((c : Thread nD τ).loc main_arg2)) (m ((c : Thread nD τ).loc main_arg4))

/-- The first array after the run. -/
theorem final_XN : (dats m 0 c).arrAt 10 cfg0.N = resX m c :=
  (dats m 0 c).arrAt_eq_of_cover 10 _ (fun t _ => flushed_XN m c t) covers10

theorem flushed_HF (t : Fin cfg0.N) : (dats m 0 c).flushed 11 t = ((cfg0.win 11).blk t).view.read (Elt Ideal) (HF (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed11, out_h]
  funext y
  obtain ⟨b, i, j, rfl⟩ : ∃ (b : Fin 1) (i j : Fin 1024), y = ix3 b i j := ⟨y 0, y 1, y 2, eq_ix3 y⟩
  obtain rfl : b = 0 := Subsingleton.elim _ _
  show k0_pay8 (k0_pay1 (iblk m c 1 t) (iblk m c 3 t) (iblk m c 0 t) (iblk m c 2 t)) (k0_pay3 (iblk m c 4 t)) (k0_pay4 (iblk m c 5 t)) (k0_pay5 (iblk m c 6 t))
      (k0_pay6 (iblk m c 1 t) (iblk m c 3 t) (iblk m c 0 t) (iblk m c 2 t)) (ix3 0 i j) = HF _ _ _ _ _ (((cfg0.win 11).blk t).view.emb (ix3 0 i j))
  rw [emb11, modulated_apply, norm_apply]
  simp only [entry_at]
  rw [blk4, blk5, blk6]
  rfl

/-- The second array of a memory's arguments. -/
def resH : Vec Ideal S1x4096x1024 .bf16 := HF (m ((c : Thread nD τ).loc main_arg0)) (m ((c : Thread nD τ).loc main_arg1)) (m ((c : Thread nD τ).loc main_arg2)) (m ((c : Thread nD τ).loc main_arg3)) (m ((c : Thread nD τ).loc main_arg4))

/-- The second array after the run. -/
theorem final_HF : (dats m 0 c).arrAt 11 cfg0.N = resH m c :=
  (dats m 0 c).arrAt_eq_of_cover 11 _ (fun t _ => flushed_HF m c t) covers11

end

end Cert.Kernel8Ideal.Hand

end
-- ==== Proof.RefCtxProj.lean ====
/-
  The reference of the context's output projection, step by step, and its results the kernel's two arrays.
-/
module

public import proofs.«01_k».proof.Proof.Gen.Reference8Ideal.Run
public import proofs.«01_k».proof.Proof.CtxProjArrays
public import Idealize.ShloMosaic.Lib.Pointwise

@[expose] public section

set_option maxRecDepth 16384

noncomputable section

namespace Cert.Reference8Ideal.Hand

open Cert.Reference8Ideal Cert.Reference8Ideal.Gen Idealize.ShloMosaic Idealize.ShloMosaic.TcCoe Idealize.SL.Sem

section
variable {F : FTy → Type} [FloatOps F]

/-- The context's six modulations in the first layer. -/
def mods (md : FVec F S576x1x1024 .f32) : FVec F S6x1024 .f32 :=
  shapeCast S6x1024 (extractStridedSlice S1x1x6x1024 ![0, 16, 0, 0] (shapeCast S4x24x6x1024 md shapeCasts_S576x1x1024_S4x24x6x1024) slices_S4x24x6x1024_S1x1x6x1024_0_16_0_0) shapeCasts_S1x1x6x1024_S6x1024

/-- The third modulation: the gate; the fourth: the shift; the fifth: the scale. -/
def gates (d : FVec F S6x1024 .f32) : FVec F S1024 .f32 :=
  shapeCast S1024 (extractStridedSlice S1x1024 ![2, 0] d slices_S6x1024_S1x1024_2_0) shapeCasts_S1x1024_S1024
def shifts (d : FVec F S6x1024 .f32) : FVec F S1024 .f32 :=
  shapeCast S1024 (extractStridedSlice S1x1024 ![3, 0] d slices_S6x1024_S1x1024_3_0) shapeCasts_S1x1024_S1024
def scales (d : FVec F S6x1024 .f32) : FVec F S1024 .f32 :=
  shapeCast S1024 (extractStridedSlice S1x1024 ![4, 0] d slices_S6x1024_S1x1024_4_0) shapeCasts_S1x1024_S1024

/-- A row, along all rows of the context. -/
def along (r : FVec F S1024 .f32) : FVec F S1x4096x1024 .f32 :=
  broadcastInDim S1x4096x1024 ![0, 1, 2] bcast_S1x1x1024_S1x4096x1024_0_1_2 (broadcastInDim S1x1x1024 ![2] bcast_S1024_S1x1x1024_2 r)

/-- The input plus the gate times the attention's rows times the first layer's weights. -/
def sums (o : FVec F S1x4096x1024 .bf16) (x : FVec F S1x4096x1024 .f32) (d : FVec F S6x1024 .f32) (w : FVec F S4x1024x1024 .f32) : FVec F S1x4096x1024 .f32 :=
  addf x (mulf (along (gates d))
    (Host.dotGeneral dot_S1x4096x1024_S1024x1024_S1x4096x1024_2_0_01_1_n_n none (extf .f32 o bitsLt_bf16_f32)
      (shapeCast S1024x1024 (extractStridedSlice S1x1024x1024 ![0, 0, 0] w slices_S4x1024x1024_S1x1024x1024_0_0_0) shapeCasts_S1x1024x1024_S1024x1024)))

/-- One over each row's root mean square. -/
def rms (x : FVec F S1x4096x1024 .f32) : FVec F S1x4096x1024 .f32 :=
  broadcastInDim S1x4096x1024 ![0, 1, 2] bcast_S1x4096x1_S1x4096x1024_0_1_2 (Host.rsqrt (addf
    (Host.divf (broadcastInDim S1x4096x1 ![0, 1] bcast_S1x4096_S1x4096x1_0_1 (Host.reduceAdd (mulf x x) (constant S_ .f32 0x00000000#32) reducesTo_S1x4096x1024_S1x4096_d2 h_S_))
      (broadcastInDim S1x4096x1 ![] bcast_S_S1x4096x1 (constant S_ .f32 0x44800000#32)))
    (broadcastInDim S1x4096x1 ![] bcast_S_S1x4096x1 (constant S_ .f32 0x358637BD#32))))

/-- The first layer's gains, along the rows. -/
def gains (g : FVec F S4x1x1024 .f32) : FVec F S1x4096x1024 .f32 :=
  broadcastInDim S1x4096x1024 ![0, 1, 2] bcast_S1x1x1024_S1x4096x1024_0_1_2 (broadcastInDim S1x1x1024 ![1, 2] bcast_S1x1024_S1x1x1024_1_2
    (shapeCast S1x1024 (extractStridedSlice S1x1x1024 ![0, 0, 0] g slices_S4x1x1024_S1x1x1024_0_0_0) shapeCasts_S1x1x1024_S1x1024))

/-- The normalised, scaled and shifted rows, as bf16. -/
def normed (x : FVec F S1x4096x1024 .f32) (d : FVec F S6x1024 .f32) (g : FVec F S4x1x1024 .f32) : FVec F S1x4096x1024 .bf16 :=
  truncf .bf16 (addf (mulf (mulf (mulf x (rms x)) (gains g))
      (along (addf (broadcastInDim S1024 ![] bcast_S_S1024 (constant S_ .f32 0x3F800000#32)) (scales d)))) (along (shifts d))) bitsLt_bf16_f32

variable (m : (ℓ : Loc nD τ sig) → Buf (Elt F) ℓ) (c : Dev nD)

/-- The reference's first result. -/
def xs : FVec F S1x4096x1024 .f32 :=
  sums (m ((c.tc : Thread nD τ).loc main_arg0)) (m ((c.tc : Thread nD τ).loc main_arg1)) (mods (m ((c.tc : Thread nD τ).loc main_arg2))) (m ((c.tc : Thread nD τ).loc main_arg4))

/-- Its second is the first's rows normalised. -/
theorem res1 : Value.res_out1 m c = normed (xs m c) (mods (m ((c.tc : Thread nD τ).loc main_arg2))) (m ((c.tc : Thread nD τ).loc main_arg3)) := by
  show Value.res_main_v40 m c = _
  unfold Value.res_main_v40
  rfl

end

/-! ## Read at an index -/

theorem mods_apply (md : FVec Ideal S576x1x1024 .f32) (s : Fin 6) (k : Fin 1024) :
    mods md (ix2 s k) = md (ix3 ⟨96 + s.val, by omega⟩ 0 k) := by
  pointwise [mods]

theorem gates_apply (d : FVec Ideal S6x1024 .f32) (k : Fin 1024) : gates d (ix1 k) = d (ix2 2 k) := by
  pointwise [gates]

theorem shifts_apply (d : FVec Ideal S6x1024 .f32) (k : Fin 1024) : shifts d (ix1 k) = d (ix2 3 k) := by
  pointwise [shifts]

theorem scales_apply (d : FVec Ideal S6x1024 .f32) (k : Fin 1024) : scales d (ix1 k) = d (ix2 4 k) := by
  pointwise [scales]

theorem sums_apply (o : FVec Ideal S1x4096x1024 .bf16) (x : FVec Ideal S1x4096x1024 .f32) (d : FVec Ideal S6x1024 .f32) (w : FVec Ideal S4x1024x1024 .f32) (n : Fin 4096) (j : Fin 1024) :
    sums o x d w (ix3 0 n j) = x (ix3 0 n j) + gates d (ix1 j) * ∑ k : Fin 1024, o (ix3 0 n k) * w (ix3 0 k j) := by
  pointwise [sums, along]

theorem rms_apply (x : FVec Ideal S1x4096x1024 .f32) (n : Fin 4096) (k : Fin 1024) :
    rms x (ix3 0 n k) = Ideal.rsqrt (Ideal.div (∑ l, x (ix3 0 n l) * x (ix3 0 n l)) (Ideal.ofBits .f32 0x44800000#32) + Ideal.ofBits .f32 0x358637BD#32) := by
  pointwise [rms]

theorem gains_apply (g : FVec Ideal S4x1x1024 .f32) (n : Fin 4096) (k : Fin 1024) : gains g (ix3 0 n k) = g (ix3 0 0 k) := by
  pointwise [gains]

theorem normed_apply (x : FVec Ideal S1x4096x1024 .f32) (d : FVec Ideal S6x1024 .f32) (g : FVec Ideal S4x1x1024 .f32) (n : Fin 4096) (k : Fin 1024) :
    normed x d g (ix3 0 n k) = x (ix3 0 n k) * rms x (ix3 0 n k) * gains g (ix3 0 n k) * (Ideal.ofBits .f32 0x3F800000#32 + scales d (ix1 k)) + shifts d (ix1 k) := by
  pointwise [normed, along]

/-! ## The kernel's arrays -/

section
variable (o : FVec Ideal S1x4096x1024 .bf16) (x : FVec Ideal S1x4096x1024 .f32) (md : FVec Ideal S576x1x1024 .f32) (g : FVec Ideal S4x1x1024 .f32) (w : FVec Ideal S4x1024x1024 .f32)

theorem sums_eq (n : Fin 4096) (j : Fin 1024) : sums o x (mods md) w (ix3 0 n j) = Cert.Kernel8Ideal.Hand.entry o x md w n j := by
  rw [sums_apply, gates_apply, mods_apply]
  rfl

/-- The first result. -/
theorem xn_eq : sums o x (mods md) w = Cert.Kernel8Ideal.Hand.XN o x md w := by
  funext z
  obtain ⟨b, n, j, rfl⟩ : ∃ (b : Fin 1) (n : Fin 4096) (j : Fin 1024), z = ix3 b n j := ⟨z 0, z 1, z 2, eq_ix3 z⟩
  obtain rfl : b = 0 := Subsingleton.elim _ _
  exact sums_eq o x md w n j

/-- The second. -/
theorem hf_eq : normed (sums o x (mods md) w) (mods md) g = Cert.Kernel8Ideal.Hand.HF o x md g w := by
  funext z
  obtain ⟨b, n, j, rfl⟩ : ∃ (b : Fin 1) (n : Fin 4096) (j : Fin 1024), z = ix3 b n j := ⟨z 0, z 1, z 2, eq_ix3 z⟩
  obtain rfl : b = 0 := Subsingleton.elim _ _
  rw [normed_apply, rms_apply, gains_apply, scales_apply, shifts_apply, mods_apply, mods_apply]
  simp only [sums_eq]
  rfl
end

end Cert.Reference8Ideal.Hand

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Equation
public import proofs.«01_k».proof.Proof.Finite
public import proofs.«01_k».proof.Proof.WinEquation
public import proofs.«01_k».proof.Proof.QkvEquation
public import proofs.«01_k».proof.Proof.RefProj
public import proofs.«01_k».proof.Proof.PlainEquation
public import proofs.«01_k».proof.Proof.NormEquation
public import proofs.«01_k».proof.Proof.CtxEquation
public import proofs.«01_k».proof.Proof.RefCtxProj
public import Idealize.ShloMosaic.Lib.Quiescent

@[expose] public section

set_option maxRecDepth 16384

noncomputable section

namespace Cert.Proof

open Idealize.ShloMosaic Idealize.SL.Sem

/-- The reference ends with its arguments unchanged and, having no semaphores, every counter at zero. -/
theorem reference_frame : Cert.quiescent_ReferenceIdeal := fun m ρ _ =>
  (θ_run _ _ _).mono (fun _ h => ⟨fun c => (h c).2, sem_eq_zero_of_no_sems (by decide) _⟩) (Cert.ReferenceIdeal.Value.run (F := Ideal) m ρ)

/-- The kernel's result and the reference's are equal. -/
theorem algebraic : Cert.algebraic_KernelIdeal_ReferenceIdeal_pre_finite := by
  intro m ρ m' ρ' hpre hag
  have hR : ∀ c : Dev Cert.KernelIdeal.nD, Cert.KernelIdeal.Hand.Real4 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) :=
    fun c => Cert.Attend.real_of_finite _ _ _ _ _ _ (hpre c)
  refine ⟨fun c => Cert.KernelIdeal.Hand.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    (θ_run _ _ _).mono (fun r h c => ⟨(h c).1.trans (Cert.KernelIdeal.Hand.final m c (hR c)), (h c).2⟩) (Cert.KernelIdeal.Value.run_blocks m ρ),
    (θ_run _ _ _).mono (fun r h c => ⟨(h c).1.trans ?_, (h c).2⟩) (Cert.ReferenceIdeal.Value.run (F := Ideal) m' ρ')⟩
  refine (Cert.ReferenceIdeal.Hand.res_eq m' c).trans ?_
  obtain ⟨e0, e1, e2, e3, e4, e5⟩ := hag c
  rw [e0, e1, e2, e3, e4, e5]
  exact Cert.Attend.ref_eq_G _ _ _ _ _ _ (hR c)

/-- The projection's reference ends with its arguments unchanged and, having no semaphores, every counter at zero. -/
theorem reference2_frame : Cert.quiescent_Reference2Ideal := fun m ρ _ =>
  (θ_run _ _ _).mono (fun _ h => ⟨fun c => (h c).2.2.2.2, sem_eq_zero_of_no_sems (by decide) _⟩) (Cert.Reference2Ideal.Value.run (F := Ideal) m ρ)

/-- The literal the projection multiplies its queries by is read as one over eight and over the logarithm of two. -/
theorem preserves2 : Cert.preserves_Kernel2_Kernel2Ideal :=
  IdealRules.named_const.statement _ _ _ _ _ rfl

/-- The projection's four results and its reference's are equal. -/
theorem algebraic2 : Cert.algebraic_Kernel2Ideal_Reference2Ideal := by
  intro m ρ m' ρ' _ hag
  refine ⟨fun c => Cert.Kernel2Ideal.Hand.QP (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Kernel2Ideal.Hand.QR (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Kernel2Ideal.Hand.KR (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Kernel2Ideal.Hand.VA (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    (θ_run _ _ _).mono (fun r h c => ⟨(h c).1.trans (Cert.Kernel2Ideal.Hand.final_QP m c),
      (h c).2.1.trans (Cert.Kernel2Ideal.Hand.final_QR m c),
      (h c).2.2.1.trans (Cert.Kernel2Ideal.Hand.final_KR m c),
      (h c).2.2.2.1.trans (Cert.Kernel2Ideal.Hand.final_VA m c), (h c).2.2.2.2⟩) (Cert.Kernel2Ideal.Value.run_blocks m ρ),
    (θ_run _ _ _).mono (fun r h c => ⟨(h c).1.trans ?_, (h c).2.1.trans ?_, (h c).2.2.1.trans ?_, (h c).2.2.2.1.trans ?_, (h c).2.2.2.2⟩) (Cert.Reference2Ideal.Hand.run (F := Ideal) m' ρ')⟩
  all_goals
    obtain ⟨e0, e1, e2, e3⟩ := hag c
    unfold Cert.Reference2Ideal.Hand.ys
    rw [e0, e1, e2, e3]
  · exact Cert.Qkv.qp_eq _ _ _ _
  · exact Cert.Qkv.qr_eq _ _ _ _
  · exact Cert.Qkv.kr_eq _ _ _ _
  · exact Cert.Qkv.va_eq _ _ _ _

/-- The window attention's reference ends with its arguments unchanged and, having no semaphores, every counter at zero. -/
theorem reference3_frame : Cert.quiescent_Reference3Ideal := fun m ρ _ =>
  (θ_run _ _ _).mono (fun _ h => ⟨fun c => (h c).2, sem_eq_zero_of_no_sems (by decide) _⟩) (Cert.Reference3Ideal.Value.run (F := Ideal) m ρ)

/-- The literal of the mask is read as minus infinity, the one the sinks are multiplied by as one over the logarithm of two. -/
theorem preserves3 : Cert.preserves_Kernel3_Kernel3Ideal :=
  ⟨IdealRules.named_const.statement _ _ _ _ _ rfl, IdealRules.named_const.statement _ _ _ _ _ rfl⟩

/-- The window attention's result and its reference's are equal. -/
theorem algebraic3 : Cert.algebraic_Kernel3Ideal_Reference3Ideal_pre_finite_sink := by
  intro m ρ m' ρ' hpre hag
  have hR : ∀ c : Dev Cert.Kernel3Ideal.nD, Cert.Kernel3Ideal.Hand.Reals m c :=
    fun c => Cert.Attend.real_of_finite_sink _ _ _ _ _ _ _ (hpre c)
  refine ⟨fun c => Cert.Kernel3Ideal.Hand.result m c,
    (θ_run _ _ _).mono (fun r h c => ⟨(h c).1.trans (Cert.Kernel3Ideal.Hand.final m c (hR c)), (h c).2⟩) (Cert.Kernel3Ideal.Value.run_blocks m ρ),
    (θ_run _ _ _).mono (fun r h c => ⟨(h c).1.trans ?_, (h c).2⟩) (Cert.Reference3Ideal.Value.run (F := Ideal) m' ρ')⟩
  refine (Cert.Reference3Ideal.Hand.res_eq m' c).trans ?_
  obtain ⟨e0, e1, e2, e3, e4, e5, e6⟩ := hag c
  rw [e0, e1, e2, e3, e4, e5, e6]
  exact Cert.Attend.win_eq_W _ _ _ _ _ _ _ (hR c)

/-- The output projection's reference ends with its arguments unchanged and, having no semaphores, every counter at zero. -/
theorem reference4_frame : Cert.quiescent_Reference4Ideal := fun m ρ _ =>
  (θ_run _ _ _).mono (fun _ h => ⟨fun c => (h c).2.2, sem_eq_zero_of_no_sems (by decide) _⟩) (Cert.Reference4Ideal.Value.run (F := Ideal) m ρ)

/-- The output projection's two results and its reference's are equal. -/
theorem algebraic4 : Cert.algebraic_Kernel4Ideal_Reference4Ideal := by
  intro m ρ m' ρ' _ hag
  refine ⟨fun c => Cert.Kernel4Ideal.Hand.resX m c, fun c => Cert.Kernel4Ideal.Hand.resH m c,
    (θ_run _ _ _).mono (fun r h c => ⟨(h c).1.trans (Cert.Kernel4Ideal.Hand.final_XN m c), (h c).2.1.trans (Cert.Kernel4Ideal.Hand.final_HF m c), (h c).2.2.2.2.2⟩)
      (Cert.Kernel4Ideal.Value.run_blocks m ρ),
    (θ_run _ _ _).mono (fun r h c => ⟨(h c).1.trans ?_, (h c).2.1.trans ?_, (h c).2.2⟩) (Cert.Reference4Ideal.Value.run (F := Ideal) m' ρ')⟩
  · refine Eq.trans (b := Cert.Reference4Ideal.Hand.xs m' c) rfl ?_
    obtain ⟨e0, e1, e2, _, e4, _⟩ := hag c
    unfold Cert.Reference4Ideal.Hand.xs
    rw [e0, e1, e2, e4]
    exact Cert.Reference4Ideal.Hand.xn_eq _ _ _ _
  · refine (Cert.Reference4Ideal.Hand.res1 m' c).trans ?_
    obtain ⟨e0, e1, e2, e3, e4, _⟩ := hag c
    unfold Cert.Reference4Ideal.Hand.xs
    rw [e0, e1, e2, e3, e4]
    exact Cert.Reference4Ideal.Hand.hf_eq _ _ _ _ _

/-- The reference of the projection without rotary embedding ends with its arguments unchanged and, having no semaphores, every
    counter at zero. -/
theorem reference5_frame : Cert.quiescent_Reference5Ideal := fun m ρ _ =>
  (θ_run _ _ _).mono (fun _ h => ⟨fun c => (h c).2.2.2, sem_eq_zero_of_no_sems (by decide) _⟩) (Cert.Reference5Ideal.Value.run (F := Ideal) m ρ)

/-- The literal this projection multiplies its queries by is read as one over eight and over the logarithm of two. -/
theorem preserves5 : Cert.preserves_Kernel5_Kernel5Ideal :=
  IdealRules.named_const.statement _ _ _ _ _ rfl

/-- The three results of the projection without rotary embedding and its reference's are equal. -/
theorem algebraic5 : Cert.algebraic_Kernel5Ideal_Reference5Ideal := by
  intro m ρ m' ρ' _ hag
  refine ⟨fun c => Cert.Kernel5Ideal.Hand.QP (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
    fun c => Cert.Kernel5Ideal.Hand.KY (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
    fun c => Cert.Kernel5Ideal.Hand.VA (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
    (θ_run _ _ _).mono (fun r h c => ⟨(h c).1.trans (Cert.Kernel5Ideal.Hand.final_QP m c),
      (h c).2.1.trans (Cert.Kernel5Ideal.Hand.final_KY m c),
      (h c).2.2.1.trans (Cert.Kernel5Ideal.Hand.final_VA m c), (h c).2.2.2⟩) (Cert.Kernel5Ideal.Value.run_blocks m ρ),
    (θ_run _ _ _).mono (fun r h c => ⟨(h c).1.trans ?_, (h c).2.1.trans ?_, (h c).2.2.1.trans ?_, (h c).2.2.2⟩) (Cert.Reference5Ideal.Hand.run (F := Ideal) m' ρ')⟩
  all_goals
    obtain ⟨e0, e1, e2, e3⟩ := hag c
    unfold Cert.Reference5Ideal.Hand.ys
    rw [e0, e1, e2, e3]
  · exact Cert.Plain.qp_eq _ _ _ _
  · exact Cert.Plain.ky_eq _ _ _ _
  · exact Cert.Plain.va_eq _ _ _ _

/-- The reference of the projection with normalised heads ends with its arguments unchanged and, having no semaphores, every
    counter at zero. -/
theorem reference6_frame : Cert.quiescent_Reference6Ideal := fun m ρ _ =>
  (θ_run _ _ _).mono (fun _ h => ⟨fun c => (h c).2.2.2.2, sem_eq_zero_of_no_sems (by decide) _⟩) (Cert.Reference6Ideal.Value.run (F := Ideal) m ρ)

/-- The literal this projection multiplies its queries by is read as one over eight and over the logarithm of two. -/
theorem preserves6 : Cert.preserves_Kernel6_Kernel6Ideal :=
  IdealRules.named_const.statement _ _ _ _ _ rfl

/-- The four results of the projection with normalised heads and its reference's are equal. -/
theorem algebraic6 : Cert.algebraic_Kernel6Ideal_Reference6Ideal_pre_finite_rows := by
  intro m ρ m' ρ' hpre hag
  have hR := fun c => Cert.Norm.real_of_finite_rows _ _ _ _ _ _ (hpre c)
  refine ⟨fun c => Cert.Kernel6Ideal.Hand.QP (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    fun c => Cert.Kernel6Ideal.Hand.QR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    fun c => Cert.Kernel6Ideal.Hand.KR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg5)),
    fun c => Cert.Kernel6Ideal.Hand.VA (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    (θ_run _ _ _).mono (fun r h c => ⟨(h c).1.trans (Cert.Kernel6Ideal.Hand.final_QP m c),
      (h c).2.1.trans (Cert.Kernel6Ideal.Hand.final_QR m c),
      (h c).2.2.1.trans (Cert.Kernel6Ideal.Hand.final_KR m c),
      (h c).2.2.2.1.trans (Cert.Kernel6Ideal.Hand.final_VA m c), (h c).2.2.2.2⟩) (Cert.Kernel6Ideal.Value.run_blocks m ρ),
    (θ_run _ _ _).mono (fun r h c => ⟨(h c).1.trans ?_, (h c).2.1.trans ?_, (h c).2.2.1.trans ?_, (h c).2.2.2.1.trans ?_, (h c).2.2.2.2⟩) (Cert.Reference6Ideal.Hand.run (F := Ideal) m' ρ')⟩
  all_goals
    obtain ⟨e0, e1, e2, e3, e4, e5⟩ := hag c
    obtain ⟨hm, hg, hw⟩ := hR c
    unfold Cert.Reference6Ideal.Hand.ys
    rw [e0, e1, e2, e3]
  · rw [e4]
    exact Cert.Norm.qp_eq _ _ _ _ hm hg hw _
  · rw [e4]
    exact Cert.Norm.qr_eq _ _ _ _ hm hg hw _
  · rw [e5]
    exact Cert.Norm.kr_eq _ _ _ _ hm hg hw _
  · exact Cert.Norm.va_eq _ _ _ _

/-- The reference of the context's projection ends with its arguments unchanged and, having no semaphores, every
    counter at zero. -/
theorem reference7_frame : Cert.quiescent_Reference7Ideal := fun m ρ _ =>
  (θ_run _ _ _).mono (fun _ h => ⟨fun c => (h c).2.2.2, sem_eq_zero_of_no_sems (by decide) _⟩) (Cert.Reference7Ideal.Value.run (F := Ideal) m ρ)

/-- The literal this projection multiplies its queries by is read as one over eight and over the logarithm of two. -/
theorem preserves7 : Cert.preserves_Kernel7_Kernel7Ideal :=
  IdealRules.named_const.statement _ _ _ _ _ rfl

/-- The three results of the context's projection and its reference's are equal. -/
theorem algebraic7 : Cert.algebraic_Kernel7Ideal_Reference7Ideal := by
  intro m ρ m' ρ' _ hag
  refine ⟨fun c => Cert.Kernel7Ideal.Hand.QP (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Kernel7Ideal.Hand.KY (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Kernel7Ideal.Hand.VA (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    (θ_run _ _ _).mono (fun r h c => ⟨(h c).1.trans (Cert.Kernel7Ideal.Hand.final_QP m c),
      (h c).2.1.trans (Cert.Kernel7Ideal.Hand.final_KY m c),
      (h c).2.2.1.trans (Cert.Kernel7Ideal.Hand.final_VA m c), (h c).2.2.2⟩) (Cert.Kernel7Ideal.Value.run_blocks m ρ),
    (θ_run _ _ _).mono (fun r h c => ⟨(h c).1.trans ?_, (h c).2.1.trans ?_, (h c).2.2.1.trans ?_, (h c).2.2.2⟩) (Cert.Reference7Ideal.Hand.run (F := Ideal) m' ρ')⟩
  all_goals
    obtain ⟨e0, e1, e2, e3⟩ := hag c
    unfold Cert.Reference7Ideal.Hand.ys
    rw [e0, e1, e2, e3]
  · exact Cert.Ctx.qp_eq _ _ _ _
  · exact Cert.Ctx.ky_eq _ _ _ _
  · exact Cert.Ctx.va_eq _ _ _ _

/-- The context's output projection's reference ends with its arguments unchanged and, having no semaphores, every counter at zero. -/
theorem reference8_frame : Cert.quiescent_Reference8Ideal := fun m ρ _ =>
  (θ_run _ _ _).mono (fun _ h => ⟨fun c => (h c).2.2, sem_eq_zero_of_no_sems (by decide) _⟩) (Cert.Reference8Ideal.Value.run (F := Ideal) m ρ)

/-- The context's output projection's two results and its reference's are equal. -/
theorem algebraic8 : Cert.algebraic_Kernel8Ideal_Reference8Ideal := by
  intro m ρ m' ρ' _ hag
  refine ⟨fun c => Cert.Kernel8Ideal.Hand.resX m c, fun c => Cert.Kernel8Ideal.Hand.resH m c,
    (θ_run _ _ _).mono (fun r h c => ⟨(h c).1.trans (Cert.Kernel8Ideal.Hand.final_XN m c), (h c).2.1.trans (Cert.Kernel8Ideal.Hand.final_HF m c), (h c).2.2.2.2.2⟩)
      (Cert.Kernel8Ideal.Value.run_blocks m ρ),
    (θ_run _ _ _).mono (fun r h c => ⟨(h c).1.trans ?_, (h c).2.1.trans ?_, (h c).2.2⟩) (Cert.Reference8Ideal.Value.run (F := Ideal) m' ρ')⟩
  · refine Eq.trans (b := Cert.Reference8Ideal.Hand.xs m' c) rfl ?_
    obtain ⟨e0, e1, e2, _, e4, _⟩ := hag c
    unfold Cert.Reference8Ideal.Hand.xs
    rw [e0, e1, e2, e4]
    exact Cert.Reference8Ideal.Hand.xn_eq _ _ _ _
  · refine (Cert.Reference8Ideal.Hand.res1 m' c).trans ?_
    obtain ⟨e0, e1, e2, e3, e4, _⟩ := hag c
    unfold Cert.Reference8Ideal.Hand.xs
    rw [e0, e1, e2, e3, e4]
    exact Cert.Reference8Ideal.Hand.hf_eq _ _ _ _ _

/-- The claim: the parts of the dense attention, the rotary projection, the window attention, the output projection, the
    projection without rotary embedding, the projection with normalised heads, the context's projection and its output projection. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite_sink.Gen.facts, Cert.Pre_finite_rows.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, fun m ρ _ => Cert.Kernel3Ideal.Gen.frame m ρ,
    reference3_frame, fun m ρ _ => reference3_frame m ρ trivial,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, fun m ρ _ => Cert.Kernel6Ideal.Gen.frame m ρ,
    reference6_frame, fun m ρ _ => reference6_frame m ρ trivial,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    trivial, algebraic, preserves2, algebraic2, preserves3, algebraic3, trivial, algebraic4, preserves5, algebraic5, preserves6, algebraic6,
    preserves7, algebraic7, trivial, algebraic8⟩

end Cert.Proof

end
